-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossReferenceIdeal (m : (ℓ : Loc Cert.LossReferenceIdeal.nD Cert.LossReferenceIdeal.τ Cert.LossReferenceIdeal.sig) → Buf (Elt Ideal) ℓ) : Prop :=
  True

def Pre_FoxKernel (m : (ℓ : Loc Cert.FoxKernel.nD Cert.FoxKernel.τ Cert.FoxKernel.sig) → Buf (Elt Bits) ℓ) : Prop :=
  True

def Pre_FoxKernelIdeal (m : (ℓ : Loc Cert.FoxKernelIdeal.nD Cert.FoxKernelIdeal.τ Cert.FoxKernelIdeal.sig) → Buf (Elt Ideal) ℓ) : Prop :=
  True

def Pre_FoxKernelIdeal_fox_finite [hPre_fox_finite : Cert.Pre_fox_finite.Facts] (m : (ℓ : Loc Cert.FoxKernelIdeal.nD Cert.FoxKernelIdeal.τ Cert.FoxKernelIdeal.sig) → Buf (Elt Ideal) ℓ) : Prop :=
  ∀ c : Dev Cert.FoxKernelIdeal.nD,
    (Cert.Pre_fox_finite.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2))).1 = (fun _ => 1#1)
    ∧ (Cert.Pre_fox_finite.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2))).2.1 = (fun _ => 1#1)
    ∧ (Cert.Pre_fox_finite.fn (F := Ideal) (m ((c.tc : Thread Cert.FoxKernelIdeal.nD Cert.FoxKernelIdeal.τ).loc Cert.FoxKernelIdeal.main_arg0)) (m ((c.tc : Thread Cert.FoxKernelIdeal.nD Cert.FoxKernelIdeal.τ).loc Cert.FoxKernelIdeal.main_arg1)) (m ((c.tc : Thread Cert.FoxKernelIdeal.nD Cert.FoxKernelIdeal.τ).loc Cert.FoxKernelIdeal.main_arg2))).2.2 = (fun _ => 1#1)

def Pre_FoxReferenceIdeal (m : (ℓ : Loc Cert.FoxReferenceIdeal.nD Cert.FoxReferenceIdeal.τ Cert.FoxReferenceIdeal.sig) → Buf (Elt Ideal) ℓ) : Prop :=
  True

def Pre_FoxReferenceIdeal_fox_finite [hPre_fox_finite : Cert.Pre_fox_finite.Facts] (m : (ℓ : Loc Cert.FoxReferenceIdeal.nD Cert.FoxReferenceIdeal.τ Cert.FoxReferenceIdeal.sig) → Buf (Elt Ideal) ℓ) : Prop :=
  ∀ c : Dev Cert.FoxReferenceIdeal.nD,
    (Cert.Pre_fox_finite.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2))).1 = (fun _ => 1#1)
    ∧ (Cert.Pre_fox_finite.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2))).2.1 = (fun _ => 1#1)
    ∧ (Cert.Pre_fox_finite.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2))).2.2 = (fun _ => 1#1)

def Pre_MlaKernel (m : (ℓ : Loc Cert.MlaKernel.nD Cert.MlaKernel.τ Cert.MlaKernel.sig) → Buf (Elt Bits) ℓ) : Prop :=
  True

def Pre_MlaKernelIdeal (m : (ℓ : Loc Cert.MlaKernelIdeal.nD Cert.MlaKernelIdeal.τ Cert.MlaKernelIdeal.sig) → Buf (Elt Ideal) ℓ) : Prop :=
  True

def Pre_MlaKernelIdeal_mla_finite [hPre_mla_finite : Cert.Pre_mla_finite.Facts] (m : (ℓ : Loc Cert.MlaKernelIdeal.nD Cert.MlaKernelIdeal.τ Cert.MlaKernelIdeal.sig) → Buf (Elt Ideal) ℓ) : Prop :=
  ∀ c : Dev Cert.MlaKernelIdeal.nD,
    (Cert.Pre_mla_finite.fn (F := Ideal) (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg1)) (m ((c.tc : Thread Cert.MlaKernelIdeal.nD Cert.MlaKernelIdeal.τ).loc Cert.MlaKernelIdeal.main_arg2)) (m ((c.tc : Thread Cert.MlaKernelIdeal.nD Cert.MlaKernelIdeal.τ).loc Cert.MlaKernelIdeal.main_arg3))).1 = (fun _ => 1#1)
    ∧ (Cert.Pre_mla_finite.fn (F := Ideal) (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg1)) (m ((c.tc : Thread Cert.MlaKernelIdeal.nD Cert.MlaKernelIdeal.τ).loc Cert.MlaKernelIdeal.main_arg2)) (m ((c.tc : Thread Cert.MlaKernelIdeal.nD Cert.MlaKernelIdeal.τ).loc Cert.MlaKernelIdeal.main_arg3))).2.1 = (fun _ => 1#1)
    ∧ (Cert.Pre_mla_finite.fn (F := Ideal) (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg1)) (m ((c.tc : Thread Cert.MlaKernelIdeal.nD Cert.MlaKernelIdeal.τ).loc Cert.MlaKernelIdeal.main_arg2)) (m ((c.tc : Thread Cert.MlaKernelIdeal.nD Cert.MlaKernelIdeal.τ).loc Cert.MlaKernelIdeal.main_arg3))).2.2.1 = (fun _ => 1#1)
    ∧ (Cert.Pre_mla_finite.fn (F := Ideal) (m ((c.tc : Thread Cert.MlaKernelIdeal.nD Cert.MlaKernelIdeal.τ).loc Cert.MlaKernelIdeal.main_arg0)) (m ((c.tc : Thread Cert.MlaKernelIdeal.nD Cert.MlaKernelIdeal.τ).loc Cert.MlaKernelIdeal.main_arg1)) (m ((c.tc : Thread Cert.MlaKernelIdeal.nD Cert.MlaKernelIdeal.τ).loc Cert.MlaKernelIdeal.main_arg2)) (m ((c.tc : Thread Cert.MlaKernelIdeal.nD Cert.MlaKernelIdeal.τ).loc Cert.MlaKernelIdeal.main_arg3))).2.2.2 = (fun _ => 1#1)

def Pre_MlaReferenceIdeal (m : (ℓ : Loc Cert.MlaReferenceIdeal.nD Cert.MlaReferenceIdeal.τ Cert.MlaReferenceIdeal.sig) → Buf (Elt Ideal) ℓ) : Prop :=
  True

def Pre_MlaReferenceIdeal_mla_finite [hPre_mla_finite : Cert.Pre_mla_finite.Facts] (m : (ℓ : Loc Cert.MlaReferenceIdeal.nD Cert.MlaReferenceIdeal.τ Cert.MlaReferenceIdeal.sig) → Buf (Elt Ideal) ℓ) : Prop :=
  ∀ c : Dev Cert.MlaReferenceIdeal.nD,
    (Cert.Pre_mla_finite.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3))).1 = (fun _ => 1#1)
    ∧ (Cert.Pre_mla_finite.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3))).2.1 = (fun _ => 1#1)
    ∧ (Cert.Pre_mla_finite.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3))).2.2.1 = (fun _ => 1#1)
    ∧ (Cert.Pre_mla_finite.fn (F := Ideal) (m ((c.tc : Thread Cert.MlaReferenceIdeal.nD Cert.MlaReferenceIdeal.τ).loc Cert.MlaReferenceIdeal.main_arg0)) (m ((c.tc : Thread Cert.MlaReferenceIdeal.nD Cert.MlaReferenceIdeal.τ).loc Cert.MlaReferenceIdeal.main_arg1)) (m ((c.tc : Thread Cert.MlaReferenceIdeal.nD Cert.MlaReferenceIdeal.τ).loc Cert.MlaReferenceIdeal.main_arg2)) (m ((c.tc : Thread Cert.MlaReferenceIdeal.nD Cert.MlaReferenceIdeal.τ).loc Cert.MlaReferenceIdeal.main_arg3))).2.2.2 = (fun _ => 1#1)

def Pre_RopeKernel (m : (ℓ : Loc Cert.RopeKernel.nD Cert.RopeKernel.τ Cert.RopeKernel.sig) → Buf (Elt Bits) ℓ) : Prop :=
  True

def Pre_RopeKernelIdeal (m : (ℓ : Loc Cert.RopeKernelIdeal.nD Cert.RopeKernelIdeal.τ Cert.RopeKernelIdeal.sig) → Buf (Elt Ideal) ℓ) : Prop :=
  True

def Pre_RopeReferenceIdeal (m : (ℓ : Loc Cert.RopeReferenceIdeal.nD Cert.RopeReferenceIdeal.τ Cert.RopeReferenceIdeal.sig) → Buf (Elt Ideal) ℓ) : Prop :=
  True

def Pre_CumKernel (m : (ℓ : Loc Cert.CumKernel.nD Cert.CumKernel.τ Cert.CumKernel.sig) → Buf (Elt Bits) ℓ) : Prop :=
  True

def Pre_CumKernelIdeal (m : (ℓ : Loc Cert.CumKernelIdeal.nD Cert.CumKernelIdeal.τ Cert.CumKernelIdeal.sig) → Buf (Elt Ideal) ℓ) : Prop :=
  True

def Pre_CumKernelIdeal_cum_finite [hPre_cum_finite : Cert.Pre_cum_finite.Facts] (m : (ℓ : Loc Cert.CumKernelIdeal.nD Cert.CumKernelIdeal.τ Cert.CumKernelIdeal.sig) → Buf (Elt Ideal) ℓ) : Prop :=
  ∀ c : Dev Cert.CumKernelIdeal.nD,
    (Cert.Pre_cum_finite.fn (F := Ideal) (m ((c.tc : Thread Cert.CumKernelIdeal.nD Cert.CumKernelIdeal.τ).loc Cert.CumKernelIdeal.main_arg0))) = (fun _ => 1#1)

def Pre_CumReferenceIdeal (m : (ℓ : Loc Cert.CumReferenceIdeal.nD Cert.CumReferenceIdeal.τ Cert.CumReferenceIdeal.sig) → Buf (Elt Ideal) ℓ) : Prop :=
  True

def Pre_CumReferenceIdeal_cum_finite [hPre_cum_finite : Cert.Pre_cum_finite.Facts] (m : (ℓ : Loc Cert.CumReferenceIdeal.nD Cert.CumReferenceIdeal.τ Cert.CumReferenceIdeal.sig) → Buf (Elt Ideal) ℓ) : Prop :=
  ∀ c : Dev Cert.CumReferenceIdeal.nD,
    (Cert.Pre_cum_finite.fn (F := Ideal) (m ((c.tc : Thread Cert.CumReferenceIdeal.nD Cert.CumReferenceIdeal.τ).loc Cert.CumReferenceIdeal.main_arg0))) = (fun _ => 1#1)

def Pre_MlafKernel (m : (ℓ : Loc Cert.MlafKernel.nD Cert.MlafKernel.τ Cert.MlafKernel.sig) → Buf (Elt Bits) ℓ) : Prop :=
  True

def Pre_MlafKernelIdeal (m : (ℓ : Loc Cert.MlafKernelIdeal.nD Cert.MlafKernelIdeal.τ Cert.MlafKernelIdeal.sig) → Buf (Elt Ideal) ℓ) : Prop :=
  True

def Pre_MlafKernelIdeal_mlaf_finite [hPre_mlaf_finite : Cert.Pre_mlaf_finite.Facts] (m : (ℓ : Loc Cert.MlafKernelIdeal.nD Cert.MlafKernelIdeal.τ Cert.MlafKernelIdeal.sig) → Buf (Elt Ideal) ℓ) : Prop :=
  ∀ c : Dev Cert.MlafKernelIdeal.nD,
    (Cert.Pre_mlaf_finite.fn (F := Ideal) (m ((c.tc : Thread Cert.MlafKernelIdeal.nD Cert.MlafKernelIdeal.τ).loc Cert.MlafKernelIdeal.main_arg0)) (m ((c.tc : Thread Cert.MlafKernelIdeal.nD Cert.MlafKernelIdeal.τ).loc Cert.MlafKernelIdeal.main_arg1)) (m ((c.tc : Thread Cert.MlafKernelIdeal.nD Cert.MlafKernelIdeal.τ).loc Cert.MlafKernelIdeal.main_arg2))).1 = (fun _ => 1#1)
    ∧ (Cert.Pre_mlaf_finite.fn (F := Ideal) (m ((c.tc : Thread Cert.MlafKernelIdeal.nD Cert.MlafKernelIdeal.τ).loc Cert.MlafKernelIdeal.main_arg0)) (m ((c.tc : Thread Cert.MlafKernelIdeal.nD Cert.MlafKernelIdeal.τ).loc Cert.MlafKernelIdeal.main_arg1)) (m ((c.tc : Thread Cert.MlafKernelIdeal.nD Cert.MlafKernelIdeal.τ).loc Cert.MlafKernelIdeal.main_arg2))).2.1 = (fun _ => 1#1)
    ∧ (Cert.Pre_mlaf_finite.fn (F := Ideal) (m ((c.tc : Thread Cert.MlafKernelIdeal.nD Cert.MlafKernelIdeal.τ).loc Cert.MlafKernelIdeal.main_arg0)) (m ((c.tc : Thread Cert.MlafKernelIdeal.nD Cert.MlafKernelIdeal.τ).loc Cert.MlafKernelIdeal.main_arg1)) (m ((c.tc : Thread Cert.MlafKernelIdeal.nD Cert.MlafKernelIdeal.τ).loc Cert.MlafKernelIdeal.main_arg2))).2.2 = (fun _ => 1#1)

def Pre_MlafReferenceIdeal (m : (ℓ : Loc Cert.MlafReferenceIdeal.nD Cert.MlafReferenceIdeal.τ Cert.MlafReferenceIdeal.sig) → Buf (Elt Ideal) ℓ) : Prop :=
  True

def Pre_MlafReferenceIdeal_mlaf_finite [hPre_mlaf_finite : Cert.Pre_mlaf_finite.Facts] (m : (ℓ : Loc Cert.MlafReferenceIdeal.nD Cert.MlafReferenceIdeal.τ Cert.MlafReferenceIdeal.sig) → Buf (Elt Ideal) ℓ) : Prop :=
  ∀ c : Dev Cert.MlafReferenceIdeal.nD,
    (Cert.Pre_mlaf_finite.fn (F := Ideal) (m ((c.tc : Thread Cert.MlafReferenceIdeal.nD Cert.MlafReferenceIdeal.τ).loc Cert.MlafReferenceIdeal.main_arg0)) (m ((c.tc : Thread Cert.MlafReferenceIdeal.nD Cert.MlafReferenceIdeal.τ).loc Cert.MlafReferenceIdeal.main_arg1)) (m ((c.tc : Thread Cert.MlafReferenceIdeal.nD Cert.MlafReferenceIdeal.τ).loc Cert.MlafReferenceIdeal.main_arg2))).1 = (fun _ => 1#1)
    ∧ (Cert.Pre_mlaf_finite.fn (F := Ideal) (m ((c.tc : Thread Cert.MlafReferenceIdeal.nD Cert.MlafReferenceIdeal.τ).loc Cert.MlafReferenceIdeal.main_arg0)) (m ((c.tc : Thread Cert.MlafReferenceIdeal.nD Cert.MlafReferenceIdeal.τ).loc Cert.MlafReferenceIdeal.main_arg1)) (m ((c.tc : Thread Cert.MlafReferenceIdeal.nD Cert.MlafReferenceIdeal.τ).loc Cert.MlafReferenceIdeal.main_arg2))).2.1 = (fun _ => 1#1)
    ∧ (Cert.Pre_mlaf_finite.fn (F := Ideal) (m ((c.tc : Thread Cert.MlafReferenceIdeal.nD Cert.MlafReferenceIdeal.τ).loc Cert.MlafReferenceIdeal.main_arg0)) (m ((c.tc : Thread Cert.MlafReferenceIdeal.nD Cert.MlafReferenceIdeal.τ).loc Cert.MlafReferenceIdeal.main_arg1)) (m ((c.tc : Thread Cert.MlafReferenceIdeal.nD Cert.MlafReferenceIdeal.τ).loc Cert.MlafReferenceIdeal.main_arg2))).2.2 = (fun _ => 1#1)

def Pre_FoxfKernel (m : (ℓ : Loc Cert.FoxfKernel.nD Cert.FoxfKernel.τ Cert.FoxfKernel.sig) → Buf (Elt Bits) ℓ) : Prop :=
  True

def Pre_FoxfKernelIdeal (m : (ℓ : Loc Cert.FoxfKernelIdeal.nD Cert.FoxfKernelIdeal.τ Cert.FoxfKernelIdeal.sig) → Buf (Elt Ideal) ℓ) : Prop :=
  True

def Pre_FoxfKernelIdeal_foxf_finite [hPre_foxf_finite : Cert.Pre_foxf_finite.Facts] (m : (ℓ : Loc Cert.FoxfKernelIdeal.nD Cert.FoxfKernelIdeal.τ Cert.FoxfKernelIdeal.sig) → Buf (Elt Ideal) ℓ) : Prop :=
  ∀ c : Dev Cert.FoxfKernelIdeal.nD,
    (Cert.Pre_foxf_finite.fn (F := Ideal) (m ((c.tc : Thread Cert.FoxfKernelIdeal.nD Cert.FoxfKernelIdeal.τ).loc Cert.FoxfKernelIdeal.main_arg0)) (m ((c.tc : Thread Cert.FoxfKernelIdeal.nD Cert.FoxfKernelIdeal.τ).loc Cert.FoxfKernelIdeal.main_arg1))).1 = (fun _ => 1#1)
    ∧ (Cert.Pre_foxf_finite.fn (F := Ideal) (m ((c.tc : Thread Cert.FoxfKernelIdeal.nD Cert.FoxfKernelIdeal.τ).loc Cert.FoxfKernelIdeal.main_arg0)) (m ((c.tc : Thread Cert.FoxfKernelIdeal.nD Cert.FoxfKernelIdeal.τ).loc Cert.FoxfKernelIdeal.main_arg1))).2 = (fun _ => 1#1)

def Pre_FoxfReferenceIdeal (m : (ℓ : Loc Cert.FoxfReferenceIdeal.nD Cert.FoxfReferenceIdeal.τ Cert.FoxfReferenceIdeal.sig) → Buf (Elt Ideal) ℓ) : Prop :=
  True

def Pre_FoxfReferenceIdeal_foxf_finite [hPre_foxf_finite : Cert.Pre_foxf_finite.Facts] (m : (ℓ : Loc Cert.FoxfReferenceIdeal.nD Cert.FoxfReferenceIdeal.τ Cert.FoxfReferenceIdeal.sig) → Buf (Elt Ideal) ℓ) : Prop :=
  ∀ c : Dev Cert.FoxfReferenceIdeal.nD,
    (Cert.Pre_foxf_finite.fn (F := Ideal) (m ((c.tc : Thread Cert.FoxfReferenceIdeal.nD Cert.FoxfReferenceIdeal.τ).loc Cert.FoxfReferenceIdeal.main_arg0)) (m ((c.tc : Thread Cert.FoxfReferenceIdeal.nD Cert.FoxfReferenceIdeal.τ).loc Cert.FoxfReferenceIdeal.main_arg1))).1 = (fun _ => 1#1)
    ∧ (Cert.Pre_foxf_finite.fn (F := Ideal) (m ((c.tc : Thread Cert.FoxfReferenceIdeal.nD Cert.FoxfReferenceIdeal.τ).loc Cert.FoxfReferenceIdeal.main_arg0)) (m ((c.tc : Thread Cert.FoxfReferenceIdeal.nD Cert.FoxfReferenceIdeal.τ).loc Cert.FoxfReferenceIdeal.main_arg1))).2 = (fun _ => 1#1)

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_MidKernel (m : (ℓ : Loc Cert.MidKernel.nD Cert.MidKernel.τ Cert.MidKernel.sig) → Buf (Elt Bits) ℓ) : Prop :=
  True

def Pre_MidKernelIdeal (m : (ℓ : Loc Cert.MidKernelIdeal.nD Cert.MidKernelIdeal.τ Cert.MidKernelIdeal.sig) → Buf (Elt Ideal) ℓ) : Prop :=
  True

def Pre_MidReferenceIdeal (m : (ℓ : Loc Cert.MidReferenceIdeal.nD Cert.MidReferenceIdeal.τ Cert.MidReferenceIdeal.sig) → Buf (Elt Ideal) ℓ) : Prop :=
  True

def Pre_CumfKernel (m : (ℓ : Loc Cert.CumfKernel.nD Cert.CumfKernel.τ Cert.CumfKernel.sig) → Buf (Elt Bits) ℓ) : Prop :=
  True

def Pre_CumfKernelIdeal (m : (ℓ : Loc Cert.CumfKernelIdeal.nD Cert.CumfKernelIdeal.τ Cert.CumfKernelIdeal.sig) → Buf (Elt Ideal) ℓ) : Prop :=
  True

def Pre_CumfKernelIdeal_cumf_finite [hPre_cumf_finite : Cert.Pre_cumf_finite.Facts] (m : (ℓ : Loc Cert.CumfKernelIdeal.nD Cert.CumfKernelIdeal.τ Cert.CumfKernelIdeal.sig) → Buf (Elt Ideal) ℓ) : Prop :=
  ∀ c : Dev Cert.CumfKernelIdeal.nD,
    (Cert.Pre_cumf_finite.fn (F := Ideal) (m ((c.tc : Thread Cert.CumfKernelIdeal.nD Cert.CumfKernelIdeal.τ).loc Cert.CumfKernelIdeal.main_arg0))) = (fun _ => 1#1)

def Pre_CumfReferenceIdeal (m : (ℓ : Loc Cert.CumfReferenceIdeal.nD Cert.CumfReferenceIdeal.τ Cert.CumfReferenceIdeal.sig) → Buf (Elt Ideal) ℓ) : Prop :=
  True

def Pre_CumfReferenceIdeal_cumf_finite [hPre_cumf_finite : Cert.Pre_cumf_finite.Facts] (m : (ℓ : Loc Cert.CumfReferenceIdeal.nD Cert.CumfReferenceIdeal.τ Cert.CumfReferenceIdeal.sig) → Buf (Elt Ideal) ℓ) : Prop :=
  ∀ c : Dev Cert.CumfReferenceIdeal.nD,
    (Cert.Pre_cumf_finite.fn (F := Ideal) (m ((c.tc : Thread Cert.CumfReferenceIdeal.nD Cert.CumfReferenceIdeal.τ).loc Cert.CumfReferenceIdeal.main_arg0))) = (fun _ => 1#1)

def Pre_RopefKernel (m : (ℓ : Loc Cert.RopefKernel.nD Cert.RopefKernel.τ Cert.RopefKernel.sig) → Buf (Elt Bits) ℓ) : Prop :=
  True

def Pre_RopefKernelIdeal (m : (ℓ : Loc Cert.RopefKernelIdeal.nD Cert.RopefKernelIdeal.τ Cert.RopefKernelIdeal.sig) → Buf (Elt Ideal) ℓ) : Prop :=
  True

def Pre_RopefReferenceIdeal (m : (ℓ : Loc Cert.RopefReferenceIdeal.nD Cert.RopefReferenceIdeal.τ Cert.RopefReferenceIdeal.sig) → Buf (Elt Ideal) ℓ) : Prop :=
  True

def Pre_OutfKernel (m : (ℓ : Loc Cert.OutfKernel.nD Cert.OutfKernel.τ Cert.OutfKernel.sig) → Buf (Elt Bits) ℓ) : Prop :=
  True

def Pre_OutfKernelIdeal (m : (ℓ : Loc Cert.OutfKernelIdeal.nD Cert.OutfKernelIdeal.τ Cert.OutfKernelIdeal.sig) → Buf (Elt Ideal) ℓ) : Prop :=
  True

def Pre_OutfReferenceIdeal (m : (ℓ : Loc Cert.OutfReferenceIdeal.nD Cert.OutfReferenceIdeal.τ Cert.OutfReferenceIdeal.sig) → Buf (Elt Ideal) ℓ) : Prop :=
  True

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1))
      ∧ r.2.sem = fun _ => 0)

def quiescent_FoxKernel [hFoxKernel : Cert.FoxKernel.Facts] : Prop :=
  ∀ (m : (ℓ : Loc Cert.FoxKernel.nD Cert.FoxKernel.τ Cert.FoxKernel.sig) → Buf (Elt Bits) ℓ) (g : Dev Cert.FoxKernel.nD → PrngReg), Pre_FoxKernel m →
    θ_run (Cert.FoxKernel.defs (F := Bits)) (onTc (τ := Cert.FoxKernel.τ) (Cert.FoxKernel.main (F := Bits))) ⟨m, fun _ => 0, g⟩ (fun r => (∀ c : Dev Cert.FoxKernel.nD,
      r.2.mem ((c.tc : Thread Cert.FoxKernel.nD Cert.FoxKernel.τ).loc Cert.FoxKernel.main_arg0) = m ((c.tc : Thread Cert.FoxKernel.nD Cert.FoxKernel.τ).loc Cert.FoxKernel.main_arg0)
      ∧ r.2.mem ((c.tc : Thread Cert.FoxKernel.nD Cert.FoxKernel.τ).loc Cert.FoxKernel.main_arg1) = m ((c.tc : Thread Cert.FoxKernel.nD Cert.FoxKernel.τ).loc Cert.FoxKernel.main_arg1)
      ∧ r.2.mem ((c.tc : Thread Cert.FoxKernel.nD Cert.FoxKernel.τ).loc Cert.FoxKernel.main_arg2) = m ((c.tc : Thread Cert.FoxKernel.nD Cert.FoxKernel.τ).loc Cert.FoxKernel.main_arg2))
      ∧ r.2.sem = fun _ => 0)

def quiescent_FoxKernelIdeal [hFoxKernelIdeal : Cert.FoxKernelIdeal.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg), Pre_FoxKernelIdeal m →
    θ_run (Cert.FoxKernelIdeal.defs (F := Ideal)) (onTc (τ := Cert.FoxKernelIdeal.τ) (Cert.FoxKernelIdeal.main (F := Ideal))) ⟨m, fun _ => 0, g⟩ (fun r => (∀ c : Dev Cert.FoxKernelIdeal.nD,
      r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
      ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
      ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2))
      ∧ r.2.sem = fun _ => 0)

def quiescent_FoxKernelIdeal_pre_fox_finite [hFoxKernelIdeal : Cert.FoxKernelIdeal.Facts] [hPre_fox_finite : Cert.Pre_fox_finite.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg), Pre_FoxKernelIdeal_fox_finite m →
    θ_run (Cert.FoxKernelIdeal.defs (F := Ideal)) (onTc (τ := Cert.FoxKernelIdeal.τ) (Cert.FoxKernelIdeal.main (F := Ideal))) ⟨m, fun _ => 0, g⟩ (fun r => (∀ c : Dev Cert.FoxKernelIdeal.nD,
      r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
      ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
      ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2))
      ∧ r.2.sem = fun _ => 0)

def quiescent_FoxReferenceIdeal_pre_fox_finite [hFoxReferenceIdeal : Cert.FoxReferenceIdeal.Facts] [hPre_fox_finite : Cert.Pre_fox_finite.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal_fox_finite m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2))
      ∧ r.2.sem = fun _ => 0)

def quiescent_MlaKernel [hMlaKernel : Cert.MlaKernel.Facts] : Prop :=
  ∀ (m : (ℓ : Loc Cert.MlaKernel.nD Cert.MlaKernel.τ Cert.MlaKernel.sig) → Buf (Elt Bits) ℓ) (g : Dev Cert.MlaKernel.nD → PrngReg), Pre_MlaKernel m →
    θ_run (Cert.MlaKernel.defs (F := Bits)) (onTc (τ := Cert.MlaKernel.τ) (Cert.MlaKernel.main (F := Bits))) ⟨m, fun _ => 0, g⟩ (fun r => (∀ c : Dev Cert.MlaKernel.nD,
      r.2.mem ((c.tc : Thread Cert.MlaKernel.nD Cert.MlaKernel.τ).loc Cert.MlaKernel.main_arg0) = m ((c.tc : Thread Cert.MlaKernel.nD Cert.MlaKernel.τ).loc Cert.MlaKernel.main_arg0)
      ∧ r.2.mem ((c.tc : Thread Cert.MlaKernel.nD Cert.MlaKernel.τ).loc Cert.MlaKernel.main_arg1) = m ((c.tc : Thread Cert.MlaKernel.nD Cert.MlaKernel.τ).loc Cert.MlaKernel.main_arg1)
      ∧ r.2.mem ((c.tc : Thread Cert.MlaKernel.nD Cert.MlaKernel.τ).loc Cert.MlaKernel.main_arg2) = m ((c.tc : Thread Cert.MlaKernel.nD Cert.MlaKernel.τ).loc Cert.MlaKernel.main_arg2)
      ∧ r.2.mem ((c.tc : Thread Cert.MlaKernel.nD Cert.MlaKernel.τ).loc Cert.MlaKernel.main_arg3) = m ((c.tc : Thread Cert.MlaKernel.nD Cert.MlaKernel.τ).loc Cert.MlaKernel.main_arg3))
      ∧ r.2.sem = fun _ => 0)

def quiescent_MlaKernelIdeal [hMlaKernelIdeal : Cert.MlaKernelIdeal.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg), Pre_MlaKernelIdeal m →
    θ_run (Cert.MlaKernelIdeal.defs (F := Ideal)) (onTc (τ := Cert.MlaKernelIdeal.τ) (Cert.MlaKernelIdeal.main (F := Ideal))) ⟨m, fun _ => 0, g⟩ (fun r => (∀ c : Dev Cert.MlaKernelIdeal.nD,
      r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
      ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
      ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
      ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3))
      ∧ r.2.sem = fun _ => 0)

def quiescent_MlaKernelIdeal_pre_mla_finite [hMlaKernelIdeal : Cert.MlaKernelIdeal.Facts] [hPre_mla_finite : Cert.Pre_mla_finite.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg), Pre_MlaKernelIdeal_mla_finite m →
    θ_run (Cert.MlaKernelIdeal.defs (F := Ideal)) (onTc (τ := Cert.MlaKernelIdeal.τ) (Cert.MlaKernelIdeal.main (F := Ideal))) ⟨m, fun _ => 0, g⟩ (fun r => (∀ c : Dev Cert.MlaKernelIdeal.nD,
      r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
      ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
      ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
      ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3))
      ∧ r.2.sem = fun _ => 0)

def quiescent_MlaReferenceIdeal [hMlaReferenceIdeal : Cert.MlaReferenceIdeal.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3))
      ∧ r.2.sem = fun _ => 0)

def quiescent_MlaReferenceIdeal_pre_mla_finite [hMlaReferenceIdeal : Cert.MlaReferenceIdeal.Facts] [hPre_mla_finite : Cert.Pre_mla_finite.Facts] : Prop :=
  ∀ (m : (ℓ : Loc Cert.MlaReferenceIdeal.nD Cert.MlaReferenceIdeal.τ Cert.MlaReferenceIdeal.sig) → Buf (Elt Ideal) ℓ) (g : Dev Cert.MlaReferenceIdeal.nD → PrngReg), Pre_MlaReferenceIdeal_mla_finite m →
    θ_run (Cert.MlaReferenceIdeal.defs (F := Ideal)) (onTc (τ := Cert.MlaReferenceIdeal.τ) (Cert.MlaReferenceIdeal.main (F := Ideal))) ⟨m, fun _ => 0, g⟩ (fun r => (∀ c : Dev Cert.MlaReferenceIdeal.nD,
      r.2.mem ((c.tc : Thread Cert.MlaReferenceIdeal.nD Cert.MlaReferenceIdeal.τ).loc Cert.MlaReferenceIdeal.main_arg0) = m ((c.tc : Thread Cert.MlaReferenceIdeal.nD Cert.MlaReferenceIdeal.τ).loc Cert.MlaReferenceIdeal.main_arg0)
      ∧ r.2.mem ((c.tc : Thread Cert.MlaReferenceIdeal.nD Cert.MlaReferenceIdeal.τ).loc Cert.MlaReferenceIdeal.main_arg1) = m ((c.tc : Thread Cert.MlaReferenceIdeal.nD Cert.MlaReferenceIdeal.τ).loc Cert.MlaReferenceIdeal.main_arg1)
      ∧ r.2.mem ((c.tc : Thread Cert.MlaReferenceIdeal.nD Cert.MlaReferenceIdeal.τ).loc Cert.MlaReferenceIdeal.main_arg2) = m ((c.tc : Thread Cert.MlaReferenceIdeal.nD Cert.MlaReferenceIdeal.τ).loc Cert.MlaReferenceIdeal.main_arg2)
      ∧ r.2.mem ((c.tc : Thread Cert.MlaReferenceIdeal.nD Cert.MlaReferenceIdeal.τ).loc Cert.MlaReferenceIdeal.main_arg3) = m ((c.tc : Thread Cert.MlaReferenceIdeal.nD Cert.MlaReferenceIdeal.τ).loc Cert.MlaReferenceIdeal.main_arg3))
      ∧ r.2.sem = fun _ => 0)

def quiescent_RopeKernel [hRopeKernel : Cert.RopeKernel.Facts] : Prop :=
  ∀ (m : (ℓ : Loc Cert.RopeKernel.nD Cert.RopeKernel.τ Cert.RopeKernel.sig) → Buf (Elt Bits) ℓ) (g : Dev Cert.RopeKernel.nD → PrngReg), Pre_RopeKernel m →
    θ_run (Cert.RopeKernel.defs (F := Bits)) (onTc (τ := Cert.RopeKernel.τ) (Cert.RopeKernel.main (F := Bits))) ⟨m, fun _ => 0, g⟩ (fun r => (∀ c : Dev Cert.RopeKernel.nD,
      r.2.mem ((c.tc : Thread Cert.RopeKernel.nD Cert.RopeKernel.τ).loc Cert.RopeKernel.main_arg0) = m ((c.tc : Thread Cert.RopeKernel.nD Cert.RopeKernel.τ).loc Cert.RopeKernel.main_arg0)
      ∧ r.2.mem ((c.tc : Thread Cert.RopeKernel.nD Cert.RopeKernel.τ).loc Cert.RopeKernel.main_arg1) = m ((c.tc : Thread Cert.RopeKernel.nD Cert.RopeKernel.τ).loc Cert.RopeKernel.main_arg1))
      ∧ r.2.sem = fun _ => 0)

def quiescent_RopeKernelIdeal [hRopeKernelIdeal : Cert.RopeKernelIdeal.Facts] : Prop :=
  ∀ (m : (ℓ : Loc Cert.RopeKernelIdeal.nD Cert.RopeKernelIdeal.τ Cert.RopeKernelIdeal.sig) → Buf (Elt Ideal) ℓ) (g : Dev Cert.RopeKernelIdeal.nD → PrngReg), Pre_RopeKernelIdeal m →
    θ_run (Cert.RopeKernelIdeal.defs (F := Ideal)) (onTc (τ := Cert.RopeKernelIdeal.τ) (Cert.RopeKernelIdeal.main (F := Ideal))) ⟨m, fun _ => 0, g⟩ (fun r => (∀ c : Dev Cert.RopeKernelIdeal.nD,
      r.2.mem ((c.tc : Thread Cert.RopeKernelIdeal.nD Cert.RopeKernelIdeal.τ).loc Cert.RopeKernelIdeal.main_arg0) = m ((c.tc : Thread Cert.RopeKernelIdeal.nD Cert.RopeKernelIdeal.τ).loc Cert.RopeKernelIdeal.main_arg0)
      ∧ r.2.mem ((c.tc : Thread Cert.RopeKernelIdeal.nD Cert.RopeKernelIdeal.τ).loc Cert.RopeKernelIdeal.main_arg1) = m ((c.tc : Thread Cert.RopeKernelIdeal.nD Cert.RopeKernelIdeal.τ).loc Cert.RopeKernelIdeal.main_arg1))
      ∧ r.2.sem = fun _ => 0)

def quiescent_RopeReferenceIdeal [hRopeReferenceIdeal : Cert.RopeReferenceIdeal.Facts] : Prop :=
  ∀ (m : (ℓ : Loc Cert.RopeReferenceIdeal.nD Cert.RopeReferenceIdeal.τ Cert.RopeReferenceIdeal.sig) → Buf (Elt Ideal) ℓ) (g : Dev Cert.RopeReferenceIdeal.nD → PrngReg), Pre_RopeReferenceIdeal m →
    θ_run (Cert.RopeReferenceIdeal.defs (F := Ideal)) (onTc (τ := Cert.RopeReferenceIdeal.τ) (Cert.RopeReferenceIdeal.main (F := Ideal))) ⟨m, fun _ => 0, g⟩ (fun r => (∀ c : Dev Cert.RopeReferenceIdeal.nD,
      r.2.mem ((c.tc : Thread Cert.RopeReferenceIdeal.nD Cert.RopeReferenceIdeal.τ).loc Cert.RopeReferenceIdeal.main_arg0) = m ((c.tc : Thread Cert.RopeReferenceIdeal.nD Cert.RopeReferenceIdeal.τ).loc Cert.RopeReferenceIdeal.main_arg0)
      ∧ r.2.mem ((c.tc : Thread Cert.RopeReferenceIdeal.nD Cert.RopeReferenceIdeal.τ).loc Cert.RopeReferenceIdeal.main_arg1) = m ((c.tc : Thread Cert.RopeReferenceIdeal.nD Cert.RopeReferenceIdeal.τ).loc Cert.RopeReferenceIdeal.main_arg1))
      ∧ r.2.sem = fun _ => 0)

def quiescent_CumKernel [hCumKernel : Cert.CumKernel.Facts] : Prop :=
  ∀ (m : (ℓ : Loc Cert.CumKernel.nD Cert.CumKernel.τ Cert.CumKernel.sig) → Buf (Elt Bits) ℓ) (g : Dev Cert.CumKernel.nD → PrngReg), Pre_CumKernel m →
    θ_run (Cert.CumKernel.defs (F := Bits)) (onTc (τ := Cert.CumKernel.τ) (Cert.CumKernel.main (F := Bits))) ⟨m, fun _ => 0, g⟩ (fun r => (∀ c : Dev Cert.CumKernel.nD,
      r.2.mem ((c.tc : Thread Cert.CumKernel.nD Cert.CumKernel.τ).loc Cert.CumKernel.main_arg0) = m ((c.tc : Thread Cert.CumKernel.nD Cert.CumKernel.τ).loc Cert.CumKernel.main_arg0))
      ∧ r.2.sem = fun _ => 0)

def quiescent_CumKernelIdeal [hCumKernelIdeal : Cert.CumKernelIdeal.Facts] : Prop :=
  ∀ (m : (ℓ : Loc Cert.CumKernelIdeal.nD Cert.CumKernelIdeal.τ Cert.CumKernelIdeal.sig) → Buf (Elt Ideal) ℓ) (g : Dev Cert.CumKernelIdeal.nD → PrngReg), Pre_CumKernelIdeal m →
    θ_run (Cert.CumKernelIdeal.defs (F := Ideal)) (onTc (τ := Cert.CumKernelIdeal.τ) (Cert.CumKernelIdeal.main (F := Ideal))) ⟨m, fun _ => 0, g⟩ (fun r => (∀ c : Dev Cert.CumKernelIdeal.nD,
      r.2.mem ((c.tc : Thread Cert.CumKernelIdeal.nD Cert.CumKernelIdeal.τ).loc Cert.CumKernelIdeal.main_arg0) = m ((c.tc : Thread Cert.CumKernelIdeal.nD Cert.CumKernelIdeal.τ).loc Cert.CumKernelIdeal.main_arg0))
      ∧ r.2.sem = fun _ => 0)

def quiescent_CumKernelIdeal_pre_cum_finite [hCumKernelIdeal : Cert.CumKernelIdeal.Facts] [hPre_cum_finite : Cert.Pre_cum_finite.Facts] : Prop :=
  ∀ (m : (ℓ : Loc Cert.CumKernelIdeal.nD Cert.CumKernelIdeal.τ Cert.CumKernelIdeal.sig) → Buf (Elt Ideal) ℓ) (g : Dev Cert.CumKernelIdeal.nD → PrngReg), Pre_CumKernelIdeal_cum_finite m →
    θ_run (Cert.CumKernelIdeal.defs (F := Ideal)) (onTc (τ := Cert.CumKernelIdeal.τ) (Cert.CumKernelIdeal.main (F := Ideal))) ⟨m, fun _ => 0, g⟩ (fun r => (∀ c : Dev Cert.CumKernelIdeal.nD,
      r.2.mem ((c.tc : Thread Cert.CumKernelIdeal.nD Cert.CumKernelIdeal.τ).loc Cert.CumKernelIdeal.main_arg0) = m ((c.tc : Thread Cert.CumKernelIdeal.nD Cert.CumKernelIdeal.τ).loc Cert.CumKernelIdeal.main_arg0))
      ∧ r.2.sem = fun _ => 0)

def quiescent_CumReferenceIdeal [hCumReferenceIdeal : Cert.CumReferenceIdeal.Facts] : Prop :=
  ∀ (m : (ℓ : Loc Cert.CumReferenceIdeal.nD Cert.CumReferenceIdeal.τ Cert.CumReferenceIdeal.sig) → Buf (Elt Ideal) ℓ) (g : Dev Cert.CumReferenceIdeal.nD → PrngReg), Pre_CumReferenceIdeal m →
    θ_run (Cert.CumReferenceIdeal.defs (F := Ideal)) (onTc (τ := Cert.CumReferenceIdeal.τ) (Cert.CumReferenceIdeal.main (F := Ideal))) ⟨m, fun _ => 0, g⟩ (fun r => (∀ c : Dev Cert.CumReferenceIdeal.nD,
      r.2.mem ((c.tc : Thread Cert.CumReferenceIdeal.nD Cert.CumReferenceIdeal.τ).loc Cert.CumReferenceIdeal.main_arg0) = m ((c.tc : Thread Cert.CumReferenceIdeal.nD Cert.CumReferenceIdeal.τ).loc Cert.CumReferenceIdeal.main_arg0))
      ∧ r.2.sem = fun _ => 0)

def quiescent_CumReferenceIdeal_pre_cum_finite [hCumReferenceIdeal : Cert.CumReferenceIdeal.Facts] [hPre_cum_finite : Cert.Pre_cum_finite.Facts] : Prop :=
  ∀ (m : (ℓ : Loc Cert.CumReferenceIdeal.nD Cert.CumReferenceIdeal.τ Cert.CumReferenceIdeal.sig) → Buf (Elt Ideal) ℓ) (g : Dev Cert.CumReferenceIdeal.nD → PrngReg), Pre_CumReferenceIdeal_cum_finite m →
    θ_run (Cert.CumReferenceIdeal.defs (F := Ideal)) (onTc (τ := Cert.CumReferenceIdeal.τ) (Cert.CumReferenceIdeal.main (F := Ideal))) ⟨m, fun _ => 0, g⟩ (fun r => (∀ c : Dev Cert.CumReferenceIdeal.nD,
      r.2.mem ((c.tc : Thread Cert.CumReferenceIdeal.nD Cert.CumReferenceIdeal.τ).loc Cert.CumReferenceIdeal.main_arg0) = m ((c.tc : Thread Cert.CumReferenceIdeal.nD Cert.CumReferenceIdeal.τ).loc Cert.CumReferenceIdeal.main_arg0))
      ∧ r.2.sem = fun _ => 0)

def quiescent_MlafKernel [hMlafKernel : Cert.MlafKernel.Facts] : Prop :=
  ∀ (m : (ℓ : Loc Cert.MlafKernel.nD Cert.MlafKernel.τ Cert.MlafKernel.sig) → Buf (Elt Bits) ℓ) (g : Dev Cert.MlafKernel.nD → PrngReg), Pre_MlafKernel m →
    θ_run (Cert.MlafKernel.defs (F := Bits)) (onTc (τ := Cert.MlafKernel.τ) (Cert.MlafKernel.main (F := Bits))) ⟨m, fun _ => 0, g⟩ (fun r => (∀ c : Dev Cert.MlafKernel.nD,
      r.2.mem ((c.tc : Thread Cert.MlafKernel.nD Cert.MlafKernel.τ).loc Cert.MlafKernel.main_arg0) = m ((c.tc : Thread Cert.MlafKernel.nD Cert.MlafKernel.τ).loc Cert.MlafKernel.main_arg0)
      ∧ r.2.mem ((c.tc : Thread Cert.MlafKernel.nD Cert.MlafKernel.τ).loc Cert.MlafKernel.main_arg1) = m ((c.tc : Thread Cert.MlafKernel.nD Cert.MlafKernel.τ).loc Cert.MlafKernel.main_arg1)
      ∧ r.2.mem ((c.tc : Thread Cert.MlafKernel.nD Cert.MlafKernel.τ).loc Cert.MlafKernel.main_arg2) = m ((c.tc : Thread Cert.MlafKernel.nD Cert.MlafKernel.τ).loc Cert.MlafKernel.main_arg2))
      ∧ r.2.sem = fun _ => 0)

def quiescent_MlafKernelIdeal [hMlafKernelIdeal : Cert.MlafKernelIdeal.Facts] : Prop :=
  ∀ (m : (ℓ : Loc Cert.MlafKernelIdeal.nD Cert.MlafKernelIdeal.τ Cert.MlafKernelIdeal.sig) → Buf (Elt Ideal) ℓ) (g : Dev Cert.MlafKernelIdeal.nD → PrngReg), Pre_MlafKernelIdeal m →
    θ_run (Cert.MlafKernelIdeal.defs (F := Ideal)) (onTc (τ := Cert.MlafKernelIdeal.τ) (Cert.MlafKernelIdeal.main (F := Ideal))) ⟨m, fun _ => 0, g⟩ (fun r => (∀ c : Dev Cert.MlafKernelIdeal.nD,
      r.2.mem ((c.tc : Thread Cert.MlafKernelIdeal.nD Cert.MlafKernelIdeal.τ).loc Cert.MlafKernelIdeal.main_arg0) = m ((c.tc : Thread Cert.MlafKernelIdeal.nD Cert.MlafKernelIdeal.τ).loc Cert.MlafKernelIdeal.main_arg0)
      ∧ r.2.mem ((c.tc : Thread Cert.MlafKernelIdeal.nD Cert.MlafKernelIdeal.τ).loc Cert.MlafKernelIdeal.main_arg1) = m ((c.tc : Thread Cert.MlafKernelIdeal.nD Cert.MlafKernelIdeal.τ).loc Cert.MlafKernelIdeal.main_arg1)
      ∧ r.2.mem ((c.tc : Thread Cert.MlafKernelIdeal.nD Cert.MlafKernelIdeal.τ).loc Cert.MlafKernelIdeal.main_arg2) = m ((c.tc : Thread Cert.MlafKernelIdeal.nD Cert.MlafKernelIdeal.τ).loc Cert.MlafKernelIdeal.main_arg2))
      ∧ r.2.sem = fun _ => 0)

def quiescent_MlafKernelIdeal_pre_mlaf_finite [hMlafKernelIdeal : Cert.MlafKernelIdeal.Facts] [hPre_mlaf_finite : Cert.Pre_mlaf_finite.Facts] : Prop :=
  ∀ (m : (ℓ : Loc Cert.MlafKernelIdeal.nD Cert.MlafKernelIdeal.τ Cert.MlafKernelIdeal.sig) → Buf (Elt Ideal) ℓ) (g : Dev Cert.MlafKernelIdeal.nD → PrngReg), Pre_MlafKernelIdeal_mlaf_finite m →
    θ_run (Cert.MlafKernelIdeal.defs (F := Ideal)) (onTc (τ := Cert.MlafKernelIdeal.τ) (Cert.MlafKernelIdeal.main (F := Ideal))) ⟨m, fun _ => 0, g⟩ (fun r => (∀ c : Dev Cert.MlafKernelIdeal.nD,
      r.2.mem ((c.tc : Thread Cert.MlafKernelIdeal.nD Cert.MlafKernelIdeal.τ).loc Cert.MlafKernelIdeal.main_arg0) = m ((c.tc : Thread Cert.MlafKernelIdeal.nD Cert.MlafKernelIdeal.τ).loc Cert.MlafKernelIdeal.main_arg0)
      ∧ r.2.mem ((c.tc : Thread Cert.MlafKernelIdeal.nD Cert.MlafKernelIdeal.τ).loc Cert.MlafKernelIdeal.main_arg1) = m ((c.tc : Thread Cert.MlafKernelIdeal.nD Cert.MlafKernelIdeal.τ).loc Cert.MlafKernelIdeal.main_arg1)
      ∧ r.2.mem ((c.tc : Thread Cert.MlafKernelIdeal.nD Cert.MlafKernelIdeal.τ).loc Cert.MlafKernelIdeal.main_arg2) = m ((c.tc : Thread Cert.MlafKernelIdeal.nD Cert.MlafKernelIdeal.τ).loc Cert.MlafKernelIdeal.main_arg2))
      ∧ r.2.sem = fun _ => 0)

def quiescent_MlafReferenceIdeal [hMlafReferenceIdeal : Cert.MlafReferenceIdeal.Facts] : Prop :=
  ∀ (m : (ℓ : Loc Cert.MlafReferenceIdeal.nD Cert.MlafReferenceIdeal.τ Cert.MlafReferenceIdeal.sig) → Buf (Elt Ideal) ℓ) (g : Dev Cert.MlafReferenceIdeal.nD → PrngReg), Pre_MlafReferenceIdeal m →
    θ_run (Cert.MlafReferenceIdeal.defs (F := Ideal)) (onTc (τ := Cert.MlafReferenceIdeal.τ) (Cert.MlafReferenceIdeal.main (F := Ideal))) ⟨m, fun _ => 0, g⟩ (fun r => (∀ c : Dev Cert.MlafReferenceIdeal.nD,
      r.2.mem ((c.tc : Thread Cert.MlafReferenceIdeal.nD Cert.MlafReferenceIdeal.τ).loc Cert.MlafReferenceIdeal.main_arg0) = m ((c.tc : Thread Cert.MlafReferenceIdeal.nD Cert.MlafReferenceIdeal.τ).loc Cert.MlafReferenceIdeal.main_arg0)
      ∧ r.2.mem ((c.tc : Thread Cert.MlafReferenceIdeal.nD Cert.MlafReferenceIdeal.τ).loc Cert.MlafReferenceIdeal.main_arg1) = m ((c.tc : Thread Cert.MlafReferenceIdeal.nD Cert.MlafReferenceIdeal.τ).loc Cert.MlafReferenceIdeal.main_arg1)
      ∧ r.2.mem ((c.tc : Thread Cert.MlafReferenceIdeal.nD Cert.MlafReferenceIdeal.τ).loc Cert.MlafReferenceIdeal.main_arg2) = m ((c.tc : Thread Cert.MlafReferenceIdeal.nD Cert.MlafReferenceIdeal.τ).loc Cert.MlafReferenceIdeal.main_arg2))
      ∧ r.2.sem = fun _ => 0)

def quiescent_MlafReferenceIdeal_pre_mlaf_finite [hMlafReferenceIdeal : Cert.MlafReferenceIdeal.Facts] [hPre_mlaf_finite : Cert.Pre_mlaf_finite.Facts] : Prop :=
  ∀ (m : (ℓ : Loc Cert.MlafReferenceIdeal.nD Cert.MlafReferenceIdeal.τ Cert.MlafReferenceIdeal.sig) → Buf (Elt Ideal) ℓ) (g : Dev Cert.MlafReferenceIdeal.nD → PrngReg), Pre_MlafReferenceIdeal_mlaf_finite m →
    θ_run (Cert.MlafReferenceIdeal.defs (F := Ideal)) (onTc (τ := Cert.MlafReferenceIdeal.τ) (Cert.MlafReferenceIdeal.main (F := Ideal))) ⟨m, fun _ => 0, g⟩ (fun r => (∀ c : Dev Cert.MlafReferenceIdeal.nD,
      r.2.mem ((c.tc : Thread Cert.MlafReferenceIdeal.nD Cert.MlafReferenceIdeal.τ).loc Cert.MlafReferenceIdeal.main_arg0) = m ((c.tc : Thread Cert.MlafReferenceIdeal.nD Cert.MlafReferenceIdeal.τ).loc Cert.MlafReferenceIdeal.main_arg0)
      ∧ r.2.mem ((c.tc : Thread Cert.MlafReferenceIdeal.nD Cert.MlafReferenceIdeal.τ).loc Cert.MlafReferenceIdeal.main_arg1) = m ((c.tc : Thread Cert.MlafReferenceIdeal.nD Cert.MlafReferenceIdeal.τ).loc Cert.MlafReferenceIdeal.main_arg1)
      ∧ r.2.mem ((c.tc : Thread Cert.MlafReferenceIdeal.nD Cert.MlafReferenceIdeal.τ).loc Cert.MlafReferenceIdeal.main_arg2) = m ((c.tc : Thread Cert.MlafReferenceIdeal.nD Cert.MlafReferenceIdeal.τ).loc Cert.MlafReferenceIdeal.main_arg2))
      ∧ r.2.sem = fun _ => 0)

def quiescent_FoxfKernel [hFoxfKernel : Cert.FoxfKernel.Facts] : Prop :=
  ∀ (m : (ℓ : Loc Cert.FoxfKernel.nD Cert.FoxfKernel.τ Cert.FoxfKernel.sig) → Buf (Elt Bits) ℓ) (g : Dev Cert.FoxfKernel.nD → PrngReg), Pre_FoxfKernel m →
    θ_run (Cert.FoxfKernel.defs (F := Bits)) (onTc (τ := Cert.FoxfKernel.τ) (Cert.FoxfKernel.main (F := Bits))) ⟨m, fun _ => 0, g⟩ (fun r => (∀ c : Dev Cert.FoxfKernel.nD,
      r.2.mem ((c.tc : Thread Cert.FoxfKernel.nD Cert.FoxfKernel.τ).loc Cert.FoxfKernel.main_arg0) = m ((c.tc : Thread Cert.FoxfKernel.nD Cert.FoxfKernel.τ).loc Cert.FoxfKernel.main_arg0)
      ∧ r.2.mem ((c.tc : Thread Cert.FoxfKernel.nD Cert.FoxfKernel.τ).loc Cert.FoxfKernel.main_arg1) = m ((c.tc : Thread Cert.FoxfKernel.nD Cert.FoxfKernel.τ).loc Cert.FoxfKernel.main_arg1))
      ∧ r.2.sem = fun _ => 0)

def quiescent_FoxfKernelIdeal [hFoxfKernelIdeal : Cert.FoxfKernelIdeal.Facts] : Prop :=
  ∀ (m : (ℓ : Loc Cert.FoxfKernelIdeal.nD Cert.FoxfKernelIdeal.τ Cert.FoxfKernelIdeal.sig) → Buf (Elt Ideal) ℓ) (g : Dev Cert.FoxfKernelIdeal.nD → PrngReg), Pre_FoxfKernelIdeal m →
    θ_run (Cert.FoxfKernelIdeal.defs (F := Ideal)) (onTc (τ := Cert.FoxfKernelIdeal.τ) (Cert.FoxfKernelIdeal.main (F := Ideal))) ⟨m, fun _ => 0, g⟩ (fun r => (∀ c : Dev Cert.FoxfKernelIdeal.nD,
      r.2.mem ((c.tc : Thread Cert.FoxfKernelIdeal.nD Cert.FoxfKernelIdeal.τ).loc Cert.FoxfKernelIdeal.main_arg0) = m ((c.tc : Thread Cert.FoxfKernelIdeal.nD Cert.FoxfKernelIdeal.τ).loc Cert.FoxfKernelIdeal.main_arg0)
      ∧ r.2.mem ((c.tc : Thread Cert.FoxfKernelIdeal.nD Cert.FoxfKernelIdeal.τ).loc Cert.FoxfKernelIdeal.main_arg1) = m ((c.tc : Thread Cert.FoxfKernelIdeal.nD Cert.FoxfKernelIdeal.τ).loc Cert.FoxfKernelIdeal.main_arg1))
      ∧ r.2.sem = fun _ => 0)

def quiescent_FoxfKernelIdeal_pre_foxf_finite [hFoxfKernelIdeal : Cert.FoxfKernelIdeal.Facts] [hPre_foxf_finite : Cert.Pre_foxf_finite.Facts] : Prop :=
  ∀ (m : (ℓ : Loc Cert.FoxfKernelIdeal.nD Cert.FoxfKernelIdeal.τ Cert.FoxfKernelIdeal.sig) → Buf (Elt Ideal) ℓ) (g : Dev Cert.FoxfKernelIdeal.nD → PrngReg), Pre_FoxfKernelIdeal_foxf_finite m →
    θ_run (Cert.FoxfKernelIdeal.defs (F := Ideal)) (onTc (τ := Cert.FoxfKernelIdeal.τ) (Cert.FoxfKernelIdeal.main (F := Ideal))) ⟨m, fun _ => 0, g⟩ (fun r => (∀ c : Dev Cert.FoxfKernelIdeal.nD,
      r.2.mem ((c.tc : Thread Cert.FoxfKernelIdeal.nD Cert.FoxfKernelIdeal.τ).loc Cert.FoxfKernelIdeal.main_arg0) = m ((c.tc : Thread Cert.FoxfKernelIdeal.nD Cert.FoxfKernelIdeal.τ).loc Cert.FoxfKernelIdeal.main_arg0)
      ∧ r.2.mem ((c.tc : Thread Cert.FoxfKernelIdeal.nD Cert.FoxfKernelIdeal.τ).loc Cert.FoxfKernelIdeal.main_arg1) = m ((c.tc : Thread Cert.FoxfKernelIdeal.nD Cert.FoxfKernelIdeal.τ).loc Cert.FoxfKernelIdeal.main_arg1))
      ∧ r.2.sem = fun _ => 0)

def quiescent_FoxfReferenceIdeal [hFoxfReferenceIdeal : Cert.FoxfReferenceIdeal.Facts] : Prop :=
  ∀ (m : (ℓ : Loc Cert.FoxfReferenceIdeal.nD Cert.FoxfReferenceIdeal.τ Cert.FoxfReferenceIdeal.sig) → Buf (Elt Ideal) ℓ) (g : Dev Cert.FoxfReferenceIdeal.nD → PrngReg), Pre_FoxfReferenceIdeal m →
    θ_run (Cert.FoxfReferenceIdeal.defs (F := Ideal)) (onTc (τ := Cert.FoxfReferenceIdeal.τ) (Cert.FoxfReferenceIdeal.main (F := Ideal))) ⟨m, fun _ => 0, g⟩ (fun r => (∀ c : Dev Cert.FoxfReferenceIdeal.nD,
      r.2.mem ((c.tc : Thread Cert.FoxfReferenceIdeal.nD Cert.FoxfReferenceIdeal.τ).loc Cert.FoxfReferenceIdeal.main_arg0) = m ((c.tc : Thread Cert.FoxfReferenceIdeal.nD Cert.FoxfReferenceIdeal.τ).loc Cert.FoxfReferenceIdeal.main_arg0)
      ∧ r.2.mem ((c.tc : Thread Cert.FoxfReferenceIdeal.nD Cert.FoxfReferenceIdeal.τ).loc Cert.FoxfReferenceIdeal.main_arg1) = m ((c.tc : Thread Cert.FoxfReferenceIdeal.nD Cert.FoxfReferenceIdeal.τ).loc Cert.FoxfReferenceIdeal.main_arg1))
      ∧ r.2.sem = fun _ => 0)

def quiescent_FoxfReferenceIdeal_pre_foxf_finite [hFoxfReferenceIdeal : Cert.FoxfReferenceIdeal.Facts] [hPre_foxf_finite : Cert.Pre_foxf_finite.Facts] : Prop :=
  ∀ (m : (ℓ : Loc Cert.FoxfReferenceIdeal.nD Cert.FoxfReferenceIdeal.τ Cert.FoxfReferenceIdeal.sig) → Buf (Elt Ideal) ℓ) (g : Dev Cert.FoxfReferenceIdeal.nD → PrngReg), Pre_FoxfReferenceIdeal_foxf_finite m →
    θ_run (Cert.FoxfReferenceIdeal.defs (F := Ideal)) (onTc (τ := Cert.FoxfReferenceIdeal.τ) (Cert.FoxfReferenceIdeal.main (F := Ideal))) ⟨m, fun _ => 0, g⟩ (fun r => (∀ c : Dev Cert.FoxfReferenceIdeal.nD,
      r.2.mem ((c.tc : Thread Cert.FoxfReferenceIdeal.nD Cert.FoxfReferenceIdeal.τ).loc Cert.FoxfReferenceIdeal.main_arg0) = m ((c.tc : Thread Cert.FoxfReferenceIdeal.nD Cert.FoxfReferenceIdeal.τ).loc Cert.FoxfReferenceIdeal.main_arg0)
      ∧ r.2.mem ((c.tc : Thread Cert.FoxfReferenceIdeal.nD Cert.FoxfReferenceIdeal.τ).loc Cert.FoxfReferenceIdeal.main_arg1) = m ((c.tc : Thread Cert.FoxfReferenceIdeal.nD Cert.FoxfReferenceIdeal.τ).loc Cert.FoxfReferenceIdeal.main_arg1))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2)
      ∧ r.2.mem ((c.tc : Thread Cert.OutKernel.nD Cert.OutKernel.τ).loc Cert.OutKernel.main_arg3) = m ((c.tc : Thread Cert.OutKernel.nD Cert.OutKernel.τ).loc Cert.OutKernel.main_arg3)
      ∧ r.2.mem ((c.tc : Thread Cert.OutKernel.nD Cert.OutKernel.τ).loc Cert.OutKernel.main_arg4) = m ((c.tc : Thread Cert.OutKernel.nD Cert.OutKernel.τ).loc Cert.OutKernel.main_arg4)
      ∧ r.2.mem ((c.tc : Thread Cert.OutKernel.nD Cert.OutKernel.τ).loc Cert.OutKernel.main_arg5) = m ((c.tc : Thread Cert.OutKernel.nD Cert.OutKernel.τ).loc Cert.OutKernel.main_arg5)
      ∧ r.2.mem ((c.tc : Thread Cert.OutKernel.nD Cert.OutKernel.τ).loc Cert.OutKernel.main_arg6) = m ((c.tc : Thread Cert.OutKernel.nD Cert.OutKernel.τ).loc Cert.OutKernel.main_arg6))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2)
      ∧ r.2.mem ((c.tc : Thread Cert.OutKernelIdeal.nD Cert.OutKernelIdeal.τ).loc Cert.OutKernelIdeal.main_arg3) = m ((c.tc : Thread Cert.OutKernelIdeal.nD Cert.OutKernelIdeal.τ).loc Cert.OutKernelIdeal.main_arg3)
      ∧ r.2.mem ((c.tc : Thread Cert.OutKernelIdeal.nD Cert.OutKernelIdeal.τ).loc Cert.OutKernelIdeal.main_arg4) = m ((c.tc : Thread Cert.OutKernelIdeal.nD Cert.OutKernelIdeal.τ).loc Cert.OutKernelIdeal.main_arg4)
      ∧ r.2.mem ((c.tc : Thread Cert.OutKernelIdeal.nD Cert.OutKernelIdeal.τ).loc Cert.OutKernelIdeal.main_arg5) = m ((c.tc : Thread Cert.OutKernelIdeal.nD Cert.OutKernelIdeal.τ).loc Cert.OutKernelIdeal.main_arg5)
      ∧ r.2.mem ((c.tc : Thread Cert.OutKernelIdeal.nD Cert.OutKernelIdeal.τ).loc Cert.OutKernelIdeal.main_arg6) = m ((c.tc : Thread Cert.OutKernelIdeal.nD Cert.OutKernelIdeal.τ).loc Cert.OutKernelIdeal.main_arg6))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5)
      ∧ r.2.mem ((c.tc : Thread Cert.OutReferenceIdeal.nD Cert.OutReferenceIdeal.τ).loc Cert.OutReferenceIdeal.main_arg6) = m ((c.tc : Thread Cert.OutReferenceIdeal.nD Cert.OutReferenceIdeal.τ).loc Cert.OutReferenceIdeal.main_arg6))
      ∧ r.2.sem = fun _ => 0)

def quiescent_MidKernel [hMidKernel : Cert.MidKernel.Facts] : Prop :=
  ∀ (m : (ℓ : Loc Cert.MidKernel.nD Cert.MidKernel.τ Cert.MidKernel.sig) → Buf (Elt Bits) ℓ) (g : Dev Cert.MidKernel.nD → PrngReg), Pre_MidKernel m →
    θ_run (Cert.MidKernel.defs (F := Bits)) (onTc (τ := Cert.MidKernel.τ) (Cert.MidKernel.main (F := Bits))) ⟨m, fun _ => 0, g⟩ (fun r => (∀ c : Dev Cert.MidKernel.nD,
      r.2.mem ((c.tc : Thread Cert.MidKernel.nD Cert.MidKernel.τ).loc Cert.MidKernel.main_arg0) = m ((c.tc : Thread Cert.MidKernel.nD Cert.MidKernel.τ).loc Cert.MidKernel.main_arg0)
      ∧ r.2.mem ((c.tc : Thread Cert.MidKernel.nD Cert.MidKernel.τ).loc Cert.MidKernel.main_arg1) = m ((c.tc : Thread Cert.MidKernel.nD Cert.MidKernel.τ).loc Cert.MidKernel.main_arg1)
      ∧ r.2.mem ((c.tc : Thread Cert.MidKernel.nD Cert.MidKernel.τ).loc Cert.MidKernel.main_arg2) = m ((c.tc : Thread Cert.MidKernel.nD Cert.MidKernel.τ).loc Cert.MidKernel.main_arg2)
      ∧ r.2.mem ((c.tc : Thread Cert.MidKernel.nD Cert.MidKernel.τ).loc Cert.MidKernel.main_arg3) = m ((c.tc : Thread Cert.MidKernel.nD Cert.MidKernel.τ).loc Cert.MidKernel.main_arg3)
      ∧ r.2.mem ((c.tc : Thread Cert.MidKernel.nD Cert.MidKernel.τ).loc Cert.MidKernel.main_arg4) = m ((c.tc : Thread Cert.MidKernel.nD Cert.MidKernel.τ).loc Cert.MidKernel.main_arg4)
      ∧ r.2.mem ((c.tc : Thread Cert.MidKernel.nD Cert.MidKernel.τ).loc Cert.MidKernel.main_arg5) = m ((c.tc : Thread Cert.MidKernel.nD Cert.MidKernel.τ).loc Cert.MidKernel.main_arg5)
      ∧ r.2.mem ((c.tc : Thread Cert.MidKernel.nD Cert.MidKernel.τ).loc Cert.MidKernel.main_arg6) = m ((c.tc : Thread Cert.MidKernel.nD Cert.MidKernel.τ).loc Cert.MidKernel.main_arg6)
      ∧ r.2.mem ((c.tc : Thread Cert.MidKernel.nD Cert.MidKernel.τ).loc Cert.MidKernel.main_arg7) = m ((c.tc : Thread Cert.MidKernel.nD Cert.MidKernel.τ).loc Cert.MidKernel.main_arg7)
      ∧ r.2.mem ((c.tc : Thread Cert.MidKernel.nD Cert.MidKernel.τ).loc Cert.MidKernel.main_arg8) = m ((c.tc : Thread Cert.MidKernel.nD Cert.MidKernel.τ).loc Cert.MidKernel.main_arg8)
      ∧ r.2.mem ((c.tc : Thread Cert.MidKernel.nD Cert.MidKernel.τ).loc Cert.MidKernel.main_arg9) = m ((c.tc : Thread Cert.MidKernel.nD Cert.MidKernel.τ).loc Cert.MidKernel.main_arg9))
      ∧ r.2.sem = fun _ => 0)

def quiescent_MidKernelIdeal [hMidKernelIdeal : Cert.MidKernelIdeal.Facts] : Prop :=
  ∀ (m : (ℓ : Loc Cert.MidKernelIdeal.nD Cert.MidKernelIdeal.τ Cert.MidKernelIdeal.sig) → Buf (Elt Ideal) ℓ) (g : Dev Cert.MidKernelIdeal.nD → PrngReg), Pre_MidKernelIdeal m →
    θ_run (Cert.MidKernelIdeal.defs (F := Ideal)) (onTc (τ := Cert.MidKernelIdeal.τ) (Cert.MidKernelIdeal.main (F := Ideal))) ⟨m, fun _ => 0, g⟩ (fun r => (∀ c : Dev Cert.MidKernelIdeal.nD,
      r.2.mem ((c.tc : Thread Cert.MidKernelIdeal.nD Cert.MidKernelIdeal.τ).loc Cert.MidKernelIdeal.main_arg0) = m ((c.tc : Thread Cert.MidKernelIdeal.nD Cert.MidKernelIdeal.τ).loc Cert.MidKernelIdeal.main_arg0)
      ∧ r.2.mem ((c.tc : Thread Cert.MidKernelIdeal.nD Cert.MidKernelIdeal.τ).loc Cert.MidKernelIdeal.main_arg1) = m ((c.tc : Thread Cert.MidKernelIdeal.nD Cert.MidKernelIdeal.τ).loc Cert.MidKernelIdeal.main_arg1)
      ∧ r.2.mem ((c.tc : Thread Cert.MidKernelIdeal.nD Cert.MidKernelIdeal.τ).loc Cert.MidKernelIdeal.main_arg2) = m ((c.tc : Thread Cert.MidKernelIdeal.nD Cert.MidKernelIdeal.τ).loc Cert.MidKernelIdeal.main_arg2)
      ∧ r.2.mem ((c.tc : Thread Cert.MidKernelIdeal.nD Cert.MidKernelIdeal.τ).loc Cert.MidKernelIdeal.main_arg3) = m ((c.tc : Thread Cert.MidKernelIdeal.nD Cert.MidKernelIdeal.τ).loc Cert.MidKernelIdeal.main_arg3)
      ∧ r.2.mem ((c.tc : Thread Cert.MidKernelIdeal.nD Cert.MidKernelIdeal.τ).loc Cert.MidKernelIdeal.main_arg4) = m ((c.tc : Thread Cert.MidKernelIdeal.nD Cert.MidKernelIdeal.τ).loc Cert.MidKernelIdeal.main_arg4)
      ∧ r.2.mem ((c.tc : Thread Cert.MidKernelIdeal.nD Cert.MidKernelIdeal.τ).loc Cert.MidKernelIdeal.main_arg5) = m ((c.tc : Thread Cert.MidKernelIdeal.nD Cert.MidKernelIdeal.τ).loc Cert.MidKernelIdeal.main_arg5)
      ∧ r.2.mem ((c.tc : Thread Cert.MidKernelIdeal.nD Cert.MidKernelIdeal.τ).loc Cert.MidKernelIdeal.main_arg6) = m ((c.tc : Thread Cert.MidKernelIdeal.nD Cert.MidKernelIdeal.τ).loc Cert.MidKernelIdeal.main_arg6)
      ∧ r.2.mem ((c.tc : Thread Cert.MidKernelIdeal.nD Cert.MidKernelIdeal.τ).loc Cert.MidKernelIdeal.main_arg7) = m ((c.tc : Thread Cert.MidKernelIdeal.nD Cert.MidKernelIdeal.τ).loc Cert.MidKernelIdeal.main_arg7)
      ∧ r.2.mem ((c.tc : Thread Cert.MidKernelIdeal.nD Cert.MidKernelIdeal.τ).loc Cert.MidKernelIdeal.main_arg8) = m ((c.tc : Thread Cert.MidKernelIdeal.nD Cert.MidKernelIdeal.τ).loc Cert.MidKernelIdeal.main_arg8)
      ∧ r.2.mem ((c.tc : Thread Cert.MidKernelIdeal.nD Cert.MidKernelIdeal.τ).loc Cert.MidKernelIdeal.main_arg9) = m ((c.tc : Thread Cert.MidKernelIdeal.nD Cert.MidKernelIdeal.τ).loc Cert.MidKernelIdeal.main_arg9))
      ∧ r.2.sem = fun _ => 0)

def quiescent_MidReferenceIdeal [hMidReferenceIdeal : Cert.MidReferenceIdeal.Facts] : Prop :=
  ∀ (m : (ℓ : Loc Cert.MidReferenceIdeal.nD Cert.MidReferenceIdeal.τ Cert.MidReferenceIdeal.sig) → Buf (Elt Ideal) ℓ) (g : Dev Cert.MidReferenceIdeal.nD → PrngReg), Pre_MidReferenceIdeal m →
    θ_run (Cert.MidReferenceIdeal.defs (F := Ideal)) (onTc (τ := Cert.MidReferenceIdeal.τ) (Cert.MidReferenceIdeal.main (F := Ideal))) ⟨m, fun _ => 0, g⟩ (fun r => (∀ c : Dev Cert.MidReferenceIdeal.nD,
      r.2.mem ((c.tc : Thread Cert.MidReferenceIdeal.nD Cert.MidReferenceIdeal.τ).loc Cert.MidReferenceIdeal.main_arg0) = m ((c.tc : Thread Cert.MidReferenceIdeal.nD Cert.MidReferenceIdeal.τ).loc Cert.MidReferenceIdeal.main_arg0)
      ∧ r.2.mem ((c.tc : Thread Cert.MidReferenceIdeal.nD Cert.MidReferenceIdeal.τ).loc Cert.MidReferenceIdeal.main_arg1) = m ((c.tc : Thread Cert.MidReferenceIdeal.nD Cert.MidReferenceIdeal.τ).loc Cert.MidReferenceIdeal.main_arg1)
      ∧ r.2.mem ((c.tc : Thread Cert.MidReferenceIdeal.nD Cert.MidReferenceIdeal.τ).loc Cert.MidReferenceIdeal.main_arg2) = m ((c.tc : Thread Cert.MidReferenceIdeal.nD Cert.MidReferenceIdeal.τ).loc Cert.MidReferenceIdeal.main_arg2)
      ∧ r.2.mem ((c.tc : Thread Cert.MidReferenceIdeal.nD Cert.MidReferenceIdeal.τ).loc Cert.MidReferenceIdeal.main_arg3) = m ((c.tc : Thread Cert.MidReferenceIdeal.nD Cert.MidReferenceIdeal.τ).loc Cert.MidReferenceIdeal.main_arg3)
      ∧ r.2.mem ((c.tc : Thread Cert.MidReferenceIdeal.nD Cert.MidReferenceIdeal.τ).loc Cert.MidReferenceIdeal.main_arg4) = m ((c.tc : Thread Cert.MidReferenceIdeal.nD Cert.MidReferenceIdeal.τ).loc Cert.MidReferenceIdeal.main_arg4)
      ∧ r.2.mem ((c.tc : Thread Cert.MidReferenceIdeal.nD Cert.MidReferenceIdeal.τ).loc Cert.MidReferenceIdeal.main_arg5) = m ((c.tc : Thread Cert.MidReferenceIdeal.nD Cert.MidReferenceIdeal.τ).loc Cert.MidReferenceIdeal.main_arg5)
      ∧ r.2.mem ((c.tc : Thread Cert.MidReferenceIdeal.nD Cert.MidReferenceIdeal.τ).loc Cert.MidReferenceIdeal.main_arg6) = m ((c.tc : Thread Cert.MidReferenceIdeal.nD Cert.MidReferenceIdeal.τ).loc Cert.MidReferenceIdeal.main_arg6)
      ∧ r.2.mem ((c.tc : Thread Cert.MidReferenceIdeal.nD Cert.MidReferenceIdeal.τ).loc Cert.MidReferenceIdeal.main_arg7) = m ((c.tc : Thread Cert.MidReferenceIdeal.nD Cert.MidReferenceIdeal.τ).loc Cert.MidReferenceIdeal.main_arg7)
      ∧ r.2.mem ((c.tc : Thread Cert.MidReferenceIdeal.nD Cert.MidReferenceIdeal.τ).loc Cert.MidReferenceIdeal.main_arg8) = m ((c.tc : Thread Cert.MidReferenceIdeal.nD Cert.MidReferenceIdeal.τ).loc Cert.MidReferenceIdeal.main_arg8)
      ∧ r.2.mem ((c.tc : Thread Cert.MidReferenceIdeal.nD Cert.MidReferenceIdeal.τ).loc Cert.MidReferenceIdeal.main_arg9) = m ((c.tc : Thread Cert.MidReferenceIdeal.nD Cert.MidReferenceIdeal.τ).loc Cert.MidReferenceIdeal.main_arg9))
      ∧ r.2.sem = fun _ => 0)

def quiescent_CumfKernel [hCumfKernel : Cert.CumfKernel.Facts] : Prop :=
  ∀ (m : (ℓ : Loc Cert.CumfKernel.nD Cert.CumfKernel.τ Cert.CumfKernel.sig) → Buf (Elt Bits) ℓ) (g : Dev Cert.CumfKernel.nD → PrngReg), Pre_CumfKernel m →
    θ_run (Cert.CumfKernel.defs (F := Bits)) (onTc (τ := Cert.CumfKernel.τ) (Cert.CumfKernel.main (F := Bits))) ⟨m, fun _ => 0, g⟩ (fun r => (∀ c : Dev Cert.CumfKernel.nD,
      r.2.mem ((c.tc : Thread Cert.CumfKernel.nD Cert.CumfKernel.τ).loc Cert.CumfKernel.main_arg0) = m ((c.tc : Thread Cert.CumfKernel.nD Cert.CumfKernel.τ).loc Cert.CumfKernel.main_arg0))
      ∧ r.2.sem = fun _ => 0)

def quiescent_CumfKernelIdeal [hCumfKernelIdeal : Cert.CumfKernelIdeal.Facts] : Prop :=
  ∀ (m : (ℓ : Loc Cert.CumfKernelIdeal.nD Cert.CumfKernelIdeal.τ Cert.CumfKernelIdeal.sig) → Buf (Elt Ideal) ℓ) (g : Dev Cert.CumfKernelIdeal.nD → PrngReg), Pre_CumfKernelIdeal m →
    θ_run (Cert.CumfKernelIdeal.defs (F := Ideal)) (onTc (τ := Cert.CumfKernelIdeal.τ) (Cert.CumfKernelIdeal.main (F := Ideal))) ⟨m, fun _ => 0, g⟩ (fun r => (∀ c : Dev Cert.CumfKernelIdeal.nD,
      r.2.mem ((c.tc : Thread Cert.CumfKernelIdeal.nD Cert.CumfKernelIdeal.τ).loc Cert.CumfKernelIdeal.main_arg0) = m ((c.tc : Thread Cert.CumfKernelIdeal.nD Cert.CumfKernelIdeal.τ).loc Cert.CumfKernelIdeal.main_arg0))
      ∧ r.2.sem = fun _ => 0)

def quiescent_CumfKernelIdeal_pre_cumf_finite [hCumfKernelIdeal : Cert.CumfKernelIdeal.Facts] [hPre_cumf_finite : Cert.Pre_cumf_finite.Facts] : Prop :=
  ∀ (m : (ℓ : Loc Cert.CumfKernelIdeal.nD Cert.CumfKernelIdeal.τ Cert.CumfKernelIdeal.sig) → Buf (Elt Ideal) ℓ) (g : Dev Cert.CumfKernelIdeal.nD → PrngReg), Pre_CumfKernelIdeal_cumf_finite m →
    θ_run (Cert.CumfKernelIdeal.defs (F := Ideal)) (onTc (τ := Cert.CumfKernelIdeal.τ) (Cert.CumfKernelIdeal.main (F := Ideal))) ⟨m, fun _ => 0, g⟩ (fun r => (∀ c : Dev Cert.CumfKernelIdeal.nD,
      r.2.mem ((c.tc : Thread Cert.CumfKernelIdeal.nD Cert.CumfKernelIdeal.τ).loc Cert.CumfKernelIdeal.main_arg0) = m ((c.tc : Thread Cert.CumfKernelIdeal.nD Cert.CumfKernelIdeal.τ).loc Cert.CumfKernelIdeal.main_arg0))
      ∧ r.2.sem = fun _ => 0)

def quiescent_CumfReferenceIdeal [hCumfReferenceIdeal : Cert.CumfReferenceIdeal.Facts] : Prop :=
  ∀ (m : (ℓ : Loc Cert.CumfReferenceIdeal.nD Cert.CumfReferenceIdeal.τ Cert.CumfReferenceIdeal.sig) → Buf (Elt Ideal) ℓ) (g : Dev Cert.CumfReferenceIdeal.nD → PrngReg), Pre_CumfReferenceIdeal m →
    θ_run (Cert.CumfReferenceIdeal.defs (F := Ideal)) (onTc (τ := Cert.CumfReferenceIdeal.τ) (Cert.CumfReferenceIdeal.main (F := Ideal))) ⟨m, fun _ => 0, g⟩ (fun r => (∀ c : Dev Cert.CumfReferenceIdeal.nD,
      r.2.mem ((c.tc : Thread Cert.CumfReferenceIdeal.nD Cert.CumfReferenceIdeal.τ).loc Cert.CumfReferenceIdeal.main_arg0) = m ((c.tc : Thread Cert.CumfReferenceIdeal.nD Cert.CumfReferenceIdeal.τ).loc Cert.CumfReferenceIdeal.main_arg0))
      ∧ r.2.sem = fun _ => 0)

def quiescent_CumfReferenceIdeal_pre_cumf_finite [hCumfReferenceIdeal : Cert.CumfReferenceIdeal.Facts] [hPre_cumf_finite : Cert.Pre_cumf_finite.Facts] : Prop :=
  ∀ (m : (ℓ : Loc Cert.CumfReferenceIdeal.nD Cert.CumfReferenceIdeal.τ Cert.CumfReferenceIdeal.sig) → Buf (Elt Ideal) ℓ) (g : Dev Cert.CumfReferenceIdeal.nD → PrngReg), Pre_CumfReferenceIdeal_cumf_finite m →
    θ_run (Cert.CumfReferenceIdeal.defs (F := Ideal)) (onTc (τ := Cert.CumfReferenceIdeal.τ) (Cert.CumfReferenceIdeal.main (F := Ideal))) ⟨m, fun _ => 0, g⟩ (fun r => (∀ c : Dev Cert.CumfReferenceIdeal.nD,
      r.2.mem ((c.tc : Thread Cert.CumfReferenceIdeal.nD Cert.CumfReferenceIdeal.τ).loc Cert.CumfReferenceIdeal.main_arg0) = m ((c.tc : Thread Cert.CumfReferenceIdeal.nD Cert.CumfReferenceIdeal.τ).loc Cert.CumfReferenceIdeal.main_arg0))
      ∧ r.2.sem = fun _ => 0)

def quiescent_RopefKernel [hRopefKernel : Cert.RopefKernel.Facts] : Prop :=
  ∀ (m : (ℓ : Loc Cert.RopefKernel.nD Cert.RopefKernel.τ Cert.RopefKernel.sig) → Buf (Elt Bits) ℓ) (g : Dev Cert.RopefKernel.nD → PrngReg), Pre_RopefKernel m →
    θ_run (Cert.RopefKernel.defs (F := Bits)) (onTc (τ := Cert.RopefKernel.τ) (Cert.RopefKernel.main (F := Bits))) ⟨m, fun _ => 0, g⟩ (fun r => (∀ c : Dev Cert.RopefKernel.nD,
      r.2.mem ((c.tc : Thread Cert.RopefKernel.nD Cert.RopefKernel.τ).loc Cert.RopefKernel.main_arg0) = m ((c.tc : Thread Cert.RopefKernel.nD Cert.RopefKernel.τ).loc Cert.RopefKernel.main_arg0))
      ∧ r.2.sem = fun _ => 0)

def quiescent_RopefKernelIdeal [hRopefKernelIdeal : Cert.RopefKernelIdeal.Facts] : Prop :=
  ∀ (m : (ℓ : Loc Cert.RopefKernelIdeal.nD Cert.RopefKernelIdeal.τ Cert.RopefKernelIdeal.sig) → Buf (Elt Ideal) ℓ) (g : Dev Cert.RopefKernelIdeal.nD → PrngReg), Pre_RopefKernelIdeal m →
    θ_run (Cert.RopefKernelIdeal.defs (F := Ideal)) (onTc (τ := Cert.RopefKernelIdeal.τ) (Cert.RopefKernelIdeal.main (F := Ideal))) ⟨m, fun _ => 0, g⟩ (fun r => (∀ c : Dev Cert.RopefKernelIdeal.nD,
      r.2.mem ((c.tc : Thread Cert.RopefKernelIdeal.nD Cert.RopefKernelIdeal.τ).loc Cert.RopefKernelIdeal.main_arg0) = m ((c.tc : Thread Cert.RopefKernelIdeal.nD Cert.RopefKernelIdeal.τ).loc Cert.RopefKernelIdeal.main_arg0))
      ∧ r.2.sem = fun _ => 0)

def quiescent_RopefReferenceIdeal [hRopefReferenceIdeal : Cert.RopefReferenceIdeal.Facts] : Prop :=
  ∀ (m : (ℓ : Loc Cert.RopefReferenceIdeal.nD Cert.RopefReferenceIdeal.τ Cert.RopefReferenceIdeal.sig) → Buf (Elt Ideal) ℓ) (g : Dev Cert.RopefReferenceIdeal.nD → PrngReg), Pre_RopefReferenceIdeal m →
    θ_run (Cert.RopefReferenceIdeal.defs (F := Ideal)) (onTc (τ := Cert.RopefReferenceIdeal.τ) (Cert.RopefReferenceIdeal.main (F := Ideal))) ⟨m, fun _ => 0, g⟩ (fun r => (∀ c : Dev Cert.RopefReferenceIdeal.nD,
      r.2.mem ((c.tc : Thread Cert.RopefReferenceIdeal.nD Cert.RopefReferenceIdeal.τ).loc Cert.RopefReferenceIdeal.main_arg0) = m ((c.tc : Thread Cert.RopefReferenceIdeal.nD Cert.RopefReferenceIdeal.τ).loc Cert.RopefReferenceIdeal.main_arg0))
      ∧ r.2.sem = fun _ => 0)

def quiescent_OutfKernel [hOutfKernel : Cert.OutfKernel.Facts] : Prop :=
  ∀ (m : (ℓ : Loc Cert.OutfKernel.nD Cert.OutfKernel.τ Cert.OutfKernel.sig) → Buf (Elt Bits) ℓ) (g : Dev Cert.OutfKernel.nD → PrngReg), Pre_OutfKernel m →
    θ_run (Cert.OutfKernel.defs (F := Bits)) (onTc (τ := Cert.OutfKernel.τ) (Cert.OutfKernel.main (F := Bits))) ⟨m, fun _ => 0, g⟩ (fun r => (∀ c : Dev Cert.OutfKernel.nD,
      r.2.mem ((c.tc : Thread Cert.OutfKernel.nD Cert.OutfKernel.τ).loc Cert.OutfKernel.main_arg0) = m ((c.tc : Thread Cert.OutfKernel.nD Cert.OutfKernel.τ).loc Cert.OutfKernel.main_arg0)
      ∧ r.2.mem ((c.tc : Thread Cert.OutfKernel.nD Cert.OutfKernel.τ).loc Cert.OutfKernel.main_arg1) = m ((c.tc : Thread Cert.OutfKernel.nD Cert.OutfKernel.τ).loc Cert.OutfKernel.main_arg1)
      ∧ r.2.mem ((c.tc : Thread Cert.OutfKernel.nD Cert.OutfKernel.τ).loc Cert.OutfKernel.main_arg2) = m ((c.tc : Thread Cert.OutfKernel.nD Cert.OutfKernel.τ).loc Cert.OutfKernel.main_arg2)
      ∧ r.2.mem ((c.tc : Thread Cert.OutfKernel.nD Cert.OutfKernel.τ).loc Cert.OutfKernel.main_arg3) = m ((c.tc : Thread Cert.OutfKernel.nD Cert.OutfKernel.τ).loc Cert.OutfKernel.main_arg3)
      ∧ r.2.mem ((c.tc : Thread Cert.OutfKernel.nD Cert.OutfKernel.τ).loc Cert.OutfKernel.main_arg4) = m ((c.tc : Thread Cert.OutfKernel.nD Cert.OutfKernel.τ).loc Cert.OutfKernel.main_arg4)
      ∧ r.2.mem ((c.tc : Thread Cert.OutfKernel.nD Cert.OutfKernel.τ).loc Cert.OutfKernel.main_arg5) = m ((c.tc : Thread Cert.OutfKernel.nD Cert.OutfKernel.τ).loc Cert.OutfKernel.main_arg5))
      ∧ r.2.sem = fun _ => 0)

def quiescent_OutfKernelIdeal [hOutfKernelIdeal : Cert.OutfKernelIdeal.Facts] : Prop :=
  ∀ (m : (ℓ : Loc Cert.OutfKernelIdeal.nD Cert.OutfKernelIdeal.τ Cert.OutfKernelIdeal.sig) → Buf (Elt Ideal) ℓ) (g : Dev Cert.OutfKernelIdeal.nD → PrngReg), Pre_OutfKernelIdeal m →
    θ_run (Cert.OutfKernelIdeal.defs (F := Ideal)) (onTc (τ := Cert.OutfKernelIdeal.τ) (Cert.OutfKernelIdeal.main (F := Ideal))) ⟨m, fun _ => 0, g⟩ (fun r => (∀ c : Dev Cert.OutfKernelIdeal.nD,
      r.2.mem ((c.tc : Thread Cert.OutfKernelIdeal.nD Cert.OutfKernelIdeal.τ).loc Cert.OutfKernelIdeal.main_arg0) = m ((c.tc : Thread Cert.OutfKernelIdeal.nD Cert.OutfKernelIdeal.τ).loc Cert.OutfKernelIdeal.main_arg0)
      ∧ r.2.mem ((c.tc : Thread Cert.OutfKernelIdeal.nD Cert.OutfKernelIdeal.τ).loc Cert.OutfKernelIdeal.main_arg1) = m ((c.tc : Thread Cert.OutfKernelIdeal.nD Cert.OutfKernelIdeal.τ).loc Cert.OutfKernelIdeal.main_arg1)
      ∧ r.2.mem ((c.tc : Thread Cert.OutfKernelIdeal.nD Cert.OutfKernelIdeal.τ).loc Cert.OutfKernelIdeal.main_arg2) = m ((c.tc : Thread Cert.OutfKernelIdeal.nD Cert.OutfKernelIdeal.τ).loc Cert.OutfKernelIdeal.main_arg2)
      ∧ r.2.mem ((c.tc : Thread Cert.OutfKernelIdeal.nD Cert.OutfKernelIdeal.τ).loc Cert.OutfKernelIdeal.main_arg3) = m ((c.tc : Thread Cert.OutfKernelIdeal.nD Cert.OutfKernelIdeal.τ).loc Cert.OutfKernelIdeal.main_arg3)
      ∧ r.2.mem ((c.tc : Thread Cert.OutfKernelIdeal.nD Cert.OutfKernelIdeal.τ).loc Cert.OutfKernelIdeal.main_arg4) = m ((c.tc : Thread Cert.OutfKernelIdeal.nD Cert.OutfKernelIdeal.τ).loc Cert.OutfKernelIdeal.main_arg4)
      ∧ r.2.mem ((c.tc : Thread Cert.OutfKernelIdeal.nD Cert.OutfKernelIdeal.τ).loc Cert.OutfKernelIdeal.main_arg5) = m ((c.tc : Thread Cert.OutfKernelIdeal.nD Cert.OutfKernelIdeal.τ).loc Cert.OutfKernelIdeal.main_arg5))
      ∧ r.2.sem = fun _ => 0)

def quiescent_OutfReferenceIdeal [hOutfReferenceIdeal : Cert.OutfReferenceIdeal.Facts] : Prop :=
  ∀ (m : (ℓ : Loc Cert.OutfReferenceIdeal.nD Cert.OutfReferenceIdeal.τ Cert.OutfReferenceIdeal.sig) → Buf (Elt Ideal) ℓ) (g : Dev Cert.OutfReferenceIdeal.nD → PrngReg), Pre_OutfReferenceIdeal m →
    θ_run (Cert.OutfReferenceIdeal.defs (F := Ideal)) (onTc (τ := Cert.OutfReferenceIdeal.τ) (Cert.OutfReferenceIdeal.main (F := Ideal))) ⟨m, fun _ => 0, g⟩ (fun r => (∀ c : Dev Cert.OutfReferenceIdeal.nD,
      r.2.mem ((c.tc : Thread Cert.OutfReferenceIdeal.nD Cert.OutfReferenceIdeal.τ).loc Cert.OutfReferenceIdeal.main_arg0) = m ((c.tc : Thread Cert.OutfReferenceIdeal.nD Cert.OutfReferenceIdeal.τ).loc Cert.OutfReferenceIdeal.main_arg0)
      ∧ r.2.mem ((c.tc : Thread Cert.OutfReferenceIdeal.nD Cert.OutfReferenceIdeal.τ).loc Cert.OutfReferenceIdeal.main_arg1) = m ((c.tc : Thread Cert.OutfReferenceIdeal.nD Cert.OutfReferenceIdeal.τ).loc Cert.OutfReferenceIdeal.main_arg1)
      ∧ r.2.mem ((c.tc : Thread Cert.OutfReferenceIdeal.nD Cert.OutfReferenceIdeal.τ).loc Cert.OutfReferenceIdeal.main_arg2) = m ((c.tc : Thread Cert.OutfReferenceIdeal.nD Cert.OutfReferenceIdeal.τ).loc Cert.OutfReferenceIdeal.main_arg2)
      ∧ r.2.mem ((c.tc : Thread Cert.OutfReferenceIdeal.nD Cert.OutfReferenceIdeal.τ).loc Cert.OutfReferenceIdeal.main_arg3) = m ((c.tc : Thread Cert.OutfReferenceIdeal.nD Cert.OutfReferenceIdeal.τ).loc Cert.OutfReferenceIdeal.main_arg3)
      ∧ r.2.mem ((c.tc : Thread Cert.OutfReferenceIdeal.nD Cert.OutfReferenceIdeal.τ).loc Cert.OutfReferenceIdeal.main_arg4) = m ((c.tc : Thread Cert.OutfReferenceIdeal.nD Cert.OutfReferenceIdeal.τ).loc Cert.OutfReferenceIdeal.main_arg4)
      ∧ r.2.mem ((c.tc : Thread Cert.OutfReferenceIdeal.nD Cert.OutfReferenceIdeal.τ).loc Cert.OutfReferenceIdeal.main_arg5) = m ((c.tc : Thread Cert.OutfReferenceIdeal.nD Cert.OutfReferenceIdeal.τ).loc Cert.OutfReferenceIdeal.main_arg5))
      ∧ r.2.sem = fun _ => 0)

def preserves_LossKernel_LossKernelIdeal : Prop :=
  True

def algebraic_LossKernelIdeal_LossReferenceIdeal [hLossKernelIdeal : Cert.LossKernelIdeal.Facts] [hLossReferenceIdeal : Cert.LossReferenceIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)) →
    ∃ (v0 : (c : Dev Cert.LossKernelIdeal.nD) → Buf (Elt Ideal) ((c.tc : Thread Cert.LossKernelIdeal.nD Cert.LossKernelIdeal.τ).loc Cert.LossKernelIdeal.main_v2_0)) (v1 : (c : Dev Cert.LossKernelIdeal.nD) → Buf (Elt Ideal) ((c.tc : Thread Cert.LossKernelIdeal.nD Cert.LossKernelIdeal.τ).loc Cert.LossKernelIdeal.main_v2_1)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v2_0) = v0 c
          ∧ r.2.mem ((c.tc : Thread Cert.LossKernelIdeal.nD Cert.LossKernelIdeal.τ).loc Cert.LossKernelIdeal.main_v2_1) = v1 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v15) = v0 c
          ∧ r.2.mem ((c.tc : Thread Cert.LossReferenceIdeal.nD Cert.LossReferenceIdeal.τ).loc Cert.LossReferenceIdeal.main_v16) = v1 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1))

def preserves_FoxKernel_FoxKernelIdeal : Prop :=
  True

def algebraic_FoxKernelIdeal_FoxReferenceIdeal_pre_fox_finite [hFoxKernelIdeal : Cert.FoxKernelIdeal.Facts] [hFoxReferenceIdeal : Cert.FoxReferenceIdeal.Facts] [hPre_fox_finite : Cert.Pre_fox_finite.Facts] : Prop :=
  ∀ (m : (ℓ : Loc Cert.FoxKernelIdeal.nD Cert.FoxKernelIdeal.τ Cert.FoxKernelIdeal.sig) → Buf (Elt Ideal) ℓ) (g : Dev Cert.FoxKernelIdeal.nD → PrngReg)
    (m' : (ℓ : Loc Cert.FoxReferenceIdeal.nD Cert.FoxReferenceIdeal.τ Cert.FoxReferenceIdeal.sig) → Buf (Elt Ideal) ℓ) (g' : Dev Cert.FoxReferenceIdeal.nD → PrngReg), Pre_FoxKernelIdeal_fox_finite m →
    (∀ c : Dev Cert.FoxKernelIdeal.nD,
      m' ((c.tc : Thread Cert.FoxReferenceIdeal.nD Cert.FoxReferenceIdeal.τ).loc Cert.FoxReferenceIdeal.main_arg0) = m ((c.tc : Thread Cert.FoxKernelIdeal.nD Cert.FoxKernelIdeal.τ).loc Cert.FoxKernelIdeal.main_arg0)
      ∧ m' ((c.tc : Thread Cert.FoxReferenceIdeal.nD Cert.FoxReferenceIdeal.τ).loc Cert.FoxReferenceIdeal.main_arg1) = m ((c.tc : Thread Cert.FoxKernelIdeal.nD Cert.FoxKernelIdeal.τ).loc Cert.FoxKernelIdeal.main_arg1)
      ∧ m' ((c.tc : Thread Cert.FoxReferenceIdeal.nD Cert.FoxReferenceIdeal.τ).loc Cert.FoxReferenceIdeal.main_arg2) = m ((c.tc : Thread Cert.FoxKernelIdeal.nD Cert.FoxKernelIdeal.τ).loc Cert.FoxKernelIdeal.main_arg2)) →
    ∃ (v0 : (c : Dev Cert.FoxKernelIdeal.nD) → Buf (Elt Ideal) ((c.tc : Thread Cert.FoxKernelIdeal.nD Cert.FoxKernelIdeal.τ).loc Cert.FoxKernelIdeal.main_v80_0)) (v1 : (c : Dev Cert.FoxKernelIdeal.nD) → Buf (Elt Ideal) ((c.tc : Thread Cert.FoxKernelIdeal.nD Cert.FoxKernelIdeal.τ).loc Cert.FoxKernelIdeal.main_v80_1)) (v2 : (c : Dev Cert.FoxKernelIdeal.nD) → Buf (Elt Ideal) ((c.tc : Thread Cert.FoxKernelIdeal.nD Cert.FoxKernelIdeal.τ).loc Cert.FoxKernelIdeal.main_v80_2)) (v3 : (c : Dev Cert.FoxKernelIdeal.nD) → Buf (Elt Ideal) ((c.tc : Thread Cert.FoxKernelIdeal.nD Cert.FoxKernelIdeal.τ).loc Cert.FoxKernelIdeal.main_v88)),
      θ_run (Cert.FoxKernelIdeal.defs (F := Ideal)) (onTc (τ := Cert.FoxKernelIdeal.τ) (Cert.FoxKernelIdeal.main (F := Ideal))) ⟨m, fun _ => 0, g⟩ (fun r => ∀ c : Dev Cert.FoxKernelIdeal.nD,
          r.2.mem ((c.tc : Thread Cert.FoxKernelIdeal.nD Cert.FoxKernelIdeal.τ).loc Cert.FoxKernelIdeal.main_v80_0) = v0 c
          ∧ r.2.mem ((c.tc : Thread Cert.FoxKernelIdeal.nD Cert.FoxKernelIdeal.τ).loc Cert.FoxKernelIdeal.main_v80_1) = v1 c
          ∧ r.2.mem ((c.tc : Thread Cert.FoxKernelIdeal.nD Cert.FoxKernelIdeal.τ).loc Cert.FoxKernelIdeal.main_v80_2) = v2 c
          ∧ r.2.mem ((c.tc : Thread Cert.FoxKernelIdeal.nD Cert.FoxKernelIdeal.τ).loc Cert.FoxKernelIdeal.main_v88) = v3 c
          ∧ r.2.mem ((c.tc : Thread Cert.FoxKernelIdeal.nD Cert.FoxKernelIdeal.τ).loc Cert.FoxKernelIdeal.main_arg0) = m ((c.tc : Thread Cert.FoxKernelIdeal.nD Cert.FoxKernelIdeal.τ).loc Cert.FoxKernelIdeal.main_arg0)
          ∧ r.2.mem ((c.tc : Thread Cert.FoxKernelIdeal.nD Cert.FoxKernelIdeal.τ).loc Cert.FoxKernelIdeal.main_arg1) = m ((c.tc : Thread Cert.FoxKernelIdeal.nD Cert.FoxKernelIdeal.τ).loc Cert.FoxKernelIdeal.main_arg1)
          ∧ r.2.mem ((c.tc : Thread Cert.FoxKernelIdeal.nD Cert.FoxKernelIdeal.τ).loc Cert.FoxKernelIdeal.main_arg2) = m ((c.tc : Thread Cert.FoxKernelIdeal.nD Cert.FoxKernelIdeal.τ).loc Cert.FoxKernelIdeal.main_arg2))
      ∧ θ_run (Cert.FoxReferenceIdeal.defs (F := Ideal)) (onTc (τ := Cert.FoxReferenceIdeal.τ) (Cert.FoxReferenceIdeal.main (F := Ideal))) ⟨m', fun _ => 0, g'⟩ (fun r => ∀ c : Dev Cert.FoxReferenceIdeal.nD,
          r.2.mem ((c.tc : Thread Cert.FoxReferenceIdeal.nD Cert.FoxReferenceIdeal.τ).loc Cert.FoxReferenceIdeal.main_v99) = v0 c
          ∧ r.2.mem ((c.tc : Thread Cert.FoxReferenceIdeal.nD Cert.FoxReferenceIdeal.τ).loc Cert.FoxReferenceIdeal.main_v101) = v1 c
          ∧ r.2.mem ((c.tc : Thread Cert.FoxReferenceIdeal.nD Cert.FoxReferenceIdeal.τ).loc Cert.FoxReferenceIdeal.main_v103) = v2 c
          ∧ r.2.mem ((c.tc : Thread Cert.FoxReferenceIdeal.nD Cert.FoxReferenceIdeal.τ).loc Cert.FoxReferenceIdeal.main_v104) = v3 c
          ∧ r.2.mem ((c.tc : Thread Cert.FoxReferenceIdeal.nD Cert.FoxReferenceIdeal.τ).loc Cert.FoxReferenceIdeal.main_arg0) = m' ((c.tc : Thread Cert.FoxReferenceIdeal.nD Cert.FoxReferenceIdeal.τ).loc Cert.FoxReferenceIdeal.main_arg0)
          ∧ r.2.mem ((c.tc : Thread Cert.FoxReferenceIdeal.nD Cert.FoxReferenceIdeal.τ).loc Cert.FoxReferenceIdeal.main_arg1) = m' ((c.tc : Thread Cert.FoxReferenceIdeal.nD Cert.FoxReferenceIdeal.τ).loc Cert.FoxReferenceIdeal.main_arg1)
          ∧ r.2.mem ((c.tc : Thread Cert.FoxReferenceIdeal.nD Cert.FoxReferenceIdeal.τ).loc Cert.FoxReferenceIdeal.main_arg2) = m' ((c.tc : Thread Cert.FoxReferenceIdeal.nD Cert.FoxReferenceIdeal.τ).loc Cert.FoxReferenceIdeal.main_arg2))

def preserves_MlaKernel_MlaKernelIdeal : Prop :=
  True

def algebraic_MlaKernelIdeal_MlaReferenceIdeal_pre_mla_finite [hMlaKernelIdeal : Cert.MlaKernelIdeal.Facts] [hMlaReferenceIdeal : Cert.MlaReferenceIdeal.Facts] [hPre_mla_finite : Cert.Pre_mla_finite.Facts] : Prop :=
  ∀ (m : (ℓ : Loc Cert.MlaKernelIdeal.nD Cert.MlaKernelIdeal.τ Cert.MlaKernelIdeal.sig) → Buf (Elt Ideal) ℓ) (g : Dev Cert.MlaKernelIdeal.nD → PrngReg)
    (m' : (ℓ : Loc Cert.MlaReferenceIdeal.nD Cert.MlaReferenceIdeal.τ Cert.MlaReferenceIdeal.sig) → Buf (Elt Ideal) ℓ) (g' : Dev Cert.MlaReferenceIdeal.nD → PrngReg), Pre_MlaKernelIdeal_mla_finite m →
    (∀ c : Dev Cert.MlaKernelIdeal.nD,
      m' ((c.tc : Thread Cert.MlaReferenceIdeal.nD Cert.MlaReferenceIdeal.τ).loc Cert.MlaReferenceIdeal.main_arg0) = m ((c.tc : Thread Cert.MlaKernelIdeal.nD Cert.MlaKernelIdeal.τ).loc Cert.MlaKernelIdeal.main_arg0)
      ∧ m' ((c.tc : Thread Cert.MlaReferenceIdeal.nD Cert.MlaReferenceIdeal.τ).loc Cert.MlaReferenceIdeal.main_arg1) = m ((c.tc : Thread Cert.MlaKernelIdeal.nD Cert.MlaKernelIdeal.τ).loc Cert.MlaKernelIdeal.main_arg1)
      ∧ m' ((c.tc : Thread Cert.MlaReferenceIdeal.nD Cert.MlaReferenceIdeal.τ).loc Cert.MlaReferenceIdeal.main_arg2) = m ((c.tc : Thread Cert.MlaKernelIdeal.nD Cert.MlaKernelIdeal.τ).loc Cert.MlaKernelIdeal.main_arg2)
      ∧ m' ((c.tc : Thread Cert.MlaReferenceIdeal.nD Cert.MlaReferenceIdeal.τ).loc Cert.MlaReferenceIdeal.main_arg3) = m ((c.tc : Thread Cert.MlaKernelIdeal.nD Cert.MlaKernelIdeal.τ).loc Cert.MlaKernelIdeal.main_arg3)) →
    ∃ (v0 : (c : Dev Cert.MlaKernelIdeal.nD) → Buf (Elt Ideal) ((c.tc : Thread Cert.MlaKernelIdeal.nD Cert.MlaKernelIdeal.τ).loc Cert.MlaKernelIdeal.main_v61_0)) (v1 : (c : Dev Cert.MlaKernelIdeal.nD) → Buf (Elt Ideal) ((c.tc : Thread Cert.MlaKernelIdeal.nD Cert.MlaKernelIdeal.τ).loc Cert.MlaKernelIdeal.main_v61_1)) (v2 : (c : Dev Cert.MlaKernelIdeal.nD) → Buf (Elt Ideal) ((c.tc : Thread Cert.MlaKernelIdeal.nD Cert.MlaKernelIdeal.τ).loc Cert.MlaKernelIdeal.main_v61_2)),
      θ_run (Cert.MlaKernelIdeal.defs (F := Ideal)) (onTc (τ := Cert.MlaKernelIdeal.τ) (Cert.MlaKernelIdeal.main (F := Ideal))) ⟨m, fun _ => 0, g⟩ (fun r => ∀ c : Dev Cert.MlaKernelIdeal.nD,
          r.2.mem ((c.tc : Thread Cert.MlaKernelIdeal.nD Cert.MlaKernelIdeal.τ).loc Cert.MlaKernelIdeal.main_v61_0) = v0 c
          ∧ r.2.mem ((c.tc : Thread Cert.MlaKernelIdeal.nD Cert.MlaKernelIdeal.τ).loc Cert.MlaKernelIdeal.main_v61_1) = v1 c
          ∧ r.2.mem ((c.tc : Thread Cert.MlaKernelIdeal.nD Cert.MlaKernelIdeal.τ).loc Cert.MlaKernelIdeal.main_v61_2) = v2 c
          ∧ r.2.mem ((c.tc : Thread Cert.MlaKernelIdeal.nD Cert.MlaKernelIdeal.τ).loc Cert.MlaKernelIdeal.main_arg0) = m ((c.tc : Thread Cert.MlaKernelIdeal.nD Cert.MlaKernelIdeal.τ).loc Cert.MlaKernelIdeal.main_arg0)
          ∧ r.2.mem ((c.tc : Thread Cert.MlaKernelIdeal.nD Cert.MlaKernelIdeal.τ).loc Cert.MlaKernelIdeal.main_arg1) = m ((c.tc : Thread Cert.MlaKernelIdeal.nD Cert.MlaKernelIdeal.τ).loc Cert.MlaKernelIdeal.main_arg1)
          ∧ r.2.mem ((c.tc : Thread Cert.MlaKernelIdeal.nD Cert.MlaKernelIdeal.τ).loc Cert.MlaKernelIdeal.main_arg2) = m ((c.tc : Thread Cert.MlaKernelIdeal.nD Cert.MlaKernelIdeal.τ).loc Cert.MlaKernelIdeal.main_arg2)
          ∧ r.2.mem ((c.tc : Thread Cert.MlaKernelIdeal.nD Cert.MlaKernelIdeal.τ).loc Cert.MlaKernelIdeal.main_arg3) = m ((c.tc : Thread Cert.MlaKernelIdeal.nD Cert.MlaKernelIdeal.τ).loc Cert.MlaKernelIdeal.main_arg3))
      ∧ θ_run (Cert.MlaReferenceIdeal.defs (F := Ideal)) (onTc (τ := Cert.MlaReferenceIdeal.τ) (Cert.MlaReferenceIdeal.main (F := Ideal))) ⟨m', fun _ => 0, g'⟩ (fun r => ∀ c : Dev Cert.MlaReferenceIdeal.nD,
          r.2.mem ((c.tc : Thread Cert.MlaReferenceIdeal.nD Cert.MlaReferenceIdeal.τ).loc Cert.MlaReferenceIdeal.main_v68) = v0 c
          ∧ r.2.mem ((c.tc : Thread Cert.MlaReferenceIdeal.nD Cert.MlaReferenceIdeal.τ).loc Cert.MlaReferenceIdeal.main_v72) = v1 c
          ∧ r.2.mem ((c.tc : Thread Cert.MlaReferenceIdeal.nD Cert.MlaReferenceIdeal.τ).loc Cert.MlaReferenceIdeal.main_v76) = v2 c
          ∧ r.2.mem ((c.tc : Thread Cert.MlaReferenceIdeal.nD Cert.MlaReferenceIdeal.τ).loc Cert.MlaReferenceIdeal.main_arg0) = m' ((c.tc : Thread Cert.MlaReferenceIdeal.nD Cert.MlaReferenceIdeal.τ).loc Cert.MlaReferenceIdeal.main_arg0)
          ∧ r.2.mem ((c.tc : Thread Cert.MlaReferenceIdeal.nD Cert.MlaReferenceIdeal.τ).loc Cert.MlaReferenceIdeal.main_arg1) = m' ((c.tc : Thread Cert.MlaReferenceIdeal.nD Cert.MlaReferenceIdeal.τ).loc Cert.MlaReferenceIdeal.main_arg1)
          ∧ r.2.mem ((c.tc : Thread Cert.MlaReferenceIdeal.nD Cert.MlaReferenceIdeal.τ).loc Cert.MlaReferenceIdeal.main_arg2) = m' ((c.tc : Thread Cert.MlaReferenceIdeal.nD Cert.MlaReferenceIdeal.τ).loc Cert.MlaReferenceIdeal.main_arg2)
          ∧ r.2.mem ((c.tc : Thread Cert.MlaReferenceIdeal.nD Cert.MlaReferenceIdeal.τ).loc Cert.MlaReferenceIdeal.main_arg3) = m' ((c.tc : Thread Cert.MlaReferenceIdeal.nD Cert.MlaReferenceIdeal.τ).loc Cert.MlaReferenceIdeal.main_arg3))

def preserves_RopeKernel_RopeKernelIdeal : Prop :=
  True

def algebraic_RopeKernelIdeal_RopeReferenceIdeal [hRopeKernelIdeal : Cert.RopeKernelIdeal.Facts] [hRopeReferenceIdeal : Cert.RopeReferenceIdeal.Facts] : Prop :=
  ∀ (m : (ℓ : Loc Cert.RopeKernelIdeal.nD Cert.RopeKernelIdeal.τ Cert.RopeKernelIdeal.sig) → Buf (Elt Ideal) ℓ) (g : Dev Cert.RopeKernelIdeal.nD → PrngReg)
    (m' : (ℓ : Loc Cert.RopeReferenceIdeal.nD Cert.RopeReferenceIdeal.τ Cert.RopeReferenceIdeal.sig) → Buf (Elt Ideal) ℓ) (g' : Dev Cert.RopeReferenceIdeal.nD → PrngReg), Pre_RopeKernelIdeal m →
    (∀ c : Dev Cert.RopeKernelIdeal.nD,
      m' ((c.tc : Thread Cert.RopeReferenceIdeal.nD Cert.RopeReferenceIdeal.τ).loc Cert.RopeReferenceIdeal.main_arg0) = m ((c.tc : Thread Cert.RopeKernelIdeal.nD Cert.RopeKernelIdeal.τ).loc Cert.RopeKernelIdeal.main_arg0)
      ∧ m' ((c.tc : Thread Cert.RopeReferenceIdeal.nD Cert.RopeReferenceIdeal.τ).loc Cert.RopeReferenceIdeal.main_arg1) = m ((c.tc : Thread Cert.RopeKernelIdeal.nD Cert.RopeKernelIdeal.τ).loc Cert.RopeKernelIdeal.main_arg1)) →
    ∃ (v0 : (c : Dev Cert.RopeKernelIdeal.nD) → Buf (Elt Ideal) ((c.tc : Thread Cert.RopeKernelIdeal.nD Cert.RopeKernelIdeal.τ).loc Cert.RopeKernelIdeal.main_v53_0)) (v1 : (c : Dev Cert.RopeKernelIdeal.nD) → Buf (Elt Ideal) ((c.tc : Thread Cert.RopeKernelIdeal.nD Cert.RopeKernelIdeal.τ).loc Cert.RopeKernelIdeal.main_v53_1)),
      θ_run (Cert.RopeKernelIdeal.defs (F := Ideal)) (onTc (τ := Cert.RopeKernelIdeal.τ) (Cert.RopeKernelIdeal.main (F := Ideal))) ⟨m, fun _ => 0, g⟩ (fun r => ∀ c : Dev Cert.RopeKernelIdeal.nD,
          r.2.mem ((c.tc : Thread Cert.RopeKernelIdeal.nD Cert.RopeKernelIdeal.τ).loc Cert.RopeKernelIdeal.main_v53_0) = v0 c
          ∧ r.2.mem ((c.tc : Thread Cert.RopeKernelIdeal.nD Cert.RopeKernelIdeal.τ).loc Cert.RopeKernelIdeal.main_v53_1) = v1 c
          ∧ r.2.mem ((c.tc : Thread Cert.RopeKernelIdeal.nD Cert.RopeKernelIdeal.τ).loc Cert.RopeKernelIdeal.main_arg0) = m ((c.tc : Thread Cert.RopeKernelIdeal.nD Cert.RopeKernelIdeal.τ).loc Cert.RopeKernelIdeal.main_arg0)
          ∧ r.2.mem ((c.tc : Thread Cert.RopeKernelIdeal.nD Cert.RopeKernelIdeal.τ).loc Cert.RopeKernelIdeal.main_arg1) = m ((c.tc : Thread Cert.RopeKernelIdeal.nD Cert.RopeKernelIdeal.τ).loc Cert.RopeKernelIdeal.main_arg1))
      ∧ θ_run (Cert.RopeReferenceIdeal.defs (F := Ideal)) (onTc (τ := Cert.RopeReferenceIdeal.τ) (Cert.RopeReferenceIdeal.main (F := Ideal))) ⟨m', fun _ => 0, g'⟩ (fun r => ∀ c : Dev Cert.RopeReferenceIdeal.nD,
          r.2.mem ((c.tc : Thread Cert.RopeReferenceIdeal.nD Cert.RopeReferenceIdeal.τ).loc Cert.RopeReferenceIdeal.main_v102) = v0 c
          ∧ r.2.mem ((c.tc : Thread Cert.RopeReferenceIdeal.nD Cert.RopeReferenceIdeal.τ).loc Cert.RopeReferenceIdeal.main_v106) = v1 c
          ∧ r.2.mem ((c.tc : Thread Cert.RopeReferenceIdeal.nD Cert.RopeReferenceIdeal.τ).loc Cert.RopeReferenceIdeal.main_arg0) = m' ((c.tc : Thread Cert.RopeReferenceIdeal.nD Cert.RopeReferenceIdeal.τ).loc Cert.RopeReferenceIdeal.main_arg0)
          ∧ r.2.mem ((c.tc : Thread Cert.RopeReferenceIdeal.nD Cert.RopeReferenceIdeal.τ).loc Cert.RopeReferenceIdeal.main_arg1) = m' ((c.tc : Thread Cert.RopeReferenceIdeal.nD Cert.RopeReferenceIdeal.τ).loc Cert.RopeReferenceIdeal.main_arg1))

def preserves_CumKernel_CumKernelIdeal : Prop :=
  True

def algebraic_CumKernelIdeal_CumReferenceIdeal_pre_cum_finite [hCumKernelIdeal : Cert.CumKernelIdeal.Facts] [hCumReferenceIdeal : Cert.CumReferenceIdeal.Facts] [hPre_cum_finite : Cert.Pre_cum_finite.Facts] : Prop :=
  ∀ (m : (ℓ : Loc Cert.CumKernelIdeal.nD Cert.CumKernelIdeal.τ Cert.CumKernelIdeal.sig) → Buf (Elt Ideal) ℓ) (g : Dev Cert.CumKernelIdeal.nD → PrngReg)
    (m' : (ℓ : Loc Cert.CumReferenceIdeal.nD Cert.CumReferenceIdeal.τ Cert.CumReferenceIdeal.sig) → Buf (Elt Ideal) ℓ) (g' : Dev Cert.CumReferenceIdeal.nD → PrngReg), Pre_CumKernelIdeal_cum_finite m →
    (∀ c : Dev Cert.CumKernelIdeal.nD,
      m' ((c.tc : Thread Cert.CumReferenceIdeal.nD Cert.CumReferenceIdeal.τ).loc Cert.CumReferenceIdeal.main_arg0) = m ((c.tc : Thread Cert.CumKernelIdeal.nD Cert.CumKernelIdeal.τ).loc Cert.CumKernelIdeal.main_arg0)) →
    ∃ (v0 : (c : Dev Cert.CumKernelIdeal.nD) → Buf (Elt Ideal) ((c.tc : Thread Cert.CumKernelIdeal.nD Cert.CumKernelIdeal.τ).loc Cert.CumKernelIdeal.main_v3)),
      θ_run (Cert.CumKernelIdeal.defs (F := Ideal)) (onTc (τ := Cert.CumKernelIdeal.τ) (Cert.CumKernelIdeal.main (F := Ideal))) ⟨m, fun _ => 0, g⟩ (fun r => ∀ c : Dev Cert.CumKernelIdeal.nD,
          r.2.mem ((c.tc : Thread Cert.CumKernelIdeal.nD Cert.CumKernelIdeal.τ).loc Cert.CumKernelIdeal.main_v3) = v0 c
          ∧ r.2.mem ((c.tc : Thread Cert.CumKernelIdeal.nD Cert.CumKernelIdeal.τ).loc Cert.CumKernelIdeal.main_arg0) = m ((c.tc : Thread Cert.CumKernelIdeal.nD Cert.CumKernelIdeal.τ).loc Cert.CumKernelIdeal.main_arg0))
      ∧ θ_run (Cert.CumReferenceIdeal.defs (F := Ideal)) (onTc (τ := Cert.CumReferenceIdeal.τ) (Cert.CumReferenceIdeal.main (F := Ideal))) ⟨m', fun _ => 0, g'⟩ (fun r => ∀ c : Dev Cert.CumReferenceIdeal.nD,
          r.2.mem ((c.tc : Thread Cert.CumReferenceIdeal.nD Cert.CumReferenceIdeal.τ).loc Cert.CumReferenceIdeal.main_v2) = v0 c
          ∧ r.2.mem ((c.tc : Thread Cert.CumReferenceIdeal.nD Cert.CumReferenceIdeal.τ).loc Cert.CumReferenceIdeal.main_arg0) = m' ((c.tc : Thread Cert.CumReferenceIdeal.nD Cert.CumReferenceIdeal.τ).loc Cert.CumReferenceIdeal.main_arg0))

def preserves_MlafKernel_MlafKernelIdeal : Prop :=
  True

def algebraic_MlafKernelIdeal_MlafReferenceIdeal_pre_mlaf_finite [hMlafKernelIdeal : Cert.MlafKernelIdeal.Facts] [hMlafReferenceIdeal : Cert.MlafReferenceIdeal.Facts] [hPre_mlaf_finite : Cert.Pre_mlaf_finite.Facts] : Prop :=
  ∀ (m : (ℓ : Loc Cert.MlafKernelIdeal.nD Cert.MlafKernelIdeal.τ Cert.MlafKernelIdeal.sig) → Buf (Elt Ideal) ℓ) (g : Dev Cert.MlafKernelIdeal.nD → PrngReg)
    (m' : (ℓ : Loc Cert.MlafReferenceIdeal.nD Cert.MlafReferenceIdeal.τ Cert.MlafReferenceIdeal.sig) → Buf (Elt Ideal) ℓ) (g' : Dev Cert.MlafReferenceIdeal.nD → PrngReg), Pre_MlafKernelIdeal_mlaf_finite m →
    (∀ c : Dev Cert.MlafKernelIdeal.nD,
      m' ((c.tc : Thread Cert.MlafReferenceIdeal.nD Cert.MlafReferenceIdeal.τ).loc Cert.MlafReferenceIdeal.main_arg0) = m ((c.tc : Thread Cert.MlafKernelIdeal.nD Cert.MlafKernelIdeal.τ).loc Cert.MlafKernelIdeal.main_arg0)
      ∧ m' ((c.tc : Thread Cert.MlafReferenceIdeal.nD Cert.MlafReferenceIdeal.τ).loc Cert.MlafReferenceIdeal.main_arg1) = m ((c.tc : Thread Cert.MlafKernelIdeal.nD Cert.MlafKernelIdeal.τ).loc Cert.MlafKernelIdeal.main_arg1)
      ∧ m' ((c.tc : Thread Cert.MlafReferenceIdeal.nD Cert.MlafReferenceIdeal.τ).loc Cert.MlafReferenceIdeal.main_arg2) = m ((c.tc : Thread Cert.MlafKernelIdeal.nD Cert.MlafKernelIdeal.τ).loc Cert.MlafKernelIdeal.main_arg2)) →
    ∃ (v0 : (c : Dev Cert.MlafKernelIdeal.nD) → Buf (Elt Ideal) ((c.tc : Thread Cert.MlafKernelIdeal.nD Cert.MlafKernelIdeal.τ).loc Cert.MlafKernelIdeal.main_v14_0)) (v1 : (c : Dev Cert.MlafKernelIdeal.nD) → Buf (Elt Ideal) ((c.tc : Thread Cert.MlafKernelIdeal.nD Cert.MlafKernelIdeal.τ).loc Cert.MlafKernelIdeal.main_v14_1)),
      θ_run (Cert.MlafKernelIdeal.defs (F := Ideal)) (onTc (τ := Cert.MlafKernelIdeal.τ) (Cert.MlafKernelIdeal.main (F := Ideal))) ⟨m, fun _ => 0, g⟩ (fun r => ∀ c : Dev Cert.MlafKernelIdeal.nD,
          r.2.mem ((c.tc : Thread Cert.MlafKernelIdeal.nD Cert.MlafKernelIdeal.τ).loc Cert.MlafKernelIdeal.main_v14_0) = v0 c
          ∧ r.2.mem ((c.tc : Thread Cert.MlafKernelIdeal.nD Cert.MlafKernelIdeal.τ).loc Cert.MlafKernelIdeal.main_v14_1) = v1 c
          ∧ r.2.mem ((c.tc : Thread Cert.MlafKernelIdeal.nD Cert.MlafKernelIdeal.τ).loc Cert.MlafKernelIdeal.main_arg0) = m ((c.tc : Thread Cert.MlafKernelIdeal.nD Cert.MlafKernelIdeal.τ).loc Cert.MlafKernelIdeal.main_arg0)
          ∧ r.2.mem ((c.tc : Thread Cert.MlafKernelIdeal.nD Cert.MlafKernelIdeal.τ).loc Cert.MlafKernelIdeal.main_arg1) = m ((c.tc : Thread Cert.MlafKernelIdeal.nD Cert.MlafKernelIdeal.τ).loc Cert.MlafKernelIdeal.main_arg1)
          ∧ r.2.mem ((c.tc : Thread Cert.MlafKernelIdeal.nD Cert.MlafKernelIdeal.τ).loc Cert.MlafKernelIdeal.main_arg2) = m ((c.tc : Thread Cert.MlafKernelIdeal.nD Cert.MlafKernelIdeal.τ).loc Cert.MlafKernelIdeal.main_arg2))
      ∧ θ_run (Cert.MlafReferenceIdeal.defs (F := Ideal)) (onTc (τ := Cert.MlafReferenceIdeal.τ) (Cert.MlafReferenceIdeal.main (F := Ideal))) ⟨m', fun _ => 0, g'⟩ (fun r => ∀ c : Dev Cert.MlafReferenceIdeal.nD,
          r.2.mem ((c.tc : Thread Cert.MlafReferenceIdeal.nD Cert.MlafReferenceIdeal.τ).loc Cert.MlafReferenceIdeal.main_v24) = v0 c
          ∧ r.2.mem ((c.tc : Thread Cert.MlafReferenceIdeal.nD Cert.MlafReferenceIdeal.τ).loc Cert.MlafReferenceIdeal.main_v34) = v1 c
          ∧ r.2.mem ((c.tc : Thread Cert.MlafReferenceIdeal.nD Cert.MlafReferenceIdeal.τ).loc Cert.MlafReferenceIdeal.main_arg0) = m' ((c.tc : Thread Cert.MlafReferenceIdeal.nD Cert.MlafReferenceIdeal.τ).loc Cert.MlafReferenceIdeal.main_arg0)
          ∧ r.2.mem ((c.tc : Thread Cert.MlafReferenceIdeal.nD Cert.MlafReferenceIdeal.τ).loc Cert.MlafReferenceIdeal.main_arg1) = m' ((c.tc : Thread Cert.MlafReferenceIdeal.nD Cert.MlafReferenceIdeal.τ).loc Cert.MlafReferenceIdeal.main_arg1)
          ∧ r.2.mem ((c.tc : Thread Cert.MlafReferenceIdeal.nD Cert.MlafReferenceIdeal.τ).loc Cert.MlafReferenceIdeal.main_arg2) = m' ((c.tc : Thread Cert.MlafReferenceIdeal.nD Cert.MlafReferenceIdeal.τ).loc Cert.MlafReferenceIdeal.main_arg2))

def preserves_FoxfKernel_FoxfKernelIdeal : Prop :=
  True

def algebraic_FoxfKernelIdeal_FoxfReferenceIdeal_pre_foxf_finite [hFoxfKernelIdeal : Cert.FoxfKernelIdeal.Facts] [hFoxfReferenceIdeal : Cert.FoxfReferenceIdeal.Facts] [hPre_foxf_finite : Cert.Pre_foxf_finite.Facts] : Prop :=
  ∀ (m : (ℓ : Loc Cert.FoxfKernelIdeal.nD Cert.FoxfKernelIdeal.τ Cert.FoxfKernelIdeal.sig) → Buf (Elt Ideal) ℓ) (g : Dev Cert.FoxfKernelIdeal.nD → PrngReg)
    (m' : (ℓ : Loc Cert.FoxfReferenceIdeal.nD Cert.FoxfReferenceIdeal.τ Cert.FoxfReferenceIdeal.sig) → Buf (Elt Ideal) ℓ) (g' : Dev Cert.FoxfReferenceIdeal.nD → PrngReg), Pre_FoxfKernelIdeal_foxf_finite m →
    (∀ c : Dev Cert.FoxfKernelIdeal.nD,
      m' ((c.tc : Thread Cert.FoxfReferenceIdeal.nD Cert.FoxfReferenceIdeal.τ).loc Cert.FoxfReferenceIdeal.main_arg0) = m ((c.tc : Thread Cert.FoxfKernelIdeal.nD Cert.FoxfKernelIdeal.τ).loc Cert.FoxfKernelIdeal.main_arg0)
      ∧ m' ((c.tc : Thread Cert.FoxfReferenceIdeal.nD Cert.FoxfReferenceIdeal.τ).loc Cert.FoxfReferenceIdeal.main_arg1) = m ((c.tc : Thread Cert.FoxfKernelIdeal.nD Cert.FoxfKernelIdeal.τ).loc Cert.FoxfKernelIdeal.main_arg1)) →
    ∃ (v0 : (c : Dev Cert.FoxfKernelIdeal.nD) → Buf (Elt Ideal) ((c.tc : Thread Cert.FoxfKernelIdeal.nD Cert.FoxfKernelIdeal.τ).loc Cert.FoxfKernelIdeal.main_v14_0)) (v1 : (c : Dev Cert.FoxfKernelIdeal.nD) → Buf (Elt Ideal) ((c.tc : Thread Cert.FoxfKernelIdeal.nD Cert.FoxfKernelIdeal.τ).loc Cert.FoxfKernelIdeal.main_v14_1)),
      θ_run (Cert.FoxfKernelIdeal.defs (F := Ideal)) (onTc (τ := Cert.FoxfKernelIdeal.τ) (Cert.FoxfKernelIdeal.main (F := Ideal))) ⟨m, fun _ => 0, g⟩ (fun r => ∀ c : Dev Cert.FoxfKernelIdeal.nD,
          r.2.mem ((c.tc : Thread Cert.FoxfKernelIdeal.nD Cert.FoxfKernelIdeal.τ).loc Cert.FoxfKernelIdeal.main_v14_0) = v0 c
          ∧ r.2.mem ((c.tc : Thread Cert.FoxfKernelIdeal.nD Cert.FoxfKernelIdeal.τ).loc Cert.FoxfKernelIdeal.main_v14_1) = v1 c
          ∧ r.2.mem ((c.tc : Thread Cert.FoxfKernelIdeal.nD Cert.FoxfKernelIdeal.τ).loc Cert.FoxfKernelIdeal.main_arg0) = m ((c.tc : Thread Cert.FoxfKernelIdeal.nD Cert.FoxfKernelIdeal.τ).loc Cert.FoxfKernelIdeal.main_arg0)
          ∧ r.2.mem ((c.tc : Thread Cert.FoxfKernelIdeal.nD Cert.FoxfKernelIdeal.τ).loc Cert.FoxfKernelIdeal.main_arg1) = m ((c.tc : Thread Cert.FoxfKernelIdeal.nD Cert.FoxfKernelIdeal.τ).loc Cert.FoxfKernelIdeal.main_arg1))
      ∧ θ_run (Cert.FoxfReferenceIdeal.defs (F := Ideal)) (onTc (τ := Cert.FoxfReferenceIdeal.τ) (Cert.FoxfReferenceIdeal.main (F := Ideal))) ⟨m', fun _ => 0, g'⟩ (fun r => ∀ c : Dev Cert.FoxfReferenceIdeal.nD,
          r.2.mem ((c.tc : Thread Cert.FoxfReferenceIdeal.nD Cert.FoxfReferenceIdeal.τ).loc Cert.FoxfReferenceIdeal.main_v40) = v0 c
          ∧ r.2.mem ((c.tc : Thread Cert.FoxfReferenceIdeal.nD Cert.FoxfReferenceIdeal.τ).loc Cert.FoxfReferenceIdeal.main_v53) = v1 c
          ∧ r.2.mem ((c.tc : Thread Cert.FoxfReferenceIdeal.nD Cert.FoxfReferenceIdeal.τ).loc Cert.FoxfReferenceIdeal.main_arg0) = m' ((c.tc : Thread Cert.FoxfReferenceIdeal.nD Cert.FoxfReferenceIdeal.τ).loc Cert.FoxfReferenceIdeal.main_arg0)
          ∧ r.2.mem ((c.tc : Thread Cert.FoxfReferenceIdeal.nD Cert.FoxfReferenceIdeal.τ).loc Cert.FoxfReferenceIdeal.main_arg1) = m' ((c.tc : Thread Cert.FoxfReferenceIdeal.nD Cert.FoxfReferenceIdeal.τ).loc Cert.FoxfReferenceIdeal.main_arg1))

def preserves_OutKernel_OutKernelIdeal : Prop :=
  True

def preserves_MidKernel_MidKernelIdeal : Prop :=
  True

def preserves_CumfKernel_CumfKernelIdeal : Prop :=
  True

def algebraic_CumfKernelIdeal_CumfReferenceIdeal_pre_cumf_finite [hCumfKernelIdeal : Cert.CumfKernelIdeal.Facts] [hCumfReferenceIdeal : Cert.CumfReferenceIdeal.Facts] [hPre_cumf_finite : Cert.Pre_cumf_finite.Facts] : Prop :=
  ∀ (m : (ℓ : Loc Cert.CumfKernelIdeal.nD Cert.CumfKernelIdeal.τ Cert.CumfKernelIdeal.sig) → Buf (Elt Ideal) ℓ) (g : Dev Cert.CumfKernelIdeal.nD → PrngReg)
    (m' : (ℓ : Loc Cert.CumfReferenceIdeal.nD Cert.CumfReferenceIdeal.τ Cert.CumfReferenceIdeal.sig) → Buf (Elt Ideal) ℓ) (g' : Dev Cert.CumfReferenceIdeal.nD → PrngReg), Pre_CumfKernelIdeal_cumf_finite m →
    (∀ c : Dev Cert.CumfKernelIdeal.nD,
      m' ((c.tc : Thread Cert.CumfReferenceIdeal.nD Cert.CumfReferenceIdeal.τ).loc Cert.CumfReferenceIdeal.main_arg0) = m ((c.tc : Thread Cert.CumfKernelIdeal.nD Cert.CumfKernelIdeal.τ).loc Cert.CumfKernelIdeal.main_arg0)) →
    ∃ (v0 : (c : Dev Cert.CumfKernelIdeal.nD) → Buf (Elt Ideal) ((c.tc : Thread Cert.CumfKernelIdeal.nD Cert.CumfKernelIdeal.τ).loc Cert.CumfKernelIdeal.main_v3)),
      θ_run (Cert.CumfKernelIdeal.defs (F := Ideal)) (onTc (τ := Cert.CumfKernelIdeal.τ) (Cert.CumfKernelIdeal.main (F := Ideal))) ⟨m, fun _ => 0, g⟩ (fun r => ∀ c : Dev Cert.CumfKernelIdeal.nD,
          r.2.mem ((c.tc : Thread Cert.CumfKernelIdeal.nD Cert.CumfKernelIdeal.τ).loc Cert.CumfKernelIdeal.main_v3) = v0 c
          ∧ r.2.mem ((c.tc : Thread Cert.CumfKernelIdeal.nD Cert.CumfKernelIdeal.τ).loc Cert.CumfKernelIdeal.main_arg0) = m ((c.tc : Thread Cert.CumfKernelIdeal.nD Cert.CumfKernelIdeal.τ).loc Cert.CumfKernelIdeal.main_arg0))
      ∧ θ_run (Cert.CumfReferenceIdeal.defs (F := Ideal)) (onTc (τ := Cert.CumfReferenceIdeal.τ) (Cert.CumfReferenceIdeal.main (F := Ideal))) ⟨m', fun _ => 0, g'⟩ (fun r => ∀ c : Dev Cert.CumfReferenceIdeal.nD,
          r.2.mem ((c.tc : Thread Cert.CumfReferenceIdeal.nD Cert.CumfReferenceIdeal.τ).loc Cert.CumfReferenceIdeal.main_v1) = v0 c
          ∧ r.2.mem ((c.tc : Thread Cert.CumfReferenceIdeal.nD Cert.CumfReferenceIdeal.τ).loc Cert.CumfReferenceIdeal.main_arg0) = m' ((c.tc : Thread Cert.CumfReferenceIdeal.nD Cert.CumfReferenceIdeal.τ).loc Cert.CumfReferenceIdeal.main_arg0))

def preserves_RopefKernel_RopefKernelIdeal : Prop :=
  True

def algebraic_RopefKernelIdeal_RopefReferenceIdeal [hRopefKernelIdeal : Cert.RopefKernelIdeal.Facts] [hRopefReferenceIdeal : Cert.RopefReferenceIdeal.Facts] : Prop :=
  ∀ (m : (ℓ : Loc Cert.RopefKernelIdeal.nD Cert.RopefKernelIdeal.τ Cert.RopefKernelIdeal.sig) → Buf (Elt Ideal) ℓ) (g : Dev Cert.RopefKernelIdeal.nD → PrngReg)
    (m' : (ℓ : Loc Cert.RopefReferenceIdeal.nD Cert.RopefReferenceIdeal.τ Cert.RopefReferenceIdeal.sig) → Buf (Elt Ideal) ℓ) (g' : Dev Cert.RopefReferenceIdeal.nD → PrngReg), Pre_RopefKernelIdeal m →
    (∀ c : Dev Cert.RopefKernelIdeal.nD,
      m' ((c.tc : Thread Cert.RopefReferenceIdeal.nD Cert.RopefReferenceIdeal.τ).loc Cert.RopefReferenceIdeal.main_arg0) = m ((c.tc : Thread Cert.RopefKernelIdeal.nD Cert.RopefKernelIdeal.τ).loc Cert.RopefKernelIdeal.main_arg0)) →
    ∃ (v0 : (c : Dev Cert.RopefKernelIdeal.nD) → Buf (Elt Ideal) ((c.tc : Thread Cert.RopefKernelIdeal.nD Cert.RopefKernelIdeal.τ).loc Cert.RopefKernelIdeal.main_v57_0)) (v1 : (c : Dev Cert.RopefKernelIdeal.nD) → Buf (Elt Ideal) ((c.tc : Thread Cert.RopefKernelIdeal.nD Cert.RopefKernelIdeal.τ).loc Cert.RopefKernelIdeal.main_v57_1)) (v2 : (c : Dev Cert.RopefKernelIdeal.nD) → Buf (Elt Ideal) ((c.tc : Thread Cert.RopefKernelIdeal.nD Cert.RopefKernelIdeal.τ).loc Cert.RopefKernelIdeal.main_v57_2)),
      θ_run (Cert.RopefKernelIdeal.defs (F := Ideal)) (onTc (τ := Cert.RopefKernelIdeal.τ) (Cert.RopefKernelIdeal.main (F := Ideal))) ⟨m, fun _ => 0, g⟩ (fun r => ∀ c : Dev Cert.RopefKernelIdeal.nD,
          r.2.mem ((c.tc : Thread Cert.RopefKernelIdeal.nD Cert.RopefKernelIdeal.τ).loc Cert.RopefKernelIdeal.main_v57_0) = v0 c
          ∧ r.2.mem ((c.tc : Thread Cert.RopefKernelIdeal.nD Cert.RopefKernelIdeal.τ).loc Cert.RopefKernelIdeal.main_v57_1) = v1 c
          ∧ r.2.mem ((c.tc : Thread Cert.RopefKernelIdeal.nD Cert.RopefKernelIdeal.τ).loc Cert.RopefKernelIdeal.main_v57_2) = v2 c
          ∧ r.2.mem ((c.tc : Thread Cert.RopefKernelIdeal.nD Cert.RopefKernelIdeal.τ).loc Cert.RopefKernelIdeal.main_arg0) = m ((c.tc : Thread Cert.RopefKernelIdeal.nD Cert.RopefKernelIdeal.τ).loc Cert.RopefKernelIdeal.main_arg0))
      ∧ θ_run (Cert.RopefReferenceIdeal.defs (F := Ideal)) (onTc (τ := Cert.RopefReferenceIdeal.τ) (Cert.RopefReferenceIdeal.main (F := Ideal))) ⟨m', fun _ => 0, g'⟩ (fun r => ∀ c : Dev Cert.RopefReferenceIdeal.nD,
          r.2.mem ((c.tc : Thread Cert.RopefReferenceIdeal.nD Cert.RopefReferenceIdeal.τ).loc Cert.RopefReferenceIdeal.main_v80) = v0 c
          ∧ r.2.mem ((c.tc : Thread Cert.RopefReferenceIdeal.nD Cert.RopefReferenceIdeal.τ).loc Cert.RopefReferenceIdeal.main_v84) = v1 c
          ∧ r.2.mem ((c.tc : Thread Cert.RopefReferenceIdeal.nD Cert.RopefReferenceIdeal.τ).loc Cert.RopefReferenceIdeal.main_v87) = v2 c
          ∧ r.2.mem ((c.tc : Thread Cert.RopefReferenceIdeal.nD Cert.RopefReferenceIdeal.τ).loc Cert.RopefReferenceIdeal.main_arg0) = m' ((c.tc : Thread Cert.RopefReferenceIdeal.nD Cert.RopefReferenceIdeal.τ).loc Cert.RopefReferenceIdeal.main_arg0))

def preserves_OutfKernel_OutfKernelIdeal : Prop :=
  True

def algebraic_OutfKernelIdeal_OutfReferenceIdeal [hOutfKernelIdeal : Cert.OutfKernelIdeal.Facts] [hOutfReferenceIdeal : Cert.OutfReferenceIdeal.Facts] : Prop :=
  ∀ (m : (ℓ : Loc Cert.OutfKernelIdeal.nD Cert.OutfKernelIdeal.τ Cert.OutfKernelIdeal.sig) → Buf (Elt Ideal) ℓ) (g : Dev Cert.OutfKernelIdeal.nD → PrngReg)
    (m' : (ℓ : Loc Cert.OutfReferenceIdeal.nD Cert.OutfReferenceIdeal.τ Cert.OutfReferenceIdeal.sig) → Buf (Elt Ideal) ℓ) (g' : Dev Cert.OutfReferenceIdeal.nD → PrngReg), Pre_OutfKernelIdeal m →
    (∀ c : Dev Cert.OutfKernelIdeal.nD,
      m' ((c.tc : Thread Cert.OutfReferenceIdeal.nD Cert.OutfReferenceIdeal.τ).loc Cert.OutfReferenceIdeal.main_arg0) = m ((c.tc : Thread Cert.OutfKernelIdeal.nD Cert.OutfKernelIdeal.τ).loc Cert.OutfKernelIdeal.main_arg0)
      ∧ m' ((c.tc : Thread Cert.OutfReferenceIdeal.nD Cert.OutfReferenceIdeal.τ).loc Cert.OutfReferenceIdeal.main_arg1) = m ((c.tc : Thread Cert.OutfKernelIdeal.nD Cert.OutfKernelIdeal.τ).loc Cert.OutfKernelIdeal.main_arg1)
      ∧ m' ((c.tc : Thread Cert.OutfReferenceIdeal.nD Cert.OutfReferenceIdeal.τ).loc Cert.OutfReferenceIdeal.main_arg2) = m ((c.tc : Thread Cert.OutfKernelIdeal.nD Cert.OutfKernelIdeal.τ).loc Cert.OutfKernelIdeal.main_arg2)
      ∧ m' ((c.tc : Thread Cert.OutfReferenceIdeal.nD Cert.OutfReferenceIdeal.τ).loc Cert.OutfReferenceIdeal.main_arg3) = m ((c.tc : Thread Cert.OutfKernelIdeal.nD Cert.OutfKernelIdeal.τ).loc Cert.OutfKernelIdeal.main_arg3)
      ∧ m' ((c.tc : Thread Cert.OutfReferenceIdeal.nD Cert.OutfReferenceIdeal.τ).loc Cert.OutfReferenceIdeal.main_arg4) = m ((c.tc : Thread Cert.OutfKernelIdeal.nD Cert.OutfKernelIdeal.τ).loc Cert.OutfKernelIdeal.main_arg4)
      ∧ m' ((c.tc : Thread Cert.OutfReferenceIdeal.nD Cert.OutfReferenceIdeal.τ).loc Cert.OutfReferenceIdeal.main_arg5) = m ((c.tc : Thread Cert.OutfKernelIdeal.nD Cert.OutfKernelIdeal.τ).loc Cert.OutfKernelIdeal.main_arg5)) →
    ∃ (v0 : (c : Dev Cert.OutfKernelIdeal.nD) → Buf (Elt Ideal) ((c.tc : Thread Cert.OutfKernelIdeal.nD Cert.OutfKernelIdeal.τ).loc Cert.OutfKernelIdeal.main_v9_0)) (v1 : (c : Dev Cert.OutfKernelIdeal.nD) → Buf (Elt Ideal) ((c.tc : Thread Cert.OutfKernelIdeal.nD Cert.OutfKernelIdeal.τ).loc Cert.OutfKernelIdeal.main_v9_1)) (v2 : (c : Dev Cert.OutfKernelIdeal.nD) → Buf (Elt Ideal) ((c.tc : Thread Cert.OutfKernelIdeal.nD Cert.OutfKernelIdeal.τ).loc Cert.OutfKernelIdeal.main_v9_2)) (v3 : (c : Dev Cert.OutfKernelIdeal.nD) → Buf (Elt Ideal) ((c.tc : Thread Cert.OutfKernelIdeal.nD Cert.OutfKernelIdeal.τ).loc Cert.OutfKernelIdeal.main_v9_3)) (v4 : (c : Dev Cert.OutfKernelIdeal.nD) → Buf (Elt Ideal) ((c.tc : Thread Cert.OutfKernelIdeal.nD Cert.OutfKernelIdeal.τ).loc Cert.OutfKernelIdeal.main_v9_4)),
      θ_run (Cert.OutfKernelIdeal.defs (F := Ideal)) (onTc (τ := Cert.OutfKernelIdeal.τ) (Cert.OutfKernelIdeal.main (F := Ideal))) ⟨m, fun _ => 0, g⟩ (fun r => ∀ c : Dev Cert.OutfKernelIdeal.nD,
          r.2.mem ((c.tc : Thread Cert.OutfKernelIdeal.nD Cert.OutfKernelIdeal.τ).loc Cert.OutfKernelIdeal.main_v9_0) = v0 c
          ∧ r.2.mem ((c.tc : Thread Cert.OutfKernelIdeal.nD Cert.OutfKernelIdeal.τ).loc Cert.OutfKernelIdeal.main_v9_1) = v1 c
          ∧ r.2.mem ((c.tc : Thread Cert.OutfKernelIdeal.nD Cert.OutfKernelIdeal.τ).loc Cert.OutfKernelIdeal.main_v9_2) = v2 c
          ∧ r.2.mem ((c.tc : Thread Cert.OutfKernelIdeal.nD Cert.OutfKernelIdeal.τ).loc Cert.OutfKernelIdeal.main_v9_3) = v3 c
          ∧ r.2.mem ((c.tc : Thread Cert.OutfKernelIdeal.nD Cert.OutfKernelIdeal.τ).loc Cert.OutfKernelIdeal.main_v9_4) = v4 c
          ∧ r.2.mem ((c.tc : Thread Cert.OutfKernelIdeal.nD Cert.OutfKernelIdeal.τ).loc Cert.OutfKernelIdeal.main_arg0) = m ((c.tc : Thread Cert.OutfKernelIdeal.nD Cert.OutfKernelIdeal.τ).loc Cert.OutfKernelIdeal.main_arg0)
          ∧ r.2.mem ((c.tc : Thread Cert.OutfKernelIdeal.nD Cert.OutfKernelIdeal.τ).loc Cert.OutfKernelIdeal.main_arg1) = m ((c.tc : Thread Cert.OutfKernelIdeal.nD Cert.OutfKernelIdeal.τ).loc Cert.OutfKernelIdeal.main_arg1)
          ∧ r.2.mem ((c.tc : Thread Cert.OutfKernelIdeal.nD Cert.OutfKernelIdeal.τ).loc Cert.OutfKernelIdeal.main_arg2) = m ((c.tc : Thread Cert.OutfKernelIdeal.nD Cert.OutfKernelIdeal.τ).loc Cert.OutfKernelIdeal.main_arg2)
          ∧ r.2.mem ((c.tc : Thread Cert.OutfKernelIdeal.nD Cert.OutfKernelIdeal.τ).loc Cert.OutfKernelIdeal.main_arg3) = m ((c.tc : Thread Cert.OutfKernelIdeal.nD Cert.OutfKernelIdeal.τ).loc Cert.OutfKernelIdeal.main_arg3)
          ∧ r.2.mem ((c.tc : Thread Cert.OutfKernelIdeal.nD Cert.OutfKernelIdeal.τ).loc Cert.OutfKernelIdeal.main_arg4) = m ((c.tc : Thread Cert.OutfKernelIdeal.nD Cert.OutfKernelIdeal.τ).loc Cert.OutfKernelIdeal.main_arg4)
          ∧ r.2.mem ((c.tc : Thread Cert.OutfKernelIdeal.nD Cert.OutfKernelIdeal.τ).loc Cert.OutfKernelIdeal.main_arg5) = m ((c.tc : Thread Cert.OutfKernelIdeal.nD Cert.OutfKernelIdeal.τ).loc Cert.OutfKernelIdeal.main_arg5))
      ∧ θ_run (Cert.OutfReferenceIdeal.defs (F := Ideal)) (onTc (τ := Cert.OutfReferenceIdeal.τ) (Cert.OutfReferenceIdeal.main (F := Ideal))) ⟨m', fun _ => 0, g'⟩ (fun r => ∀ c : Dev Cert.OutfReferenceIdeal.nD,
          r.2.mem ((c.tc : Thread Cert.OutfReferenceIdeal.nD Cert.OutfReferenceIdeal.τ).loc Cert.OutfReferenceIdeal.main_v44) = v0 c
          ∧ r.2.mem ((c.tc : Thread Cert.OutfReferenceIdeal.nD Cert.OutfReferenceIdeal.τ).loc Cert.OutfReferenceIdeal.main_v45) = v1 c
          ∧ r.2.mem ((c.tc : Thread Cert.OutfReferenceIdeal.nD Cert.OutfReferenceIdeal.τ).loc Cert.OutfReferenceIdeal.main_v47) = v2 c
          ∧ r.2.mem ((c.tc : Thread Cert.OutfReferenceIdeal.nD Cert.OutfReferenceIdeal.τ).loc Cert.OutfReferenceIdeal.main_v52) = v3 c
          ∧ r.2.mem ((c.tc : Thread Cert.OutfReferenceIdeal.nD Cert.OutfReferenceIdeal.τ).loc Cert.OutfReferenceIdeal.main_v53) = v4 c
          ∧ r.2.mem ((c.tc : Thread Cert.OutfReferenceIdeal.nD Cert.OutfReferenceIdeal.τ).loc Cert.OutfReferenceIdeal.main_arg0) = m' ((c.tc : Thread Cert.OutfReferenceIdeal.nD Cert.OutfReferenceIdeal.τ).loc Cert.OutfReferenceIdeal.main_arg0)
          ∧ r.2.mem ((c.tc : Thread Cert.OutfReferenceIdeal.nD Cert.OutfReferenceIdeal.τ).loc Cert.OutfReferenceIdeal.main_arg1) = m' ((c.tc : Thread Cert.OutfReferenceIdeal.nD Cert.OutfReferenceIdeal.τ).loc Cert.OutfReferenceIdeal.main_arg1)
          ∧ r.2.mem ((c.tc : Thread Cert.OutfReferenceIdeal.nD Cert.OutfReferenceIdeal.τ).loc Cert.OutfReferenceIdeal.main_arg2) = m' ((c.tc : Thread Cert.OutfReferenceIdeal.nD Cert.OutfReferenceIdeal.τ).loc Cert.OutfReferenceIdeal.main_arg2)
          ∧ r.2.mem ((c.tc : Thread Cert.OutfReferenceIdeal.nD Cert.OutfReferenceIdeal.τ).loc Cert.OutfReferenceIdeal.main_arg3) = m' ((c.tc : Thread Cert.OutfReferenceIdeal.nD Cert.OutfReferenceIdeal.τ).loc Cert.OutfReferenceIdeal.main_arg3)
          ∧ r.2.mem ((c.tc : Thread Cert.OutfReferenceIdeal.nD Cert.OutfReferenceIdeal.τ).loc Cert.OutfReferenceIdeal.main_arg4) = m' ((c.tc : Thread Cert.OutfReferenceIdeal.nD Cert.OutfReferenceIdeal.τ).loc Cert.OutfReferenceIdeal.main_arg4)
          ∧ r.2.mem ((c.tc : Thread Cert.OutfReferenceIdeal.nD Cert.OutfReferenceIdeal.τ).loc Cert.OutfReferenceIdeal.main_arg5) = m' ((c.tc : Thread Cert.OutfReferenceIdeal.nD Cert.OutfReferenceIdeal.τ).loc Cert.OutfReferenceIdeal.main_arg5))

def Claim : Prop :=
  ∃ (hLossKernel : Cert.LossKernel.Facts) (hLossKernelIdeal : Cert.LossKernelIdeal.Facts) (hLossReferenceIdeal : Cert.LossReferenceIdeal.Facts) (hFoxKernel : Cert.FoxKernel.Facts) (hFoxKernelIdeal : Cert.FoxKernelIdeal.Facts) (hFoxReferenceIdeal : Cert.FoxReferenceIdeal.Facts) (hMlaKernel : Cert.MlaKernel.Facts) (hMlaKernelIdeal : Cert.MlaKernelIdeal.Facts) (hMlaReferenceIdeal : Cert.MlaReferenceIdeal.Facts) (hRopeKernel : Cert.RopeKernel.Facts) (hRopeKernelIdeal : Cert.RopeKernelIdeal.Facts) (hRopeReferenceIdeal : Cert.RopeReferenceIdeal.Facts) (hCumKernel : Cert.CumKernel.Facts) (hCumKernelIdeal : Cert.CumKernelIdeal.Facts) (hCumReferenceIdeal : Cert.CumReferenceIdeal.Facts) (hMlafKernel : Cert.MlafKernel.Facts) (hMlafKernelIdeal : Cert.MlafKernelIdeal.Facts) (hMlafReferenceIdeal : Cert.MlafReferenceIdeal.Facts) (hFoxfKernel : Cert.FoxfKernel.Facts) (hFoxfKernelIdeal : Cert.FoxfKernelIdeal.Facts) (hFoxfReferenceIdeal : Cert.FoxfReferenceIdeal.Facts) (hOutKernel : Cert.OutKernel.Facts) (hOutKernelIdeal : Cert.OutKernelIdeal.Facts) (hOutReferenceIdeal : Cert.OutReferenceIdeal.Facts) (hMidKernel : Cert.MidKernel.Facts) (hMidKernelIdeal : Cert.MidKernelIdeal.Facts) (hMidReferenceIdeal : Cert.MidReferenceIdeal.Facts) (hCumfKernel : Cert.CumfKernel.Facts) (hCumfKernelIdeal : Cert.CumfKernelIdeal.Facts) (hCumfReferenceIdeal : Cert.CumfReferenceIdeal.Facts) (hRopefKernel : Cert.RopefKernel.Facts) (hRopefKernelIdeal : Cert.RopefKernelIdeal.Facts) (hRopefReferenceIdeal : Cert.RopefReferenceIdeal.Facts) (hOutfKernel : Cert.OutfKernel.Facts) (hOutfKernelIdeal : Cert.OutfKernelIdeal.Facts) (hOutfReferenceIdeal : Cert.OutfReferenceIdeal.Facts) (hPre_fox_finite : Cert.Pre_fox_finite.Facts) (hPre_mla_finite : Cert.Pre_mla_finite.Facts) (hPre_cum_finite : Cert.Pre_cum_finite.Facts) (hPre_mlaf_finite : Cert.Pre_mlaf_finite.Facts) (hPre_foxf_finite : Cert.Pre_foxf_finite.Facts) (hPre_cumf_finite : Cert.Pre_cumf_finite.Facts),
    quiescent_LossKernel (hLossKernel := hLossKernel)
    ∧ quiescent_LossKernelIdeal (hLossKernelIdeal := hLossKernelIdeal)
    ∧ quiescent_LossReferenceIdeal (hLossReferenceIdeal := hLossReferenceIdeal)
    ∧ quiescent_FoxKernel (hFoxKernel := hFoxKernel)
    ∧ quiescent_FoxKernelIdeal (hFoxKernelIdeal := hFoxKernelIdeal)
    ∧ quiescent_FoxKernelIdeal_pre_fox_finite (hFoxKernelIdeal := hFoxKernelIdeal) (hPre_fox_finite := hPre_fox_finite)
    ∧ quiescent_FoxReferenceIdeal (hFoxReferenceIdeal := hFoxReferenceIdeal)
    ∧ quiescent_FoxReferenceIdeal_pre_fox_finite (hFoxReferenceIdeal := hFoxReferenceIdeal) (hPre_fox_finite := hPre_fox_finite)
    ∧ quiescent_MlaKernel (hMlaKernel := hMlaKernel)
    ∧ quiescent_MlaKernelIdeal (hMlaKernelIdeal := hMlaKernelIdeal)
    ∧ quiescent_MlaKernelIdeal_pre_mla_finite (hMlaKernelIdeal := hMlaKernelIdeal) (hPre_mla_finite := hPre_mla_finite)
    ∧ quiescent_MlaReferenceIdeal (hMlaReferenceIdeal := hMlaReferenceIdeal)
    ∧ quiescent_MlaReferenceIdeal_pre_mla_finite (hMlaReferenceIdeal := hMlaReferenceIdeal) (hPre_mla_finite := hPre_mla_finite)
    ∧ quiescent_RopeKernel (hRopeKernel := hRopeKernel)
    ∧ quiescent_RopeKernelIdeal (hRopeKernelIdeal := hRopeKernelIdeal)
    ∧ quiescent_RopeReferenceIdeal (hRopeReferenceIdeal := hRopeReferenceIdeal)
    ∧ quiescent_CumKernel (hCumKernel := hCumKernel)
    ∧ quiescent_CumKernelIdeal (hCumKernelIdeal := hCumKernelIdeal)
    ∧ quiescent_CumKernelIdeal_pre_cum_finite (hCumKernelIdeal := hCumKernelIdeal) (hPre_cum_finite := hPre_cum_finite)
    ∧ quiescent_CumReferenceIdeal (hCumReferenceIdeal := hCumReferenceIdeal)
    ∧ quiescent_CumReferenceIdeal_pre_cum_finite (hCumReferenceIdeal := hCumReferenceIdeal) (hPre_cum_finite := hPre_cum_finite)
    ∧ quiescent_MlafKernel (hMlafKernel := hMlafKernel)
    ∧ quiescent_MlafKernelIdeal (hMlafKernelIdeal := hMlafKernelIdeal)
    ∧ quiescent_MlafKernelIdeal_pre_mlaf_finite (hMlafKernelIdeal := hMlafKernelIdeal) (hPre_mlaf_finite := hPre_mlaf_finite)
    ∧ quiescent_MlafReferenceIdeal (hMlafReferenceIdeal := hMlafReferenceIdeal)
    ∧ quiescent_MlafReferenceIdeal_pre_mlaf_finite (hMlafReferenceIdeal := hMlafReferenceIdeal) (hPre_mlaf_finite := hPre_mlaf_finite)
    ∧ quiescent_FoxfKernel (hFoxfKernel := hFoxfKernel)
    ∧ quiescent_FoxfKernelIdeal (hFoxfKernelIdeal := hFoxfKernelIdeal)
    ∧ quiescent_FoxfKernelIdeal_pre_foxf_finite (hFoxfKernelIdeal := hFoxfKernelIdeal) (hPre_foxf_finite := hPre_foxf_finite)
    ∧ quiescent_FoxfReferenceIdeal (hFoxfReferenceIdeal := hFoxfReferenceIdeal)
    ∧ quiescent_FoxfReferenceIdeal_pre_foxf_finite (hFoxfReferenceIdeal := hFoxfReferenceIdeal) (hPre_foxf_finite := hPre_foxf_finite)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_MidKernel (hMidKernel := hMidKernel)
    ∧ quiescent_MidKernelIdeal (hMidKernelIdeal := hMidKernelIdeal)
    ∧ quiescent_MidReferenceIdeal (hMidReferenceIdeal := hMidReferenceIdeal)
    ∧ quiescent_CumfKernel (hCumfKernel := hCumfKernel)
    ∧ quiescent_CumfKernelIdeal (hCumfKernelIdeal := hCumfKernelIdeal)
    ∧ quiescent_CumfKernelIdeal_pre_cumf_finite (hCumfKernelIdeal := hCumfKernelIdeal) (hPre_cumf_finite := hPre_cumf_finite)
    ∧ quiescent_CumfReferenceIdeal (hCumfReferenceIdeal := hCumfReferenceIdeal)
    ∧ quiescent_CumfReferenceIdeal_pre_cumf_finite (hCumfReferenceIdeal := hCumfReferenceIdeal) (hPre_cumf_finite := hPre_cumf_finite)
    ∧ quiescent_RopefKernel (hRopefKernel := hRopefKernel)
    ∧ quiescent_RopefKernelIdeal (hRopefKernelIdeal := hRopefKernelIdeal)
    ∧ quiescent_RopefReferenceIdeal (hRopefReferenceIdeal := hRopefReferenceIdeal)
    ∧ quiescent_OutfKernel (hOutfKernel := hOutfKernel)
    ∧ quiescent_OutfKernelIdeal (hOutfKernelIdeal := hOutfKernelIdeal)
    ∧ quiescent_OutfReferenceIdeal (hOutfReferenceIdeal := hOutfReferenceIdeal)
    ∧ preserves_LossKernel_LossKernelIdeal
    ∧ algebraic_LossKernelIdeal_LossReferenceIdeal (hLossKernelIdeal := hLossKernelIdeal) (hLossReferenceIdeal := hLossReferenceIdeal)
    ∧ preserves_FoxKernel_FoxKernelIdeal
    ∧ algebraic_FoxKernelIdeal_FoxReferenceIdeal_pre_fox_finite (hFoxKernelIdeal := hFoxKernelIdeal) (hFoxReferenceIdeal := hFoxReferenceIdeal) (hPre_fox_finite := hPre_fox_finite)
    ∧ preserves_MlaKernel_MlaKernelIdeal
    ∧ algebraic_MlaKernelIdeal_MlaReferenceIdeal_pre_mla_finite (hMlaKernelIdeal := hMlaKernelIdeal) (hMlaReferenceIdeal := hMlaReferenceIdeal) (hPre_mla_finite := hPre_mla_finite)
    ∧ preserves_RopeKernel_RopeKernelIdeal
    ∧ algebraic_RopeKernelIdeal_RopeReferenceIdeal (hRopeKernelIdeal := hRopeKernelIdeal) (hRopeReferenceIdeal := hRopeReferenceIdeal)
    ∧ preserves_CumKernel_CumKernelIdeal
    ∧ algebraic_CumKernelIdeal_CumReferenceIdeal_pre_cum_finite (hCumKernelIdeal := hCumKernelIdeal) (hCumReferenceIdeal := hCumReferenceIdeal) (hPre_cum_finite := hPre_cum_finite)
    ∧ preserves_MlafKernel_MlafKernelIdeal
    ∧ algebraic_MlafKernelIdeal_MlafReferenceIdeal_pre_mlaf_finite (hMlafKernelIdeal := hMlafKernelIdeal) (hMlafReferenceIdeal := hMlafReferenceIdeal) (hPre_mlaf_finite := hPre_mlaf_finite)
    ∧ preserves_FoxfKernel_FoxfKernelIdeal
    ∧ algebraic_FoxfKernelIdeal_FoxfReferenceIdeal_pre_foxf_finite (hFoxfKernelIdeal := hFoxfKernelIdeal) (hFoxfReferenceIdeal := hFoxfReferenceIdeal) (hPre_foxf_finite := hPre_foxf_finite)
    ∧ preserves_OutKernel_OutKernelIdeal
    ∧ preserves_MidKernel_MidKernelIdeal
    ∧ preserves_CumfKernel_CumfKernelIdeal
    ∧ algebraic_CumfKernelIdeal_CumfReferenceIdeal_pre_cumf_finite (hCumfKernelIdeal := hCumfKernelIdeal) (hCumfReferenceIdeal := hCumfReferenceIdeal) (hPre_cumf_finite := hPre_cumf_finite)
    ∧ preserves_RopefKernel_RopefKernelIdeal
    ∧ algebraic_RopefKernelIdeal_RopefReferenceIdeal (hRopefKernelIdeal := hRopefKernelIdeal) (hRopefReferenceIdeal := hRopefReferenceIdeal)
    ∧ preserves_OutfKernel_OutfKernelIdeal
    ∧ algebraic_OutfKernelIdeal_OutfReferenceIdeal (hOutfKernelIdeal := hOutfKernelIdeal) (hOutfReferenceIdeal := hOutfReferenceIdeal)
-- ==== Pre_cum_finite.lean ====
abbrev S1x4096x8 : Shape := ⟨3, ![1, 4096, 8]⟩
abbrev S_ : Shape := ⟨0, ![]⟩

class Facts : Prop where
  bcast_S_S1x4096x8 : S_.BroadcastsInDim S1x4096x8 (![] : Fin 0 → Fin S1x4096x8.rank)

variable [Facts]

def fn {F : FTy → Type} [FloatOps F] (main_arg0 : FVec F S1x4096x8 .f32) : IVec S1x4096x8 1 :=
  let main_v0 : FVec F S1x4096x8 .f32 := Host.absf main_arg0
  let main_cst : FVec F S_ .f32 := constant S_ .f32 0x7F800000#32
  let main_v1 : FVec F S1x4096x8 .f32 := broadcastInDim S1x4096x8 ![] bcast_S_S1x4096x8 main_cst
  let main_v2 : IVec S1x4096x8 1 := cmpf .olt main_v0 main_v1
  main_v2
-- ==== Pre_cumf_finite.lean ====
abbrev S1x4096x8 : Shape := ⟨3, ![1, 4096, 8]⟩
abbrev S_ : Shape := ⟨0, ![]⟩

class Facts : Prop where
  bcast_S_S1x4096x8 : S_.BroadcastsInDim S1x4096x8 (![] : Fin 0 → Fin S1x4096x8.rank)

variable [Facts]

def fn {F : FTy → Type} [FloatOps F] (main_arg0 : FVec F S1x4096x8 .f32) : IVec S1x4096x8 1 :=
  let main_v0 : FVec F S1x4096x8 .f32 := Host.absf main_arg0
  let main_cst : FVec F S_ .f32 := constant S_ .f32 0x7F800000#32
  let main_v1 : FVec F S1x4096x8 .f32 := broadcastInDim S1x4096x8 ![] bcast_S_S1x4096x8 main_cst
  let main_v2 : IVec S1x4096x8 1 := cmpf .olt main_v0 main_v1
  main_v2
-- ==== Pre_fox_finite.lean ====
abbrev S1x4096x2984 : Shape := ⟨3, ![1, 4096, 2984]⟩
abbrev S1x4096x8 : Shape := ⟨3, ![1, 4096, 8]⟩
abbrev S1x4096x1024 : Shape := ⟨3, ![1, 4096, 1024]⟩
abbrev S1x4096x1536 : Shape := ⟨3, ![1, 4096, 1536]⟩
abbrev S_ : Shape := ⟨0, ![]⟩
abbrev S1x4096x512 : Shape := ⟨3, ![1, 4096, 512]⟩

class Facts : Prop where
  slices_S1x4096x2984_S1x4096x1536_0_0_416 : S1x4096x2984.Slices ![0, 0, 416] S1x4096x1536
  bcast_S_S1x4096x1536 : S_.BroadcastsInDim S1x4096x1536 (![] : Fin 0 → Fin S1x4096x1536.rank)
  bcast_S_S1x4096x8 : S_.BroadcastsInDim S1x4096x8 (![] : Fin 0 → Fin S1x4096x8.rank)
  slices_S1x4096x1024_S1x4096x512_0_0_512 : S1x4096x1024.Slices ![0, 0, 512] S1x4096x512
  bcast_S_S1x4096x512 : S_.BroadcastsInDim S1x4096x512 (![] : Fin 0 → Fin S1x4096x512.rank)

variable [Facts]

def fn {F : FTy → Type} [FloatOps F] (main_arg0 : FVec F S1x4096x2984 .f32) (main_arg1 : FVec F S1x4096x8 .f32) (main_arg2 : FVec F S1x4096x1024 .f32) : IVec S1x4096x1536 1 × IVec S1x4096x8 1 × IVec S1x4096x512 1 :=
  let main_v0 : FVec F S1x4096x1536 .f32 := (extractStridedSlice S1x4096x1536 ![0, 0, 416] · slices_S1x4096x2984_S1x4096x1536_0_0_416) main_arg0
  let main_v1 : FVec F S1x4096x1536 .f32 := Host.absf main_v0
  let main_cst : FVec F S_ .f32 := constant S_ .f32 0x7F800000#32
  let main_v2 : FVec F S1x4096x1536 .f32 := broadcastInDim S1x4096x1536 ![] bcast_S_S1x4096x1536 main_cst
  let main_v3 : IVec S1x4096x1536 1 := cmpf .olt main_v1 main_v2
  let main_v4 : FVec F S1x4096x8 .f32 := Host.absf main_arg1
  let main_cst_0 : FVec F S_ .f32 := constant S_ .f32 0x7F800000#32
  let main_v5 : FVec F S1x4096x8 .f32 := broadcastInDim S1x4096x8 ![] bcast_S_S1x4096x8 main_cst_0
  let main_v6 : IVec S1x4096x8 1 := cmpf .olt main_v4 main_v5
  let main_v7 : FVec F S1x4096x512 .f32 := (extractStridedSlice S1x4096x512 ![0, 0, 512] · slices_S1x4096x1024_S1x4096x512_0_0_512) main_arg2
  let main_v8 : FVec F S1x4096x512 .f32 := Host.absf main_v7
  let main_cst_1 : FVec F S_ .f32 := constant S_ .f32 0x7F800000#32
  let main_v9 : FVec F S1x4096x512 .f32 := broadcastInDim S1x4096x512 ![] bcast_S_S1x4096x512 main_cst_1
  let main_v10 : IVec S1x4096x512 1 := cmpf .olt main_v8 main_v9
  (main_v3, main_v6, main_v10)
-- ==== Pre_foxf_finite.lean ====
abbrev S1x4096x2984 : Shape := ⟨3, ![1, 4096, 2984]⟩
abbrev S1x4096x8 : Shape := ⟨3, ![1, 4096, 8]⟩
abbrev S1x4096x1536 : Shape := ⟨3, ![1, 4096, 1536]⟩
abbrev S_ : Shape := ⟨0, ![]⟩

class Facts : Prop where
  slices_S1x4096x2984_S1x4096x1536_0_0_416 : S1x4096x2984.Slices ![0, 0, 416] S1x4096x1536
  bcast_S_S1x4096x1536 : S_.BroadcastsInDim S1x4096x1536 (![] : Fin 0 → Fin S1x4096x1536.rank)
  bcast_S_S1x4096x8 : S_.BroadcastsInDim S1x4096x8 (![] : Fin 0 → Fin S1x4096x8.rank)

variable [Facts]

def fn {F : FTy → Type} [FloatOps F] (main_arg0 : FVec F S1x4096x2984 .f32) (main_arg1 : FVec F S1x4096x8 .f32) : IVec S1x4096x1536 1 × IVec S1x4096x8 1 :=
  let main_v0 : FVec F S1x4096x1536 .f32 := (extractStridedSlice S1x4096x1536 ![0, 0, 416] · slices_S1x4096x2984_S1x4096x1536_0_0_416) main_arg0
  let main_v1 : FVec F S1x4096x1536 .f32 := Host.absf main_v0
  let main_cst : FVec F S_ .f32 := constant S_ .f32 0x7F800000#32
  let main_v2 : FVec F S1x4096x1536 .f32 := broadcastInDim S1x4096x1536 ![] bcast_S_S1x4096x1536 main_cst
  let main_v3 : IVec S1x4096x1536 1 := cmpf .olt main_v1 main_v2
  let main_v4 : FVec F S1x4096x8 .f32 := Host.absf main_arg1
  let main_cst_0 : FVec F S_ .f32 := constant S_ .f32 0x7F800000#32
  let main_v5 : FVec F S1x4096x8 .f32 := broadcastInDim S1x4096x8 ![] bcast_S_S1x4096x8 main_cst_0
  let main_v6 : IVec S1x4096x8 1 := cmpf .olt main_v4 main_v5
  (main_v3, main_v6)
-- ==== Pre_mla_finite.lean ====
abbrev S1x8x4096x96 : Shape := ⟨4, ![1, 8, 4096, 96]⟩
abbrev S1x8x4096x64 : Shape := ⟨4, ![1, 8, 4096, 64]⟩
abbrev S1x4096x1024 : Shape := ⟨3, ![1, 4096, 1024]⟩
abbrev S_ : Shape := ⟨0, ![]⟩
abbrev S1x4096x512 : Shape := ⟨3, ![1, 4096, 512]⟩

class Facts : Prop where
  bcast_S_S1x8x4096x96 : S_.BroadcastsInDim S1x8x4096x96 (![] : Fin 0 → Fin S1x8x4096x96.rank)
  bcast_S_S1x8x4096x64 : S_.BroadcastsInDim S1x8x4096x64 (![] : Fin 0 → Fin S1x8x4096x64.rank)
  slices_S1x4096x1024_S1x4096x512_0_0_0 : S1x4096x1024.Slices ![0, 0, 0] S1x4096x512
  bcast_S_S1x4096x512 : S_.BroadcastsInDim S1x4096x512 (![] : Fin 0 → Fin S1x4096x512.rank)

variable [Facts]

def fn {F : FTy → Type} [FloatOps F] (main_arg0 : FVec F S1x8x4096x96 .f32) (main_arg1 : FVec F S1x8x4096x96 .f32) (main_arg2 : FVec F S1x8x4096x64 .f32) (main_arg3 : FVec F S1x4096x1024 .f32) : IVec S1x8x4096x96 1 × IVec S1x8x4096x96 1 × IVec S1x8x4096x64 1 × IVec S1x4096x512 1 :=
  let main_v0 : FVec F S1x8x4096x96 .f32 := Host.absf main_arg0
  let main_cst : FVec F S_ .f32 := constant S_ .f32 0x7F800000#32
  let main_v1 : FVec F S1x8x4096x96 .f32 := broadcastInDim S1x8x4096x96 ![] bcast_S_S1x8x4096x96 main_cst
  let main_v2 : IVec S1x8x4096x96 1 := cmpf .olt main_v0 main_v1
  let main_v3 : FVec F S1x8x4096x96 .f32 := Host.absf main_arg1
  let main_cst_0 : FVec F S_ .f32 := constant S_ .f32 0x7F800000#32
  let main_v4 : FVec F S1x8x4096x96 .f32 := broadcastInDim S1x8x4096x96 ![] bcast_S_S1x8x4096x96 main_cst_0
  let main_v5 : IVec S1x8x4096x96 1 := cmpf .olt main_v3 main_v4
  let main_v6 : FVec F S1x8x4096x64 .f32 := Host.absf main_arg2
  let main_cst_1 : FVec F S_ .f32 := constant S_ .f32 0x7F800000#32
  let main_v7 : FVec F S1x8x4096x64 .f32 := broadcastInDim S1x8x4096x64 ![] bcast_S_S1x8x4096x64 main_cst_1
  let main_v8 : IVec S1x8x4096x64 1 := cmpf .olt main_v6 main_v7
  let main_v9 : FVec F S1x4096x512 .f32 := (extractStridedSlice S1x4096x512 ![0, 0, 0] · slices_S1x4096x1024_S1x4096x512_0_0_0) main_arg3
  let main_v10 : FVec F S1x4096x512 .f32 := Host.absf main_v9
  let main_cst_2 : FVec F S_ .f32 := constant S_ .f32 0x7F800000#32
  let main_v11 : FVec F S1x4096x512 .f32 := broadcastInDim S1x4096x512 ![] bcast_S_S1x4096x512 main_cst_2
  let main_v12 : IVec S1x4096x512 1 := cmpf .olt main_v10 main_v11
  (main_v2, main_v5, main_v8, main_v12)
-- ==== Pre_mlaf_finite.lean ====
abbrev S1x8x4096x96 : Shape := ⟨4, ![1, 8, 4096, 96]⟩
abbrev S1x8x4096x64 : Shape := ⟨4, ![1, 8, 4096, 64]⟩
abbrev S_ : Shape := ⟨0, ![]⟩

class Facts : Prop where
  bcast_S_S1x8x4096x96 : S_.BroadcastsInDim S1x8x4096x96 (![] : Fin 0 → Fin S1x8x4096x96.rank)
  bcast_S_S1x8x4096x64 : S_.BroadcastsInDim S1x8x4096x64 (![] : Fin 0 → Fin S1x8x4096x64.rank)

variable [Facts]

def fn {F : FTy → Type} [FloatOps F] (main_arg0 : FVec F S1x8x4096x96 .f32) (main_arg1 : FVec F S1x8x4096x96 .f32) (main_arg2 : FVec F S1x8x4096x64 .f32) : IVec S1x8x4096x96 1 × IVec S1x8x4096x96 1 × IVec S1x8x4096x64 1 :=
  let main_v0 : FVec F S1x8x4096x96 .f32 := Host.absf main_arg0
  let main_cst : FVec F S_ .f32 := constant S_ .f32 0x7F800000#32
  let main_v1 : FVec F S1x8x4096x96 .f32 := broadcastInDim S1x8x4096x96 ![] bcast_S_S1x8x4096x96 main_cst
  let main_v2 : IVec S1x8x4096x96 1 := cmpf .olt main_v0 main_v1
  let main_v3 : FVec F S1x8x4096x96 .f32 := Host.absf main_arg1
  let main_cst_0 : FVec F S_ .f32 := constant S_ .f32 0x7F800000#32
  let main_v4 : FVec F S1x8x4096x96 .f32 := broadcastInDim S1x8x4096x96 ![] bcast_S_S1x8x4096x96 main_cst_0
  let main_v5 : IVec S1x8x4096x96 1 := cmpf .olt main_v3 main_v4
  let main_v6 : FVec F S1x8x4096x64 .f32 := Host.absf main_arg2
  let main_cst_1 : FVec F S_ .f32 := constant S_ .f32 0x7F800000#32
  let main_v7 : FVec F S1x8x4096x64 .f32 := broadcastInDim S1x8x4096x64 ![] bcast_S_S1x8x4096x64 main_cst_1
  let main_v8 : IVec S1x8x4096x64 1 := cmpf .olt main_v6 main_v7
  (main_v2, main_v5, main_v8)
-- ==== LossKernel.lean ====
abbrev S1x4096x1024 : Shape := ⟨3, ![1, 4096, 1024]⟩
abbrev S4096x1024 : Shape := ⟨2, ![4096, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 6
  | .vmem => 7
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossReferenceIdeal.lean ====
abbrev S1x4096x1024 : Shape := ⟨3, ![1, 4096, 1024]⟩
abbrev S_ : Shape := ⟨0, ![]⟩
abbrev S1x4096 : Shape := ⟨2, ![1, 4096]⟩
abbrev S4096x1024 : Shape := ⟨2, ![4096, 1024]⟩
abbrev S8x128 : Shape := ⟨2, ![8, 128]⟩

abbrev nBuf : Space → Nat
  | .hbm => 27
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1x4096x1024, .f32⟩
  | .hbm, ⟨4, _⟩ => ⟨S_, .f32⟩
  | .hbm, ⟨5, _⟩ => ⟨S1x4096x1024, .f32⟩
  | .hbm, ⟨6, _⟩ => ⟨S1x4096x1024, .f32⟩
  | .hbm, ⟨7, _⟩ => ⟨S_, .f32⟩
  | .hbm, ⟨8, _⟩ => ⟨S1x4096, .f32⟩
  | .hbm, ⟨9, _⟩ => ⟨S_, .f32⟩
  | .hbm, ⟨10, _⟩ => ⟨S1x4096, .f32⟩
  | .hbm, ⟨11, _⟩ => ⟨S1x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x4096, .f32⟩
  | .hbm, ⟨20, _⟩ => ⟨S_, .f32⟩
  | .hbm, ⟨21, _⟩ => ⟨S1x4096, .f32⟩
  | .hbm, ⟨22, _⟩ => ⟨S1x4096, .f32⟩
  | .hbm, ⟨23, _⟩ => ⟨S1x4096x1024, .f32⟩
  | .hbm, ⟨24, _⟩ => ⟨S1x4096x1024, .f32⟩
  | .hbm, ⟨25, _⟩ => ⟨S4096x1024, .f32⟩
  | .hbm, ⟨26, _⟩ => ⟨S8x128, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== FoxKernel.lean ====
abbrev S1x4096x2984 : Shape := ⟨3, ![1, 4096, 2984]⟩
abbrev S1x4096x8 : Shape := ⟨3, ![1, 4096, 8]⟩
abbrev S1x4096x1024 : Shape := ⟨3, ![1, 4096, 1024]⟩
abbrev S4096x2984 : Shape := ⟨2, ![4096, 2984]⟩
abbrev S4096x1024 : Shape := ⟨2, ![4096, 1024]⟩
abbrev S4096x1536 : Shape := ⟨2, ![4096, 1536]⟩
abbrev S4096x384 : Shape := ⟨2, ![4096, 384]⟩
abbrev S_ : Shape := ⟨0, ![]⟩
abbrev S4096x64 : Shape := ⟨2, ![4096, 64]⟩
abbrev S4096x32 : Shape := ⟨2, ![4096, 32]⟩
abbrev S4096x8 : Shape := ⟨2, ![4096, 8]⟩
abbrev S4096x24 : Shape := ⟨2, ![4096, 24]⟩
abbrev S4096x3072 : Shape := ⟨2, ![4096, 3072]⟩
abbrev S8x4096 : Shape := ⟨2, ![8, 4096]⟩
abbrev S8x1x4096 : Shape := ⟨3, ![8, 1, 4096]⟩
abbrev S1x4096x512 : Shape := ⟨3, ![1, 4096, 512]⟩
abbrev S1x4096x8x64 : Shape := ⟨4, ![1, 4096, 8, 64]⟩
abbrev S1x8x4096x64 : Shape := ⟨4, ![1, 8, 4096, 64]⟩
abbrev S1x8x4096 : Shape := ⟨3, ![1, 8, 4096]⟩
abbrev S1x8x4096x4096 : Shape := ⟨4, ![1, 8, 4096, 4096]⟩
abbrev S1x8x4096x1 : Shape := ⟨4, ![1, 8, 4096, 1]⟩
abbrev S1x8x1x4096 : Shape := ⟨4, ![1, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4096x512 : Shape := ⟨2, ![4096, 512]⟩
abbrev S8x4096x1 : Shape := ⟨3, ![8, 4096, 1]⟩
abbrev S512x128 : Shape := ⟨2, ![512, 128]⟩
abbrev S2x512x1 : Shape := ⟨3, ![2, 512, 1]⟩
abbrev S2x1x512 : Shape := ⟨3, ![2, 1, 512]⟩
abbrev S4096x128 : Shape := ⟨2, ![4096, 128]⟩
abbrev S512x512 : Shape := ⟨2, ![512, 512]⟩
abbrev S1x1x512 : Shape := ⟨3, ![1, 1, 512]⟩
abbrev S1x512 : Shape := ⟨2, ![1, 512]⟩
abbrev S1x512x1 : Shape := ⟨3, ![1, 512, 1]⟩
abbrev S512x1 : Shape := ⟨2, ![512, 1]⟩
abbrev S512 : Shape := ⟨1, ![512]⟩
abbrev S4096x4x2x64 : Shape := ⟨4, ![4096, 4, 2, 64]⟩
abbrev S4096x4x2x1 : Shape := ⟨4, ![4096, 4, 2, 1]⟩
abbrev S4096x4x2 : Shape := ⟨3, ![4096, 4, 2]⟩

abbrev nBuf : Space → Nat
  | .hbm => 113
  | .vmem => 29
  | .smem => 0
  | _ => 0

abbrev bufTy : (tb : Table) → Fin (tcTables nBuf tb) → BufTy
  | .hbm, ⟨0, _⟩ => ⟨S1x4096x2984, .f32⟩
  | .hbm, ⟨1, _⟩ => ⟨S1x4096x8, .f32⟩
  | .hbm, ⟨2, _⟩ => ⟨S1x4096x1024, .f32⟩
  | .hbm, ⟨3, _⟩ => ⟨S4096x2984, .f32⟩
  | .hbm, ⟨4, _⟩ => ⟨S4096x1024, .f32⟩
  | .hbm, ⟨5, _⟩ => ⟨S4096x1536, .f32⟩
  | .hbm, ⟨6, _⟩ => ⟨S4096x384, .f32⟩
  | .hbm, ⟨7, _⟩ => ⟨S_, .f32⟩
  | .hbm, ⟨8, _⟩ => ⟨S4096x64, .f32⟩
  | .hbm, ⟨9, _⟩ => ⟨S4096x32, .f32⟩
  | .hbm, ⟨10, _⟩ => ⟨S4096x8, .f32⟩
  | .hbm, ⟨11, _⟩ => ⟨S_, .f32⟩
  | .hbm, ⟨12, _⟩ => ⟨S4096x24, .f32⟩
  | .hbm, ⟨13, _⟩ => ⟨S4096x3072, .f32⟩
  | .hbm, ⟨14, _⟩ => ⟨S4096x3072, .bf16⟩
  | .hbm, ⟨15, _⟩ => ⟨S4096x8, .f32⟩
  | .hbm, ⟨16, _⟩ => ⟨S8x4096, .f32⟩
  | .hbm, ⟨17, _⟩ => ⟨S8x1x4096, .f32⟩
  | .hbm, ⟨18, _⟩ => ⟨S1x4096x512, .f32⟩
  | .hbm, ⟨19, _⟩ => ⟨S1x4096x512, .f32⟩
  | .hbm, ⟨20, _⟩ => ⟨S1x4096x512, .f32⟩
  | .hbm, ⟨21, _⟩ => ⟨S1x4096x8x64, .f32⟩
  | .hbm, ⟨22, _⟩ => ⟨S1x8x4096x64, .f32⟩
  | .hbm, ⟨23, _⟩ => ⟨S1x4096x8x64, .f32⟩
  | .hbm, ⟨24, _⟩ => ⟨S1x8x4096x64, .f32⟩
  | .hbm, ⟨25, _⟩ => ⟨S1x4096x8x64, .f32⟩
  | .hbm, ⟨26, _⟩ => ⟨S1x8x4096x64, .f32⟩
  | .hbm, ⟨27, _⟩ => ⟨S1x8x4096, .f32⟩
  | .hbm, ⟨28, _⟩ => ⟨S1x8x4096x4096, .f32⟩
  | .hbm, ⟨29, _⟩ => ⟨S_, .f32⟩
  | .hbm, ⟨30, _⟩ => ⟨S1x8x4096x4096, .f32⟩
  | .hbm, ⟨31, _⟩ => ⟨S1x8x4096x4096, .f32⟩
  | .hbm, ⟨32, _⟩ => ⟨S1x8x4096x1, .f32⟩
  | .hbm, ⟨33, _⟩ => ⟨S1x8x4096x4096, .f32⟩
  | .hbm, ⟨34, _⟩ => ⟨S1x8x4096x4096, .f32⟩
  | .hbm, ⟨35, _⟩ => ⟨S1x8x1x4096, .f32⟩
  | .hbm, ⟨36, _⟩ => ⟨S1x8x4096x4096, .f32⟩
  | .hbm, ⟨37, _⟩ => ⟨S1x8x4096x4096, .f32⟩
  | .hbm, ⟨38, _⟩ => ⟨S4096, .i32⟩
  | .hbm, ⟨39, _⟩ => ⟨S1x4096, .i32⟩
  | .hbm, ⟨40, _⟩ => ⟨S4096x1, .i32⟩
  | .hbm, ⟨41, _⟩ => ⟨S4096x4096, .i32⟩
  | .hbm, ⟨42, _⟩ => ⟨S4096x4096, .i32⟩
  | .hbm, ⟨43, _⟩ => ⟨S4096x4096, .i1⟩
  | .hbm, ⟨44, _⟩ => ⟨S_, .f32⟩
  | .hbm, ⟨45, _⟩ => ⟨S_, .f32⟩
  | .hbm, ⟨46, _⟩ => ⟨S1x8x4096x4096, .i1⟩
  | .hbm, ⟨47, _⟩ => ⟨S1x8x4096x4096, .f32⟩
  | .hbm, ⟨48, _⟩ => ⟨S1x8x4096x4096, .f32⟩
  | .hbm, ⟨49, _⟩ => ⟨S_, .f32⟩
  | .hbm, ⟨50, _⟩ => ⟨S1x8x4096, .f32⟩
  | .hbm, ⟨51, _⟩ => ⟨S_, .f32⟩
  | .hbm, ⟨52, _⟩ => ⟨S1x8x4096, .f32⟩
  | .hbm, ⟨53, _⟩ => ⟨S1x8x4096, .f32⟩
  | .hbm, ⟨54, _⟩ => ⟨S1x8x4096x1, .f32⟩
  | .hbm, ⟨55, _⟩ => ⟨S1x8x4096x4096, .f32⟩
  | .hbm, ⟨56, _⟩ => ⟨S1x8x4096x4096, .f32⟩
  | .hbm, ⟨57, _⟩ => ⟨S1x8x4096x4096, .f32⟩
  | .hbm, ⟨58, _⟩ => ⟨S_, .f32⟩
  | .hbm, ⟨59, _⟩ => ⟨S1x8x4096, .f32⟩
  | .hbm, ⟨60, _⟩ => ⟨S1x8x4096x1, .f32⟩
  | .hbm, ⟨61, _⟩ => ⟨S1x8x4096x4096, .f32⟩
  | .hbm, ⟨62, _⟩ => ⟨S1x8x4096x4096, .f32⟩
  | .hbm, ⟨63, _⟩ => ⟨S1x8x4096x64, .f32⟩
  | .hbm, ⟨64, _⟩ => ⟨S1x4096x8x64, .f32⟩
  | .hbm, ⟨65, _⟩ => ⟨S1x4096x512, .f32⟩
  | .hbm, ⟨66, _⟩ => ⟨S4096x512, .f32⟩
  | .hbm, ⟨67, _⟩ => ⟨S1x8x4096x4096, .f32⟩
  | .hbm, ⟨68, _⟩ => ⟨S_, .f32⟩
  | .hbm, ⟨69, _⟩ => ⟨S1x8x4096x4096, .f32⟩
  | .hbm, ⟨70, _⟩ => ⟨S1x8x4096x4096, .f32⟩
  | .hbm, ⟨71, _⟩ => ⟨S4096, .i32⟩
  | .hbm, ⟨72, _⟩ => ⟨S1x4096, .i32⟩
  | .hbm, ⟨73, _⟩ => ⟨S4096x1, .i32⟩
  | .hbm, ⟨74, _⟩ => ⟨S4096x4096, .i32⟩
  | .hbm, ⟨75, _⟩ => ⟨S4096x4096, .i32⟩
  | .hbm, ⟨76, _⟩ => ⟨S4096x4096, .i1⟩
  | .hbm, ⟨77, _⟩ => ⟨S_, .f32⟩
  | .hbm, ⟨78, _⟩ => ⟨S_, .f32⟩
  | .hbm, ⟨79, _⟩ => ⟨S1x8x4096x4096, .i1⟩
  | .hbm, ⟨80, _⟩ => ⟨S1x8x4096x4096, .f32⟩
  | .hbm, ⟨81, _⟩ => ⟨S1x8x4096x4096, .f32⟩
  | .hbm, ⟨82, _⟩ => ⟨S1x8x4096, .f32⟩
  | .hbm, ⟨83, _⟩ => ⟨S1x8x1x4096, .f32⟩
  | .hbm, ⟨84, _⟩ => ⟨S1x8x4096x4096, .f32⟩
  | .hbm, ⟨85, _⟩ => ⟨S1x8x4096x4096, .f32⟩
  | .hbm, ⟨86, _⟩ => ⟨S_, .f32⟩
  | .hbm, ⟨87, _⟩ => ⟨S1x8x4096, .f32⟩
  | .hbm, ⟨88, _⟩ => ⟨S1x8x4096x1, .f32⟩
  | .hbm, ⟨89, _⟩ => ⟨S1x8x4096x4096, .f32⟩
  | .hbm, ⟨90, _⟩ => ⟨S1x8x4096x4096, .f32⟩
  | .hbm, ⟨91, _⟩ => ⟨S1x8x4096x4096, .f32⟩
  | .hbm, ⟨92, _⟩ => ⟨S_, .f32⟩
  | .hbm, ⟨93, _⟩ => ⟨S1x8x4096, .f32⟩
  | .hbm, ⟨94, _⟩ => ⟨S1x8x4096x1, .f32⟩
  | .hbm, ⟨95, _⟩ => ⟨S1x8x4096x1, .f32⟩
  | .hbm, ⟨96, _⟩ => ⟨S1x8x4096x1, .f32⟩
  | .hbm, ⟨97, _⟩ => ⟨S8x4096x1, .f32⟩
  | .hbm, ⟨98, _⟩ => ⟨S4096x1024, .f32⟩
  | .hbm, ⟨99, _⟩ => ⟨S4096x1024, .bf16⟩
  | .hbm, ⟨100, _⟩ => ⟨S4096x512, .bf16⟩
  | .hbm, ⟨101, _⟩ => ⟨S4096x512, .bf16⟩
  | .hbm, ⟨102, _⟩ => ⟨S4096x512, .bf16⟩
  | .hbm, ⟨103, _⟩ => ⟨S8x1x4096, .f32⟩
  | .hbm, ⟨104, _⟩ => ⟨S4096x512, .f32⟩
  | .hbm, ⟨105, _⟩ => ⟨S4096x4x2x64, .f32⟩
  | .hbm, ⟨106, _⟩ => ⟨S4096x4x2x1, .f32⟩
  | .hbm, ⟨107, _⟩ => ⟨S4096x4x2x1, .f32⟩
  | .hbm, ⟨108, _⟩ => ⟨S4096x4x2, .f32⟩
  | .hbm, ⟨109, _⟩ => ⟨S4096x8, .f32⟩
  | .hbm, ⟨110, _⟩ => ⟨S8x4096, .f32⟩
  | .hbm, ⟨111, _⟩ => ⟨S4096x8, .f32⟩
  | .hbm, ⟨112, _⟩ => ⟨S4096x8, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | .local _ .vmem, ⟨7, _⟩ => ⟨S512x128, .f32⟩
  | .local _ .vmem, ⟨8, _⟩ => ⟨S512x128, .bf16⟩
  | .local _ .vmem, ⟨9, _⟩ => ⟨S512x128, .bf16⟩
  | .local _ .vmem, ⟨10, _⟩ => ⟨S2x512x1, .f32⟩
  | .local _ .vmem, ⟨11, _⟩ => ⟨S2x512x1, .f32⟩
  | .local _ .vmem, ⟨12, _⟩ => ⟨S2x1x512, .f32⟩
  | .local _ .vmem, ⟨13, _⟩ => ⟨S2x1x512, .f32⟩
  | .local _ .vmem, ⟨14, _⟩ => ⟨S4096x128, .bf16⟩
  | .local _ .vmem, ⟨15, _⟩ => ⟨S4096x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S2x1x512, .f32⟩
  | .local _ .vmem, ⟨21, _⟩ => ⟨S2x1x512, .f32⟩
  | .local _ .vmem, ⟨22, _⟩ => ⟨S4096x128, .f32⟩
  | .local _ .vmem, ⟨23, _⟩ => ⟨S4096x128, .f32⟩
  | .local _ .vmem, ⟨24, _⟩ => ⟨S4096x128, .f32⟩
  | .local _ .vmem, ⟨25, _⟩ => ⟨S512x128, .f32⟩
  | .local _ .vmem, ⟨26, _⟩ => ⟨S512x128, .f32⟩
  | .local _ .vmem, ⟨27, _⟩ => ⟨S2x1x512, .f32⟩
  | .local _ .vmem, ⟨28, _⟩ => ⟨S4096x128, .f32⟩
  | _, _ => ⟨S1x4096x2984, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v38 : Ref sig .tc := ⟨.hbm, 48, rfl⟩
abbrev main_cst_3 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_6 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_7 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_8 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_9 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80_0 : Ref sig .tc := ⟨.hbm, 100, rfl⟩
abbrev main_v80_1 : Ref sig .tc := ⟨.hbm, 101, rfl⟩
abbrev main_v80_2 : Ref sig .tc := ⟨.hbm, 102, rfl⟩
abbrev main_v80_3 : Ref sig .tc := ⟨.hbm, 103, rfl⟩
abbrev main_v80_4 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![4, 8, 8], ![false, false, false]⟩

def k0_cond3 (i : grid0.Coords) : BitVec 1 :=
  let arg2 : BitVec 32 := BitVec.ofNat 32 (i 2).val
  let arg1 : BitVec 32 := BitVec.ofNat 32 (i 1).val
  let v8 : BitVec 1 := Scalar.cmpi .sgt arg2 arg1
  let v9 : BitVec 32 := Scalar.extui v8
  let c0_i32_3 : BitVec 32 := 0#32
  let v10 : BitVec 1 := Scalar.cmpi .ne v9 c0_i32_3
  v10

def k0_mult1 (i : grid0.Coords) : BitVec 32 :=
  let arg2 : BitVec 32 := BitVec.ofNat 32 (i 2).val
  let c512_i32 : BitVec 32 := 512#32
  let v32 : BitVec 32 := Scalar.muli arg2 c512_i32
  v32
def k0_off1 (i : grid0.Coords) : Fin 2 → Nat :=
  let arg2 : BitVec 32 := BitVec.ofNat 32 (i 2).val
  let c512_i32 : BitVec 32 := 512#32
  let v32 : BitVec 32 := Scalar.muli arg2 c512_i32
  let v33 : BitVec 32 := v32
  let v182 : Index := Scalar.indexCast v33
  let c0_88 : Index := 0#32
  ![v182.toNat, 0]
def k0_cond4 (i : grid0.Coords) : BitVec 1 :=
  let arg2 : BitVec 32 := BitVec.ofNat 32 (i 2).val
  let arg1 : BitVec 32 := BitVec.ofNat 32 (i 1).val
  let v11 : BitVec 1 := Scalar.cmpi .eq arg2 arg1
  let v12 : BitVec 32 := Scalar.extui v11
  let c0_i32_4 : BitVec 32 := 0#32
  let v13 : BitVec 1 := Scalar.cmpi .ne v12 c0_i32_4
  v13

def k0_mult2 (i : grid0.Coords) : BitVec 32 :=
  let arg2 : BitVec 32 := BitVec.ofNat 32 (i 2).val
  let c512_i32 : BitVec 32 := 512#32
  let v32 : BitVec 32 := Scalar.muli arg2 c512_i32
  v32
def k0_off2 (i : grid0.Coords) : Fin 2 → Nat :=
  let arg2 : BitVec 32 := BitVec.ofNat 32 (i 2).val
  let c512_i32 : BitVec 32 := 512#32
  let v32 : BitVec 32 := Scalar.muli arg2 c512_i32
  let v33 : BitVec 32 := v32
  let v196 : Index := Scalar.indexCast v33
  let c0_92 : Index := 0#32
  ![v196.toNat, 0]
def k0_cond6 (i : grid0.Coords) : BitVec 1 :=
  let arg1 : BitVec 32 := BitVec.ofNat 32 (i 1).val
  let c7_i32_6 : BitVec 32 := 7#32
  let v17 : BitVec 1 := Scalar.cmpi .eq arg1 c7_i32_6
  let arg2 : BitVec 32 := BitVec.ofNat 32 (i 2).val
  let c7_i32_7 : BitVec 32 := 7#32
  let v18 : BitVec 1 := Scalar.cmpi .eq arg2 c7_i32_7
  let v19 : BitVec 1 := Scalar.andi v17 v18
  let v20 : BitVec 32 := Scalar.extui v19
  let c0_i32_8 : BitVec 32 := 0#32
  let v21 : BitVec 1 := Scalar.cmpi .ne v20 c0_i32_8
  v21

def k0_cond5 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_5 : BitVec 32 := 0#32
  let v16 : BitVec 1 := Scalar.cmpi .ne v15 c0_i32_5
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c8_i32 : BitVec 32 := 8#32
  let v1 : BitVec 32 := Scalar.addi c8_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let v1 : BitVec 32 := Scalar.addi c0_i32 arg0
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c4_i32 : BitVec 32 := 4#32
  let v1 : BitVec 32 := Scalar.addi c4_i32 arg0
  let c0_i32 : BitVec 32 := 0#32
  ![v0.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S2x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]
-- ==== FoxReferenceIdeal.lean ====
abbrev S1x4096x2984 : Shape := ⟨3, ![1, 4096, 2984]⟩
abbrev S1x4096x8 : Shape := ⟨3, ![1, 4096, 8]⟩
abbrev S1x4096x1024 : Shape := ⟨3, ![1, 4096, 1024]⟩
abbrev S1x4096x512 : Shape := ⟨3, ![1, 4096, 512]⟩
abbrev S1x4096x8x64 : Shape := ⟨4, ![1, 4096, 8, 64]⟩
abbrev S1x8x4096x64 : Shape := ⟨4, ![1, 8, 4096, 64]⟩
abbrev S1x8x4096 : Shape := ⟨3, ![1, 8, 4096]⟩
abbrev S1x8x4096x4096 : Shape := ⟨4, ![1, 8, 4096, 4096]⟩
abbrev S_ : Shape := ⟨0, ![]⟩
abbrev S1x8x4096x1 : Shape := ⟨4, ![1, 8, 4096, 1]⟩
abbrev S1x8x1x4096 : Shape := ⟨4, ![1, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x8x64x4096 : Shape := ⟨4, ![1, 8, 64, 4096]⟩
abbrev S8x4096 : Shape := ⟨2, ![8, 4096]⟩
abbrev S4096x512 : Shape := ⟨2, ![4096, 512]⟩
abbrev S4096x8 : Shape := ⟨2, ![4096, 8]⟩

abbrev nBuf : Space → Nat
  | .hbm => 134
  | .vmem => 0
  | .smem => 0
  | _ => 0

abbrev hbmTy0_0 (i : Nat) : BufTy := match i % 128 with
  | 0 => ⟨S1x4096x2984, .f32⟩
  | 1 => ⟨S1x4096x8, .f32⟩
  | 2 => ⟨S1x4096x1024, .f32⟩
  | 3 => ⟨S1x4096x512, .f32⟩
  | 4 => ⟨S1x4096x512, .f32⟩
  | 5 => ⟨S1x4096x512, .f32⟩
  | 6 => ⟨S1x4096x8x64, .f32⟩
  | 7 => ⟨S1x8x4096x64, .f32⟩
  | 8 => ⟨S1x4096x8x64, .f32⟩
  | 9 => ⟨S1x8x4096x64, .f32⟩
  | 10 => ⟨S1x4096x8x64, .f32⟩
  | 11 => ⟨S1x8x4096x64, .f32⟩
  | 12 => ⟨S1x8x4096, .f32⟩
  | 13 => ⟨S1x8x4096x4096, .f32⟩
  | 14 => ⟨S_, .f32⟩
  | 15 => ⟨S1x8x4096x4096, .f32⟩
  | 16 => ⟨S1x8x4096x4096, .f32⟩
  | 17 => ⟨S1x8x4096x1, .f32⟩
  | 18 => ⟨S1x8x4096x4096, .f32⟩
  | 19 => ⟨S1x8x4096x4096, .f32⟩
  | 20 => ⟨S1x8x1x4096, .f32⟩
  | 21 => ⟨S1x8x4096x4096, .f32⟩
  | 22 => ⟨S1x8x4096x4096, .f32⟩
  | 23 => ⟨S4096, .i32⟩
  | 24 => ⟨S1x4096, .i32⟩
  | 25 => ⟨S4096x1, .i32⟩
  | 26 => ⟨S4096x4096, .i32⟩
  | 27 => ⟨S4096x4096, .i32⟩
  | 28 => ⟨S4096x4096, .i1⟩
  | 29 => ⟨S_, .f32⟩
  | 30 => ⟨S_, .f32⟩
  | 31 => ⟨S1x8x4096x4096, .i1⟩
  | 32 => ⟨S1x8x4096x4096, .f32⟩
  | 33 => ⟨S1x8x4096x4096, .f32⟩
  | 34 => ⟨S_, .f32⟩
  | 35 => ⟨S1x8x4096x4096, .f32⟩
  | 36 => ⟨S_, .f32⟩
  | 37 => ⟨S1x8x4096, .f32⟩
  | 38 => ⟨S1x8x4096x1, .f32⟩
  | 39 => ⟨S1x8x4096x4096, .f32⟩
  | 40 => ⟨S1x8x4096x4096, .i1⟩
  | 41 => ⟨S1x8x4096x4096, .f32⟩
  | 42 => ⟨S_, .f32⟩
  | 43 => ⟨S1x8x4096, .f32⟩
  | 44 => ⟨S_, .f32⟩
  | 45 => ⟨S1x8x4096, .f32⟩
  | 46 => ⟨S1x8x4096, .f32⟩
  | 47 => ⟨S_, .f32⟩
  | 48 => ⟨S1x8x4096, .f32⟩
  | 49 => ⟨S1x8x4096, .i1⟩
  | 50 => ⟨S_, .f32⟩
  | 51 => ⟨S1x8x4096, .f32⟩
  | 52 => ⟨S1x8x4096, .i1⟩
  | 53 => ⟨S_, .f32⟩
  | 54 => ⟨S1x8x4096, .f32⟩
  | 55 => ⟨S_, .f32⟩
  | 56 => ⟨S1x8x4096, .f32⟩
  | 57 => ⟨S_, .f32⟩
  | 58 => ⟨S1x8x4096, .f32⟩
  | 59 => ⟨S1x8x4096, .f32⟩
  | 60 => ⟨S1x8x4096, .f32⟩
  | 61 => ⟨S1x8x4096x1, .f32⟩
  | 62 => ⟨S1x8x4096x4096, .f32⟩
  | 63 => ⟨S1x8x4096x4096, .f32⟩
  | 64 => ⟨S1x8x4096x4096, .f32⟩
  | 65 => ⟨S_, .f32⟩
  | 66 => ⟨S1x8x4096, .f32⟩
  | 67 => ⟨S1x8x4096x1, .f32⟩
  | 68 => ⟨S1x8x4096x4096, .f32⟩
  | 69 => ⟨S1x8x4096x4096, .f32⟩
  | 70 => ⟨S1x8x4096x1, .f32⟩
  | 71 => ⟨S_, .f32⟩
  | 72 => ⟨S1x8x4096x1, .f32⟩
  | 73 => ⟨S1x8x4096x1, .f32⟩
  | 74 => ⟨S1x8x4096x64, .f32⟩
  | 75 => ⟨S1x4096x8x64, .f32⟩
  | 76 => ⟨S1x4096x512, .f32⟩
  | 77 => ⟨S1x4096x512, .f32⟩
  | 78 => ⟨S1x4096x8x64, .f32⟩
  | 79 => ⟨S1x8x4096x64, .f32⟩
  | 80 => ⟨S1x8x64x4096, .f32⟩
  | 81 => ⟨S1x8x4096x64, .f32⟩
  | 82 => ⟨S1x8x4096x4096, .f32⟩
  | 83 => ⟨S1x8x4096x4096, .f32⟩
  | 84 => ⟨S1x8x4096x4096, .f32⟩
  | 85 => ⟨S1x8x4096x4096, .f32⟩
  | 86 => ⟨S_, .f32⟩
  | 87 => ⟨S1x8x4096, .f32⟩
  | 88 => ⟨S1x8x4096x1, .f32⟩
  | 89 => ⟨S1x8x4096x1, .f32⟩
  | 90 => ⟨S1x8x4096x4096, .f32⟩
  | 91 => ⟨S1x8x4096x4096, .f32⟩
  | 92 => ⟨S_, .f32⟩
  | 93 => ⟨S8x4096, .f32⟩
  | 94 => ⟨S1x8x4096, .f32⟩
  | 95 => ⟨S1x8x4096x4096, .f32⟩
  | 96 => ⟨S1x8x4096x4096, .f32⟩
  | 97 => ⟨S1x8x4096x4096, .f32⟩
  | 98 => ⟨S_, .f32⟩
  | 99 => ⟨S1x8x4096x4096, .f32⟩
  | 100 => ⟨S1x8x4096x4096, .f32⟩
  | 101 => ⟨S1x8x4096x4096, .f32⟩
  | 102 => ⟨S_, .f32⟩
  | 103 => ⟨S1x8x4096, .f32⟩
  | 104 => ⟨S1x8x1x4096, .f32⟩
  | 105 => ⟨S_, .f32⟩
  | 106 => ⟨S8x4096, .f32⟩
  | 107 => ⟨S1x8x4096, .f32⟩
  | 108 => ⟨S_, .f32⟩
  | 109 => ⟨S1x8x4096, .f32⟩
  | 110 => ⟨S1x8x4096x1, .f32⟩
  | 111 => ⟨S_, .f32⟩
  | 112 => ⟨S8x4096, .f32⟩
  | 113 => ⟨S1x8x4096, .f32⟩
  | 114 => ⟨S1x8x4096, .f32⟩
  | 115 => ⟨S_, .f32⟩
  | 116 => ⟨S1x8x4096x4096, .f32⟩
  | 117 => ⟨S1x8x4096x4096, .f32⟩
  | 118 => ⟨S1x8x4096x64, .f32⟩
  | 119 => ⟨S1x8x4096x64, .f32⟩
  | 120 => ⟨S1x4096x8, .f32⟩
  | 121 => ⟨S1x4096x8x64, .f32⟩
  | 122 => ⟨S1x4096x512, .f32⟩
  | 123 => ⟨S1x4096x8x64, .f32⟩
  | 124 => ⟨S1x4096x512, .f32⟩
  | 125 => ⟨S1x4096x8x64, .f32⟩
  | 126 => ⟨S1x4096x512, .f32⟩
  | 127 => ⟨S4096x512, .f32⟩
  | _ => ⟨S1x4096x2984, .f32⟩

abbrev hbmTy0_1 (i : Nat) : BufTy := match i % 128 with
  | 0 => ⟨S4096x512, .bf16⟩
  | 1 => ⟨S4096x512, .f32⟩
  | 2 => ⟨S4096x512, .bf16⟩
  | 3 => ⟨S4096x512, .f32⟩
  | 4 => ⟨S4096x512, .bf16⟩
  | 5 => ⟨S4096x8, .f32⟩
  | _ => ⟨S1x4096x2984, .f32⟩

abbrev hbmTy (i : Nat) : BufTy := match i / 128 with
  | 0 => hbmTy0_0 i
  | 1 => hbmTy0_1 i
  | _ => ⟨S1x4096x2984, .f32⟩

abbrev bufTy : (tb : Table) → Fin (tcTables nBuf tb) → BufTy
  | .hbm, ⟨i, _⟩ => hbmTy i
  | _, _ => ⟨S1x4096x2984, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_v25_1 : Ref sig .tc := ⟨.hbm, 31, rfl⟩
abbrev main_call0_v2 : Ref sig .tc := ⟨.hbm, 32, rfl⟩
abbrev main_v25_0 : Ref sig .tc := ⟨.hbm, 33, rfl⟩
abbrev main_call0_cst : Ref sig .tc := ⟨.hbm, 34, rfl⟩
abbrev main_v25_2 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_cst_7 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_12 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_call1_cst : Ref sig .tc := ⟨.hbm, 98, rfl⟩
abbrev main_call1_v0 : Ref sig .tc := ⟨.hbm, 99, rfl⟩
abbrev main_v76 : Ref sig .tc := ⟨.hbm, 100, rfl⟩
abbrev main_v77 : Ref sig .tc := ⟨.hbm, 101, rfl⟩
abbrev main_cst_13 : Ref sig .tc := ⟨.hbm, 102, rfl⟩
abbrev main_v78 : Ref sig .tc := ⟨.hbm, 103, rfl⟩
abbrev main_v79 : Ref sig .tc := ⟨.hbm, 104, rfl⟩
abbrev main_cst_14 : Ref sig .tc := ⟨.hbm, 105, rfl⟩
abbrev main_v80 : Ref sig .tc := ⟨.hbm, 106, rfl⟩
abbrev main_v81 : Ref sig .tc := ⟨.hbm, 107, rfl⟩
abbrev main_cst_15 : Ref sig .tc := ⟨.hbm, 108, rfl⟩
abbrev main_v82 : Ref sig .tc := ⟨.hbm, 109, rfl⟩
abbrev main_v83 : Ref sig .tc := ⟨.hbm, 110, rfl⟩
abbrev main_cst_16 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_17 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩

abbrev nD : Nat := 1
abbrev τ : Topo := Topo.v7x

variable {F : FTy → Type} [FloatOps F]
-- ==== MlaKernel.lean ====
abbrev S1x8x4096x96 : Shape := ⟨4, ![1, 8, 4096, 96]⟩
abbrev S1x8x4096x64 : Shape := ⟨4, ![1, 8, 4096, 64]⟩
abbrev S1x4096x1024 : Shape := ⟨3, ![1, 4096, 1024]⟩
abbrev S1x8x4096x4096 : Shape := ⟨4, ![1, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x8x4096 : Shape := ⟨3, ![1, 8, 4096]⟩
abbrev S1x8x4096x1 : Shape := ⟨4, ![1, 8, 4096, 1]⟩
abbrev S1x4096x8x64 : Shape := ⟨4, ![1, 4096, 8, 64]⟩
abbrev S1x4096x512 : Shape := ⟨3, ![1, 4096, 512]⟩
abbrev S4096x512 : Shape := ⟨2, ![4096, 512]⟩
abbrev S8x4096x1 : Shape := ⟨3, ![8, 4096, 1]⟩
abbrev S8x4096x96 : Shape := ⟨3, ![8, 4096, 96]⟩
abbrev S8x4096x128 : Shape := ⟨3, ![8, 4096, 128]⟩
abbrev S4096x8x128 : Shape := ⟨3, ![4096, 8, 128]⟩
abbrev S4096x1024 : Shape := ⟨2, ![4096, 1024]⟩
abbrev S512x256 : Shape := ⟨2, ![512, 256]⟩
abbrev S512x128 : Shape := ⟨2, ![512, 128]⟩
abbrev S2x512x1 : Shape := ⟨3, ![2, 512, 1]⟩
abbrev S4096x256 : Shape := ⟨2, ![4096, 256]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩

abbrev nBuf : Space → Nat
  | .hbm => 87
  | .vmem => 21
  | .smem => 0
  | _ => 0

abbrev bufTy : (tb : Table) → Fin (tcTables nBuf tb) → BufTy
  | .hbm, ⟨0, _⟩ => ⟨S1x8x4096x96, .f32⟩
  | .hbm, ⟨1, _⟩ => ⟨S1x8x4096x96, .f32⟩
  | .hbm, ⟨2, _⟩ => ⟨S1x8x4096x64, .f32⟩
  | .hbm, ⟨3, _⟩ => ⟨S1x4096x1024, .f32⟩
  | .hbm, ⟨4, _⟩ => ⟨S1x8x4096x4096, .f32⟩
  | .hbm, ⟨5, _⟩ => ⟨S_, .f32⟩
  | .hbm, ⟨6, _⟩ => ⟨S1x8x4096x4096, .f32⟩
  | .hbm, ⟨7, _⟩ => ⟨S1x8x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S1x8x4096x4096, .i1⟩
  | .hbm, ⟨17, _⟩ => ⟨S1x8x4096x4096, .f32⟩
  | .hbm, ⟨18, _⟩ => ⟨S1x8x4096x4096, .f32⟩
  | .hbm, ⟨19, _⟩ => ⟨S_, .f32⟩
  | .hbm, ⟨20, _⟩ => ⟨S1x8x4096, .f32⟩
  | .hbm, ⟨21, _⟩ => ⟨S_, .f32⟩
  | .hbm, ⟨22, _⟩ => ⟨S1x8x4096, .f32⟩
  | .hbm, ⟨23, _⟩ => ⟨S1x8x4096, .f32⟩
  | .hbm, ⟨24, _⟩ => ⟨S1x8x4096x1, .f32⟩
  | .hbm, ⟨25, _⟩ => ⟨S1x8x4096x4096, .f32⟩
  | .hbm, ⟨26, _⟩ => ⟨S1x8x4096x4096, .f32⟩
  | .hbm, ⟨27, _⟩ => ⟨S1x8x4096x4096, .f32⟩
  | .hbm, ⟨28, _⟩ => ⟨S_, .f32⟩
  | .hbm, ⟨29, _⟩ => ⟨S1x8x4096, .f32⟩
  | .hbm, ⟨30, _⟩ => ⟨S1x8x4096x1, .f32⟩
  | .hbm, ⟨31, _⟩ => ⟨S1x8x4096x4096, .f32⟩
  | .hbm, ⟨32, _⟩ => ⟨S1x8x4096x4096, .f32⟩
  | .hbm, ⟨33, _⟩ => ⟨S1x8x4096x64, .f32⟩
  | .hbm, ⟨34, _⟩ => ⟨S1x4096x8x64, .f32⟩
  | .hbm, ⟨35, _⟩ => ⟨S1x4096x512, .f32⟩
  | .hbm, ⟨36, _⟩ => ⟨S4096x512, .f32⟩
  | .hbm, ⟨37, _⟩ => ⟨S1x8x4096x4096, .f32⟩
  | .hbm, ⟨38, _⟩ => ⟨S_, .f32⟩
  | .hbm, ⟨39, _⟩ => ⟨S1x8x4096x4096, .f32⟩
  | .hbm, ⟨40, _⟩ => ⟨S1x8x4096x4096, .f32⟩
  | .hbm, ⟨41, _⟩ => ⟨S4096, .i32⟩
  | .hbm, ⟨42, _⟩ => ⟨S1x4096, .i32⟩
  | .hbm, ⟨43, _⟩ => ⟨S4096x1, .i32⟩
  | .hbm, ⟨44, _⟩ => ⟨S4096x4096, .i32⟩
  | .hbm, ⟨45, _⟩ => ⟨S4096x4096, .i32⟩
  | .hbm, ⟨46, _⟩ => ⟨S4096x4096, .i1⟩
  | .hbm, ⟨47, _⟩ => ⟨S_, .f32⟩
  | .hbm, ⟨48, _⟩ => ⟨S_, .f32⟩
  | .hbm, ⟨49, _⟩ => ⟨S1x8x4096x4096, .i1⟩
  | .hbm, ⟨50, _⟩ => ⟨S1x8x4096x4096, .f32⟩
  | .hbm, ⟨51, _⟩ => ⟨S1x8x4096x4096, .f32⟩
  | .hbm, ⟨52, _⟩ => ⟨S_, .f32⟩
  | .hbm, ⟨53, _⟩ => ⟨S1x8x4096, .f32⟩
  | .hbm, ⟨54, _⟩ => ⟨S1x8x4096x1, .f32⟩
  | .hbm, ⟨55, _⟩ => ⟨S1x8x4096x4096, .f32⟩
  | .hbm, ⟨56, _⟩ => ⟨S1x8x4096x4096, .f32⟩
  | .hbm, ⟨57, _⟩ => ⟨S1x8x4096x4096, .f32⟩
  | .hbm, ⟨58, _⟩ => ⟨S_, .f32⟩
  | .hbm, ⟨59, _⟩ => ⟨S1x8x4096, .f32⟩
  | .hbm, ⟨60, _⟩ => ⟨S1x8x4096x1, .f32⟩
  | .hbm, ⟨61, _⟩ => ⟨S1x8x4096x1, .f32⟩
  | .hbm, ⟨62, _⟩ => ⟨S1x8x4096x1, .f32⟩
  | .hbm, ⟨63, _⟩ => ⟨S8x4096x1, .f32⟩
  | .hbm, ⟨64, _⟩ => ⟨S8x4096x96, .f32⟩
  | .hbm, ⟨65, _⟩ => ⟨S_, .i32⟩
  | .hbm, ⟨66, _⟩ => ⟨S_, .f32⟩
  | .hbm, ⟨67, _⟩ => ⟨S8x4096x128, .f32⟩
  | .hbm, ⟨68, _⟩ => ⟨S4096x8x128, .f32⟩
  | .hbm, ⟨69, _⟩ => ⟨S4096x1024, .f32⟩
  | .hbm, ⟨70, _⟩ => ⟨S4096x1024, .bf16⟩
  | .hbm, ⟨71, _⟩ => ⟨S8x4096x96, .f32⟩
  | .hbm, ⟨72, _⟩ => ⟨S_, .i32⟩
  | .hbm, ⟨73, _⟩ => ⟨S_, .f32⟩
  | .hbm, ⟨74, _⟩ => ⟨S8x4096x128, .f32⟩
  | .hbm, ⟨75, _⟩ => ⟨S4096x8x128, .f32⟩
  | .hbm, ⟨76, _⟩ => ⟨S4096x1024, .f32⟩
  | .hbm, ⟨77, _⟩ => ⟨S4096x1024, .bf16⟩
  | .hbm, ⟨78, _⟩ => ⟨S1x4096x8x64, .f32⟩
  | .hbm, ⟨79, _⟩ => ⟨S1x4096x512, .f32⟩
  | .hbm, ⟨80, _⟩ => ⟨S4096x512, .f32⟩
  | .hbm, ⟨81, _⟩ => ⟨S4096x512, .bf16⟩
  | .hbm, ⟨82, _⟩ => ⟨S4096x1024, .f32⟩
  | .hbm, ⟨83, _⟩ => ⟨S4096x1024, .bf16⟩
  | .hbm, ⟨84, _⟩ => ⟨S4096x1024, .f32⟩
  | .hbm, ⟨85, _⟩ => ⟨S4096x1024, .f32⟩
  | .hbm, ⟨86, _⟩ => ⟨S4096x512, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S512x128, .f32⟩
  | .local _ .vmem, ⟨7, _⟩ => ⟨S512x128, .f32⟩
  | .local _ .vmem, ⟨8, _⟩ => ⟨S512x128, .bf16⟩
  | .local _ .vmem, ⟨9, _⟩ => ⟨S512x128, .bf16⟩
  | .local _ .vmem, ⟨10, _⟩ => ⟨S2x512x1, .f32⟩
  | .local _ .vmem, ⟨11, _⟩ => ⟨S2x512x1, .f32⟩
  | .local _ .vmem, ⟨12, _⟩ => ⟨S4096x256, .f32⟩
  | .local _ .vmem, ⟨13, _⟩ => ⟨S4096x256, .f32⟩
  | .local _ .vmem, ⟨14, _⟩ => ⟨S512x256, .f32⟩
  | .local _ .vmem, ⟨15, _⟩ => ⟨S512x256, .f32⟩
  | .local _ .vmem, ⟨16, _⟩ => ⟨S512x128, .bf16⟩
  | .local _ .vmem, ⟨17, _⟩ => ⟨S512x128, .bf16⟩
  | .local _ .vmem, ⟨18, _⟩ => ⟨S4096x256, .f32⟩
  | .local _ .vmem, ⟨19, _⟩ => ⟨S512x256, .f32⟩
  | .local _ .vmem, ⟨20, _⟩ => ⟨S512x128, .f32⟩
  | _, _ => ⟨S1x8x4096x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c : Ref sig .tc := ⟨.hbm, 65, rfl⟩
abbrev main_call2_v0 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_8 : Ref sig .tc := ⟨.hbm, 72, rfl⟩
abbrev main_call3_v0 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61_0 : Ref sig .tc := ⟨.hbm, 84, rfl⟩
abbrev main_v61_1 : Ref sig .tc := ⟨.hbm, 85, rfl⟩
abbrev main_v61_2 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 8, 8], ![false, false, false]⟩

def k0_cond3 (i : grid0.Coords) : BitVec 1 :=
  let arg2 : BitVec 32 := BitVec.ofNat 32 (i 2).val
  let arg1 : BitVec 32 := BitVec.ofNat 32 (i 1).val
  let v8 : BitVec 1 := Scalar.cmpi .sgt arg2 arg1
  let v9 : BitVec 32 := Scalar.extui v8
  let c0_i32_3 : BitVec 32 := 0#32
  let v10 : BitVec 1 := Scalar.cmpi .ne v9 c0_i32_3
  v10

def k0_mult1 (i : grid0.Coords) : BitVec 32 :=
  let arg2 : BitVec 32 := BitVec.ofNat 32 (i 2).val
  let c512_i32 : BitVec 32 := 512#32
  let v32 : BitVec 32 := Scalar.muli arg2 c512_i32
  v32
def k0_off1 (i : grid0.Coords) : Fin 2 → Nat :=
  let arg2 : BitVec 32 := BitVec.ofNat 32 (i 2).val
  let c512_i32 : BitVec 32 := 512#32
  let v32 : BitVec 32 := Scalar.muli arg2 c512_i32
  let v33 : BitVec 32 := v32
  let v120 : Index := Scalar.indexCast v33
  let c0_52 : Index := 0#32
  ![v120.toNat, 0]
def k0_cond4 (i : grid0.Coords) : BitVec 1 :=
  let arg2 : BitVec 32 := BitVec.ofNat 32 (i 2).val
  let arg1 : BitVec 32 := BitVec.ofNat 32 (i 1).val
  let v11 : BitVec 1 := Scalar.cmpi .eq arg2 arg1
  let v12 : BitVec 32 := Scalar.extui v11
  let c0_i32_4 : BitVec 32 := 0#32
  let v13 : BitVec 1 := Scalar.cmpi .ne v12 c0_i32_4
  v13

def k0_mult2 (i : grid0.Coords) : BitVec 32 :=
  let arg2 : BitVec 32 := BitVec.ofNat 32 (i 2).val
  let c512_i32 : BitVec 32 := 512#32
  let v32 : BitVec 32 := Scalar.muli arg2 c512_i32
  v32
def k0_off2 (i : grid0.Coords) : Fin 2 → Nat :=
  let arg2 : BitVec 32 := BitVec.ofNat 32 (i 2).val
  let c512_i32 : BitVec 32 := 512#32
  let v32 : BitVec 32 := Scalar.muli arg2 c512_i32
  let v33 : BitVec 32 := v32
  let v134 : Index := Scalar.indexCast v33
  let c0_56 : Index := 0#32
  ![v134.toNat, 0]
def k0_cond6 (i : grid0.Coords) : BitVec 1 :=
  let arg1 : BitVec 32 := BitVec.ofNat 32 (i 1).val
  let c7_i32_6 : BitVec 32 := 7#32
  let v17 : BitVec 1 := Scalar.cmpi .eq arg1 c7_i32_6
  let arg2 : BitVec 32 := BitVec.ofNat 32 (i 2).val
  let c7_i32_7 : BitVec 32 := 7#32
  let v18 : BitVec 1 := Scalar.cmpi .eq arg2 c7_i32_7
  let v19 : BitVec 1 := Scalar.andi v17 v18
  let v20 : BitVec 32 := Scalar.extui v19
  let c0_i32_8 : BitVec 32 := 0#32
  let v21 : BitVec 1 := Scalar.cmpi .ne v20 c0_i32_8
  v21

def k0_cond5 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_5 : BitVec 32 := 0#32
  let v16 : BitVec 1 := Scalar.cmpi .ne v15 c0_i32_5
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let v1 : BitVec 32 := Scalar.addi c0_i32 arg0
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let v1 : BitVec 32 := Scalar.addi c0_i32 arg0
  let c0_i32_0 : BitVec 32 := 0#32
  ![v0.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== MlaReferenceIdeal.lean ====
abbrev S1x8x4096x96 : Shape := ⟨4, ![1, 8, 4096, 96]⟩
abbrev S1x8x4096x64 : Shape := ⟨4, ![1, 8, 4096, 64]⟩
abbrev S1x4096x1024 : Shape := ⟨3, ![1, 4096, 1024]⟩
abbrev S1x8x4096x4096 : Shape := ⟨4, ![1, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x8x4096 : Shape := ⟨3, ![1, 8, 4096]⟩
abbrev S1x8x4096x1 : Shape := ⟨4, ![1, 8, 4096, 1]⟩
abbrev S1x4096x8x64 : Shape := ⟨4, ![1, 4096, 8, 64]⟩
abbrev S1x4096x512 : Shape := ⟨3, ![1, 4096, 512]⟩
abbrev S1x8x64x4096 : Shape := ⟨4, ![1, 8, 64, 4096]⟩
abbrev S8x4096 : Shape := ⟨2, ![8, 4096]⟩
abbrev S1x8x4096x128 : Shape := ⟨4, ![1, 8, 4096, 128]⟩
abbrev S1x4096x8x128 : Shape := ⟨4, ![1, 4096, 8, 128]⟩
abbrev S4096x1024 : Shape := ⟨2, ![4096, 1024]⟩
abbrev S4096x512 : Shape := ⟨2, ![4096, 512]⟩

abbrev nBuf : Space → Nat
  | .hbm => 107
  | .vmem => 0
  | .smem => 0
  | _ => 0

abbrev bufTy : (tb : Table) → Fin (tcTables nBuf tb) → BufTy
  | .hbm, ⟨0, _⟩ => ⟨S1x8x4096x96, .f32⟩
  | .hbm, ⟨1, _⟩ => ⟨S1x8x4096x96, .f32⟩
  | .hbm, ⟨2, _⟩ => ⟨S1x8x4096x64, .f32⟩
  | .hbm, ⟨3, _⟩ => ⟨S1x4096x1024, .f32⟩
  | .hbm, ⟨4, _⟩ => ⟨S1x8x4096x4096, .f32⟩
  | .hbm, ⟨5, _⟩ => ⟨S_, .f32⟩
  | .hbm, ⟨6, _⟩ => ⟨S1x8x4096x4096, .f32⟩
  | .hbm, ⟨7, _⟩ => ⟨S1x8x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S1x8x4096x4096, .i1⟩
  | .hbm, ⟨17, _⟩ => ⟨S1x8x4096x4096, .f32⟩
  | .hbm, ⟨18, _⟩ => ⟨S1x8x4096x4096, .f32⟩
  | .hbm, ⟨19, _⟩ => ⟨S_, .f32⟩
  | .hbm, ⟨20, _⟩ => ⟨S1x8x4096x4096, .f32⟩
  | .hbm, ⟨21, _⟩ => ⟨S_, .f32⟩
  | .hbm, ⟨22, _⟩ => ⟨S1x8x4096, .f32⟩
  | .hbm, ⟨23, _⟩ => ⟨S1x8x4096x1, .f32⟩
  | .hbm, ⟨24, _⟩ => ⟨S1x8x4096x4096, .f32⟩
  | .hbm, ⟨25, _⟩ => ⟨S1x8x4096x4096, .i1⟩
  | .hbm, ⟨26, _⟩ => ⟨S1x8x4096x4096, .f32⟩
  | .hbm, ⟨27, _⟩ => ⟨S_, .f32⟩
  | .hbm, ⟨28, _⟩ => ⟨S1x8x4096, .f32⟩
  | .hbm, ⟨29, _⟩ => ⟨S_, .f32⟩
  | .hbm, ⟨30, _⟩ => ⟨S1x8x4096, .f32⟩
  | .hbm, ⟨31, _⟩ => ⟨S1x8x4096, .f32⟩
  | .hbm, ⟨32, _⟩ => ⟨S_, .f32⟩
  | .hbm, ⟨33, _⟩ => ⟨S1x8x4096, .f32⟩
  | .hbm, ⟨34, _⟩ => ⟨S1x8x4096, .i1⟩
  | .hbm, ⟨35, _⟩ => ⟨S_, .f32⟩
  | .hbm, ⟨36, _⟩ => ⟨S1x8x4096, .f32⟩
  | .hbm, ⟨37, _⟩ => ⟨S1x8x4096, .i1⟩
  | .hbm, ⟨38, _⟩ => ⟨S_, .f32⟩
  | .hbm, ⟨39, _⟩ => ⟨S1x8x4096, .f32⟩
  | .hbm, ⟨40, _⟩ => ⟨S_, .f32⟩
  | .hbm, ⟨41, _⟩ => ⟨S1x8x4096, .f32⟩
  | .hbm, ⟨42, _⟩ => ⟨S_, .f32⟩
  | .hbm, ⟨43, _⟩ => ⟨S1x8x4096, .f32⟩
  | .hbm, ⟨44, _⟩ => ⟨S1x8x4096, .f32⟩
  | .hbm, ⟨45, _⟩ => ⟨S1x8x4096, .f32⟩
  | .hbm, ⟨46, _⟩ => ⟨S1x8x4096x1, .f32⟩
  | .hbm, ⟨47, _⟩ => ⟨S1x8x4096x4096, .f32⟩
  | .hbm, ⟨48, _⟩ => ⟨S1x8x4096x4096, .f32⟩
  | .hbm, ⟨49, _⟩ => ⟨S1x8x4096x4096, .f32⟩
  | .hbm, ⟨50, _⟩ => ⟨S_, .f32⟩
  | .hbm, ⟨51, _⟩ => ⟨S1x8x4096, .f32⟩
  | .hbm, ⟨52, _⟩ => ⟨S1x8x4096x1, .f32⟩
  | .hbm, ⟨53, _⟩ => ⟨S1x8x4096x4096, .f32⟩
  | .hbm, ⟨54, _⟩ => ⟨S1x8x4096x4096, .f32⟩
  | .hbm, ⟨55, _⟩ => ⟨S1x8x4096x1, .f32⟩
  | .hbm, ⟨56, _⟩ => ⟨S_, .f32⟩
  | .hbm, ⟨57, _⟩ => ⟨S1x8x4096x1, .f32⟩
  | .hbm, ⟨58, _⟩ => ⟨S1x8x4096x1, .f32⟩
  | .hbm, ⟨59, _⟩ => ⟨S1x8x4096x64, .f32⟩
  | .hbm, ⟨60, _⟩ => ⟨S1x4096x8x64, .f32⟩
  | .hbm, ⟨61, _⟩ => ⟨S1x4096x512, .f32⟩
  | .hbm, ⟨62, _⟩ => ⟨S1x4096x512, .f32⟩
  | .hbm, ⟨63, _⟩ => ⟨S1x4096x8x64, .f32⟩
  | .hbm, ⟨64, _⟩ => ⟨S1x8x4096x64, .f32⟩
  | .hbm, ⟨65, _⟩ => ⟨S1x8x64x4096, .f32⟩
  | .hbm, ⟨66, _⟩ => ⟨S1x8x4096x64, .f32⟩
  | .hbm, ⟨67, _⟩ => ⟨S1x8x4096x4096, .f32⟩
  | .hbm, ⟨68, _⟩ => ⟨S1x8x4096x4096, .f32⟩
  | .hbm, ⟨69, _⟩ => ⟨S1x8x4096x4096, .f32⟩
  | .hbm, ⟨70, _⟩ => ⟨S1x8x4096x4096, .f32⟩
  | .hbm, ⟨71, _⟩ => ⟨S_, .f32⟩
  | .hbm, ⟨72, _⟩ => ⟨S1x8x4096, .f32⟩
  | .hbm, ⟨73, _⟩ => ⟨S1x8x4096x1, .f32⟩
  | .hbm, ⟨74, _⟩ => ⟨S1x8x4096x1, .f32⟩
  | .hbm, ⟨75, _⟩ => ⟨S1x8x4096x4096, .f32⟩
  | .hbm, ⟨76, _⟩ => ⟨S1x8x4096x4096, .f32⟩
  | .hbm, ⟨77, _⟩ => ⟨S_, .f32⟩
  | .hbm, ⟨78, _⟩ => ⟨S8x4096, .f32⟩
  | .hbm, ⟨79, _⟩ => ⟨S1x8x4096, .f32⟩
  | .hbm, ⟨80, _⟩ => ⟨S1x8x4096x4096, .f32⟩
  | .hbm, ⟨81, _⟩ => ⟨S1x8x4096x4096, .f32⟩
  | .hbm, ⟨82, _⟩ => ⟨S1x8x4096x4096, .f32⟩
  | .hbm, ⟨83, _⟩ => ⟨S_, .f32⟩
  | .hbm, ⟨84, _⟩ => ⟨S1x8x4096x4096, .f32⟩
  | .hbm, ⟨85, _⟩ => ⟨S1x8x4096x4096, .f32⟩
  | .hbm, ⟨86, _⟩ => ⟨S_, .f32⟩
  | .hbm, ⟨87, _⟩ => ⟨S1x8x4096x4096, .f32⟩
  | .hbm, ⟨88, _⟩ => ⟨S1x8x4096x4096, .f32⟩
  | .hbm, ⟨89, _⟩ => ⟨S1x8x4096x96, .f32⟩
  | .hbm, ⟨90, _⟩ => ⟨S1x8x4096x96, .f32⟩
  | .hbm, ⟨91, _⟩ => ⟨S_, .i32⟩
  | .hbm, ⟨92, _⟩ => ⟨S_, .f32⟩
  | .hbm, ⟨93, _⟩ => ⟨S1x8x4096x128, .f32⟩
  | .hbm, ⟨94, _⟩ => ⟨S1x4096x8x128, .f32⟩
  | .hbm, ⟨95, _⟩ => ⟨S1x4096x1024, .f32⟩
  | .hbm, ⟨96, _⟩ => ⟨S4096x1024, .f32⟩
  | .hbm, ⟨97, _⟩ => ⟨S_, .i32⟩
  | .hbm, ⟨98, _⟩ => ⟨S_, .f32⟩
  | .hbm, ⟨99, _⟩ => ⟨S1x8x4096x128, .f32⟩
  | .hbm, ⟨100, _⟩ => ⟨S1x4096x8x128, .f32⟩
  | .hbm, ⟨101, _⟩ => ⟨S1x4096x1024, .f32⟩
  | .hbm, ⟨102, _⟩ => ⟨S4096x1024, .f32⟩
  | .hbm, ⟨103, _⟩ => ⟨S1x4096x8x64, .f32⟩
  | .hbm, ⟨104, _⟩ => ⟨S1x4096x512, .f32⟩
  | .hbm, ⟨105, _⟩ => ⟨S4096x512, .f32⟩
  | .hbm, ⟨106, _⟩ => ⟨S4096x512, .bf16⟩
  | _, _ => ⟨S1x8x4096x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call1_cst : Ref sig .tc := ⟨.hbm, 83, rfl⟩
abbrev main_call1_v0 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_14 : Ref sig .tc := ⟨.hbm, 97, rfl⟩
abbrev main_call3_v0 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩

abbrev nD : Nat := 1
abbrev τ : Topo := Topo.v7x

variable {F : FTy → Type} [FloatOps F]
-- ==== RopeKernel.lean ====
abbrev S1x16x4096x64 : Shape := ⟨4, ![1, 16, 4096, 64]⟩
abbrev S1x2x4096x64 : Shape := ⟨4, ![1, 2, 4096, 64]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x32 : Shape := ⟨2, ![4096, 32]⟩
abbrev S4096x128 : Shape := ⟨2, ![4096, 128]⟩
abbrev S32 : Shape := ⟨1, ![32]⟩
abbrev S1x32 : Shape := ⟨2, ![1, 32]⟩
abbrev S16x4096x64 : Shape := ⟨3, ![16, 4096, 64]⟩
abbrev S2x8x4096x64 : Shape := ⟨4, ![2, 8, 4096, 64]⟩
abbrev S8x2x64x4096 : Shape := ⟨4, ![8, 2, 64, 4096]⟩
abbrev S1024x4096 : Shape := ⟨2, ![1024, 4096]⟩
abbrev S2x4096x64 : Shape := ⟨3, ![2, 4096, 64]⟩
abbrev S4096x2x64 : Shape := ⟨3, ![4096, 2, 64]⟩
abbrev S4096x1024 : Shape := ⟨2, ![4096, 1024]⟩
abbrev S1024x256 : Shape := ⟨2, ![1024, 256]⟩
abbrev S256x128 : Shape := ⟨2, ![256, 128]⟩
abbrev S256x1024 : Shape := ⟨2, ![256, 1024]⟩

abbrev nBuf : Space → Nat
  | .hbm => 67
  | .vmem => 12
  | .smem => 0
  | _ => 0

abbrev bufTy : (tb : Table) → Fin (tcTables nBuf tb) → BufTy
  | .hbm, ⟨0, _⟩ => ⟨S1x16x4096x64, .f32⟩
  | .hbm, ⟨1, _⟩ => ⟨S1x2x4096x64, .f32⟩
  | .hbm, ⟨2, _⟩ => ⟨S4096, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S4096x1, .f32⟩
  | .hbm, ⟨18, _⟩ => ⟨S1x16, .f32⟩
  | .hbm, ⟨19, _⟩ => ⟨S4096x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S_, .f32⟩
  | .hbm, ⟨25, _⟩ => ⟨S4096x64, .f32⟩
  | .hbm, ⟨26, _⟩ => ⟨S_, .f32⟩
  | .hbm, ⟨27, _⟩ => ⟨S4096x64, .f32⟩
  | .hbm, ⟨28, _⟩ => ⟨S4096x32, .f32⟩
  | .hbm, ⟨29, _⟩ => ⟨S4096x128, .f32⟩
  | .hbm, ⟨30, _⟩ => ⟨S4096x16, .f32⟩
  | .hbm, ⟨31, _⟩ => ⟨S4096x32, .f32⟩
  | .hbm, ⟨32, _⟩ => ⟨S4096x128, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S32, .f32⟩
  | .hbm, ⟨41, _⟩ => ⟨S_, .f32⟩
  | .hbm, ⟨42, _⟩ => ⟨S32, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S4096x1, .f32⟩
  | .hbm, ⟨48, _⟩ => ⟨S1x32, .f32⟩
  | .hbm, ⟨49, _⟩ => ⟨S4096x32, .f32⟩
  | .hbm, ⟨50, _⟩ => ⟨S4096x32, .f32⟩
  | .hbm, ⟨51, _⟩ => ⟨S4096x32, .f32⟩
  | .hbm, ⟨52, _⟩ => ⟨S4096x32, .f32⟩
  | .hbm, ⟨53, _⟩ => ⟨S4096x32, .f32⟩
  | .hbm, ⟨54, _⟩ => ⟨S4096x128, .f32⟩
  | .hbm, ⟨55, _⟩ => ⟨S4096x32, .f32⟩
  | .hbm, ⟨56, _⟩ => ⟨S4096x32, .f32⟩
  | .hbm, ⟨57, _⟩ => ⟨S4096x128, .f32⟩
  | .hbm, ⟨58, _⟩ => ⟨S16x4096x64, .f32⟩
  | .hbm, ⟨59, _⟩ => ⟨S2x8x4096x64, .f32⟩
  | .hbm, ⟨60, _⟩ => ⟨S8x2x64x4096, .f32⟩
  | .hbm, ⟨61, _⟩ => ⟨S1024x4096, .f32⟩
  | .hbm, ⟨62, _⟩ => ⟨S2x4096x64, .f32⟩
  | .hbm, ⟨63, _⟩ => ⟨S4096x2x64, .f32⟩
  | .hbm, ⟨64, _⟩ => ⟨S4096x128, .f32⟩
  | .hbm, ⟨65, _⟩ => ⟨S4096x1024, .bf16⟩
  | .hbm, ⟨66, _⟩ => ⟨S4096x128, .bf16⟩
  | .local _ .vmem, ⟨0, _⟩ => ⟨S1024x256, .f32⟩
  | .local _ .vmem, ⟨1, _⟩ => ⟨S1024x256, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x1024, .bf16⟩
  | .local _ .vmem, ⟨9, _⟩ => ⟨S256x1024, .bf16⟩
  | .local _ .vmem, ⟨10, _⟩ => ⟨S256x128, .bf16⟩
  | .local _ .vmem, ⟨11, _⟩ => ⟨S256x128, .bf16⟩
  | _, _ => ⟨S1x16x4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_7 : Ref sig .tc := ⟨.hbm, 41, rfl⟩
abbrev main_v31 : Ref sig .tc := ⟨.hbm, 42, rfl⟩
abbrev main_v32 : Ref sig .tc := ⟨.hbm, 43, rfl⟩
abbrev main_cst_8 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53_0 : Ref sig .tc := ⟨.hbm, 65, rfl⟩
abbrev main_v53_1 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RopeReferenceIdeal.lean ====
abbrev S1x16x4096x64 : Shape := ⟨4, ![1, 16, 4096, 64]⟩
abbrev S1x2x4096x64 : Shape := ⟨4, ![1, 2, 4096, 64]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x16x4096x32 : Shape := ⟨4, ![1, 16, 4096, 32]⟩
abbrev S1x1x4096x32 : Shape := ⟨4, ![1, 1, 4096, 32]⟩
abbrev S1x2x4096x32 : Shape := ⟨4, ![1, 2, 4096, 32]⟩
abbrev S2x8x4096x64 : Shape := ⟨4, ![2, 8, 4096, 64]⟩
abbrev S4096x8x2x64 : Shape := ⟨4, ![4096, 8, 2, 64]⟩
abbrev S4096x1024 : Shape := ⟨2, ![4096, 1024]⟩
abbrev S2x4096x64 : Shape := ⟨3, ![2, 4096, 64]⟩
abbrev S4096x2x64 : Shape := ⟨3, ![4096, 2, 64]⟩
abbrev S4096x128 : Shape := ⟨2, ![4096, 128]⟩

abbrev nBuf : Space → Nat
  | .hbm => 117
  | .vmem => 0
  | .smem => 0
  | _ => 0

abbrev bufTy : (tb : Table) → Fin (tcTables nBuf tb) → BufTy
  | .hbm, ⟨0, _⟩ => ⟨S1x16x4096x64, .f32⟩
  | .hbm, ⟨1, _⟩ => ⟨S1x2x4096x64, .f32⟩
  | .hbm, ⟨2, _⟩ => ⟨S4096, .i32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S4096, .f32⟩
  | .hbm, ⟨18, _⟩ => ⟨S4096x1, .f32⟩
  | .hbm, ⟨19, _⟩ => ⟨S1x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S1x16x4096x32, .f32⟩
  | .hbm, ⟨26, _⟩ => ⟨S1x16x4096x32, .f32⟩
  | .hbm, ⟨27, _⟩ => ⟨S1x1x4096x32, .f32⟩
  | .hbm, ⟨28, _⟩ => ⟨S1x16x4096x32, .f32⟩
  | .hbm, ⟨29, _⟩ => ⟨S1x16x4096x32, .f32⟩
  | .hbm, ⟨30, _⟩ => ⟨S1x1x4096x32, .f32⟩
  | .hbm, ⟨31, _⟩ => ⟨S1x16x4096x32, .f32⟩
  | .hbm, ⟨32, _⟩ => ⟨S1x16x4096x32, .f32⟩
  | .hbm, ⟨33, _⟩ => ⟨S1x16x4096x32, .f32⟩
  | .hbm, ⟨34, _⟩ => ⟨S1x1x4096x32, .f32⟩
  | .hbm, ⟨35, _⟩ => ⟨S1x16x4096x32, .f32⟩
  | .hbm, ⟨36, _⟩ => ⟨S1x16x4096x32, .f32⟩
  | .hbm, ⟨37, _⟩ => ⟨S1x1x4096x32, .f32⟩
  | .hbm, ⟨38, _⟩ => ⟨S1x16x4096x32, .f32⟩
  | .hbm, ⟨39, _⟩ => ⟨S1x16x4096x32, .f32⟩
  | .hbm, ⟨40, _⟩ => ⟨S1x16x4096x32, .f32⟩
  | .hbm, ⟨41, _⟩ => ⟨S1x16x4096x64, .f32⟩
  | .hbm, ⟨42, _⟩ => ⟨S32, .f32⟩
  | .hbm, ⟨43, _⟩ => ⟨S_, .f32⟩
  | .hbm, ⟨44, _⟩ => ⟨S32, .f32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S32, .f32⟩
  | .hbm, ⟨50, _⟩ => ⟨S_, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S4096, .f32⟩
  | .hbm, ⟨57, _⟩ => ⟨S4096x1, .f32⟩
  | .hbm, ⟨58, _⟩ => ⟨S1x32, .f32⟩
  | .hbm, ⟨59, _⟩ => ⟨S4096x32, .f32⟩
  | .hbm, ⟨60, _⟩ => ⟨S4096x32, .f32⟩
  | .hbm, ⟨61, _⟩ => ⟨S4096x32, .f32⟩
  | .hbm, ⟨62, _⟩ => ⟨S4096x32, .f32⟩
  | .hbm, ⟨63, _⟩ => ⟨S4096x32, .f32⟩
  | .hbm, ⟨64, _⟩ => ⟨S1x2x4096x32, .f32⟩
  | .hbm, ⟨65, _⟩ => ⟨S1x2x4096x32, .f32⟩
  | .hbm, ⟨66, _⟩ => ⟨S1x1x4096x32, .f32⟩
  | .hbm, ⟨67, _⟩ => ⟨S1x2x4096x32, .f32⟩
  | .hbm, ⟨68, _⟩ => ⟨S1x2x4096x32, .f32⟩
  | .hbm, ⟨69, _⟩ => ⟨S1x1x4096x32, .f32⟩
  | .hbm, ⟨70, _⟩ => ⟨S1x2x4096x32, .f32⟩
  | .hbm, ⟨71, _⟩ => ⟨S1x2x4096x32, .f32⟩
  | .hbm, ⟨72, _⟩ => ⟨S1x2x4096x32, .f32⟩
  | .hbm, ⟨73, _⟩ => ⟨S1x1x4096x32, .f32⟩
  | .hbm, ⟨74, _⟩ => ⟨S1x2x4096x32, .f32⟩
  | .hbm, ⟨75, _⟩ => ⟨S1x2x4096x32, .f32⟩
  | .hbm, ⟨76, _⟩ => ⟨S1x1x4096x32, .f32⟩
  | .hbm, ⟨77, _⟩ => ⟨S1x2x4096x32, .f32⟩
  | .hbm, ⟨78, _⟩ => ⟨S1x2x4096x32, .f32⟩
  | .hbm, ⟨79, _⟩ => ⟨S1x2x4096x32, .f32⟩
  | .hbm, ⟨80, _⟩ => ⟨S1x2x4096x64, .f32⟩
  | .hbm, ⟨81, _⟩ => ⟨S1x2x4096x32, .f32⟩
  | .hbm, ⟨82, _⟩ => ⟨S1x2x4096x32, .f32⟩
  | .hbm, ⟨83, _⟩ => ⟨S1x2x4096x32, .f32⟩
  | .hbm, ⟨84, _⟩ => ⟨S1x2x4096x32, .f32⟩
  | .hbm, ⟨85, _⟩ => ⟨S1x2x4096x32, .f32⟩
  | .hbm, ⟨86, _⟩ => ⟨S1x2x4096x32, .f32⟩
  | .hbm, ⟨87, _⟩ => ⟨S1x2x4096x32, .f32⟩
  | .hbm, ⟨88, _⟩ => ⟨S1x2x4096x32, .f32⟩
  | .hbm, ⟨89, _⟩ => ⟨S1x2x4096x32, .f32⟩
  | .hbm, ⟨90, _⟩ => ⟨S1x2x4096x32, .f32⟩
  | .hbm, ⟨91, _⟩ => ⟨S1x2x4096x32, .f32⟩
  | .hbm, ⟨92, _⟩ => ⟨S1x2x4096x32, .f32⟩
  | .hbm, ⟨93, _⟩ => ⟨S1x2x4096x32, .f32⟩
  | .hbm, ⟨94, _⟩ => ⟨S1x2x4096x64, .f32⟩
  | .hbm, ⟨95, _⟩ => ⟨S1x16x4096x32, .f32⟩
  | .hbm, ⟨96, _⟩ => ⟨S1x16x4096x32, .f32⟩
  | .hbm, ⟨97, _⟩ => ⟨S1x16x4096x32, .f32⟩
  | .hbm, ⟨98, _⟩ => ⟨S1x16x4096x32, .f32⟩
  | .hbm, ⟨99, _⟩ => ⟨S1x16x4096x32, .f32⟩
  | .hbm, ⟨100, _⟩ => ⟨S1x16x4096x32, .f32⟩
  | .hbm, ⟨101, _⟩ => ⟨S1x16x4096x32, .f32⟩
  | .hbm, ⟨102, _⟩ => ⟨S1x16x4096x32, .f32⟩
  | .hbm, ⟨103, _⟩ => ⟨S1x16x4096x32, .f32⟩
  | .hbm, ⟨104, _⟩ => ⟨S1x16x4096x32, .f32⟩
  | .hbm, ⟨105, _⟩ => ⟨S1x16x4096x32, .f32⟩
  | .hbm, ⟨106, _⟩ => ⟨S1x16x4096x32, .f32⟩
  | .hbm, ⟨107, _⟩ => ⟨S1x16x4096x32, .f32⟩
  | .hbm, ⟨108, _⟩ => ⟨S1x16x4096x64, .f32⟩
  | .hbm, ⟨109, _⟩ => ⟨S2x8x4096x64, .f32⟩
  | .hbm, ⟨110, _⟩ => ⟨S4096x8x2x64, .f32⟩
  | .hbm, ⟨111, _⟩ => ⟨S4096x1024, .f32⟩
  | .hbm, ⟨112, _⟩ => ⟨S4096x1024, .bf16⟩
  | .hbm, ⟨113, _⟩ => ⟨S2x4096x64, .f32⟩
  | .hbm, ⟨114, _⟩ => ⟨S4096x2x64, .f32⟩
  | .hbm, ⟨115, _⟩ => ⟨S4096x128, .f32⟩
  | .hbm, ⟨116, _⟩ => ⟨S4096x128, .bf16⟩
  | _, _ => ⟨S1x16x4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_3 : Ref sig .tc := ⟨.hbm, 43, rfl⟩
abbrev main_v37 : Ref sig .tc := ⟨.hbm, 44, rfl⟩
abbrev main_v38 : Ref sig .tc := ⟨.hbm, 45, rfl⟩
abbrev main_cst_4 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_5 : Ref sig .tc := ⟨.hbm, 50, rfl⟩
abbrev main_v42 : Ref sig .tc := ⟨.hbm, 51, rfl⟩
abbrev main_v43 : Ref sig .tc := ⟨.hbm, 52, rfl⟩
abbrev main_cst_6 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩

abbrev nD : Nat := 1
abbrev τ : Topo := Topo.v7x

variable {F : FTy → Type} [FloatOps F]
-- ==== CumKernel.lean ====
abbrev S1x4096x8 : Shape := ⟨3, ![1, 4096, 8]⟩
abbrev S4096x8 : Shape := ⟨2, ![4096, 8]⟩
abbrev S_ : Shape := ⟨0, ![]⟩
abbrev S4096x128 : Shape := ⟨2, ![4096, 128]⟩
abbrev S512x128 : Shape := ⟨2, ![512, 128]⟩
abbrev S1x128 : Shape := ⟨2, ![1, 128]⟩
abbrev S512x512 : Shape := ⟨2, ![512, 512]⟩

abbrev nBuf : Space → Nat
  | .hbm => 7
  | .vmem => 5
  | .smem => 0
  | _ => 0

abbrev bufTy : (tb : Table) → Fin (tcTables nBuf tb) → BufTy
  | .hbm, ⟨0, _⟩ => ⟨S1x4096x8, .f32⟩
  | .hbm, ⟨1, _⟩ => ⟨S4096x8, .f32⟩
  | .hbm, ⟨2, _⟩ => ⟨S_, .i32⟩
  | .hbm, ⟨3, _⟩ => ⟨S_, .f32⟩
  | .hbm, ⟨4, _⟩ => ⟨S4096x128, .f32⟩
  | .hbm, ⟨5, _⟩ => ⟨S4096x128, .f32⟩
  | .hbm, ⟨6, _⟩ => ⟨S4096x8, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | _, _ => ⟨S1x4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CumReferenceIdeal.lean ====
abbrev S1x4096x8 : Shape := ⟨3, ![1, 4096, 8]⟩
abbrev S_ : Shape := ⟨0, ![]⟩
abbrev S4096x8 : Shape := ⟨2, ![4096, 8]⟩

abbrev nBuf : Space → Nat
  | .hbm => 8
  | .vmem => 0
  | .smem => 0
  | _ => 0

abbrev bufTy : (tb : Table) → Fin (tcTables nBuf tb) → BufTy
  | .hbm, ⟨0, _⟩ => ⟨S1x4096x8, .f32⟩
  | .hbm, ⟨1, _⟩ => ⟨S_, .f32⟩
  | .hbm, ⟨2, _⟩ => ⟨S_, .f32⟩
  | .hbm, ⟨3, _⟩ => ⟨S1x4096x8, .f32⟩
  | .hbm, ⟨4, _⟩ => ⟨S_, .f32⟩
  | .hbm, ⟨5, _⟩ => ⟨S_, .f32⟩
  | .hbm, ⟨6, _⟩ => ⟨S1x4096x8, .f32⟩
  | .hbm, ⟨7, _⟩ => ⟨S4096x8, .f32⟩
  | _, _ => ⟨S1x4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_v0 : Ref sig .tc := ⟨.hbm, 3, rfl⟩
abbrev main_call1_cst : Ref sig .tc := ⟨.hbm, 4, rfl⟩
abbrev main_call1_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== MlafKernel.lean ====
abbrev S1x8x4096x96 : Shape := ⟨4, ![1, 8, 4096, 96]⟩
abbrev S1x8x4096x64 : Shape := ⟨4, ![1, 8, 4096, 64]⟩
abbrev S8x4096x96 : Shape := ⟨3, ![8, 4096, 96]⟩
abbrev S_ : Shape := ⟨0, ![]⟩
abbrev S8x4096x128 : Shape := ⟨3, ![8, 4096, 128]⟩
abbrev S4096x8x128 : Shape := ⟨3, ![4096, 8, 128]⟩
abbrev S4096x1024 : Shape := ⟨2, ![4096, 1024]⟩
abbrev S1x4096x8x64 : Shape := ⟨4, ![1, 4096, 8, 64]⟩
abbrev S1x4096x512 : Shape := ⟨3, ![1, 4096, 512]⟩
abbrev S4096x512 : Shape := ⟨2, ![4096, 512]⟩
abbrev S8x4096x1 : Shape := ⟨3, ![8, 4096, 1]⟩
abbrev S512x256 : Shape := ⟨2, ![512, 256]⟩
abbrev S4096x256 : Shape := ⟨2, ![4096, 256]⟩
abbrev S4096x128 : Shape := ⟨2, ![4096, 128]⟩
abbrev S512x128 : Shape := ⟨2, ![512, 128]⟩
abbrev S2x512x1 : Shape := ⟨3, ![2, 512, 1]⟩
abbrev S512x1 : Shape := ⟨2, ![512, 1]⟩
abbrev S512x512 : Shape := ⟨2, ![512, 512]⟩
abbrev S512 : Shape := ⟨1, ![512]⟩
abbrev S1x512x1 : Shape := ⟨3, ![1, 512, 1]⟩

abbrev nBuf : Space → Nat
  | .hbm => 23
  | .vmem => 10
  | .smem => 0
  | _ => 0

abbrev bufTy : (tb : Table) → Fin (tcTables nBuf tb) → BufTy
  | .hbm, ⟨0, _⟩ => ⟨S1x8x4096x96, .f32⟩
  | .hbm, ⟨1, _⟩ => ⟨S1x8x4096x96, .f32⟩
  | .hbm, ⟨2, _⟩ => ⟨S1x8x4096x64, .f32⟩
  | .hbm, ⟨3, _⟩ => ⟨S8x4096x96, .f32⟩
  | .hbm, ⟨4, _⟩ => ⟨S_, .i32⟩
  | .hbm, ⟨5, _⟩ => ⟨S_, .f32⟩
  | .hbm, ⟨6, _⟩ => ⟨S8x4096x128, .f32⟩
  | .hbm, ⟨7, _⟩ => ⟨S4096x8x128, .f32⟩
  | .hbm, ⟨8, _⟩ => ⟨S4096x1024, .f32⟩
  | .hbm, ⟨9, _⟩ => ⟨S4096x1024, .bf16⟩
  | .hbm, ⟨10, _⟩ => ⟨S8x4096x96, .f32⟩
  | .hbm, ⟨11, _⟩ => ⟨S_, .i32⟩
  | .hbm, ⟨12, _⟩ => ⟨S_, .f32⟩
  | .hbm, ⟨13, _⟩ => ⟨S8x4096x128, .f32⟩
  | .hbm, ⟨14, _⟩ => ⟨S4096x8x128, .f32⟩
  | .hbm, ⟨15, _⟩ => ⟨S4096x1024, .f32⟩
  | .hbm, ⟨16, _⟩ => ⟨S4096x1024, .bf16⟩
  | .hbm, ⟨17, _⟩ => ⟨S1x4096x8x64, .f32⟩
  | .hbm, ⟨18, _⟩ => ⟨S1x4096x512, .f32⟩
  | .hbm, ⟨19, _⟩ => ⟨S4096x512, .f32⟩
  | .hbm, ⟨20, _⟩ => ⟨S4096x512, .bf16⟩
  | .hbm, ⟨21, _⟩ => ⟨S4096x512, .f32⟩
  | .hbm, ⟨22, _⟩ => ⟨S8x4096x1, .f32⟩
  | .local _ .vmem, ⟨0, _⟩ => ⟨S512x256, .bf16⟩
  | .local _ .vmem, ⟨1, _⟩ => ⟨S512x256, .bf16⟩
  | .local _ .vmem, ⟨2, _⟩ => ⟨S4096x256, .bf16⟩
  | .local _ .vmem, ⟨3, _⟩ => ⟨S4096x256, .bf16⟩
  | .local _ .vmem, ⟨4, _⟩ => ⟨S4096x128, .bf16⟩
  | .local _ .vmem, ⟨5, _⟩ => ⟨S4096x128, .bf16⟩
  | .local _ .vmem, ⟨6, _⟩ => ⟨S512x128, .f32⟩
  | .local _ .vmem, ⟨7, _⟩ => ⟨S512x128, .f32⟩
  | .local _ .vmem, ⟨8, _⟩ => ⟨S2x512x1, .f32⟩
  | .local _ .vmem, ⟨9, _⟩ => ⟨S2x512x1, .f32⟩
  | _, _ => ⟨S1x8x4096x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_call1_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32 : BitVec 32 := 0#32
  let arg1 : BitVec 32 := BitVec.ofNat 32 (i 1).val
  let v7 : BitVec 32 := Scalar.subi arg1 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_3 : BitVec 32 := 1#32
  ⟨c0_i32, v11, c1_i32_3⟩
def k0_mult1 (i : grid0.Coords) (k0_t1 : Fin (k0_t1_loop i).trips) : BitVec 32 :=
  let c0_i32 : BitVec 32 := 0#32
  let c1_i32_3 : BitVec 32 := 1#32
  let arg7 : BitVec 32 := Scf.iv c0_i32 c1_i32_3 k0_t1
  let c512_i32_28 : BitVec 32 := 512#32
  let v96 : BitVec 32 := Scalar.muli arg7 c512_i32_28
  v96
def k0_off1 (i : grid0.Coords) (k0_t1 : Fin (k0_t1_loop i).trips) : Fin 2 → Nat :=
  let c0_i32 : BitVec 32 := 0#32
  let c1_i32_3 : BitVec 32 := 1#32
  let arg7 : BitVec 32 := Scf.iv c0_i32 c1_i32_3 k0_t1
  let c512_i32_28 : BitVec 32 := 512#32
  let v96 : BitVec 32 := Scalar.muli arg7 c512_i32_28
  let v97 : BitVec 32 := v96
  let v98 : Index := Scalar.indexCast v97
  let c0_29 : Index := 0#32
  ![v98.toNat, 0]
def k0_mult2 (i : grid0.Coords) (k0_t1 : Fin (k0_t1_loop i).trips) : BitVec 32 :=
  let c0_i32 : BitVec 32 := 0#32
  let c1_i32_3 : BitVec 32 := 1#32
  let arg7 : BitVec 32 := Scf.iv c0_i32 c1_i32_3 k0_t1
  let c512_i32_34 : BitVec 32 := 512#32
  let v109 : BitVec 32 := Scalar.muli arg7 c512_i32_34
  v109
def k0_off2 (i : grid0.Coords) (k0_t1 : Fin (k0_t1_loop i).trips) : Fin 2 → Nat :=
  let c0_i32 : BitVec 32 := 0#32
  let c1_i32_3 : BitVec 32 := 1#32
  let arg7 : BitVec 32 := Scf.iv c0_i32 c1_i32_3 k0_t1
  let c512_i32_34 : BitVec 32 := 512#32
  let v109 : BitVec 32 := Scalar.muli arg7 c512_i32_34
  let v110 : BitVec 32 := v109
  let v111 : Index := Scalar.indexCast v110
  let c0_35 : Index := 0#32
  ![v111.toNat, 0]
@[reducible] def k0_t2_loop (i : grid0.Coords) : Scf.Loop 32 :=
  let c0_i32 : BitVec 32 := 0#32
  let arg1 : BitVec 32 := BitVec.ofNat 32 (i 1).val
  let v7 : BitVec 32 := Scalar.subi arg1 c0_i32
  let c1_i32 : BitVec 32 := 1#32
  let v9 : BitVec 32 := Scalar.divsi v7 c1_i32
  let v10 : BitVec 32 := Scalar.muli v9 c1_i32
  let v11 : BitVec 32 := Scalar.addi c0_i32 v10
  let v8 : BitVec 32 := Scalar.addi c0_i32 v7
  let c1_i32_4 : BitVec 32 := 1#32
  ⟨v11, v8, c1_i32_4⟩
def k0_mult3 (i : grid0.Coords) (k0_t2 : Fin (k0_t2_loop i).trips) : BitVec 32 :=
  let c0_i32 : BitVec 32 := 0#32
  let arg1 : BitVec 32 := BitVec.ofNat 32 (i 1).val
  let v7 : BitVec 32 := Scalar.subi arg1 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_4 : BitVec 32 := 1#32
  let arg7 : BitVec 32 := Scf.iv v11 c1_i32_4 k0_t2
  let c512_i32_28 : BitVec 32 := 512#32
  let v96 : BitVec 32 := Scalar.muli arg7 c512_i32_28
  v96
def k0_off3 (i : grid0.Coords) (k0_t2 : Fin (k0_t2_loop i).trips) : Fin 2 → Nat :=
  let c0_i32 : BitVec 32 := 0#32
  let arg1 : BitVec 32 := BitVec.ofNat 32 (i 1).val
  let v7 : BitVec 32 := Scalar.subi arg1 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_4 : BitVec 32 := 1#32
  let arg7 : BitVec 32 := Scf.iv v11 c1_i32_4 k0_t2
  let c512_i32_28 : BitVec 32 := 512#32
  let v96 : BitVec 32 := Scalar.muli arg7 c512_i32_28
  let v97 : BitVec 32 := v96
  let v98 : Index := Scalar.indexCast v97
  let c0_29 : Index := 0#32
  ![v98.toNat, 0]
def k0_mult4 (i : grid0.Coords) (k0_t2 : Fin (k0_t2_loop i).trips) : BitVec 32 :=
  let c0_i32 : BitVec 32 := 0#32
  let arg1 : BitVec 32 := BitVec.ofNat 32 (i 1).val
  let v7 : BitVec 32 := Scalar.subi arg1 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_4 : BitVec 32 := 1#32
  let arg7 : BitVec 32 := Scf.iv v11 c1_i32_4 k0_t2
  let c512_i32_34 : BitVec 32 := 512#32
  let v109 : BitVec 32 := Scalar.muli arg7 c512_i32_34
  v109
def k0_off4 (i : grid0.Coords) (k0_t2 : Fin (k0_t2_loop i).trips) : Fin 2 → Nat :=
  let c0_i32 : BitVec 32 := 0#32
  let arg1 : BitVec 32 := BitVec.ofNat 32 (i 1).val
  let v7 : BitVec 32 := Scalar.subi arg1 c0_i32
  let c1_i32 : BitVec 32 := 1#32
  let v9 : BitVec 32 := Scalar.divsi v7 c1_i32
  let v10 : BitVec 32 := Scalar.muli v9 c1_i32
  let v11 : BitVec 32 := Scalar.addi c0_i32 v10
  let c1_i32_4 : BitVec 32 := 1#32
  let arg7 : BitVec 32 := Scf.iv v11 c1_i32_4 k0_t2
  let c512_i32_34 : BitVec 32 := 512#32
  let v109 : BitVec 32 := Scalar.muli arg7 c512_i32_34
  let v110 : BitVec 32 := v109
  let v111 : Index := Scalar.indexCast v110
  let c0_35 : Index := 0#32
  ![v111.toNat, 0]
def k0_mult5 (i : grid0.Coords) : BitVec 32 :=
  let arg1 : BitVec 32 := BitVec.ofNat 32 (i 1).val
  let c512_i32 : BitVec 32 := 512#32
  let v16 : BitVec 32 := Scalar.muli arg1 c512_i32
  v16
def k0_off5 (i : grid0.Coords) : Fin 2 → Nat :=
  let arg1 : BitVec 32 := BitVec.ofNat 32 (i 1).val
  let c512_i32 : BitVec 32 := 512#32
  let v16 : BitVec 32 := Scalar.muli arg1 c512_i32
  let v17 : BitVec 32 := v16
  let v18 : Index := Scalar.indexCast v17
  let c0_5 : Index := 0#32
  ![v18.toNat, 0]
def k0_mult6 (i : grid0.Coords) : BitVec 32 :=
  let arg1 : BitVec 32 := BitVec.ofNat 32 (i 1).val
  let c512_i32_12 : BitVec 32 := 512#32
  let v35 : BitVec 32 := Scalar.muli arg1 c512_i32_12
  v35
def k0_off6 (i : grid0.Coords) : Fin 2 → Nat :=
  let arg1 : BitVec 32 := BitVec.ofNat 32 (i 1).val
  let c512_i32_12 : BitVec 32 := 512#32
  let v35 : BitVec 32 := Scalar.muli arg1 c512_i32_12
  let v36 : BitVec 32 := v35
  let v37 : Index := Scalar.indexCast v36
  let c0_13 : Index := 0#32
  ![v37.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MlafReferenceIdeal.lean ====
abbrev S1x8x4096x96 : Shape := ⟨4, ![1, 8, 4096, 96]⟩
abbrev S1x8x4096x64 : Shape := ⟨4, ![1, 8, 4096, 64]⟩
abbrev S1x8x4096x4096 : Shape := ⟨4, ![1, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x8x4096 : Shape := ⟨3, ![1, 8, 4096]⟩
abbrev S1x8x4096x1 : Shape := ⟨4, ![1, 8, 4096, 1]⟩
abbrev S1x4096x8x64 : Shape := ⟨4, ![1, 4096, 8, 64]⟩
abbrev S1x4096x512 : Shape := ⟨3, ![1, 4096, 512]⟩
abbrev S4096x512 : Shape := ⟨2, ![4096, 512]⟩
abbrev S8x4096x1 : Shape := ⟨3, ![8, 4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S1x8x4096x96, .f32⟩
  | .hbm, ⟨1, _⟩ => ⟨S1x8x4096x96, .f32⟩
  | .hbm, ⟨2, _⟩ => ⟨S1x8x4096x64, .f32⟩
  | .hbm, ⟨3, _⟩ => ⟨S1x8x4096x4096, .f32⟩
  | .hbm, ⟨4, _⟩ => ⟨S_, .f32⟩
  | .hbm, ⟨5, _⟩ => ⟨S1x8x4096x4096, .f32⟩
  | .hbm, ⟨6, _⟩ => ⟨S1x8x4096x4096, .f32⟩
  | .hbm, ⟨7, _⟩ => ⟨S4096, .i32⟩
  | .hbm, ⟨8, _⟩ => ⟨S1x4096, .i32⟩
  | .hbm, ⟨9, _⟩ => ⟨S4096x1, .i32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S_, .f32⟩
  | .hbm, ⟨14, _⟩ => ⟨S_, .f32⟩
  | .hbm, ⟨15, _⟩ => ⟨S1x8x4096x4096, .i1⟩
  | .hbm, ⟨16, _⟩ => ⟨S1x8x4096x4096, .f32⟩
  | .hbm, ⟨17, _⟩ => ⟨S1x8x4096x4096, .f32⟩
  | .hbm, ⟨18, _⟩ => ⟨S_, .f32⟩
  | .hbm, ⟨19, _⟩ => ⟨S1x8x4096, .f32⟩
  | .hbm, ⟨20, _⟩ => ⟨S_, .f32⟩
  | .hbm, ⟨21, _⟩ => ⟨S1x8x4096, .f32⟩
  | .hbm, ⟨22, _⟩ => ⟨S1x8x4096, .f32⟩
  | .hbm, ⟨23, _⟩ => ⟨S1x8x4096x1, .f32⟩
  | .hbm, ⟨24, _⟩ => ⟨S1x8x4096x4096, .f32⟩
  | .hbm, ⟨25, _⟩ => ⟨S1x8x4096x4096, .f32⟩
  | .hbm, ⟨26, _⟩ => ⟨S1x8x4096x4096, .f32⟩
  | .hbm, ⟨27, _⟩ => ⟨S_, .f32⟩
  | .hbm, ⟨28, _⟩ => ⟨S1x8x4096, .f32⟩
  | .hbm, ⟨29, _⟩ => ⟨S1x8x4096x1, .f32⟩
  | .hbm, ⟨30, _⟩ => ⟨S1x8x4096x4096, .f32⟩
  | .hbm, ⟨31, _⟩ => ⟨S1x8x4096x4096, .f32⟩
  | .hbm, ⟨32, _⟩ => ⟨S1x8x4096x64, .f32⟩
  | .hbm, ⟨33, _⟩ => ⟨S1x4096x8x64, .f32⟩
  | .hbm, ⟨34, _⟩ => ⟨S1x4096x512, .f32⟩
  | .hbm, ⟨35, _⟩ => ⟨S4096x512, .f32⟩
  | .hbm, ⟨36, _⟩ => ⟨S_, .f32⟩
  | .hbm, ⟨37, _⟩ => ⟨S1x8x4096, .f32⟩
  | .hbm, ⟨38, _⟩ => ⟨S1x8x4096x1, .f32⟩
  | .hbm, ⟨39, _⟩ => ⟨S1x8x4096x4096, .f32⟩
  | .hbm, ⟨40, _⟩ => ⟨S1x8x4096x4096, .f32⟩
  | .hbm, ⟨41, _⟩ => ⟨S1x8x4096x4096, .f32⟩
  | .hbm, ⟨42, _⟩ => ⟨S_, .f32⟩
  | .hbm, ⟨43, _⟩ => ⟨S1x8x4096, .f32⟩
  | .hbm, ⟨44, _⟩ => ⟨S1x8x4096x1, .f32⟩
  | .hbm, ⟨45, _⟩ => ⟨S1x8x4096x1, .f32⟩
  | .hbm, ⟨46, _⟩ => ⟨S1x8x4096x1, .f32⟩
  | .hbm, ⟨47, _⟩ => ⟨S8x4096x1, .f32⟩
  | _, _ => ⟨S1x8x4096x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== FoxfKernel.lean ====
abbrev S1x4096x2984 : Shape := ⟨3, ![1, 4096, 2984]⟩
abbrev S1x4096x8 : Shape := ⟨3, ![1, 4096, 8]⟩
abbrev S4096x2984 : Shape := ⟨2, ![4096, 2984]⟩
abbrev S4096x1024 : Shape := ⟨2, ![4096, 1024]⟩
abbrev S4096x1536 : Shape := ⟨2, ![4096, 1536]⟩
abbrev S4096x384 : Shape := ⟨2, ![4096, 384]⟩
abbrev S_ : Shape := ⟨0, ![]⟩
abbrev S4096x64 : Shape := ⟨2, ![4096, 64]⟩
abbrev S4096x32 : Shape := ⟨2, ![4096, 32]⟩
abbrev S4096x8 : Shape := ⟨2, ![4096, 8]⟩
abbrev S4096x24 : Shape := ⟨2, ![4096, 24]⟩
abbrev S4096x3072 : Shape := ⟨2, ![4096, 3072]⟩
abbrev S8x4096 : Shape := ⟨2, ![8, 4096]⟩
abbrev S8x1x4096 : Shape := ⟨3, ![8, 1, 4096]⟩
abbrev S8x8x1x512 : Shape := ⟨4, ![8, 8, 1, 512]⟩
abbrev S4096x512 : Shape := ⟨2, ![4096, 512]⟩
abbrev S8x4096x1 : Shape := ⟨3, ![8, 4096, 1]⟩
abbrev S512x128 : Shape := ⟨2, ![512, 128]⟩
abbrev S4096x128 : Shape := ⟨2, ![4096, 128]⟩
abbrev S2x8x1x512 : Shape := ⟨4, ![2, 8, 1, 512]⟩
abbrev S2x512x1 : Shape := ⟨3, ![2, 512, 1]⟩
abbrev S512x1 : Shape := ⟨2, ![512, 1]⟩
abbrev S512x512 : Shape := ⟨2, ![512, 512]⟩
abbrev S1x1x1x512 : Shape := ⟨4, ![1, 1, 1, 512]⟩
abbrev S1x512 : Shape := ⟨2, ![1, 512]⟩
abbrev S512 : Shape := ⟨1, ![512]⟩
abbrev S1x512x1 : Shape := ⟨3, ![1, 512, 1]⟩

abbrev nBuf : Space → Nat
  | .hbm => 20
  | .vmem => 12
  | .smem => 0
  | _ => 0

abbrev bufTy : (tb : Table) → Fin (tcTables nBuf tb) → BufTy
  | .hbm, ⟨0, _⟩ => ⟨S1x4096x2984, .f32⟩
  | .hbm, ⟨1, _⟩ => ⟨S1x4096x8, .f32⟩
  | .hbm, ⟨2, _⟩ => ⟨S4096x2984, .f32⟩
  | .hbm, ⟨3, _⟩ => ⟨S4096x1024, .f32⟩
  | .hbm, ⟨4, _⟩ => ⟨S4096x1536, .f32⟩
  | .hbm, ⟨5, _⟩ => ⟨S4096x384, .f32⟩
  | .hbm, ⟨6, _⟩ => ⟨S_, .f32⟩
  | .hbm, ⟨7, _⟩ => ⟨S4096x64, .f32⟩
  | .hbm, ⟨8, _⟩ => ⟨S4096x32, .f32⟩
  | .hbm, ⟨9, _⟩ => ⟨S4096x8, .f32⟩
  | .hbm, ⟨10, _⟩ => ⟨S_, .f32⟩
  | .hbm, ⟨11, _⟩ => ⟨S4096x24, .f32⟩
  | .hbm, ⟨12, _⟩ => ⟨S4096x3072, .f32⟩
  | .hbm, ⟨13, _⟩ => ⟨S4096x3072, .bf16⟩
  | .hbm, ⟨14, _⟩ => ⟨S4096x8, .f32⟩
  | .hbm, ⟨15, _⟩ => ⟨S8x4096, .f32⟩
  | .hbm, ⟨16, _⟩ => ⟨S8x1x4096, .f32⟩
  | .hbm, ⟨17, _⟩ => ⟨S8x8x1x512, .f32⟩
  | .hbm, ⟨18, _⟩ => ⟨S4096x512, .f32⟩
  | .hbm, ⟨19, _⟩ => ⟨S8x4096x1, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S2x8x1x512, .f32⟩
  | .local _ .vmem, ⟨7, _⟩ => ⟨S2x8x1x512, .f32⟩
  | .local _ .vmem, ⟨8, _⟩ => ⟨S512x128, .f32⟩
  | .local _ .vmem, ⟨9, _⟩ => ⟨S512x128, .f32⟩
  | .local _ .vmem, ⟨10, _⟩ => ⟨S2x512x1, .f32⟩
  | .local _ .vmem, ⟨11, _⟩ => ⟨S2x512x1, .f32⟩
  | _, _ => ⟨S1x4096x2984, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_6 : BitVec 32 := 0#32
  let arg1 : BitVec 32 := BitVec.ofNat 32 (i 1).val
  let v21 : BitVec 32 := Scalar.subi arg1 c0_i32_6
  let c1_i32 : BitVec 32 := 1#32
  let v23 : BitVec 32 := Scalar.divsi v21 c1_i32
  let v24 : BitVec 32 := Scalar.muli v23 c1_i32
  let v25 : BitVec 32 := Scalar.addi c0_i32_6 v24
  let c1_i32_7 : BitVec 32 := 1#32
  ⟨c0_i32_6, v25, c1_i32_7⟩
def k0_mult1 (i : grid0.Coords) (k0_t1 : Fin (k0_t1_loop i).trips) : BitVec 32 :=
  let c0_i32_6 : BitVec 32 := 0#32
  let c1_i32_7 : BitVec 32 := 1#32
  let arg8 : BitVec 32 := Scf.iv c0_i32_6 c1_i32_7 k0_t1
  let c512_i32_39 : BitVec 32 := 512#32
  let v118 : BitVec 32 := Scalar.muli arg8 c512_i32_39
  v118
def k0_off1 (i : grid0.Coords) (k0_t1 : Fin (k0_t1_loop i).trips) : Fin 2 → Nat :=
  let c0_i32_6 : BitVec 32 := 0#32
  let c1_i32_7 : BitVec 32 := 1#32
  let arg8 : BitVec 32 := Scf.iv c0_i32_6 c1_i32_7 k0_t1
  let c512_i32_39 : BitVec 32 := 512#32
  let v118 : BitVec 32 := Scalar.muli arg8 c512_i32_39
  let v119 : BitVec 32 := v118
  let v120 : Index := Scalar.indexCast v119
  let c0_40 : Index := 0#32
  ![v120.toNat, 0]
def k0_off2 (i : grid0.Coords) (k0_t1 : Fin (k0_t1_loop i).trips) : Fin 4 → Nat :=
  let c0_43 : Index := 0#32
  let c0_i32_6 : BitVec 32 := 0#32
  let c1_i32_7 : BitVec 32 := 1#32
  let arg8 : BitVec 32 := Scf.iv c0_i32_6 c1_i32_7 k0_t1
  let v126 : Index := Scalar.indexCast arg8
  let c0_44 : Index := 0#32
  let c0_45 : Index := 0#32
  ![0, v126.toNat, 0, 0]
def k0_off3 (i : grid0.Coords) (k0_t1 : Fin (k0_t1_loop i).trips) : Fin 4 → Nat :=
  let c1_48 : Index := 1#32
  let c0_i32_6 : BitVec 32 := 0#32
  let c1_i32_7 : BitVec 32 := 1#32
  let arg8 : BitVec 32 := Scf.iv c0_i32_6 c1_i32_7 k0_t1
  let v134 : Index := Scalar.indexCast arg8
  let c0_49 : Index := 0#32
  let c0_50 : Index := 0#32
  ![1, v134.toNat, 0, 0]
def k0_mult2 (i : grid0.Coords) (k0_t1 : Fin (k0_t1_loop i).trips) : BitVec 32 :=
  let c0_i32_6 : BitVec 32 := 0#32
  let c1_i32_7 : BitVec 32 := 1#32
  let arg8 : BitVec 32 := Scf.iv c0_i32_6 c1_i32_7 k0_t1
  let c512_i32_51 : BitVec 32 := 512#32
  let v139 : BitVec 32 := Scalar.muli arg8 c512_i32_51
  v139
@[reducible] def k0_t2_loop (i : grid0.Coords) : Scf.Loop 32 :=
  let c0_i32_6 : BitVec 32 := 0#32
  let arg1 : BitVec 32 := BitVec.ofNat 32 (i 1).val
  let v21 : BitVec 32 := Scalar.subi arg1 c0_i32_6
  let c1_i32 : BitVec 32 := 1#32
  let v23 : BitVec 32 := Scalar.divsi v21 c1_i32
  let v24 : BitVec 32 := Scalar.muli v23 c1_i32
  let v25 : BitVec 32 := Scalar.addi c0_i32_6 v24
  let v22 : BitVec 32 := Scalar.addi c0_i32_6 v21
  let c1_i32_8 : BitVec 32 := 1#32
  ⟨v25, v22, c1_i32_8⟩
def k0_mult3 (i : grid0.Coords) (k0_t2 : Fin (k0_t2_loop i).trips) : BitVec 32 :=
  let c0_i32_6 : BitVec 32 := 0#32
  let arg1 : BitVec 32 := BitVec.ofNat 32 (i 1).val
  let v21 : BitVec 32 := Scalar.subi arg1 c0_i32_6
  let c1_i32 : BitVec 32 := 1#32
  let v23 : BitVec 32 := Scalar.divsi v21 c1_i32
  let v24 : BitVec 32 := Scalar.muli v23 c1_i32
  let v25 : BitVec 32 := Scalar.addi c0_i32_6 v24
  let c1_i32_8 : BitVec 32 := 1#32
  let arg8 : BitVec 32 := Scf.iv v25 c1_i32_8 k0_t2
  let c512_i32_39 : BitVec 32 := 512#32
  let v118 : BitVec 32 := Scalar.muli arg8 c512_i32_39
  v118
def k0_off4 (i : grid0.Coords) (k0_t2 : Fin (k0_t2_loop i).trips) : Fin 2 → Nat :=
  let c0_i32_6 : BitVec 32 := 0#32
  let arg1 : BitVec 32 := BitVec.ofNat 32 (i 1).val
  let v21 : BitVec 32 := Scalar.subi arg1 c0_i32_6
  let c1_i32 : BitVec 32 := 1#32
  let v23 : BitVec 32 := Scalar.divsi v21 c1_i32
  let v24 : BitVec 32 := Scalar.muli v23 c1_i32
  let v25 : BitVec 32 := Scalar.addi c0_i32_6 v24
  let c1_i32_8 : BitVec 32 := 1#32
  let arg8 : BitVec 32 := Scf.iv v25 c1_i32_8 k0_t2
  let c512_i32_39 : BitVec 32 := 512#32
  let v118 : BitVec 32 := Scalar.muli arg8 c512_i32_39
  let v119 : BitVec 32 := v118
  let v120 : Index := Scalar.indexCast v119
  let c0_40 : Index := 0#32
  ![v120.toNat, 0]
def k0_off5 (i : grid0.Coords) (k0_t2 : Fin (k0_t2_loop i).trips) : Fin 4 → Nat :=
  let c0_43 : Index := 0#32
  let c0_i32_6 : BitVec 32 := 0#32
  let arg1 : BitVec 32 := BitVec.ofNat 32 (i 1).val
  let v21 : BitVec 32 := Scalar.subi arg1 c0_i32_6
  let c1_i32 : BitVec 32 := 1#32
  let v23 : BitVec 32 := Scalar.divsi v21 c1_i32
  let v24 : BitVec 32 := Scalar.muli v23 c1_i32
  let v25 : BitVec 32 := Scalar.addi c0_i32_6 v24
  let c1_i32_8 : BitVec 32 := 1#32
  let arg8 : BitVec 32 := Scf.iv v25 c1_i32_8 k0_t2
  let v126 : Index := Scalar.indexCast arg8
  let c0_44 : Index := 0#32
  let c0_45 : Index := 0#32
  ![0, v126.toNat, 0, 0]
def k0_off6 (i : grid0.Coords) (k0_t2 : Fin (k0_t2_loop i).trips) : Fin 4 → Nat :=
  let c1_48 : Index := 1#32
  let c0_i32_6 : BitVec 32 := 0#32
  let arg1 : BitVec 32 := BitVec.ofNat 32 (i 1).val
  let v21 : BitVec 32 := Scalar.subi arg1 c0_i32_6
  let c1_i32 : BitVec 32 := 1#32
  let v23 : BitVec 32 := Scalar.divsi v21 c1_i32
  let v24 : BitVec 32 := Scalar.muli v23 c1_i32
  let v25 : BitVec 32 := Scalar.addi c0_i32_6 v24
  let c1_i32_8 : BitVec 32 := 1#32
  let arg8 : BitVec 32 := Scf.iv v25 c1_i32_8 k0_t2
  let v134 : Index := Scalar.indexCast arg8
  let c0_49 : Index := 0#32
  let c0_50 : Index := 0#32
  ![1, v134.toNat, 0, 0]
def k0_mult4 (i : grid0.Coords) (k0_t2 : Fin (k0_t2_loop i).trips) : BitVec 32 :=
  let c0_i32_6 : BitVec 32 := 0#32
  let arg1 : BitVec 32 := BitVec.ofNat 32 (i 1).val
  let v21 : BitVec 32 := Scalar.subi arg1 c0_i32_6
  let c1_i32 : BitVec 32 := 1#32
  let v23 : BitVec 32 := Scalar.divsi v21 c1_i32
  let v24 : BitVec 32 := Scalar.muli v23 c1_i32
  let v25 : BitVec 32 := Scalar.addi c0_i32_6 v24
  let c1_i32_8 : BitVec 32 := 1#32
  let arg8 : BitVec 32 := Scf.iv v25 c1_i32_8 k0_t2
  let c512_i32_51 : BitVec 32 := 512#32
  let v139 : BitVec 32 := Scalar.muli arg8 c512_i32_51
  v139
def k0_mult5 (i : grid0.Coords) : BitVec 32 :=
  let arg1 : BitVec 32 := BitVec.ofNat 32 (i 1).val
  let c512_i32 : BitVec 32 := 512#32
  let v30 : BitVec 32 := Scalar.muli arg1 c512_i32
  v30
def k0_off7 (i : grid0.Coords) : Fin 2 → Nat :=
  let arg1 : BitVec 32 := BitVec.ofNat 32 (i 1).val
  let c512_i32 : BitVec 32 := 512#32
  let v30 : BitVec 32 := Scalar.muli arg1 c512_i32
  let v31 : BitVec 32 := v30
  let v32 : Index := Scalar.indexCast v31
  let c0_9 : Index := 0#32
  ![v32.toNat, 0]
def k0_off8 (i : grid0.Coords) : Fin 4 → Nat :=
  let c0_12 : Index := 0#32
  let arg1 : BitVec 32 := BitVec.ofNat 32 (i 1).val
  let v38 : Index := Scalar.indexCast arg1
  let c0_13 : Index := 0#32
  let c0_14 : Index := 0#32
  ![0, v38.toNat, 0, 0]
def k0_off9 (i : grid0.Coords) : Fin 4 → Nat :=
  let c1 : Index := 1#32
  let arg1 : BitVec 32 := BitVec.ofNat 32 (i 1).val
  let v46 : Index := Scalar.indexCast arg1
  let c0_17 : Index := 0#32
  let c0_18 : Index := 0#32
  ![1, v46.toNat, 0, 0]
def k0_mult6 (i : grid0.Coords) : BitVec 32 :=
  let arg1 : BitVec 32 := BitVec.ofNat 32 (i 1).val
  let c512_i32_21 : BitVec 32 := 512#32
  let v57 : BitVec 32 := Scalar.muli arg1 c512_i32_21
  v57
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x8x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FoxfReferenceIdeal.lean ====
abbrev S1x4096x2984 : Shape := ⟨3, ![1, 4096, 2984]⟩
abbrev S1x4096x8 : Shape := ⟨3, ![1, 4096, 8]⟩
abbrev S1x4096x512 : Shape := ⟨3, ![1, 4096, 512]⟩
abbrev S1x4096x8x64 : Shape := ⟨4, ![1, 4096, 8, 64]⟩
abbrev S1x8x4096x64 : Shape := ⟨4, ![1, 8, 4096, 64]⟩
abbrev S1x8x4096 : Shape := ⟨3, ![1, 8, 4096]⟩
abbrev S1x8x4096x4096 : Shape := ⟨4, ![1, 8, 4096, 4096]⟩
abbrev S_ : Shape := ⟨0, ![]⟩
abbrev S1x8x4096x1 : Shape := ⟨4, ![1, 8, 4096, 1]⟩
abbrev S1x8x1x4096 : Shape := ⟨4, ![1, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4096x512 : Shape := ⟨2, ![4096, 512]⟩
abbrev S8x4096x1 : Shape := ⟨3, ![8, 4096, 1]⟩

abbrev nBuf : Space → Nat
  | .hbm => 66
  | .vmem => 0
  | .smem => 0
  | _ => 0

abbrev bufTy : (tb : Table) → Fin (tcTables nBuf tb) → BufTy
  | .hbm, ⟨0, _⟩ => ⟨S1x4096x2984, .f32⟩
  | .hbm, ⟨1, _⟩ => ⟨S1x4096x8, .f32⟩
  | .hbm, ⟨2, _⟩ => ⟨S1x4096x512, .f32⟩
  | .hbm, ⟨3, _⟩ => ⟨S1x4096x512, .f32⟩
  | .hbm, ⟨4, _⟩ => ⟨S1x4096x512, .f32⟩
  | .hbm, ⟨5, _⟩ => ⟨S1x4096x8x64, .f32⟩
  | .hbm, ⟨6, _⟩ => ⟨S1x8x4096x64, .f32⟩
  | .hbm, ⟨7, _⟩ => ⟨S1x4096x8x64, .f32⟩
  | .hbm, ⟨8, _⟩ => ⟨S1x8x4096x64, .f32⟩
  | .hbm, ⟨9, _⟩ => ⟨S1x4096x8x64, .f32⟩
  | .hbm, ⟨10, _⟩ => ⟨S1x8x4096x64, .f32⟩
  | .hbm, ⟨11, _⟩ => ⟨S1x8x4096, .f32⟩
  | .hbm, ⟨12, _⟩ => ⟨S1x8x4096x4096, .f32⟩
  | .hbm, ⟨13, _⟩ => ⟨S_, .f32⟩
  | .hbm, ⟨14, _⟩ => ⟨S1x8x4096x4096, .f32⟩
  | .hbm, ⟨15, _⟩ => ⟨S1x8x4096x4096, .f32⟩
  | .hbm, ⟨16, _⟩ => ⟨S1x8x4096x1, .f32⟩
  | .hbm, ⟨17, _⟩ => ⟨S1x8x4096x4096, .f32⟩
  | .hbm, ⟨18, _⟩ => ⟨S1x8x4096x4096, .f32⟩
  | .hbm, ⟨19, _⟩ => ⟨S1x8x1x4096, .f32⟩
  | .hbm, ⟨20, _⟩ => ⟨S1x8x4096x4096, .f32⟩
  | .hbm, ⟨21, _⟩ => ⟨S1x8x4096x4096, .f32⟩
  | .hbm, ⟨22, _⟩ => ⟨S4096, .i32⟩
  | .hbm, ⟨23, _⟩ => ⟨S1x4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S1x8x4096x4096, .i1⟩
  | .hbm, ⟨31, _⟩ => ⟨S1x8x4096x4096, .f32⟩
  | .hbm, ⟨32, _⟩ => ⟨S1x8x4096x4096, .f32⟩
  | .hbm, ⟨33, _⟩ => ⟨S_, .f32⟩
  | .hbm, ⟨34, _⟩ => ⟨S1x8x4096, .f32⟩
  | .hbm, ⟨35, _⟩ => ⟨S_, .f32⟩
  | .hbm, ⟨36, _⟩ => ⟨S1x8x4096, .f32⟩
  | .hbm, ⟨37, _⟩ => ⟨S1x8x4096, .f32⟩
  | .hbm, ⟨38, _⟩ => ⟨S1x8x4096x1, .f32⟩
  | .hbm, ⟨39, _⟩ => ⟨S1x8x4096x4096, .f32⟩
  | .hbm, ⟨40, _⟩ => ⟨S1x8x4096x4096, .f32⟩
  | .hbm, ⟨41, _⟩ => ⟨S1x8x4096x4096, .f32⟩
  | .hbm, ⟨42, _⟩ => ⟨S_, .f32⟩
  | .hbm, ⟨43, _⟩ => ⟨S1x8x4096, .f32⟩
  | .hbm, ⟨44, _⟩ => ⟨S1x8x4096x1, .f32⟩
  | .hbm, ⟨45, _⟩ => ⟨S1x8x4096x4096, .f32⟩
  | .hbm, ⟨46, _⟩ => ⟨S1x8x4096x4096, .f32⟩
  | .hbm, ⟨47, _⟩ => ⟨S1x8x4096x64, .f32⟩
  | .hbm, ⟨48, _⟩ => ⟨S1x4096x8x64, .f32⟩
  | .hbm, ⟨49, _⟩ => ⟨S1x4096x512, .f32⟩
  | .hbm, ⟨50, _⟩ => ⟨S4096x512, .f32⟩
  | .hbm, ⟨51, _⟩ => ⟨S1x8x4096x1, .f32⟩
  | .hbm, ⟨52, _⟩ => ⟨S1x8x4096x4096, .f32⟩
  | .hbm, ⟨53, _⟩ => ⟨S1x8x4096x4096, .f32⟩
  | .hbm, ⟨54, _⟩ => ⟨S_, .f32⟩
  | .hbm, ⟨55, _⟩ => ⟨S1x8x4096, .f32⟩
  | .hbm, ⟨56, _⟩ => ⟨S1x8x4096x1, .f32⟩
  | .hbm, ⟨57, _⟩ => ⟨S1x8x4096x4096, .f32⟩
  | .hbm, ⟨58, _⟩ => ⟨S1x8x4096x4096, .f32⟩
  | .hbm, ⟨59, _⟩ => ⟨S1x8x4096x4096, .f32⟩
  | .hbm, ⟨60, _⟩ => ⟨S_, .f32⟩
  | .hbm, ⟨61, _⟩ => ⟨S1x8x4096, .f32⟩
  | .hbm, ⟨62, _⟩ => ⟨S1x8x4096x1, .f32⟩
  | .hbm, ⟨63, _⟩ => ⟨S1x8x4096x1, .f32⟩
  | .hbm, ⟨64, _⟩ => ⟨S1x8x4096x1, .f32⟩
  | .hbm, ⟨65, _⟩ => ⟨S8x4096x1, .f32⟩
  | _, _ => ⟨S1x4096x2984, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_4 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_5 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩

abbrev nD : Nat := 1
abbrev τ : Topo := Topo.v7x

variable {F : FTy → Type} [FloatOps F]
-- ==== OutKernel.lean ====
abbrev S1x4096x1024 : Shape := ⟨3, ![1, 4096, 1024]⟩
abbrev S1024x1024 : Shape := ⟨2, ![1024, 1024]⟩
abbrev S1024 : Shape := ⟨1, ![1024]⟩
abbrev S1x4096x512 : Shape := ⟨3, ![1, 4096, 512]⟩
abbrev S4096x512 : Shape := ⟨2, ![4096, 512]⟩
abbrev S4096x1024 : Shape := ⟨2, ![4096, 1024]⟩
abbrev S1x1024 : Shape := ⟨2, ![1, 1024]⟩
abbrev S4096x1 : Shape := ⟨2, ![4096, 1]⟩
abbrev S512x512 : Shape := ⟨2, ![512, 512]⟩
abbrev S512x1024 : Shape := ⟨2, ![512, 1024]⟩
abbrev S512x1 : Shape := ⟨2, ![512, 1]⟩
abbrev S512 : Shape := ⟨1, ![512]⟩

abbrev nBuf : Space → Nat
  | .hbm => 32
  | .vmem => 45
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1x4096x1024, .f32⟩
  | .hbm, ⟨7, _⟩ => ⟨S1x4096x512, .f32⟩
  | .hbm, ⟨8, _⟩ => ⟨S4096x512, .f32⟩
  | .hbm, ⟨9, _⟩ => ⟨S1x4096x512, .f32⟩
  | .hbm, ⟨10, _⟩ => ⟨S4096x512, .f32⟩
  | .hbm, ⟨11, _⟩ => ⟨S4096x1024, .f32⟩
  | .hbm, ⟨12, _⟩ => ⟨S4096x1024, .f32⟩
  | .hbm, ⟨13, _⟩ => ⟨S1024x1024, .bf16⟩
  | .hbm, ⟨14, _⟩ => ⟨S1x1024, .f32⟩
  | .hbm, ⟨15, _⟩ => ⟨S1x1024, .f32⟩
  | .hbm, ⟨16, _⟩ => ⟨S4096x1024, .f32⟩
  | .hbm, ⟨17, _⟩ => ⟨S4096x1024, .bf16⟩
  | .hbm, ⟨18, _⟩ => ⟨S4096x1024, .bf16⟩
  | .hbm, ⟨19, _⟩ => ⟨S4096x1024, .f32⟩
  | .hbm, ⟨20, _⟩ => ⟨S4096x1, .f32⟩
  | .hbm, ⟨21, _⟩ => ⟨S4096x1024, .f32⟩
  | .hbm, ⟨22, _⟩ => ⟨S1x1024, .f32⟩
  | .hbm, ⟨23, _⟩ => ⟨S1024x1024, .f32⟩
  | .hbm, ⟨24, _⟩ => ⟨S1024x1024, .bf16⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S4096x1024, .bf16⟩
  | .hbm, ⟨29, _⟩ => ⟨S4096x1024, .bf16⟩
  | .hbm, ⟨30, _⟩ => ⟨S1x1024, .f32⟩
  | .hbm, ⟨31, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x1, .f32⟩
  | .local _ .vmem, ⟨20, _⟩ => ⟨S512x1, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1, .f32⟩
  | .local _ .vmem, ⟨26, _⟩ => ⟨S512x1, .f32⟩
  | .local _ .vmem, ⟨27, _⟩ => ⟨S1x1024, .f32⟩
  | .local _ .vmem, ⟨28, _⟩ => ⟨S1024x1024, .bf16⟩
  | .local _ .vmem, ⟨29, _⟩ => ⟨S512x512, .f32⟩
  | .local _ .vmem, ⟨30, _⟩ => ⟨S512x512, .f32⟩
  | .local _ .vmem, ⟨31, _⟩ => ⟨S512x512, .f32⟩
  | .local _ .vmem, ⟨32, _⟩ => ⟨S512x512, .f32⟩
  | .local _ .vmem, ⟨33, _⟩ => ⟨S512x1024, .f32⟩
  | .local _ .vmem, ⟨34, _⟩ => ⟨S512x1024, .f32⟩
  | .local _ .vmem, ⟨35, _⟩ => ⟨S512x1024, .f32⟩
  | .local _ .vmem, ⟨36, _⟩ => ⟨S512x1024, .f32⟩
  | .local _ .vmem, ⟨37, _⟩ => ⟨S512x1024, .bf16⟩
  | .local _ .vmem, ⟨38, _⟩ => ⟨S512x1024, .bf16⟩
  | .local _ .vmem, ⟨39, _⟩ => ⟨S512x1024, .bf16⟩
  | .local _ .vmem, ⟨40, _⟩ => ⟨S512x1024, .bf16⟩
  | .local _ .vmem, ⟨41, _⟩ => ⟨S512x1024, .bf16⟩
  | .local _ .vmem, ⟨42, _⟩ => ⟨S512x1024, .bf16⟩
  | .local _ .vmem, ⟨43, _⟩ => ⟨S1x1024, .f32⟩
  | .local _ .vmem, ⟨44, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_v15_2 : Ref sig .tc := ⟨.hbm, 28, rfl⟩
abbrev main_v15_3 : Ref sig .tc := ⟨.hbm, 29, rfl⟩
abbrev main_v15_4 : Ref sig .tc := ⟨.hbm, 30, rfl⟩
abbrev main_v15_5 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_stg10_0 : Ref sig .tc := ⟨.vmem, 39, rfl⟩
abbrev cc1_stg10_1 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc1_stg13_0 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem4_0 : DmaSem sig := 28
abbrev cc1_sem5_0 : DmaSem sig := 29
abbrev cc1_sem5_1 : DmaSem sig := 30
abbrev cc1_sem6_0 : DmaSem sig := 31
abbrev cc1_sem6_1 : DmaSem sig := 32
abbrev cc1_sem7_0 : DmaSem sig := 33
abbrev cc1_sem7_1 : DmaSem sig := 34
abbrev cc1_sem8_0 : DmaSem sig := 35
abbrev cc1_sem8_1 : DmaSem sig := 36
abbrev cc1_sem9_0 : DmaSem sig := 37
abbrev cc1_sem9_1 : DmaSem sig := 38
abbrev cc1_sem10_0 : DmaSem sig := 39
abbrev cc1_sem10_1 : DmaSem sig := 40
abbrev cc1_sem11_0 : DmaSem sig := 41
abbrev cc1_sem11_1 : DmaSem sig := 42
abbrev cc1_sem12_0 : DmaSem sig := 43
abbrev cc1_sem13_0 : DmaSem sig := 44

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]
-- ==== OutReferenceIdeal.lean ====
abbrev S1x4096x1024 : Shape := ⟨3, ![1, 4096, 1024]⟩
abbrev S1024x1024 : Shape := ⟨2, ![1024, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S4096x1024 : Shape := ⟨2, ![4096, 1024]⟩

abbrev nBuf : Space → Nat
  | .hbm => 125
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1x4096x1024, .f32⟩
  | .hbm, ⟨7, _⟩ => ⟨S1x4096x1024, .f32⟩
  | .hbm, ⟨8, _⟩ => ⟨S1x4096x1024, .f32⟩
  | .hbm, ⟨9, _⟩ => ⟨S_, .f32⟩
  | .hbm, ⟨10, _⟩ => ⟨S1x4096x1024, .f32⟩
  | .hbm, ⟨11, _⟩ => ⟨S1x4096x1024, .f32⟩
  | .hbm, ⟨12, _⟩ => ⟨S_, .f32⟩
  | .hbm, ⟨13, _⟩ => ⟨S1x4096x1024, .f32⟩
  | .hbm, ⟨14, _⟩ => ⟨S1x4096x1024, .f32⟩
  | .hbm, ⟨15, _⟩ => ⟨S_, .f32⟩
  | .hbm, ⟨16, _⟩ => ⟨S1x4096x1024, .f32⟩
  | .hbm, ⟨17, _⟩ => ⟨S1x4096x1024, .f32⟩
  | .hbm, ⟨18, _⟩ => ⟨S1x4096x1024, .f32⟩
  | .hbm, ⟨19, _⟩ => ⟨S1x4096x1024, .f32⟩
  | .hbm, ⟨20, _⟩ => ⟨S1x4096x1024, .f32⟩
  | .hbm, ⟨21, _⟩ => ⟨S1x4096x1024, .f32⟩
  | .hbm, ⟨22, _⟩ => ⟨S_, .f32⟩
  | .hbm, ⟨23, _⟩ => ⟨S1x4096x1024, .f32⟩
  | .hbm, ⟨24, _⟩ => ⟨S1x4096x1024, .f32⟩
  | .hbm, ⟨25, _⟩ => ⟨S1x4096x1024, .f32⟩
  | .hbm, ⟨26, _⟩ => ⟨S_, .f32⟩
  | .hbm, ⟨27, _⟩ => ⟨S1x4096, .f32⟩
  | .hbm, ⟨28, _⟩ => ⟨S1x4096x1, .f32⟩
  | .hbm, ⟨29, _⟩ => ⟨S_, .f32⟩
  | .hbm, ⟨30, _⟩ => ⟨S1x4096x1, .f32⟩
  | .hbm, ⟨31, _⟩ => ⟨S1x4096x1, .f32⟩
  | .hbm, ⟨32, _⟩ => ⟨S1x4096x1024, .f32⟩
  | .hbm, ⟨33, _⟩ => ⟨S1x4096x1024, .f32⟩
  | .hbm, ⟨34, _⟩ => ⟨S1x4096x1024, .f32⟩
  | .hbm, ⟨35, _⟩ => ⟨S_, .f32⟩
  | .hbm, ⟨36, _⟩ => ⟨S1x4096x1024, .f32⟩
  | .hbm, ⟨37, _⟩ => ⟨S1x4096x1024, .f32⟩
  | .hbm, ⟨38, _⟩ => ⟨S_, .f32⟩
  | .hbm, ⟨39, _⟩ => ⟨S1x4096, .f32⟩
  | .hbm, ⟨40, _⟩ => ⟨S1x4096x1, .f32⟩
  | .hbm, ⟨41, _⟩ => ⟨S_, .f32⟩
  | .hbm, ⟨42, _⟩ => ⟨S1x4096x1, .f32⟩
  | .hbm, ⟨43, _⟩ => ⟨S1x4096x1, .f32⟩
  | .hbm, ⟨44, _⟩ => ⟨S1x4096x1024, .f32⟩
  | .hbm, ⟨45, _⟩ => ⟨S1x4096x1024, .f32⟩
  | .hbm, ⟨46, _⟩ => ⟨S_, .f32⟩
  | .hbm, ⟨47, _⟩ => ⟨S1x4096x1, .f32⟩
  | .hbm, ⟨48, _⟩ => ⟨S1x4096x1, .f32⟩
  | .hbm, ⟨49, _⟩ => ⟨S1x4096x1, .f32⟩
  | .hbm, ⟨50, _⟩ => ⟨S1x4096x1, .f32⟩
  | .hbm, ⟨51, _⟩ => ⟨S_, .f32⟩
  | .hbm, ⟨52, _⟩ => ⟨S1x4096x1, .f32⟩
  | .hbm, ⟨53, _⟩ => ⟨S1x4096x1, .f32⟩
  | .hbm, ⟨54, _⟩ => ⟨S1x4096x1024, .f32⟩
  | .hbm, ⟨55, _⟩ => ⟨S1x4096x1024, .f32⟩
  | .hbm, ⟨56, _⟩ => ⟨S1x1x1024, .f32⟩
  | .hbm, ⟨57, _⟩ => ⟨S1x4096x1024, .f32⟩
  | .hbm, ⟨58, _⟩ => ⟨S1x4096x1024, .f32⟩
  | .hbm, ⟨59, _⟩ => ⟨S1x1x1024, .f32⟩
  | .hbm, ⟨60, _⟩ => ⟨S1x4096x1024, .f32⟩
  | .hbm, ⟨61, _⟩ => ⟨S1x4096x1024, .f32⟩
  | .hbm, ⟨62, _⟩ => ⟨S1x4096x1024, .f32⟩
  | .hbm, ⟨63, _⟩ => ⟨S_, .f32⟩
  | .hbm, ⟨64, _⟩ => ⟨S1x1024, .f32⟩
  | .hbm, ⟨65, _⟩ => ⟨S1x1x1024, .f32⟩
  | .hbm, ⟨66, _⟩ => ⟨S_, .f32⟩
  | .hbm, ⟨67, _⟩ => ⟨S1024, .f32⟩
  | .hbm, ⟨68, _⟩ => ⟨S1x4096x1024, .f32⟩
  | .hbm, ⟨69, _⟩ => ⟨S_, .f32⟩
  | .hbm, ⟨70, _⟩ => ⟨S1x1024, .f32⟩
  | .hbm, ⟨71, _⟩ => ⟨S1x1x1024, .f32⟩
  | .hbm, ⟨72, _⟩ => ⟨S1x4096x1024, .f32⟩
  | .hbm, ⟨73, _⟩ => ⟨S1x4096x1024, .f32⟩
  | .hbm, ⟨74, _⟩ => ⟨S_, .f32⟩
  | .hbm, ⟨75, _⟩ => ⟨S1024, .f32⟩
  | .hbm, ⟨76, _⟩ => ⟨S1x4096x1024, .f32⟩
  | .hbm, ⟨77, _⟩ => ⟨S_, .f32⟩
  | .hbm, ⟨78, _⟩ => ⟨S1x4096, .f32⟩
  | .hbm, ⟨79, _⟩ => ⟨S1x4096x1, .f32⟩
  | .hbm, ⟨80, _⟩ => ⟨S1x4096x1024, .f32⟩
  | .hbm, ⟨81, _⟩ => ⟨S1x4096x1024, .f32⟩
  | .hbm, ⟨82, _⟩ => ⟨S1x4096x1, .f32⟩
  | .hbm, ⟨83, _⟩ => ⟨S1x4096x1024, .f32⟩
  | .hbm, ⟨84, _⟩ => ⟨S_, .f32⟩
  | .hbm, ⟨85, _⟩ => ⟨S1x4096, .f32⟩
  | .hbm, ⟨86, _⟩ => ⟨S1x4096x1, .f32⟩
  | .hbm, ⟨87, _⟩ => ⟨S_, .f32⟩
  | .hbm, ⟨88, _⟩ => ⟨S1x4096x1, .f32⟩
  | .hbm, ⟨89, _⟩ => ⟨S1x4096x1, .f32⟩
  | .hbm, ⟨90, _⟩ => ⟨S_, .f32⟩
  | .hbm, ⟨91, _⟩ => ⟨S4096, .f32⟩
  | .hbm, ⟨92, _⟩ => ⟨S1x4096, .f32⟩
  | .hbm, ⟨93, _⟩ => ⟨S1x4096x1024, .f32⟩
  | .hbm, ⟨94, _⟩ => ⟨S1x4096x1024, .f32⟩
  | .hbm, ⟨95, _⟩ => ⟨S1x4096x1024, .f32⟩
  | .hbm, ⟨96, _⟩ => ⟨S_, .f32⟩
  | .hbm, ⟨97, _⟩ => ⟨S1x4096, .f32⟩
  | .hbm, ⟨98, _⟩ => ⟨S1x4096x1, .f32⟩
  | .hbm, ⟨99, _⟩ => ⟨S1x4096x1024, .f32⟩
  | .hbm, ⟨100, _⟩ => ⟨S1x4096x1, .f32⟩
  | .hbm, ⟨101, _⟩ => ⟨S_, .f32⟩
  | .hbm, ⟨102, _⟩ => ⟨S1x4096x1, .f32⟩
  | .hbm, ⟨103, _⟩ => ⟨S1x4096x1, .f32⟩
  | .hbm, ⟨104, _⟩ => ⟨S_, .f32⟩
  | .hbm, ⟨105, _⟩ => ⟨S4096, .f32⟩
  | .hbm, ⟨106, _⟩ => ⟨S1x4096, .f32⟩
  | .hbm, ⟨107, _⟩ => ⟨S1x4096x1024, .f32⟩
  | .hbm, ⟨108, _⟩ => ⟨S1x4096x1024, .f32⟩
  | .hbm, ⟨109, _⟩ => ⟨S1x4096x1024, .f32⟩
  | .hbm, ⟨110, _⟩ => ⟨S1x4096x1024, .f32⟩
  | .hbm, ⟨111, _⟩ => ⟨S1x4096x1024, .f32⟩
  | .hbm, ⟨112, _⟩ => ⟨S1x4096x1024, .f32⟩
  | .hbm, ⟨113, _⟩ => ⟨S1x4096x1024, .f32⟩
  | .hbm, ⟨114, _⟩ => ⟨S1x4096x1024, .f32⟩
  | .hbm, ⟨115, _⟩ => ⟨S1x4096x1024, .f32⟩
  | .hbm, ⟨116, _⟩ => ⟨S4096x1024, .f32⟩
  | .hbm, ⟨117, _⟩ => ⟨S4096x1024, .f32⟩
  | .hbm, ⟨118, _⟩ => ⟨S4096x1024, .bf16⟩
  | .hbm, ⟨119, _⟩ => ⟨S4096x1024, .f32⟩
  | .hbm, ⟨120, _⟩ => ⟨S4096x1024, .bf16⟩
  | .hbm, ⟨121, _⟩ => ⟨S4096x1024, .f32⟩
  | .hbm, ⟨122, _⟩ => ⟨S4096x1024, .bf16⟩
  | .hbm, ⟨123, _⟩ => ⟨S1x1024, .f32⟩
  | .hbm, ⟨124, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v0_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v0_1 : Ref sig .tc := ⟨.hbm, 18, rfl⟩
abbrev main_v0_0 : Ref sig .tc := ⟨.hbm, 19, rfl⟩
abbrev main_v1 : Ref sig .tc := ⟨.hbm, 20, rfl⟩
abbrev main_v2 : Ref sig .tc := ⟨.hbm, 21, rfl⟩
abbrev main_cst : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_2 : Ref sig .tc := ⟨.hbm, 35, rfl⟩
abbrev main_v13 : Ref sig .tc := ⟨.hbm, 36, rfl⟩
abbrev main_v14 : Ref sig .tc := ⟨.hbm, 37, rfl⟩
abbrev main_cst_3 : Ref sig .tc := ⟨.hbm, 38, rfl⟩
abbrev main_v15 : Ref sig .tc := ⟨.hbm, 39, rfl⟩
abbrev main_v16 : Ref sig .tc := ⟨.hbm, 40, rfl⟩
abbrev main_cst_4 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_cst_5 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_6 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_7 : Ref sig .tc := ⟨.hbm, 63, rfl⟩
abbrev main_v36 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_cst_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_10 : Ref sig .tc := ⟨.hbm, 74, rfl⟩
abbrev main_v44 : Ref sig .tc := ⟨.hbm, 75, rfl⟩
abbrev main_v45 : Ref sig .tc := ⟨.hbm, 76, rfl⟩
abbrev main_cst_11 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_12 : Ref sig .tc := ⟨.hbm, 84, rfl⟩
abbrev main_v52 : Ref sig .tc := ⟨.hbm, 85, rfl⟩
abbrev main_v53 : Ref sig .tc := ⟨.hbm, 86, rfl⟩
abbrev main_cst_13 : Ref sig .tc := ⟨.hbm, 87, rfl⟩
abbrev main_v54 : Ref sig .tc := ⟨.hbm, 88, rfl⟩
abbrev main_v55 : Ref sig .tc := ⟨.hbm, 89, rfl⟩
abbrev main_cst_14 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_15 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_16 : Ref sig .tc := ⟨.hbm, 101, rfl⟩
abbrev main_v65 : Ref sig .tc := ⟨.hbm, 102, rfl⟩
abbrev main_v66 : Ref sig .tc := ⟨.hbm, 103, rfl⟩
abbrev main_cst_17 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_call1_v0 : Ref sig .tc := ⟨.hbm, 112, rfl⟩
abbrev main_call1_v1 : Ref sig .tc := ⟨.hbm, 113, rfl⟩
abbrev main_call1_v2 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩

abbrev nD : Nat := 1
abbrev τ : Topo := Topo.v7x

variable {F : FTy → Type} [FloatOps F]
-- ==== MidKernel.lean ====
abbrev S1x4096x2984 : Shape := ⟨3, ![1, 4096, 2984]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S8 : Shape := ⟨1, ![8]⟩
abbrev S1x8x4096x96 : Shape := ⟨4, ![1, 8, 4096, 96]⟩
abbrev S1x8x4096x64 : Shape := ⟨4, ![1, 8, 4096, 64]⟩
abbrev S1x4096x8 : Shape := ⟨3, ![1, 4096, 8]⟩
abbrev S4096x2984 : Shape := ⟨2, ![4096, 2984]⟩
abbrev S4096x1024 : Shape := ⟨2, ![4096, 1024]⟩
abbrev S4096x1536 : Shape := ⟨2, ![4096, 1536]⟩
abbrev S4096x384 : Shape := ⟨2, ![4096, 384]⟩
abbrev S_ : Shape := ⟨0, ![]⟩
abbrev S4096x64 : Shape := ⟨2, ![4096, 64]⟩
abbrev S4096x32 : Shape := ⟨2, ![4096, 32]⟩
abbrev S4096x8 : Shape := ⟨2, ![4096, 8]⟩
abbrev S4096x24 : Shape := ⟨2, ![4096, 24]⟩
abbrev S4096x3072 : Shape := ⟨2, ![4096, 3072]⟩
abbrev S256x8x96 : Shape := ⟨3, ![256, 8, 96]⟩
abbrev S256x8x128 : Shape := ⟨3, ![256, 8, 128]⟩
abbrev S256x1024 : Shape := ⟨2, ![256, 1024]⟩
abbrev S128x8x128 : Shape := ⟨3, ![128, 8, 128]⟩
abbrev S128x8x64 : Shape := ⟨3, ![128, 8, 64]⟩
abbrev S128x512 : Shape := ⟨2, ![128, 512]⟩
abbrev S128x1536 : Shape := ⟨2, ![128, 1536]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x128 : Shape := ⟨2, ![4096, 128]⟩
abbrev S32 : Shape := ⟨1, ![32]⟩
abbrev S1x32 : Shape := ⟨2, ![1, 32]⟩
abbrev S8x4096x96 : Shape := ⟨3, ![8, 4096, 96]⟩
abbrev S8x4096x128 : Shape := ⟨3, ![8, 4096, 128]⟩
abbrev S4096x8x128 : Shape := ⟨3, ![4096, 8, 128]⟩
abbrev S1x4096x8x64 : Shape := ⟨4, ![1, 4096, 8, 64]⟩
abbrev S1x4096x512 : Shape := ⟨3, ![1, 4096, 512]⟩
abbrev S4096x512 : Shape := ⟨2, ![4096, 512]⟩
abbrev S1x256 : Shape := ⟨2, ![1, 256]⟩
abbrev S1x128 : Shape := ⟨2, ![1, 128]⟩
abbrev S1x8 : Shape := ⟨2, ![1, 8]⟩
abbrev S1024x256 : Shape := ⟨2, ![1024, 256]⟩
abbrev S1536x128 : Shape := ⟨2, ![1536, 128]⟩
abbrev S256x512 : Shape := ⟨2, ![256, 512]⟩
abbrev S256x128 : Shape := ⟨2, ![256, 128]⟩
abbrev S256x256 : Shape := ⟨2, ![256, 256]⟩
abbrev S256x1 : Shape := ⟨2, ![256, 1]⟩
abbrev S256x1536 : Shape := ⟨2, ![256, 1536]⟩

abbrev nBuf : Space → Nat
  | .hbm => 130
  | .vmem => 26
  | .smem => 0
  | _ => 0

abbrev hbmTy0_0 (i : Nat) : BufTy := match i % 128 with
  | 0 => ⟨S1x4096x2984, .f32⟩
  | 1 => ⟨S256, .f32⟩
  | 2 => ⟨S256x768, .f32⟩
  | 3 => ⟨S128, .f32⟩
  | 4 => ⟨S128x1024, .f32⟩
  | 5 => ⟨S8, .f32⟩
  | 6 => ⟨S1x8x4096x96, .f32⟩
  | 7 => ⟨S1x8x4096x96, .f32⟩
  | 8 => ⟨S1x8x4096x64, .f32⟩
  | 9 => ⟨S1x4096x8, .f32⟩
  | 10 => ⟨S4096x2984, .f32⟩
  | 11 => ⟨S4096x1024, .f32⟩
  | 12 => ⟨S4096x1536, .f32⟩
  | 13 => ⟨S4096x384, .f32⟩
  | 14 => ⟨S_, .f32⟩
  | 15 => ⟨S4096x64, .f32⟩
  | 16 => ⟨S4096x32, .f32⟩
  | 17 => ⟨S4096x8, .f32⟩
  | 18 => ⟨S_, .f32⟩
  | 19 => ⟨S4096x24, .f32⟩
  | 20 => ⟨S4096x3072, .f32⟩
  | 21 => ⟨S256x8x96, .f32⟩
  | 22 => ⟨S_, .i32⟩
  | 23 => ⟨S_, .f32⟩
  | 24 => ⟨S256x8x128, .f32⟩
  | 25 => ⟨S256x1024, .f32⟩
  | 26 => ⟨S128x8x128, .f32⟩
  | 27 => ⟨S128x8x64, .f32⟩
  | 28 => ⟨S_, .i32⟩
  | 29 => ⟨S_, .f32⟩
  | 30 => ⟨S128x8x128, .f32⟩
  | 31 => ⟨S128x1024, .f32⟩
  | 32 => ⟨S128x8x64, .f32⟩
  | 33 => ⟨S128x512, .f32⟩
  | 34 => ⟨S128x1536, .f32⟩
  | 35 => ⟨S4096, .f32⟩
  | 36 => ⟨S16, .f32⟩
  | 37 => ⟨S_, .f32⟩
  | 38 => ⟨S16, .f32⟩
  | 39 => ⟨S16, .f32⟩
  | 40 => ⟨S_, .f32⟩
  | 41 => ⟨S16, .f32⟩
  | 42 => ⟨S16, .f32⟩
  | 43 => ⟨S16, .f32⟩
  | 44 => ⟨S_, .f32⟩
  | 45 => ⟨S16, .f32⟩
  | 46 => ⟨S16, .f32⟩
  | 47 => ⟨S_, .f32⟩
  | 48 => ⟨S16, .f32⟩
  | 49 => ⟨S16, .f32⟩
  | 50 => ⟨S4096x1, .f32⟩
  | 51 => ⟨S1x16, .f32⟩
  | 52 => ⟨S4096x16, .f32⟩
  | 53 => ⟨S4096x16, .f32⟩
  | 54 => ⟨S4096x16, .f32⟩
  | 55 => ⟨S4096x16, .f32⟩
  | 56 => ⟨S4096x16, .f32⟩
  | 57 => ⟨S_, .f32⟩
  | 58 => ⟨S4096x64, .f32⟩
  | 59 => ⟨S_, .f32⟩
  | 60 => ⟨S4096x64, .f32⟩
  | 61 => ⟨S4096x32, .f32⟩
  | 62 => ⟨S4096x128, .f32⟩
  | 63 => ⟨S4096x16, .f32⟩
  | 64 => ⟨S4096x32, .f32⟩
  | 65 => ⟨S4096x128, .f32⟩
  | 66 => ⟨S32, .f32⟩
  | 67 => ⟨S_, .f32⟩
  | 68 => ⟨S32, .f32⟩
  | 69 => ⟨S32, .f32⟩
  | 70 => ⟨S_, .f32⟩
  | 71 => ⟨S32, .f32⟩
  | 72 => ⟨S32, .f32⟩
  | 73 => ⟨S32, .f32⟩
  | 74 => ⟨S_, .f32⟩
  | 75 => ⟨S32, .f32⟩
  | 76 => ⟨S32, .f32⟩
  | 77 => ⟨S_, .f32⟩
  | 78 => ⟨S32, .f32⟩
  | 79 => ⟨S32, .f32⟩
  | 80 => ⟨S4096x1, .f32⟩
  | 81 => ⟨S1x32, .f32⟩
  | 82 => ⟨S4096x32, .f32⟩
  | 83 => ⟨S4096x32, .f32⟩
  | 84 => ⟨S4096x32, .f32⟩
  | 85 => ⟨S4096x32, .f32⟩
  | 86 => ⟨S4096x32, .f32⟩
  | 87 => ⟨S4096x128, .f32⟩
  | 88 => ⟨S4096x32, .f32⟩
  | 89 => ⟨S4096x32, .f32⟩
  | 90 => ⟨S4096x128, .f32⟩
  | 91 => ⟨S8x4096x96, .f32⟩
  | 92 => ⟨S_, .i32⟩
  | 93 => ⟨S_, .f32⟩
  | 94 => ⟨S8x4096x128, .f32⟩
  | 95 => ⟨S4096x8x128, .f32⟩
  | 96 => ⟨S4096x1024, .f32⟩
  | 97 => ⟨S8x4096x96, .f32⟩
  | 98 => ⟨S_, .i32⟩
  | 99 => ⟨S_, .f32⟩
  | 100 => ⟨S8x4096x128, .f32⟩
  | 101 => ⟨S4096x8x128, .f32⟩
  | 102 => ⟨S4096x1024, .f32⟩
  | 103 => ⟨S1x4096x8x64, .f32⟩
  | 104 => ⟨S1x4096x512, .f32⟩
  | 105 => ⟨S4096x512, .f32⟩
  | 106 => ⟨S4096x512, .bf16⟩
  | 107 => ⟨S4096x8, .f32⟩
  | 108 => ⟨S_, .i32⟩
  | 109 => ⟨S_, .f32⟩
  | 110 => ⟨S4096x128, .f32⟩
  | 111 => ⟨S1x256, .f32⟩
  | 112 => ⟨S1x128, .f32⟩
  | 113 => ⟨S1x8, .f32⟩
  | 114 => ⟨S_, .i32⟩
  | 115 => ⟨S_, .f32⟩
  | 116 => ⟨S1x128, .f32⟩
  | 117 => ⟨S1024x256, .f32⟩
  | 118 => ⟨S1024x256, .bf16⟩
  | 119 => ⟨S1536x128, .f32⟩
  | 120 => ⟨S1536x128, .bf16⟩
  | 121 => ⟨S4096x512, .bf16⟩
  | 122 => ⟨S4096x1024, .bf16⟩
  | 123 => ⟨S1x256, .f32⟩
  | 124 => ⟨S1x128, .f32⟩
  | 125 => ⟨S1x128, .f32⟩
  | 126 => ⟨S256, .f32⟩
  | 127 => ⟨S128, .f32⟩
  | _ => ⟨S1x4096x2984, .f32⟩

abbrev hbmTy0_1 (i : Nat) : BufTy := match i % 128 with
  | 0 => ⟨S1x8, .f32⟩
  | 1 => ⟨S8, .f32⟩
  | _ => ⟨S1x4096x2984, .f32⟩

abbrev hbmTy (i : Nat) : BufTy := match i / 128 with
  | 0 => hbmTy0_0 i
  | 1 => hbmTy0_1 i
  | _ => ⟨S1x4096x2984, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x512, .bf16⟩
  | .local _ .vmem, ⟨7, _⟩ => ⟨S256x512, .bf16⟩
  | .local _ .vmem, ⟨8, _⟩ => ⟨S256x128, .f32⟩
  | .local _ .vmem, ⟨9, _⟩ => ⟨S256x128, .f32⟩
  | .local _ .vmem, ⟨10, _⟩ => ⟨S1x256, .f32⟩
  | .local _ .vmem, ⟨11, _⟩ => ⟨S1x128, .f32⟩
  | .local _ .vmem, ⟨12, _⟩ => ⟨S1x128, .f32⟩
  | .local _ .vmem, ⟨13, _⟩ => ⟨S1024x256, .bf16⟩
  | .local _ .vmem, ⟨14, _⟩ => ⟨S1536x128, .bf16⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x512, .bf16⟩
  | .local _ .vmem, ⟨20, _⟩ => ⟨S256x512, .bf16⟩
  | .local _ .vmem, ⟨21, _⟩ => ⟨S256x1024, .bf16⟩
  | .local _ .vmem, ⟨22, _⟩ => ⟨S256x1024, .bf16⟩
  | .local _ .vmem, ⟨23, _⟩ => ⟨S1x256, .f32⟩
  | .local _ .vmem, ⟨24, _⟩ => ⟨S1x128, .f32⟩
  | .local _ .vmem, ⟨25, _⟩ => ⟨S1x128, .f32⟩
  | _, _ => ⟨S1x4096x2984, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c : Ref sig .tc := ⟨.hbm, 22, rfl⟩
abbrev main_call0_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_call1_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_call2_v0 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_13 : Ref sig .tc := ⟨.hbm, 98, rfl⟩
abbrev main_call3_v0 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c_14 : Ref sig .tc := ⟨.hbm, 108, rfl⟩
abbrev main_call4_v0 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_15 : Ref sig .tc := ⟨.hbm, 114, rfl⟩
abbrev main_call5_v0 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87_0 : Ref sig .tc := ⟨.hbm, 121, rfl⟩
abbrev main_v87_1 : Ref sig .tc := ⟨.hbm, 122, rfl⟩
abbrev main_v87_2 : Ref sig .tc := ⟨.hbm, 123, rfl⟩
abbrev main_v87_3 : Ref sig .tc := ⟨.hbm, 124, rfl⟩
abbrev main_v87_4 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1536x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== MidReferenceIdeal.lean ====
abbrev S1x4096x2984 : Shape := ⟨3, ![1, 4096, 2984]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S8 : Shape := ⟨1, ![8]⟩
abbrev S1x8x4096x96 : Shape := ⟨4, ![1, 8, 4096, 96]⟩
abbrev S1x8x4096x64 : Shape := ⟨4, ![1, 8, 4096, 64]⟩
abbrev S1x4096x8 : Shape := ⟨3, ![1, 4096, 8]⟩
abbrev S4096 : Shape := ⟨1, ![4096]⟩
abbrev S1x4096x256 : Shape := ⟨3, ![1, 4096, 256]⟩
abbrev S1x4096x128 : Shape := ⟨3, ![1, 4096, 128]⟩
abbrev S1x4096x32 : Shape := ⟨3, ![1, 4096, 32]⟩
abbrev S_ : Shape := ⟨0, ![]⟩
abbrev S1x4096 : Shape := ⟨2, ![1, 4096]⟩
abbrev S1x4096x1 : Shape := ⟨3, ![1, 4096, 1]⟩
abbrev S1x1x256 : Shape := ⟨3, ![1, 1, 256]⟩
abbrev S1x4096x768 : Shape := ⟨3, ![1, 4096, 768]⟩
abbrev S1x4096x8x96 : Shape := ⟨4, ![1, 4096, 8, 96]⟩
abbrev S1x8x4096x32 : Shape := ⟨4, ![1, 8, 4096, 32]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S1x8x4096x16 : Shape := ⟨4, ![1, 8, 4096, 16]⟩
abbrev S1x1x4096x16 : Shape := ⟨4, ![1, 1, 4096, 16]⟩
abbrev S1x256 : Shape := ⟨2, ![1, 256]⟩
abbrev S1x1x128 : Shape := ⟨3, ![1, 1, 128]⟩
abbrev S1x4096x1024 : Shape := ⟨3, ![1, 4096, 1024]⟩
abbrev S1x4096x8x128 : Shape := ⟨4, ![1, 4096, 8, 128]⟩
abbrev S1x8x4096x128 : Shape := ⟨4, ![1, 8, 4096, 128]⟩
abbrev S1x1x4096x32 : Shape := ⟨4, ![1, 1, 4096, 32]⟩
abbrev S4096x32 : Shape := ⟨2, ![4096, 32]⟩
abbrev S1x128 : Shape := ⟨2, ![1, 128]⟩
abbrev S1x1x8 : Shape := ⟨3, ![1, 1, 8]⟩
abbrev S1x8 : Shape := ⟨2, ![1, 8]⟩
abbrev S1x4096x64 : Shape := ⟨3, ![1, 4096, 64]⟩
abbrev S1x4096x24 : Shape := ⟨3, ![1, 4096, 24]⟩
abbrev S1x4096x512 : Shape := ⟨3, ![1, 4096, 512]⟩
abbrev S4096x512 : Shape := ⟨2, ![4096, 512]⟩
abbrev S4096x1024 : Shape := ⟨2, ![4096, 1024]⟩

abbrev nBuf : Space → Nat
  | .hbm => 320
  | .vmem => 0
  | .smem => 0
  | _ => 0

abbrev hbmTy0_0 (i : Nat) : BufTy := match i % 128 with
  | 0 => ⟨S1x4096x2984, .f32⟩
  | 1 => ⟨S256, .f32⟩
  | 2 => ⟨S256x768, .f32⟩
  | 3 => ⟨S128, .f32⟩
  | 4 => ⟨S128x1024, .f32⟩
  | 5 => ⟨S8, .f32⟩
  | 6 => ⟨S1x8x4096x96, .f32⟩
  | 7 => ⟨S1x8x4096x96, .f32⟩
  | 8 => ⟨S1x8x4096x64, .f32⟩
  | 9 => ⟨S1x4096x8, .f32⟩
  | 10 => ⟨S4096, .i32⟩
  | 11 => ⟨S1x4096x256, .f32⟩
  | 12 => ⟨S1x4096x128, .f32⟩
  | 13 => ⟨S1x4096x32, .f32⟩
  | 14 => ⟨S1x4096x8, .f32⟩
  | 15 => ⟨S1x4096x256, .f32⟩
  | 16 => ⟨S_, .f32⟩
  | 17 => ⟨S1x4096, .f32⟩
  | 18 => ⟨S1x4096x1, .f32⟩
  | 19 => ⟨S_, .f32⟩
  | 20 => ⟨S1x4096x1, .f32⟩
  | 21 => ⟨S1x4096x1, .f32⟩
  | 22 => ⟨S_, .f32⟩
  | 23 => ⟨S1x4096x1, .f32⟩
  | 24 => ⟨S1x4096x1, .f32⟩
  | 25 => ⟨S1x4096x1, .f32⟩
  | 26 => ⟨S1x4096x1, .f32⟩
  | 27 => ⟨S_, .f32⟩
  | 28 => ⟨S1x4096x1, .f32⟩
  | 29 => ⟨S1x4096x1, .f32⟩
  | 30 => ⟨S1x4096x256, .f32⟩
  | 31 => ⟨S1x4096x256, .f32⟩
  | 32 => ⟨S1x1x256, .f32⟩
  | 33 => ⟨S1x4096x256, .f32⟩
  | 34 => ⟨S1x4096x256, .f32⟩
  | 35 => ⟨S1x4096x768, .f32⟩
  | 36 => ⟨S1x4096x8x96, .f32⟩
  | 37 => ⟨S1x8x4096x96, .f32⟩
  | 38 => ⟨S1x8x4096x64, .f32⟩
  | 39 => ⟨S1x8x4096x32, .f32⟩
  | 40 => ⟨S16, .f32⟩
  | 41 => ⟨S_, .f32⟩
  | 42 => ⟨S16, .f32⟩
  | 43 => ⟨S16, .f32⟩
  | 44 => ⟨S_, .f32⟩
  | 45 => ⟨S16, .f32⟩
  | 46 => ⟨S16, .f32⟩
  | 47 => ⟨S16, .f32⟩
  | 48 => ⟨S_, .f32⟩
  | 49 => ⟨S16, .f32⟩
  | 50 => ⟨S16, .f32⟩
  | 51 => ⟨S_, .f32⟩
  | 52 => ⟨S16, .f32⟩
  | 53 => ⟨S16, .f32⟩
  | 54 => ⟨S4096, .f32⟩
  | 55 => ⟨S4096x1, .f32⟩
  | 56 => ⟨S1x16, .f32⟩
  | 57 => ⟨S4096x16, .f32⟩
  | 58 => ⟨S4096x16, .f32⟩
  | 59 => ⟨S4096x16, .f32⟩
  | 60 => ⟨S4096x16, .f32⟩
  | 61 => ⟨S4096x16, .f32⟩
  | 62 => ⟨S1x8x4096x16, .f32⟩
  | 63 => ⟨S1x8x4096x16, .f32⟩
  | 64 => ⟨S1x1x4096x16, .f32⟩
  | 65 => ⟨S1x8x4096x16, .f32⟩
  | 66 => ⟨S1x8x4096x16, .f32⟩
  | 67 => ⟨S1x1x4096x16, .f32⟩
  | 68 => ⟨S1x8x4096x16, .f32⟩
  | 69 => ⟨S1x8x4096x16, .f32⟩
  | 70 => ⟨S1x8x4096x16, .f32⟩
  | 71 => ⟨S1x1x4096x16, .f32⟩
  | 72 => ⟨S1x8x4096x16, .f32⟩
  | 73 => ⟨S1x8x4096x16, .f32⟩
  | 74 => ⟨S1x1x4096x16, .f32⟩
  | 75 => ⟨S1x8x4096x16, .f32⟩
  | 76 => ⟨S1x8x4096x16, .f32⟩
  | 77 => ⟨S1x8x4096x16, .f32⟩
  | 78 => ⟨S1x8x4096x32, .f32⟩
  | 79 => ⟨S1x8x4096x96, .f32⟩
  | 80 => ⟨S1x8x4096x64, .f32⟩
  | 81 => ⟨S1x8x4096x32, .f32⟩
  | 82 => ⟨S1x8x4096x16, .f32⟩
  | 83 => ⟨S1x8x4096x16, .f32⟩
  | 84 => ⟨S1x8x4096x16, .f32⟩
  | 85 => ⟨S1x8x4096x16, .f32⟩
  | 86 => ⟨S1x8x4096x16, .f32⟩
  | 87 => ⟨S1x8x4096x16, .f32⟩
  | 88 => ⟨S1x8x4096x16, .f32⟩
  | 89 => ⟨S1x8x4096x16, .f32⟩
  | 90 => ⟨S1x8x4096x16, .f32⟩
  | 91 => ⟨S1x8x4096x16, .f32⟩
  | 92 => ⟨S1x8x4096x16, .f32⟩
  | 93 => ⟨S1x8x4096x16, .f32⟩
  | 94 => ⟨S1x8x4096x16, .f32⟩
  | 95 => ⟨S1x8x4096x32, .f32⟩
  | 96 => ⟨S_, .f32⟩
  | 97 => ⟨S1x8x4096x96, .f32⟩
  | 98 => ⟨S_, .f32⟩
  | 99 => ⟨S1x8x4096x96, .f32⟩
  | 100 => ⟨S1x8x4096x96, .f32⟩
  | 101 => ⟨S1x4096x8x96, .f32⟩
  | 102 => ⟨S1x4096x768, .f32⟩
  | 103 => ⟨S1x4096x256, .f32⟩
  | 104 => ⟨S1x4096x256, .f32⟩
  | 105 => ⟨S_, .f32⟩
  | 106 => ⟨S1x256, .f32⟩
  | 107 => ⟨S1x1x256, .f32⟩
  | 108 => ⟨S1x4096x256, .f32⟩
  | 109 => ⟨S1x4096x256, .f32⟩
  | 110 => ⟨S_, .f32⟩
  | 111 => ⟨S256, .f32⟩
  | 112 => ⟨S1x4096x256, .f32⟩
  | 113 => ⟨S_, .f32⟩
  | 114 => ⟨S1x4096, .f32⟩
  | 115 => ⟨S1x4096x1, .f32⟩
  | 116 => ⟨S1x4096x256, .f32⟩
  | 117 => ⟨S1x4096x256, .f32⟩
  | 118 => ⟨S1x4096x1, .f32⟩
  | 119 => ⟨S_, .f32⟩
  | 120 => ⟨S1x4096x1, .f32⟩
  | 121 => ⟨S1x4096x1, .f32⟩
  | 122 => ⟨S_, .f32⟩
  | 123 => ⟨S4096, .f32⟩
  | 124 => ⟨S1x4096, .f32⟩
  | 125 => ⟨S1x4096x256, .f32⟩
  | 126 => ⟨S1x4096x256, .f32⟩
  | 127 => ⟨S1x4096x256, .f32⟩
  | _ => ⟨S1x4096x2984, .f32⟩

abbrev hbmTy0_1 (i : Nat) : BufTy := match i % 128 with
  | 0 => ⟨S1x4096x256, .f32⟩
  | 1 => ⟨S1x4096x256, .f32⟩
  | 2 => ⟨S1x4096x128, .f32⟩
  | 3 => ⟨S_, .f32⟩
  | 4 => ⟨S1x4096, .f32⟩
  | 5 => ⟨S1x4096x1, .f32⟩
  | 6 => ⟨S_, .f32⟩
  | 7 => ⟨S1x4096x1, .f32⟩
  | 8 => ⟨S1x4096x1, .f32⟩
  | 9 => ⟨S_, .f32⟩
  | 10 => ⟨S1x4096x1, .f32⟩
  | 11 => ⟨S1x4096x1, .f32⟩
  | 12 => ⟨S1x4096x1, .f32⟩
  | 13 => ⟨S1x4096x1, .f32⟩
  | 14 => ⟨S_, .f32⟩
  | 15 => ⟨S1x4096x1, .f32⟩
  | 16 => ⟨S1x4096x1, .f32⟩
  | 17 => ⟨S1x4096x128, .f32⟩
  | 18 => ⟨S1x4096x128, .f32⟩
  | 19 => ⟨S1x1x128, .f32⟩
  | 20 => ⟨S1x4096x128, .f32⟩
  | 21 => ⟨S1x4096x128, .f32⟩
  | 22 => ⟨S1x4096x1024, .f32⟩
  | 23 => ⟨S1x4096x8x128, .f32⟩
  | 24 => ⟨S1x8x4096x128, .f32⟩
  | 25 => ⟨S1x1x4096x32, .f32⟩
  | 26 => ⟨S16, .f32⟩
  | 27 => ⟨S_, .f32⟩
  | 28 => ⟨S16, .f32⟩
  | 29 => ⟨S16, .f32⟩
  | 30 => ⟨S_, .f32⟩
  | 31 => ⟨S16, .f32⟩
  | 32 => ⟨S16, .f32⟩
  | 33 => ⟨S16, .f32⟩
  | 34 => ⟨S_, .f32⟩
  | 35 => ⟨S16, .f32⟩
  | 36 => ⟨S16, .f32⟩
  | 37 => ⟨S_, .f32⟩
  | 38 => ⟨S16, .f32⟩
  | 39 => ⟨S16, .f32⟩
  | 40 => ⟨S4096, .f32⟩
  | 41 => ⟨S4096x1, .f32⟩
  | 42 => ⟨S1x16, .f32⟩
  | 43 => ⟨S4096x16, .f32⟩
  | 44 => ⟨S4096x16, .f32⟩
  | 45 => ⟨S4096x16, .f32⟩
  | 46 => ⟨S4096x16, .f32⟩
  | 47 => ⟨S4096x16, .f32⟩
  | 48 => ⟨S1x1x4096x16, .f32⟩
  | 49 => ⟨S1x1x4096x16, .f32⟩
  | 50 => ⟨S1x1x4096x16, .f32⟩
  | 51 => ⟨S1x1x4096x16, .f32⟩
  | 52 => ⟨S1x1x4096x16, .f32⟩
  | 53 => ⟨S1x1x4096x16, .f32⟩
  | 54 => ⟨S1x1x4096x16, .f32⟩
  | 55 => ⟨S1x1x4096x16, .f32⟩
  | 56 => ⟨S1x1x4096x16, .f32⟩
  | 57 => ⟨S1x1x4096x16, .f32⟩
  | 58 => ⟨S1x1x4096x16, .f32⟩
  | 59 => ⟨S1x1x4096x16, .f32⟩
  | 60 => ⟨S1x1x4096x32, .f32⟩
  | 61 => ⟨S1x8x4096x64, .f32⟩
  | 62 => ⟨S1x8x4096x32, .f32⟩
  | 63 => ⟨S1x8x4096x96, .f32⟩
  | 64 => ⟨S1x8x4096x64, .f32⟩
  | 65 => ⟨S_, .f32⟩
  | 66 => ⟨S1x8x4096x128, .f32⟩
  | 67 => ⟨S1x8x4096x64, .f32⟩
  | 68 => ⟨S1x8x4096x32, .f32⟩
  | 69 => ⟨S_, .f32⟩
  | 70 => ⟨S4096x32, .f32⟩
  | 71 => ⟨S1x1x4096x32, .f32⟩
  | 72 => ⟨S_, .f32⟩
  | 73 => ⟨S1x8x4096x128, .f32⟩
  | 74 => ⟨S1x8x4096x128, .f32⟩
  | 75 => ⟨S1x1x4096x16, .f32⟩
  | 76 => ⟨S1x1x4096x16, .f32⟩
  | 77 => ⟨S1x1x4096x16, .f32⟩
  | 78 => ⟨S1x1x4096x16, .f32⟩
  | 79 => ⟨S1x1x4096x16, .f32⟩
  | 80 => ⟨S1x1x4096x16, .f32⟩
  | 81 => ⟨S1x1x4096x16, .f32⟩
  | 82 => ⟨S1x1x4096x16, .f32⟩
  | 83 => ⟨S1x1x4096x16, .f32⟩
  | 84 => ⟨S1x1x4096x32, .f32⟩
  | 85 => ⟨S_, .f32⟩
  | 86 => ⟨S4096x32, .f32⟩
  | 87 => ⟨S1x4096x32, .f32⟩
  | 88 => ⟨S1x4096x8x128, .f32⟩
  | 89 => ⟨S1x4096x1024, .f32⟩
  | 90 => ⟨S1x4096x128, .f32⟩
  | 91 => ⟨S1x4096x128, .f32⟩
  | 92 => ⟨S_, .f32⟩
  | 93 => ⟨S1x128, .f32⟩
  | 94 => ⟨S1x1x128, .f32⟩
  | 95 => ⟨S1x4096x128, .f32⟩
  | 96 => ⟨S1x4096x128, .f32⟩
  | 97 => ⟨S_, .f32⟩
  | 98 => ⟨S128, .f32⟩
  | 99 => ⟨S1x4096x128, .f32⟩
  | 100 => ⟨S_, .f32⟩
  | 101 => ⟨S1x4096, .f32⟩
  | 102 => ⟨S1x4096x1, .f32⟩
  | 103 => ⟨S1x4096x128, .f32⟩
  | 104 => ⟨S1x4096x128, .f32⟩
  | 105 => ⟨S1x4096x1, .f32⟩
  | 106 => ⟨S_, .f32⟩
  | 107 => ⟨S1x4096x1, .f32⟩
  | 108 => ⟨S1x4096x1, .f32⟩
  | 109 => ⟨S_, .f32⟩
  | 110 => ⟨S4096, .f32⟩
  | 111 => ⟨S1x4096, .f32⟩
  | 112 => ⟨S1x4096x128, .f32⟩
  | 113 => ⟨S1x4096x128, .f32⟩
  | 114 => ⟨S1x4096x128, .f32⟩
  | 115 => ⟨S1x4096x128, .f32⟩
  | 116 => ⟨S1x4096x128, .f32⟩
  | 117 => ⟨S1x1x8, .f32⟩
  | 118 => ⟨S1x4096x8, .f32⟩
  | 119 => ⟨S1x4096x8, .f32⟩
  | 120 => ⟨S1x4096x8, .f32⟩
  | 121 => ⟨S_, .f32⟩
  | 122 => ⟨S1x4096x8, .f32⟩
  | 123 => ⟨S1x4096x8, .f32⟩
  | 124 => ⟨S1x4096x8, .f32⟩
  | 125 => ⟨S1x4096x8, .f32⟩
  | 126 => ⟨S1x4096x8, .i1⟩
  | 127 => ⟨S1x4096x8, .f32⟩
  | _ => ⟨S1x4096x2984, .f32⟩

abbrev hbmTy0_2 (i : Nat) : BufTy := match i % 128 with
  | 0 => ⟨S1x4096x8, .f32⟩
  | 1 => ⟨S1x4096x8, .f32⟩
  | 2 => ⟨S1x4096x8, .f32⟩
  | 3 => ⟨S1x4096x8, .f32⟩
  | 4 => ⟨S1x4096x8, .f32⟩
  | 5 => ⟨S1x4096x8, .f32⟩
  | 6 => ⟨S1x4096x8, .f32⟩
  | 7 => ⟨S_, .f32⟩
  | 8 => ⟨S1x4096x8, .f32⟩
  | 9 => ⟨S1x4096x8, .i1⟩
  | 10 => ⟨S_, .f32⟩
  | 11 => ⟨S1x4096x8, .f32⟩
  | 12 => ⟨S1x4096x8, .f32⟩
  | 13 => ⟨S_, .f32⟩
  | 14 => ⟨S1x4096x8, .f32⟩
  | 15 => ⟨S1x4096x8, .i1⟩
  | 16 => ⟨S_, .f32⟩
  | 17 => ⟨S1x4096x8, .f32⟩
  | 18 => ⟨S1x4096x8, .f32⟩
  | 19 => ⟨S1x4096x8, .f32⟩
  | 20 => ⟨S1x4096x8, .f32⟩
  | 21 => ⟨S_, .f32⟩
  | 22 => ⟨S_, .f32⟩
  | 23 => ⟨S_, .i1⟩
  | 24 => ⟨S_, .f32⟩
  | 25 => ⟨S_, .f32⟩
  | 26 => ⟨S_, .f32⟩
  | 27 => ⟨S_, .f32⟩
  | 28 => ⟨S1x4096x8, .f32⟩
  | 29 => ⟨S1x4096x8, .i1⟩
  | 30 => ⟨S_, .f32⟩
  | 31 => ⟨S1x4096x8, .f32⟩
  | 32 => ⟨S1x4096x8, .f32⟩
  | 33 => ⟨S1x4096x8, .f32⟩
  | 34 => ⟨S1x4096x8, .f32⟩
  | 35 => ⟨S1x4096x8, .f32⟩
  | 36 => ⟨S_, .f32⟩
  | 37 => ⟨S1x4096x8, .f32⟩
  | 38 => ⟨S1x4096x8, .f32⟩
  | 39 => ⟨S1x4096x8, .f32⟩
  | 40 => ⟨S1x4096x8, .f32⟩
  | 41 => ⟨S1x4096x8, .f32⟩
  | 42 => ⟨S1x4096x8, .f32⟩
  | 43 => ⟨S_, .f32⟩
  | 44 => ⟨S1x8, .f32⟩
  | 45 => ⟨S1x1x8, .f32⟩
  | 46 => ⟨S_, .f32⟩
  | 47 => ⟨S8, .f32⟩
  | 48 => ⟨S_, .f32⟩
  | 49 => ⟨S1x4096x64, .f32⟩
  | 50 => ⟨S_, .f32⟩
  | 51 => ⟨S1x4096x24, .f32⟩
  | 52 => ⟨S1x4096x512, .f32⟩
  | 53 => ⟨S1x4096x8x96, .f32⟩
  | 54 => ⟨S1x8x4096x96, .f32⟩
  | 55 => ⟨S_, .i32⟩
  | 56 => ⟨S_, .f32⟩
  | 57 => ⟨S1x8x4096x128, .f32⟩
  | 58 => ⟨S1x4096x8x128, .f32⟩
  | 59 => ⟨S1x4096x1024, .f32⟩
  | 60 => ⟨S4096x512, .f32⟩
  | 61 => ⟨S4096x512, .bf16⟩
  | 62 => ⟨S4096x1024, .f32⟩
  | 63 => ⟨S4096x1024, .bf16⟩
  | _ => ⟨S1x4096x2984, .f32⟩

abbrev hbmTy (i : Nat) : BufTy := match i / 128 with
  | 0 => hbmTy0_0 i
  | 1 => hbmTy0_1 i
  | 2 => hbmTy0_2 i
  | _ => ⟨S1x4096x2984, .f32⟩

abbrev bufTy : (tb : Table) → Fin (tcTables nBuf tb) → BufTy
  | .hbm, ⟨i, _⟩ => hbmTy i
  | _, _ => ⟨S1x4096x2984, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_7 : Ref sig .tc := ⟨.hbm, 96, rfl⟩
abbrev main_v78 : Ref sig .tc := ⟨.hbm, 97, rfl⟩
abbrev main_cst_8 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_cst_9 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_cst_10 : Ref sig .tc := ⟨.hbm, 110, rfl⟩
abbrev main_v89 : Ref sig .tc := ⟨.hbm, 111, rfl⟩
abbrev main_v90 : Ref sig .tc := ⟨.hbm, 112, rfl⟩
abbrev main_cst_11 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_12 : Ref sig .tc := ⟨.hbm, 119, rfl⟩
abbrev main_v96 : Ref sig .tc := ⟨.hbm, 120, rfl⟩
abbrev main_v97 : Ref sig .tc := ⟨.hbm, 121, rfl⟩
abbrev main_cst_13 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst_14 : Ref sig .tc := ⟨.hbm, 131, rfl⟩
abbrev main_v106 : Ref sig .tc := ⟨.hbm, 132, rfl⟩
abbrev main_v107 : Ref sig .tc := ⟨.hbm, 133, rfl⟩
abbrev main_cst_15 : Ref sig .tc := ⟨.hbm, 134, rfl⟩
abbrev main_v108 : Ref sig .tc := ⟨.hbm, 135, rfl⟩
abbrev main_v109 : Ref sig .tc := ⟨.hbm, 136, rfl⟩
abbrev main_cst_16 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_cst_17 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_cst_18 : Ref sig .tc := ⟨.hbm, 155, rfl⟩
abbrev main_v126 : Ref sig .tc := ⟨.hbm, 156, rfl⟩
abbrev main_v127 : Ref sig .tc := ⟨.hbm, 157, rfl⟩
abbrev main_cst_19 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_cst_20 : Ref sig .tc := ⟨.hbm, 162, rfl⟩
abbrev main_v131 : Ref sig .tc := ⟨.hbm, 163, rfl⟩
abbrev main_v132 : Ref sig .tc := ⟨.hbm, 164, rfl⟩
abbrev main_cst_21 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_cst_22 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_cst_23 : Ref sig .tc := ⟨.hbm, 197, rfl⟩
abbrev main_v163 : Ref sig .tc := ⟨.hbm, 198, rfl⟩
abbrev main_v164 : Ref sig .tc := ⟨.hbm, 199, rfl⟩
abbrev main_cst_24 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_cst_25 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_cst_26 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_cst_27 : Ref sig .tc := ⟨.hbm, 225, rfl⟩
abbrev main_v187 : Ref sig .tc := ⟨.hbm, 226, rfl⟩
abbrev main_v188 : Ref sig .tc := ⟨.hbm, 227, rfl⟩
abbrev main_cst_28 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_cst_29 : Ref sig .tc := ⟨.hbm, 234, rfl⟩
abbrev main_v194 : Ref sig .tc := ⟨.hbm, 235, rfl⟩
abbrev main_v195 : Ref sig .tc := ⟨.hbm, 236, rfl⟩
abbrev main_cst_30 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_call0_v0 : Ref sig .tc := ⟨.hbm, 248, rfl⟩
abbrev main_call0_call0_cst : Ref sig .tc := ⟨.hbm, 249, rfl⟩
abbrev main_call0_call0_v0 : Ref sig .tc := ⟨.hbm, 250, rfl⟩
abbrev main_call0_call0_v1 : Ref sig .tc := ⟨.hbm, 251, rfl⟩
abbrev main_call0_call0_v2 : Ref sig .tc := ⟨.hbm, 252, rfl⟩
abbrev main_call0_call0_v3 : Ref sig .tc := ⟨.hbm, 253, rfl⟩
abbrev main_call0_call0_v4 : Ref sig .tc := ⟨.hbm, 254, rfl⟩
abbrev main_call0_call0_v5 : Ref sig .tc := ⟨.hbm, 255, rfl⟩
abbrev main_call0_call0_v6 : Ref sig .tc := ⟨.hbm, 256, rfl⟩
abbrev main_call0_call0_v7 : Ref sig .tc := ⟨.hbm, 257, rfl⟩
abbrev main_call0_call0_v8 : Ref sig .tc := ⟨.hbm, 258, rfl⟩
abbrev main_call0_call0_v9 : Ref sig .tc := ⟨.hbm, 259, rfl⟩
abbrev main_call0_call0_v10 : Ref sig .tc := ⟨.hbm, 260, rfl⟩
abbrev main_call0_call0_v11 : Ref sig .tc := ⟨.hbm, 261, rfl⟩
abbrev main_call0_v1_0 : Ref sig .tc := ⟨.hbm, 262, rfl⟩
abbrev main_call0_call0_cst_0 : Ref sig .tc := ⟨.hbm, 263, rfl⟩
abbrev main_call0_call0_v13 : Ref sig .tc := ⟨.hbm, 264, rfl⟩
abbrev main_call0_call0_v14 : Ref sig .tc := ⟨.hbm, 265, rfl⟩
abbrev main_call0_call0_cst_1 : Ref sig .tc := ⟨.hbm, 266, rfl⟩
abbrev main_call0_call0_v15 : Ref sig .tc := ⟨.hbm, 267, rfl⟩
abbrev main_call0_call0_v16 : Ref sig .tc := ⟨.hbm, 268, rfl⟩
abbrev main_call0_call0_cst_2 : Ref sig .tc := ⟨.hbm, 269, rfl⟩
abbrev main_call0_call0_v17 : Ref sig .tc := ⟨.hbm, 270, rfl⟩
abbrev main_call0_call0_v18 : Ref sig .tc := ⟨.hbm, 271, rfl⟩
abbrev main_call0_call0_cst_3 : Ref sig .tc := ⟨.hbm, 272, rfl⟩
abbrev main_call0_call0_v19 : Ref sig .tc := ⟨.hbm, 273, rfl⟩
abbrev main_call0_call0_v20 : Ref sig .tc := ⟨.hbm, 274, rfl⟩
abbrev main_call0_call0_v21 : Ref sig .tc := ⟨.hbm, 275, rfl⟩
abbrev main_v206_1 : Ref sig .tc := ⟨.hbm, 276, rfl⟩
abbrev main_call0_call0_cst_4 : Ref sig .tc := ⟨.hbm, 277, rfl⟩
abbrev main_call0_call0_cst_5 : Ref sig .tc := ⟨.hbm, 278, rfl⟩
abbrev main_call0_call0_v23 : Ref sig .tc := ⟨.hbm, 279, rfl⟩
abbrev main_call0_call0_cst_6 : Ref sig .tc := ⟨.hbm, 280, rfl⟩
abbrev main_call0_call0_cst_7 : Ref sig .tc := ⟨.hbm, 281, rfl⟩
abbrev main_call0_call0_v24 : Ref sig .tc := ⟨.hbm, 282, rfl⟩
abbrev main_call0_call0_cst_8 : Ref sig .tc := ⟨.hbm, 283, rfl⟩
abbrev main_call0_call0_v25 : Ref sig .tc := ⟨.hbm, 284, rfl⟩
abbrev main_call0_call0_v26 : Ref sig .tc := ⟨.hbm, 285, rfl⟩
abbrev main_call0_call0_cst_9 : Ref sig .tc := ⟨.hbm, 286, rfl⟩
abbrev main_call0_call0_v27 : Ref sig .tc := ⟨.hbm, 287, rfl⟩
abbrev main_call0_call0_v28 : Ref sig .tc := ⟨.hbm, 288, rfl⟩
abbrev main_call0_call0_v29 : Ref sig .tc := ⟨.hbm, 289, rfl⟩
abbrev main_call0_call0_v30 : Ref sig .tc := ⟨.hbm, 290, rfl⟩
abbrev main_call0_call0_v31 : Ref sig .tc := ⟨.hbm, 291, rfl⟩
abbrev main_call0_call0_cst_10 : Ref sig .tc := ⟨.hbm, 292, rfl⟩
abbrev main_call0_call0_v32 : Ref sig .tc := ⟨.hbm, 293, rfl⟩
abbrev main_v206_2 : Ref sig .tc := ⟨.hbm, 294, rfl⟩
abbrev main_v206_0 : Ref sig .tc := ⟨.hbm, 295, rfl⟩
abbrev main_call1_v0 : Ref sig .tc := ⟨.hbm, 296, rfl⟩
abbrev main_call1_v1 : Ref sig .tc := ⟨.hbm, 297, rfl⟩
abbrev main_v207 : Ref sig .tc := ⟨.hbm, 298, rfl⟩
abbrev main_cst_31 : Ref sig .tc := ⟨.hbm, 299, rfl⟩
abbrev main_v208 : Ref sig .tc := ⟨.hbm, 300, rfl⟩
abbrev main_v209 : Ref sig .tc := ⟨.hbm, 301, rfl⟩
abbrev main_cst_32 : Ref sig .tc := ⟨.hbm, 302, rfl⟩
abbrev main_v210 : Ref sig .tc := ⟨.hbm, 303, rfl⟩
abbrev main_cst_33 : Ref sig .tc := ⟨.hbm, 304, rfl⟩
abbrev main_v211 : Ref sig .tc := ⟨.hbm, 305, rfl⟩
abbrev main_cst_34 : Ref sig .tc := ⟨.hbm, 306, rfl⟩
abbrev main_v212 : Ref sig .tc := ⟨.hbm, 307, rfl⟩
abbrev main_v213 : Ref sig .tc := ⟨.hbm, 308, rfl⟩
abbrev main_v214 : Ref sig .tc := ⟨.hbm, 309, rfl⟩
abbrev main_v215 : Ref sig .tc := ⟨.hbm, 310, rfl⟩
abbrev main_c : Ref sig .tc := ⟨.hbm, 311, rfl⟩
abbrev main_call2_v0 : Ref sig .tc := ⟨.hbm, 312, rfl⟩
abbrev main_v216 : Ref sig .tc := ⟨.hbm, 313, rfl⟩
abbrev main_v217 : Ref sig .tc := ⟨.hbm, 314, rfl⟩
abbrev main_v218 : Ref sig .tc := ⟨.hbm, 315, rfl⟩
abbrev main_v219 : Ref sig .tc := ⟨.hbm, 316, rfl⟩
abbrev main_v220 : Ref sig .tc := ⟨.hbm, 317, rfl⟩
abbrev main_v221 : Ref sig .tc := ⟨.hbm, 318, rfl⟩
abbrev main_v222 : Ref sig .tc := ⟨.hbm, 319, rfl⟩

abbrev nD : Nat := 1
abbrev τ : Topo := Topo.v7x

variable {F : FTy → Type} [FloatOps F]
-- ==== CumfKernel.lean ====
abbrev S1x4096x8 : Shape := ⟨3, ![1, 4096, 8]⟩
abbrev S4096x8 : Shape := ⟨2, ![4096, 8]⟩
abbrev S_ : Shape := ⟨0, ![]⟩
abbrev S4096x128 : Shape := ⟨2, ![4096, 128]⟩
abbrev S512x128 : Shape := ⟨2, ![512, 128]⟩
abbrev S1x128 : Shape := ⟨2, ![1, 128]⟩
abbrev S512x512 : Shape := ⟨2, ![512, 512]⟩

abbrev nBuf : Space → Nat
  | .hbm => 7
  | .vmem => 5
  | .smem => 0
  | _ => 0

abbrev bufTy : (tb : Table) → Fin (tcTables nBuf tb) → BufTy
  | .hbm, ⟨0, _⟩ => ⟨S1x4096x8, .f32⟩
  | .hbm, ⟨1, _⟩ => ⟨S4096x8, .f32⟩
  | .hbm, ⟨2, _⟩ => ⟨S_, .i32⟩
  | .hbm, ⟨3, _⟩ => ⟨S_, .f32⟩
  | .hbm, ⟨4, _⟩ => ⟨S4096x128, .f32⟩
  | .hbm, ⟨5, _⟩ => ⟨S4096x128, .f32⟩
  | .hbm, ⟨6, _⟩ => ⟨S4096x8, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | _, _ => ⟨S1x4096x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_call0_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CumfReferenceIdeal.lean ====
abbrev S1x4096x8 : Shape := ⟨3, ![1, 4096, 8]⟩
abbrev S_ : Shape := ⟨0, ![]⟩
abbrev S4096x8 : Shape := ⟨2, ![4096, 8]⟩

abbrev nBuf : Space → Nat
  | .hbm => 5
  | .vmem => 0
  | .smem => 0
  | _ => 0

abbrev bufTy : (tb : Table) → Fin (tcTables nBuf tb) → BufTy
  | .hbm, ⟨0, _⟩ => ⟨S1x4096x8, .f32⟩
  | .hbm, ⟨1, _⟩ => ⟨S_, .f32⟩
  | .hbm, ⟨2, _⟩ => ⟨S_, .f32⟩
  | .hbm, ⟨3, _⟩ => ⟨S1x4096x8, .f32⟩
  | .hbm, ⟨4, _⟩ => ⟨S4096x8, .f32⟩
  | _, _ => ⟨S1x4096x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== RopefKernel.lean ====
abbrev S1x4096x2304 : Shape := ⟨3, ![1, 4096, 2304]⟩
abbrev S4096x2304 : Shape := ⟨2, ![4096, 2304]⟩
abbrev S4096x1024 : Shape := ⟨2, ![4096, 1024]⟩
abbrev S4096x2x8x64 : Shape := ⟨4, ![4096, 2, 8, 64]⟩
abbrev S4096x8x2x64 : Shape := ⟨4, ![4096, 8, 2, 64]⟩
abbrev S4096x256 : Shape := ⟨2, ![4096, 256]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x32 : Shape := ⟨2, ![4096, 32]⟩
abbrev S4096x128 : Shape := ⟨2, ![4096, 128]⟩
abbrev S32 : Shape := ⟨1, ![32]⟩
abbrev S1x32 : Shape := ⟨2, ![1, 32]⟩
abbrev S512x1024 : Shape := ⟨2, ![512, 1024]⟩
abbrev S512x256 : Shape := ⟨2, ![512, 256]⟩
abbrev S512x128 : Shape := ⟨2, ![512, 128]⟩

abbrev nBuf : Space → Nat
  | .hbm => 71
  | .vmem => 14
  | .smem => 0
  | _ => 0

abbrev bufTy : (tb : Table) → Fin (tcTables nBuf tb) → BufTy
  | .hbm, ⟨0, _⟩ => ⟨S1x4096x2304, .f32⟩
  | .hbm, ⟨1, _⟩ => ⟨S4096x2304, .f32⟩
  | .hbm, ⟨2, _⟩ => ⟨S4096x1024, .f32⟩
  | .hbm, ⟨3, _⟩ => ⟨S4096x2x8x64, .f32⟩
  | .hbm, ⟨4, _⟩ => ⟨S4096x8x2x64, .f32⟩
  | .hbm, ⟨5, _⟩ => ⟨S4096x1024, .f32⟩
  | .hbm, ⟨6, _⟩ => ⟨S4096x1024, .f32⟩
  | .hbm, ⟨7, _⟩ => ⟨S4096x2x8x64, .f32⟩
  | .hbm, ⟨8, _⟩ => ⟨S4096x8x2x64, .f32⟩
  | .hbm, ⟨9, _⟩ => ⟨S4096x1024, .f32⟩
  | .hbm, ⟨10, _⟩ => ⟨S4096x256, .f32⟩
  | .hbm, ⟨11, _⟩ => ⟨S4096x2304, .f32⟩
  | .hbm, ⟨12, _⟩ => ⟨S4096, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S4096x1, .f32⟩
  | .hbm, ⟨28, _⟩ => ⟨S1x16, .f32⟩
  | .hbm, ⟨29, _⟩ => ⟨S4096x16, .f32⟩
  | .hbm, ⟨30, _⟩ => ⟨S4096x16, .f32⟩
  | .hbm, ⟨31, _⟩ => ⟨S4096x16, .f32⟩
  | .hbm, ⟨32, _⟩ => ⟨S4096x16, .f32⟩
  | .hbm, ⟨33, _⟩ => ⟨S4096x16, .f32⟩
  | .hbm, ⟨34, _⟩ => ⟨S_, .f32⟩
  | .hbm, ⟨35, _⟩ => ⟨S4096x64, .f32⟩
  | .hbm, ⟨36, _⟩ => ⟨S_, .f32⟩
  | .hbm, ⟨37, _⟩ => ⟨S4096x64, .f32⟩
  | .hbm, ⟨38, _⟩ => ⟨S4096x32, .f32⟩
  | .hbm, ⟨39, _⟩ => ⟨S4096x128, .f32⟩
  | .hbm, ⟨40, _⟩ => ⟨S4096x16, .f32⟩
  | .hbm, ⟨41, _⟩ => ⟨S4096x32, .f32⟩
  | .hbm, ⟨42, _⟩ => ⟨S4096x128, .f32⟩
  | .hbm, ⟨43, _⟩ => ⟨S32, .f32⟩
  | .hbm, ⟨44, _⟩ => ⟨S_, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S32, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S4096x1, .f32⟩
  | .hbm, ⟨58, _⟩ => ⟨S1x32, .f32⟩
  | .hbm, ⟨59, _⟩ => ⟨S4096x32, .f32⟩
  | .hbm, ⟨60, _⟩ => ⟨S4096x32, .f32⟩
  | .hbm, ⟨61, _⟩ => ⟨S4096x32, .f32⟩
  | .hbm, ⟨62, _⟩ => ⟨S4096x32, .f32⟩
  | .hbm, ⟨63, _⟩ => ⟨S4096x32, .f32⟩
  | .hbm, ⟨64, _⟩ => ⟨S4096x128, .f32⟩
  | .hbm, ⟨65, _⟩ => ⟨S4096x32, .f32⟩
  | .hbm, ⟨66, _⟩ => ⟨S4096x32, .f32⟩
  | .hbm, ⟨67, _⟩ => ⟨S4096x128, .f32⟩
  | .hbm, ⟨68, _⟩ => ⟨S4096x1024, .bf16⟩
  | .hbm, ⟨69, _⟩ => ⟨S4096x128, .bf16⟩
  | .hbm, ⟨70, _⟩ => ⟨S4096x128, .bf16⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1024, .bf16⟩
  | .local _ .vmem, ⟨9, _⟩ => ⟨S512x1024, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | _, _ => ⟨S1x4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_cst : Ref sig .tc := ⟨.hbm, 14, rfl⟩
abbrev main_v13 : Ref sig .tc := ⟨.hbm, 15, rfl⟩
abbrev main_v14 : Ref sig .tc := ⟨.hbm, 16, rfl⟩
abbrev main_cst_0 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_1 : Ref sig .tc := ⟨.hbm, 21, rfl⟩
abbrev main_v18 : Ref sig .tc := ⟨.hbm, 22, rfl⟩
abbrev main_v19 : Ref sig .tc := ⟨.hbm, 23, rfl⟩
abbrev main_cst_2 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_3 : Ref sig .tc := ⟨.hbm, 34, rfl⟩
abbrev main_v29 : Ref sig .tc := ⟨.hbm, 35, rfl⟩
abbrev main_cst_4 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_5 : Ref sig .tc := ⟨.hbm, 44, rfl⟩
abbrev main_v37 : Ref sig .tc := ⟨.hbm, 45, rfl⟩
abbrev main_v38 : Ref sig .tc := ⟨.hbm, 46, rfl⟩
abbrev main_cst_6 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_7 : Ref sig .tc := ⟨.hbm, 51, rfl⟩
abbrev main_v42 : Ref sig .tc := ⟨.hbm, 52, rfl⟩
abbrev main_v43 : Ref sig .tc := ⟨.hbm, 53, rfl⟩
abbrev main_cst_8 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57_0 : Ref sig .tc := ⟨.hbm, 68, rfl⟩
abbrev main_v57_1 : Ref sig .tc := ⟨.hbm, 69, rfl⟩
abbrev main_v57_2 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RopefReferenceIdeal.lean ====
abbrev S1x4096x2304 : Shape := ⟨3, ![1, 4096, 2304]⟩
abbrev S4096 : Shape := ⟨1, ![4096]⟩
abbrev S1x4096x1024 : Shape := ⟨3, ![1, 4096, 1024]⟩
abbrev S1x4096x16x64 : Shape := ⟨4, ![1, 4096, 16, 64]⟩
abbrev S1x16x4096x64 : Shape := ⟨4, ![1, 16, 4096, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x16x4096x32 : Shape := ⟨4, ![1, 16, 4096, 32]⟩
abbrev S1x1x4096x32 : Shape := ⟨4, ![1, 1, 4096, 32]⟩
abbrev S1x4096x128 : Shape := ⟨3, ![1, 4096, 128]⟩
abbrev S1x4096x2x64 : Shape := ⟨4, ![1, 4096, 2, 64]⟩
abbrev S1x2x4096x64 : Shape := ⟨4, ![1, 2, 4096, 64]⟩
abbrev S1x2x4096x32 : Shape := ⟨4, ![1, 2, 4096, 32]⟩
abbrev S2x8x4096x64 : Shape := ⟨4, ![2, 8, 4096, 64]⟩
abbrev S4096x8x2x64 : Shape := ⟨4, ![4096, 8, 2, 64]⟩
abbrev S4096x1024 : Shape := ⟨2, ![4096, 1024]⟩
abbrev S2x4096x64 : Shape := ⟨3, ![2, 4096, 64]⟩
abbrev S4096x2x64 : Shape := ⟨3, ![4096, 2, 64]⟩
abbrev S4096x128 : Shape := ⟨2, ![4096, 128]⟩

abbrev nBuf : Space → Nat
  | .hbm => 97
  | .vmem => 0
  | .smem => 0
  | _ => 0

abbrev bufTy : (tb : Table) → Fin (tcTables nBuf tb) → BufTy
  | .hbm, ⟨0, _⟩ => ⟨S1x4096x2304, .f32⟩
  | .hbm, ⟨1, _⟩ => ⟨S4096, .i32⟩
  | .hbm, ⟨2, _⟩ => ⟨S1x4096x1024, .f32⟩
  | .hbm, ⟨3, _⟩ => ⟨S1x4096x16x64, .f32⟩
  | .hbm, ⟨4, _⟩ => ⟨S1x16x4096x64, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S4096, .f32⟩
  | .hbm, ⟨20, _⟩ => ⟨S4096x1, .f32⟩
  | .hbm, ⟨21, _⟩ => ⟨S1x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S1x16x4096x32, .f32⟩
  | .hbm, ⟨28, _⟩ => ⟨S1x16x4096x32, .f32⟩
  | .hbm, ⟨29, _⟩ => ⟨S1x1x4096x32, .f32⟩
  | .hbm, ⟨30, _⟩ => ⟨S1x16x4096x32, .f32⟩
  | .hbm, ⟨31, _⟩ => ⟨S1x16x4096x32, .f32⟩
  | .hbm, ⟨32, _⟩ => ⟨S1x1x4096x32, .f32⟩
  | .hbm, ⟨33, _⟩ => ⟨S1x16x4096x32, .f32⟩
  | .hbm, ⟨34, _⟩ => ⟨S1x16x4096x32, .f32⟩
  | .hbm, ⟨35, _⟩ => ⟨S1x16x4096x32, .f32⟩
  | .hbm, ⟨36, _⟩ => ⟨S1x1x4096x32, .f32⟩
  | .hbm, ⟨37, _⟩ => ⟨S1x16x4096x32, .f32⟩
  | .hbm, ⟨38, _⟩ => ⟨S1x16x4096x32, .f32⟩
  | .hbm, ⟨39, _⟩ => ⟨S1x1x4096x32, .f32⟩
  | .hbm, ⟨40, _⟩ => ⟨S1x16x4096x32, .f32⟩
  | .hbm, ⟨41, _⟩ => ⟨S1x16x4096x32, .f32⟩
  | .hbm, ⟨42, _⟩ => ⟨S1x16x4096x32, .f32⟩
  | .hbm, ⟨43, _⟩ => ⟨S1x16x4096x64, .f32⟩
  | .hbm, ⟨44, _⟩ => ⟨S1x4096x128, .f32⟩
  | .hbm, ⟨45, _⟩ => ⟨S1x4096x2x64, .f32⟩
  | .hbm, ⟨46, _⟩ => ⟨S1x2x4096x64, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S_, .f32⟩
  | .hbm, ⟨59, _⟩ => ⟨S32, .f32⟩
  | .hbm, ⟨60, _⟩ => ⟨S32, .f32⟩
  | .hbm, ⟨61, _⟩ => ⟨S4096, .f32⟩
  | .hbm, ⟨62, _⟩ => ⟨S4096x1, .f32⟩
  | .hbm, ⟨63, _⟩ => ⟨S1x32, .f32⟩
  | .hbm, ⟨64, _⟩ => ⟨S4096x32, .f32⟩
  | .hbm, ⟨65, _⟩ => ⟨S4096x32, .f32⟩
  | .hbm, ⟨66, _⟩ => ⟨S4096x32, .f32⟩
  | .hbm, ⟨67, _⟩ => ⟨S4096x32, .f32⟩
  | .hbm, ⟨68, _⟩ => ⟨S4096x32, .f32⟩
  | .hbm, ⟨69, _⟩ => ⟨S1x2x4096x32, .f32⟩
  | .hbm, ⟨70, _⟩ => ⟨S1x2x4096x32, .f32⟩
  | .hbm, ⟨71, _⟩ => ⟨S1x1x4096x32, .f32⟩
  | .hbm, ⟨72, _⟩ => ⟨S1x2x4096x32, .f32⟩
  | .hbm, ⟨73, _⟩ => ⟨S1x2x4096x32, .f32⟩
  | .hbm, ⟨74, _⟩ => ⟨S1x1x4096x32, .f32⟩
  | .hbm, ⟨75, _⟩ => ⟨S1x2x4096x32, .f32⟩
  | .hbm, ⟨76, _⟩ => ⟨S1x2x4096x32, .f32⟩
  | .hbm, ⟨77, _⟩ => ⟨S1x2x4096x32, .f32⟩
  | .hbm, ⟨78, _⟩ => ⟨S1x1x4096x32, .f32⟩
  | .hbm, ⟨79, _⟩ => ⟨S1x2x4096x32, .f32⟩
  | .hbm, ⟨80, _⟩ => ⟨S1x2x4096x32, .f32⟩
  | .hbm, ⟨81, _⟩ => ⟨S1x1x4096x32, .f32⟩
  | .hbm, ⟨82, _⟩ => ⟨S1x2x4096x32, .f32⟩
  | .hbm, ⟨83, _⟩ => ⟨S1x2x4096x32, .f32⟩
  | .hbm, ⟨84, _⟩ => ⟨S1x2x4096x32, .f32⟩
  | .hbm, ⟨85, _⟩ => ⟨S1x2x4096x64, .f32⟩
  | .hbm, ⟨86, _⟩ => ⟨S2x8x4096x64, .f32⟩
  | .hbm, ⟨87, _⟩ => ⟨S4096x8x2x64, .f32⟩
  | .hbm, ⟨88, _⟩ => ⟨S4096x1024, .f32⟩
  | .hbm, ⟨89, _⟩ => ⟨S4096x1024, .bf16⟩
  | .hbm, ⟨90, _⟩ => ⟨S2x4096x64, .f32⟩
  | .hbm, ⟨91, _⟩ => ⟨S4096x2x64, .f32⟩
  | .hbm, ⟨92, _⟩ => ⟨S4096x128, .f32⟩
  | .hbm, ⟨93, _⟩ => ⟨S4096x128, .bf16⟩
  | .hbm, ⟨94, _⟩ => ⟨S1x4096x128, .f32⟩
  | .hbm, ⟨95, _⟩ => ⟨S4096x128, .f32⟩
  | .hbm, ⟨96, _⟩ => ⟨S4096x128, .bf16⟩
  | _, _ => ⟨S1x4096x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_cst_3 : Ref sig .tc := ⟨.hbm, 48, rfl⟩
abbrev main_v43 : Ref sig .tc := ⟨.hbm, 49, rfl⟩
abbrev main_v44 : Ref sig .tc := ⟨.hbm, 50, rfl⟩
abbrev main_cst_4 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_cst_5 : Ref sig .tc := ⟨.hbm, 55, rfl⟩
abbrev main_v48 : Ref sig .tc := ⟨.hbm, 56, rfl⟩
abbrev main_v49 : Ref sig .tc := ⟨.hbm, 57, rfl⟩
abbrev main_cst_6 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩

abbrev nD : Nat := 1
abbrev τ : Topo := Topo.v7x

variable {F : FTy → Type} [FloatOps F]
-- ==== OutfKernel.lean ====
abbrev S1x4096x1024 : Shape := ⟨3, ![1, 4096, 1024]⟩
abbrev S1024x1024 : Shape := ⟨2, ![1024, 1024]⟩
abbrev S1024 : Shape := ⟨1, ![1024]⟩
abbrev S1x4096x512 : Shape := ⟨3, ![1, 4096, 512]⟩
abbrev S4096x512 : Shape := ⟨2, ![4096, 512]⟩
abbrev S4096x1024 : Shape := ⟨2, ![4096, 1024]⟩
abbrev S1x1024 : Shape := ⟨2, ![1, 1024]⟩
abbrev S4096x1 : Shape := ⟨2, ![4096, 1]⟩
abbrev S512x512 : Shape := ⟨2, ![512, 512]⟩
abbrev S512x1024 : Shape := ⟨2, ![512, 1024]⟩
abbrev S512x1 : Shape := ⟨2, ![512, 1]⟩
abbrev S512 : Shape := ⟨1, ![512]⟩

abbrev nBuf : Space → Nat
  | .hbm => 20
  | .vmem => 21
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1x4096x512, .f32⟩
  | .hbm, ⟨7, _⟩ => ⟨S4096x512, .f32⟩
  | .hbm, ⟨8, _⟩ => ⟨S1x4096x512, .f32⟩
  | .hbm, ⟨9, _⟩ => ⟨S4096x512, .f32⟩
  | .hbm, ⟨10, _⟩ => ⟨S4096x1024, .f32⟩
  | .hbm, ⟨11, _⟩ => ⟨S4096x1024, .f32⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S4096x1024, .f32⟩
  | .hbm, ⟨16, _⟩ => ⟨S4096x1024, .bf16⟩
  | .hbm, ⟨17, _⟩ => ⟨S4096x1024, .bf16⟩
  | .hbm, ⟨18, _⟩ => ⟨S4096x1024, .f32⟩
  | .hbm, ⟨19, _⟩ => ⟨S4096x1, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x1, .f32⟩
  | .local _ .vmem, ⟨20, _⟩ => ⟨S512x1, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== OutfReferenceIdeal.lean ====
abbrev S1x4096x1024 : Shape := ⟨3, ![1, 4096, 1024]⟩
abbrev S1024x1024 : Shape := ⟨2, ![1024, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S4096x1024 : Shape := ⟨2, ![4096, 1024]⟩
abbrev S4096x1 : Shape := ⟨2, ![4096, 1]⟩

abbrev nBuf : Space → Nat
  | .hbm => 79
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x4096x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1x4096x1024, .f32⟩
  | .hbm, ⟨7, _⟩ => ⟨S1x4096x1024, .f32⟩
  | .hbm, ⟨8, _⟩ => ⟨S_, .f32⟩
  | .hbm, ⟨9, _⟩ => ⟨S1x4096x1024, .f32⟩
  | .hbm, ⟨10, _⟩ => ⟨S1x4096x1024, .f32⟩
  | .hbm, ⟨11, _⟩ => ⟨S_, .f32⟩
  | .hbm, ⟨12, _⟩ => ⟨S1x4096x1024, .f32⟩
  | .hbm, ⟨13, _⟩ => ⟨S1x4096x1024, .f32⟩
  | .hbm, ⟨14, _⟩ => ⟨S1x4096x1024, .f32⟩
  | .hbm, ⟨15, _⟩ => ⟨S1x4096x1024, .f32⟩
  | .hbm, ⟨16, _⟩ => ⟨S_, .f32⟩
  | .hbm, ⟨17, _⟩ => ⟨S1x4096x1024, .f32⟩
  | .hbm, ⟨18, _⟩ => ⟨S1x4096x1024, .f32⟩
  | .hbm, ⟨19, _⟩ => ⟨S1x4096x1024, .f32⟩
  | .hbm, ⟨20, _⟩ => ⟨S1x4096x1024, .f32⟩
  | .hbm, ⟨21, _⟩ => ⟨S_, .f32⟩
  | .hbm, ⟨22, _⟩ => ⟨S1x4096, .f32⟩
  | .hbm, ⟨23, _⟩ => ⟨S1x4096x1, .f32⟩
  | .hbm, ⟨24, _⟩ => ⟨S_, .f32⟩
  | .hbm, ⟨25, _⟩ => ⟨S1x4096x1, .f32⟩
  | .hbm, ⟨26, _⟩ => ⟨S1x4096x1, .f32⟩
  | .hbm, ⟨27, _⟩ => ⟨S1x4096x1024, .f32⟩
  | .hbm, ⟨28, _⟩ => ⟨S1x4096x1024, .f32⟩
  | .hbm, ⟨29, _⟩ => ⟨S1x4096x1024, .f32⟩
  | .hbm, ⟨30, _⟩ => ⟨S_, .f32⟩
  | .hbm, ⟨31, _⟩ => ⟨S1x4096, .f32⟩
  | .hbm, ⟨32, _⟩ => ⟨S1x4096x1, .f32⟩
  | .hbm, ⟨33, _⟩ => ⟨S_, .f32⟩
  | .hbm, ⟨34, _⟩ => ⟨S1x4096x1, .f32⟩
  | .hbm, ⟨35, _⟩ => ⟨S1x4096x1, .f32⟩
  | .hbm, ⟨36, _⟩ => ⟨S_, .f32⟩
  | .hbm, ⟨37, _⟩ => ⟨S1x4096x1, .f32⟩
  | .hbm, ⟨38, _⟩ => ⟨S1x4096x1, .f32⟩
  | .hbm, ⟨39, _⟩ => ⟨S1x4096x1, .f32⟩
  | .hbm, ⟨40, _⟩ => ⟨S_, .f32⟩
  | .hbm, ⟨41, _⟩ => ⟨S1x4096, .f32⟩
  | .hbm, ⟨42, _⟩ => ⟨S1x4096x1, .f32⟩
  | .hbm, ⟨43, _⟩ => ⟨S_, .f32⟩
  | .hbm, ⟨44, _⟩ => ⟨S1x4096x1, .f32⟩
  | .hbm, ⟨45, _⟩ => ⟨S1x4096x1, .f32⟩
  | .hbm, ⟨46, _⟩ => ⟨S1x4096x1024, .f32⟩
  | .hbm, ⟨47, _⟩ => ⟨S1x4096x1024, .f32⟩
  | .hbm, ⟨48, _⟩ => ⟨S1x4096x1024, .f32⟩
  | .hbm, ⟨49, _⟩ => ⟨S_, .f32⟩
  | .hbm, ⟨50, _⟩ => ⟨S1x4096, .f32⟩
  | .hbm, ⟨51, _⟩ => ⟨S1x4096x1, .f32⟩
  | .hbm, ⟨52, _⟩ => ⟨S_, .f32⟩
  | .hbm, ⟨53, _⟩ => ⟨S1x4096x1, .f32⟩
  | .hbm, ⟨54, _⟩ => ⟨S1x4096x1, .f32⟩
  | .hbm, ⟨55, _⟩ => ⟨S1x4096x1024, .f32⟩
  | .hbm, ⟨56, _⟩ => ⟨S1x4096x1024, .f32⟩
  | .hbm, ⟨57, _⟩ => ⟨S_, .f32⟩
  | .hbm, ⟨58, _⟩ => ⟨S1x4096x1, .f32⟩
  | .hbm, ⟨59, _⟩ => ⟨S1x4096x1, .f32⟩
  | .hbm, ⟨60, _⟩ => ⟨S1x4096x1, .f32⟩
  | .hbm, ⟨61, _⟩ => ⟨S1x4096x1024, .f32⟩
  | .hbm, ⟨62, _⟩ => ⟨S1x4096x1024, .f32⟩
  | .hbm, ⟨63, _⟩ => ⟨S1x1x1024, .f32⟩
  | .hbm, ⟨64, _⟩ => ⟨S1x4096x1024, .f32⟩
  | .hbm, ⟨65, _⟩ => ⟨S1x4096x1024, .f32⟩
  | .hbm, ⟨66, _⟩ => ⟨S1x1x1024, .f32⟩
  | .hbm, ⟨67, _⟩ => ⟨S1x4096x1024, .f32⟩
  | .hbm, ⟨68, _⟩ => ⟨S1x4096x1024, .f32⟩
  | .hbm, ⟨69, _⟩ => ⟨S4096x1024, .f32⟩
  | .hbm, ⟨70, _⟩ => ⟨S4096x1024, .bf16⟩
  | .hbm, ⟨71, _⟩ => ⟨S4096x1024, .f32⟩
  | .hbm, ⟨72, _⟩ => ⟨S4096x1024, .bf16⟩
  | .hbm, ⟨73, _⟩ => ⟨S1x4096x1024, .f32⟩
  | .hbm, ⟨74, _⟩ => ⟨S1x4096x1024, .f32⟩
  | .hbm, ⟨75, _⟩ => ⟨S1x4096x1024, .f32⟩
  | .hbm, ⟨76, _⟩ => ⟨S1x4096x1024, .f32⟩
  | .hbm, ⟨77, _⟩ => ⟨S4096x1024, .f32⟩
  | .hbm, ⟨78, _⟩ => ⟨S4096x1, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_cst_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_5 : Ref sig .tc := ⟨.hbm, 40, rfl⟩
abbrev main_v20 : Ref sig .tc := ⟨.hbm, 41, rfl⟩
abbrev main_v21 : Ref sig .tc := ⟨.hbm, 42, rfl⟩
abbrev main_cst_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_cst_7 : Ref sig .tc := ⟨.hbm, 49, rfl⟩
abbrev main_v27 : Ref sig .tc := ⟨.hbm, 50, rfl⟩
abbrev main_v28 : Ref sig .tc := ⟨.hbm, 51, rfl⟩
abbrev main_cst_8 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_9 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩

abbrev nD : Nat := 1
abbrev τ : Topo := Topo.v7x

variable {F : FTy → Type} [FloatOps F]
-- ==== Proof.Loss.lean ====
/- The loss and its gradient: what the two arrays of the call hold after the run is the reference's term. -/
module

public import proofs.«01_k».proof.Proof.Gen.LossKernelIdeal.Frame
public import proofs.«01_k».proof.Proof.Gen.LossReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.LossKernelIdeal.Value

open Cert.LossKernelIdeal Cert.LossKernelIdeal.Gen

variable (m : (ℓ : Loc nD τ sig) → Buf (Elt Ideal) ℓ)

/-- One half, the factor of the loss. -/
theorem half : Ideal.ofBits .f32 0x3F000000#32 = (((1 : ℝ) / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem width : Ideal.ofBits .f32 0x44800000#32 = ((1024 : ℝ) : EReal) := by
  simp [Ideal.ofBits, Ideal.ieee, -EReal.coe_mul]; norm_num
theorem width_inv : Ideal.ofBits .f32 0x3A800000#32 = ((1 / 1024 : ℝ) : EReal) := by
  simp [Ideal.ofBits, Ideal.ieee, -EReal.coe_mul]; norm_num

theorem idx : ∀ t : Fin cfg0.N, win0_0.index t = ![t.val, 0] ∧ win0_1.index t = ![t.val, 0] ∧ win0_2.index t = ![t.val, 0]
    ∧ win0_3.index t = ![0, 0] :=
  (by decide +kernel : ∀ t : Fin grid0.N, _)

/-- The gradient: each element is the difference over the width. -/
abbrev GRAD (X T : FVec Ideal S1x4096x1024 .f32) : FVec Ideal S4096x1024 .f32 := fun i =>
  (X (ix3 0 (i 0) (i 1)) - T (ix3 0 (i 0) (i 1))) * ((1 / 1024 : ℝ) : EReal)

/-- The loss: half the sum over the tokens of the mean squared difference, in every element of the tile. -/
abbrev LOSS (X T : FVec Ideal S1x4096x1024 .f32) : FVec Ideal S8x128 .f32 := fun _ =>
  ∑ r : Fin 4096, ((1 / 2 : ℝ) : EReal) * ((∑ k : Fin 1024, (X (ix3 0 r k) - T (ix3 0 r k)) * (X (ix3 0 r k) - T (ix3 0 r k)))
    * ((1 / 1024 : ℝ) : EReal))

theorem half_mul_sum {n : ℕ} (f : Fin n → EReal) :
    ((1 / 2 : ℝ) : EReal) * ∑ i, f i = ∑ i, ((1 / 2 : ℝ) : EReal) * f i := by
  have h : ∀ s : Finset (Fin n), ((1 / 2 : ℝ) : EReal) * ∑ i ∈ s, f i = ∑ i ∈ s, ((1 / 2 : ℝ) : EReal) * f i := by
    intro s
    induction s using Finset.cons_induction with
    | empty => simp
    | cons a s ha ih =>
      rw [Finset.sum_cons, Finset.sum_cons, ← ih]
      exact EReal.left_distrib_of_nonneg_of_ne_top (by rw [← EReal.coe_zero]; exact EReal.coe_le_coe_iff.2 (by norm_num)) (EReal.coe_ne_top _) _ _
  exact h _

theorem pay_zero (j) : k0_pay1 (F := Ideal) j = 0 := by pointwise [k0_pay1]

theorem pay_loss (x t : FVec Ideal S512x1024 .f32) (acc : FVec Ideal S8x128 .f32) (j) :
    k0_pay4 (F := Ideal) x t acc j = acc j + ∑ r : Fin 512, ((1 / 2 : ℝ) : EReal) *
      ((∑ k : Fin 1024, (x (ix2 r k) - t (ix2 r k)) * (x (ix2 r k) - t (ix2 r k))) * ((1 / 1024 : ℝ) : EReal)) := by
  pointwise [k0_pay4, k0_pay2]
  rw [half, width, half_mul_sum]
  simp only [Ideal.div_coe (show (1024 : ℝ) ≠ 0 by norm_num)]

theorem final_grad (c : Dev nD) : (dats m 0 c).arrAt 2 (cfgs 0).N
    = GRAD (m ((c : Thread nD τ).loc main_arg0)) (m ((c : Thread nD τ).loc main_arg1)) := by
  refine (dats m 0 c).arrAt_eq_of_covers 2 _ (by decide +kernel) fun t _ y => ?_
  blk_simp
  rw [after0_2]
  by_cases h : t.val % 8 = 0
  · rw [outsAt0_A m c t h]; frame_out
    pointwise [k0_pay3, k0_pay2, GRAD]
    rw [width_inv]
    blk_point [iblk, V, idx t]
  · rw [outsAt0_B m c t h]; frame_out
    pointwise [k0_pay3, k0_pay2, GRAD]
    rw [width_inv]
    blk_point [iblk, V, idx t]

theorem final_loss (c : Dev nD) : (dats m 0 c).arrAt 3 (cfgs 0).N
    = LOSS (m ((c : Thread nD τ).loc main_arg0)) (m ((c : Thread nD τ).loc main_arg1)) := by
  refine (dats m 0 c).arrAt_eq_of_after_last 3 t0_7 (by decide +kernel) _ fun j => ?_
  blk_simp
  rw [after0_3, Pipeline.eq_sum_fin_of_reset_step_apply_last (fun n h => (outsAt0 m c n h).2) 8 (fun _ => 0) _
    (fun t h j => by rw [outsAt0_A m c t h]; frame_out; rw [pay_loss, pay_zero])
    (fun t h j => by rw [outsAt0_B m c t h]; frame_out; rw [pay_loss])
    (le_of_eq N_0) t0_7 rfl j, zero_add]
  refine Fin.sum_mul_add_congr fun t r hl => ?_
  blk_point [iblk, V, idx t]

end Cert.LossKernelIdeal.Value

namespace Cert.LossReferenceIdeal.Value

open Cert.LossReferenceIdeal Cert.LossReferenceIdeal.Gen
open Cert.LossKernelIdeal.Value (GRAD LOSS half two width half_mul_sum)

/-- The reference's gradient, over its arguments. -/
abbrev REF_GRAD (X T : FVec Ideal S1x4096x1024 .f32) : FVec Ideal S4096x1024 .f32 :=
  shapeCast _ (mulf (broadcastInDim S1x4096x1024 ![0, 1] bcast_S1x4096_S1x4096x1024_0_1 (Host.divf (broadcastInDim S1x4096 ![] bcast_S_S1x4096 (mulf (constant S_ .f32 0x3F000000#32) (constant S_ .f32 0x3F800000#32))) (broadcastInDim S1x4096 ![] bcast_S_S1x4096 (constant S_ .f32 0x44800000#32)))) (mulf (broadcastInDim S1x4096x1024 ![] bcast_S_S1x4096x1024 (constant S_ .f32 0x40000000#32)) (subf X T))) shapeCasts_S1x4096x1024_S4096x1024

/-- The reference's loss, spread over the tile. -/
abbrev REF_LOSS (X T : FVec Ideal S1x4096x1024 .f32) : FVec Ideal S8x128 .f32 :=
  broadcastInDim S8x128 ![] bcast_S_S8x128 (mulf (constant S_ .f32 0x3F000000#32) (Host.reduceAdd (Host.divf (Host.reduceAdd (mulf (subf X T) (subf X T)) (constant S_ .f32 0x00000000#32) reducesTo_S1x4096x1024_S1x4096_d2 h_S_) (broadcastInDim S1x4096 ![] bcast_S_S1x4096 (constant S_ .f32 0x44800000#32))) (constant S_ .f32 0x00000000#32) reducesTo_S1x4096_S_d0_1 h_S_))

theorem ref_grad (X T : FVec Ideal S1x4096x1024 .f32) : REF_GRAD X T = GRAD X T := by
  funext j
  pointwise [REF_GRAD, GRAD]
  rw [half, two, width, Ideal.div_coe (by norm_num), ← mul_assoc, ← EReal.coe_mul, ← EReal.coe_mul,
    mul_comm]
  norm_num

theorem ref_loss (X T : FVec Ideal S1x4096x1024 .f32) : REF_LOSS X T = LOSS X T := by
  funext j
  pointwise [REF_LOSS, LOSS]
  rw [half, width, Fin.sum_univ_one, half_mul_sum]
  simp only [Ideal.div_coe (show (1024 : ℝ) ≠ 0 by norm_num)]

end Cert.LossReferenceIdeal.Value

end
-- ==== Proof.LossClaim.lean ====
/- The claims about the loss and its gradient. -/
module

public import proofs.«01_k».proof.Defs
public import proofs.«01_k».proof.Proof.Loss
public import proofs.«01_k».proof.Proof.Gen.LossKernel.Frame
public import proofs.«01_k».proof.Proof.Gen.LossKernel
public import proofs.«01_k».proof.Proof.Gen.LossKernelIdeal
public import proofs.«01_k».proof.Proof.Gen.LossReferenceIdeal
public import Idealize.ShloMosaic.Lib.Claim

@[expose] public section

set_option maxRecDepth 16384

noncomputable section

namespace Cert.Proof

open Idealize.ShloMosaic Idealize.SL.Sem

theorem loss_frame : Cert.quiescent_LossKernel := fun m ρ _ => Cert.LossKernel.Gen.frame m ρ

theorem loss_frame_ideal : Cert.quiescent_LossKernelIdeal := fun m ρ _ => Cert.LossKernelIdeal.Gen.frame m ρ

theorem loss_frame_reference : Cert.quiescent_LossReferenceIdeal := fun m g _ =>
  (θ_run Cert.LossReferenceIdeal.defs _ _).mono (fun r h => ⟨fun c => (h c).2.2, sem_eq_zero_of_no_sems (by decide) r.2⟩)
    (Cert.LossReferenceIdeal.Value.run m g)

theorem loss_algebraic : Cert.algebraic_LossKernelIdeal_LossReferenceIdeal := by
  pair_intro
  · run_from Cert.LossKernelIdeal.Gen.run_main m g
  · run_from Cert.LossReferenceIdeal.Value.run m' g'
    · exact (Cert.LossReferenceIdeal.Value.ref_grad _ _).trans (Cert.LossKernelIdeal.Value.final_grad m _).symm
    · exact (Cert.LossReferenceIdeal.Value.ref_loss _ _).trans (Cert.LossKernelIdeal.Value.final_loss m _).symm

end Cert.Proof

end
-- ==== Proof.Finite.lean ====
/- A comparison of an entry's absolute value with infinity says that the entry is a real number. -/
module

public import Idealize.ShloMosaic.Lib.Pointwise

@[expose] public section

noncomputable section

open Idealize.ShloMosaic

namespace Cert.Finite

theorem inf_word : Ideal.ofBits .f32 0x7F800000#32 = (⊤ : EReal) := by
  simp [Ideal.ofBits, Ideal.ieee]

theorem real_of_lt (x : Ideal .f32) (h : FloatOps.cmpf .olt (FloatOps.hostAbsf x) (FloatOps.ofBits (F := Ideal) .f32 0x7F800000#32) = 1#1) :
    ∃ r : ℝ, (show EReal from x) = r := by
  change Ideal.cmp .olt (max (show EReal from x) (-(show EReal from x))) (Ideal.ofBits .f32 0x7F800000#32) = 1 at h
  rw [Ideal.cmp_olt_eq_one, inf_word, max_lt_iff] at h
  show ∃ r : ℝ, (x : EReal) = r
  change (x : EReal) < ⊤ ∧ -(x : EReal) < ⊤ at h
  revert h
  generalize (x : EReal) = y
  intro h
  induction y using EReal.rec with
  | bot => exact absurd h.2 (by simp)
  | coe r => exact ⟨r, rfl⟩
  | top => exact absurd h.1 (by simp)

end Cert.Finite

end
-- ==== Proof.Attn.lean ====
/- The mathematics of a causal row of attention and of its gradient, over the reals and over the extended reals. -/
module

public import Idealize.ShloMosaic.Lib.Pointwise
public import Idealize.ShloMosaic.Lib.Pipeline.ValueKit

@[expose] public section

noncomputable section

open Idealize.ShloMosaic

namespace Cert.Attn

/-- A finite sum of reals, read in the extended reals. -/
theorem coe_sum {ι : Type*} (s : Finset ι) (f : ι → ℝ) : ∑ i ∈ s, ((f i : ℝ) : EReal) = ((∑ i ∈ s, f i : ℝ) : EReal) := by
  classical
  induction s using Finset.cons_induction with
  | empty => simp
  | cons a s ha ih => rw [Finset.sum_cons, Finset.sum_cons, ih, EReal.coe_add]

theorem neg_inf : Ideal.ofBits .f32 0xFF800000#32 = (⊥ : EReal) := by
  simp [Ideal.ofBits, Ideal.ieee]

theorem ideal_exp_coe (x : ℝ) : Ideal.exp (x : EReal) = ((Real.exp x : ℝ) : EReal) := Ideal.exp_coe x

variable {n : ℕ}

/-- Row `i`'s logits: position `j` is masked when it lies after `i`. -/
def logit (x : Fin n → ℝ) (i j : Fin n) : EReal := if j ≤ i then (x j : EReal) else ⊥

/-- Row `i`'s exponentials, zero where masked. -/
def ex (x : Fin n → ℝ) (i j : Fin n) : ℝ := if j ≤ i then Real.exp (x j) else 0

/-- The sum of row `i`'s exponentials. -/
def tot (x : Fin n → ℝ) (i : Fin n) : ℝ := ∑ j, ex x i j

/-- Row `i`'s weights. -/
def soft (x : Fin n → ℝ) (i j : Fin n) : ℝ := ex x i j / tot x i

theorem ex_nonneg (x : Fin n → ℝ) (i j : Fin n) : 0 ≤ ex x i j := by
  unfold ex; split
  · exact (Real.exp_pos _).le
  · exact le_rfl

theorem tot_pos (x : Fin n → ℝ) (i : Fin n) : 0 < tot x i := by
  refine Finset.sum_pos' (fun j _ => ex_nonneg x i j) ⟨i, Finset.mem_univ i, ?_⟩
  simp [ex, Real.exp_pos]

theorem ex_shift (x : Fin n → ℝ) (a : ℝ) (i j : Fin n) : ex (fun j => x j - a) i j = ex x i j * Real.exp (-a) := by
  unfold ex; split
  · rw [← Real.exp_add, ← sub_eq_add_neg]
  · rw [zero_mul]

theorem tot_shift (x : Fin n → ℝ) (a : ℝ) (i : Fin n) : tot (fun j => x j - a) i = tot x i * Real.exp (-a) := by
  unfold tot; rw [Finset.sum_mul]; exact Finset.sum_congr rfl fun j _ => ex_shift x a i j

/-- The weights do not change when all logits of the row move by one amount. -/
theorem soft_shift (x : Fin n → ℝ) (a : ℝ) (i j : Fin n) : soft (fun j => x j - a) i j = soft x i j := by
  unfold soft; rw [ex_shift, tot_shift, mul_div_mul_right _ _ (Real.exp_ne_zero _)]

theorem soft_masked (x : Fin n → ℝ) (i j : Fin n) (h : ¬ j ≤ i) : soft x i j = 0 := by
  simp [soft, ex, h]

/-- The largest logit of a row is a real number. -/
theorem exists_max (x : Fin n → ℝ) (i : Fin n) : ∃ M : ℝ, Finset.fold max (⊥ : EReal) (logit x i) Finset.univ = (M : EReal) := by
  have hlt : Finset.fold max (⊥ : EReal) (logit x i) Finset.univ < ⊤ := by
    rw [Finset.fold_max_lt]
    refine ⟨bot_lt_top, fun j _ => ?_⟩
    unfold logit; split
    · exact EReal.coe_lt_top _
    · exact bot_lt_top
  have hgt : ⊥ < Finset.fold max (⊥ : EReal) (logit x i) Finset.univ := by
    rw [Finset.lt_fold_max]
    exact Or.inr ⟨i, Finset.mem_univ i, by simp [logit]⟩
  exact ⟨_, (EReal.coe_toReal hlt.ne hgt.ne').symm⟩

theorem exp_logit (x : Fin n → ℝ) (a : ℝ) (i j : Fin n) : Ideal.exp (logit x i j - (a : EReal)) = ((ex x i j * Real.exp (-a) : ℝ) : EReal) := by
  rw [← ex_shift]; unfold logit ex; split
  · rw [← EReal.coe_sub, ideal_exp_coe]
  · rw [EReal.bot_sub]; exact Ideal.exp_bot

theorem sum_exp_logit (x : Fin n → ℝ) (a : ℝ) (i : Fin n) :
    ∑ j, Ideal.exp (logit x i j - (a : EReal)) = ((tot x i * Real.exp (-a) : ℝ) : EReal) := by
  rw [← tot_shift, tot, ← coe_sum]
  exact Finset.sum_congr rfl fun j _ => by rw [exp_logit, ex_shift]

/-- Exponential over sum, with the row's largest logit taken off first: the weight. -/
theorem row_soft (x : Fin n → ℝ) (i j : Fin n) (X : Fin n → EReal) (hX : ∀ j, X j = logit x i j) (M : EReal)
    (hM : M = Finset.fold max (⊥ : EReal) X Finset.univ) :
    Ideal.div (Ideal.exp (X j - M)) (∑ j, Ideal.exp (X j - M)) = ((soft x i j : ℝ) : EReal) := by
  obtain rfl : X = logit x i := funext hX
  obtain ⟨a, ha⟩ := exists_max x i
  rw [hM, ha, sum_exp_logit, exp_logit, Ideal.div_coe (mul_pos (tot_pos x i) (Real.exp_pos _)).ne', ← EReal.coe_mul, mul_one_div,
    mul_div_mul_right _ _ (Real.exp_ne_zero _)]
  rfl

/-- A row's log-sum of exponentials. -/
theorem row_lse (x : Fin n → ℝ) (i : Fin n) (X : Fin n → EReal) (hX : ∀ j, X j = logit x i j) (M : EReal)
    (hM : M = Finset.fold max (⊥ : EReal) X Finset.univ) :
    M + Ideal.log (∑ j, Ideal.exp (X j - M)) = ((Real.log (tot x i) : ℝ) : EReal) := by
  obtain rfl : X = logit x i := funext hX
  obtain ⟨a, ha⟩ := exists_max x i
  rw [hM, ha, sum_exp_logit, Ideal.log_coe, if_neg (not_le.2 (mul_pos (tot_pos x i) (Real.exp_pos _))), ← EReal.coe_add,
    Real.log_mul (tot_pos x i).ne' (Real.exp_ne_zero _), Real.log_exp]
  congr 1; ring

/-- The weight from the saved log-sum. -/
theorem soft_of_lse (x : Fin n → ℝ) (i j : Fin n) :
    Ideal.exp (logit x i j - ((Real.log (tot x i) : ℝ) : EReal)) = ((soft x i j : ℝ) : EReal) := by
  rw [exp_logit, Real.exp_neg, Real.exp_log (tot_pos x i)]; rfl

/-- The gradient of a row's weights with respect to its logits, `dp` being the weights' own gradient. -/
def dsoft (x dp : Fin n → ℝ) (i j : Fin n) : ℝ := soft x i j * (dp j - ∑ k, soft x i k * dp k)

theorem dsoft_masked (x dp : Fin n → ℝ) (i j : Fin n) (h : ¬ j ≤ i) : dsoft x dp i j = 0 := by
  rw [dsoft, soft_masked x i j h, zero_mul]

theorem row_dsoft (x dp : Fin n → ℝ) (i j : Fin n) (X D : Fin n → EReal) (hX : ∀ j, X j = logit x i j) (hD : ∀ j, D j = (dp j : EReal))
    (M : EReal) (hM : M = Finset.fold max (⊥ : EReal) X Finset.univ) (L : EReal) (hL : L = ∑ j, Ideal.exp (X j - M)) :
    (Ideal.div (D j) L + -(∑ k, D k * Ideal.div ((1 : ℝ) : EReal) (L * L) * Ideal.exp (X k - M))) * Ideal.exp (X j - M)
      = ((dsoft x dp i j : ℝ) : EReal) := by
  obtain rfl : X = logit x i := funext hX
  obtain ⟨a, ha⟩ := exists_max x i
  have hp : 0 < tot x i * Real.exp (-a) := mul_pos (tot_pos x i) (Real.exp_pos _)
  have hs : ∀ k, soft x i k = ex x i k * Real.exp (-a) / (tot x i * Real.exp (-a)) := fun k => by
    rw [mul_div_mul_right _ _ (Real.exp_ne_zero _)]; rfl
  rw [hL, hM, ha, sum_exp_logit, ← EReal.coe_mul, Ideal.div_coe hp.ne', Ideal.div_coe (mul_pos hp hp).ne', hD, exp_logit]
  simp only [exp_logit, hD, ← EReal.coe_mul]
  rw [coe_sum, ← EReal.coe_neg, ← EReal.coe_add, ← EReal.coe_mul]
  congr 1
  unfold dsoft
  simp only [hs]
  have hsum : ∑ k, dp k * (1 * (1 / (tot x i * Real.exp (-a) * (tot x i * Real.exp (-a))))) * (ex x i k * Real.exp (-a))
      = (∑ k, ex x i k * Real.exp (-a) / (tot x i * Real.exp (-a)) * dp k) / (tot x i * Real.exp (-a)) := by
    rw [Finset.sum_div]
    refine Finset.sum_congr rfl fun k _ => ?_
    field_simp
  rw [hsum]
  field_simp
  ring

/-- The row sum of `do · o` is the sum of the weights times the weights' gradient. -/
theorem delta_eq {d : ℕ} (P : Fin n → ℝ) (g : Fin d → ℝ) (v : Fin n → Fin d → ℝ) :
    ∑ l, g l * ∑ k, P k * v k l = ∑ k, P k * ∑ l, g l * v k l := by
  simp only [Finset.mul_sum]
  rw [Finset.sum_comm]
  exact Finset.sum_congr rfl fun k _ => Finset.sum_congr rfl fun l _ => by ring

end Cert.Attn

end
-- ==== Proof.RefAttn.lean ====
/- A reference's attention gradient, stage by stage: the row maxima and sums, the weights, and the scores' gradient, from any masked logits. -/
module

public import proofs.«01_k».proof.Proof.Gen.FoxReferenceIdeal.Run
public import proofs.«01_k».proof.Proof.Attn
public import Idealize.ShloMosaic.Lib.WordCmp

@[expose] public section

set_option maxRecDepth 16384

noncomputable section

open Idealize.ShloMosaic Idealize.ShloMosaic.TcCoe Idealize.SL.Sem

namespace Cert.RefAttn

open Cert.FoxReferenceIdeal Cert.FoxReferenceIdeal.Gen Cert.Attn

@[irreducible] def rowMax (L : FVec Ideal S1x8x4096x4096 .f32) : FVec Ideal S1x8x4096 .f32 :=
  Host.reduce FloatOps.maximumf L (constant S_ .f32 0xFF800000#32) reducesTo_S1x8x4096x4096_S1x8x4096_d3 h_S_
@[irreducible] def rowSum (L : FVec Ideal S1x8x4096x4096 .f32) : FVec Ideal S1x8x4096 .f32 :=
  Host.reduceAdd L (constant S_ .f32 0x00000000#32) reducesTo_S1x8x4096x4096_S1x8x4096_d3 h_S_
/-- The sum of each column. -/
@[irreducible] def colSum (L : FVec Ideal S1x8x4096x4096 .f32) : FVec Ideal S1x8x4096 .f32 :=
  Host.reduceAdd L (constant S_ .f32 0x00000000#32) reducesTo_S1x8x4096x4096_S1x8x4096_d2 h_S_

theorem rowMax_at (L : FVec Ideal S1x8x4096x4096 .f32) (h : Fin 8) (i : Fin 4096) : rowMax L (ix3 0 h i) = Finset.univ.fold max ⊥ (fun x => L (ix4 0 h i x)) := by
  unfold rowMax
  pointwise
  rw [Cert.Attn.neg_inf]
theorem rowSum_at (L : FVec Ideal S1x8x4096x4096 .f32) (h : Fin 8) (i : Fin 4096) : rowSum L (ix3 0 h i) = ∑ x, L (ix4 0 h i x) := by
  unfold rowSum
  pointwise
theorem colSum_at (L : FVec Ideal S1x8x4096x4096 .f32) (h : Fin 8) (j : Fin 4096) : colSum L (ix3 0 h j) = ∑ x, L (ix4 0 h x j) := by
  unfold colSum
  pointwise

/-- A row statistic as a column, and a column spread over the rows. -/
def column (M : FVec Ideal S1x8x4096 .f32) : FVec Ideal S1x8x4096x1 .f32 := broadcastInDim S1x8x4096x1 ![0, 1, 2] bcast_S1x8x4096_S1x8x4096x1_0_1_2 M
def over (M : FVec Ideal S1x8x4096x1 .f32) : FVec Ideal S1x8x4096x4096 .f32 :=
  broadcastInDim S1x8x4096x4096 ![0, 1, 2, 3] bcast_S1x8x4096x1_S1x8x4096x4096_0_1_2_3 M

theorem over_column_at (M : FVec Ideal S1x8x4096 .f32) (h : Fin 8) (i j : Fin 4096) : over (column M) (ix4 0 h i j) = M (ix3 0 h i) := by
  unfold over column
  pointwise

/-- The exponentials of the logits less their row's maximum. -/
def expT (L : FVec Ideal S1x8x4096x4096 .f32) : FVec Ideal S1x8x4096x4096 .f32 :=
  Host.exp (subf L (over (column (maximumf (broadcastInDim S1x8x4096 ![] bcast_S_S1x8x4096 (constant S_ .f32 0xFF800000#32)) (rowMax L)))))
def softT (L : FVec Ideal S1x8x4096x4096 .f32) : FVec Ideal S1x8x4096x4096 .f32 :=
  Host.divf (expT L) (over (column (rowSum (expT L))))

/-- The correction each row's weights take from their sum's gradient, before it is spread. -/
def backT (L D : FVec Ideal S1x8x4096x4096 .f32) : FVec Ideal S1x8x4096 .f32 :=
  rowSum (mulf (mulf D (over (Host.divf (broadcastInDim S1x8x4096x1 ![] bcast_S_S1x8x4096x1 (constant S_ .f32 0x3F800000#32))
    (mulf (column (rowSum (expT L))) (column (rowSum (expT L))))))) (expT L))
def negT (B : FVec Ideal S1x8x4096 .f32) : FVec Ideal S1x8x4096x4096 .f32 :=
  broadcastInDim S1x8x4096x4096 ![0, 1, 2] bcast_S1x8x4096_S1x8x4096x4096_0_1_2
    (broadcastInDim S1x8x4096 ![1, 2] bcast_S8x4096_S1x8x4096_1_2
      (Host.reduceAdd (Host.negf (shapeCast S1x8x4096x1 B shapeCasts_S1x8x4096_S1x8x4096x1)) (constant S_ .f32 0x00000000#32) reducesTo_S1x8x4096x1_S8x4096_d0_3 h_S_))
/-- Which positions a row reads. -/
def maskT : IVec S1x8x4096x4096 1 :=
  broadcastInDim S1x8x4096x4096 ![2, 3] bcast_S4096x4096_S1x8x4096x4096_2_3
    (cmpi .sle (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))
/-- The masked logits. -/
def logitT (S : FVec Ideal S1x8x4096x4096 .f32) : FVec Ideal S1x8x4096x4096 .f32 :=
  select maskT S (broadcastInDim S1x8x4096x4096 ![] bcast_S_S1x8x4096x4096 (id (constant S_ .f32 0xFF800000#32)))
/-- The scores' gradient. -/
def gradT (L D : FVec Ideal S1x8x4096x4096 .f32) : FVec Ideal S1x8x4096x4096 .f32 :=
  select maskT (mulf (addf (Host.divf D (over (column (rowSum (expT L))))) (negT (backT L D))) (expT L))
    (broadcastInDim S1x8x4096x4096 ![] bcast_S_S1x8x4096x4096 (constant S_ .f32 0x00000000#32))

theorem select_le (a b : ℕ) (ha : a < 2 ^ 31) (hb : b < 2 ^ 31) (x y : EReal) :
    Scalar.select (IntOp.cmpi .sle (BitVec.ofNat 32 a) (BitVec.ofNat 32 b)) x y = if a ≤ b then x else y := by
  rw [WordCmp.cmpi_sle_ofNat ha hb]
  by_cases h : a ≤ b <;> simp [h, Scalar.select]

theorem maskT_at (h : Fin 8) (i j : Fin 4096) : maskT (ix4 0 h i j) = IntOp.cmpi .sle (BitVec.ofNat 32 j) (BitVec.ofNat 32 i) := by
  unfold maskT
  pointwise
theorem select_maskT (X Y : FVec Ideal S1x8x4096x4096 .f32) (h : Fin 8) (i j : Fin 4096) :
    select maskT X Y (ix4 0 h i j) = if j.val ≤ i.val then X (ix4 0 h i j) else Y (ix4 0 h i j) := by
  refine Eq.trans ?_ (select_le _ _ (by omega) (by omega) _ _)
  rw [← maskT_at h]
  rfl
theorem logitT_at (S : FVec Ideal S1x8x4096x4096 .f32) (h : Fin 8) (i j : Fin 4096) :
    logitT S (ix4 0 h i j) = if j.val ≤ i.val then S (ix4 0 h i j) else ⊥ := by
  unfold logitT
  rw [select_maskT]
  refine if_congr Iff.rfl rfl ?_
  rw [← Cert.Attn.neg_inf]
  pointwise
  rfl

theorem expT_at (L : FVec Ideal S1x8x4096x4096 .f32) (h : Fin 8) (i j : Fin 4096) :
    expT L (ix4 0 h i j) = Ideal.exp (L (ix4 0 h i j) - Finset.univ.fold max ⊥ (fun x => L (ix4 0 h i x))) := by
  have h3 (M : FVec Ideal S1x8x4096 .f32) : Host.exp (subf L (over (column (maximumf (broadcastInDim S1x8x4096 ![] bcast_S_S1x8x4096 (constant S_ .f32 0xFF800000#32)) M)))) (ix4 0 h i j)
      = Ideal.exp (L (ix4 0 h i j) - max ⊥ (M (ix3 0 h i))) := by
    rw [← Cert.Attn.neg_inf]
    unfold over column
    pointwise
  unfold expT
  rw [h3, rowMax_at]
  simp only [bot_le, sup_of_le_right]

theorem softT_at (L : FVec Ideal S1x8x4096x4096 .f32) (h : Fin 8) (i j : Fin 4096) (x : Fin 4096 → ℝ) (hL : ∀ j, L (ix4 0 h i j) = logit x i j) :
    softT L (ix4 0 h i j) = ((soft x i j : ℝ) : EReal) := by
  have h3 (E S : FVec Ideal S1x8x4096x4096 .f32) : Host.divf E S (ix4 0 h i j) = Ideal.div (E (ix4 0 h i j)) (S (ix4 0 h i j)) := by
    pointwise
  unfold softT
  rw [h3, over_column_at, rowSum_at]
  simp only [expT_at]
  exact row_soft x i j (fun j => L (ix4 0 h i j)) hL _ rfl

/-- A sum over axes of length one reads its one entry. -/
theorem sum_unit_03 (h : S1x8x4096x1.ReducesTo [0, 3] S8x4096) (v : S1x8x4096x1.Idx → EReal) (a : Fin 8) (b : Fin 4096) :
    Ideal.hostReduceAdd h v 0 (ix2 a b) = v (ix4 0 a b 0) := by
  unfold Ideal.hostReduceAdd
  rw [Finset.sum_filter_eq_sum_of_fiber _ (fun _ : Fin 1 => (ix4 0 a b 0 : S1x8x4096x1.Idx)) (fun _ _ _ => Subsingleton.elim _ _), Fin.sum_univ_one, zero_add]
  intro i
  constructor
  · intro e
    refine ⟨0, ?_⟩
    funext q; apply Fin.ext
    match q with
    | ⟨0, _⟩ => exact (Nat.lt_one_iff.1 (i 0).isLt).symm
    | ⟨1, _⟩ => exact (congrArg Fin.val (congrFun e 0)).symm
    | ⟨2, _⟩ => exact (congrArg Fin.val (congrFun e 1)).symm
    | ⟨3, _⟩ => exact (Nat.lt_one_iff.1 (i 3).isLt).symm
  · rintro ⟨_, rfl⟩
    funext q; apply Fin.ext
    match q with
    | ⟨0, _⟩ => rfl
    | ⟨1, _⟩ => rfl
theorem sum_unit_02 (h : S1x8x1x4096.ReducesTo [0, 2] S8x4096) (v : S1x8x1x4096.Idx → EReal) (a : Fin 8) (b : Fin 4096) :
    Ideal.hostReduceAdd h v 0 (ix2 a b) = v (ix4 0 a 0 b) := by
  unfold Ideal.hostReduceAdd
  rw [Finset.sum_filter_eq_sum_of_fiber _ (fun _ : Fin 1 => (ix4 0 a 0 b : S1x8x1x4096.Idx)) (fun _ _ _ => Subsingleton.elim _ _), Fin.sum_univ_one, zero_add]
  intro i
  constructor
  · intro e
    refine ⟨0, ?_⟩
    funext q; apply Fin.ext
    match q with
    | ⟨0, _⟩ => exact (Nat.lt_one_iff.1 (i 0).isLt).symm
    | ⟨1, _⟩ => exact (congrArg Fin.val (congrFun e 0)).symm
    | ⟨2, _⟩ => exact (Nat.lt_one_iff.1 (i 2).isLt).symm
    | ⟨3, _⟩ => exact (congrArg Fin.val (congrFun e 1)).symm
  · rintro ⟨_, rfl⟩
    funext q; apply Fin.ext
    match q with
    | ⟨0, _⟩ => rfl
    | ⟨1, _⟩ => rfl

theorem negT_at (B : FVec Ideal S1x8x4096 .f32) (h : Fin 8) (i j : Fin 4096) : negT B (ix4 0 h i j) = -B (ix3 0 h i) := by
  unfold negT
  pointwise
  rw [sum_unit_03]
  pointwise

theorem backT_at (L D : FVec Ideal S1x8x4096x4096 .f32) (h : Fin 8) (i : Fin 4096) : backT L D (ix3 0 h i) =
    ∑ x, D (ix4 0 h i x) * Ideal.div ((1 : ℝ) : EReal) (rowSum (expT L) (ix3 0 h i) * rowSum (expT L) (ix3 0 h i)) * expT L (ix4 0 h i x) := by
  have h3 (E : FVec Ideal S1x8x4096x4096 .f32) (S : FVec Ideal S1x8x4096 .f32) (x : Fin 4096) :
      mulf (mulf D (over (Host.divf (broadcastInDim S1x8x4096x1 ![] bcast_S_S1x8x4096x1 (constant S_ .f32 0x3F800000#32)) (mulf (column S) (column S))))) E (ix4 0 h i x)
        = D (ix4 0 h i x) * Ideal.div ((1 : ℝ) : EReal) (S (ix3 0 h i) * S (ix3 0 h i)) * E (ix4 0 h i x) := by
    unfold over column
    pointwise
    rfl
  unfold backT
  rw [rowSum_at]
  exact Finset.sum_congr rfl fun x _ => h3 _ _ x

theorem gradT_at (L D : FVec Ideal S1x8x4096x4096 .f32) (h : Fin 8) (i j : Fin 4096) (x dp : Fin 4096 → ℝ) (hL : ∀ j, L (ix4 0 h i j) = logit x i j)
    (hD : ∀ j, D (ix4 0 h i j) = (dp j : EReal)) : gradT L D (ix4 0 h i j) = ((dsoft x dp i j : ℝ) : EReal) := by
  unfold gradT
  rw [select_maskT]
  by_cases hj : j.val ≤ i.val
  · rw [if_pos hj]
    have h3 (E S N : FVec Ideal S1x8x4096x4096 .f32) : mulf (addf (Host.divf D S) N) E (ix4 0 h i j)
        = (Ideal.div (D (ix4 0 h i j)) (S (ix4 0 h i j)) + N (ix4 0 h i j)) * E (ix4 0 h i j) := by
      pointwise
    rw [h3, over_column_at, negT_at, backT_at, rowSum_at]
    simp only [expT_at]
    exact row_dsoft x dp i j (fun j => L (ix4 0 h i j)) (fun j => D (ix4 0 h i j)) hL hD _ rfl _ rfl
  · rw [if_neg hj, dsoft_masked x dp i j hj]
    pointwise
    rfl

end Cert.RefAttn

end
-- ==== Proof.Lanes.lean ====
/- Lanes: the two heads of a pair side by side in a row of 128 lanes, and the causal mask inside a tile. -/
module

public import Idealize.ShloMosaic.Lib.Pipeline.ValueKit
public import Idealize.ShloMosaic.Lib.Pointwise
public import Idealize.ShloMosaic.Lib.WordCmp

@[expose] public section

noncomputable section

open Idealize.ShloMosaic Idealize.ShloMosaic.TcCoe

namespace Cert.Lanes

/-- The lanes of the first head. -/
theorem lane0 : ∀ l : Fin 128, IntOp.andi (IntOp.cmpi CmpIPredicate.sge (BitVec.ofNat 32 l.val) 0#32)
    (IntOp.cmpi CmpIPredicate.slt (BitVec.ofNat 32 l.val) 64#32) = BitVec.ofBool (decide (l.val / 64 = 0)) := by decide +kernel
/-- The lanes of the second head. -/
theorem lane1 : ∀ l : Fin 128, IntOp.andi (IntOp.cmpi CmpIPredicate.sge (BitVec.ofNat 32 l.val) 64#32)
    (IntOp.cmpi CmpIPredicate.slt (BitVec.ofNat 32 l.val) 128#32) = BitVec.ofBool (decide (l.val / 64 = 1)) := by decide +kernel
theorem sel {α : Type} (P : Prop) [Decidable P] (a b : α) : Scalar.select (BitVec.ofBool (decide P)) a b = if P then a else b := by
  by_cases h : P <;> simp [h, Scalar.select]

/-- The causal mask inside a tile of the diagonal. -/
theorem diag_mask (x y : ℕ) (h : x = y) (hx : x < 8) (r j : Fin 512) :
    IntOp.cmpi CmpIPredicate.sle (IntOp.addi (BitVec.ofNat 32 j.val) (Scalar.muli (BitVec.ofNat 32 y) 512#32))
      (IntOp.addi (BitVec.ofNat 32 r.val) (Scalar.muli (BitVec.ofNat 32 x) 512#32)) = BitVec.ofBool (decide (j.val ≤ r.val)) := by
  subst h
  have e (n : Fin 512) : IntOp.addi (BitVec.ofNat 32 n.val) (Scalar.muli (BitVec.ofNat 32 x) 512#32) = BitVec.ofNat 32 (n.val + x * 512) := by
    simp [IntOp.addi, Scalar.muli, IntOp.muli, BitVec.ofNat_add, BitVec.ofNat_mul]
  rw [e, e, WordCmp.cmpi_sle_ofNat (by omega) (by omega)]
  congr 2
  simp

/-- The head of a lane. -/
def hd (l : Fin 128) : Fin 2 := ⟨l.val / 64, by omega⟩
/-- The other head of the pair. -/
def hd' (l : Fin 128) : Fin 2 := ⟨1 - l.val / 64, by omega⟩

theorem hd_ite (f : Fin 2 → EReal) (l : Fin 128) : (if l.val / 64 = 0 then f 0 else f 1) = f (hd l) := by
  by_cases h : l.val / 64 = 0
  · rw [if_pos h]; exact congrArg f (Fin.ext (by simp [hd, h]))
  · rw [if_neg h]; exact congrArg f (Fin.ext (by simp [hd]; omega))
theorem hd_ite' (f : Fin 2 → EReal) (l : Fin 128) : (if l.val / 64 = 0 then f 1 else f 0) = f (hd' l) := by
  by_cases h : l.val / 64 = 0
  · rw [if_pos h]; exact congrArg f (Fin.ext (by simp [hd', h]))
  · rw [if_neg h]; exact congrArg f (Fin.ext (by simp [hd']; omega))

end Cert.Lanes
-- ==== Proof.Fox.Pay.lean ====
/- The FoX attention's backward call, one grid point: each payload of the body read at one index, over the blocks the point holds. -/
module

public import proofs.«01_k».proof.Proof.Gen.FoxKernelIdeal.Skeleton
public import proofs.«01_k».proof.Proof.Lanes

@[expose] public section

set_option maxRecDepth 16384

noncomputable section

open Idealize.ShloMosaic Idealize.ShloMosaic.TcCoe Idealize.SL.Sem

namespace Cert.FoxKernelIdeal.Value

open Cert.FoxKernelIdeal Cert.FoxKernelIdeal.Gen Cert.Lanes

section Terms

variable (dg : Bool) (q k v g : Vec Ideal S512x128 .bf16) (o : Vec Ideal S512x128 .f32) (cr : Vec Ideal S2x1x512 .f32)
  (ls : Vec Ideal S2x512x1 .f32) (h : Fin 2) (r j : Fin 512)

/-- One eighth, the scale of the scores. -/
def c8 : EReal := Ideal.ofBits .f32 0x3E000000#32
/-- Eight, its inverse. -/
def c8' : EReal := Ideal.ofBits .f32 0x41000000#32

/-- The product of the two rows over the lanes of head `h`. -/
def bS (a b : Vec Ideal S512x128 .bf16) : EReal := ∑ l : Fin 128, (if l.val / 64 = h.val then a (ix2 r l) else (0 : EReal)) * b (ix2 j l)
/-- The attention weight of query `r` and key `j`. -/
def bP : EReal :=
  Ideal.exp ((if dg = true → j.val ≤ r.val then bS h r j q k * c8 - cr (ix3 h 0 j) else Ideal.ofBits .f32 0xFF800000#32) - ls (ix3 h r 0))
/-- The weight's share of the scores' gradient, with the scale. -/
def bW : EReal :=
  bP dg q k cr ls h r j
    * (bS h r j g v - ∑ l : Fin 128, (if l.val / 64 = h.val then g (ix2 r l) else (0 : EReal)) * o (ix2 r l)) * c8

end Terms

section Pay

variable (q k v g : Vec Ideal S512x128 .bf16) (o : Vec Ideal S512x128 .f32) (cr : Vec Ideal S2x1x512 .f32)
  (ls : Vec Ideal S2x512x1 .f32) (r j : Fin 512) (l : Fin 128)
  (p p' : FVec Ideal S512x512 .bf16) (s s' : FVec Ideal S512x512 .f32) (a b acc : FVec Ideal S512x128 .f32) (x y : ℕ) (hxy : x = y) (hx : x < 8)

/-- The decays and the log-sums of one head of the pair. -/
abbrev cr₀ := View.ld cr (Rect.unit ![0, 0, 0] ![1, 1, 512] inb_S2x1x512_S1x1x512_0_0_0)
abbrev cr₁ := View.ld cr (Rect.unit ![1, 0, 0] ![1, 1, 512] inb_S2x1x512_S1x1x512_1_0_0)
abbrev ls₀ := View.ld ls (Rect.unit ![0, 0, 0] ![1, 512, 1] inb_S2x512x1_S1x512x1_0_0_0)
abbrev ls₁ := View.ld ls (Rect.unit ![1, 0, 0] ![1, 512, 1] inb_S2x512x1_S1x512x1_1_0_0)

theorem p0_off : k0_pay25 (k0_pay20 q k) (cr₀ cr) (ls₀ ls) (ix2 r j) = bP false q k cr ls 0 r j := by
  unfold cr₀ ls₀
  pointwise [k0_pay25, k0_pay24, k0_pay20, k0_pay14, k0_pay15, lane0, lane1, sel]
  simp [bP, bS, c8]
theorem p1_off : k0_pay28 (k0_pay27 (k0_pay14 q) (k0_pay15 k) (cr₁ cr)) (ls₁ ls) (ix2 r j) = bP false q k cr ls 1 r j := by
  unfold cr₁ ls₁
  pointwise [k0_pay28, k0_pay27, k0_pay14, k0_pay15, lane0, lane1, sel]
  simp [bP, bS, c8]
theorem w0_off : k0_pay26 (k0_pay18 o) (k0_pay19 g) (k0_pay20 q k) (k0_pay21 v g) (cr₀ cr) (ls₀ ls) (ix2 r j) = bW false q k v g o cr ls 0 r j := by
  unfold cr₀ ls₀
  pointwise [k0_pay26, k0_pay24, k0_pay20, k0_pay21, k0_pay14, k0_pay15, k0_pay16, k0_pay17, k0_pay18, k0_pay19, lane0, lane1, sel]
  simp [bW, bP, bS, c8]
theorem w1_off : k0_pay29 (k0_pay18 o) (k0_pay22 g) (k0_pay23 (k0_pay16 v) (k0_pay22 g)) (k0_pay27 (k0_pay14 q) (k0_pay15 k) (cr₁ cr)) (ls₁ ls) (ix2 r j)
    = bW false q k v g o cr ls 1 r j := by
  unfold cr₁ ls₁
  pointwise [k0_pay29, k0_pay28, k0_pay27, k0_pay22, k0_pay23, k0_pay14, k0_pay15, k0_pay16, k0_pay17, k0_pay18, k0_pay19, lane0, lane1, sel]
  simp [bW, bP, bS, c8]

include hxy hx

theorem p0_on : k0_pay55 (k0_pay46 (BitVec.ofNat 32 x)) (k0_pay47 (BitVec.ofNat 32 y)) (k0_pay49 q k) (cr₀ cr) (ls₀ ls) (ix2 r j)
    = bP true q k cr ls 0 r j := by
  unfold cr₀ ls₀
  pointwise [k0_pay55, k0_pay54, k0_pay46, k0_pay47, k0_pay49, k0_pay41, k0_pay42, lane0, lane1, sel]
  simp [bP, bS, c8, diag_mask x y hxy hx, sel]
theorem p1_on : k0_pay58 (k0_pay46 (BitVec.ofNat 32 x)) (k0_pay47 (BitVec.ofNat 32 y)) (k0_pay52 (k0_pay41 q) (k0_pay42 k)) (cr₁ cr) (ls₁ ls) (ix2 r j)
    = bP true q k cr ls 1 r j := by
  unfold cr₁ ls₁
  pointwise [k0_pay58, k0_pay57, k0_pay46, k0_pay47, k0_pay52, k0_pay41, k0_pay42, lane0, lane1, sel]
  simp [bP, bS, c8, diag_mask x y hxy hx, sel]
theorem w0_on : k0_pay56 (k0_pay45 o) (k0_pay46 (BitVec.ofNat 32 x)) (k0_pay47 (BitVec.ofNat 32 y)) (k0_pay48 g) (k0_pay49 q k) (k0_pay50 v g) (cr₀ cr) (ls₀ ls) (ix2 r j)
    = bW true q k v g o cr ls 0 r j := by
  unfold cr₀ ls₀
  pointwise [k0_pay56, k0_pay54, k0_pay46, k0_pay47, k0_pay49, k0_pay50, k0_pay48, k0_pay41, k0_pay42, k0_pay43, k0_pay44, k0_pay45, lane0, lane1, sel]
  simp [bW, bP, bS, c8, diag_mask x y hxy hx, sel]
theorem w1_on : k0_pay59 (k0_pay45 o) (k0_pay46 (BitVec.ofNat 32 x)) (k0_pay47 (BitVec.ofNat 32 y))
      (k0_pay51 (k0_pay44 g) (iota Kind.tc S512x128 32 [1] iota_S512x128_d1_w32)) (k0_pay52 (k0_pay41 q) (k0_pay42 k))
      (k0_pay53 (k0_pay43 v) (k0_pay44 g) (iota Kind.tc S512x128 32 [1] iota_S512x128_d1_w32)) (cr₁ cr) (ls₁ ls) (ix2 r j)
    = bW true q k v g o cr ls 1 r j := by
  unfold cr₁ ls₁
  pointwise [k0_pay59, k0_pay57, k0_pay46, k0_pay47, k0_pay51, k0_pay52, k0_pay53, k0_pay48, k0_pay41, k0_pay42, k0_pay43, k0_pay44, k0_pay45, lane0, lane1, sel]
  simp [bW, bP, bS, c8, diag_mask x y hxy hx, sel]

end Pay

section Store

variable (r j : Fin 512) (l : Fin 128) (k q : Vec Ideal S512x128 .bf16) (p₀ p₁ : FVec Ideal S512x512 .bf16) (s₁ : FVec Ideal S512x512 .f32)
  (acc : Vec Ideal S512x128 .f32) (cc : Vec Ideal S1x1x512 .f32) (w : Fin 2 → Fin 512 → Fin 512 → EReal)
  (h₀ : ∀ r j, p₀ (ix2 r j) = w 0 r j) (h₁ : ∀ r j, p₁ (ix2 r j) = w 1 r j) (h₁' : ∀ r j, s₁ (ix2 r j) = w 1 r j)

include h₀ h₁

/-- The rows added to the gradient of the queries. -/
theorem dq_off : k0_pay7 (k0_pay33 (k0_pay15 k) p₀) (k0_pay37 (k0_pay15 k) p₁) acc (ix2 r l)
    = acc (ix2 r l) + ∑ x : Fin 512, w (hd l) r x * k (ix2 x l) := by
  pointwise [k0_pay7, k0_pay33, k0_pay37, k0_pay15, lane0, lane1, sel]
  rw [← hd_ite (fun h => ∑ x : Fin 512, w h r x * k (ix2 x l)) l]
  by_cases h : l.val / 64 = 0
  · simp [h, h₀]
  · have h' : l.val / 64 = 1 := by omega
    simp [h, h', h₁]
theorem dq_on : k0_pay71 (k0_pay63 (k0_pay42 k) p₀ (iota Kind.tc S512x128 32 [1] iota_S512x128_d1_w32)) (k0_pay67 (k0_pay42 k) p₁) acc (ix2 r l)
    = acc (ix2 r l) + ∑ x : Fin 512, w (hd l) r x * k (ix2 x l) := by
  pointwise [k0_pay71, k0_pay63, k0_pay67, k0_pay42, lane0, lane1, sel]
  rw [← hd_ite (fun h => ∑ x : Fin 512, w h r x * k (ix2 x l)) l]
  by_cases h : l.val / 64 = 0
  · simp [h, h₀]
  · have h' : l.val / 64 = 1 := by omega
    simp [h, h', h₁]
/-- The row sums, each head's on the other head's lanes. -/
theorem rs_off : k0_pay8 (k0_pay33 (k0_pay15 k) p₀) (k0_pay37 (k0_pay15 k) p₁) acc (ix2 r l)
    = acc (ix2 r l) + ∑ x : Fin 512, w (hd' l) r x := by
  pointwise [k0_pay8, k0_pay33, k0_pay37, k0_pay15, lane0, lane1, sel]
  rw [← hd_ite' (fun h => ∑ x : Fin 512, w h r x) l]
  by_cases h : l.val / 64 = 0
  · simp [h, h₁]
  · have h' : l.val / 64 = 1 := by omega
    simp [h, h', h₀]
theorem rs_on : k0_pay9 (k0_pay72 (k0_pay63 (k0_pay42 k) p₀ (iota Kind.tc S512x128 32 [1] iota_S512x128_d1_w32)) (k0_pay67 (k0_pay42 k) p₁) acc) (ix2 r l)
    = acc (ix2 r l) + ∑ x : Fin 512, w (hd' l) r x := by
  pointwise [k0_pay9, k0_pay72, k0_pay63, k0_pay67, k0_pay42, lane0, lane1, sel]
  rw [← hd_ite' (fun h => ∑ x : Fin 512, w h r x) l]
  by_cases h : l.val / 64 = 0
  · simp [h, h₁]
  · have h' : l.val / 64 = 1 := by omega
    simp [h, h', h₀]
theorem dk_on : k0_pay70 (k0_pay61 (k0_pay41 q) p₀) (k0_pay65 (k0_pay41 q) p₁) acc (ix2 r l)
    = acc (ix2 r l) + ∑ x : Fin 512, w (hd l) x r * q (ix2 x l) := by
  pointwise [k0_pay70, k0_pay61, k0_pay65, k0_pay41, lane0, lane1, sel]
  rw [← hd_ite (fun h => ∑ x : Fin 512, w h x r * q (ix2 x l)) l]
  simp [h₀, h₁]
theorem dv_on : k0_pay69 (k0_pay60 (k0_pay44 q) p₀) (k0_pay64 (k0_pay44 q) p₁) acc k0_pay68 (ix2 r l)
    = acc (ix2 r l) + ∑ x : Fin 512, w (hd l) x r * q (ix2 x l) := by
  pointwise [k0_pay69, k0_pay60, k0_pay64, k0_pay44, k0_pay68, lane0, lane1, sel]
  rw [← hd_ite (fun h => ∑ x : Fin 512, w h x r * q (ix2 x l)) l]
  simp [h₀, h₁]
omit h₁
theorem dk_off (o : Vec Ideal S512x128 .f32) (a b c d e) (h₁ : ∀ r j, k0_pay29 a b c d e (ix2 r j) = w 1 r j) :
    k0_pay6 (k0_pay31 (k0_pay14 q) p₀) (k0_pay35 (k0_pay14 q) a b c d e) acc k0_pay39 k0_pay40 (ix2 r l)
    = acc (ix2 r l) + ∑ x : Fin 512, w (hd l) x r * q (ix2 x l) := by
  pointwise [k0_pay6, k0_pay31, k0_pay35, k0_pay14, k0_pay39, k0_pay40, lane0, lane1, sel]
  rw [← hd_ite (fun h => ∑ x : Fin 512, w h x r * q (ix2 x l)) l]
  simp [h₀, h₁]
theorem dv_off (a b) (h₁ : ∀ r j, k0_pay28 a b (ix2 r j) = w 1 r j) :
    k0_pay38 (k0_pay30 (k0_pay17 q) p₀) (k0_pay34 (k0_pay17 q) a b) acc (ix2 r l)
    = acc (ix2 r l) + ∑ x : Fin 512, w (hd l) x r * q (ix2 x l) := by
  pointwise [k0_pay38, k0_pay30, k0_pay34, k0_pay17, lane0, lane1, sel]
  rw [← hd_ite (fun h => ∑ x : Fin 512, w h x r * q (ix2 x l)) l]
  simp [h₀, h₁]
theorem dc_off₀ : k0_pay32 p₀ cc (ix3 0 0 j) = cc (ix3 0 0 j) - (∑ x : Fin 512, w 0 x j) * c8' := by
  pointwise [k0_pay32]
  simp [h₀, c8']
theorem dc_on₀ : k0_pay62 p₀ cc (ix3 0 0 j) = cc (ix3 0 0 j) - (∑ x : Fin 512, w 0 x j) * c8' := by
  pointwise [k0_pay62]
  simp [h₀, c8']
omit h₀
include h₁
theorem dc_off₁ : k0_pay36 p₁ cc (ix3 0 0 j) = cc (ix3 0 0 j) - (∑ x : Fin 512, w 1 x j) * c8' := by
  pointwise [k0_pay36]
  simp [h₁, c8']
theorem dc_on₁ : k0_pay66 p₁ cc (ix3 0 0 j) = cc (ix3 0 0 j) - (∑ x : Fin 512, w 1 x j) * c8' := by
  pointwise [k0_pay66]
  simp [h₁, c8']

end Store

end Cert.FoxKernelIdeal.Value
-- ==== Proof.Tile.lean ====
/- Blocks of rows stored into, and loaded from, a larger buffer; and the two heads of a pair. -/
module

public import Idealize.ShloMosaic.Lib.Pipeline.ValueKit
public import Idealize.ShloMosaic.Lib.Pipeline.ReadBack
public import Idealize.ShloMosaic.Lib.WritesUnit
public import Idealize.ShloMosaic.Lib.Pointwise

@[expose] public section

set_option maxRecDepth 16384

noncomputable section

open Idealize.ShloMosaic Idealize.ShloMosaic.TcCoe Idealize.SL.Sem

namespace Cert.Tile

section Rows

variable {sig : RefSig} {κ : Kind} {sp : Space} {e : EltTy} {B : ℕ}

/-- A block of 512 rows stored over what a buffer of 4096 rows held: the block's rows read the block, the others what was there. -/
theorem store_rows (v : View sig κ sp (⟨2, ![4096, B]⟩ : Shape) e) (f : v.ty.Contents (Elt Ideal)) {off : Fin 2 → ℕ} {b : ℕ}
    (inb : ∀ a, off a + (![512, B] : Fin 2 → ℕ) a ≤ (⟨2, ![4096, B]⟩ : Shape).size a)
    (w : (Rect.unit (s := ⟨2, ![4096, B]⟩) off ![512, B] inb).shape.Idx → Elt Ideal e)
    (L : List (View.Piece (Elt Ideal) (⟨2, ![4096, B]⟩ : Shape) e)) (hoff : off = ![512 * b, 0]) (R : Fin 4096) (l : Fin B) :
    v.read (Elt Ideal) (v.writes (Elt Ideal) f (⟨Rect.unit off ![512, B] inb, w⟩ :: L)) (ix2 R l)
      = if R.val / 512 = b then w (ix2 (⟨R.val % 512, Nat.mod_lt _ (by decide)⟩ : Fin 512) l)
        else v.read (Elt Ideal) (v.writes (Elt Ideal) f L) (ix2 R l) := by
  by_cases h : R.val / 512 = b
  · rw [if_pos h]
    exact View.read_writes_cons_rows_of_mem v f inb w L (ix2 R l) (ix2 (⟨R.val % 512, Nat.mod_lt _ (by decide)⟩ : Fin 512) l) hoff
      (by show R.val = 512 * b + R.val % 512; omega) rfl
  · rw [if_neg h]
    exact View.read_writes_cons_rows_of_not_mem v f inb w L (ix2 R l) hoff rfl (W := 512)
      (by show R.val < 512 * b ∨ 512 * b + 512 ≤ R.val; omega)

/-- The same over contents nothing was said of, followed by an earlier fill of the whole buffer. -/
theorem canon_rows (v : View sig κ sp (⟨2, ![4096, B]⟩ : Shape) e) {off off' : Fin 2 → ℕ} {b : ℕ}
    (inb : ∀ a, off a + (![512, B] : Fin 2 → ℕ) a ≤ (⟨2, ![4096, B]⟩ : Shape).size a)
    (inb' : ∀ a, off' a + (![4096, B] : Fin 2 → ℕ) a ≤ (⟨2, ![4096, B]⟩ : Shape).size a)
    (w : (Rect.unit (s := ⟨2, ![4096, B]⟩) off ![512, B] inb).shape.Idx → Elt Ideal e)
    (z : (⟨2, ![4096, B]⟩ : Shape).Idx → Elt Ideal e) (hoff : off = ![512 * b, 0]) (hoff' : ∀ a, off' a = 0) (R : Fin 4096) (l : Fin B) :
    View.canon (Val := Elt Ideal) (s := (⟨2, ![4096, B]⟩ : Shape))
        [⟨Rect.unit off ![512, B] inb, w⟩, ⟨Rect.unit off' ![4096, B] inb', z⟩] (ix2 R l)
      = if R.val / 512 = b then w (ix2 (⟨R.val % 512, Nat.mod_lt _ (by decide)⟩ : Fin 512) l) else z (ix2 R l) := by
  refine (View.read_writes_junk_apply_eq_canon v _ _).symm.trans ((store_rows v _ inb w _ hoff R l).trans ?_)
  have hz : v.read (Elt Ideal) (v.writes (Elt Ideal) v.junk [⟨Rect.unit off' ![4096, B] inb', z⟩]) (ix2 R l) = z (ix2 R l) :=
    (View.read_writes_junk_apply_eq_canon v _ _).trans
      (congrFun (View.canon_cons_unit_lit (S := (⟨2, ![4096, B]⟩ : Shape)) inb' z [] hoff') (ix2 R l))
  rw [hz]

/-- A block of 512 rows loaded from a buffer of 4096 rows. -/
theorem load_rows (X : (⟨2, ![4096, B]⟩ : Shape).Idx → Elt Ideal e) {off : Fin 2 → ℕ} {b : ℕ}
    (inb : ∀ a, off a + (![512, B] : Fin 2 → ℕ) a ≤ (⟨2, ![4096, B]⟩ : Shape).size a) (hoff : off = ![512 * b, 0])
    (R : Fin 4096) (hR : R.val / 512 = b) (l : Fin B) :
    View.ld (Val := Elt Ideal) X (Rect.unit (s := ⟨2, ![4096, B]⟩) off ![512, B] inb)
      (ix2 (⟨R.val % 512, Nat.mod_lt _ (by decide)⟩ : Fin 512) l) = X (ix2 R l) := by
  subst hoff
  refine congrArg X (funext fun a => Fin.ext ?_)
  fin_cases a
  · show 512 * b + 1 * (R.val % 512) = R.val
    omega
  · show 0 + 1 * l.val = l.val
    omega

end Rows

section Pair

variable {e : EltTy}

/-- The two heads' rows stored one after the other. -/
theorem canon_pair
    (inb₁ : ∀ a, (![1, 0, 0] : Fin 3 → ℕ) a + (![1, 1, 512] : Fin 3 → ℕ) a ≤ (⟨3, ![2, 1, 512]⟩ : Shape).size a)
    (inb₀ : ∀ a, (![0, 0, 0] : Fin 3 → ℕ) a + (![1, 1, 512] : Fin 3 → ℕ) a ≤ (⟨3, ![2, 1, 512]⟩ : Shape).size a)
    (w₁ w₀ : (⟨3, ![1, 1, 512]⟩ : Shape).Idx → Elt Ideal e) (L : List (View.Piece (Elt Ideal) (⟨3, ![2, 1, 512]⟩ : Shape) e)) (h : Fin 2) (j : Fin 512) :
    View.canon (Val := Elt Ideal) (s := (⟨3, ![2, 1, 512]⟩ : Shape))
        (⟨Rect.unit ![1, 0, 0] ![1, 1, 512] inb₁, w₁⟩ :: ⟨Rect.unit ![0, 0, 0] ![1, 1, 512] inb₀, w₀⟩ :: L) (ix3 h 0 j)
      = if h = 1 then w₁ (ix3 0 0 j) else w₀ (ix3 0 0 j) := by
  have e₁ : ix3 (1 : Fin 2) (0 : Fin 1) j = (Rect.unit (s := ⟨3, ![2, 1, 512]⟩) ![1, 0, 0] ![1, 1, 512] inb₁).emb (ix3 0 0 j) := by
    refine funext fun a => Fin.ext ?_
    fin_cases a
    · rfl
    · rfl
    · show j.val = 0 + 1 * j.val
      omega
  have e₀ : ix3 (0 : Fin 2) (0 : Fin 1) j = (Rect.unit (s := ⟨3, ![2, 1, 512]⟩) ![0, 0, 0] ![1, 1, 512] inb₀).emb (ix3 0 0 j) := by
    refine funext fun a => Fin.ext ?_
    fin_cases a
    · rfl
    · rfl
    · show j.val = 0 + 1 * j.val
      omega
  fin_cases h
  · show View.canon _ (ix3 (0 : Fin 2) (0 : Fin 1) j) = w₀ (ix3 0 0 j)
    rw [View.canon_cons_of_not_mem]
    · rw [e₀, View.canon_cons_emb]
    · rw [Rect.mem_set_unit]
      intro hh
      exact absurd (show (1 : ℕ) ≤ 0 from (hh 0).1) (by decide)
  · show View.canon _ (ix3 (1 : Fin 2) (0 : Fin 1) j) = w₁ (ix3 0 0 j)
    rw [e₁, View.canon_cons_emb]

end Pair

end Cert.Tile
-- ==== Proof.Fox.Point.lean ====
/- The FoX attention's backward call: what each grid point adds to the five accumulators. -/
module

public import proofs.«01_k».proof.Proof.Gen.FoxKernelIdeal.Frame
public import proofs.«01_k».proof.Proof.Fox.Pay
public import proofs.«01_k».proof.Proof.Tile

@[expose] public section

set_option maxRecDepth 16384

noncomputable section

open Idealize.ShloMosaic Idealize.ShloMosaic.TcCoe Idealize.SL.Sem

namespace Cert.FoxKernelIdeal.Value

open Cert.FoxKernelIdeal Cert.FoxKernelIdeal.Gen Cert.Lanes Cert.Tile

variable (m : (ℓ : Loc nD τ sig) → Buf (Elt Ideal) ℓ) (c : Dev nD)

theorem off₁ : ∀ t : Fin cfg0.N, k0_off1 (grid0.coords t) = ![512 * (t.val % 8), 0] := (by decide +kernel : ∀ t : Fin grid0.N, _)
theorem off₂ : ∀ t : Fin cfg0.N, k0_off2 (grid0.coords t) = ![512 * (t.val % 8), 0] := (by decide +kernel : ∀ t : Fin grid0.N, _)
theorem coord₂ : ∀ t : Fin cfg0.N, (grid0.coords t 2).val = t.val % 8 := (by decide +kernel : ∀ t : Fin grid0.N, _)
theorem coord₁ : ∀ t : Fin cfg0.N, (grid0.coords t 1).val = t.val / 8 % 8 := (by decide +kernel : ∀ t : Fin grid0.N, _)

/-- The weights of a point. -/
def wP (dg : Bool) (t : Fin cfg0.N) (h : Fin 2) (r j : Fin 512) : EReal :=
  bP dg (iblk m c 0 t) (iblk m c 1 t) (iblk m c 6 t) (iblk m c 5 t) h r j
/-- The scores' gradients of a point. -/
def wW (dg : Bool) (t : Fin cfg0.N) (h : Fin 2) (r j : Fin 512) : EReal :=
  bW dg (iblk m c 0 t) (iblk m c 1 t) (iblk m c 2 t) (iblk m c 4 t) (iblk m c 3 t) (iblk m c 6 t) (iblk m c 5 t) h r j

/-- The accumulators after position `n`. -/
def aq (n : ℕ) (hn : n < cfg0.N) (R : Fin 4096) (l : Fin 128) : EReal := (outsAt0 m c n hn).2.2.2.2.2.1 (ix2 R l)
def ak (n : ℕ) (hn : n < cfg0.N) (r : Fin 512) (l : Fin 128) : EReal := (outsAt0 m c n hn).2.2.2.2.2.2.1 (ix2 r l)
def av (n : ℕ) (hn : n < cfg0.N) (r : Fin 512) (l : Fin 128) : EReal := (outsAt0 m c n hn).2.2.2.2.2.2.2.1 (ix2 r l)
def ac (n : ℕ) (hn : n < cfg0.N) (h : Fin 2) (j : Fin 512) : EReal := (outsAt0 m c n hn).2.2.2.2.2.2.2.2.1 (ix3 h 0 j)
def ar (n : ℕ) (hn : n < cfg0.N) (R : Fin 4096) (l : Fin 128) : EReal := (outsAt0 m c n hn).2.2.2.2.2.2.2.2.2 (ix2 R l)

variable (t : Fin cfg0.N)

theorem two (h : Fin 2) : h = 0 ∨ h = 1 := by omega

/-- The point before. -/
theorem pred_lt : t.val - 1 < cfg0.N := Nat.lt_of_le_of_lt (Nat.sub_le _ _) t.isLt

section Off

variable (hlt : t.val / 8 % 8 < t.val % 8)
include hlt

theorem aq_off (R : Fin 4096) (l : Fin 128) : aq m c t.val t.isLt R l = aq m c (t.val - 1) (pred_lt t) R l
    + if R.val / 512 = t.val % 8 then ∑ x : Fin 512, wW m c false t (hd l) ⟨R.val % 512, Nat.mod_lt _ (by decide)⟩ x * iblk m c 1 t (ix2 x l) else 0 := by
  unfold aq
  rcases Classical.em (t.val % 8 = 7) with h4 | h4
  on_goal 1 => rw [outsAt0_C m c t (by omega) (by omega) hlt (by omega) h4 (by omega)]
  on_goal 2 => rw [outsAt0_B m c t (by omega) (by omega) hlt (by omega) h4 (by omega)]
  all_goals
    frame_out
    rw [store_rows (View.whole cc0_scratch0) _ _ _ _ (off₁ t), View.writes_nil, read_unread_whole]
    by_cases h : R.val / 512 = t.val % 8
    · rw [if_pos h, if_pos h, dq_off _ _ _ _ _ _ (wW m c false t) (fun r j => w0_off _ _ _ _ _ _ _ r j) (fun r j => w1_off _ _ _ _ _ _ _ r j),
        load_rows _ _ (off₁ t) R h]
    · rw [if_neg h, if_neg h, add_zero]

theorem ar_off (R : Fin 4096) (l : Fin 128) : ar m c t.val t.isLt R l = ar m c (t.val - 1) (pred_lt t) R l
    + if R.val / 512 = t.val % 8 then ∑ x : Fin 512, wW m c false t (hd' l) ⟨R.val % 512, Nat.mod_lt _ (by decide)⟩ x else 0 := by
  unfold ar
  rcases Classical.em (t.val % 8 = 7) with h4 | h4
  on_goal 1 => rw [outsAt0_C m c t (by omega) (by omega) hlt (by omega) h4 (by omega)]
  on_goal 2 => rw [outsAt0_B m c t (by omega) (by omega) hlt (by omega) h4 (by omega)]
  all_goals
    frame_out
    rw [store_rows (View.whole cc0_scratch4) _ _ _ _ (off₁ t), View.writes_nil, read_unread_whole]
    by_cases h : R.val / 512 = t.val % 8
    · rw [if_pos h, if_pos h, rs_off _ _ _ _ _ _ (wW m c false t) (fun r j => w0_off _ _ _ _ _ _ _ r j) (fun r j => w1_off _ _ _ _ _ _ _ r j),
        load_rows _ _ (off₁ t) R h]
    · rw [if_neg h, if_neg h, add_zero]

theorem ak_off (r : Fin 512) (l : Fin 128) : ak m c t.val t.isLt r l = ak m c (t.val - 1) (pred_lt t) r l
    + ∑ x : Fin 512, wW m c false t (hd l) x r * iblk m c 0 t (ix2 x l) := by
  unfold ak
  rcases Classical.em (t.val % 8 = 7) with h4 | h4
  on_goal 1 => rw [outsAt0_C m c t (by omega) (by omega) hlt (by omega) h4 (by omega)]
  on_goal 2 => rw [outsAt0_B m c t (by omega) (by omega) hlt (by omega) h4 (by omega)]
  all_goals
    frame_out
    rw [read_unread_whole]
    exact dk_off _ _ _ _ _ (wW m c false t) (fun r j => w0_off _ _ _ _ _ _ _ r j) (iblk m c 3 t) _ _ _ _ _ (fun r j => w1_off _ _ _ _ _ _ _ r j)

theorem av_off (r : Fin 512) (l : Fin 128) : av m c t.val t.isLt r l = av m c (t.val - 1) (pred_lt t) r l
    + ∑ x : Fin 512, wP m c false t (hd l) x r * iblk m c 4 t (ix2 x l) := by
  unfold av
  rcases Classical.em (t.val % 8 = 7) with h4 | h4
  on_goal 1 => rw [outsAt0_C m c t (by omega) (by omega) hlt (by omega) h4 (by omega)]
  on_goal 2 => rw [outsAt0_B m c t (by omega) (by omega) hlt (by omega) h4 (by omega)]
  all_goals
    frame_out
    rw [read_unread_whole]
    exact dv_off _ _ _ _ _ (wP m c false t) (fun r j => p0_off _ _ _ _ r j) _ _ (fun r j => p1_off _ _ _ _ r j)

theorem ac_off (h : Fin 2) (j : Fin 512) : ac m c t.val t.isLt h j = ac m c (t.val - 1) (pred_lt t) h j
    - (∑ x : Fin 512, wW m c false t h x j) * c8' := by
  unfold ac
  rcases Classical.em (t.val % 8 = 7) with h4 | h4
  on_goal 1 => rw [outsAt0_C m c t (by omega) (by omega) hlt (by omega) h4 (by omega)]
  on_goal 2 => rw [outsAt0_B m c t (by omega) (by omega) hlt (by omega) h4 (by omega)]
  all_goals
    frame_out
    rw [canon_pair, read_unread_whole]
    rcases two h with rfl | rfl
    · rw [if_neg (by decide), dc_off₀ _ _ _ (wW m c false t) (fun r j => w0_off _ _ _ _ _ _ _ r j)]
      congr 1
      pointwise
    · rw [if_pos rfl, dc_off₁ _ _ _ (wW m c false t) (fun r j => w1_off _ _ _ _ _ _ _ r j)]
      congr 1
      pointwise

end Off

section Skip

variable (hgt : t.val % 8 < t.val / 8 % 8)
include hgt

/-- Above the diagonal nothing is stored. -/
theorem skip : aq m c t.val t.isLt = aq m c (t.val - 1) (pred_lt t) ∧ ar m c t.val t.isLt = ar m c (t.val - 1) (pred_lt t) := by
  unfold aq ar
  rw [outsAt0_D m c t (by omega) (by omega) (by omega) (by omega) (by omega) (by omega)]
  exact ⟨rfl, rfl⟩

end Skip

section On

variable (heq : t.val / 8 % 8 = t.val % 8)
include heq

theorem coords_eq : (grid0.coords t 2).val = (grid0.coords t 1).val := by rw [coord₁, coord₂, heq]
theorem coords_lt : (grid0.coords t 2).val < 8 := by rw [coord₂]; omega

theorem aq_first (h0 : t.val % 64 = 0) (R : Fin 4096) (l : Fin 128) : aq m c t.val t.isLt R l =
    if R.val / 512 = t.val % 8 then ∑ x : Fin 512, wW m c true t (hd l) ⟨R.val % 512, Nat.mod_lt _ (by decide)⟩ x * iblk m c 1 t (ix2 x l) else 0 := by
  unfold aq
  rw [outsAt0_A m c t h0 heq (by omega) heq (by omega) (by omega)]
  frame_out
  rw [canon_rows (View.whole cc0_scratch0) _ _ _ _ (off₂ t) (by decide)]
  by_cases h : R.val / 512 = t.val % 8
  · rw [if_pos h, if_pos h, dq_on _ _ _ _ _ _ (wW m c true t) (fun r j => w0_on _ _ _ _ _ _ _ r j _ _ (coords_eq t heq) (coords_lt t heq))
      (fun r j => w1_on _ _ _ _ _ _ _ r j _ _ (coords_eq t heq) (coords_lt t heq)), load_rows _ _ (off₂ t) R h]
    pointwise [k0_pay1]
  · rw [if_neg h, if_neg h]
    pointwise [k0_pay1]

theorem ar_first (h0 : t.val % 64 = 0) (R : Fin 4096) (l : Fin 128) : ar m c t.val t.isLt R l =
    if R.val / 512 = t.val % 8 then ∑ x : Fin 512, wW m c true t (hd' l) ⟨R.val % 512, Nat.mod_lt _ (by decide)⟩ x else 0 := by
  unfold ar
  rw [outsAt0_A m c t h0 heq (by omega) heq (by omega) (by omega)]
  frame_out
  rw [canon_rows (View.whole cc0_scratch4) _ _ _ _ (off₂ t) (by decide)]
  by_cases h : R.val / 512 = t.val % 8
  · rw [if_pos h, if_pos h, rs_on _ _ _ _ _ _ (wW m c true t) (fun r j => w0_on _ _ _ _ _ _ _ r j _ _ (coords_eq t heq) (coords_lt t heq))
      (fun r j => w1_on _ _ _ _ _ _ _ r j _ _ (coords_eq t heq) (coords_lt t heq)), load_rows _ _ (off₂ t) R h]
    pointwise [k0_pay2]
  · rw [if_neg h, if_neg h]
    pointwise [k0_pay2]

theorem aq_on (h0 : ¬t.val % 64 = 0) (R : Fin 4096) (l : Fin 128) : aq m c t.val t.isLt R l = aq m c (t.val - 1) (pred_lt t) R l
    + if R.val / 512 = t.val % 8 then ∑ x : Fin 512, wW m c true t (hd l) ⟨R.val % 512, Nat.mod_lt _ (by decide)⟩ x * iblk m c 1 t (ix2 x l) else 0 := by
  unfold aq
  rcases Classical.em (t.val % 8 = 7) with h4 | h4
  on_goal 1 => rw [outsAt0_F m c t h0 heq (by omega) heq h4 (by omega)]
  on_goal 2 => rw [outsAt0_E m c t h0 heq (by omega) heq h4 (by omega)]
  all_goals
    frame_out
    rw [store_rows (View.whole cc0_scratch0) _ _ _ _ (off₂ t), View.writes_nil, read_unread_whole]
    by_cases h : R.val / 512 = t.val % 8
    · rw [if_pos h, if_pos h, dq_on _ _ _ _ _ _ (wW m c true t) (fun r j => w0_on _ _ _ _ _ _ _ r j _ _ (coords_eq t heq) (coords_lt t heq))
        (fun r j => w1_on _ _ _ _ _ _ _ r j _ _ (coords_eq t heq) (coords_lt t heq)), load_rows _ _ (off₂ t) R h]
    · rw [if_neg h, if_neg h, add_zero]

theorem ar_on (h0 : ¬t.val % 64 = 0) (R : Fin 4096) (l : Fin 128) : ar m c t.val t.isLt R l = ar m c (t.val - 1) (pred_lt t) R l
    + if R.val / 512 = t.val % 8 then ∑ x : Fin 512, wW m c true t (hd' l) ⟨R.val % 512, Nat.mod_lt _ (by decide)⟩ x else 0 := by
  unfold ar
  rcases Classical.em (t.val % 8 = 7) with h4 | h4
  on_goal 1 => rw [outsAt0_F m c t h0 heq (by omega) heq h4 (by omega)]
  on_goal 2 => rw [outsAt0_E m c t h0 heq (by omega) heq h4 (by omega)]
  all_goals
    frame_out
    rw [store_rows (View.whole cc0_scratch4) _ _ _ _ (off₂ t), View.writes_nil, read_unread_whole]
    by_cases h : R.val / 512 = t.val % 8
    · rw [if_pos h, if_pos h, rs_on _ _ _ _ _ _ (wW m c true t) (fun r j => w0_on _ _ _ _ _ _ _ r j _ _ (coords_eq t heq) (coords_lt t heq))
        (fun r j => w1_on _ _ _ _ _ _ _ r j _ _ (coords_eq t heq) (coords_lt t heq)), load_rows _ _ (off₂ t) R h]
    · rw [if_neg h, if_neg h, add_zero]

/-- On the diagonal the sums over the rows start again. -/
theorem ak_on (r : Fin 512) (l : Fin 128) : ak m c t.val t.isLt r l = ∑ x : Fin 512, wW m c true t (hd l) x r * iblk m c 0 t (ix2 x l) := by
  unfold ak
  rcases Classical.em (t.val % 64 = 0) with h0 | h0
  on_goal 2 => rcases Classical.em (t.val % 8 = 7) with h4 | h4
  on_goal 1 => rw [outsAt0_A m c t h0 heq (by omega) heq (by omega) (by omega)]
  on_goal 2 => rw [outsAt0_F m c t h0 heq (by omega) heq h4 (by omega)]
  on_goal 3 => rw [outsAt0_E m c t h0 heq (by omega) heq h4 (by omega)]
  all_goals
    frame_out
    rw [dk_on _ _ _ _ _ _ (wW m c true t) (fun r j => w0_on _ _ _ _ _ _ _ r j _ _ (coords_eq t heq) (coords_lt t heq))
        (fun r j => w1_on _ _ _ _ _ _ _ r j _ _ (coords_eq t heq) (coords_lt t heq))]
    pointwise [k0_pay3]

theorem av_on (r : Fin 512) (l : Fin 128) : av m c t.val t.isLt r l = ∑ x : Fin 512, wP m c true t (hd l) x r * iblk m c 4 t (ix2 x l) := by
  unfold av
  rcases Classical.em (t.val % 64 = 0) with h0 | h0
  on_goal 2 => rcases Classical.em (t.val % 8 = 7) with h4 | h4
  on_goal 1 => rw [outsAt0_A m c t h0 heq (by omega) heq (by omega) (by omega)]
  on_goal 2 => rw [outsAt0_F m c t h0 heq (by omega) heq h4 (by omega)]
  on_goal 3 => rw [outsAt0_E m c t h0 heq (by omega) heq h4 (by omega)]
  all_goals
    frame_out
    rw [dv_on _ _ _ _ _ _ (wP m c true t) (fun r j => p0_on _ _ _ _ r j _ _ (coords_eq t heq) (coords_lt t heq))
        (fun r j => p1_on _ _ _ _ r j _ _ (coords_eq t heq) (coords_lt t heq))]
    pointwise [k0_pay4]

theorem ac_on (h : Fin 2) (j : Fin 512) : ac m c t.val t.isLt h j = 0 - (∑ x : Fin 512, wW m c true t h x j) * c8' := by
  unfold ac
  rcases Classical.em (t.val % 64 = 0) with h0 | h0
  on_goal 2 => rcases Classical.em (t.val % 8 = 7) with h4 | h4
  on_goal 1 => rw [outsAt0_A m c t h0 heq (by omega) heq (by omega) (by omega)]
  on_goal 2 => rw [outsAt0_F m c t h0 heq (by omega) heq h4 (by omega)]
  on_goal 3 => rw [outsAt0_E m c t h0 heq (by omega) heq h4 (by omega)]
  all_goals
    frame_open
    simp (disch := decide) only [↓ View.readCov_skip, ↓ View.readCov_fill]
    frame_out
    rw [canon_pair]
    rcases two h with rfl | rfl
    · rw [if_neg (by decide), dc_on₀ _ _ _ (wW m c true t) (fun r j => w0_on _ _ _ _ _ _ _ r j _ _ (coords_eq t heq) (coords_lt t heq))]
      congr 1
      pointwise [k0_pay5]
    · rw [if_pos rfl, dc_on₁ _ _ _ (wW m c true t) (fun r j => w1_on _ _ _ _ _ _ _ r j _ _ (coords_eq t heq) (coords_lt t heq))]
      congr 1
      pointwise [k0_pay5]

end On

section Out

/-- The outputs, where they are written back, are the accumulators. -/
theorem out_q (h5 : t.val % 64 = 63) (R : Fin 4096) (l : Fin 128) :
    (show EReal from (outsAt0 m c t.val t.isLt).1 (ix2 R l)) = aq m c t.val t.isLt R l := by
  unfold aq
  rw [outsAt0_F m c t (by omega) (by omega) (by omega) (by omega) (by omega) h5]
  frame_out
  rfl
theorem out_r (h5 : t.val % 64 = 63) (R : Fin 4096) (l : Fin 128) :
    (show EReal from (outsAt0 m c t.val t.isLt).2.2.2.2.1 (ix2 R l)) = ar m c t.val t.isLt R l * c8' := by
  unfold ar
  rw [outsAt0_F m c t (by omega) (by omega) (by omega) (by omega) (by omega) h5]
  frame_out
  rfl
theorem out_k (h4 : t.val % 8 = 7) (r : Fin 512) (l : Fin 128) :
    (show EReal from (outsAt0 m c t.val t.isLt).2.1 (ix2 r l)) = ak m c t.val t.isLt r l := by
  unfold ak
  rcases Classical.em (t.val % 64 = 63) with h5 | h5
  on_goal 1 => rw [outsAt0_F m c t (by omega) (by omega) (by omega) (by omega) (by omega) h5]
  on_goal 2 => rw [outsAt0_C m c t (by omega) (by omega) (by omega) (by omega) h4 h5]
  all_goals
    frame_out
    rfl
theorem out_v (h4 : t.val % 8 = 7) (r : Fin 512) (l : Fin 128) :
    (show EReal from (outsAt0 m c t.val t.isLt).2.2.1 (ix2 r l)) = av m c t.val t.isLt r l := by
  unfold av
  rcases Classical.em (t.val % 64 = 63) with h5 | h5
  on_goal 1 => rw [outsAt0_F m c t (by omega) (by omega) (by omega) (by omega) (by omega) h5]
  on_goal 2 => rw [outsAt0_C m c t (by omega) (by omega) (by omega) (by omega) h4 h5]
  all_goals
    frame_out
    rfl
theorem out_c (h4 : t.val % 8 = 7) (h : Fin 2) (j : Fin 512) :
    (show EReal from (outsAt0 m c t.val t.isLt).2.2.2.1 (ix3 h 0 j)) = ac m c t.val t.isLt h j := by
  unfold ac
  rcases Classical.em (t.val % 64 = 63) with h5 | h5
  on_goal 1 => rw [outsAt0_F m c t (by omega) (by omega) (by omega) (by omega) (by omega) h5]
  on_goal 2 => rw [outsAt0_C m c t (by omega) (by omega) (by omega) (by omega) h4 h5]
  all_goals
    frame_out
    rw [View.readCov_eq_canon']
    refine congrArg _ (funext fun a => Fin.ext ?_)
    fin_cases a
    · show 0 + 1 * h.val = h.val
      omega
    · rfl
    · show 0 + 1 * j.val = j.val
      omega

end Out

end Cert.FoxKernelIdeal.Value
-- ==== Proof.Fox.Entry.lean ====
/- The FoX attention's backward call: what the call's operands hold when it begins. -/
module

public import proofs.«01_k».proof.Proof.Fox.Point
public import proofs.«01_k».proof.Proof.Attn
public import Idealize.ShloMosaic.Lib.StableHlo.ReadAt
public import Idealize.ShloMosaic.Lib.WordCmp

@[expose] public section

set_option maxRecDepth 16384

noncomputable section

open Idealize.ShloMosaic Idealize.ShloMosaic.TcCoe Idealize.SL.Sem

namespace Cert.FoxKernelIdeal.Value

open Cert.FoxKernelIdeal Cert.FoxKernelIdeal.Gen

variable (m : (ℓ : Loc nD τ sig) → Buf (Elt Ideal) ℓ) (c : Dev nD)

/-- The buffers after each stretch of the host's operations before the call. -/
@[irreducible] def W0 : Valuation τ sig (Elt Ideal) := StableHlo.after hostOps0 (fun b => m (c, b))
@[irreducible] def W1 : Valuation τ sig (Elt Ideal) := StableHlo.after hostOps0_1 (W0 m c)
@[irreducible] def W2 : Valuation τ sig (Elt Ideal) := StableHlo.after hostOps0_2 (W1 m c)
@[irreducible] def W3 : Valuation τ sig (Elt Ideal) := StableHlo.after hostOps0_3 (W2 m c)
@[irreducible] def W4 : Valuation τ sig (Elt Ideal) := StableHlo.after hostOps0_4 (W3 m c)

theorem V0_eq : V0 m c = W4 m c := by
  unfold W4 W3 W2 W1 W0
  simp only [V0, List.flatten_cons, List.flatten_nil, List.append_nil, StableHlo.after_append]

theorem V_eq (b : Ref sig .tc) : V m c b = W4 m c (Proc.devRef .tc b) := congrFun (V0_eq m c) _

/-- The maximum of each row of an array of logits. -/
@[irreducible] def rowMax (L : FVec Ideal S1x8x4096x4096 .f32) : FVec Ideal S1x8x4096 .f32 :=
  Host.reduce FloatOps.maximumf L (constant S_ .f32 0xFF800000#32) reducesTo_S1x8x4096x4096_S1x8x4096_d3 h_S_
/-- The sum of each row. -/
@[irreducible] def rowSum (L : FVec Ideal S1x8x4096x4096 .f32) : FVec Ideal S1x8x4096 .f32 :=
  Host.reduceAdd L (constant S_ .f32 0x00000000#32) reducesTo_S1x8x4096x4096_S1x8x4096_d3 h_S_

theorem rowMax_at (L : FVec Ideal S1x8x4096x4096 .f32) (h : Fin 8) (i : Fin 4096) : rowMax L (ix3 0 h i) = Finset.univ.fold max ⊥ (fun x => L (ix4 0 h i x)) := by
  unfold rowMax
  pointwise
  rw [Cert.Attn.neg_inf]
theorem rowSum_at (L : FVec Ideal S1x8x4096x4096 .f32) (h : Fin 8) (i : Fin 4096) : rowSum L (ix3 0 h i) = ∑ x, L (ix4 0 h i x) := by
  unfold rowSum
  pointwise

/-- A row statistic spread over the row. -/
abbrev spread (M : FVec Ideal S1x8x4096 .f32) : FVec Ideal S1x8x4096x4096 .f32 :=
  broadcastInDim S1x8x4096x4096 ![0, 1, 2, 3] bcast_S1x8x4096x1_S1x8x4096x4096_0_1_2_3
    (broadcastInDim S1x8x4096x1 ![0, 1, 2] bcast_S1x8x4096_S1x8x4096x1_0_1_2 M)

theorem spread_at (L : FVec Ideal S1x8x4096x4096 .f32)(M : FVec Ideal S1x8x4096 .f32) (h : Fin 8) (i x : Fin 4096) :
    Host.exp (subf L (spread M)) (ix4 0 h i x) = Ideal.exp (L (ix4 0 h i x) - M (ix3 0 h i)) := by
  unfold spread
  pointwise
theorem log_at (M S : FVec Ideal S1x8x4096 .f32) (h : Fin 8) (i : Fin 4096) :
    shapeCast S8x4096x1 (addf (broadcastInDim S1x8x4096x1 ![0, 1, 2] bcast_S1x8x4096_S1x8x4096x1_0_1_2 M)
    (Host.log (broadcastInDim S1x8x4096x1 ![0, 1, 2] bcast_S1x8x4096_S1x8x4096x1_0_1_2 S))) shapeCasts_S1x8x4096x1_S8x4096x1 (ix3 h i 0)
      = M (ix3 0 h i) + Ideal.log (S (ix3 0 h i)) := by
  pointwise

/-- The row log-sums of an array of logits. -/
def lseT (L : FVec Ideal S1x8x4096x4096 .f32) : FVec Ideal S8x4096x1 .f32 :=
  shapeCast S8x4096x1 (addf (broadcastInDim S1x8x4096x1 ![0, 1, 2] bcast_S1x8x4096_S1x8x4096x1_0_1_2 (rowMax L))
    (Host.log (broadcastInDim S1x8x4096x1 ![0, 1, 2] bcast_S1x8x4096_S1x8x4096x1_0_1_2
      (rowSum (Host.exp (subf L (spread (rowMax L)))))))) shapeCasts_S1x8x4096x1_S8x4096x1

theorem lseT_at (L : FVec Ideal S1x8x4096x4096 .f32) (h : Fin 8) (i : Fin 4096) : lseT L (ix3 h i 0) =
    Finset.univ.fold max ⊥ (fun x => L (ix4 0 h i x)) + Ideal.log (∑ x, Ideal.exp (L (ix4 0 h i x) - Finset.univ.fold max ⊥ (fun x => L (ix4 0 h i x)))) := by
  unfold lseT
  rw [log_at, rowSum_at, rowMax_at]
  simp only [spread_at, rowMax_at]

theorem lseT_of (L : FVec Ideal S1x8x4096x4096 .f32) (h : Fin 8) (i : Fin 4096) (f : Fin 4096 → EReal) (hf : ∀ x, L (ix4 0 h i x) = f x) : lseT L (ix3 h i 0) =
    Finset.univ.fold max ⊥ f + Ideal.log (∑ x, Ideal.exp (f x - Finset.univ.fold max ⊥ f)) := by
  rw [lseT_at]
  simp only [hf]

/-- The attention's output from its logits and values. -/
def outT (L : FVec Ideal S1x8x4096x4096 .f32) (v : FVec Ideal S1x8x4096x64 .f32) : FVec Ideal S4096x512 .f32 :=
  shapeCast S4096x512 (shapeCast S1x4096x512 (transpose S1x4096x8x64 [0, 2, 1, 3]
    (Host.dotGeneral dot_S1x8x4096x4096_S1x8x4096x64_S1x8x4096x64_3_2_2_3_01_01 none
      (Host.divf (Host.exp (subf L (spread (maximumf (broadcastInDim S1x8x4096 ![] bcast_S_S1x8x4096 (constant S_ .f32 0xFF800000#32)) (rowMax L)))))
        (spread (rowSum (Host.exp (subf L (spread (maximumf (broadcastInDim S1x8x4096 ![] bcast_S_S1x8x4096 (constant S_ .f32 0xFF800000#32)) (rowMax L)))))))) v)
    transposes_S1x8x4096x64_S1x4096x8x64_0_2_1_3) shapeCasts_S1x4096x8x64_S1x4096x512) shapeCasts_S1x4096x512_S4096x512

theorem outT_at (L : FVec Ideal S1x8x4096x4096 .f32) (v : FVec Ideal S1x8x4096x64 .f32) (i : Fin 4096) (l : Fin 512) : outT L v (ix2 i l) =
    ∑ x, Ideal.div (Ideal.exp (L (ix4 0 ⟨l.val / 64, by omega⟩ i x) - Finset.univ.fold max ⊥ (fun x => L (ix4 0 ⟨l.val / 64, by omega⟩ i x))))
      (∑ y, Ideal.exp (L (ix4 0 ⟨l.val / 64, by omega⟩ i y) - Finset.univ.fold max ⊥ (fun x => L (ix4 0 ⟨l.val / 64, by omega⟩ i x))))
        * v (ix4 0 ⟨l.val / 64, by omega⟩ x ⟨l.val % 64, by omega⟩) := by
  have h2 (E : FVec Ideal S1x8x4096x4096 .f32) : shapeCast S4096x512 (shapeCast S1x4096x512 (transpose S1x4096x8x64 [0, 2, 1, 3]
    (Host.dotGeneral dot_S1x8x4096x4096_S1x8x4096x64_S1x8x4096x64_3_2_2_3_01_01 none (Host.divf E (spread (rowSum E))) v)
    transposes_S1x8x4096x64_S1x4096x8x64_0_2_1_3) shapeCasts_S1x4096x8x64_S1x4096x512) shapeCasts_S1x4096x512_S4096x512 (ix2 i l)
      = ∑ x, Ideal.div (E (ix4 0 ⟨l.val / 64, by omega⟩ i x)) (rowSum E (ix3 0 ⟨l.val / 64, by omega⟩ i)) * v (ix4 0 ⟨l.val / 64, by omega⟩ x ⟨l.val % 64, by omega⟩) := by
    unfold spread
    pointwise
  have h3 (M : FVec Ideal S1x8x4096 .f32) (h : Fin 8) (x : Fin 4096) : Host.exp (subf L (spread (maximumf (broadcastInDim S1x8x4096 ![] bcast_S_S1x8x4096 (constant S_ .f32 0xFF800000#32)) M))) (ix4 0 h i x)
      = Ideal.exp (L (ix4 0 h i x) - max ⊥ (M (ix3 0 h i))) := by
    rw [← Cert.Attn.neg_inf]
    unfold spread
    pointwise
  unfold outT
  rw [h2, rowSum_at]
  simp only [h3, rowMax_at, bot_le, sup_of_le_right]

theorem W4_v77 : W4 m c (Proc.devRef .tc main_v77) = lseT (subf (W3 m c (Proc.devRef .tc main_v63)) (broadcastInDim S1x8x4096x4096 ![0, 1, 2, 3]
    bcast_S1x8x1x4096_S1x8x4096x4096_0_1_2_3 (broadcastInDim S1x8x1x4096 ![0, 1, 3] bcast_S1x8x4096_S1x8x1x4096_0_1_3
      (transpose S1x8x4096 [0, 2, 1] (W3 m c (Proc.devRef .tc main_arg1)) transposes_S1x4096x8_S1x8x4096_0_2_1)))) := by
  unfold W4 lseT rowMax rowSum
  after_reads_simp
  rfl
theorem W2_v53 : W2 m c (Proc.devRef .tc main_v53) = outT (W1 m c (Proc.devRef .tc main_v38)) (W1 m c (Proc.devRef .tc main_v21)) := by
  unfold W2 outT rowMax rowSum
  after_reads_simp
  rfl

/-- A select by a comparison of two positions. -/
theorem select_le (a b : ℕ) (ha : a < 2 ^ 31) (hb : b < 2 ^ 31) (x y : EReal) :
    Scalar.select (IntOp.cmpi .sle (BitVec.ofNat 32 a) (BitVec.ofNat 32 b)) x y = if a ≤ b then x else y := by
  rw [WordCmp.cmpi_sle_ofNat ha hb]
  by_cases h : a ≤ b <;> simp [h, Scalar.select]

/-- The features, the running decay sums and the output's gradient of the row at position `i`. -/
def fH (i : Fin 4096) (k : Fin 2984) : EReal := m (c, Proc.devRef .tc main_arg0) (ix3 0 i k)
def fC (i : Fin 4096) (h : Fin 8) : EReal := m (c, Proc.devRef .tc main_arg1) (ix3 0 i h)
def fD (i : Fin 4096) (k : Fin 1024) : EReal := m (c, Proc.devRef .tc main_arg2) (ix3 0 i k)

/-- The score of head `h` between two positions. -/
def fS (h : Fin 8) (i j : Fin 4096) : EReal :=
  (∑ x : Fin 64, fH m c i ⟨416 + (h.val * 64 + x.val), by omega⟩ * fH m c j ⟨928 + (h.val * 64 + x.val), by omega⟩) * c8

theorem W0_v9 (i : Fin 4096) (j : Fin 1536) : (show EReal from W0 m c (Proc.devRef .tc main_v9) (ix2 i ⟨1024 + j, by omega⟩)) = fH m c i ⟨416 + j, by omega⟩ := by
  unfold W0 fH
  after_reads_at
  after_reads_at
theorem W4_v9 : W4 m c (Proc.devRef .tc main_v9) = W0 m c (Proc.devRef .tc main_v9) := by
  unfold W4 W3 W2 W1
  after_reads_simp
theorem entry_v9 (i : Fin 4096) (j : Fin 1536) : (show EReal from V m c main_v9 (ix2 i ⟨1024 + j, by omega⟩)) = fH m c i ⟨416 + j, by omega⟩ := by
  rw [V_eq, W4_v9]
  exact W0_v9 m c i j
theorem entry_v12 (h : Fin 8) (i : Fin 4096) : (show EReal from V m c main_v12 (ix3 h 0 i)) = fC m c i h := by
  rw [V_eq]
  unfold W4 W3 W2 W1 W0
  unfold fC
  after_reads_at
theorem entry_v79 (i : Fin 4096) (l : Fin 1024) : (show EReal from V m c main_v79 (ix2 i l)) = fD m c i l := by
  rw [V_eq]
  unfold W4 W3 W2 W1 W0
  unfold fD
  after_reads_at

theorem W0_v31 (h : Fin 8) (i j : Fin 4096) : (show EReal from W0 m c (Proc.devRef .tc main_v31) (ix4 0 h i j)) = fS m c h i j + fC m c i h - fC m c j h := by
  unfold W0 fS fC fH c8
  after_reads_at
theorem W0_v37 (i j : Fin 4096) : W0 m c (Proc.devRef .tc main_v37) (ix2 i j) = IntOp.cmpi .sle (BitVec.ofNat 32 j) (BitVec.ofNat 32 i) := by
  unfold W0
  after_reads_at
theorem W0_cst : (show EReal from W0 m c (Proc.devRef .tc main_cst_2) ix0) = ⊥ := by
  rw [← Cert.Attn.neg_inf]
  unfold W0
  after_reads_at
theorem W0_v21 (h : Fin 8) (i : Fin 4096) (l : Fin 64) : (show EReal from W0 m c (Proc.devRef .tc main_v21) (ix4 0 h i l)) = fH m c i ⟨1440 + (h.val * 64 + l.val), by omega⟩ := by
  unfold W0 fH
  after_reads_at
theorem W0_v54 (h : Fin 8) (i j : Fin 4096) : (show EReal from W2 m c (Proc.devRef .tc main_v56) (ix4 0 h i j)) = fS m c h i j := by
  unfold W2 W1 W0 fS fH c8
  after_reads_at
theorem W2_v62 (i j : Fin 4096) : W2 m c (Proc.devRef .tc main_v62) (ix2 i j) = IntOp.cmpi .sle (BitVec.ofNat 32 j) (BitVec.ofNat 32 i) := by
  unfold W2
  after_reads_at
theorem W2_cst : (show EReal from W2 m c (Proc.devRef .tc main_cst_7) ix0) = ⊥ := by
  rw [← Cert.Attn.neg_inf]
  unfold W2
  after_reads_at

theorem W1_v38 (h : Fin 8) (i j : Fin 4096) : (show EReal from W1 m c (Proc.devRef .tc main_v38) (ix4 0 h i j)) = if j.val ≤ i.val then fS m c h i j + fC m c i h - fC m c j h else ⊥ := by
  rw [← select_le _ _ (by omega) (by omega), ← W0_v31, ← W0_v37, ← W0_cst m c]
  unfold W1
  after_reads_at
  rfl
theorem W3_v63 (h : Fin 8) (i j : Fin 4096) : (show EReal from W3 m c (Proc.devRef .tc main_v63) (ix4 0 h i j)) = if j.val ≤ i.val then fS m c h i j else ⊥ := by
  rw [← select_le _ _ (by omega) (by omega), ← W0_v54, ← W2_v62 m c, ← W2_cst m c]
  unfold W3
  after_reads_at
  rfl

/-- The masked logits, with the row's own decay and without. -/
def fL (h : Fin 8) (i j : Fin 4096) : EReal := if j.val ≤ i.val then fS m c h i j + fC m c i h - fC m c j h else ⊥
def fL' (h : Fin 8) (i j : Fin 4096) : EReal := (if j.val ≤ i.val then fS m c h i j else ⊥) - fC m c j h

/-- The forward's output and row log-sums. -/
def fO (i : Fin 4096) (l : Fin 512) : EReal :=
    ∑ x, Ideal.div (Ideal.exp (fL m c ⟨l.val / 64, by omega⟩ i x - Finset.univ.fold max ⊥ (fL m c ⟨l.val / 64, by omega⟩ i)))
      (∑ y, Ideal.exp (fL m c ⟨l.val / 64, by omega⟩ i y - Finset.univ.fold max ⊥ (fL m c ⟨l.val / 64, by omega⟩ i)))
        * fH m c x ⟨1440 + l.val, by omega⟩
def fE (h : Fin 8) (i : Fin 4096) : EReal :=
    Finset.univ.fold max ⊥ (fL' m c h i) + Ideal.log (∑ x, Ideal.exp (fL' m c h i x - Finset.univ.fold max ⊥ (fL' m c h i)))

theorem entry_v53 (i : Fin 4096) (l : Fin 512) : (show EReal from V m c main_v53 (ix2 i l)) = fO m c i l := by
  have e : W4 m c (Proc.devRef .tc main_v53) = W2 m c (Proc.devRef .tc main_v53) := by
    unfold W4 W3
    after_reads_simp
  have e' : W1 m c (Proc.devRef .tc main_v21) = W0 m c (Proc.devRef .tc main_v21) := by
    unfold W1
    after_reads_simp
  rw [V_eq, e, W2_v53, e']
  refine (outT_at _ _ _ _).trans ?_
  unfold fO
  refine Finset.sum_congr rfl fun x _ => ?_
  have hL : ∀ x, W1 m c (Proc.devRef .tc main_v38) (ix4 0 ⟨l.val / 64, by omega⟩ i x) = fL m c ⟨l.val / 64, by omega⟩ i x := fun x => W1_v38 m c _ i x
  have hv := W0_v21 m c ⟨l.val / 64, by omega⟩ x ⟨l.val % 64, by omega⟩
  refine congrArg₂ _ (by simp only [hL]) (hv.trans ?_)
  congr 2
  show 1440 + (l.val / 64 * 64 + l.val % 64) = 1440 + l.val
  omega

theorem entry_v77 (h : Fin 8) (i : Fin 4096) : (show EReal from V m c main_v77 (ix3 h i 0)) = fE m c h i := by
  rw [V_eq, W4_v77]
  have hC : ∀ x, W3 m c (Proc.devRef .tc main_arg1) (ix3 0 x h) = fC m c x h := fun x => by
    unfold W3 W2 W1 W0 fC
    after_reads_at
  have hL (X : FVec Ideal S1x8x4096x4096 .f32) (Y : FVec Ideal S1x4096x8 .f32) (x : Fin 4096) : subf X (broadcastInDim S1x8x4096x4096 ![0, 1, 2, 3]
    bcast_S1x8x1x4096_S1x8x4096x4096_0_1_2_3 (broadcastInDim S1x8x1x4096 ![0, 1, 3] bcast_S1x8x4096_S1x8x1x4096_0_1_3
      (transpose S1x8x4096 [0, 2, 1] Y transposes_S1x4096x8_S1x8x4096_0_2_1))) (ix4 0 h i x) = X (ix4 0 h i x) - Y (ix3 0 x h) := by
    pointwise
  have hL' : ∀ x, (show EReal from W3 m c (Proc.devRef .tc main_v63) (ix4 0 h i x)) - (show EReal from W3 m c (Proc.devRef .tc main_arg1) (ix3 0 x h)) = fL' m c h i x := fun x => by
    exact congrArg₂ (fun a b : EReal => a - b) (W3_v63 m c h i x) (hC x)
  exact lseT_of _ _ _ _ fun x => (hL _ _ x).trans (hL' x)

end Cert.FoxKernelIdeal.Value
-- ==== Proof.Fox.Blocks.lean ====
/- The FoX attention's backward call: the blocks of each point, read from the operands. -/
module

public import proofs.«01_k».proof.Proof.Fox.Point
public import proofs.«01_k».proof.Proof.Attn
public import proofs.«01_k».proof.Proof.Fox.Entry
public import Idealize.ShloMosaic.Lib.StableHlo.ReadAt
public import Idealize.ShloMosaic.Lib.WordCmp

@[expose] public section

set_option maxRecDepth 16384

noncomputable section

open Idealize.ShloMosaic Idealize.ShloMosaic.TcCoe Idealize.SL.Sem

namespace Cert.FoxKernelIdeal.Value

open Cert.FoxKernelIdeal Cert.FoxKernelIdeal.Gen

variable (m : (ℓ : Loc nD τ sig) → Buf (Elt Ideal) ℓ) (c : Dev nD)

/-! ## The blocks of a point -/

theorem lt_N (t : Fin cfg0.N) : t.val < 256 := t.isLt

/-- The position of row `r` of the point's tile of keys, and of its tile of queries. -/
def kpos (t : Fin cfg0.N) (r : Fin 512) : Fin 4096 := ⟨512 * (t.val / 8 % 8) + r.val, by omega⟩
def qpos (t : Fin cfg0.N) (r : Fin 512) : Fin 4096 := ⟨512 * (t.val % 8) + r.val, by omega⟩
/-- The column of lane `l` of the point's pair of heads, and the pair's heads. -/
def col (t : Fin cfg0.N) (l : Fin 128) : Fin 512 := ⟨128 * (t.val / 64) + l.val, by have := lt_N t; omega⟩
def hpos (t : Fin cfg0.N) (h : Fin 2) : Fin 8 := ⟨2 * (t.val / 64) + h.val, by have := lt_N t; omega⟩

/-- A block read of the saved output, and of the saved log-sums, from any contents of the buffers. -/
theorem gen3 (V' : (b : Ref sig .tc) → Buf (Elt Ideal) ((c : Thread nD τ).loc b)) (t : Fin cfg0.N) (hle : t.val / 8 % 8 ≤ t.val % 8) (r : Fin 512) (l : Fin 128) :
    (show EReal from ((cfg0.win 3).blk t).view.read (Elt Ideal) (V' (Pipeline.arrRef spec0 3)) (ix2 r l)) = V' main_v53 (ix2 (qpos t r) (col t l)) := by
  have idx : ∀ t : Fin cfg0.N, t.val / 8 % 8 ≤ t.val % 8 → win0_3.index t = ![t.val % 8, t.val / 64] := by decide +kernel
  unfold qpos col
  blk_point [idx t hle]
theorem gen5 (V' : (b : Ref sig .tc) → Buf (Elt Ideal) ((c : Thread nD τ).loc b)) (t : Fin cfg0.N) (hle : t.val / 8 % 8 ≤ t.val % 8) (h : Fin 2) (r : Fin 512) :
    (show EReal from ((cfg0.win 5).blk t).view.read (Elt Ideal) (V' (Pipeline.arrRef spec0 5)) (ix3 h r 0)) = V' main_v77 (ix3 (hpos t h) (qpos t r) 0) := by
  have idx : ∀ t : Fin cfg0.N, t.val / 8 % 8 ≤ t.val % 8 → win0_5.index t = ![t.val / 64, t.val % 8, 0] := by decide +kernel
  unfold qpos hpos
  blk_point [idx t hle]

theorem blk1 (t : Fin cfg0.N) (r : Fin 512) (l : Fin 128) : (show EReal from iblk m c 1 t (ix2 r l)) = fH m c (kpos t r) ⟨928 + (col t l).val, by omega⟩ := by
  have idx : ∀ t : Fin cfg0.N, win0_1.index t = ![t.val / 8 % 8, 12 + t.val / 64] := by decide +kernel
  have h := entry_v9 m c (kpos t r) ⟨512 + (col t l).val, by omega⟩
  refine Eq.trans ?_ (h.trans (by congr 2; simp; omega))
  unfold iblk kpos col
  generalize V m c = V'
  blk_point [idx t]
theorem blk2 (t : Fin cfg0.N) (r : Fin 512) (l : Fin 128) : (show EReal from iblk m c 2 t (ix2 r l)) = fH m c (kpos t r) ⟨1440 + (col t l).val, by omega⟩ := by
  have idx : ∀ t : Fin cfg0.N, win0_2.index t = ![t.val / 8 % 8, 16 + t.val / 64] := by decide +kernel
  have h := entry_v9 m c (kpos t r) ⟨1024 + (col t l).val, by omega⟩
  refine Eq.trans ?_ (h.trans (by congr 2; simp; omega))
  unfold iblk kpos col
  generalize V m c = V'
  blk_point [idx t]
theorem blk6 (t : Fin cfg0.N) (h : Fin 2) (j : Fin 512) : (show EReal from iblk m c 6 t (ix3 h 0 j)) = fC m c (kpos t j) (hpos t h) := by
  have idx : ∀ t : Fin cfg0.N, win0_6.index t = ![t.val / 64, 0, t.val / 8 % 8] := by decide +kernel
  refine Eq.trans ?_ (entry_v12 m c _ _)
  unfold iblk kpos hpos
  generalize V m c = V'
  blk_point [idx t]

variable (t : Fin cfg0.N) (hle : t.val / 8 % 8 ≤ t.val % 8)
include hle

theorem blk0 (r : Fin 512) (l : Fin 128) : (show EReal from iblk m c 0 t (ix2 r l)) = fH m c (qpos t r) ⟨416 + (col t l).val, by omega⟩ := by
  have idx : ∀ t : Fin cfg0.N, t.val / 8 % 8 ≤ t.val % 8 → win0_0.index t = ![t.val % 8, 8 + t.val / 64] := by decide +kernel
  have h := entry_v9 m c (qpos t r) ⟨(col t l).val, by omega⟩
  refine Eq.trans ?_ h
  unfold iblk qpos col
  generalize V m c = V'
  blk_point [idx t hle]
theorem blk3 (r : Fin 512) (l : Fin 128) : (show EReal from iblk m c 3 t (ix2 r l)) = fO m c (qpos t r) (col t l) := by
  unfold iblk
  exact (gen3 c (V m c) t hle r l).trans (entry_v53 m c _ _)
theorem blk4 (r : Fin 512) (l : Fin 128) : (show EReal from iblk m c 4 t (ix2 r l)) = fD m c (qpos t r) ⟨512 + (col t l).val, by omega⟩ := by
  have idx : ∀ t : Fin cfg0.N, t.val / 8 % 8 ≤ t.val % 8 → win0_4.index t = ![t.val % 8, 4 + t.val / 64] := by decide +kernel
  refine Eq.trans ?_ (entry_v79 m c _ _)
  unfold iblk qpos col
  generalize V m c = V'
  blk_point [idx t hle]
theorem blk5 (h : Fin 2) (r : Fin 512) : (show EReal from iblk m c 5 t (ix3 h r 0)) = fE m c (hpos t h) (qpos t r) := by
  unfold iblk
  exact (gen5 c (V m c) t hle h r).trans (entry_v77 m c _ _)
end Cert.FoxKernelIdeal.Value
-- ==== Proof.Causal.lean ====
/- Sums over the tiles of a causal attention: a run over 64 points (8 tiles of keys, each with 8 tiles of queries) per pair of heads. -/
module

public import Idealize.ShloMosaic.Lib.Pipeline.ValueKit

@[expose] public section

noncomputable section

open Idealize.ShloMosaic

namespace Cert.Causal

/-- The position of a row of a tile. -/
def pos (b : ℕ) (hb : b < 8) (r : Fin 512) : Fin 4096 := ⟨512 * b + r.val, by omega⟩
/-- The pair of heads of a point. -/
def pair (t : Fin 256) : Fin 4 := ⟨t.val / 64, by omega⟩

theorem sum_tiles (f : Fin 4096 → EReal) : ∑ b : Fin 8, ∑ x : Fin 512, f (pos b.val b.isLt x) = ∑ i, f i := by
  refine Fin.sum_mul_add_congr (L := 4096) (S := 8) (n := 512) fun s k hl => congrArg f (Fin.ext ?_)
  simp [pos]; omega

/-- A sum over the queries, kept while the tile of keys stays. -/
theorem run_k (g : (n : ℕ) → n < 256 → Fin 512 → EReal) (T : Fin 256 → Fin 512 → EReal)
    (on : ∀ t : Fin 256, t.val / 8 % 8 = t.val % 8 → ∀ r, g t.val t.isLt r = T t r)
    (off : ∀ t : Fin 256, t.val / 8 % 8 < t.val % 8 → ∀ r, g t.val t.isLt r = g (t.val - 1) (by omega) r + T t r)
    (F : Fin 4 → Fin 4096 → Fin 4096 → EReal)
    (hT : ∀ t : Fin 256, t.val / 8 % 8 ≤ t.val % 8 → ∀ r, T t r = ∑ x, F (pair t) (pos (t.val / 8 % 8) (by omega) r) (pos (t.val % 8) (by omega) x))
    (hF : ∀ p j i, i < j → F p j i = 0) (t : Fin 256) (ht : t.val % 8 = 7) (r : Fin 512) :
    g t.val t.isLt r = ∑ i, F (pair t) (pos (t.val / 8 % 8) (by omega) r) i := by
  have key := Pipeline.eq_sum_fin_of_reset_step_apply_of_flush (N := 256) (M := EReal)
    (fun n hn r => if n % 8 < n / 8 % 8 then (0 : EReal) else g n hn r) 8 (fun _ => 0)
    (fun t r => if t.val / 8 % 8 ≤ t.val % 8 then T t r else 0)
    (fun t h r => by
      by_cases hk : t.val / 8 % 8 = t.val % 8
      · rw [if_neg (by omega), if_pos (by omega), on t hk, zero_add]
      · rw [if_pos (by omega), if_neg (by omega), zero_add])
    (fun t h r => by
      have h1 : (t.val - 1) % 8 = t.val % 8 - 1 := by omega
      have h2 : (t.val - 1) / 8 % 8 = t.val / 8 % 8 := by omega
      rw [h1, h2]
      rcases Nat.lt_trichotomy (t.val / 8 % 8) (t.val % 8) with hk | hk | hk
      · rw [if_neg (by omega), if_neg (by omega), if_pos (by omega), off t hk]
      · rw [if_neg (by omega), if_pos (by omega), if_pos (by omega), on t hk, zero_add]
      · rw [if_pos (by omega), if_pos (by omega), if_neg (by omega), zero_add])
    t ht r
  dsimp only at key
  rw [if_neg (by omega), zero_add] at key
  rw [key, ← sum_tiles]
  refine Finset.sum_congr rfl fun s _ => ?_
  have hp : pair ⟨8 * (t.val / 8) + s.val, by omega⟩ = pair t := Fin.ext (by simp only [pair]; omega)
  have hk : (8 * (t.val / 8) + s.val) / 8 % 8 = t.val / 8 % 8 := by omega
  have hq : (8 * (t.val / 8) + s.val) % 8 = s.val := by omega
  by_cases hs : t.val / 8 % 8 ≤ s.val
  · rw [if_pos (by omega), hT _ (by simp only; omega), hp]
    simp only [hk, hq]
  · rw [if_neg (by omega)]
    refine (Finset.sum_eq_zero fun x _ => hF _ _ _ ?_).symm
    show 512 * s.val + x.val < 512 * (t.val / 8 % 8) + r.val
    omega

/-- A sum over the keys, kept for all the rows while the pair stays. -/
theorem run_q (f : (n : ℕ) → n < 256 → Fin 4096 → EReal) (T : Fin 256 → Fin 4096 → EReal)
    (first : ∀ t : Fin 256, t.val % 64 = 0 → ∀ R, f t.val t.isLt R = if R.val / 512 = t.val % 8 then T t R else 0)
    (on : ∀ t : Fin 256, t.val / 8 % 8 = t.val % 8 → ¬t.val % 64 = 0 → ∀ R, f t.val t.isLt R = f (t.val - 1) (by omega) R + if R.val / 512 = t.val % 8 then T t R else 0)
    (off : ∀ t : Fin 256, t.val / 8 % 8 < t.val % 8 → ∀ R, f t.val t.isLt R = f (t.val - 1) (by omega) R + if R.val / 512 = t.val % 8 then T t R else 0)
    (skip : ∀ t : Fin 256, t.val % 8 < t.val / 8 % 8 → ∀ R, f t.val t.isLt R = f (t.val - 1) (by omega) R)
    (F : Fin 4 → Fin 4096 → Fin 4096 → EReal)
    (hT : ∀ t : Fin 256, t.val / 8 % 8 ≤ t.val % 8 → ∀ R, R.val / 512 = t.val % 8 → T t R = ∑ x, F (pair t) R (pos (t.val / 8 % 8) (by omega) x))
    (hF : ∀ p i j, i < j → F p i j = 0) (t : Fin 256) (ht : t.val % 64 = 63) (R : Fin 4096) :
    f t.val t.isLt R = ∑ j, F (pair t) R j := by
  have key := Pipeline.eq_sum_fin_of_reset_step_apply_of_flush (N := 256) (M := EReal) f 64 (fun _ => 0)
    (fun t R => if t.val / 8 % 8 ≤ t.val % 8 then (if R.val / 512 = t.val % 8 then T t R else 0) else 0)
    (fun t h R => by
      have hk : t.val / 8 % 8 ≤ t.val % 8 := by omega
      rw [first t h, zero_add, if_pos hk])
    (fun t h R => by
      rcases Nat.lt_trichotomy (t.val / 8 % 8) (t.val % 8) with hk | hk | hk
      · rw [if_pos (by omega), off t hk]
      · rw [if_pos (by omega), on t hk h]
      · rw [if_neg (by omega), skip t hk, add_zero])
    t ht R
  dsimp only at key
  rw [zero_add] at key
  rw [key, ← sum_tiles]
  refine (Fin.sum_divmod_congr (N := 64) (A := 8) (S := 8)
    (f := fun a b => if R.val / 512 = b.val then ∑ x, F (pair t) R (pos a.val a.isLt x) else 0) fun s ha hb => ?_).trans ?_
  · have hp : pair ⟨64 * (t.val / 64) + s.val, by omega⟩ = pair t := Fin.ext (by simp only [pair]; omega)
    have hk : (64 * (t.val / 64) + s.val) / 8 % 8 = s.val / 8 := by omega
    have hq : (64 * (t.val / 64) + s.val) % 8 = s.val % 8 := by omega
    dsimp only
    by_cases hR : R.val / 512 = s.val % 8
    · rw [if_pos hR]
      by_cases hs : s.val / 8 ≤ s.val % 8
      · rw [if_pos (by omega), if_pos (by omega), hT _ (by simp only; omega) _ (by simp only; omega), hp]
        simp only [hk]
      · rw [if_neg (by omega)]
        refine (Finset.sum_eq_zero fun x _ => hF _ _ _ ?_).symm
        show R.val < 512 * (s.val / 8) + x.val
        omega
    · rw [if_neg hR, if_neg (by omega : ¬R.val / 512 = (64 * (t.val / 64) + s.val) % 8)]
      exact ite_self _
  · refine Finset.sum_congr rfl fun a _ => ?_
    rw [Finset.sum_eq_single (⟨R.val / 512, by omega⟩ : Fin 8) (fun b _ hb => if_neg fun h => hb (Fin.ext h.symm)) (fun h => absurd (Finset.mem_univ _) h)]
    exact if_pos rfl

/-- A sum over the lanes of one of the two heads of a pair. -/
theorem sum_head (a b : Fin 128 → EReal) (h : Fin 2) :
    ∑ l : Fin 128, (if l.val / 64 = h.val then a l else 0) * b l = ∑ x : Fin 64, a ⟨64 * h.val + x.val, by omega⟩ * b ⟨64 * h.val + x.val, by omega⟩ := by
  refine ((Fin.sum_mul_add_congr (L := 128) (S := 2) (n := 64)
    (F := fun s k => if s.val = h.val then a ⟨64 * h.val + k.val, by omega⟩ * b ⟨64 * h.val + k.val, by omega⟩ else 0) fun s k hl => ?_).symm).trans ?_
  · have e : (s.val * 64 + k.val) / 64 = s.val := by omega
    by_cases hs : s.val = h.val
    · simp only [e, hs, if_true]
      simp only [Nat.mul_comm 64]
      rw [if_pos (by omega)]
    · rw [if_neg hs]
      refine Eq.symm ?_
      rw [if_neg (by simp only; omega), zero_mul]
  · rw [Finset.sum_eq_single h (fun s _ hs => Finset.sum_eq_zero fun k _ => if_neg fun e => hs (Fin.ext e)) (fun h => absurd (Finset.mem_univ _) h)]
    exact Finset.sum_congr rfl fun k _ => if_pos rfl

end Cert.Causal
-- ==== Proof.Fox.Sums.lean ====
/- The FoX attention's backward call: what its five results hold, as sums over all positions. -/
module

public import proofs.«01_k».proof.Proof.Fox.Blocks
public import proofs.«01_k».proof.Proof.Causal

@[expose] public section

set_option maxRecDepth 16384

noncomputable section

open Idealize.ShloMosaic Idealize.ShloMosaic.TcCoe Idealize.SL.Sem

namespace Cert.FoxKernelIdeal.Value

open Cert.FoxKernelIdeal Cert.FoxKernelIdeal.Gen Cert.Causal Cert.Lanes

variable (m : (ℓ : Loc nD τ sig) → Buf (Elt Ideal) ℓ) (c : Dev nD)

/-- The weight of two positions, and its share of the scores' gradient. -/
def gP (h : Fin 8) (i j : Fin 4096) : EReal :=
  Ideal.exp ((if j.val ≤ i.val then fS m c h i j - fC m c j h else ⊥) - fE m c h i)
def gX (h : Fin 8) (i j : Fin 4096) : EReal :=
  ∑ x : Fin 64, fD m c i ⟨512 + (h.val * 64 + x.val), by omega⟩ * fH m c j ⟨1440 + (h.val * 64 + x.val), by omega⟩
def gY (h : Fin 8) (i : Fin 4096) : EReal :=
  ∑ x : Fin 64, fD m c i ⟨512 + (h.val * 64 + x.val), by omega⟩ * fO m c i ⟨h.val * 64 + x.val, by omega⟩
def gW (h : Fin 8) (i j : Fin 4096) : EReal := gP m c h i j * (gX m c h i j - gY m c h i) * c8

theorem gP_masked (h : Fin 8) (i j : Fin 4096) (hij : i < j) : gP m c h i j = 0 := by
  unfold gP
  rw [if_neg (by omega : ¬j.val ≤ i.val), sub_eq_add_neg, EReal.bot_add, Ideal.exp_bot]
theorem gW_masked (h : Fin 8) (i j : Fin 4096) (hij : i < j) : gW m c h i j = 0 := by
  unfold gW
  rw [gP_masked m c h i j hij, zero_mul, zero_mul]

/-- A head of a pair. -/
def hp (p : Fin 4) (h : Fin 2) : Fin 8 := ⟨2 * p.val + h.val, by omega⟩

theorem col_head (t : Fin cfg0.N) (h : Fin 2) (x : Fin 64) (hx : 64 * h.val + x.val < 128) :
    (col t ⟨64 * h.val + x.val, hx⟩).val = (hpos t h).val * 64 + x.val := by
  show 128 * (t.val / 64) + (64 * h.val + x.val) = (2 * (t.val / 64) + h.val) * 64 + x.val
  omega

variable (t : Fin cfg0.N) (hle : t.val / 8 % 8 ≤ t.val % 8)
include hle

theorem scores_eq (h : Fin 2) (r j : Fin 512) : bS h r j (iblk m c 0 t) (iblk m c 1 t) * c8 = fS m c (hpos t h) (qpos t r) (kpos t j) := by
  unfold bS fS
  rw [sum_head]
  refine congrArg (· * c8) (Finset.sum_congr rfl fun x _ => congrArg₂ (fun a b : EReal => a * b) ((blk0 m c t hle r _).trans ?_) ((blk1 m c t j _).trans ?_))
  · exact congrArg _ (Fin.ext (congrArg (416 + ·) (col_head t h x _)))
  · exact congrArg _ (Fin.ext (congrArg (928 + ·) (col_head t h x _)))
theorem values_eq (h : Fin 2) (r j : Fin 512) : bS h r j (iblk m c 4 t) (iblk m c 2 t) = gX m c (hpos t h) (qpos t r) (kpos t j) := by
  unfold bS gX
  rw [sum_head]
  refine Finset.sum_congr rfl fun x _ => congrArg₂ (fun a b : EReal => a * b) ((blk4 m c t hle r _).trans ?_) ((blk2 m c t j _).trans ?_)
  · exact congrArg _ (Fin.ext (congrArg (512 + ·) (col_head t h x _)))
  · exact congrArg _ (Fin.ext (congrArg (1440 + ·) (col_head t h x _)))
theorem delta_blk (h : Fin 2) (r : Fin 512) :
    (∑ l : Fin 128, (if l.val / 64 = h.val then (show EReal from iblk m c 4 t (ix2 r l)) else (0 : EReal)) * (show EReal from iblk m c 3 t (ix2 r l))) = gY m c (hpos t h) (qpos t r) := by
  unfold gY
  rw [sum_head]
  refine Finset.sum_congr rfl fun x _ => congrArg₂ (fun a b : EReal => a * b) ((blk4 m c t hle r _).trans ?_) ((blk3 m c t hle r _).trans ?_)
  · exact congrArg _ (Fin.ext (congrArg (512 + ·) (col_head t h x _)))
  · exact congrArg _ (Fin.ext (col_head t h x _))

theorem wP_eq (h : Fin 2) (r j : Fin 512) (dg : Bool) (hdg : dg = decide (t.val / 8 % 8 = t.val % 8)) :
    wP m c dg t h r j = gP m c (hpos t h) (qpos t r) (kpos t j) := by
  unfold wP bP gP
  rw [scores_eq m c t hle, Cert.Attn.neg_inf]
  refine congrArg Ideal.exp (congrArg₂ (fun a b : EReal => a - b) ?_ (blk5 m c t hle h r))
  have hc : (dg = true → j.val ≤ r.val) ↔ (kpos t j).val ≤ (qpos t r).val := by
    subst hdg
    simp only [decide_eq_true_eq, kpos, qpos]
    omega
  by_cases hk : dg = true → j.val ≤ r.val
  · rw [if_pos hk, if_pos (hc.mp hk)]
    exact congrArg (fun b : EReal => fS m c (hpos t h) (qpos t r) (kpos t j) - b) (blk6 m c t h j)
  · rw [if_neg hk, if_neg (mt hc.mpr hk)]
theorem wW_eq (h : Fin 2) (r j : Fin 512) (dg : Bool) (hdg : dg = decide (t.val / 8 % 8 = t.val % 8)) :
    wW m c dg t h r j = gW m c (hpos t h) (qpos t r) (kpos t j) := by
  have hP := wP_eq m c t hle h r j dg hdg
  unfold wP at hP
  unfold wW bW gW
  rw [hP, values_eq m c t hle]
  exact congrArg (fun b : EReal => _ * (_ - b) * c8) (delta_blk m c t hle h r)

omit hle

theorem qpos_mod (R : Fin 4096) (hR : R.val / 512 = t.val % 8) : qpos t ⟨R.val % 512, Nat.mod_lt _ (by decide)⟩ = R :=
  Fin.ext (by simp only [qpos]; omega)

theorem sum_q (ht : t.val % 64 = 63) (R : Fin 4096) (l : Fin 128) :
    aq m c t.val t.isLt R l = ∑ j, gW m c (hpos t (hd l)) R j * fH m c j ⟨928 + (col t l).val, by omega⟩ := by
  refine run_q (fun n hn R => aq m c n hn R l) (fun t R => ∑ x : Fin 512, wW m c (decide (t.val / 8 % 8 = t.val % 8)) t (hd l) ⟨R.val % 512, Nat.mod_lt _ (by decide)⟩ x * iblk m c 1 t (ix2 x l))
    (fun t h R => ?_) (fun t h h0 R => ?_) (fun t h R => ?_) (fun t h R => congrFun₂ (skip m c t h).1 R l)
    (fun p R j => gW m c (hp p (hd l)) R j * fH m c j ⟨928 + (128 * p.val + l.val), by omega⟩) (fun t h R hR => ?_) (fun p i j hij => ?_) t ht R
  · rw [decide_eq_true (by omega : t.val / 8 % 8 = t.val % 8)]
    exact aq_first m c t (by omega) h R l
  · rw [decide_eq_true h]
    exact aq_on m c t h h0 R l
  · rw [decide_eq_false (by omega : ¬t.val / 8 % 8 = t.val % 8)]
    exact aq_off m c t h R l
  · refine Finset.sum_congr rfl fun x _ => congrArg₂ (fun a b : EReal => a * b) ((wW_eq m c t h (hd l) _ x _ rfl).trans ?_) (blk1 m c t x l)
    rw [qpos_mod t R hR]
    rfl
  · rw [gW_masked m c _ i j hij, zero_mul]

theorem sum_r (ht : t.val % 64 = 63) (R : Fin 4096) (l : Fin 128) :
    ar m c t.val t.isLt R l = ∑ j, gW m c (hpos t (hd' l)) R j := by
  refine run_q (fun n hn R => ar m c n hn R l) (fun t R => ∑ x : Fin 512, wW m c (decide (t.val / 8 % 8 = t.val % 8)) t (hd' l) ⟨R.val % 512, Nat.mod_lt _ (by decide)⟩ x)
    (fun t h R => ?_) (fun t h h0 R => ?_) (fun t h R => ?_) (fun t h R => congrFun₂ (skip m c t h).2 R l)
    (fun p R j => gW m c (hp p (hd' l)) R j) (fun t h R hR => ?_) (fun p i j hij => gW_masked m c _ i j hij) t ht R
  · rw [decide_eq_true (by omega : t.val / 8 % 8 = t.val % 8)]
    exact ar_first m c t (by omega) h R l
  · rw [decide_eq_true h]
    exact ar_on m c t h h0 R l
  · rw [decide_eq_false (by omega : ¬t.val / 8 % 8 = t.val % 8)]
    exact ar_off m c t h R l
  · refine Finset.sum_congr rfl fun x _ => (wW_eq m c t h (hd' l) _ x _ rfl).trans ?_
    rw [qpos_mod t R hR]
    rfl

theorem sum_k (ht : t.val % 8 = 7) (r : Fin 512) (l : Fin 128) :
    ak m c t.val t.isLt r l = ∑ i, gW m c (hpos t (hd l)) i (kpos t r) * fH m c i ⟨416 + (col t l).val, by omega⟩ := by
  refine run_k (fun n hn r => ak m c n hn r l) (fun t r => ∑ x : Fin 512, wW m c (decide (t.val / 8 % 8 = t.val % 8)) t (hd l) x r * iblk m c 0 t (ix2 x l))
    (fun t h r => ?_) (fun t h r => ?_)
    (fun p j i => gW m c (hp p (hd l)) i j * fH m c i ⟨416 + (128 * p.val + l.val), by omega⟩) (fun t h r => ?_) (fun p j i hij => ?_) t ht r
  · rw [decide_eq_true h]
    exact ak_on m c t h r l
  · rw [decide_eq_false (by omega : ¬t.val / 8 % 8 = t.val % 8)]
    exact ak_off m c t h r l
  · exact Finset.sum_congr rfl fun x _ => congrArg₂ (fun a b : EReal => a * b) (wW_eq m c t h (hd l) x r _ rfl) (blk0 m c t h x l)
  · rw [gW_masked m c _ i j hij, zero_mul]

theorem sum_v (ht : t.val % 8 = 7) (r : Fin 512) (l : Fin 128) :
    av m c t.val t.isLt r l = ∑ i, gP m c (hpos t (hd l)) i (kpos t r) * fD m c i ⟨512 + (col t l).val, by omega⟩ := by
  refine run_k (fun n hn r => av m c n hn r l) (fun t r => ∑ x : Fin 512, wP m c (decide (t.val / 8 % 8 = t.val % 8)) t (hd l) x r * iblk m c 4 t (ix2 x l))
    (fun t h r => ?_) (fun t h r => ?_)
    (fun p j i => gP m c (hp p (hd l)) i j * fD m c i ⟨512 + (128 * p.val + l.val), by omega⟩) (fun t h r => ?_) (fun p j i hij => ?_) t ht r
  · rw [decide_eq_true h]
    exact av_on m c t h r l
  · rw [decide_eq_false (by omega : ¬t.val / 8 % 8 = t.val % 8)]
    exact av_off m c t h r l
  · exact Finset.sum_congr rfl fun x _ => congrArg₂ (fun a b : EReal => a * b) (wP_eq m c t h (hd l) x r _ rfl) (blk4 m c t h x l)
  · rw [gP_masked m c _ i j hij, zero_mul]

theorem sum_c (hneg : ∀ (f : Fin 512 → Fin 4096) (h : Fin 8) (j : Fin 4096), -((∑ x, gW m c h (f x) j) * c8') = ∑ x, -(gW m c h (f x) j * c8'))
    (ht : t.val % 8 = 7) (h : Fin 2) (j : Fin 512) :
    ac m c t.val t.isLt h j = ∑ i, -(gW m c (hpos t h) i (kpos t j) * c8') := by
  refine run_k (fun n hn j => ac m c n hn h j) (fun t j => -((∑ x : Fin 512, wW m c (decide (t.val / 8 % 8 = t.val % 8)) t h x j) * c8'))
    (fun t h' r => ?_) (fun t h' r => ?_)
    (fun p j i => -(gW m c (hp p h) i j * c8')) (fun t h' r => ?_) (fun p j i hij => ?_) t ht j
  · rw [decide_eq_true h']
    exact (ac_on m c t h' h r).trans ((sub_eq_add_neg _ _).trans (zero_add _))
  · rw [decide_eq_false (by omega : ¬t.val / 8 % 8 = t.val % 8)]
    exact (ac_off m c t h' h r).trans (sub_eq_add_neg _ _)
  · refine Eq.trans ?_ (hneg (fun x => qpos t x) (hpos t h) (kpos t r))
    exact congrArg (fun s : EReal => -(s * c8')) (Finset.sum_congr rfl fun x _ => wW_eq m c t h' h x r _ rfl)
  · rw [gW_masked m c _ i j hij, zero_mul, neg_zero]

end Cert.FoxKernelIdeal.Value
-- ==== Proof.Fox.Final.lean ====
/- The FoX attention's backward call: its results' arrays. -/
module

public import proofs.«01_k».proof.Proof.Fox.Sums

@[expose] public section

set_option maxRecDepth 16384

noncomputable section

open Idealize.ShloMosaic Idealize.ShloMosaic.TcCoe Idealize.SL.Sem

namespace Cert.FoxKernelIdeal.Value

open Cert.FoxKernelIdeal Cert.FoxKernelIdeal.Gen Cert.Causal Cert.Lanes

variable (m : (ℓ : Loc nD τ sig) → Buf (Elt Ideal) ℓ) (c : Dev nD)

/-- The head of a column. -/
def hcol (l : Fin 512) : Fin 8 := ⟨l.val / 64, by omega⟩

def DQ : FVec Ideal S4096x512 .bf16 := fun i => ∑ j, gW m c (hcol (i 1)) (i 0) j * fH m c j ⟨928 + (i 1).val, by have := (i 1).isLt; change _ < 512 at this; omega⟩

theorem put7 (X : FVec Ideal S4096x512 .bf16) (t : Fin cfg0.N) (R : Fin 4096) (l : Fin 128) :
    (show EReal from ((cfg0.win 7).blk t).view.read (Elt Ideal) X (ix2 R l)) = X (ix2 R (col t l)) := by
  have idx : ∀ t : Fin cfg0.N, win0_7.index t = ![0, t.val / 64] := by decide +kernel
  unfold col
  blk_point [idx t]

theorem final_q : (dats m 0 c).arrAt 7 (cfgs 0).N = DQ m c := by
  refine (dats m 0 c).arrAt_eq_of_covers 7 _ (by decide +kernel) fun t hf y => ?_
  have ht := (flush0_7 t).mp hf
  obtain ⟨R, l, rfl⟩ : ∃ (R : Fin 4096) (l : Fin 128), y = ix2 R l := ⟨y 0, y 1, eq_ix2 y⟩
  rw [after0_7]
  refine (out_q m c t ht R l).trans ((sum_q m c t ht R l).trans (Eq.trans ?_ (put7 (DQ m c) t R l).symm))
  unfold DQ
  have e : hpos t (hd l) = hcol (col t l) := Fin.ext (by simp only [hpos, hd, hcol, col]; omega)
  simp only [e]
  rfl

def DK : FVec Ideal S4096x512 .bf16 := fun i => ∑ k, gW m c (hcol (i 1)) k (i 0) * fH m c k ⟨416 + (i 1).val, by have := (i 1).isLt; change _ < 512 at this; omega⟩
def DV : FVec Ideal S4096x512 .bf16 := fun i => ∑ k, gP m c (hcol (i 1)) k (i 0) * fD m c k ⟨512 + (i 1).val, by have := (i 1).isLt; change _ < 512 at this; omega⟩
def DC : FVec Ideal S8x1x4096 .f32 := fun i => ∑ k, -(gW m c (i 0) k (i 2) * c8')
/-- The row sums of the scores' gradient: the lanes of a head hold the other head's of its pair. -/
def hswap (l : Fin 512) : Fin 8 := ⟨2 * (l.val / 128) + (1 - l.val % 128 / 64), by omega⟩
def DR : FVec Ideal S4096x512 .f32 := fun i => (∑ j, gW m c (hswap (i 1)) (i 0) j) * c8'

theorem put8 (X : FVec Ideal S4096x512 .bf16) (t : Fin cfg0.N) (r : Fin 512) (l : Fin 128) :
    (show EReal from ((cfg0.win 8).blk t).view.read (Elt Ideal) X (ix2 r l)) = X (ix2 (kpos t r) (col t l)) := by
  have idx : ∀ t : Fin cfg0.N, win0_8.index t = ![t.val / 8 % 8, t.val / 64] := by decide +kernel
  unfold kpos col
  blk_point [idx t]
theorem put9 (X : FVec Ideal S4096x512 .bf16) (t : Fin cfg0.N) (r : Fin 512) (l : Fin 128) :
    (show EReal from ((cfg0.win 9).blk t).view.read (Elt Ideal) X (ix2 r l)) = X (ix2 (kpos t r) (col t l)) := by
  have idx : ∀ t : Fin cfg0.N, win0_9.index t = ![t.val / 8 % 8, t.val / 64] := by decide +kernel
  unfold kpos col
  blk_point [idx t]
theorem put10 (X : FVec Ideal S8x1x4096 .f32) (t : Fin cfg0.N) (h : Fin 2) (r : Fin 512) :
    (show EReal from ((cfg0.win 10).blk t).view.read (Elt Ideal) X (ix3 h 0 r)) = X (ix3 (hpos t h) 0 (kpos t r)) := by
  have idx : ∀ t : Fin cfg0.N, win0_10.index t = ![t.val / 64, 0, t.val / 8 % 8] := by decide +kernel
  unfold kpos hpos
  blk_point [idx t]
theorem put11 (X : FVec Ideal S4096x512 .f32) (t : Fin cfg0.N) (R : Fin 4096) (l : Fin 128) :
    (show EReal from ((cfg0.win 11).blk t).view.read (Elt Ideal) X (ix2 R l)) = X (ix2 R (col t l)) := by
  have idx : ∀ t : Fin cfg0.N, win0_11.index t = ![0, t.val / 64] := by decide +kernel
  unfold col
  blk_point [idx t]

theorem final_k : (dats m 0 c).arrAt 8 (cfgs 0).N = DK m c := by
  refine (dats m 0 c).arrAt_eq_of_covers 8 _ (by decide +kernel) fun t hf y => ?_
  have ht := (flush0_8 t).mp hf
  obtain ⟨R, l, rfl⟩ : ∃ (R : Fin 512) (l : Fin 128), y = ix2 R l := ⟨y 0, y 1, eq_ix2 y⟩
  rw [after0_8]
  refine (out_k m c t ht R l).trans ((sum_k m c t ht R l).trans (Eq.trans ?_ (put8 (DK m c) t R l).symm))
  unfold DK
  have e : hpos t (hd l) = hcol (col t l) := Fin.ext (by simp only [hpos, hd, hcol, col]; omega)
  simp only [e]
  rfl
theorem final_v : (dats m 0 c).arrAt 9 (cfgs 0).N = DV m c := by
  refine (dats m 0 c).arrAt_eq_of_covers 9 _ (by decide +kernel) fun t hf y => ?_
  have ht := (flush0_9 t).mp hf
  obtain ⟨R, l, rfl⟩ : ∃ (R : Fin 512) (l : Fin 128), y = ix2 R l := ⟨y 0, y 1, eq_ix2 y⟩
  rw [after0_9]
  refine (out_v m c t ht R l).trans ((sum_v m c t ht R l).trans (Eq.trans ?_ (put9 (DV m c) t R l).symm))
  unfold DV
  have e : hpos t (hd l) = hcol (col t l) := Fin.ext (by simp only [hpos, hd, hcol, col]; omega)
  simp only [e]
  rfl
theorem final_c (hneg : ∀ (f : Fin 512 → Fin 4096) (h : Fin 8) (j : Fin 4096), -((∑ x, gW m c h (f x) j) * c8') = ∑ x, -(gW m c h (f x) j * c8')) :
    (dats m 0 c).arrAt 10 (cfgs 0).N = DC m c := by
  refine (dats m 0 c).arrAt_eq_of_covers 10 _ (by decide +kernel) fun t hf y => ?_
  have ht := (flush0_10 t).mp hf
  obtain ⟨h, z, j, rfl⟩ : ∃ (h : Fin 2) (z : Fin 1) (j : Fin 512), y = ix3 h z j := ⟨y 0, y 1, y 2, eq_ix3 y⟩
  obtain rfl : z = 0 := Subsingleton.elim _ _
  rw [after0_10]
  exact (out_c m c t ht h j).trans ((sum_c m c t hneg ht h j).trans (Eq.trans rfl (put10 (DC m c) t h j).symm))
theorem final_r : (dats m 0 c).arrAt 11 (cfgs 0).N = DR m c := by
  refine (dats m 0 c).arrAt_eq_of_covers 11 _ (by decide +kernel) fun t hf y => ?_
  have ht := (flush0_11 t).mp hf
  obtain ⟨R, l, rfl⟩ : ∃ (R : Fin 4096) (l : Fin 128), y = ix2 R l := ⟨y 0, y 1, eq_ix2 y⟩
  rw [after0_11]
  refine (out_r m c t ht R l).trans ((congrArg (fun s : EReal => s * c8') (sum_r m c t ht R l)).trans (Eq.trans ?_ (put11 (DR m c) t R l).symm))
  unfold DR
  have e : hpos t (hd' l) = hswap (col t l) := Fin.ext (by simp only [hpos, hd', hswap, col]; omega)
  simp only [e]
  rfl

/-- The decay sums' gradient: what the host computes of the last two arrays. -/
theorem tail_c (A : FVec Ideal S8x1x4096 .f32) (B : FVec Ideal S4096x512 .f32) (i : Fin 4096) (h : Fin 8) :
    addf (transpose S4096x8 [1, 0] (shapeCast S8x4096 A shapeCasts_S8x1x4096_S8x4096) transposes_S8x4096_S4096x8_1_0)
      (shapeCast S4096x8 (shapeCast S4096x4x2 (Host.reverse [2] (extractStridedSlice S4096x4x2x1 ![0, 0, 0, 0]
        (shapeCast S4096x4x2x64 B shapeCasts_S4096x512_S4096x4x2x64) slices_S4096x4x2x64_S4096x4x2x1_0_0_0_0))
        shapeCasts_S4096x4x2x1_S4096x4x2) shapeCasts_S4096x4x2_S4096x8) (ix2 i h)
      = A (ix3 h 0 i) + B (ix2 i ⟨128 * (h.val / 2) + 64 * (1 - h.val % 2), by omega⟩) := by
  pointwise
  refine congrArg₂ (fun (R : Fin 4096) (k : Fin 512) => A (ix3 h 0 i) + B (ix2 R k)) (if_neg (by decide)) (Fin.ext ?_)
  show h.val / 2 * 128 + (2 - (h.val % 2 + 1)) * 64 = 128 * (h.val / 2) + 64 * (1 - h.val % 2)
  omega

end Cert.FoxKernelIdeal.Value
-- ==== Proof.Fox.Real.lean ====
/- The FoX attention's backward call: the weights and the scores' gradient when the arguments are real numbers. -/
module

public import proofs.«01_k».proof.Proof.Fox.Final

@[expose] public section

set_option maxRecDepth 16384

noncomputable section

open Idealize.ShloMosaic Idealize.ShloMosaic.TcCoe Idealize.SL.Sem

namespace Cert.Fox

open Cert.Attn

variable (A : Fin 4096 → Fin 1536 → ℝ) (C : Fin 4096 → Fin 8 → ℝ) (G : Fin 4096 → Fin 512 → ℝ)

/-- A head's column, a column's place in its head; where the queries' columns begin the features kept, the three parts of these, and the half of the output's gradient that is read. -/
def hl (h : Fin 8) (x : Fin 64) : Fin 512 := ⟨h.val * 64 + x.val, by omega⟩
def lx (l : Fin 512) : Fin 64 := ⟨l.val % 64, by omega⟩
def qpart (l : Fin 512) : Fin 1536 := ⟨l.val, by omega⟩
def acol (k : Fin 1536) : Fin 2984 := ⟨416 + k.val, by omega⟩
def qcol (l : Fin 512) : Fin 2984 := ⟨416 + l.val, by omega⟩
def kcol (l : Fin 512) : Fin 2984 := ⟨928 + l.val, by omega⟩
def vcol (l : Fin 512) : Fin 2984 := ⟨1440 + l.val, by omega⟩
def dcol (l : Fin 512) : Fin 1024 := ⟨512 + l.val, by omega⟩
def kpart (l : Fin 512) : Fin 1536 := ⟨512 + l.val, by omega⟩
def vpart (l : Fin 512) : Fin 1536 := ⟨1024 + l.val, by omega⟩
theorem acol_k (l : Fin 512) : acol (kpart l) = kcol l := Fin.ext (by simp only [acol, kpart, kcol]; omega)
theorem acol_v (l : Fin 512) : acol (vpart l) = vcol l := Fin.ext (by simp only [acol, vpart, vcol]; omega)

/-- Scores, logits and the weights' gradient over the reals. -/
def sR (h : Fin 8) (i j : Fin 4096) : ℝ := (∑ x : Fin 64, A i (qpart (hl h x)) * A j (kpart (hl h x))) * (1 / 8)
def xR (h : Fin 8) (i j : Fin 4096) : ℝ := sR A h i j + C i h - C j h
def dR (h : Fin 8) (i j : Fin 4096) : ℝ := ∑ x : Fin 64, G i (hl h x) * A j (vpart (hl h x))

end Cert.Fox

namespace Cert.FoxKernelIdeal.Value

open Cert.FoxKernelIdeal Cert.FoxKernelIdeal.Gen Cert.Attn Cert.Fox

variable (m : (ℓ : Loc nD τ sig) → Buf (Elt Ideal) ℓ) (c : Dev nD)

theorem c8_eq : c8 = ((1 / 8 : ℝ) : EReal) := by
  unfold c8
  simp [Ideal.ofBits, Ideal.ieee, -EReal.coe_mul]; norm_num
theorem c8'_eq : c8' = ((8 : ℝ) : EReal) := by
  unfold c8'
  simp [Ideal.ofBits, Ideal.ieee, -EReal.coe_mul]; norm_num

variable (A : Fin 4096 → Fin 1536 → ℝ) (C : Fin 4096 → Fin 8 → ℝ) (G : Fin 4096 → Fin 512 → ℝ)
  (hA : ∀ i k, fH m c i (acol k) = (A i k : EReal)) (hC : ∀ i h, fC m c i h = (C i h : EReal))
  (hG : ∀ i l, fD m c i (dcol l) = (G i l : EReal))

theorem coe_dot {d : ℕ} (f g : Fin d → EReal) (a b : Fin d → ℝ) (hf : ∀ x, f x = a x) (hg : ∀ x, g x = b x) :
    ∑ x, f x * g x = ((∑ x, a x * b x : ℝ) : EReal) := by
  rw [← coe_sum]
  exact Finset.sum_congr rfl fun x _ => by rw [hf, hg, EReal.coe_mul]

include hA in
theorem key_real (i : Fin 4096) (k : Fin 512) : fH m c i (kcol k) = (A i (kpart k) : EReal) := by rw [← acol_k]; exact hA i _
include hA in
theorem value_real (i : Fin 4096) (k : Fin 512) : fH m c i (vcol k) = (A i (vpart k) : EReal) := by rw [← acol_v]; exact hA i _

include hA in
theorem fS_real (h : Fin 8) (i j : Fin 4096) : fS m c h i j = (sR A h i j : EReal) := by
  unfold fS sR
  refine (congrArg₂ (· * ·) (coe_dot _ _ _ _ (fun x => hA i (qpart (hl h x))) (fun x => key_real m c A hA j (hl h x))) c8_eq).trans ?_
  rw [← EReal.coe_mul]
include hA hC in
theorem fL_real (h : Fin 8) (i j : Fin 4096) : fL m c h i j = logit (xR A C h i) i j := by
  unfold fL logit xR
  refine if_congr Iff.rfl ?_ rfl
  rw [fS_real m c A hA, hC, hC, ← EReal.coe_add, ← EReal.coe_sub]
include hA hC in
theorem fL'_real (h : Fin 8) (i j : Fin 4096) : fL' m c h i j = logit (fun j => sR A h i j - C j h) i j := by
  unfold fL' logit
  rw [fS_real m c A hA, hC]
  by_cases hj : j ≤ i
  · rw [if_pos (by exact hj), if_pos hj, ← EReal.coe_sub]
  · rw [if_neg (by exact hj), if_neg hj, EReal.bot_sub]
include hA hC in
theorem fO_real (i : Fin 4096) (l : Fin 512) :
    fO m c i l = ((∑ x, soft (xR A C (hcol l) i) i x * A x (vpart l) : ℝ) : EReal) := by
  unfold fO
  exact coe_dot _ _ _ _ (fun x => row_soft _ i x _ (fL_real m c A C hA hC (hcol l) i) _ rfl) (fun x => value_real m c A hA x l)
include hA hC in
theorem fE_real (h : Fin 8) (i : Fin 4096) : fE m c h i = ((Real.log (tot (fun j => sR A h i j - C j h) i) : ℝ) : EReal) := by
  unfold fE
  exact row_lse _ i _ (fL'_real m c A C hA hC h i) _ rfl
include hA hC in
theorem gP_real (h : Fin 8) (i j : Fin 4096) : gP m c h i j = ((soft (xR A C h i) i j : ℝ) : EReal) := by
  unfold gP
  rw [fE_real m c A C hA hC]
  have e : (if j.val ≤ i.val then fS m c h i j - fC m c j h else ⊥) = logit (fun j => sR A h i j - C j h) i j := by
    unfold logit
    refine if_congr Iff.rfl ?_ rfl
    rw [fS_real m c A hA, hC, ← EReal.coe_sub]
  have e' : (fun j => xR A C h i j - C i h) = fun j => sR A h i j - C j h := funext fun j => by unfold xR; ring
  rw [e, soft_of_lse, ← soft_shift (xR A C h i) (C i h), e']
include hA hG in
theorem gX_real (h : Fin 8) (i j : Fin 4096) : gX m c h i j = ((dR A G h i j : ℝ) : EReal) := by
  unfold gX dR
  exact coe_dot _ _ _ _ (fun x => hG i (hl h x)) (fun x => value_real m c A hA j (hl h x))
include hA hC hG in
theorem gY_real (h : Fin 8) (i : Fin 4096) : gY m c h i = ((∑ k, soft (xR A C h i) i k * dR A G h i k : ℝ) : EReal) := by
  unfold gY dR
  rw [← delta_eq]
  refine coe_dot _ _ _ _ (fun x => hG i (hl h x)) (fun x => (fO_real m c A C hA hC i (hl h x)).trans ?_)
  have e : hcol (hl h x) = h := Fin.ext (by show (h.val * 64 + x.val) / 64 = h.val; omega)
  rw [e]
include hA hC hG in
theorem gW_real (h : Fin 8) (i j : Fin 4096) : gW m c h i j = ((dsoft (xR A C h i) (dR A G h i) i j : ℝ) : EReal) * c8 := by
  unfold gW dsoft
  rw [gP_real m c A C hA hC, gX_real m c A G hA hG, gY_real m c A C G hA hC hG, ← EReal.coe_sub, ← EReal.coe_mul]

include hA hC hG in
theorem gW_c8' (h : Fin 8) (i j : Fin 4096) : gW m c h i j * c8' = ((dsoft (xR A C h i) (dR A G h i) i j : ℝ) : EReal) := by
  rw [gW_real m c A C G hA hC hG, c8_eq, c8'_eq, ← EReal.coe_mul, ← EReal.coe_mul]
  congr 1; ring
include hA hC hG in
theorem sum_c8' {ι : Type} [Fintype ι] (p : ι → Fin 4096 × Fin 4096) (h : Fin 8) :
    (∑ x, gW m c h (p x).1 (p x).2) * c8' = ((∑ x, dsoft (xR A C h (p x).1) (dR A G h (p x).1) (p x).1 (p x).2 : ℝ) : EReal) := by
  simp only [gW_real m c A C G hA hC hG, c8_eq, c8'_eq, ← EReal.coe_mul, coe_sum]
  rw [← Finset.sum_mul]
  congr 1; ring
include hA hC hG in
theorem hneg (f : Fin 512 → Fin 4096) (h : Fin 8) (j : Fin 4096) : -((∑ x, gW m c h (f x) j) * c8') = ∑ x, -(gW m c h (f x) j * c8') := by
  rw [sum_c8' m c A C G hA hC hG (fun x => (f x, j)) h]
  simp only [gW_c8' m c A C G hA hC hG, ← EReal.coe_neg, coe_sum, Finset.sum_neg_distrib]

end Cert.FoxKernelIdeal.Value

end
-- ==== Proof.Fox.Ref.lean ====
/- The FoX attention's reference gradient, entry by entry, when the arguments are real numbers. -/
module

public import proofs.«01_k».proof.Proof.RefAttn
public import proofs.«01_k».proof.Proof.Fox.Real

@[expose] public section

set_option maxRecDepth 16384

noncomputable section

open Idealize.ShloMosaic Idealize.ShloMosaic.TcCoe Idealize.SL.Sem

namespace Cert.FoxReferenceIdeal.Value

open Cert.FoxReferenceIdeal Cert.FoxReferenceIdeal.Gen Cert.Attn Cert.RefAttn Cert.Fox
open Cert.FoxKernelIdeal.Value (c8 coe_dot hcol c8_eq)

/-- The heads of a stretch of columns. -/
def headsT (X : FVec Ideal S1x4096x512 .f32) : FVec Ideal S1x8x4096x64 .f32 :=
  transpose S1x8x4096x64 [0, 2, 1, 3] (shapeCast S1x4096x8x64 X shapeCasts_S1x4096x512_S1x4096x8x64) transposes_S1x4096x8x64_S1x8x4096x64_0_2_1_3
/-- The columns of the heads. -/
def mergeT (X : FVec Ideal S1x8x4096x64 .f32) : FVec Ideal S4096x512 .bf16 :=
  truncf .bf16 (shapeCast S4096x512 (shapeCast S1x4096x512 (transpose S1x4096x8x64 [0, 2, 1, 3] X transposes_S1x8x4096x64_S1x4096x8x64_0_2_1_3)
    shapeCasts_S1x4096x8x64_S1x4096x512) shapeCasts_S1x4096x512_S4096x512) bitsLt_bf16_f32
def eighth : FVec Ideal S1x8x4096x4096 .f32 := broadcastInDim S1x8x4096x4096 ![] bcast_S_S1x8x4096x4096 (constant S_ .f32 0x3E000000#32)
def dotT (q k : FVec Ideal S1x8x4096x64 .f32) : FVec Ideal S1x8x4096x4096 .f32 := Host.dotGeneral dot_S1x8x4096x64_S1x8x4096x64_S1x8x4096x4096_3_3_2_2_01_01 none q k
/-- The scores with the decays. -/
def scoreT (q k : FVec Ideal S1x8x4096x64 .f32) (C : FVec Ideal S1x8x4096 .f32) : FVec Ideal S1x8x4096x4096 .f32 :=
  subf (addf (mulf (dotT q k) eighth) (over (column C)))
    (broadcastInDim S1x8x4096x4096 ![0, 1, 2, 3] bcast_S1x8x1x4096_S1x8x4096x4096_0_1_2_3 (broadcastInDim S1x8x1x4096 ![0, 1, 3] bcast_S1x8x4096_S1x8x1x4096_0_1_3 C))
def decayT (a : FVec Ideal S1x4096x8 .f32) : FVec Ideal S1x8x4096 .f32 := transpose S1x8x4096 [0, 2, 1] a transposes_S1x4096x8_S1x8x4096_0_2_1

def cumT (g : FVec Ideal S1x8x4096x4096 .f32) : FVec Ideal S4096x8 .f32 :=
  shapeCast S4096x8 (transpose S1x4096x8 [0, 2, 1]
    (addf
      (broadcastInDim S1x8x4096 ![1, 2] bcast_S8x4096_S1x8x4096_1_2
        (Host.reduceAdd (shapeCast S1x8x1x4096 (colSum (Host.negf g)) shapeCasts_S1x8x4096_S1x8x1x4096) (constant S_ .f32 0x00000000#32) reducesTo_S1x8x1x4096_S8x4096_d0_2 h_S_))
      (broadcastInDim S1x8x4096 ![1, 2] bcast_S8x4096_S1x8x4096_1_2
        (Host.reduceAdd (shapeCast S1x8x4096x1 (rowSum g) shapeCasts_S1x8x4096_S1x8x4096x1) (constant S_ .f32 0x00000000#32) reducesTo_S1x8x4096x1_S8x4096_d0_3 h_S_)))
    transposes_S1x8x4096_S1x4096x8_0_2_1) shapeCasts_S1x4096x8_S4096x8

variable (a0 : FVec Ideal S1x4096x2984 .f32) (a1 : FVec Ideal S1x4096x8 .f32) (a2 : FVec Ideal S1x4096x1024 .f32)

def qT : FVec Ideal S1x8x4096x64 .f32 := headsT (extractStridedSlice S1x4096x512 ![0, 0, 416] a0 slices_S1x4096x2984_S1x4096x512_0_0_416)
def kT : FVec Ideal S1x8x4096x64 .f32 := headsT (extractStridedSlice S1x4096x512 ![0, 0, 928] a0 slices_S1x4096x2984_S1x4096x512_0_0_928)
def vT : FVec Ideal S1x8x4096x64 .f32 := headsT (extractStridedSlice S1x4096x512 ![0, 0, 1440] a0 slices_S1x4096x2984_S1x4096x512_0_0_1440)
def doT : FVec Ideal S1x8x4096x64 .f32 := headsT (extractStridedSlice S1x4096x512 ![0, 0, 512] a2 slices_S1x4096x1024_S1x4096x512_0_0_512)
def LT : FVec Ideal S1x8x4096x4096 .f32 := logitT (scoreT (qT a0) (kT a0) (decayT a1))
def dsT : FVec Ideal S1x8x4096x4096 .f32 := gradT (LT a0 a1) (dotT (doT a2) (vT a0))

section
variable (m : (ℓ : Loc nD τ sig) → Buf (Elt Ideal) ℓ) (c : Dev nD)

theorem res_q : res_main_v99 m c = mergeT (Host.dotGeneral dot_S1x8x4096x4096_S1x8x4096x64_S1x8x4096x64_3_2_2_3_01_01 none
    (mulf (dsT (m ((c.tc : Thread nD τ).loc main_arg0)) (m ((c.tc : Thread nD τ).loc main_arg1)) (m ((c.tc : Thread nD τ).loc main_arg2))) eighth)
    (kT (m ((c.tc : Thread nD τ).loc main_arg0)))) := by
  unfold res_main_v99 dsT LT gradT logitT backT expT rowMax rowSum
  rfl
theorem res_k : res_main_v101 m c = mergeT (Host.dotGeneral dot_S1x8x4096x4096_S1x8x4096x64_S1x8x4096x64_2_2_3_3_01_01 none
    (mulf (dsT (m ((c.tc : Thread nD τ).loc main_arg0)) (m ((c.tc : Thread nD τ).loc main_arg1)) (m ((c.tc : Thread nD τ).loc main_arg2))) eighth)
    (qT (m ((c.tc : Thread nD τ).loc main_arg0)))) := by
  unfold res_main_v101 dsT LT gradT logitT backT expT rowMax rowSum
  rfl
theorem res_v : res_main_v103 m c = mergeT (transpose S1x8x4096x64 [0, 1, 3, 2] (Host.dotGeneral dot_S1x8x4096x64_S1x8x4096x4096_S1x8x64x4096_2_2_3_3_01_01 none
    (doT (m ((c.tc : Thread nD τ).loc main_arg2)))
    (softT (LT (m ((c.tc : Thread nD τ).loc main_arg0)) (m ((c.tc : Thread nD τ).loc main_arg1))))) transposes_S1x8x64x4096_S1x8x4096x64_0_1_3_2) := by
  unfold res_main_v103 LT softT logitT expT rowMax rowSum
  rfl
theorem res_c : res_main_v104 m c = cumT (dsT (m ((c.tc : Thread nD τ).loc main_arg0)) (m ((c.tc : Thread nD τ).loc main_arg1)) (m ((c.tc : Thread nD τ).loc main_arg2))) := by
  unfold res_main_v104 cumT dsT LT gradT logitT backT expT rowMax rowSum colSum
  rfl
end

theorem headsT_at (X : FVec Ideal S1x4096x512 .f32) (h : Fin 8) (i : Fin 4096) (x : Fin 64) : headsT X (ix4 0 h i x) = X (ix3 0 i (hl h x)) := by
  unfold headsT hl
  pointwise
theorem mergeT_at (X : FVec Ideal S1x8x4096x64 .f32) (i : Fin 4096) (l : Fin 512) : mergeT X (ix2 i l) = X (ix4 0 (hcol l) i (lx l)) := by
  unfold mergeT hcol lx
  pointwise
theorem dotT_at (q k : FVec Ideal S1x8x4096x64 .f32) (h : Fin 8) (i j : Fin 4096) : dotT q k (ix4 0 h i j) = ∑ x, q (ix4 0 h i x) * k (ix4 0 h j x) := by
  unfold dotT
  pointwise
theorem scoreT_at (q k : FVec Ideal S1x8x4096x64 .f32) (C : FVec Ideal S1x8x4096 .f32) (h : Fin 8) (i j : Fin 4096) :
    scoreT q k C (ix4 0 h i j) = dotT q k (ix4 0 h i j) * c8 + C (ix3 0 h i) - C (ix3 0 h j) := by
  unfold scoreT eighth over column c8
  pointwise
theorem decayT_at (h : Fin 8) (i : Fin 4096) : decayT a1 (ix3 0 h i) = a1 (ix3 0 i h) := by
  unfold decayT
  pointwise
theorem qT_at (h : Fin 8) (i : Fin 4096) (x : Fin 64) : qT a0 (ix4 0 h i x) = a0 (ix3 0 i (qcol (hl h x))) := by
  unfold qT qcol
  rw [headsT_at]
  pointwise
theorem kT_at (h : Fin 8) (i : Fin 4096) (x : Fin 64) : kT a0 (ix4 0 h i x) = a0 (ix3 0 i (kcol (hl h x))) := by
  unfold kT kcol
  rw [headsT_at]
  pointwise
theorem vT_at (h : Fin 8) (i : Fin 4096) (x : Fin 64) : vT a0 (ix4 0 h i x) = a0 (ix3 0 i (vcol (hl h x))) := by
  unfold vT vcol
  rw [headsT_at]
  pointwise
theorem doT_at (h : Fin 8) (i : Fin 4096) (x : Fin 64) : doT a2 (ix4 0 h i x) = a2 (ix3 0 i (dcol (hl h x))) := by
  unfold doT dcol
  rw [headsT_at]
  pointwise

theorem cumT_at (g : FVec Ideal S1x8x4096x4096 .f32) (i : Fin 4096) (h : Fin 8) : cumT g (ix2 i h) = (∑ k, -g (ix4 0 h k i)) + ∑ j, g (ix4 0 h i j) := by
  have h3 (A B : FVec Ideal S8x4096 .f32) : shapeCast S4096x8 (transpose S1x4096x8 [0, 2, 1] (addf (broadcastInDim S1x8x4096 ![1, 2] bcast_S8x4096_S1x8x4096_1_2 A)
      (broadcastInDim S1x8x4096 ![1, 2] bcast_S8x4096_S1x8x4096_1_2 B)) transposes_S1x8x4096_S1x4096x8_0_2_1) shapeCasts_S1x4096x8_S4096x8 (ix2 i h) = A (ix2 h i) + B (ix2 h i) := by
    pointwise
  have h4 (R : FVec Ideal S1x8x4096 .f32) : Host.reduceAdd (shapeCast S1x8x1x4096 R shapeCasts_S1x8x4096_S1x8x1x4096) (constant S_ .f32 0x00000000#32) reducesTo_S1x8x1x4096_S8x4096_d0_2 h_S_ (ix2 h i)
      = R (ix3 0 h i) := by
    pointwise
    rw [sum_unit_02]
    pointwise
  have h5 (R : FVec Ideal S1x8x4096 .f32) : Host.reduceAdd (shapeCast S1x8x4096x1 R shapeCasts_S1x8x4096_S1x8x4096x1) (constant S_ .f32 0x00000000#32) reducesTo_S1x8x4096x1_S8x4096_d0_3 h_S_ (ix2 h i)
      = R (ix3 0 h i) := by
    pointwise
    rw [sum_unit_03]
    pointwise
  unfold cumT
  rw [h3, h4, h5, colSum_at, rowSum_at]
  rfl

variable (A : Fin 4096 → Fin 1536 → ℝ) (C : Fin 4096 → Fin 8 → ℝ) (G : Fin 4096 → Fin 512 → ℝ)
  (hA : ∀ (i : Fin 4096) (k : Fin 1536), a0 (ix3 0 i (acol k)) = (A i k : EReal)) (hC : ∀ (i : Fin 4096) (h : Fin 8), a1 (ix3 0 i h) = (C i h : EReal))
  (hG : ∀ (i : Fin 4096) (l : Fin 512), a2 (ix3 0 i (dcol l)) = (G i l : EReal))

include hA in
theorem q_real (h : Fin 8) (i : Fin 4096) (x : Fin 64) : qT a0 (ix4 0 h i x) = (A i (qpart (hl h x)) : EReal) :=
  (qT_at a0 h i x).trans (hA i (qpart (hl h x)))
include hA in
theorem k_real (h : Fin 8) (i : Fin 4096) (x : Fin 64) : kT a0 (ix4 0 h i x) = (A i (kpart (hl h x)) : EReal) :=
  (kT_at a0 h i x).trans ((congrArg (fun k : Fin 2984 => a0 (ix3 0 i k)) (acol_k _).symm).trans (hA i (kpart (hl h x))))
include hA in
theorem v_real (h : Fin 8) (i : Fin 4096) (x : Fin 64) : vT a0 (ix4 0 h i x) = (A i (vpart (hl h x)) : EReal) :=
  (vT_at a0 h i x).trans ((congrArg (fun k : Fin 2984 => a0 (ix3 0 i k)) (acol_v _).symm).trans (hA i (vpart (hl h x))))
include hG in
theorem do_real (h : Fin 8) (i : Fin 4096) (x : Fin 64) : doT a2 (ix4 0 h i x) = (G i (hl h x) : EReal) :=
  (doT_at a2 h i x).trans (hG i (hl h x))

include hA hC in
theorem LT_real (h : Fin 8) (i j : Fin 4096) : LT a0 a1 (ix4 0 h i j) = logit (xR A C h i) i j := by
  unfold LT logit xR sR
  rw [logitT_at, scoreT_at, dotT_at, decayT_at, decayT_at]
  refine if_congr Iff.rfl ?_ rfl
  rw [coe_dot _ _ _ _ (fun x => q_real a0 A hA h i x) (fun x => k_real a0 A hA h j x), c8_eq, hC, hC, ← EReal.coe_mul, ← EReal.coe_add, ← EReal.coe_sub]
include hA hG in
theorem dp_real (h : Fin 8) (i j : Fin 4096) : dotT (doT a2) (vT a0) (ix4 0 h i j) = ((dR A G h i j : ℝ) : EReal) := by
  rw [dotT_at]
  exact coe_dot _ _ _ _ (fun x => do_real a2 G hG h i x) (fun x => v_real a0 A hA h j x)
include hA hC hG in
theorem dsT_real (h : Fin 8) (i j : Fin 4096) : dsT a0 a1 a2 (ix4 0 h i j) = ((dsoft (xR A C h i) (dR A G h i) i j : ℝ) : EReal) := by
  unfold dsT
  exact gradT_at _ _ h i j _ _ (LT_real a0 a1 A C hA hC h i) (dp_real a0 a2 A G hA hG h i)

theorem col_mod (l : Fin 512) : (hcol l).val * 64 + l.val % 64 = l.val := by unfold hcol; simp only []; omega

include hA hC hG in
theorem ref_q (i : Fin 4096) (l : Fin 512) : mergeT (Host.dotGeneral dot_S1x8x4096x4096_S1x8x4096x64_S1x8x4096x64_3_2_2_3_01_01 none (mulf (dsT a0 a1 a2) eighth) (kT a0)) (ix2 i l)
    = ∑ j, ((dsoft (xR A C (hcol l) i) (dR A G (hcol l) i) i j : ℝ) : EReal) * c8 * a0 (ix3 0 j (kcol l)) := by
  have h3 (g : FVec Ideal S1x8x4096x4096 .f32) (k : FVec Ideal S1x8x4096x64 .f32) (h : Fin 8) (x : Fin 64) :
      Host.dotGeneral dot_S1x8x4096x4096_S1x8x4096x64_S1x8x4096x64_3_2_2_3_01_01 none (mulf g eighth) k (ix4 0 h i x) = ∑ j, g (ix4 0 h i j) * c8 * k (ix4 0 h j x) := by
    unfold eighth c8
    pointwise
  rw [mergeT_at, h3]
  refine Finset.sum_congr rfl fun j _ => congrArg₂ (fun a b : EReal => a * c8 * b) (dsT_real a0 a1 a2 A C G hA hC hG _ _ _) ((kT_at a0 _ _ _).trans ?_)
  exact congrArg (fun k : Fin 2984 => a0 (ix3 0 j k)) (Fin.ext (congrArg (928 + ·) (col_mod l)))
include hA hC hG in
theorem ref_k (j : Fin 4096) (l : Fin 512) : mergeT (Host.dotGeneral dot_S1x8x4096x4096_S1x8x4096x64_S1x8x4096x64_2_2_3_3_01_01 none (mulf (dsT a0 a1 a2) eighth) (qT a0)) (ix2 j l)
    = ∑ i, ((dsoft (xR A C (hcol l) i) (dR A G (hcol l) i) i j : ℝ) : EReal) * c8 * a0 (ix3 0 i (qcol l)) := by
  have h3 (g : FVec Ideal S1x8x4096x4096 .f32) (k : FVec Ideal S1x8x4096x64 .f32) (h : Fin 8) (x : Fin 64) :
      Host.dotGeneral dot_S1x8x4096x4096_S1x8x4096x64_S1x8x4096x64_2_2_3_3_01_01 none (mulf g eighth) k (ix4 0 h j x) = ∑ i, g (ix4 0 h i j) * c8 * k (ix4 0 h i x) := by
    unfold eighth c8
    pointwise
  rw [mergeT_at, h3]
  refine Finset.sum_congr rfl fun i _ => congrArg₂ (fun a b : EReal => a * c8 * b) (dsT_real a0 a1 a2 A C G hA hC hG _ _ _) ((qT_at a0 _ _ _).trans ?_)
  exact congrArg (fun k : Fin 2984 => a0 (ix3 0 i k)) (Fin.ext (congrArg (416 + ·) (col_mod l)))
include hA hC in
theorem ref_v (j : Fin 4096) (l : Fin 512) : mergeT (transpose S1x8x4096x64 [0, 1, 3, 2] (Host.dotGeneral dot_S1x8x4096x64_S1x8x4096x4096_S1x8x64x4096_2_2_3_3_01_01 none (doT a2) (softT (LT a0 a1)))
      transposes_S1x8x64x4096_S1x8x4096x64_0_1_3_2) (ix2 j l)
    = ∑ i, ((soft (xR A C (hcol l) i) i j : ℝ) : EReal) * a2 (ix3 0 i (dcol l)) := by
  have h3 (g : FVec Ideal S1x8x4096x4096 .f32) (d : FVec Ideal S1x8x4096x64 .f32) (h : Fin 8) (x : Fin 64) :
      transpose S1x8x4096x64 [0, 1, 3, 2] (Host.dotGeneral dot_S1x8x4096x64_S1x8x4096x4096_S1x8x64x4096_2_2_3_3_01_01 none d g) transposes_S1x8x64x4096_S1x8x4096x64_0_1_3_2 (ix4 0 h j x)
        = ∑ i, d (ix4 0 h i x) * g (ix4 0 h i j) := by
    pointwise
  rw [mergeT_at, h3]
  refine Finset.sum_congr rfl fun i _ => Eq.trans (mul_comm (G := EReal) _ _) (congrArg₂ (fun a b : EReal => a * b) (softT_at _ _ _ _ _ (LT_real a0 a1 A C hA hC _ _)) ((doT_at a2 _ _ _).trans ?_))
  exact congrArg (fun k : Fin 1024 => a2 (ix3 0 i k)) (Fin.ext (congrArg (512 + ·) (col_mod l)))
include hA hC hG in
theorem ref_c (i : Fin 4096) (h : Fin 8) : cumT (dsT a0 a1 a2) (ix2 i h)
    = (∑ k, -((dsoft (xR A C h k) (dR A G h k) k i : ℝ) : EReal)) + ((∑ j, dsoft (xR A C h i) (dR A G h i) i j : ℝ) : EReal) := by
  rw [cumT_at, ← coe_sum]
  refine congrArg₂ (fun a b : EReal => a + b) (Finset.sum_congr rfl fun k _ => ?_) (Finset.sum_congr rfl fun j _ => ?_)
  · exact congrArg (fun a : EReal => -a) (dsT_real a0 a1 a2 A C G hA hC hG _ _ _)
  · exact dsT_real a0 a1 a2 A C G hA hC hG _ _ _

end Cert.FoxReferenceIdeal.Value

end
-- ==== Proof.FoxClaim.lean ====
/- The claims about the FoX attention's gradient. -/
module

public import proofs.«01_k».proof.Defs
public import proofs.«01_k».proof.Proof.Finite
public import proofs.«01_k».proof.Proof.Fox.Ref
public import proofs.«01_k».proof.Proof.Gen.FoxKernel.Frame
public import proofs.«01_k».proof.Proof.Gen.FoxKernel
public import proofs.«01_k».proof.Proof.Gen.FoxKernelIdeal
public import proofs.«01_k».proof.Proof.Gen.FoxReferenceIdeal
public import Idealize.ShloMosaic.Lib.Claim

@[expose] public section

set_option maxRecDepth 16384

noncomputable section

open Idealize.ShloMosaic Idealize.ShloMosaic.TcCoe Idealize.SL.Sem

namespace Cert.Pre_fox_finite

theorem facts : Cert.Pre_fox_finite.Facts where
  slices_S1x4096x2984_S1x4096x1536_0_0_416 := by decide
  bcast_S_S1x4096x1536 := by decide
  bcast_S_S1x4096x8 := by decide
  slices_S1x4096x1024_S1x4096x512_0_0_512 := by decide
  bcast_S_S1x4096x512 := by decide

end Cert.Pre_fox_finite

namespace Cert.FoxKernelIdeal.Value

open Cert.FoxKernelIdeal Cert.FoxKernelIdeal.Gen Cert.Attn Cert.Fox

attribute [local instance] Cert.Pre_fox_finite.facts

variable (m : (ℓ : Loc nD τ sig) → Buf (Elt Ideal) ℓ) (hm : Cert.Pre_FoxKernelIdeal_fox_finite m) (c : Dev nD)

theorem slice_at (a : FVec Ideal S1x4096x2984 .f32) (i : Fin 4096) (k : Fin 1536) :
    extractStridedSlice Cert.Pre_fox_finite.S1x4096x1536 ![0, 0, 416] a Cert.Pre_fox_finite.Facts.slices_S1x4096x2984_S1x4096x1536_0_0_416 (ix3 0 i k) = a (ix3 0 i (acol k)) := by
  unfold acol
  pointwise
theorem slice_at' (a : FVec Ideal S1x4096x1024 .f32) (i : Fin 4096) (k : Fin 512) :
    extractStridedSlice Cert.Pre_fox_finite.S1x4096x512 ![0, 0, 512] a Cert.Pre_fox_finite.Facts.slices_S1x4096x1024_S1x4096x512_0_0_512 (ix3 0 i k) = a (ix3 0 i (dcol k)) := by
  unfold dcol
  pointwise

/-- The decay sums' gradient, as the host computes it of the last two arrays. -/
def tailT (A : FVec Ideal S8x1x4096 .f32) (B : FVec Ideal S4096x512 .f32) : FVec Ideal S4096x8 .f32 :=
  addf (transpose S4096x8 [1, 0] (shapeCast S8x4096 A shapeCasts_S8x1x4096_S8x4096) transposes_S8x4096_S4096x8_1_0)
    (shapeCast S4096x8 (shapeCast S4096x4x2 (Host.reverse [2] (extractStridedSlice S4096x4x2x1 ![0, 0, 0, 0]
      (shapeCast S4096x4x2x64 B shapeCasts_S4096x512_S4096x4x2x64) slices_S4096x4x2x64_S4096x4x2x1_0_0_0_0))
      shapeCasts_S4096x4x2x1_S4096x4x2) shapeCasts_S4096x4x2_S4096x8)

theorem tail_eq : Pipeline.afterTail₀ cfgs (dats m) 0 (V0 m) [hostOps1] c main_v88 = tailT ((dats m 0 c).arrAt 10 (cfgs 0).N) ((dats m 0 c).arrAt 11 (cfgs 0).N) := by
  unfold Pipeline.afterTail₀
  rw [← Pipeline.withArrays_arr_shared spec0 c (V0 m c) (fun w => (dats m 0 c).arrAt w (cfgs 0).N) ((dats m 0 c).arrAt_sharedIn sharedIn0 (V0 m c) (A_eq m c) _) 10,
    ← Pipeline.withArrays_arr_shared spec0 c (V0 m c) (fun w => (dats m 0 c).arrAt w (cfgs 0).N) ((dats m 0 c).arrAt_sharedIn sharedIn0 (V0 m c) (A_eq m c) _) 11]
  generalize Pipeline.withArrays _ _ _ _ = V'
  unfold tailT
  after_reads_simp
  rfl

include hm
theorem real_h (i : Fin 4096) (k : Fin 1536) : ∃ r : ℝ, fH m c i (acol k) = r := by
  obtain ⟨r, hr⟩ := Cert.Finite.real_of_lt _ (congrFun (hm c).1 (ix3 0 i k))
  exact ⟨r, (slice_at _ i k).symm.trans hr⟩
theorem real_c (i : Fin 4096) (h : Fin 8) : ∃ r : ℝ, fC m c i h = r :=
  Cert.Finite.real_of_lt _ (congrFun (hm c).2.1 (ix3 0 i h))
theorem real_d (i : Fin 4096) (l : Fin 512) : ∃ r : ℝ, fD m c i (dcol l) = r := by
  obtain ⟨r, hr⟩ := Cert.Finite.real_of_lt _ (congrFun (hm c).2.2 (ix3 0 i l))
  exact ⟨r, (slice_at' _ i l).symm.trans hr⟩

theorem reals : ∃ (A : Fin 4096 → Fin 1536 → ℝ) (C : Fin 4096 → Fin 8 → ℝ) (G : Fin 4096 → Fin 512 → ℝ),
    (∀ i (k : Fin 1536), fH m c i (acol k) = (A i k : EReal)) ∧ (∀ i h, fC m c i h = (C i h : EReal))
      ∧ (∀ i (l : Fin 512), fD m c i (dcol l) = (G i l : EReal)) := by
  choose A hA using real_h m hm c
  choose C hC using real_c m hm c
  choose G hG using real_d m hm c
  exact ⟨A, C, G, hA, hC, hG⟩

section
variable (m' : (ℓ : Loc Cert.FoxReferenceIdeal.nD Cert.FoxReferenceIdeal.τ Cert.FoxReferenceIdeal.sig) → Buf (Elt Ideal) ℓ)
  (h : m' ((c.tc : Thread Cert.FoxReferenceIdeal.nD Cert.FoxReferenceIdeal.τ).loc Cert.FoxReferenceIdeal.main_arg0) = m ((c.tc : Thread nD τ).loc main_arg0)
      ∧ m' ((c.tc : Thread Cert.FoxReferenceIdeal.nD Cert.FoxReferenceIdeal.τ).loc Cert.FoxReferenceIdeal.main_arg1) = m ((c.tc : Thread nD τ).loc main_arg1)
      ∧ m' ((c.tc : Thread Cert.FoxReferenceIdeal.nD Cert.FoxReferenceIdeal.τ).loc Cert.FoxReferenceIdeal.main_arg2) = m ((c.tc : Thread nD τ).loc main_arg2))
include h

theorem ref_dq : Cert.FoxReferenceIdeal.Value.res_main_v99 m' c = DQ m c := by
  obtain ⟨A, C, G, hA, hC, hG⟩ := reals m hm c
  rw [Cert.FoxReferenceIdeal.Value.res_q, h.1, h.2.1, h.2.2]
  funext y
  obtain ⟨i, l, rfl⟩ : ∃ (i : Fin 4096) (l : Fin 512), y = ix2 i l := ⟨y 0, y 1, eq_ix2 y⟩
  refine (Cert.FoxReferenceIdeal.Value.ref_q _ _ _ A C G hA hC hG i l).trans (Finset.sum_congr rfl fun j _ => ?_)
  exact congrArg (fun a : EReal => a * fH m c j (kcol l)) (gW_real m c A C G hA hC hG (hcol l) i j).symm
theorem ref_dk : Cert.FoxReferenceIdeal.Value.res_main_v101 m' c = DK m c := by
  obtain ⟨A, C, G, hA, hC, hG⟩ := reals m hm c
  rw [Cert.FoxReferenceIdeal.Value.res_k, h.1, h.2.1, h.2.2]
  funext y
  obtain ⟨j, l, rfl⟩ : ∃ (i : Fin 4096) (l : Fin 512), y = ix2 i l := ⟨y 0, y 1, eq_ix2 y⟩
  refine (Cert.FoxReferenceIdeal.Value.ref_k _ _ _ A C G hA hC hG j l).trans (Finset.sum_congr rfl fun i _ => ?_)
  exact congrArg (fun a : EReal => a * fH m c i (qcol l)) (gW_real m c A C G hA hC hG (hcol l) i j).symm
theorem ref_dv : Cert.FoxReferenceIdeal.Value.res_main_v103 m' c = DV m c := by
  obtain ⟨A, C, G, hA, hC, hG⟩ := reals m hm c
  rw [Cert.FoxReferenceIdeal.Value.res_v, h.1, h.2.1, h.2.2]
  funext y
  obtain ⟨j, l, rfl⟩ : ∃ (i : Fin 4096) (l : Fin 512), y = ix2 i l := ⟨y 0, y 1, eq_ix2 y⟩
  refine (Cert.FoxReferenceIdeal.Value.ref_v _ _ _ A C hA hC j l).trans (Finset.sum_congr rfl fun i _ => ?_)
  exact congrArg (fun a : EReal => a * fD m c i (dcol l)) (gP_real m c A C hA hC (hcol l) i j).symm
theorem ref_dc : Cert.FoxReferenceIdeal.Value.res_main_v104 m' c = tailT ((dats m 0 c).arrAt 10 (cfgs 0).N) ((dats m 0 c).arrAt 11 (cfgs 0).N) := by
  obtain ⟨A, C, G, hA, hC, hG⟩ := reals m hm c
  rw [Cert.FoxReferenceIdeal.Value.res_c, h.1, h.2.1, h.2.2, final_r, final_c m c (hneg m c A C G hA hC hG)]
  funext y
  obtain ⟨i, h, rfl⟩ : ∃ (i : Fin 4096) (l : Fin 8), y = ix2 i l := ⟨y 0, y 1, eq_ix2 y⟩
  refine (Cert.FoxReferenceIdeal.Value.ref_c _ _ _ A C G hA hC hG i h).trans (Eq.trans ?_ (tail_c _ _ i h).symm)
  have e : hswap ⟨128 * (h.val / 2) + 64 * (1 - h.val % 2), by omega⟩ = h := Fin.ext (by unfold hswap; simp only []; omega)
  refine congrArg₂ (fun a b : EReal => a + b) (Finset.sum_congr rfl fun k _ => ?_) ?_
  · exact congrArg (fun a : EReal => -a) (gW_c8' m c A C G hA hC hG h k i).symm
  · refine (sum_c8' m c A C G hA hC hG (fun j => (i, j)) h).symm.trans ?_
    show _ = (∑ j, gW m c (hswap ⟨128 * (h.val / 2) + 64 * (1 - h.val % 2), by omega⟩) i j) * c8'
    rw [e]
end

end Cert.FoxKernelIdeal.Value

namespace Cert.Proof

open Cert.FoxKernelIdeal.Value

attribute [local instance] Cert.Pre_fox_finite.facts

theorem fox_frame : Cert.quiescent_FoxKernel := fun m ρ _ => Cert.FoxKernel.Gen.frame m ρ

theorem fox_frame_ideal : Cert.quiescent_FoxKernelIdeal := fun m ρ _ => Cert.FoxKernelIdeal.Gen.frame m ρ
theorem fox_frame_finite : Cert.quiescent_FoxKernelIdeal_pre_fox_finite := fun m ρ _ => Cert.FoxKernelIdeal.Gen.frame m ρ

theorem fox_frame_reference : Cert.quiescent_FoxReferenceIdeal := fun m g _ =>
  (θ_run Cert.FoxReferenceIdeal.defs _ _).mono (fun r h => ⟨fun c => (h c).2.2.2.2, sem_eq_zero_of_no_sems (by decide) r.2⟩)
    (Cert.FoxReferenceIdeal.Value.run m g)
theorem fox_frame_reference_finite : Cert.quiescent_FoxReferenceIdeal_pre_fox_finite := fun m g _ => fox_frame_reference m g trivial

set_option maxHeartbeats 4000000 in
theorem fox_algebraic : Cert.algebraic_FoxKernelIdeal_FoxReferenceIdeal_pre_fox_finite := by
  pair_intro
  · run_from Cert.FoxKernelIdeal.Gen.run_main m g & Cert.FoxKernelIdeal.Gen.frame m g
    · exact Cert.FoxKernelIdeal.Gen.W_main_arg0 m (Cert.FoxKernelIdeal.Gen.dats m) c
    · exact Cert.FoxKernelIdeal.Gen.W_main_arg1 m (Cert.FoxKernelIdeal.Gen.dats m) c
    · exact Cert.FoxKernelIdeal.Gen.W_main_arg2 m (Cert.FoxKernelIdeal.Gen.dats m) c
  · run_from Cert.FoxReferenceIdeal.Value.run m' g'
    · exact (ref_dq m hpre c m' (hagree c)).trans (final_q m c).symm
    · exact (ref_dk m hpre c m' (hagree c)).trans (final_k m c).symm
    · exact (ref_dv m hpre c m' (hagree c)).trans (final_v m c).symm
    · exact (ref_dc m hpre c m' (hagree c)).trans (tail_eq m c).symm

end Cert.Proof

end
-- ==== Proof.Mla.Pay.lean ====
/- The latent attention's backward call, one grid point: each payload of the body read at one index, over the blocks the point holds. -/
module

public import proofs.«01_k».proof.Proof.Gen.MlaKernelIdeal.Skeleton
public import proofs.«01_k».proof.Proof.Lanes

@[expose] public section

set_option maxRecDepth 16384

noncomputable section

open Idealize.ShloMosaic Idealize.ShloMosaic.TcCoe Idealize.SL.Sem

namespace Cert.MlaKernelIdeal.Value

open Cert.MlaKernelIdeal Cert.MlaKernelIdeal.Gen Cert.Lanes

/-- Lane `l` of head `h` in a row holding both heads of a pair, 128 lanes each; the head of such a lane. -/
def wl (h : Fin 2) (l : Fin 128) : Fin 256 := ⟨128 * h.val + l.val, by omega⟩
def wh (L : Fin 256) : Fin 2 := ⟨L.val / 128, by omega⟩
def wr (L : Fin 256) : Fin 128 := ⟨L.val % 128, by omega⟩

/-- The scale of the scores, one over the root of 96 rounded. -/
def cs : EReal := Ideal.ofBits .f32 0x3DD105EC#32

section Terms

variable (dg : Bool) (q k : Vec Ideal S512x256 .bf16) (v g : Vec Ideal S512x128 .bf16) (o : Vec Ideal S512x128 .f32)
  (ls : Vec Ideal S2x512x1 .f32) (h : Fin 2) (r j : Fin 512)

/-- The product of a query's and a key's rows over the lanes of head `h`. -/
def bS : EReal := ∑ l : Fin 128, q (ix2 r (wl h l)) * k (ix2 j (wl h l))
/-- The product of the output's gradient with a value's row. -/
def bX : EReal := ∑ l : Fin 128, (if l.val / 64 = h.val then g (ix2 r l) else (0 : EReal)) * v (ix2 j l)
/-- The attention weight of query `r` and key `j`. -/
def bP : EReal := Ideal.exp ((if dg = true → j.val ≤ r.val then bS q k h r j * cs else Ideal.ofBits .f32 0xFF800000#32) - ls (ix3 h r 0))
/-- The weight's share of the scores' gradient, with the scale. -/
def bW : EReal :=
  bP dg q k ls h r j * (bX v g h r j - ∑ l : Fin 128, (if l.val / 64 = h.val then g (ix2 r l) else (0 : EReal)) * o (ix2 r l)) * cs

end Terms

section Pay

variable (q k : Vec Ideal S512x256 .bf16) (v g : Vec Ideal S512x128 .bf16) (o : Vec Ideal S512x128 .f32)
  (ls : Vec Ideal S2x512x1 .f32) (r j : Fin 512) (x y : ℕ) (hxy : x = y) (hx : x < 8)

/-- The log-sums of one head of the pair. -/
abbrev ls₀ := View.ld ls (Rect.unit ![0, 0, 0] ![1, 512, 1] inb_S2x512x1_S1x512x1_0_0_0)
abbrev ls₁ := View.ld ls (Rect.unit ![1, 0, 0] ![1, 512, 1] inb_S2x512x1_S1x512x1_1_0_0)

theorem p0_off : k0_pay21 (k0_pay20 q k) (ls₀ ls) (ix2 r j) = bP false q k ls 0 r j := by
  unfold ls₀
  pointwise [k0_pay21, k0_pay20, k0_pay8, k0_pay13, k0_pay9]
  simp [bP, bS, cs, wl]
theorem p1_off : k0_pay23 (k0_pay18 q k) (ls₁ ls) (ix2 r j) = bP false q k ls 1 r j := by
  unfold ls₁
  pointwise [k0_pay23, k0_pay18, k0_pay8, k0_pay16, k0_pay9]
  simp [bP, bS, cs, wl]
theorem w0_off : k0_pay22 (k0_pay12 o) (k0_pay14 g) (k0_pay15 v g) (k0_pay20 q k) (ls₀ ls) (ix2 r j) = bW false q k v g o ls 0 r j := by
  have h := p0_off q k ls r j
  pointwise [k0_pay22, k0_pay12, k0_pay14, k0_pay15, k0_pay10, k0_pay11, lane0, lane1, sel]
  rw [h]
  simp [bW, bX, cs]
theorem w1_off : k0_pay24 (k0_pay12 o) (k0_pay17 g) (k0_pay18 q k) (k0_pay19 v g) (ls₁ ls) (ix2 r j) = bW false q k v g o ls 1 r j := by
  have h := p1_off q k ls r j
  pointwise [k0_pay24, k0_pay12, k0_pay17, k0_pay19, k0_pay10, k0_pay11, lane0, lane1, sel]
  rw [h]
  simp [bW, bX, cs]

include hxy hx

theorem p0_on : k0_pay44 (k0_pay36 (BitVec.ofNat 32 x)) (k0_pay37 (BitVec.ofNat 32 y)) (k0_pay40 q k) (ls₀ ls) (ix2 r j) = bP true q k ls 0 r j := by
  unfold ls₀
  pointwise [k0_pay44, k0_pay36, k0_pay37, k0_pay40, k0_pay31, k0_pay32, k0_pay38]
  simp [bP, bS, cs, wl, diag_mask x y hxy hx, sel]
theorem p1_on : k0_pay47 (k0_pay31 q) (k0_pay36 (BitVec.ofNat 32 x)) (k0_pay37 (BitVec.ofNat 32 y)) (k0_pay42 k) (ls₁ ls) (ix2 r j) = bP true q k ls 1 r j := by
  unfold ls₁
  pointwise [k0_pay47, k0_pay36, k0_pay37, k0_pay31, k0_pay32, k0_pay42]
  simp [bP, bS, cs, wl, diag_mask x y hxy hx, sel]
theorem p0_on' : k0_pay45 (k0_pay36 (BitVec.ofNat 32 x)) (k0_pay37 (BitVec.ofNat 32 y)) (k0_pay40 q k) (ls₀ ls) (ix2 r j) = bP true q k ls 0 r j :=
  p0_on q k ls r j x y hxy hx
theorem p1_on' : k0_pay49 (k0_pay31 q) (k0_pay36 (BitVec.ofNat 32 x)) (k0_pay37 (BitVec.ofNat 32 y)) (k0_pay42 k) (ls₁ ls) (ix2 r j) = bP true q k ls 1 r j :=
  p1_on q k ls r j x y hxy hx
theorem w0_on : k0_pay46 (k0_pay35 o) (k0_pay36 (BitVec.ofNat 32 x)) (k0_pay37 (BitVec.ofNat 32 y)) (k0_pay39 g) (k0_pay40 q k) (k0_pay41 v g) (ls₀ ls) (ix2 r j)
    = bW true q k v g o ls 0 r j := by
  have h := p0_on q k ls r j x y hxy hx
  pointwise [k0_pay46, k0_pay35, k0_pay39, k0_pay41, k0_pay33, k0_pay34, lane0, lane1, sel]
  rw [h]
  simp [bW, bX, cs]
theorem w1_on : k0_pay50 (k0_pay48 (k0_pay31 q) (k0_pay33 v) (k0_pay34 g) (k0_pay35 o) (k0_pay36 (BitVec.ofNat 32 x)) (k0_pay37 (BitVec.ofNat 32 y)) (k0_pay42 k) k0_pay43
      (Scalar.ofBits .bf16 0x0000#16) (ls₁ ls)) (Scalar.ofBits .f32 0x3DD105EC#32) (ix2 r j)
    = bW true q k v g o ls 1 r j := by
  have h := p1_on q k ls r j x y hxy hx
  pointwise [k0_pay50, k0_pay48, k0_pay35, k0_pay43, k0_pay33, k0_pay34, lane0, lane1, sel]
  rw [h]
  simp [bW, bX, cs]

end Pay

section Store

theorem wh_ite (f : Fin 2 → Fin 256 → EReal) (L : Fin 256) (hL : ¬L.val < 128 → 128 + (L.val - 128) < 256) :
    (if h : L.val < 128 then f 0 L else f 1 ⟨128 + (L.val - 128), hL h⟩) = f (wh L) L := by
  by_cases h : L.val < 128
  · rw [dif_pos h]; exact congrArg (fun a => f a L) (Fin.ext (by simp [wh]; omega))
  · rw [dif_neg h]; exact congrArg₂ f (Fin.ext (by simp [wh]; omega)) (Fin.ext (by simp only []; omega))

variable (r j : Fin 512) (l : Fin 128) (L : Fin 256) (w : Fin 2 → Fin 512 → Fin 512 → EReal)

/-- The rows added to the gradient of the values. -/
theorem dv_off (g : Vec Ideal S512x128 .bf16) (acc : Vec Ideal S512x128 .f32) (a b a' b') (h₀ : ∀ r j, k0_pay21 a b (ix2 r j) = w 0 r j) (h₁ : ∀ r j, k0_pay23 a' b' (ix2 r j) = w 1 r j) :
    k0_pay4 (k0_pay25 (k0_pay11 g) a b) (k0_pay28 (k0_pay11 g) a' b') acc (ix2 r l) = acc (ix2 r l) + ∑ x : Fin 512, w (hd l) x r * g (ix2 x l) := by
  pointwise [k0_pay4, k0_pay25, k0_pay28, k0_pay11, lane0, lane1, sel]
  rw [← hd_ite (fun h => ∑ x : Fin 512, w h x r * g (ix2 x l)) l]
  simp [h₀, h₁]
theorem dv_on (g : Vec Ideal S512x128 .bf16) (acc : Vec Ideal S512x128 .f32) (p₀ p₁ : FVec Ideal S512x512 .bf16) (h₀ : ∀ r j, p₀ (ix2 r j) = w 0 r j) (h₁ : ∀ r j, p₁ (ix2 r j) = w 1 r j) :
    k0_pay51 (k0_pay34 g) p₀ p₁ acc (ix2 r l) = acc (ix2 r l) + ∑ x : Fin 512, w (hd l) x r * g (ix2 x l) := by
  pointwise [k0_pay51, k0_pay34, lane0, lane1, sel]
  rw [← hd_ite (fun h => ∑ x : Fin 512, w h x r * g (ix2 x l)) l]
  simp [h₀, h₁]

/-- The rows added to the gradient of the keys. -/
theorem dk_off (q : Vec Ideal S512x256 .bf16) (acc : Vec Ideal S512x256 .f32) (a b d e f a' b' d' e' f')
    (h₀ : ∀ r j, k0_pay22 a b d e f (ix2 r j) = w 0 r j) (h₁ : ∀ r j, k0_pay24 a' b' d' e' f' (ix2 r j) = w 1 r j) :
    k0_pay5 (k0_pay26 (k0_pay8 q) a b d e f) (k0_pay29 (k0_pay8 q) a' b' d' e' f') acc (ix2 r L) = acc (ix2 r L) + ∑ x : Fin 512, w (wh L) x r * q (ix2 x L) := by
  pointwise [k0_pay5, k0_pay26, k0_pay29, k0_pay8]
  simp only [h₀, h₁]
  exact congrArg (fun s : EReal => acc (ix2 r L) + s) (wh_ite (fun h L => ∑ x : Fin 512, w h x r * q (ix2 x L)) L _)
theorem dk_on (q : Vec Ideal S512x256 .bf16) (acc : Vec Ideal S512x256 .f32) (p₀ : FVec Ideal S512x512 .bf16) (s₁ : FVec Ideal S512x512 .f32) (z)
    (h₀ : ∀ r j, p₀ (ix2 r j) = w 0 r j) (h₁ : ∀ r j, k0_pay50 s₁ z (ix2 r j) = w 1 r j) :
    k0_pay52 (k0_pay31 q) p₀ s₁ z acc (ix2 r L) = acc (ix2 r L) + ∑ x : Fin 512, w (wh L) x r * q (ix2 x L) := by
  pointwise [k0_pay52, k0_pay31]
  simp only [h₀, h₁]
  exact congrArg (fun s : EReal => acc (ix2 r L) + s) (wh_ite (fun h L => ∑ x : Fin 512, w h x r * q (ix2 x L)) L _)
/-- The rows added to the gradient of the queries. -/
theorem dq_off (k : Vec Ideal S512x256 .bf16) (acc : Vec Ideal S512x256 .f32) (a b d e f a' b' d' e' f')
    (h₀ : ∀ r j, k0_pay22 a b d e f (ix2 r j) = w 0 r j) (h₁ : ∀ r j, k0_pay24 a' b' d' e' f' (ix2 r j) = w 1 r j) :
    k0_pay6 (k0_pay27 a (k0_pay13 k) b d e f) (k0_pay30 a' (k0_pay16 k) b' d' e' f') acc (ix2 r L) = acc (ix2 r L) + ∑ x : Fin 512, w (wh L) r x * k (ix2 x L) := by
  pointwise [k0_pay6, k0_pay27, k0_pay30, k0_pay13, k0_pay16, k0_pay9]
  simp only [h₀, h₁]
  exact congrArg (fun s : EReal => acc (ix2 r L) + s) (wh_ite (fun h L => ∑ x : Fin 512, w h r x * k (ix2 x L)) L _)
theorem dq_on (k : Vec Ideal S512x256 .bf16) (acc : Vec Ideal S512x256 .f32) (p₀ : FVec Ideal S512x512 .bf16) (s₁ : FVec Ideal S512x512 .f32) (z)
    (h₀ : ∀ r j, p₀ (ix2 r j) = w 0 r j) (h₁ : ∀ r j, k0_pay50 s₁ z (ix2 r j) = w 1 r j) :
    k0_pay53 (k0_pay38 k) (k0_pay42 k) p₀ s₁ z acc (ix2 r L) = acc (ix2 r L) + ∑ x : Fin 512, w (wh L) r x * k (ix2 x L) := by
  pointwise [k0_pay53, k0_pay38, k0_pay42, k0_pay32]
  simp only [h₀, h₁]
  exact congrArg (fun s : EReal => acc (ix2 r L) + s) (wh_ite (fun h L => ∑ x : Fin 512, w h r x * k (ix2 x L)) L _)

end Store

end Cert.MlaKernelIdeal.Value
-- ==== Proof.Mla.Point.lean ====
/- The latent attention's backward call: what each grid point adds to the three accumulators. -/
module

public import proofs.«01_k».proof.Proof.Gen.MlaKernelIdeal.Frame
public import proofs.«01_k».proof.Proof.Mla.Pay
public import proofs.«01_k».proof.Proof.Tile

@[expose] public section

set_option maxRecDepth 16384

noncomputable section

open Idealize.ShloMosaic Idealize.ShloMosaic.TcCoe Idealize.SL.Sem

namespace Cert.MlaKernelIdeal.Value

open Cert.MlaKernelIdeal Cert.MlaKernelIdeal.Gen Cert.Lanes Cert.Tile

variable (m : (ℓ : Loc nD τ sig) → Buf (Elt Ideal) ℓ) (c : Dev nD)

theorem off₁ : ∀ t : Fin cfg0.N, k0_off1 (grid0.coords t) = ![512 * (t.val % 8), 0] := (by decide +kernel : ∀ t : Fin grid0.N, _)
theorem off₂ : ∀ t : Fin cfg0.N, k0_off2 (grid0.coords t) = ![512 * (t.val % 8), 0] := (by decide +kernel : ∀ t : Fin grid0.N, _)
theorem coord₂ : ∀ t : Fin cfg0.N, (grid0.coords t 2).val = t.val % 8 := (by decide +kernel : ∀ t : Fin grid0.N, _)
theorem coord₁ : ∀ t : Fin cfg0.N, (grid0.coords t 1).val = t.val / 8 % 8 := (by decide +kernel : ∀ t : Fin grid0.N, _)

/-- The weights of a point. -/
def wP (dg : Bool) (t : Fin cfg0.N) (h : Fin 2) (r j : Fin 512) : EReal :=
  bP dg (iblk m c 0 t) (iblk m c 1 t) (iblk m c 5 t) h r j
/-- The scores' gradients of a point. -/
def wW (dg : Bool) (t : Fin cfg0.N) (h : Fin 2) (r j : Fin 512) : EReal :=
  bW dg (iblk m c 0 t) (iblk m c 1 t) (iblk m c 2 t) (iblk m c 4 t) (iblk m c 3 t) (iblk m c 5 t) h r j

/-- The accumulators after position `n`. -/
def aq (n : ℕ) (hn : n < cfg0.N) (R : Fin 4096) (l : Fin 256) : EReal := (outsAt0 m c n hn).2.2.2.1 (ix2 R l)
def ak (n : ℕ) (hn : n < cfg0.N) (r : Fin 512) (l : Fin 256) : EReal := (outsAt0 m c n hn).2.2.2.2.1 (ix2 r l)
def av (n : ℕ) (hn : n < cfg0.N) (r : Fin 512) (l : Fin 128) : EReal := (outsAt0 m c n hn).2.2.2.2.2 (ix2 r l)

variable (t : Fin cfg0.N)

/-- The point before. -/
theorem pred_lt : t.val - 1 < cfg0.N := Nat.lt_of_le_of_lt (Nat.sub_le _ _) t.isLt

section Off

variable (hlt : t.val / 8 % 8 < t.val % 8)
include hlt

theorem aq_off (R : Fin 4096) (l : Fin 256) : aq m c t.val t.isLt R l = aq m c (t.val - 1) (pred_lt t) R l
    + if R.val / 512 = t.val % 8 then ∑ x : Fin 512, wW m c false t (wh l) ⟨R.val % 512, Nat.mod_lt _ (by decide)⟩ x * iblk m c 1 t (ix2 x l) else 0 := by
  unfold aq
  rcases Classical.em (t.val % 8 = 7) with h4 | h4
  on_goal 1 => rw [outsAt0_C m c t (by omega) (by omega) hlt (by omega) h4 (by omega)]
  on_goal 2 => rw [outsAt0_B m c t (by omega) (by omega) hlt (by omega) h4 (by omega)]
  all_goals
    frame_out
    rw [store_rows (View.whole cc0_scratch0) _ _ _ _ (off₁ t), View.writes_nil, read_unread_whole]
    by_cases h : R.val / 512 = t.val % 8
    · rw [if_pos h, if_pos h, dq_off _ _ (wW m c false t) _ _ _ _ _ _ _ _ _ _ _ _ (fun r j => w0_off _ _ _ _ _ _ r j) (fun r j => w1_off _ _ _ _ _ _ r j),
        load_rows _ _ (off₁ t) R h]
    · rw [if_neg h, if_neg h, add_zero]

theorem ak_off (r : Fin 512) (l : Fin 256) : ak m c t.val t.isLt r l = ak m c (t.val - 1) (pred_lt t) r l
    + ∑ x : Fin 512, wW m c false t (wh l) x r * iblk m c 0 t (ix2 x l) := by
  unfold ak
  rcases Classical.em (t.val % 8 = 7) with h4 | h4
  on_goal 1 => rw [outsAt0_C m c t (by omega) (by omega) hlt (by omega) h4 (by omega)]
  on_goal 2 => rw [outsAt0_B m c t (by omega) (by omega) hlt (by omega) h4 (by omega)]
  all_goals
    frame_out
    rw [read_unread_whole]
    exact dk_off _ _ (wW m c false t) _ _ _ _ _ _ _ _ _ _ _ _ (fun r j => w0_off _ _ _ _ _ _ r j) (fun r j => w1_off _ _ _ _ _ _ r j)

theorem av_off (r : Fin 512) (l : Fin 128) : av m c t.val t.isLt r l = av m c (t.val - 1) (pred_lt t) r l
    + ∑ x : Fin 512, wP m c false t (hd l) x r * iblk m c 4 t (ix2 x l) := by
  unfold av
  rcases Classical.em (t.val % 8 = 7) with h4 | h4
  on_goal 1 => rw [outsAt0_C m c t (by omega) (by omega) hlt (by omega) h4 (by omega)]
  on_goal 2 => rw [outsAt0_B m c t (by omega) (by omega) hlt (by omega) h4 (by omega)]
  all_goals
    frame_out
    rw [read_unread_whole]
    exact dv_off _ _ (wP m c false t) _ _ _ _ _ _ (fun r j => p0_off _ _ _ r j) (fun r j => p1_off _ _ _ r j)

end Off

section Skip

variable (hgt : t.val % 8 < t.val / 8 % 8)
include hgt

/-- Above the diagonal nothing is stored. -/
theorem skip : aq m c t.val t.isLt = aq m c (t.val - 1) (pred_lt t) := by
  unfold aq
  rw [outsAt0_D m c t (by omega) (by omega) (by omega) (by omega) (by omega) (by omega)]
  rfl

end Skip

section On

variable (heq : t.val / 8 % 8 = t.val % 8)
include heq

theorem coords_eq : (grid0.coords t 2).val = (grid0.coords t 1).val := by rw [coord₁, coord₂, heq]
theorem coords_lt : (grid0.coords t 2).val < 8 := by rw [coord₂]; omega

theorem aq_first (h0 : t.val % 64 = 0) (R : Fin 4096) (l : Fin 256) : aq m c t.val t.isLt R l =
    if R.val / 512 = t.val % 8 then ∑ x : Fin 512, wW m c true t (wh l) ⟨R.val % 512, Nat.mod_lt _ (by decide)⟩ x * iblk m c 1 t (ix2 x l) else 0 := by
  unfold aq
  rw [outsAt0_A m c t h0 heq (by omega) heq (by omega) (by omega)]
  frame_out
  rw [canon_rows (View.whole cc0_scratch0) _ _ _ _ (off₂ t) (by decide)]
  by_cases h : R.val / 512 = t.val % 8
  · rw [if_pos h, if_pos h, dq_on _ _ (wW m c true t) _ _ _ _ _ (fun r j => w0_on _ _ _ _ _ _ r j _ _ (coords_eq t heq) (coords_lt t heq))
      (fun r j => w1_on _ _ _ _ _ _ r j _ _ (coords_eq t heq) (coords_lt t heq)), load_rows _ _ (off₂ t) R h]
    pointwise [k0_pay1]
  · rw [if_neg h, if_neg h]
    pointwise [k0_pay1]

theorem aq_on (h0 : ¬t.val % 64 = 0) (R : Fin 4096) (l : Fin 256) : aq m c t.val t.isLt R l = aq m c (t.val - 1) (pred_lt t) R l
    + if R.val / 512 = t.val % 8 then ∑ x : Fin 512, wW m c true t (wh l) ⟨R.val % 512, Nat.mod_lt _ (by decide)⟩ x * iblk m c 1 t (ix2 x l) else 0 := by
  unfold aq
  rcases Classical.em (t.val % 8 = 7) with h4 | h4
  on_goal 1 => rw [outsAt0_F m c t h0 heq (by omega) heq h4 (by omega)]
  on_goal 2 => rw [outsAt0_E m c t h0 heq (by omega) heq h4 (by omega)]
  all_goals
    frame_out
    rw [store_rows (View.whole cc0_scratch0) _ _ _ _ (off₂ t), View.writes_nil, read_unread_whole]
    by_cases h : R.val / 512 = t.val % 8
    · rw [if_pos h, if_pos h, dq_on _ _ (wW m c true t) _ _ _ _ _ (fun r j => w0_on _ _ _ _ _ _ r j _ _ (coords_eq t heq) (coords_lt t heq))
        (fun r j => w1_on _ _ _ _ _ _ r j _ _ (coords_eq t heq) (coords_lt t heq)), load_rows _ _ (off₂ t) R h]
    · rw [if_neg h, if_neg h, add_zero]

/-- On the diagonal the sums over the rows start again. -/
theorem ak_on (r : Fin 512) (l : Fin 256) : ak m c t.val t.isLt r l = ∑ x : Fin 512, wW m c true t (wh l) x r * iblk m c 0 t (ix2 x l) := by
  unfold ak
  rcases Classical.em (t.val % 64 = 0) with h0 | h0
  on_goal 2 => rcases Classical.em (t.val % 8 = 7) with h4 | h4
  on_goal 1 => rw [outsAt0_A m c t h0 heq (by omega) heq (by omega) (by omega)]
  on_goal 2 => rw [outsAt0_F m c t h0 heq (by omega) heq h4 (by omega)]
  on_goal 3 => rw [outsAt0_E m c t h0 heq (by omega) heq h4 (by omega)]
  all_goals
    frame_out
    rw [dk_on _ _ (wW m c true t) _ _ _ _ _ (fun r j => w0_on _ _ _ _ _ _ r j _ _ (coords_eq t heq) (coords_lt t heq))
        (fun r j => w1_on _ _ _ _ _ _ r j _ _ (coords_eq t heq) (coords_lt t heq))]
    pointwise [k0_pay2]

theorem av_on (r : Fin 512) (l : Fin 128) : av m c t.val t.isLt r l = ∑ x : Fin 512, wP m c true t (hd l) x r * iblk m c 4 t (ix2 x l) := by
  unfold av
  rcases Classical.em (t.val % 64 = 0) with h0 | h0
  on_goal 2 => rcases Classical.em (t.val % 8 = 7) with h4 | h4
  on_goal 1 => rw [outsAt0_A m c t h0 heq (by omega) heq (by omega) (by omega)]
  on_goal 2 => rw [outsAt0_F m c t h0 heq (by omega) heq h4 (by omega)]
  on_goal 3 => rw [outsAt0_E m c t h0 heq (by omega) heq h4 (by omega)]
  all_goals
    frame_out
    rw [dv_on _ _ (wP m c true t) _ _ _ _ (fun r j => p0_on' _ _ _ r j _ _ (coords_eq t heq) (coords_lt t heq))
        (fun r j => p1_on' _ _ _ r j _ _ (coords_eq t heq) (coords_lt t heq))]
    pointwise [k0_pay3]

end On

section Out

/-- The outputs, where they are written back, are the accumulators. -/
theorem out_q (h5 : t.val % 64 = 63) (R : Fin 4096) (l : Fin 256) :
    (show EReal from (outsAt0 m c t.val t.isLt).1 (ix2 R l)) = aq m c t.val t.isLt R l := by
  unfold aq
  rw [outsAt0_F m c t (by omega) (by omega) (by omega) (by omega) (by omega) h5]
  frame_out
theorem out_k (h4 : t.val % 8 = 7) (r : Fin 512) (l : Fin 256) :
    (show EReal from (outsAt0 m c t.val t.isLt).2.1 (ix2 r l)) = ak m c t.val t.isLt r l := by
  unfold ak
  rcases Classical.em (t.val % 64 = 63) with h5 | h5
  on_goal 1 => rw [outsAt0_F m c t (by omega) (by omega) (by omega) (by omega) (by omega) h5]
  on_goal 2 => rw [outsAt0_C m c t (by omega) (by omega) (by omega) (by omega) h4 h5]
  all_goals
    frame_out
theorem out_v (h4 : t.val % 8 = 7) (r : Fin 512) (l : Fin 128) :
    (show EReal from (outsAt0 m c t.val t.isLt).2.2.1 (ix2 r l)) = av m c t.val t.isLt r l := by
  unfold av
  rcases Classical.em (t.val % 64 = 63) with h5 | h5
  on_goal 1 => rw [outsAt0_F m c t (by omega) (by omega) (by omega) (by omega) (by omega) h5]
  on_goal 2 => rw [outsAt0_C m c t (by omega) (by omega) (by omega) (by omega) h4 h5]
  all_goals
    frame_out
    rfl
end Out

end Cert.MlaKernelIdeal.Value
-- ==== Proof.Mla.Entry.lean ====
/- The latent attention's backward call: what the call's operands hold when it begins. -/
module

public import proofs.«01_k».proof.Proof.Mla.Point
public import proofs.«01_k».proof.Proof.Fox.Entry

@[expose] public section

set_option maxRecDepth 16384

noncomputable section

open Idealize.ShloMosaic Idealize.ShloMosaic.TcCoe Idealize.SL.Sem

namespace Cert.MlaKernelIdeal.Value

open Cert.MlaKernelIdeal Cert.MlaKernelIdeal.Gen
open Cert.FoxKernelIdeal.Value (rowMax rowSum lseT lseT_of outT outT_at select_le)

variable (m : (ℓ : Loc nD τ sig) → Buf (Elt Ideal) ℓ) (c : Dev nD)

/-- The buffers after each stretch of the host's operations before the call. -/
@[irreducible] def W0 : Valuation τ sig (Elt Ideal) := StableHlo.after hostOps0 (fun b => m (c, b))
@[irreducible] def W1 : Valuation τ sig (Elt Ideal) := StableHlo.after hostOps0_1 (W0 m c)
@[irreducible] def W2 : Valuation τ sig (Elt Ideal) := StableHlo.after hostOps0_2 (W1 m c)
@[irreducible] def W3 : Valuation τ sig (Elt Ideal) := StableHlo.after hostOps0_3 (W2 m c)
@[irreducible] def W4 : Valuation τ sig (Elt Ideal) := StableHlo.after hostOps0_4 (W3 m c)
@[irreducible] def W5 : Valuation τ sig (Elt Ideal) := StableHlo.after hostOps0_5 (W4 m c)
@[irreducible] def W6 : Valuation τ sig (Elt Ideal) := StableHlo.after hostOps0_6 (W5 m c)
@[irreducible] def W7 : Valuation τ sig (Elt Ideal) := StableHlo.after hostOps0_7 (W6 m c)
@[irreducible] def W8 : Valuation τ sig (Elt Ideal) := StableHlo.after hostOps0_8 (W7 m c)

theorem V_eq (b : Ref sig .tc) : V m c b = W8 m c (Proc.devRef .tc b) := by
  unfold W8 W7 W6 W5 W4 W3 W2 W1 W0
  simp only [V, List.flatten_cons, List.flatten_nil, List.append_nil, StableHlo.after_append]

/-- A row of 96 numbers in 128 lanes, zero in the last 32. -/
def lane (f : Fin 96 → EReal) (l : Fin 128) : EReal := if hl : l.val < 96 then f ⟨l.val, hl⟩ else 0

/-- The sum over the lanes is the sum over the numbers. -/
theorem sum_lane (f g : Fin 96 → EReal) : ∑ l : Fin 128, lane f l * lane g l = ∑ x : Fin 96, f x * g x := by
  refine (Fin.sum_univ_add (a := 96) (b := 32) (fun l : Fin 128 => lane f l * lane g l)).trans ?_
  refine (congrArg₂ (· + ·) (Finset.sum_congr rfl fun x _ => ?_) (Finset.sum_eq_zero fun x _ => ?_)).trans (add_zero _)
  · unfold lane
    rw [dif_pos (by simp), dif_pos (by simp)]
    rfl
  · unfold lane
    rw [dif_neg (by simp), dif_neg (by simp), zero_mul]

/-- A column of the lanes of all heads, or of all heads' values: its head and its place there. -/
def hc (l : Fin 1024) : Fin 8 := ⟨l.val / 128, by omega⟩
def lc (l : Fin 1024) : Fin 128 := ⟨l.val % 128, by omega⟩
def hv (l : Fin 512) : Fin 8 := ⟨l.val / 64, by omega⟩
def xv (l : Fin 512) : Fin 64 := ⟨l.val % 64, by omega⟩
/-- The column of place `x` of a head's values, and a column of these in the wider array. -/
def vl (h : Fin 8) (x : Fin 64) : Fin 512 := ⟨h.val * 64 + x.val, by omega⟩
def wide (l : Fin 512) : Fin 1024 := ⟨l.val, by omega⟩

/-- The queries, keys, values and the output's gradient. -/
def fQ (h : Fin 8) (i : Fin 4096) (x : Fin 96) : EReal := m (c, Proc.devRef .tc main_arg0) (ix4 0 h i x)
def fK (h : Fin 8) (i : Fin 4096) (x : Fin 96) : EReal := m (c, Proc.devRef .tc main_arg1) (ix4 0 h i x)
def fV (h : Fin 8) (i : Fin 4096) (x : Fin 64) : EReal := m (c, Proc.devRef .tc main_arg2) (ix4 0 h i x)
def fD (i : Fin 4096) (l : Fin 1024) : EReal := m (c, Proc.devRef .tc main_arg3) (ix3 0 i l)

/-- The score of head `h` between two positions. -/
def fS (h : Fin 8) (i j : Fin 4096) : EReal := (∑ x : Fin 96, fQ m c h i x * fK m c h j x) * cs

/-- The heads' rows, padded to 128 lanes, side by side. -/
def lanesT (X : FVec Ideal S1x8x4096x96 .f32) : FVec Ideal S4096x1024 .bf16 :=
  truncf .bf16 (shapeCast S4096x1024 (transpose S4096x8x128 [1, 0, 2]
    (pad S8x4096x128 ![0, 0, 0] ![0, 0, 32] ![0, 0, 0] (shapeCast S8x4096x96 X shapeCasts_S1x8x4096x96_S8x4096x96) (sitofp .f32 (constantI S_ 32 0#32))
      pads_S8x4096x96_S8x4096x128_000_000_0320 h_S_) transposes_S8x4096x128_S4096x8x128_1_0_2) shapeCasts_S4096x8x128_S4096x1024) bitsLt_bf16_f32

theorem lanesT_at (X : FVec Ideal S1x8x4096x96 .f32) (i : Fin 4096) (l : Fin 1024) :
    lanesT X (ix2 i l) = lane (fun x => X (ix4 0 (hc l) i x)) (lc l) := by
  unfold lanesT hc lc lane
  pointwise
  by_cases h : l.val % 128 < 96
  · rw [dif_pos ⟨by omega, h⟩, dif_pos h]
  · rw [dif_neg (fun h' => h h'.2), dif_neg h]
    show (((0#32 : BitVec 32).toInt : ℝ) : EReal) = 0
    simp

theorem entry_v49 (i : Fin 4096) (l : Fin 1024) : (show EReal from V m c main_v49 (ix2 i l)) = lane (fQ m c (hc l) i) (lc l) := by
  have e : W8 m c (Proc.devRef .tc main_v49) = lanesT (m (c, Proc.devRef .tc main_arg0)) := by
    unfold W8 W7 W6 W5 W4 W3 W2 W1 W0 lanesT
    after_reads_simp
    rfl
  rw [V_eq, e]
  exact lanesT_at _ i l
theorem entry_v54 (i : Fin 4096) (l : Fin 1024) : (show EReal from V m c main_v54 (ix2 i l)) = lane (fK m c (hc l) i) (lc l) := by
  have e : W8 m c (Proc.devRef .tc main_v54) = lanesT (m (c, Proc.devRef .tc main_arg1)) := by
    unfold W8 W7 W6 W5 W4 W3 W2 W1 W0 lanesT
    after_reads_simp
    rfl
  rw [V_eq, e]
  exact lanesT_at _ i l
theorem entry_v58 (i : Fin 4096) (l : Fin 512) : (show EReal from V m c main_v58 (ix2 i l)) = fV m c (hv l) i (xv l) := by
  rw [V_eq]
  unfold W8 W7 W6 W5 W4 W3 W2 W1 W0
  unfold fV hv xv
  after_reads_at
theorem entry_v60 (i : Fin 4096) (l : Fin 1024) : (show EReal from V m c main_v60 (ix2 i l)) = fD m c i l := by
  rw [V_eq]
  unfold W8 W7 W6 W5 W4 W3 W2 W1 W0
  unfold fD
  after_reads_at

theorem W0_v2 (h : Fin 8) (i j : Fin 4096) : (show EReal from W0 m c (Proc.devRef .tc main_v2) (ix4 0 h i j)) = fS m c h i j := by
  unfold W0 fS fQ fK cs
  after_reads_at
theorem W0_v8 (i j : Fin 4096) : W0 m c (Proc.devRef .tc main_v8) (ix2 i j) = IntOp.cmpi .sle (BitVec.ofNat 32 j) (BitVec.ofNat 32 i) := by
  unfold W0
  after_reads_at
theorem W0_cst : (show EReal from W0 m c (Proc.devRef .tc main_cst_0) ix0) = ⊥ := by
  rw [← Cert.Attn.neg_inf]
  unfold W0
  after_reads_at
theorem W2_v27 (h : Fin 8) (i j : Fin 4096) : (show EReal from W2 m c (Proc.devRef .tc main_v27) (ix4 0 h i j)) = fS m c h i j := by
  unfold W2 W1 W0 fS fQ fK cs
  after_reads_at
theorem W2_v33 (i j : Fin 4096) : W2 m c (Proc.devRef .tc main_v33) (ix2 i j) = IntOp.cmpi .sle (BitVec.ofNat 32 j) (BitVec.ofNat 32 i) := by
  unfold W2
  after_reads_at
theorem W2_cst : (show EReal from W2 m c (Proc.devRef .tc main_cst_5) ix0) = ⊥ := by
  rw [← Cert.Attn.neg_inf]
  unfold W2
  after_reads_at

theorem W1_v9 (h : Fin 8) (i j : Fin 4096) : (show EReal from W1 m c (Proc.devRef .tc main_v9) (ix4 0 h i j)) = if j.val ≤ i.val then fS m c h i j else ⊥ := by
  rw [← select_le _ _ (by omega) (by omega), ← W0_v2, ← W0_v8, ← W0_cst m c]
  unfold W1
  after_reads_at
  rfl
theorem W3_v34 (h : Fin 8) (i j : Fin 4096) : (show EReal from W3 m c (Proc.devRef .tc main_v34) (ix4 0 h i j)) = if j.val ≤ i.val then fS m c h i j else ⊥ := by
  rw [← select_le _ _ (by omega) (by omega), ← W2_v27, ← W2_v33 m c, ← W2_cst m c]
  unfold W3
  after_reads_at
  rfl

/-- The masked logits. -/
def fL (h : Fin 8) (i j : Fin 4096) : EReal := if j.val ≤ i.val then fS m c h i j else ⊥

/-- The forward's output and row log-sums. -/
def fO (i : Fin 4096) (l : Fin 512) : EReal :=
    ∑ x, Ideal.div (Ideal.exp (fL m c (hv l) i x - Finset.univ.fold max ⊥ (fL m c (hv l) i)))
      (∑ y, Ideal.exp (fL m c (hv l) i y - Finset.univ.fold max ⊥ (fL m c (hv l) i)))
        * fV m c (hv l) x (xv l)
def fE (h : Fin 8) (i : Fin 4096) : EReal :=
    Finset.univ.fold max ⊥ (fL m c h i) + Ideal.log (∑ x, Ideal.exp (fL m c h i x - Finset.univ.fold max ⊥ (fL m c h i)))

theorem W2_v24 : W2 m c (Proc.devRef .tc main_v24) = outT (W1 m c (Proc.devRef .tc main_v9)) (W1 m c (Proc.devRef .tc main_arg2)) := by
  unfold W2 outT rowMax rowSum
  after_reads_simp
  rfl
theorem W4_v44 : W4 m c (Proc.devRef .tc main_v44) = lseT (W3 m c (Proc.devRef .tc main_v34)) := by
  unfold W4 lseT rowMax rowSum
  after_reads_simp
  rfl

theorem entry_v24 (i : Fin 4096) (l : Fin 512) : (show EReal from V m c main_v24 (ix2 i l)) = fO m c i l := by
  have e : W8 m c (Proc.devRef .tc main_v24) = W2 m c (Proc.devRef .tc main_v24) := by
    unfold W8 W7 W6 W5 W4 W3
    after_reads_simp
  have e' : W1 m c (Proc.devRef .tc main_arg2) = m (c, Proc.devRef .tc main_arg2) := by
    unfold W1 W0
    after_reads_simp
  rw [V_eq, e, W2_v24, e']
  refine (outT_at _ _ _ _).trans ?_
  unfold fO
  refine Finset.sum_congr rfl fun x _ => ?_
  have hL : ∀ x, W1 m c (Proc.devRef .tc main_v9) (ix4 0 (hv l) i x) = fL m c (hv l) i x := fun x => W1_v9 m c _ i x
  simp only [← hL]
  rfl

theorem entry_v44 (h : Fin 8) (i : Fin 4096) : (show EReal from V m c main_v44 (ix3 h i 0)) = fE m c h i := by
  have e : W8 m c (Proc.devRef .tc main_v44) = W4 m c (Proc.devRef .tc main_v44) := by
    unfold W8 W7 W6 W5
    after_reads_simp
  rw [V_eq, e, W4_v44]
  exact lseT_of _ _ _ _ fun x => W3_v34 m c h i x

end Cert.MlaKernelIdeal.Value
-- ==== Proof.Mla.Blocks.lean ====
/- The latent attention's backward call: the blocks of each point, read from the operands. -/
module

public import proofs.«01_k».proof.Proof.Mla.Entry

@[expose] public section

set_option maxRecDepth 16384

noncomputable section

open Idealize.ShloMosaic Idealize.ShloMosaic.TcCoe Idealize.SL.Sem

namespace Cert.MlaKernelIdeal.Value

open Cert.MlaKernelIdeal Cert.MlaKernelIdeal.Gen

variable (m : (ℓ : Loc nD τ sig) → Buf (Elt Ideal) ℓ) (c : Dev nD)

theorem lt_N (t : Fin cfg0.N) : t.val < 256 := t.isLt

/-- The position of row `r` of the point's tile of keys, and of its tile of queries. -/
def kpos (t : Fin cfg0.N) (r : Fin 512) : Fin 4096 := ⟨512 * (t.val / 8 % 8) + r.val, by omega⟩
def qpos (t : Fin cfg0.N) (r : Fin 512) : Fin 4096 := ⟨512 * (t.val % 8) + r.val, by omega⟩
/-- The column of lane `l` of the point's pair of heads: of their values, and of their queries and keys. -/
def col (t : Fin cfg0.N) (l : Fin 128) : Fin 512 := ⟨128 * (t.val / 64) + l.val, by have := lt_N t; omega⟩
def colw (t : Fin cfg0.N) (l : Fin 256) : Fin 1024 := ⟨256 * (t.val / 64) + l.val, by have := lt_N t; omega⟩
/-- The pair's heads. -/
def hpos (t : Fin cfg0.N) (h : Fin 2) : Fin 8 := ⟨2 * (t.val / 64) + h.val, by have := lt_N t; omega⟩

theorem hc_colw (t : Fin cfg0.N) (l : Fin 256) : hc (colw t l) = hpos t (wh l) := Fin.ext (by simp only [hc, colw, hpos, wh]; omega)
theorem lc_colw (t : Fin cfg0.N) (l : Fin 256) : lc (colw t l) = wr l := Fin.ext (by simp only [lc, colw, wr]; omega)

/-- A block read of the saved output, and of the saved log-sums, from any contents of the buffers. -/
theorem gen3 (V' : (b : Ref sig .tc) → Buf (Elt Ideal) ((c : Thread nD τ).loc b)) (t : Fin cfg0.N) (hle : t.val / 8 % 8 ≤ t.val % 8) (r : Fin 512) (l : Fin 128) :
    (show EReal from ((cfg0.win 3).blk t).view.read (Elt Ideal) (V' (Pipeline.arrRef spec0 3)) (ix2 r l)) = V' main_v24 (ix2 (qpos t r) (col t l)) := by
  have idx : ∀ t : Fin cfg0.N, t.val / 8 % 8 ≤ t.val % 8 → win0_3.index t = ![t.val % 8, t.val / 64] := by decide +kernel
  unfold qpos col
  blk_point [idx t hle]
theorem gen5 (V' : (b : Ref sig .tc) → Buf (Elt Ideal) ((c : Thread nD τ).loc b)) (t : Fin cfg0.N) (hle : t.val / 8 % 8 ≤ t.val % 8) (h : Fin 2) (r : Fin 512) :
    (show EReal from ((cfg0.win 5).blk t).view.read (Elt Ideal) (V' (Pipeline.arrRef spec0 5)) (ix3 h r 0)) = V' main_v44 (ix3 (hpos t h) (qpos t r) 0) := by
  have idx : ∀ t : Fin cfg0.N, t.val / 8 % 8 ≤ t.val % 8 → win0_5.index t = ![t.val / 64, t.val % 8, 0] := by decide +kernel
  unfold qpos hpos
  blk_point [idx t hle]

theorem blk1 (t : Fin cfg0.N) (r : Fin 512) (l : Fin 256) : (show EReal from iblk m c 1 t (ix2 r l)) = lane (fK m c (hpos t (wh l)) (kpos t r)) (wr l) := by
  have idx : ∀ t : Fin cfg0.N, win0_1.index t = ![t.val / 8 % 8, t.val / 64] := by decide +kernel
  rw [← hc_colw, ← lc_colw]
  refine Eq.trans ?_ (entry_v54 m c (kpos t r) (colw t l))
  unfold iblk kpos colw
  generalize V m c = V'
  blk_point [idx t]
theorem blk2 (t : Fin cfg0.N) (r : Fin 512) (l : Fin 128) : (show EReal from iblk m c 2 t (ix2 r l)) = fV m c (hv (col t l)) (kpos t r) (xv (col t l)) := by
  have idx : ∀ t : Fin cfg0.N, win0_2.index t = ![t.val / 8 % 8, t.val / 64] := by decide +kernel
  refine Eq.trans ?_ (entry_v58 m c (kpos t r) (col t l))
  unfold iblk kpos col
  generalize V m c = V'
  blk_point [idx t]

variable (t : Fin cfg0.N) (hle : t.val / 8 % 8 ≤ t.val % 8)
include hle

theorem blk0 (r : Fin 512) (l : Fin 256) : (show EReal from iblk m c 0 t (ix2 r l)) = lane (fQ m c (hpos t (wh l)) (qpos t r)) (wr l) := by
  have idx : ∀ t : Fin cfg0.N, t.val / 8 % 8 ≤ t.val % 8 → win0_0.index t = ![t.val % 8, t.val / 64] := by decide +kernel
  rw [← hc_colw, ← lc_colw]
  refine Eq.trans ?_ (entry_v49 m c (qpos t r) (colw t l))
  unfold iblk qpos colw
  generalize V m c = V'
  blk_point [idx t hle]
theorem blk3 (r : Fin 512) (l : Fin 128) : (show EReal from iblk m c 3 t (ix2 r l)) = fO m c (qpos t r) (col t l) := by
  unfold iblk
  exact (gen3 c (V m c) t hle r l).trans (entry_v24 m c _ _)
theorem blk4 (r : Fin 512) (l : Fin 128) : (show EReal from iblk m c 4 t (ix2 r l)) = fD m c (qpos t r) (wide (col t l)) := by
  have idx : ∀ t : Fin cfg0.N, t.val / 8 % 8 ≤ t.val % 8 → win0_4.index t = ![t.val % 8, t.val / 64] := by decide +kernel
  refine Eq.trans ?_ (entry_v60 m c _ _)
  unfold iblk qpos col wide
  generalize V m c = V'
  blk_point [idx t hle]
theorem blk5 (h : Fin 2) (r : Fin 512) : (show EReal from iblk m c 5 t (ix3 h r 0)) = fE m c (hpos t h) (qpos t r) := by
  unfold iblk
  exact (gen5 c (V m c) t hle h r).trans (entry_v44 m c _ _)
end Cert.MlaKernelIdeal.Value
-- ==== Proof.Mla.Sums.lean ====
/- The latent attention's backward call: its results' arrays, as sums over all positions. -/
module

public import proofs.«01_k».proof.Proof.Mla.Blocks
public import proofs.«01_k».proof.Proof.Causal

@[expose] public section

set_option maxRecDepth 16384

noncomputable section

open Idealize.ShloMosaic Idealize.ShloMosaic.TcCoe Idealize.SL.Sem

namespace Cert.MlaKernelIdeal.Value

open Cert.MlaKernelIdeal Cert.MlaKernelIdeal.Gen Cert.Causal Cert.Lanes

variable (m : (ℓ : Loc nD τ sig) → Buf (Elt Ideal) ℓ) (c : Dev nD)

/-- The weight of two positions, the products of the output's gradient with a value and with the output, and the scores' gradient times the scale. -/
def gP (h : Fin 8) (i j : Fin 4096) : EReal :=
  Ideal.exp ((if j.val ≤ i.val then fS m c h i j else ⊥) - fE m c h i)
def gX (h : Fin 8) (i j : Fin 4096) : EReal := ∑ x : Fin 64, fD m c i (wide (vl h x)) * fV m c h j x
def gY (h : Fin 8) (i : Fin 4096) : EReal := ∑ x : Fin 64, fD m c i (wide (vl h x)) * fO m c i (vl h x)
def gW (h : Fin 8) (i j : Fin 4096) : EReal := gP m c h i j * (gX m c h i j - gY m c h i) * cs

theorem gP_masked (h : Fin 8) (i j : Fin 4096) (hij : i < j) : gP m c h i j = 0 := by
  unfold gP
  rw [if_neg (by omega : ¬j.val ≤ i.val), sub_eq_add_neg, EReal.bot_add, Ideal.exp_bot]
theorem gW_masked (h : Fin 8) (i j : Fin 4096) (hij : i < j) : gW m c h i j = 0 := by
  unfold gW
  rw [gP_masked m c h i j hij, zero_mul, zero_mul]

/-- A head of a pair. -/
def hp (p : Fin 4) (h : Fin 2) : Fin 8 := ⟨2 * p.val + h.val, by omega⟩

/-- The column of lane `l` of a pair's values, in the output's gradient. -/
def dcol (p : Fin 4) (l : Fin 128) : Fin 1024 := ⟨128 * p.val + l.val, by omega⟩

theorem col_head (t : Fin cfg0.N) (h : Fin 2) (x : Fin 64) (hx : 64 * h.val + x.val < 128) :
    col t ⟨64 * h.val + x.val, hx⟩ = vl (hpos t h) x := by
  refine Fin.ext ?_
  show 128 * (t.val / 64) + (64 * h.val + x.val) = (2 * (t.val / 64) + h.val) * 64 + x.val
  omega
theorem hv_vl (h : Fin 8) (x : Fin 64) : hv (vl h x) = h := Fin.ext (by simp only [hv, vl]; omega)
theorem xv_vl (h : Fin 8) (x : Fin 64) : xv (vl h x) = x := Fin.ext (by simp only [xv, vl]; omega)
theorem wh_wl (h : Fin 2) (l : Fin 128) : wh (wl h l) = h := Fin.ext (by simp only [wh, wl]; omega)
theorem wr_wl (h : Fin 2) (l : Fin 128) : wr (wl h l) = l := Fin.ext (by simp only [wr, wl]; omega)

variable (t : Fin cfg0.N) (hle : t.val / 8 % 8 ≤ t.val % 8)
include hle

theorem scores_eq (h : Fin 2) (r j : Fin 512) : bS (iblk m c 0 t) (iblk m c 1 t) h r j * cs = fS m c (hpos t h) (qpos t r) (kpos t j) := by
  unfold bS fS
  rw [← sum_lane]
  refine congrArg (· * cs) (Finset.sum_congr rfl fun l _ => congrArg₂ (fun a b : EReal => a * b) ((blk0 m c t hle r _).trans ?_) ((blk1 m c t j _).trans ?_))
  all_goals rw [wh_wl, wr_wl]
theorem values_eq (h : Fin 2) (r j : Fin 512) : bX (iblk m c 2 t) (iblk m c 4 t) h r j = gX m c (hpos t h) (qpos t r) (kpos t j) := by
  unfold bX gX
  rw [sum_head]
  refine Finset.sum_congr rfl fun x _ => congrArg₂ (fun a b : EReal => a * b) ((blk4 m c t hle r _).trans ?_) ((blk2 m c t j _).trans ?_)
  · rw [col_head]
  · rw [col_head, hv_vl, xv_vl]
theorem delta_blk (h : Fin 2) (r : Fin 512) :
    (∑ l : Fin 128, (if l.val / 64 = h.val then (show EReal from iblk m c 4 t (ix2 r l)) else (0 : EReal)) * (show EReal from iblk m c 3 t (ix2 r l))) = gY m c (hpos t h) (qpos t r) := by
  unfold gY
  rw [sum_head]
  refine Finset.sum_congr rfl fun x _ => congrArg₂ (fun a b : EReal => a * b) ((blk4 m c t hle r _).trans ?_) ((blk3 m c t hle r _).trans ?_)
  all_goals rw [col_head]

theorem wP_eq (h : Fin 2) (r j : Fin 512) (dg : Bool) (hdg : dg = decide (t.val / 8 % 8 = t.val % 8)) :
    wP m c dg t h r j = gP m c (hpos t h) (qpos t r) (kpos t j) := by
  unfold wP bP gP
  rw [scores_eq m c t hle, Cert.Attn.neg_inf]
  refine congrArg Ideal.exp (congrArg₂ (fun a b : EReal => a - b) ?_ (blk5 m c t hle h r))
  have hc : (dg = true → j.val ≤ r.val) ↔ (kpos t j).val ≤ (qpos t r).val := by
    subst hdg
    simp only [decide_eq_true_eq, kpos, qpos]
    omega
  exact if_congr hc rfl rfl
theorem wW_eq (h : Fin 2) (r j : Fin 512) (dg : Bool) (hdg : dg = decide (t.val / 8 % 8 = t.val % 8)) :
    wW m c dg t h r j = gW m c (hpos t h) (qpos t r) (kpos t j) := by
  have hP := wP_eq m c t hle h r j dg hdg
  unfold wP at hP
  unfold wW bW gW
  rw [hP, values_eq m c t hle]
  exact congrArg (fun b : EReal => _ * (_ - b) * cs) (delta_blk m c t hle h r)

omit hle

theorem qpos_mod (R : Fin 4096) (hR : R.val / 512 = t.val % 8) : qpos t ⟨R.val % 512, Nat.mod_lt _ (by decide)⟩ = R :=
  Fin.ext (by simp only [qpos]; omega)

theorem sum_q (ht : t.val % 64 = 63) (R : Fin 4096) (l : Fin 256) :
    aq m c t.val t.isLt R l = ∑ j, gW m c (hpos t (wh l)) R j * lane (fK m c (hpos t (wh l)) j) (wr l) := by
  refine run_q (fun n hn R => aq m c n hn R l) (fun t R => ∑ x : Fin 512, wW m c (decide (t.val / 8 % 8 = t.val % 8)) t (wh l) ⟨R.val % 512, Nat.mod_lt _ (by decide)⟩ x * iblk m c 1 t (ix2 x l))
    (fun t h R => ?_) (fun t h h0 R => ?_) (fun t h R => ?_) (fun t h R => congrFun₂ (skip m c t h) R l)
    (fun p R j => gW m c (hp p (wh l)) R j * lane (fK m c (hp p (wh l)) j) (wr l)) (fun t h R hR => ?_) (fun p i j hij => ?_) t ht R
  · rw [decide_eq_true (by omega : t.val / 8 % 8 = t.val % 8)]
    exact aq_first m c t (by omega) h R l
  · rw [decide_eq_true h]
    exact aq_on m c t h h0 R l
  · rw [decide_eq_false (by omega : ¬t.val / 8 % 8 = t.val % 8)]
    exact aq_off m c t h R l
  · refine Finset.sum_congr rfl fun x _ => congrArg₂ (fun a b : EReal => a * b) ((wW_eq m c t h (wh l) _ x _ rfl).trans ?_) (blk1 m c t x l)
    rw [qpos_mod t R hR]
    rfl
  · rw [gW_masked m c _ i j hij, zero_mul]

theorem sum_k (ht : t.val % 8 = 7) (r : Fin 512) (l : Fin 256) :
    ak m c t.val t.isLt r l = ∑ i, gW m c (hpos t (wh l)) i (kpos t r) * lane (fQ m c (hpos t (wh l)) i) (wr l) := by
  refine run_k (fun n hn r => ak m c n hn r l) (fun t r => ∑ x : Fin 512, wW m c (decide (t.val / 8 % 8 = t.val % 8)) t (wh l) x r * iblk m c 0 t (ix2 x l))
    (fun t h r => ?_) (fun t h r => ?_)
    (fun p j i => gW m c (hp p (wh l)) i j * lane (fQ m c (hp p (wh l)) i) (wr l)) (fun t h r => ?_) (fun p j i hij => ?_) t ht r
  · rw [decide_eq_true h]
    exact ak_on m c t h r l
  · rw [decide_eq_false (by omega : ¬t.val / 8 % 8 = t.val % 8)]
    exact ak_off m c t h r l
  · exact Finset.sum_congr rfl fun x _ => congrArg₂ (fun a b : EReal => a * b) (wW_eq m c t h (wh l) x r _ rfl) (blk0 m c t h x l)
  · rw [gW_masked m c _ i j hij, zero_mul]

theorem sum_v (ht : t.val % 8 = 7) (r : Fin 512) (l : Fin 128) :
    av m c t.val t.isLt r l = ∑ i, gP m c (hpos t (hd l)) i (kpos t r) * fD m c i (wide (col t l)) := by
  refine run_k (fun n hn r => av m c n hn r l) (fun t r => ∑ x : Fin 512, wP m c (decide (t.val / 8 % 8 = t.val % 8)) t (hd l) x r * iblk m c 4 t (ix2 x l))
    (fun t h r => ?_) (fun t h r => ?_)
    (fun p j i => gP m c (hp p (hd l)) i j * fD m c i (dcol p l)) (fun t h r => ?_) (fun p j i hij => ?_) t ht r
  · rw [decide_eq_true h]
    exact av_on m c t h r l
  · rw [decide_eq_false (by omega : ¬t.val / 8 % 8 = t.val % 8)]
    exact av_off m c t h r l
  · exact Finset.sum_congr rfl fun x _ => congrArg₂ (fun a b : EReal => a * b) (wP_eq m c t h (hd l) x r _ rfl) (blk4 m c t h x l)
  · rw [gP_masked m c _ i j hij, zero_mul]

/-! ## The arrays -/

def DQ : FVec Ideal S4096x1024 .f32 := fun i => ∑ j, gW m c (hc (i 1)) (i 0) j * lane (fK m c (hc (i 1)) j) (lc (i 1))
def DK : FVec Ideal S4096x1024 .f32 := fun i => ∑ k, gW m c (hc (i 1)) k (i 0) * lane (fQ m c (hc (i 1)) k) (lc (i 1))
def DV : FVec Ideal S4096x512 .bf16 := fun i => ∑ k, gP m c (hv (i 1)) k (i 0) * fD m c k (wide (i 1))

theorem put6 (X : FVec Ideal S4096x1024 .f32) (t : Fin cfg0.N) (R : Fin 4096) (l : Fin 256) :
    (show EReal from ((cfg0.win 6).blk t).view.read (Elt Ideal) X (ix2 R l)) = X (ix2 R (colw t l)) := by
  have idx : ∀ t : Fin cfg0.N, win0_6.index t = ![0, t.val / 64] := by decide +kernel
  unfold colw
  blk_point [idx t]
theorem put7 (X : FVec Ideal S4096x1024 .f32) (t : Fin cfg0.N) (r : Fin 512) (l : Fin 256) :
    (show EReal from ((cfg0.win 7).blk t).view.read (Elt Ideal) X (ix2 r l)) = X (ix2 (kpos t r) (colw t l)) := by
  have idx : ∀ t : Fin cfg0.N, win0_7.index t = ![t.val / 8 % 8, t.val / 64] := by decide +kernel
  unfold kpos colw
  blk_point [idx t]
theorem put8 (X : FVec Ideal S4096x512 .bf16) (t : Fin cfg0.N) (r : Fin 512) (l : Fin 128) :
    (show EReal from ((cfg0.win 8).blk t).view.read (Elt Ideal) X (ix2 r l)) = X (ix2 (kpos t r) (col t l)) := by
  have idx : ∀ t : Fin cfg0.N, win0_8.index t = ![t.val / 8 % 8, t.val / 64] := by decide +kernel
  unfold kpos col
  blk_point [idx t]

theorem final_q : (dats m 0 c).arrAt 6 (cfgs 0).N = DQ m c := by
  refine (dats m 0 c).arrAt_eq_of_covers 6 _ (by decide +kernel) fun t hf y => ?_
  have ht := (flush0_6 t).mp hf
  obtain ⟨R, l, rfl⟩ : ∃ (R : Fin 4096) (l : Fin 256), y = ix2 R l := ⟨y 0, y 1, eq_ix2 y⟩
  rw [after0_6]
  refine (out_q m c t ht R l).trans ((sum_q m c t ht R l).trans (Eq.trans ?_ (put6 (DQ m c) t R l).symm))
  rw [← hc_colw, ← lc_colw]
  rfl
theorem final_k : (dats m 0 c).arrAt 7 (cfgs 0).N = DK m c := by
  refine (dats m 0 c).arrAt_eq_of_covers 7 _ (by decide +kernel) fun t hf y => ?_
  have ht := (flush0_7 t).mp hf
  obtain ⟨R, l, rfl⟩ : ∃ (R : Fin 512) (l : Fin 256), y = ix2 R l := ⟨y 0, y 1, eq_ix2 y⟩
  rw [after0_7]
  refine (out_k m c t ht R l).trans ((sum_k m c t ht R l).trans (Eq.trans ?_ (put7 (DK m c) t R l).symm))
  rw [← hc_colw, ← lc_colw]
  rfl
theorem final_v : (dats m 0 c).arrAt 8 (cfgs 0).N = DV m c := by
  refine (dats m 0 c).arrAt_eq_of_covers 8 _ (by decide +kernel) fun t hf y => ?_
  have ht := (flush0_8 t).mp hf
  obtain ⟨R, l, rfl⟩ : ∃ (R : Fin 512) (l : Fin 128), y = ix2 R l := ⟨y 0, y 1, eq_ix2 y⟩
  rw [after0_8]
  refine (out_v m c t ht R l).trans ((sum_v m c t ht R l).trans (Eq.trans ?_ (put8 (DV m c) t R l).symm))
  have e : hpos t (hd l) = hv (col t l) := Fin.ext (by simp only [hpos, hd, hv, col]; omega)
  rw [e]
  rfl

end Cert.MlaKernelIdeal.Value
-- ==== Proof.Mla.Real.lean ====
/- The latent attention's backward call: the weights and the scores' gradient when the arguments are real numbers. -/
module

public import proofs.«01_k».proof.Proof.Mla.Sums
public import proofs.«01_k».proof.Proof.Fox.Real

@[expose] public section

set_option maxRecDepth 16384

noncomputable section

open Idealize.ShloMosaic Idealize.ShloMosaic.TcCoe Idealize.SL.Sem

namespace Cert.MlaKernelIdeal.Value

open Cert.MlaKernelIdeal Cert.MlaKernelIdeal.Gen Cert.Attn
open Cert.FoxKernelIdeal.Value (coe_dot)

section
variable (Q K : Fin 8 → Fin 4096 → Fin 96 → ℝ) (U : Fin 8 → Fin 4096 → Fin 64 → ℝ) (G : Fin 4096 → Fin 512 → ℝ)

/-- The scale, the scores and the weights' gradient over the reals. -/
def sc : ℝ := 13698540 / 134217728
def sR (h : Fin 8) (i j : Fin 4096) : ℝ := (∑ x : Fin 96, Q h i x * K h j x) * sc
def dR (h : Fin 8) (i j : Fin 4096) : ℝ := ∑ x : Fin 64, G i (vl h x) * U h j x
end

variable (m : (ℓ : Loc nD τ sig) → Buf (Elt Ideal) ℓ) (c : Dev nD)

theorem cs_eq : cs = ((sc : ℝ) : EReal) := by
  unfold cs sc
  simp [Ideal.ofBits, Ideal.ieee, -EReal.coe_mul]; norm_num

variable (Q K : Fin 8 → Fin 4096 → Fin 96 → ℝ) (U : Fin 8 → Fin 4096 → Fin 64 → ℝ) (G : Fin 4096 → Fin 512 → ℝ)
  (hQ : ∀ h i x, fQ m c h i x = (Q h i x : EReal)) (hK : ∀ h i x, fK m c h i x = (K h i x : EReal))
  (hU : ∀ h i x, fV m c h i x = (U h i x : EReal)) (hG : ∀ i l, fD m c i (wide l) = (G i l : EReal))

include hQ hK in
theorem fS_real (h : Fin 8) (i j : Fin 4096) : fS m c h i j = (sR Q K h i j : EReal) := by
  unfold fS sR
  refine (congrArg₂ (· * ·) (coe_dot _ _ _ _ (fun x => hQ h i x) (fun x => hK h j x)) cs_eq).trans ?_
  rw [← EReal.coe_mul]
include hQ hK in
theorem fL_real (h : Fin 8) (i j : Fin 4096) : fL m c h i j = logit (sR Q K h i) i j := by
  unfold fL logit
  exact if_congr Iff.rfl (fS_real m c Q K hQ hK h i j) rfl
include hQ hK hU in
theorem fO_real (i : Fin 4096) (l : Fin 512) :
    fO m c i l = ((∑ x, soft (sR Q K (hv l) i) i x * U (hv l) x (xv l) : ℝ) : EReal) := by
  unfold fO
  exact coe_dot _ _ _ _ (fun x => row_soft _ i x _ (fL_real m c Q K hQ hK (hv l) i) _ rfl) (fun x => hU _ x _)
include hQ hK in
theorem fE_real (h : Fin 8) (i : Fin 4096) : fE m c h i = ((Real.log (tot (sR Q K h i) i) : ℝ) : EReal) := by
  unfold fE
  exact row_lse _ i _ (fL_real m c Q K hQ hK h i) _ rfl
include hQ hK in
theorem gP_real (h : Fin 8) (i j : Fin 4096) : gP m c h i j = ((soft (sR Q K h i) i j : ℝ) : EReal) := by
  unfold gP
  rw [fE_real m c Q K hQ hK, ← soft_of_lse]
  exact congrArg (fun a : EReal => Ideal.exp (a - _)) (fL_real m c Q K hQ hK h i j)
include hU hG in
theorem gX_real (h : Fin 8) (i j : Fin 4096) : gX m c h i j = ((dR U G h i j : ℝ) : EReal) := by
  unfold gX dR
  exact coe_dot _ _ _ _ (fun x => hG i (vl h x)) (fun x => hU h j x)
include hQ hK hU hG in
theorem gY_real (h : Fin 8) (i : Fin 4096) : gY m c h i = ((∑ k, soft (sR Q K h i) i k * dR U G h i k : ℝ) : EReal) := by
  unfold gY dR
  rw [← delta_eq]
  refine coe_dot _ _ _ _ (fun x => hG i (vl h x)) (fun x => (fO_real m c Q K U hQ hK hU i (vl h x)).trans ?_)
  rw [hv_vl, xv_vl]
include hQ hK hU hG in
theorem gW_real (h : Fin 8) (i j : Fin 4096) : gW m c h i j = ((dsoft (sR Q K h i) (dR U G h i) i j : ℝ) : EReal) * cs := by
  unfold gW dsoft
  rw [gP_real m c Q K hQ hK, gX_real m c U G hU hG, gY_real m c Q K U G hQ hK hU hG, ← EReal.coe_sub, ← EReal.coe_mul]

end Cert.MlaKernelIdeal.Value

end
-- ==== Proof.Mla.Ref.lean ====
/- The latent attention's reference gradient, entry by entry, when the arguments are real numbers. -/
module

public import proofs.«01_k».proof.Proof.RefAttn
public import proofs.«01_k».proof.Proof.Mla.Real
public import proofs.«01_k».proof.Proof.Gen.MlaReferenceIdeal.Run

@[expose] public section

set_option maxRecDepth 16384

noncomputable section

open Idealize.ShloMosaic Idealize.ShloMosaic.TcCoe Idealize.SL.Sem

namespace Cert.MlaReferenceIdeal.Value

open Cert.MlaReferenceIdeal Cert.MlaReferenceIdeal.Gen Cert.Attn Cert.RefAttn
open Cert.FoxKernelIdeal.Value (coe_dot)
open Cert.MlaKernelIdeal.Value (lane hc lc hv xv vl wide cs cs_eq sc sR dR)

/-- The heads of the output's gradient. -/
def doT (a3 : FVec Ideal S1x4096x1024 .f32) : FVec Ideal S1x8x4096x64 .f32 :=
  transpose S1x8x4096x64 [0, 2, 1, 3] (shapeCast S1x4096x8x64 (extractStridedSlice S1x4096x512 ![0, 0, 0] a3 slices_S1x4096x1024_S1x4096x512_0_0_0)
    shapeCasts_S1x4096x512_S1x4096x8x64) transposes_S1x4096x8x64_S1x8x4096x64_0_2_1_3
/-- The columns of the heads. -/
def mergeT (X : FVec Ideal S1x8x4096x64 .f32) : FVec Ideal S4096x512 .bf16 :=
  truncf .bf16 (shapeCast S4096x512 (shapeCast S1x4096x512 (transpose S1x4096x8x64 [0, 2, 1, 3] X transposes_S1x8x4096x64_S1x4096x8x64_0_2_1_3)
    shapeCasts_S1x4096x8x64_S1x4096x512) shapeCasts_S1x4096x512_S4096x512) bitsLt_bf16_f32
/-- The heads' columns, each padded to 128. -/
def padT (X : FVec Ideal S1x8x4096x96 .f32) : FVec Ideal S4096x1024 .f32 :=
  shapeCast S4096x1024 (shapeCast S1x4096x1024 (transpose S1x4096x8x128 [0, 2, 1, 3]
    (pad S1x8x4096x128 ![0, 0, 0, 0] ![0, 0, 0, 32] ![0, 0, 0, 0] X (sitofp .f32 (constantI S_ 32 0#32)) pads_S1x8x4096x96_S1x8x4096x128_000_000_000_0320 h_S_)
    transposes_S1x8x4096x128_S1x4096x8x128_0_2_1_3) shapeCasts_S1x4096x8x128_S1x4096x1024) shapeCasts_S1x4096x1024_S4096x1024
def scaleT : FVec Ideal S1x8x4096x4096 .f32 := broadcastInDim S1x8x4096x4096 ![] bcast_S_S1x8x4096x4096 (constant S_ .f32 0x3DD105EC#32)
def dotT (q k : FVec Ideal S1x8x4096x64 .f32) : FVec Ideal S1x8x4096x4096 .f32 := Host.dotGeneral dot_S1x8x4096x64_S1x8x4096x64_S1x8x4096x4096_3_3_2_2_01_01 none q k

variable (a0 a1 : FVec Ideal S1x8x4096x96 .f32) (a2 : FVec Ideal S1x8x4096x64 .f32) (a3 : FVec Ideal S1x4096x1024 .f32)

/-- The masked logits, and the scores' gradient. -/
def LT : FVec Ideal S1x8x4096x4096 .f32 := logitT (mulf (Host.dotGeneral dot_S1x8x4096x96_S1x8x4096x96_S1x8x4096x4096_3_3_2_2_01_01 none a0 a1) scaleT)
def dsT : FVec Ideal S1x8x4096x4096 .f32 := gradT (LT a0 a1) (dotT (doT a3) a2)

section
variable (m : (ℓ : Loc nD τ sig) → Buf (Elt Ideal) ℓ) (c : Dev nD)

theorem res_q : res_main_v68 m c = padT (Host.dotGeneral (φ₂ := .f32) dot_S1x8x4096x4096_S1x8x4096x96_S1x8x4096x96_3_2_2_3_01_01 none
    (mulf (dsT (m ((c.tc : Thread nD τ).loc main_arg0)) (m ((c.tc : Thread nD τ).loc main_arg1)) (m ((c.tc : Thread nD τ).loc main_arg2)) (m ((c.tc : Thread nD τ).loc main_arg3))) scaleT)
    (m ((c.tc : Thread nD τ).loc main_arg1))) := by
  unfold res_main_v68 padT dsT LT gradT logitT backT expT rowMax rowSum
  rfl
theorem res_k : res_main_v72 m c = padT (Host.dotGeneral (φ₂ := .f32) dot_S1x8x4096x4096_S1x8x4096x96_S1x8x4096x96_2_2_3_3_01_01 none
    (mulf (dsT (m ((c.tc : Thread nD τ).loc main_arg0)) (m ((c.tc : Thread nD τ).loc main_arg1)) (m ((c.tc : Thread nD τ).loc main_arg2)) (m ((c.tc : Thread nD τ).loc main_arg3))) scaleT)
    (m ((c.tc : Thread nD τ).loc main_arg0))) := by
  unfold res_main_v72 padT dsT LT gradT logitT backT expT rowMax rowSum
  rfl
theorem res_v : res_main_v76 m c = mergeT (transpose S1x8x4096x64 [0, 1, 3, 2] (Host.dotGeneral dot_S1x8x4096x64_S1x8x4096x4096_S1x8x64x4096_2_2_3_3_01_01 none
    (doT (m ((c.tc : Thread nD τ).loc main_arg3)))
    (softT (LT (m ((c.tc : Thread nD τ).loc main_arg0)) (m ((c.tc : Thread nD τ).loc main_arg1))))) transposes_S1x8x64x4096_S1x8x4096x64_0_1_3_2) := by
  unfold res_main_v76 LT softT logitT expT rowMax rowSum
  rfl
end

theorem mergeT_at (X : FVec Ideal S1x8x4096x64 .f32) (i : Fin 4096) (l : Fin 512) : mergeT X (ix2 i l) = X (ix4 0 (hv l) i (xv l)) := by
  unfold mergeT hv xv
  pointwise
theorem doT_at (h : Fin 8) (i : Fin 4096) (x : Fin 64) : doT a3 (ix4 0 h i x) = a3 (ix3 0 i (wide (vl h x))) := by
  unfold doT wide vl
  pointwise
theorem padT_at (X : FVec Ideal S1x8x4096x96 .f32) (i : Fin 4096) (l : Fin 1024) : padT X (ix2 i l) = lane (fun x => X (ix4 0 (hc l) i x)) (lc l) := by
  unfold padT hc lc lane
  pointwise
  refine dite_congr (propext ⟨fun h => h.2, fun h => ⟨by omega, h⟩⟩) (fun _ => rfl) (fun _ => ?_)
  show (((0#32 : BitVec 32).toInt : ℝ) : EReal) = 0
  simp
theorem dotT_at (q k : FVec Ideal S1x8x4096x64 .f32) (h : Fin 8) (i j : Fin 4096) : dotT q k (ix4 0 h i j) = ∑ x, q (ix4 0 h i x) * k (ix4 0 h j x) := by
  unfold dotT
  pointwise
theorem score_at (h : Fin 8) (i j : Fin 4096) : mulf (Host.dotGeneral dot_S1x8x4096x96_S1x8x4096x96_S1x8x4096x4096_3_3_2_2_01_01 none a0 a1) scaleT (ix4 0 h i j)
    = (∑ x, a0 (ix4 0 h i x) * a1 (ix4 0 h j x)) * cs := by
  unfold scaleT cs
  pointwise

variable (Q K : Fin 8 → Fin 4096 → Fin 96 → ℝ) (U : Fin 8 → Fin 4096 → Fin 64 → ℝ) (G : Fin 4096 → Fin 512 → ℝ)
  (hQ : ∀ (h : Fin 8) (i : Fin 4096) (x : Fin 96), a0 (ix4 0 h i x) = (Q h i x : EReal)) (hK : ∀ (h : Fin 8) (i : Fin 4096) (x : Fin 96), a1 (ix4 0 h i x) = (K h i x : EReal))
  (hU : ∀ (h : Fin 8) (i : Fin 4096) (x : Fin 64), a2 (ix4 0 h i x) = (U h i x : EReal)) (hG : ∀ (i : Fin 4096) (l : Fin 512), a3 (ix3 0 i (wide l)) = (G i l : EReal))

include hQ hK in
theorem LT_real (h : Fin 8) (i j : Fin 4096) : LT a0 a1 (ix4 0 h i j) = logit (sR Q K h i) i j := by
  unfold LT logit sR
  rw [logitT_at, score_at]
  refine if_congr Iff.rfl ?_ rfl
  rw [coe_dot _ _ _ _ (fun x => hQ h i x) (fun x => hK h j x), cs_eq, ← EReal.coe_mul]
include hU hG in
theorem dp_real (h : Fin 8) (i j : Fin 4096) : dotT (doT a3) a2 (ix4 0 h i j) = ((dR U G h i j : ℝ) : EReal) := by
  rw [dotT_at]
  exact coe_dot _ _ _ _ (fun x => (doT_at a3 h i x).trans (hG i (vl h x))) (fun x => hU h j x)
include hQ hK hU hG in
theorem dsT_real (h : Fin 8) (i j : Fin 4096) : dsT a0 a1 a2 a3 (ix4 0 h i j) = ((dsoft (sR Q K h i) (dR U G h i) i j : ℝ) : EReal) := by
  unfold dsT
  exact gradT_at _ _ h i j _ _ (LT_real a0 a1 Q K hQ hK h i) (dp_real a2 a3 U G hU hG h i)

theorem vl_hv (l : Fin 512) : vl (hv l) (xv l) = l := Fin.ext (by simp only [vl, hv, xv]; omega)

/-- A sum in every lane. -/
theorem lane_sum (w : Fin 4096 → EReal) (f : Fin 4096 → Fin 96 → EReal) (l : Fin 128) :
    lane (fun x => ∑ j, w j * f j x) l = ∑ j, w j * lane (f j) l := by
  unfold lane
  by_cases h : l.val < 96
  · simp only [dif_pos h]
  · simp only [dif_neg h, mul_zero, Finset.sum_const_zero]

include hQ hK hU hG in
theorem ref_q (i : Fin 4096) (l : Fin 1024) : padT (Host.dotGeneral (φ₂ := .f32) dot_S1x8x4096x4096_S1x8x4096x96_S1x8x4096x96_3_2_2_3_01_01 none (mulf (dsT a0 a1 a2 a3) scaleT) a1) (ix2 i l)
    = ∑ j, ((dsoft (sR Q K (hc l) i) (dR U G (hc l) i) i j : ℝ) : EReal) * cs * lane (fun x => a1 (ix4 0 (hc l) j x)) (lc l) := by
  have h3 (g : FVec Ideal S1x8x4096x4096 .f32) (h : Fin 8) (x : Fin 96) :
      Host.dotGeneral dot_S1x8x4096x4096_S1x8x4096x96_S1x8x4096x96_3_2_2_3_01_01 none (mulf g scaleT) a1 (ix4 0 h i x) = ∑ j, g (ix4 0 h i j) * cs * a1 (ix4 0 h j x) := by
    unfold scaleT cs
    pointwise
  rw [padT_at]
  simp only [h3, dsT_real a0 a1 a2 a3 Q K U G hQ hK hU hG]
  exact lane_sum _ _ _
include hQ hK hU hG in
theorem ref_k (j : Fin 4096) (l : Fin 1024) : padT (Host.dotGeneral (φ₂ := .f32) dot_S1x8x4096x4096_S1x8x4096x96_S1x8x4096x96_2_2_3_3_01_01 none (mulf (dsT a0 a1 a2 a3) scaleT) a0) (ix2 j l)
    = ∑ i, ((dsoft (sR Q K (hc l) i) (dR U G (hc l) i) i j : ℝ) : EReal) * cs * lane (fun x => a0 (ix4 0 (hc l) i x)) (lc l) := by
  have h3 (g : FVec Ideal S1x8x4096x4096 .f32) (h : Fin 8) (x : Fin 96) :
      Host.dotGeneral dot_S1x8x4096x4096_S1x8x4096x96_S1x8x4096x96_2_2_3_3_01_01 none (mulf g scaleT) a0 (ix4 0 h j x) = ∑ i, g (ix4 0 h i j) * cs * a0 (ix4 0 h i x) := by
    unfold scaleT cs
    pointwise
  rw [padT_at]
  simp only [h3, dsT_real a0 a1 a2 a3 Q K U G hQ hK hU hG]
  exact lane_sum _ _ _
include hQ hK in
theorem ref_v (j : Fin 4096) (l : Fin 512) : mergeT (transpose S1x8x4096x64 [0, 1, 3, 2] (Host.dotGeneral dot_S1x8x4096x64_S1x8x4096x4096_S1x8x64x4096_2_2_3_3_01_01 none (doT a3) (softT (LT a0 a1)))
      transposes_S1x8x64x4096_S1x8x4096x64_0_1_3_2) (ix2 j l)
    = ∑ i, ((soft (sR Q K (hv l) i) i j : ℝ) : EReal) * a3 (ix3 0 i (wide l)) := by
  have h3 (g : FVec Ideal S1x8x4096x4096 .f32) (d : FVec Ideal S1x8x4096x64 .f32) (h : Fin 8) (x : Fin 64) :
      transpose S1x8x4096x64 [0, 1, 3, 2] (Host.dotGeneral dot_S1x8x4096x64_S1x8x4096x4096_S1x8x64x4096_2_2_3_3_01_01 none d g) transposes_S1x8x64x4096_S1x8x4096x64_0_1_3_2 (ix4 0 h j x)
        = ∑ i, d (ix4 0 h i x) * g (ix4 0 h i j) := by
    pointwise
  rw [mergeT_at, h3]
  refine Finset.sum_congr rfl fun i _ => Eq.trans (mul_comm (G := EReal) _ _) (congrArg₂ (fun a b : EReal => a * b) (softT_at _ _ _ _ _ (LT_real a0 a1 Q K hQ hK _ _)) ((doT_at a3 _ _ _).trans ?_))
  rw [vl_hv]

end Cert.MlaReferenceIdeal.Value

end
-- ==== Proof.MlaClaim.lean ====
/- The claims about the latent attention's gradient. -/
module

public import proofs.«01_k».proof.Defs
public import proofs.«01_k».proof.Proof.Finite
public import proofs.«01_k».proof.Proof.Mla.Ref
public import proofs.«01_k».proof.Proof.Gen.MlaKernel.Frame
public import proofs.«01_k».proof.Proof.Gen.MlaKernel
public import proofs.«01_k».proof.Proof.Gen.MlaKernelIdeal
public import proofs.«01_k».proof.Proof.Gen.MlaReferenceIdeal
public import Idealize.ShloMosaic.Lib.Claim

@[expose] public section

set_option maxRecDepth 16384

noncomputable section

open Idealize.ShloMosaic Idealize.ShloMosaic.TcCoe Idealize.SL.Sem

namespace Cert.Pre_mla_finite

theorem facts : Cert.Pre_mla_finite.Facts where
  bcast_S_S1x8x4096x96 := by decide
  bcast_S_S1x8x4096x64 := by decide
  slices_S1x4096x1024_S1x4096x512_0_0_0 := by decide
  bcast_S_S1x4096x512 := by decide

end Cert.Pre_mla_finite

namespace Cert.MlaKernelIdeal.Value

open Cert.MlaKernelIdeal Cert.MlaKernelIdeal.Gen Cert.Attn

attribute [local instance] Cert.Pre_mla_finite.facts

variable (m : (ℓ : Loc nD τ sig) → Buf (Elt Ideal) ℓ) (hm : Cert.Pre_MlaKernelIdeal_mla_finite m) (c : Dev nD)

theorem slice_at (a : FVec Ideal S1x4096x1024 .f32) (i : Fin 4096) (k : Fin 512) :
    extractStridedSlice Cert.Pre_mla_finite.S1x4096x512 ![0, 0, 0] a Cert.Pre_mla_finite.Facts.slices_S1x4096x1024_S1x4096x512_0_0_0 (ix3 0 i k) = a (ix3 0 i (wide k)) := by
  unfold wide
  pointwise

include hm
theorem real_q (h : Fin 8) (i : Fin 4096) (x : Fin 96) : ∃ r : ℝ, fQ m c h i x = r :=
  Cert.Finite.real_of_lt _ (congrFun (hm c).1 (ix4 0 h i x))
theorem real_k (h : Fin 8) (i : Fin 4096) (x : Fin 96) : ∃ r : ℝ, fK m c h i x = r :=
  Cert.Finite.real_of_lt _ (congrFun (hm c).2.1 (ix4 0 h i x))
theorem real_v (h : Fin 8) (i : Fin 4096) (x : Fin 64) : ∃ r : ℝ, fV m c h i x = r :=
  Cert.Finite.real_of_lt _ (congrFun (hm c).2.2.1 (ix4 0 h i x))
theorem real_d (i : Fin 4096) (l : Fin 512) : ∃ r : ℝ, fD m c i (wide l) = r := by
  obtain ⟨r, hr⟩ := Cert.Finite.real_of_lt _ (congrFun (hm c).2.2.2 (ix3 0 i l))
  exact ⟨r, (slice_at _ i l).symm.trans hr⟩

theorem reals : ∃ (Q K : Fin 8 → Fin 4096 → Fin 96 → ℝ) (U : Fin 8 → Fin 4096 → Fin 64 → ℝ) (G : Fin 4096 → Fin 512 → ℝ),
    (∀ h i x, fQ m c h i x = (Q h i x : EReal)) ∧ (∀ h i x, fK m c h i x = (K h i x : EReal))
      ∧ (∀ h i x, fV m c h i x = (U h i x : EReal)) ∧ (∀ i l, fD m c i (wide l) = (G i l : EReal)) := by
  choose Q hQ using real_q m hm c
  choose K hK using real_k m hm c
  choose U hU using real_v m hm c
  choose G hG using real_d m hm c
  exact ⟨Q, K, U, G, hQ, hK, hU, hG⟩

section
variable (m' : (ℓ : Loc Cert.MlaReferenceIdeal.nD Cert.MlaReferenceIdeal.τ Cert.MlaReferenceIdeal.sig) → Buf (Elt Ideal) ℓ)
  (h : m' ((c.tc : Thread Cert.MlaReferenceIdeal.nD Cert.MlaReferenceIdeal.τ).loc Cert.MlaReferenceIdeal.main_arg0) = m ((c.tc : Thread nD τ).loc main_arg0)
      ∧ m' ((c.tc : Thread Cert.MlaReferenceIdeal.nD Cert.MlaReferenceIdeal.τ).loc Cert.MlaReferenceIdeal.main_arg1) = m ((c.tc : Thread nD τ).loc main_arg1)
      ∧ m' ((c.tc : Thread Cert.MlaReferenceIdeal.nD Cert.MlaReferenceIdeal.τ).loc Cert.MlaReferenceIdeal.main_arg2) = m ((c.tc : Thread nD τ).loc main_arg2)
      ∧ m' ((c.tc : Thread Cert.MlaReferenceIdeal.nD Cert.MlaReferenceIdeal.τ).loc Cert.MlaReferenceIdeal.main_arg3) = m ((c.tc : Thread nD τ).loc main_arg3))
include h

theorem ref_dq : Cert.MlaReferenceIdeal.Value.res_main_v68 m' c = DQ m c := by
  obtain ⟨Q, K, U, G, hQ, hK, hU, hG⟩ := reals m hm c
  rw [Cert.MlaReferenceIdeal.Value.res_q, h.1, h.2.1, h.2.2.1, h.2.2.2]
  funext y
  obtain ⟨i, l, rfl⟩ : ∃ (i : Fin 4096) (l : Fin 1024), y = ix2 i l := ⟨y 0, y 1, eq_ix2 y⟩
  refine (Cert.MlaReferenceIdeal.Value.ref_q _ _ _ _ Q K U G hQ hK hU hG i l).trans (Finset.sum_congr rfl fun j _ => ?_)
  exact congrArg (fun a : EReal => a * lane (fK m c (hc l) j) (lc l)) (gW_real m c Q K U G hQ hK hU hG (hc l) i j).symm
theorem ref_dk : Cert.MlaReferenceIdeal.Value.res_main_v72 m' c = DK m c := by
  obtain ⟨Q, K, U, G, hQ, hK, hU, hG⟩ := reals m hm c
  rw [Cert.MlaReferenceIdeal.Value.res_k, h.1, h.2.1, h.2.2.1, h.2.2.2]
  funext y
  obtain ⟨j, l, rfl⟩ : ∃ (i : Fin 4096) (l : Fin 1024), y = ix2 i l := ⟨y 0, y 1, eq_ix2 y⟩
  refine (Cert.MlaReferenceIdeal.Value.ref_k _ _ _ _ Q K U G hQ hK hU hG j l).trans (Finset.sum_congr rfl fun i _ => ?_)
  exact congrArg (fun a : EReal => a * lane (fQ m c (hc l) i) (lc l)) (gW_real m c Q K U G hQ hK hU hG (hc l) i j).symm
theorem ref_dv : Cert.MlaReferenceIdeal.Value.res_main_v76 m' c = DV m c := by
  obtain ⟨Q, K, U, G, hQ, hK, hU, hG⟩ := reals m hm c
  rw [Cert.MlaReferenceIdeal.Value.res_v, h.1, h.2.1, h.2.2.2]
  funext y
  obtain ⟨j, l, rfl⟩ : ∃ (i : Fin 4096) (l : Fin 512), y = ix2 i l := ⟨y 0, y 1, eq_ix2 y⟩
  refine (Cert.MlaReferenceIdeal.Value.ref_v _ _ _ Q K hQ hK j l).trans (Finset.sum_congr rfl fun i _ => ?_)
  exact congrArg (fun a : EReal => a * fD m c i (wide l)) (gP_real m c Q K hQ hK (hv l) i j).symm
end

end Cert.MlaKernelIdeal.Value

namespace Cert.Proof

open Cert.MlaKernelIdeal.Value

attribute [local instance] Cert.Pre_mla_finite.facts

theorem mla_frame : Cert.quiescent_MlaKernel := fun m ρ _ => Cert.MlaKernel.Gen.frame m ρ

theorem mla_frame_ideal : Cert.quiescent_MlaKernelIdeal := fun m ρ _ => Cert.MlaKernelIdeal.Gen.frame m ρ
theorem mla_frame_finite : Cert.quiescent_MlaKernelIdeal_pre_mla_finite := fun m ρ _ => Cert.MlaKernelIdeal.Gen.frame m ρ

theorem mla_frame_reference : Cert.quiescent_MlaReferenceIdeal := fun m g _ =>
  (θ_run Cert.MlaReferenceIdeal.defs _ _).mono (fun r h => ⟨fun c => (h c).2.2.2, sem_eq_zero_of_no_sems (by decide) r.2⟩)
    (Cert.MlaReferenceIdeal.Value.run m g)
theorem mla_frame_reference_finite : Cert.quiescent_MlaReferenceIdeal_pre_mla_finite := fun m g _ => mla_frame_reference m g trivial

set_option maxHeartbeats 4000000 in
theorem mla_algebraic : Cert.algebraic_MlaKernelIdeal_MlaReferenceIdeal_pre_mla_finite := by
  pair_intro
  · run_from Cert.MlaKernelIdeal.Gen.run_main m g & Cert.MlaKernelIdeal.Gen.frame m g
    · exact Cert.MlaKernelIdeal.Gen.V_main_arg0 m c
    · exact Cert.MlaKernelIdeal.Gen.V_main_arg1 m c
    · exact Cert.MlaKernelIdeal.Gen.V_main_arg2 m c
    · exact Cert.MlaKernelIdeal.Gen.V_main_arg3 m c
  · run_from Cert.MlaReferenceIdeal.Value.run m' g'
    · exact (ref_dq m hpre c m' (hagree c)).trans (final_q m c).symm
    · exact (ref_dk m hpre c m' (hagree c)).trans (final_k m c).symm
    · exact (ref_dv m hpre c m' (hagree c)).trans (final_v m c).symm

end Cert.Proof

end
-- ==== Proof.Rope.Pay.lean ====
/- The rotary embedding's gradient: the values the kernel stores, entry by entry. -/
module

public import proofs.«01_k».proof.Proof.Gen.RopeKernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.RopeKernelIdeal.Value

open Cert.RopeKernelIdeal Cert.RopeKernelIdeal.Gen

/-- The kernel's test of a lane: is it in the first half of its head? -/
def firstBit (l : Fin 128) : BitVec 1 :=
  IntOp.cmpi .slt (Scalar.select
    (IntOp.andi (IntOp.xori (IntOp.cmpi .slt (IntOp.remsi .vector (BitVec.ofNat 32 l.val) (Scalar.select (Scalar.cmpi .eq 64#32 0#32) 1#32 64#32)) 0#32)
        (Scalar.cmpi .slt (Scalar.select (Scalar.cmpi .eq 64#32 0#32) 1#32 64#32) 0#32))
      (IntOp.cmpi .ne (IntOp.remsi .vector (BitVec.ofNat 32 l.val) (Scalar.select (Scalar.cmpi .eq 64#32 0#32) 1#32 64#32)) 0#32))
    (IntOp.addi (IntOp.remsi .vector (BitVec.ofNat 32 l.val) (Scalar.select (Scalar.cmpi .eq 64#32 0#32) 1#32 64#32)) (Scalar.select (Scalar.cmpi .eq 64#32 0#32) 1#32 64#32))
    (IntOp.remsi .vector (BitVec.ofNat 32 l.val) (Scalar.select (Scalar.cmpi .eq 64#32 0#32) 1#32 64#32))) 32#32

theorem firstBit_eq : ∀ l : Fin 128, firstBit l = if l.val % 64 < 32 then 1#1 else 0#1 := by decide +kernel

def left (l : Fin 128) : Fin 128 := ⟨(l.val + 128 - 96) % 128, by omega⟩
def right (l : Fin 128) : Fin 128 := ⟨(l.val + 128 - 32) % 128, by omega⟩
/-- The partner of a lane in its head. -/
def partner (l : Fin 128) : Fin 128 := if l.val % 64 < 32 then left l else right l

/-- One row of one tile turned. -/
def turn (f : Fin 128 → EReal) (c s : EReal) (l : Fin 128) : EReal := f l * c + f (partner l) * s

theorem turn_of (f : Fin 128 → EReal) (c s : EReal) (l : Fin 128) : f l * c + Scalar.select (firstBit l) (f (left l)) (f (right l)) * s = turn f c s l := by
  unfold turn partner
  rw [firstBit_eq]
  split <;> rfl

theorem pay1_at (v1 v5 x : FVec Ideal S256x128 .f32) (r : Fin 256) (l : Fin 128) :
    k0_pay1 (F := Ideal) v1 v5 x (Scalar.select (Scalar.cmpi .eq 64#32 0#32) 1#32 64#32) k0_pay25 k0_pay26 k0_pay27 (ix2 r l)
      = turn (fun l => x (ix2 r l)) (v1 (ix2 r l)) (v5 (ix2 r l)) l := by
  pointwise [k0_pay1, k0_pay25, k0_pay26, k0_pay27]
  exact turn_of (fun l => x (ix2 r l)) _ _ l
theorem pay12_at (v1 v5 x : FVec Ideal S256x128 .f32) (r : Fin 256) (l : Fin 128) :
    k0_pay12 (F := Ideal) v1 v5 x k0_pay9 k0_pay10 k0_pay11 (ix2 r l) = turn (fun l => x (ix2 r l)) (v1 (ix2 r l)) (v5 (ix2 r l)) l := by
  pointwise [k0_pay12, k0_pay9, k0_pay10, k0_pay11]
  exact turn_of (fun l => x (ix2 r l)) _ _ l
theorem pay7_at (v1 v5 x : FVec Ideal S256x128 .f32) (r : Fin 256) (l : Fin 128) :
    k0_pay7 (F := Ideal) v1 v5 x (iota .tc S256x128 32 [1] iota_S256x128_d1_w32) 64#32 (ix2 r l) = turn (fun l => x (ix2 r l)) (v1 (ix2 r l)) (v5 (ix2 r l)) l := by
  pointwise [k0_pay7]
  exact turn_of (fun l => x (ix2 r l)) _ _ l
/-- A tile of 128 lanes of the wide block. -/
def cut (p : Fin 8) (x : FVec Ideal S256x1024 .f32) (r : Fin 256) (l : Fin 128) : EReal := x (ix2 r ⟨128 * p.val + l.val, by omega⟩)
theorem pay13_at (v1 v5 : FVec Ideal S256x128 .f32) (x : FVec Ideal S256x1024 .f32) (r : Fin 256) (l : Fin 128) :
    k0_pay13 (F := Ideal) v1 v5 x (ix2 r l) = turn (cut 3 x r) (v1 (ix2 r l)) (v5 (ix2 r l)) l := by
  pointwise [k0_pay13]
  exact turn_of (cut 3 x r) _ _ l
theorem pay21_at (v1 v5 : FVec Ideal S256x128 .f32) (x : FVec Ideal S256x1024 .f32) (r : Fin 256) (l : Fin 128) :
    k0_pay21 (F := Ideal) v1 v5 x (ix2 r l) = turn (cut 6 x r) (v1 (ix2 r l)) (v5 (ix2 r l)) l := by
  pointwise [k0_pay21]
  exact turn_of (cut 6 x r) _ _ l
theorem pay6_at (x : FVec Ideal S1024x256 .f32) (r : Fin 256) : (fun l => k0_pay6 (F := Ideal) x (ix2 r l)) = cut 1 (k0_pay4 x) r := by
  funext l
  unfold cut
  pointwise [k0_pay6, k0_pay4]
theorem pay8_at (x : FVec Ideal S256x1024 .f32) (r : Fin 256) : (fun l => k0_pay8 (F := Ideal) x (ix2 r l)) = cut 2 x r := by
  funext l
  unfold cut
  pointwise [k0_pay8]
theorem pay14_at (x : FVec Ideal S256x1024 .f32) (r : Fin 256) : (fun l => k0_pay14 (F := Ideal) x (ix2 r l)) = cut 4 x r := by
  funext l
  unfold cut
  pointwise [k0_pay14]
theorem pay16_at (x : FVec Ideal S256x1024 .f32) (r : Fin 256) : (fun l => k0_pay16 (F := Ideal) x (ix2 r l)) = cut 5 x r := by
  funext l
  unfold cut
  pointwise [k0_pay16]
theorem pay22_at (x : FVec Ideal S256x1024 .f32) (r : Fin 256) : (fun l => k0_pay22 (F := Ideal) x (ix2 r l)) = cut 7 x r := by
  funext l
  unfold cut
  pointwise [k0_pay22]
theorem pay2_at (x : FVec Ideal S256x128 .f32) (i) : k0_pay2 (F := Ideal) x i = x i := by pointwise [k0_pay2]
theorem pay3_at (x : FVec Ideal S256x128 .f32) (i) : k0_pay3 (F := Ideal) x i = 0 - x i := by pointwise [k0_pay3]
theorem pay4_at (x : FVec Ideal S1024x256 .f32) (r : Fin 256) (k : Fin 1024) : k0_pay4 (F := Ideal) x (ix2 r k) = x (ix2 k r) := by pointwise [k0_pay4]
theorem pay5_at (v1 v5 : FVec Ideal S256x128 .f32) (x : FVec Ideal S1024x256 .f32) (r : Fin 256) (l : Fin 128) :
    k0_pay5 (F := Ideal) v1 v5 x (ix2 r l) = turn (cut 0 (k0_pay4 x) r) (v1 (ix2 r l)) (0 - v5 (ix2 r l)) l := by
  have e : cut 0 (k0_pay4 x) r = fun l => x (ix2 ⟨128 * (0 : Fin 8).val + l.val, by omega⟩ r) := funext fun l => pay4_at x r _
  rw [e]
  refine Eq.trans ?_ (turn_of _ _ _ l)
  pointwise [k0_pay5, k0_pay2, k0_pay3, k0_pay4]
  rfl

/-- The wide output, entry by entry. -/
def sub (k : Fin 1024) : Fin 8 := ⟨k.val / 128, by omega⟩
def lan (k : Fin 1024) : Fin 128 := ⟨k.val % 128, by omega⟩

theorem out4_at (x0 : FVec Ideal S1024x256 .f32) (x1 x2 x3 : FVec Ideal S256x128 .f32) (r : Fin 256) (k : Fin 1024) :
    out0_4 (F := Ideal) x0 x1 x2 x3 (ix2 r k)
      = turn (cut (sub k) (k0_pay4 x0) r) (x2 (ix2 r (lan k))) (0 - x3 (ix2 r (lan k))) (lan k) := by
  have fix : ∀ (n : Fin 8) (x : S256x128.Idx), (r : ℕ) = (x 0 : ℕ) → (k : ℕ) = 128 * n.val + (x 1 : ℕ) → x = ix2 r (lan k) ∧ n = sub k := by
    intro n x h0 h1
    have b : (x 1 : ℕ) < 128 := (x 1).isLt
    refine ⟨(eq_ix2 x).trans ?_, Fin.ext ?_⟩
    · rw [show x 0 = r from Fin.ext h0.symm, show x 1 = lan k from Fin.ext (by simp only [lan]; omega)]
    · simp only [sub]; omega
  unfold_out out0_4
  frame_out
  canon_tiles x h using cover0_4 ..
  · obtain ⟨rfl, e⟩ := fix 7 x h0 h1
    rw [← e]
    refine (pay7_at (k0_pay2 x2) (k0_pay3 x3) (k0_pay22 (k0_pay4 x0)) r (lan k)).trans ?_
    rw [pay22_at, pay2_at, pay3_at]
  · obtain ⟨rfl, e⟩ := fix 6 x h0 h1
    rw [← e]
    refine (pay21_at (k0_pay2 x2) (k0_pay3 x3) (k0_pay4 x0) r (lan k)).trans ?_
    rw [pay2_at, pay3_at]
  · obtain ⟨rfl, e⟩ := fix 5 x h0 h1
    rw [← e]
    refine (pay12_at (k0_pay2 x2) (k0_pay3 x3) (k0_pay16 (k0_pay4 x0)) r (lan k)).trans ?_
    rw [pay16_at, pay2_at, pay3_at]
  · obtain ⟨rfl, e⟩ := fix 4 x h0 h1
    rw [← e]
    refine (pay7_at (k0_pay2 x2) (k0_pay3 x3) (k0_pay14 (k0_pay4 x0)) r (lan k)).trans ?_
    rw [pay14_at, pay2_at, pay3_at]
  · obtain ⟨rfl, e⟩ := fix 3 x h0 h1
    rw [← e]
    refine (pay13_at (k0_pay2 x2) (k0_pay3 x3) (k0_pay4 x0) r (lan k)).trans ?_
    rw [pay2_at, pay3_at]
  · obtain ⟨rfl, e⟩ := fix 2 x h0 h1
    rw [← e]
    refine (pay12_at (k0_pay2 x2) (k0_pay3 x3) (k0_pay8 (k0_pay4 x0)) r (lan k)).trans ?_
    rw [pay8_at, pay2_at, pay3_at]
  · obtain ⟨rfl, e⟩ := fix 1 x h0 h1
    rw [← e]
    refine (pay7_at (k0_pay2 x2) (k0_pay3 x3) (k0_pay6 x0) r (lan k)).trans ?_
    rw [pay6_at, pay2_at, pay3_at]
  · obtain ⟨rfl, e⟩ := fix 0 x h0 (h1.trans (by show (x 1 : ℕ) = 128 * 0 + (x 1 : ℕ); omega))
    rw [← e]
    exact pay5_at x2 x3 x0 r (lan k)
theorem out5_at (x0 : FVec Ideal S1024x256 .f32) (x1 x2 x3 : FVec Ideal S256x128 .f32) (r : Fin 256) (l : Fin 128) :
    out0_5 (F := Ideal) x0 x1 x2 x3 (ix2 r l) = turn (fun l => x1 (ix2 r l)) (x2 (ix2 r l)) (0 - x3 (ix2 r l)) l := by
  unfold_out out0_5
  frame_out
  rw [pay1_at]
  simp only [pay2_at, pay3_at]
  pointwise [k0_pay24]

end Cert.RopeKernelIdeal.Value
-- ==== Proof.Rope.Ref.lean ====
/- The rotary embedding's reference gradient, entry by entry. -/
module

public import proofs.«01_k».proof.Proof.Gen.RopeReferenceIdeal.Run
public import Idealize.ShloMosaic.Lib.Pointwise

@[expose] public section

set_option maxRecDepth 16384

noncomputable section

open Idealize.ShloMosaic Idealize.ShloMosaic.TcCoe Idealize.SL.Sem

namespace Cert.RopeReferenceIdeal.Value

open Cert.RopeReferenceIdeal Cert.RopeReferenceIdeal.Gen

/-- The angle of a position in a column. -/
def angT : FVec Ideal S4096x32 .f32 := mulf (broadcastInDim S4096x32 ![0, 1] bcast_S4096x1_S4096x32_0_1 (broadcastInDim S4096x1 ![0] bcast_S4096_S4096x1_0 (sitofp .f32 (iotaInDim S4096 32 0)))) (broadcastInDim S4096x32 ![0, 1] bcast_S1x32_S4096x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))
@[irreducible] def cosT : FVec Ideal S4096x32 .f32 := Host.cos angT
@[irreducible] def sinT : FVec Ideal S4096x32 .f32 := Host.sin angT

def low (x : Fin 64) : Fin 32 := ⟨x.val % 32, by omega⟩
def flip (x : Fin 64) : Fin 64 := ⟨(x.val + 32) % 64, by omega⟩
/-- One head's row turned back. -/
def ROT (f : Fin 64 → EReal) (i : Fin 4096) (x : Fin 64) : EReal :=
  f x * cosT (ix2 i (low x)) + (if x.val < 32 then f (flip x) else -f (flip x)) * sinT (ix2 i (low x))

def headQ (k : Fin 1024) : Fin 16 := ⟨k.val / 64 % 2 * 8 + k.val / 128, by omega⟩
def colQ (k : Fin 1024) : Fin 64 := ⟨k.val % 64, by omega⟩
def headK (k : Fin 128) : Fin 2 := ⟨k.val / 64, by omega⟩
def colK (k : Fin 128) : Fin 64 := ⟨k.val % 64, by omega⟩

def RQ (a : FVec Ideal S1x16x4096x64 .f32) : FVec Ideal S4096x1024 .bf16 := fun y => ROT (fun x => a (ix4 0 (headQ (y 1)) (y 0) x)) (y 0) (colQ (y 1))
def RK (a : FVec Ideal S1x2x4096x64 .f32) : FVec Ideal S4096x128 .bf16 := fun y => ROT (fun x => a (ix4 0 (headK (y 1)) (y 0) x)) (y 0) (colK (y 1))

/-- The gradient of the queries' embedding, from tables of cosines and sines. -/
def termQ (a : FVec Ideal S1x16x4096x64 .f32) (C S : FVec Ideal S4096x32 .f32) : FVec Ideal S1x16x4096x64 .f32 :=
  concatenate S1x16x4096x64 3 [⟨S1x16x4096x32, addf (mulf (extractStridedSlice S1x16x4096x32 ![0, 0, 0, 32] a slices_S1x16x4096x64_S1x16x4096x32_0_0_0_32)
      (broadcastInDim S1x16x4096x32 ![0, 1, 2, 3] bcast_S1x1x4096x32_S1x16x4096x32_0_1_2_3 (broadcastInDim S1x1x4096x32 ![2, 3] bcast_S4096x32_S1x1x4096x32_2_3 S)))
      (mulf (extractStridedSlice S1x16x4096x32 ![0, 0, 0, 0] a slices_S1x16x4096x64_S1x16x4096x32_0_0_0_0)
      (broadcastInDim S1x16x4096x32 ![0, 1, 2, 3] bcast_S1x1x4096x32_S1x16x4096x32_0_1_2_3 (broadcastInDim S1x1x4096x32 ![2, 3] bcast_S4096x32_S1x1x4096x32_2_3 C)))⟩,
    ⟨S1x16x4096x32, addf (mulf (extractStridedSlice S1x16x4096x32 ![0, 0, 0, 32] a slices_S1x16x4096x64_S1x16x4096x32_0_0_0_32)
      (broadcastInDim S1x16x4096x32 ![0, 1, 2, 3] bcast_S1x1x4096x32_S1x16x4096x32_0_1_2_3 (broadcastInDim S1x1x4096x32 ![2, 3] bcast_S4096x32_S1x1x4096x32_2_3 C)))
      (mulf (Host.negf (extractStridedSlice S1x16x4096x32 ![0, 0, 0, 0] a slices_S1x16x4096x64_S1x16x4096x32_0_0_0_0))
      (broadcastInDim S1x16x4096x32 ![0, 1, 2, 3] bcast_S1x1x4096x32_S1x16x4096x32_0_1_2_3 (broadcastInDim S1x1x4096x32 ![2, 3] bcast_S4096x32_S1x1x4096x32_2_3 S)))⟩]
    concatenates_S1x16x4096x32_S1x16x4096x32_S1x16x4096x64_d3
/-- The same of the keys. -/
def termK (a : FVec Ideal S1x2x4096x64 .f32) (C S : FVec Ideal S4096x32 .f32) : FVec Ideal S1x2x4096x64 .f32 :=
  concatenate S1x2x4096x64 3 [⟨S1x2x4096x32, addf (mulf (extractStridedSlice S1x2x4096x32 ![0, 0, 0, 32] a slices_S1x2x4096x64_S1x2x4096x32_0_0_0_32)
      (broadcastInDim S1x2x4096x32 ![0, 1, 2, 3] bcast_S1x1x4096x32_S1x2x4096x32_0_1_2_3 (broadcastInDim S1x1x4096x32 ![2, 3] bcast_S4096x32_S1x1x4096x32_2_3 S)))
      (mulf (extractStridedSlice S1x2x4096x32 ![0, 0, 0, 0] a slices_S1x2x4096x64_S1x2x4096x32_0_0_0_0)
      (broadcastInDim S1x2x4096x32 ![0, 1, 2, 3] bcast_S1x1x4096x32_S1x2x4096x32_0_1_2_3 (broadcastInDim S1x1x4096x32 ![2, 3] bcast_S4096x32_S1x1x4096x32_2_3 C)))⟩,
    ⟨S1x2x4096x32, addf (mulf (extractStridedSlice S1x2x4096x32 ![0, 0, 0, 32] a slices_S1x2x4096x64_S1x2x4096x32_0_0_0_32)
      (broadcastInDim S1x2x4096x32 ![0, 1, 2, 3] bcast_S1x1x4096x32_S1x2x4096x32_0_1_2_3 (broadcastInDim S1x1x4096x32 ![2, 3] bcast_S4096x32_S1x1x4096x32_2_3 C)))
      (mulf (Host.negf (extractStridedSlice S1x2x4096x32 ![0, 0, 0, 0] a slices_S1x2x4096x64_S1x2x4096x32_0_0_0_0))
      (broadcastInDim S1x2x4096x32 ![0, 1, 2, 3] bcast_S1x1x4096x32_S1x2x4096x32_0_1_2_3 (broadcastInDim S1x1x4096x32 ![2, 3] bcast_S4096x32_S1x1x4096x32_2_3 S)))⟩]
    concatenates_S1x2x4096x32_S1x2x4096x32_S1x2x4096x64_d3
def packQ (X : FVec Ideal S1x16x4096x64 .f32) : FVec Ideal S4096x1024 .bf16 :=
  truncf .bf16 (shapeCast S4096x1024 (transpose S4096x8x2x64 [2, 1, 0, 3] (shapeCast S2x8x4096x64 X shapeCasts_S1x16x4096x64_S2x8x4096x64) transposes_S2x8x4096x64_S4096x8x2x64_2_1_0_3)
    shapeCasts_S4096x8x2x64_S4096x1024) bitsLt_bf16_f32
def packK (X : FVec Ideal S1x2x4096x64 .f32) : FVec Ideal S4096x128 .bf16 :=
  truncf .bf16 (shapeCast S4096x128 (transpose S4096x2x64 [1, 0, 2] (shapeCast S2x4096x64 X shapeCasts_S1x2x4096x64_S2x4096x64) transposes_S2x4096x64_S4096x2x64_1_0_2)
    shapeCasts_S4096x2x64_S4096x128) bitsLt_bf16_f32

theorem termQ_at (a : FVec Ideal S1x16x4096x64 .f32) (C S : FVec Ideal S4096x32 .f32) (h : Fin 16) (i : Fin 4096) (x : Fin 64) :
    termQ a C S (ix4 0 h i x) = a (ix4 0 h i x) * C (ix2 i (low x)) + (if x.val < 32 then a (ix4 0 h i (flip x)) else -a (ix4 0 h i (flip x))) * S (ix2 i (low x)) := by
  unfold termQ low flip
  pointwise
  by_cases c : x.val < 32
  · have e1 : (⟨x.val % 32, by omega⟩ : Fin 32) = ⟨x.val, c⟩ := Fin.ext (by simp only []; omega)
    have e2 : (⟨(x.val + 32) % 64, by omega⟩ : Fin 64) = ⟨32 + x.val, by omega⟩ := Fin.ext (by simp only []; omega)
    rw [dif_pos c, if_pos c, e1, e2, add_comm]
  · have e1 : (⟨x.val % 32, by omega⟩ : Fin 32) = ⟨x.val - 32, by omega⟩ := Fin.ext (by simp only []; omega)
    have e2 : (⟨(x.val + 32) % 64, by omega⟩ : Fin 64) = ⟨x.val - 32, by omega⟩ := Fin.ext (by simp only []; omega)
    have e3 : x = ⟨32 + (x.val - 32), by omega⟩ := Fin.ext (by simp only []; omega)
    rw [dif_neg c, if_neg c, e1, e2, ← e3]
theorem termK_at (a : FVec Ideal S1x2x4096x64 .f32) (C S : FVec Ideal S4096x32 .f32) (h : Fin 2) (i : Fin 4096) (x : Fin 64) :
    termK a C S (ix4 0 h i x) = a (ix4 0 h i x) * C (ix2 i (low x)) + (if x.val < 32 then a (ix4 0 h i (flip x)) else -a (ix4 0 h i (flip x))) * S (ix2 i (low x)) := by
  unfold termK low flip
  pointwise
  by_cases c : x.val < 32
  · have e1 : (⟨x.val % 32, by omega⟩ : Fin 32) = ⟨x.val, c⟩ := Fin.ext (by simp only []; omega)
    have e2 : (⟨(x.val + 32) % 64, by omega⟩ : Fin 64) = ⟨32 + x.val, by omega⟩ := Fin.ext (by simp only []; omega)
    rw [dif_pos c, if_pos c, e1, e2, add_comm]
  · have e1 : (⟨x.val % 32, by omega⟩ : Fin 32) = ⟨x.val - 32, by omega⟩ := Fin.ext (by simp only []; omega)
    have e2 : (⟨(x.val + 32) % 64, by omega⟩ : Fin 64) = ⟨x.val - 32, by omega⟩ := Fin.ext (by simp only []; omega)
    have e3 : x = ⟨32 + (x.val - 32), by omega⟩ := Fin.ext (by simp only []; omega)
    rw [dif_neg c, if_neg c, e1, e2, ← e3]
theorem packQ_at (X : FVec Ideal S1x16x4096x64 .f32) (i : Fin 4096) (k : Fin 1024) : packQ X (ix2 i k) = X (ix4 0 (headQ k) i (colQ k)) := by
  unfold packQ headQ colQ
  pointwise
theorem packK_at (X : FVec Ideal S1x2x4096x64 .f32) (i : Fin 4096) (k : Fin 128) : packK X (ix2 i k) = X (ix4 0 (headK k) i (colK k)) := by
  unfold packK headK colK
  pointwise

theorem res_q (m : (ℓ : Loc nD τ sig) → Buf (Elt Ideal) ℓ) (c : Dev nD) : res_main_v102 m c = packQ (termQ (m ((c.tc : Thread nD τ).loc main_arg0)) cosT sinT) := by
  unfold res_main_v102 packQ termQ cosT sinT angT
  rfl
theorem res_k (m : (ℓ : Loc nD τ sig) → Buf (Elt Ideal) ℓ) (c : Dev nD) : res_main_v106 m c = packK (termK (m ((c.tc : Thread nD τ).loc main_arg1)) cosT sinT) := by
  unfold res_main_v106 packK termK cosT sinT angT
  rfl
/-- The gradient of the queries the reference returns. -/
theorem ref_q (m : (ℓ : Loc nD τ sig) → Buf (Elt Ideal) ℓ) (c : Dev nD) : res_main_v102 m c = RQ (m ((c.tc : Thread nD τ).loc main_arg0)) := by
  rw [res_q]
  funext y
  obtain ⟨i, k, rfl⟩ : ∃ (i : Fin 4096) (k : Fin 1024), y = ix2 i k := ⟨y 0, y 1, eq_ix2 y⟩
  exact (packQ_at _ i k).trans (termQ_at _ _ _ _ _ _)
/-- And of the keys. -/
theorem ref_k (m : (ℓ : Loc nD τ sig) → Buf (Elt Ideal) ℓ) (c : Dev nD) : res_main_v106 m c = RK (m ((c.tc : Thread nD τ).loc main_arg1)) := by
  rw [res_k]
  funext y
  obtain ⟨i, k, rfl⟩ : ∃ (i : Fin 4096) (k : Fin 128), y = ix2 i k := ⟨y 0, y 1, eq_ix2 y⟩
  exact (packK_at _ i k).trans (termK_at _ _ _ _ _ _)

end Cert.RopeReferenceIdeal.Value
-- ==== Proof.Rope.Final.lean ====
/- The rotary embedding's gradient: the arrays the kernel leaves. -/
module

public import proofs.«01_k».proof.Proof.Rope.Pay
public import proofs.«01_k».proof.Proof.Rope.Ref
public import Idealize.ShloMosaic.Lib.StableHlo.ReadAt

@[expose] public section

set_option maxRecDepth 16384

noncomputable section

open Idealize.ShloMosaic Idealize.ShloMosaic.TcCoe Idealize.SL.Sem

namespace Cert.RopeKernelIdeal.Value

open Cert.RopeKernelIdeal Cert.RopeKernelIdeal.Gen
open Cert.RopeReferenceIdeal.Value (cosT sinT angT low ROT headQ colQ headK colK RQ RK)

/-- The tables of two heads side by side. -/
def cosW (C : FVec Ideal S4096x32 .f32) : FVec Ideal S4096x128 .f32 :=
  concatenate S4096x128 1 [⟨S4096x32, C⟩, ⟨S4096x32, C⟩, ⟨S4096x32, C⟩, ⟨S4096x32, C⟩] concatenates_S4096x32_S4096x32_S4096x32_S4096x32_S4096x128_d1
def sinW (S : FVec Ideal S4096x32 .f32) : FVec Ideal S4096x128 .f32 :=
  concatenate S4096x128 1 [⟨S4096x32, Host.negf S⟩, ⟨S4096x32, S⟩, ⟨S4096x32, Host.negf S⟩, ⟨S4096x32, S⟩] concatenates_S4096x32_S4096x32_S4096x32_S4096x32_S4096x128_d1
/-- The queries' cotangent as the kernel takes it. -/
def inQ (a : FVec Ideal S1x16x4096x64 .f32) : FVec Ideal S1024x4096 .f32 :=
  shapeCast S1024x4096 (transpose S8x2x64x4096 [1, 0, 3, 2] (shapeCast S2x8x4096x64 (shapeCast S16x4096x64 a shapeCasts_S1x16x4096x64_S16x4096x64)
    shapeCasts_S16x4096x64_S2x8x4096x64) transposes_S2x8x4096x64_S8x2x64x4096_1_0_3_2) shapeCasts_S8x2x64x4096_S1024x4096
def inK (a : FVec Ideal S1x2x4096x64 .f32) : FVec Ideal S4096x128 .f32 :=
  shapeCast S4096x128 (transpose S4096x2x64 [1, 0, 2] (shapeCast S2x4096x64 a shapeCasts_S1x2x4096x64_S2x4096x64)
    transposes_S2x4096x64_S4096x2x64_1_0_2) shapeCasts_S4096x2x64_S4096x128

theorem inQ_at (a : FVec Ideal S1x16x4096x64 .f32) (k : Fin 1024) (i : Fin 4096) : inQ a (ix2 k i) = a (ix4 0 (headQ k) i (colQ k)) := by
  unfold inQ headQ colQ
  pointwise
theorem inK_at (a : FVec Ideal S1x2x4096x64 .f32) (i : Fin 4096) (k : Fin 128) : inK a (ix2 i k) = a (ix4 0 (headK k) i (colK k)) := by
  unfold inK headK colK
  pointwise

def lowL (l : Fin 128) : Fin 32 := ⟨l.val % 32, by omega⟩
theorem lowL_of (l : Fin 128) (n : ℕ) (h : n < 32) (e : n = l.val % 32) : (⟨n, h⟩ : Fin 32) = lowL l := Fin.ext e
theorem cosW_at (C : FVec Ideal S4096x32 .f32) (i : Fin 4096) (l : Fin 128) : cosW C (ix2 i l) = C (ix2 i (lowL l)) := by
  unfold cosW
  pointwise
  split
  · rw [lowL_of l _ _ (by omega)]
  split
  · rw [lowL_of l _ _ (by omega)]
  split
  · rw [lowL_of l _ _ (by omega)]
  · rw [lowL_of l _ _ (by omega)]
theorem sinW_at (S : FVec Ideal S4096x32 .f32) (i : Fin 4096) (l : Fin 128) : sinW S (ix2 i l) = if l.val % 64 < 32 then -S (ix2 i (lowL l)) else S (ix2 i (lowL l)) := by
  unfold sinW
  pointwise
  split
  · rw [lowL_of l _ _ (by omega), if_pos (by omega)]
  split
  · rw [lowL_of l _ _ (by omega), if_neg (by omega)]
  split
  · rw [lowL_of l _ _ (by omega), if_pos (by omega)]
  · rw [lowL_of l _ _ (by omega), if_neg (by omega)]

variable (m : (ℓ : Loc nD τ sig) → Buf (Elt Ideal) ℓ)

theorem V_q (c : Dev nD) : V m c main_v49 = inQ (m ((c.tc : Thread nD τ).loc main_arg0)) := by
  unfold V inQ hostOps0
  after_reads_simp
  rfl
theorem V_k (c : Dev nD) : V m c main_v52 = inK (m ((c.tc : Thread nD τ).loc main_arg1)) := by
  unfold V inK hostOps0
  after_reads_simp
  rfl
theorem V_cos (c : Dev nD) : V m c main_v42 = cosW cosT := by
  unfold V hostOps0
  after_reads_simp
  unfold cosW cosT angT
  rfl
theorem V_sin (c : Dev nD) : V m c main_v45 = sinW sinT := by
  unfold V hostOps0
  after_reads_simp
  unfold sinW sinT angT
  rfl

def row (t : Fin cfg0.N) (r : Fin 256) : Fin 4096 := ⟨256 * t.val + r.val, by have := t.isLt; have e : cfg0.N = 16 := N_0; omega⟩

theorem blk_q (c : Dev nD) (t : Fin cfg0.N) (k : Fin 1024) (r : Fin 256) :
    iblk m c 0 t (ix2 k r) = m ((c.tc : Thread nD τ).loc main_arg0) (ix4 0 (headQ k) (row t r) (colQ k)) := by
  have idx : ∀ t : Fin cfg0.N, win0_0.index t = ![0, t.val] := (by decide +kernel : ∀ t : Fin grid0.N, _)
  refine Eq.trans ?_ (inQ_at _ k (row t r))
  refine Eq.trans ?_ (congrFun (V_q m c) _)
  unfold iblk row
  generalize V m c = V'
  blk_point [idx t]
theorem blk_k (c : Dev nD) (t : Fin cfg0.N) (r : Fin 256) (k : Fin 128) :
    iblk m c 1 t (ix2 r k) = m ((c.tc : Thread nD τ).loc main_arg1) (ix4 0 (headK k) (row t r) (colK k)) := by
  have idx : ∀ t : Fin cfg0.N, win0_1.index t = ![t.val, 0] := (by decide +kernel : ∀ t : Fin grid0.N, _)
  refine Eq.trans ?_ (inK_at _ (row t r) k)
  refine Eq.trans ?_ (congrFun (V_k m c) _)
  unfold iblk row
  generalize V m c = V'
  blk_point [idx t]
theorem blk_cos (c : Dev nD) (t : Fin cfg0.N) (r : Fin 256) (k : Fin 128) : iblk m c 2 t (ix2 r k) = cosT (ix2 (row t r) (lowL k)) := by
  have idx : ∀ t : Fin cfg0.N, win0_2.index t = ![t.val, 0] := (by decide +kernel : ∀ t : Fin grid0.N, _)
  refine Eq.trans ?_ (cosW_at _ (row t r) k)
  refine Eq.trans ?_ (congrFun (V_cos m c) _)
  unfold iblk row
  generalize V m c = V'
  blk_point [idx t]
theorem blk_sin (c : Dev nD) (t : Fin cfg0.N) (r : Fin 256) (k : Fin 128) :
    iblk m c 3 t (ix2 r k) = if k.val % 64 < 32 then -sinT (ix2 (row t r) (lowL k)) else sinT (ix2 (row t r) (lowL k)) := by
  have idx : ∀ t : Fin cfg0.N, win0_3.index t = ![t.val, 0] := (by decide +kernel : ∀ t : Fin grid0.N, _)
  refine Eq.trans ?_ (sinW_at _ (row t r) k)
  refine Eq.trans ?_ (congrFun (V_sin m c) _)
  unfold iblk row
  generalize V m c = V'
  blk_point [idx t]

/-- A tile's turned row is the head's, turned. -/
theorem turn_eq (f : Fin 128 → EReal) (g : Fin 64 → EReal) (i : Fin 4096) (l : Fin 128) (x : Fin 64) (hx : x.val = l.val % 64)
    (h0 : f l = g x) (h1 : f (partner l) = g (Cert.RopeReferenceIdeal.Value.flip x)) :
    turn f (cosT (ix2 i (lowL l))) (0 - (if l.val % 64 < 32 then -sinT (ix2 i (lowL l)) else sinT (ix2 i (lowL l)))) l = ROT g i x := by
  have e : lowL l = low x := Fin.ext (by simp only [lowL, low]; omega)
  unfold turn ROT
  rw [h0, h1, e, ← hx, zero_sub]
  split
  · rw [neg_neg]
  · rw [mul_neg, neg_mul]

theorem partner_val (l : Fin 128) : (partner l).val = l.val / 64 * 64 + (l.val % 64 + 32) % 64 := by
  unfold partner left right
  split <;> simp only [] <;> omega

theorem put4 (X : FVec Ideal S4096x1024 .bf16) (t : Fin cfg0.N) (r : Fin 256) (k : Fin 1024) :
    (show EReal from ((cfg0.win 4).blk t).view.read (Elt Ideal) X (ix2 r k)) = X (ix2 (row t r) k) := by
  have idx : ∀ t : Fin cfg0.N, win0_4.index t = ![t.val, 0] := (by decide +kernel : ∀ t : Fin grid0.N, _)
  unfold row
  blk_point [idx t]
theorem put5 (X : FVec Ideal S4096x128 .bf16) (t : Fin cfg0.N) (r : Fin 256) (k : Fin 128) :
    (show EReal from ((cfg0.win 5).blk t).view.read (Elt Ideal) X (ix2 r k)) = X (ix2 (row t r) k) := by
  have idx : ∀ t : Fin cfg0.N, win0_5.index t = ![t.val, 0] := (by decide +kernel : ∀ t : Fin grid0.N, _)
  unfold row
  blk_point [idx t]

theorem out_q (c : Dev nD) (t : Fin cfg0.N) (r : Fin 256) (k : Fin 1024) :
    out0_4 (F := Ideal) (iblk m c 0 t) (iblk m c 1 t) (iblk m c 2 t) (iblk m c 3 t) (ix2 r k) = RQ (m ((c.tc : Thread nD τ).loc main_arg0)) (ix2 (row t r) k) := by
  refine (out4_at _ _ _ _ r k).trans ?_
  rw [blk_cos, blk_sin]
  have hl : (lan k).val = k.val % 128 := rfl
  have hs : (sub k).val = k.val / 128 := rfl
  have hc : ∀ l : Fin 128, l.val / 64 = k.val % 128 / 64 → cut (sub k) (k0_pay4 (iblk m c 0 t)) r l
      = m ((c.tc : Thread nD τ).loc main_arg0) (ix4 0 (headQ k) (row t r) ⟨l.val % 64, by omega⟩) := by
    intro l e
    unfold cut
    refine (pay4_at _ r _).trans ((blk_q m c t _ r).trans ?_)
    have e1 : headQ ⟨128 * (sub k).val + l.val, by omega⟩ = headQ k := Fin.ext (by simp only [headQ, sub]; omega)
    have e2 : colQ ⟨128 * (sub k).val + l.val, by omega⟩ = ⟨l.val % 64, by omega⟩ := Fin.ext (by simp only [colQ, sub]; omega)
    rw [e1, e2]
  refine turn_eq _ (fun x => m ((c.tc : Thread nD τ).loc main_arg0) (ix4 0 (headQ k) (row t r) x)) (row t r) (lan k) (colQ k) (by simp only [colQ, lan]; omega) ?_ ?_
  · rw [hc _ (by omega)]
    exact congrArg (fun x => m ((c.tc : Thread nD τ).loc main_arg0) (ix4 0 (headQ k) (row t r) x)) (Fin.ext (by simp only [colQ, lan]; omega))
  · rw [hc _ (by rw [partner_val]; omega)]
    exact congrArg (fun x => m ((c.tc : Thread nD τ).loc main_arg0) (ix4 0 (headQ k) (row t r) x)) (Fin.ext (by simp only [partner_val, colQ, Cert.RopeReferenceIdeal.Value.flip, lan]; omega))

theorem out_k (c : Dev nD) (t : Fin cfg0.N) (r : Fin 256) (k : Fin 128) :
    out0_5 (F := Ideal) (iblk m c 0 t) (iblk m c 1 t) (iblk m c 2 t) (iblk m c 3 t) (ix2 r k) = RK (m ((c.tc : Thread nD τ).loc main_arg1)) (ix2 (row t r) k) := by
  refine (out5_at _ _ _ _ r k).trans ?_
  rw [blk_cos, blk_sin]
  refine turn_eq _ (fun x => m ((c.tc : Thread nD τ).loc main_arg1) (ix4 0 (headK k) (row t r) x)) (row t r) k (colK k) rfl ?_ ?_
  · exact blk_k m c t r k
  · refine (blk_k m c t r (partner k)).trans ?_
    have e1 : headK (partner k) = headK k := Fin.ext (by simp only [headK, partner_val]; omega)
    have e2 : colK (partner k) = Cert.RopeReferenceIdeal.Value.flip (colK k) := Fin.ext (by simp only [colK, Cert.RopeReferenceIdeal.Value.flip, partner_val]; omega)
    rw [e1, e2]

/-- The gradient of the queries. -/
theorem final_q (c : Dev nD) : (dats m 0 c).arrAt 4 (cfgs 0).N = RQ (m ((c.tc : Thread nD τ).loc main_arg0)) := by
  refine (dats m 0 c).arrAt_eq_of_covers 4 _ (by decide +kernel) fun t hf y => ?_
  obtain ⟨r, k, rfl⟩ : ∃ (r : Fin 256) (k : Fin 1024), y = ix2 r k := ⟨y 0, y 1, eq_ix2 y⟩
  rw [after0_4]
  exact (out_q m c t r k).trans (put4 _ t r k).symm
/-- The gradient of the keys. -/
theorem final_k (c : Dev nD) : (dats m 0 c).arrAt 5 (cfgs 0).N = RK (m ((c.tc : Thread nD τ).loc main_arg1)) := by
  refine (dats m 0 c).arrAt_eq_of_covers 5 _ (by decide +kernel) fun t hf y => ?_
  obtain ⟨r, k, rfl⟩ : ∃ (r : Fin 256) (k : Fin 128), y = ix2 r k := ⟨y 0, y 1, eq_ix2 y⟩
  rw [after0_5]
  exact (out_k m c t r k).trans (put5 _ t r k).symm

end Cert.RopeKernelIdeal.Value
-- ==== Proof.RopeClaim.lean ====
/- The claims about the rotary embedding's gradient. -/
module

public import proofs.«01_k».proof.Defs
public import proofs.«01_k».proof.Proof.Rope.Final
public import proofs.«01_k».proof.Proof.Gen.RopeKernel.Frame
public import proofs.«01_k».proof.Proof.Gen.RopeKernel
public import proofs.«01_k».proof.Proof.Gen.RopeKernelIdeal
public import proofs.«01_k».proof.Proof.Gen.RopeReferenceIdeal
public import Idealize.ShloMosaic.Lib.Claim

@[expose] public section

set_option maxRecDepth 16384

noncomputable section

open Idealize.ShloMosaic Idealize.ShloMosaic.TcCoe Idealize.SL.Sem

namespace Cert.Proof

theorem rope_frame : Cert.quiescent_RopeKernel := fun m ρ _ => Cert.RopeKernel.Gen.frame m ρ

theorem rope_frame_ideal : Cert.quiescent_RopeKernelIdeal := fun m ρ _ => Cert.RopeKernelIdeal.Gen.frame m ρ

theorem rope_frame_reference : Cert.quiescent_RopeReferenceIdeal := fun m g _ =>
  (θ_run Cert.RopeReferenceIdeal.defs _ _).mono (fun r h => ⟨fun c => (h c).2.2, sem_eq_zero_of_no_sems (by decide) r.2⟩)
    (Cert.RopeReferenceIdeal.Value.run m g)

set_option maxHeartbeats 4000000 in
theorem rope_algebraic : Cert.algebraic_RopeKernelIdeal_RopeReferenceIdeal := by
  pair_intro
  · run_from Cert.RopeKernelIdeal.Gen.run_main m g & Cert.RopeKernelIdeal.Gen.frame m g
  · run_from Cert.RopeReferenceIdeal.Value.run m' g'
    · exact (Cert.RopeReferenceIdeal.Value.ref_q m' c).trans ((congrArg _ (hagree c).1).trans (Cert.RopeKernelIdeal.Value.final_q m c).symm)
    · exact (Cert.RopeReferenceIdeal.Value.ref_k m' c).trans ((congrArg _ (hagree c).2).trans (Cert.RopeKernelIdeal.Value.final_k m c).symm)

end Cert.Proof

end
-- ==== Proof.Cum.Ref.lean ====
/- The cumulative sum's reference gradient, entry by entry: a tail sum. -/
module

public import proofs.«01_k».proof.Proof.Gen.CumReferenceIdeal.Run
public import Idealize.ShloMosaic.Lib.Pointwise

@[expose] public section

set_option maxRecDepth 16384

noncomputable section

open Idealize.ShloMosaic Idealize.ShloMosaic.TcCoe Idealize.SL.Sem

namespace Cert.CumReferenceIdeal.Value

open Cert.CumReferenceIdeal Cert.CumReferenceIdeal.Gen

/-- A column as a function of every natural number, nothing past the end. -/
def col (f : Fin 4096 → EReal) (n : ℕ) : EReal := if h : n < 4096 then f ⟨n, h⟩ else 0
/-- The sum of a column from a row on. -/
def tailSum (f : Fin 4096 → EReal) (i : ℕ) : EReal := ∑ n ∈ Finset.Ico i 4096, col f n

theorem tailSum_eq (f : Fin 4096 → EReal) (i : ℕ) : ∑ k : Fin 4096, col f (i + k.val) = tailSum f i := by
  unfold tailSum
  rw [Fin.sum_univ_eq_sum_range (fun k => col f (i + k)) 4096, Finset.sum_Ico_eq_sum_range]
  symm
  refine Finset.sum_subset (fun x hx => Finset.mem_range.2 (lt_of_lt_of_le (Finset.mem_range.1 hx) (Nat.sub_le _ _))) fun x _ hx => ?_
  have := mt Finset.mem_range.2 hx
  exact dif_neg (by omega)

theorem foldl_add {N : ℕ} (F : Fin N → EReal) : ∀ (l : List (Fin N)) (v : EReal), l.foldl (fun r n => r + F n) v = v + (l.map F).sum
  | [], v => by simp
  | a :: l, v => by rw [List.foldl_cons, foldl_add F l, List.map_cons, List.sum_cons, add_assoc]

/-- The window's indices are one axis's. -/
def axis : Fin 4096 ≃ (⟨3, ![1, 4096, 1]⟩ : Shape).Idx where
  toFun k := ix3 0 k 0
  invFun w := w 1
  left_inv _ := rfl
  right_inv w := by
    funext q; apply Fin.ext
    match q with
    | ⟨0, _⟩ => exact (Nat.lt_one_iff.1 (w 0).isLt).symm
    | ⟨1, _⟩ => rfl
    | ⟨2, _⟩ => exact (Nat.lt_one_iff.1 (w 2).isLt).symm

/-- What a position of the window adds. -/
def part (x : FVec Ideal S1x4096x8 .f32) (i : Fin 4096) (h : Fin 8) (hw : S1x4096x8.ReduceWindows ![1, 4096, 1] ![1, 1, 1] ![0, 0, 0] ![0, 4095, 0] S1x4096x8)
    (w : (⟨3, ![1, 4096, 1]⟩ : Shape).Idx) : EReal :=
  if hin : ∀ a : Fin 3, (![0, 0, 0] : Fin 3 → ℕ) a ≤ ((ix3 0 i h : S1x4096x8.Idx) (a.cast hw.1.symm)).val * (![1, 1, 1] : Fin 3 → ℕ) a + (w a).val
      ∧ ((ix3 0 i h : S1x4096x8.Idx) (a.cast hw.1.symm)).val * (![1, 1, 1] : Fin 3 → ℕ) a + (w a).val - (![0, 0, 0] : Fin 3 → ℕ) a < S1x4096x8.size a
    then x (fun a => ⟨_, (hin a).2⟩) else 0

theorem part_at (x : FVec Ideal S1x4096x8 .f32) (i : Fin 4096) (h : Fin 8) (hw) (k : Fin 4096) :
    part x i h hw (axis k) = col (fun j => x (ix3 0 j h)) (i.val + k.val) := by
  unfold part col
  have e0 : ((ix3 0 i h : S1x4096x8.Idx) ((0 : Fin 3).cast hw.1.symm)).val * 1 + (axis k 0).val - 0 = 0 := rfl
  have e1 : ((ix3 0 i h : S1x4096x8.Idx) ((1 : Fin 3).cast hw.1.symm)).val * 1 + (axis k 1).val - 0 = i.val + k.val := by
    show i.val * 1 + k.val - 0 = _; omega
  have e2 : ((ix3 0 i h : S1x4096x8.Idx) ((2 : Fin 3).cast hw.1.symm)).val * 1 + (axis k 2).val - 0 = h.val := by
    show h.val * 1 + 0 - 0 = _; omega
  refine dite_congr (propext ⟨fun q => ?_, fun q a => ?_⟩) (fun q => congrArg x ?_) fun _ => rfl
  · exact e1 ▸ (q 1).2
  · match a with
    | ⟨0, _⟩ => exact ⟨Nat.zero_le _, lt_of_eq_of_lt e0 Nat.one_pos⟩
    | ⟨1, _⟩ => exact ⟨Nat.zero_le _, lt_of_eq_of_lt e1 q⟩
    | ⟨2, _⟩ => exact ⟨Nat.zero_le _, lt_of_eq_of_lt e2 h.isLt⟩
  · funext a; apply Fin.ext
    match a with
    | ⟨0, _⟩ => exact e0
    | ⟨1, _⟩ => exact e1
    | ⟨2, _⟩ => exact e2

theorem window_at (x : FVec Ideal S1x4096x8 .f32) (i : Fin 4096) (h : Fin 8) (hw) (hu) (v : FVec Ideal S_ .f32) (hv : ∀ j, v j = 0) :
    Host.reduceWindowAdd (F := Ideal) ![1, 4096, 1] ![1, 1, 1] ![0, 0, 0] ![0, 4095, 0] x v (t := S1x4096x8) hw hu (ix3 0 i h)
      = tailSum (fun j => x (ix3 0 j h)) i.val := by
  rw [← tailSum_eq]
  unfold Host.reduceWindowAdd
  rw [Ideal.hostReduceWindowAdd_def]
  unfold Ideal.hostReduceWindowAdd Host.reduceWindow
  rw [hv]
  refine (foldl_add _ _ _).trans ?_
  rw [zero_add, ← Fin.sum_univ_def]
  refine (Finset.sum_congr rfl fun n _ => ?_).trans (Equiv.sum_comp ((⟨3, ![1, 4096, 1]⟩ : Shape).rowMajor.symm) (part x i h hw) |>.trans ?_)
  · unfold part
    exact dite_congr rfl (fun _ => rfl) (fun _ => rfl)
  rw [← Equiv.sum_comp axis]
  exact Finset.sum_congr rfl fun k _ => part_at x i h hw k

def SUMS (x : FVec Ideal S1x4096x8 .f32) : FVec Ideal S4096x8 .f32 := fun y => tailSum (fun j => x (ix3 0 j (y 1))) (y 0).val

theorem flat_at (x : FVec Ideal S1x4096x8 .f32) (i : Fin 4096) (h : Fin 8) : shapeCast S4096x8 x shapeCasts_S1x4096x8_S4096x8 (ix2 i h) = x (ix3 0 i h) := by
  pointwise

/-- The gradient the reference returns. -/
theorem ref (x : FVec Ideal S1x4096x8 .f32) (h : S1x4096x8.ReduceWindows ![1, 4096, 1] ![1, 1, 1] ![0, 0, 0] ![0, 4095, 0] S1x4096x8) :
    shapeCast S4096x8 (Host.reduceWindowAdd (F := Ideal) ![1, 4096, 1] ![1, 1, 1] ![0, 0, 0] ![0, 4095, 0] x (broadcastInDim S_ ![] bcast_S_S_ (constant S_ .f32 0x00000000#32)) h h_S_)
      shapeCasts_S1x4096x8_S4096x8 = SUMS x := by
  funext y
  obtain ⟨i, k, rfl⟩ : ∃ (i : Fin 4096) (k : Fin 8), y = ix2 i k := ⟨y 0, y 1, eq_ix2 y⟩
  refine (flat_at _ i k).trans ?_
  refine (window_at _ i k _ _ _ fun j => ?_)
  pointwise

/-- The reference's run, its result the tail sums of the argument. -/
theorem run_sums (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2) = SUMS (m ((c.tc : Thread nD τ).loc main_arg0))
      ∧ r.2.mem ((c.tc : Thread nD τ).loc main_arg0) = m ((c.tc : Thread nD τ).loc main_arg0) :=
  (θ_run defs _ _).mono (fun _ h c => ⟨(h c).1.trans (ref _ _), (h c).2⟩) (run m ρ)

end Cert.CumReferenceIdeal.Value
-- ==== Proof.Cum.Final.lean ====
/- The cumulative sum's gradient: what the kernel's blocks hold, and the array it leaves. -/
module

public import proofs.«01_k».proof.Proof.Gen.CumKernelIdeal.Frame
public import proofs.«01_k».proof.Proof.Cum.Ref
public import Idealize.ShloMosaic.Lib.Pipeline.Value
public import Idealize.ShloMosaic.Lib.Pipeline.ValueKit
public import Idealize.ShloMosaic.Lib.StableHlo.ReadAt
public import Idealize.ShloMosaic.Lib.WordCmp
public import Idealize.ShloMosaic.Lib.Pipeline.ReadBack

@[expose] public section

set_option maxRecDepth 16384

noncomputable section

open Idealize.ShloMosaic Idealize.ShloMosaic.TcCoe Idealize.SL.Sem

namespace Cert.CumKernelIdeal.Value

open Cert.CumKernelIdeal Cert.CumKernelIdeal.Gen Idealize.ShloMosaic.Pipeline
open Cert.CumReferenceIdeal.Value (col tailSum SUMS)

theorem pay1_at (j) : k0_pay1 (F := Ideal) j = 0 := by pointwise [k0_pay1]

theorem pay2_at (x : FVec Ideal S512x128 .f32) (s : FVec Ideal S1x128 .f32) (r : Fin 512) (l : Fin 128) (f : Fin 512 → ℝ) (hf : ∀ c, x (ix2 c l) = (f c : EReal)) :
    k0_pay2 (F := Ideal) x s (ix2 r l) = (∑ c : Fin 512, if r.val ≤ c.val then x (ix2 c l) else 0) + s (ix2 0 l) := by
  pointwise [k0_pay2]
  have e0 : ∀ c, x (ix2 c l) - x (ix2 c l) = 0 := fun c => by rw [hf, ← EReal.coe_sub, sub_self, EReal.coe_zero]
  have z : ∀ b : BitVec 1, Scalar.select b (0 : EReal) 0 = 0 := fun b => by unfold Scalar.select; split <;> rfl
  simp only [e0, sub_zero, z, Finset.sum_const_zero, add_zero]
  refine congrArg (· + s (ix2 0 l)) (Finset.sum_congr rfl fun c _ => ?_)
  rw [WordCmp.cmpi_sge_ofNat (by omega) (by omega)]
  unfold Scalar.select
  by_cases h : r.val ≤ c.val
  · rw [if_pos h, if_pos (by simp [h])]
  · rw [if_neg h, if_neg (by simp [h])]
theorem pay3_at (x : FVec Ideal S512x128 .f32) (s : FVec Ideal S1x128 .f32) (r : Fin 1) (l : Fin 128) :
    k0_pay3 (F := Ideal) x s (ix2 r l) = k0_pay2 (F := Ideal) x s (ix2 0 l) := by
  unfold k0_pay3
  generalize k0_pay2 (F := Ideal) x s = v
  pointwise

variable (m : (ℓ : Loc nD τ sig) → Buf (Elt Ideal) ℓ)

/-- The argument in a column of lanes. -/
def lanes (a : FVec Ideal S1x4096x8 .f32) : FVec Ideal S4096x128 .f32 :=
  pad S4096x128 ![0, 96] ![0, 24] ![0, 0] (shapeCast S4096x8 a shapeCasts_S1x4096x8_S4096x8) (sitofp .f32 (constantI S_ 32 0#32)) pads_S4096x8_S4096x128_000_96240 h_S_

theorem V_lanes (c : Dev nD) : V m c main_v1 = lanes (m ((c.tc : Thread nD τ).loc main_arg0)) := by
  unfold V lanes
  after_reads_simp
  rfl

/-- The lane of a head. -/
def ln (h : Fin 8) : Fin 128 := ⟨96 + h.val, by omega⟩
theorem lanes_at (a : FVec Ideal S1x4096x8 .f32) (j : Fin 4096) (h : Fin 8) : lanes a (ix2 j (ln h)) = a (ix3 0 j h) := by
  unfold lanes ln
  pointwise

def row (n : ℕ) (r : Fin 512) : Fin 4096 := ⟨(512 * (7 - n) + r.val) % 4096, by omega⟩
theorem blk (c : Dev nD) (t : Fin cfg0.N) (r : Fin 512) (l : Fin 128) : (show EReal from iblk m c 0 t (ix2 r l)) = V m c main_v1 (ix2 (row t.val r) l) := by
  have idx : ∀ t : Fin cfg0.N, win0_0.index t = ![7 - t.val, 0] := (by decide +kernel : ∀ t : Fin grid0.N, _)
  unfold iblk row
  generalize V m c = V'
  blk_point [idx t]

/-- A block's triangle of ones and the rest of the column below it. -/
theorem tail_step (F : Fin 4096 → EReal) (n : ℕ) (hn : n < 8) (r : Fin 512) :
    (∑ c : Fin 512, if r.val ≤ c.val then F (row n c) else 0) + tailSum F (512 * (8 - n)) = tailSum F (512 * (7 - n) + r.val) := by
  have e : ∀ c : Fin 512, F (row n c) = col F (512 * (7 - n) + c.val) := fun c => by
    unfold col
    rw [dif_pos (by omega)]
    exact congrArg F (Fin.ext (Nat.mod_eq_of_lt (by omega)))
  simp only [e]
  rw [Fin.sum_univ_eq_sum_range (fun c => if r.val ≤ c then col F (512 * (7 - n) + c) else 0) 512, ← Finset.sum_filter]
  have hs : (Finset.range 512).filter (fun c => r.val ≤ c) = Finset.Ico r.val 512 := by
    ext x; simp only [Finset.mem_filter, Finset.mem_range, Finset.mem_Ico]; omega
  rw [hs, Finset.sum_Ico_add (fun n => col F n) r.val 512 (512 * (7 - n))]
  unfold tailSum
  rw [show 512 * (8 - n) = 512 * (7 - n) + 512 by omega, add_comm (512 * (7 - n)) r.val, add_comm (512 * (7 - n)) 512]
  exact Finset.sum_Ico_consecutive _ (by omega) (by omega)

theorem outs (c : Dev nD) (l : Fin 128) (G : Fin 4096 → ℝ) (hG : ∀ j, V m c main_v1 (ix2 j l) = (G j : EReal)) : ∀ (n : ℕ) (hn : n < cfg0.N),
    (∀ r : Fin 512, (show EReal from (outsAt0 m c n hn).1 (ix2 r l)) = tailSum (fun j => V m c main_v1 (ix2 j l)) (512 * (7 - n) + r.val))
      ∧ (show EReal from (outsAt0 m c n hn).2 (ix2 0 l)) = tailSum (fun j => V m c main_v1 (ix2 j l)) (512 * (7 - n)) := by
  intro n hn
  have key : ∀ (s : FVec Ideal S1x128 .f32), (show EReal from s (ix2 0 l)) = tailSum (fun j => V m c main_v1 (ix2 j l)) (512 * (8 - n)) →
      ∀ r : Fin 512, k0_pay2 (F := Ideal) (iblk m c 0 ⟨n, hn⟩) s (ix2 r l) = tailSum (fun j => V m c main_v1 (ix2 j l)) (512 * (7 - n) + r.val) := by
    intro s hs r
    refine (pay2_at _ s r l (fun q => G (row n q)) fun q => (blk m c ⟨n, hn⟩ q l).trans (hG _)).trans ?_
    refine Eq.trans (congrArg₂ (· + ·) (Finset.sum_congr rfl fun q _ => ?_) hs) (tail_step _ n (lt_of_lt_of_eq hn N_0) r)
    exact if_congr Iff.rfl (blk m c ⟨n, hn⟩ q l) rfl
  have hN : n < 8 := lt_of_lt_of_eq hn N_0
  cases n with
  | zero =>
    have h0 := key (k0_pay1 (F := Ideal)) ((pay1_at _).trans (by unfold tailSum; simp))
    have eA := outsAt0_A m c ⟨0, hn⟩ rfl
    refine ⟨fun r => ?_, ?_⟩
    · refine Eq.trans ?_ (h0 r)
      refine (congrFun (congrArg Prod.fst eA) (ix2 r l)).trans ?_
      frame_out
    · refine Eq.trans ?_ (h0 0)
      refine (congrFun (congrArg Prod.snd eA) (ix2 0 l)).trans ?_
      frame_out
      exact pay3_at _ _ 0 l
  | succ n =>
    have ih := outs c l G hG n (Nat.lt_of_succ_lt hn)
    have h0 := key (outsAt0 m c n (Nat.lt_of_succ_lt hn)).2 (ih.2.trans (by rw [show 7 - n = 8 - (n + 1) by omega]))
    have eB := outsAt0_B m c ⟨n + 1, hn⟩ (by show ¬(n + 1) % 8 = 0; omega)
    refine ⟨fun r => ?_, ?_⟩
    · refine Eq.trans ?_ (h0 r)
      refine (congrFun (congrArg Prod.fst eB) (ix2 r l)).trans ?_
      frame_out
      rw [read_unread_whole]
      rfl
    · refine Eq.trans ?_ (h0 0)
      refine (congrFun (congrArg Prod.snd eB) (ix2 0 l)).trans ?_
      frame_out
      rw [read_unread_whole]
      exact pay3_at _ _ 0 l

/-- The sums of every lane. -/
def ALL (L : FVec Ideal S4096x128 .f32) : FVec Ideal S4096x128 .f32 := fun y => tailSum (fun j => L (ix2 j (y 1))) (y 0).val

theorem put1 (X : FVec Ideal S4096x128 .f32) (t : Fin cfg0.N) (r : Fin 512) (l : Fin 128) :
    (show EReal from ((cfg0.win 1).blk t).view.read (Elt Ideal) X (ix2 r l)) = X (ix2 (row t.val r) l) := by
  have idx : ∀ t : Fin cfg0.N, win0_1.index t = ![7 - t.val, 0] := (by decide +kernel : ∀ t : Fin grid0.N, _)
  unfold row
  blk_point [idx t]

theorem final (c : Dev nD) (hr : ∀ j l, ∃ r : ℝ, V m c main_v1 (ix2 j l) = (r : EReal)) : (dats m 0 c).arrAt 1 (cfgs 0).N = ALL (V m c main_v1) := by
  choose G hG using hr
  refine (dats m 0 c).arrAt_eq_of_covers 1 _ (by decide +kernel) fun t hf y => ?_
  obtain ⟨r, l, rfl⟩ : ∃ (r : Fin 512) (l : Fin 128), y = ix2 r l := ⟨y 0, y 1, eq_ix2 y⟩
  rw [after0_1]
  refine ((outs m c l (fun j => G j l) (fun j => hG j l) t.val t.isLt).1 r).trans (Eq.trans ?_ (put1 (ALL (V m c main_v1)) t r l).symm)
  have ht : t.val < 8 := lt_of_lt_of_eq t.isLt N_0
  exact congrArg (tailSum _) (Nat.mod_eq_of_lt (by omega)).symm

theorem lanes_real (a : FVec Ideal S1x4096x8 .f32) (ha : ∀ j h, ∃ r : ℝ, a (ix3 0 j h) = (r : EReal)) (j : Fin 4096) (l : Fin 128) : ∃ r : ℝ, lanes a (ix2 j l) = (r : EReal) := by
  by_cases h : 96 ≤ l.val ∧ l.val < 104
  · obtain ⟨q, hq⟩ : ∃ q : Fin 8, l = ln q := ⟨⟨l.val - 96, by omega⟩, Fin.ext (by simp only [ln]; omega)⟩
    rw [hq, lanes_at]
    exact ha j q
  · refine ⟨0, ?_⟩
    unfold lanes
    pointwise
    rw [dif_neg (by omega)]
    show (((0#32 : BitVec 32).toInt : ℝ) : EReal) = _
    simp

def tailT (X : FVec Ideal S4096x128 .f32) : FVec Ideal S4096x8 .f32 := extractStridedSlice S4096x8 ![0, 96] X slices_S4096x128_S4096x8_0_96
theorem tail_eq (c : Dev nD) : Pipeline.afterTail₀ cfgs (dats m) 0 (V0 m) [hostOps1] c main_v3 = tailT ((dats m 0 c).arrAt 1 (cfgs 0).N) := by
  unfold Pipeline.afterTail₀
  rw [← Pipeline.withArrays_arr spec0 (by decide) c (V0 m c) (fun w => (dats m 0 c).arrAt w (cfgs 0).N) 1]
  generalize Pipeline.withArrays _ _ _ _ = V'
  unfold tailT
  after_reads_simp
theorem tailT_at (X : FVec Ideal S4096x128 .f32) (i : Fin 4096) (h : Fin 8) : tailT X (ix2 i h) = X (ix2 i (ln h)) := by
  unfold tailT ln
  pointwise

/-- The array the kernel returns. -/
theorem final_tail (c : Dev nD) (hr : ∀ j h, ∃ r : ℝ, m ((c.tc : Thread nD τ).loc main_arg0) (ix3 0 j h) = (r : EReal)) :
    Pipeline.afterTail₀ cfgs (dats m) 0 (V0 m) [hostOps1] c main_v3 = SUMS (m ((c.tc : Thread nD τ).loc main_arg0)) := by
  rw [tail_eq, final m c (fun j l => by rw [V_lanes]; exact lanes_real _ hr j l), V_lanes]
  funext y
  obtain ⟨i, h, rfl⟩ : ∃ (i : Fin 4096) (h : Fin 8), y = ix2 i h := ⟨y 0, y 1, eq_ix2 y⟩
  refine (tailT_at _ i h).trans ?_
  exact congrArg (fun f => tailSum f i.val) (funext fun j => lanes_at _ j h)

end Cert.CumKernelIdeal.Value
-- ==== Proof.CumClaim.lean ====
/- The claims about the cumulative sum's gradient. -/
module

public import proofs.«01_k».proof.Defs
public import proofs.«01_k».proof.Proof.Finite
public import proofs.«01_k».proof.Proof.Cum.Final
public import proofs.«01_k».proof.Proof.Gen.CumKernel.Frame
public import proofs.«01_k».proof.Proof.Gen.CumKernel
public import proofs.«01_k».proof.Proof.Gen.CumKernelIdeal
public import proofs.«01_k».proof.Proof.Gen.CumReferenceIdeal
public import Idealize.ShloMosaic.Lib.Claim

@[expose] public section

set_option maxRecDepth 16384

noncomputable section

open Idealize.ShloMosaic Idealize.ShloMosaic.TcCoe Idealize.SL.Sem

namespace Cert.Pre_cum_finite

theorem facts : Cert.Pre_cum_finite.Facts where
  bcast_S_S1x4096x8 := by decide

end Cert.Pre_cum_finite

namespace Cert.Proof

attribute [local instance] Cert.Pre_cum_finite.facts

theorem cum_frame : Cert.quiescent_CumKernel := fun m ρ _ => Cert.CumKernel.Gen.frame m ρ

theorem cum_frame_ideal : Cert.quiescent_CumKernelIdeal := fun m ρ _ => Cert.CumKernelIdeal.Gen.frame m ρ
theorem cum_frame_finite : Cert.quiescent_CumKernelIdeal_pre_cum_finite := fun m ρ _ => Cert.CumKernelIdeal.Gen.frame m ρ

theorem cum_frame_reference : Cert.quiescent_CumReferenceIdeal := fun m g _ =>
  (θ_run Cert.CumReferenceIdeal.defs _ _).mono (fun r h => ⟨fun c => (h c).2, sem_eq_zero_of_no_sems (by decide) r.2⟩)
    (Cert.CumReferenceIdeal.Value.run m g)
theorem cum_frame_reference_finite : Cert.quiescent_CumReferenceIdeal_pre_cum_finite := fun m g _ => cum_frame_reference m g trivial

theorem cum_real (m : (ℓ : Loc Cert.CumKernelIdeal.nD Cert.CumKernelIdeal.τ Cert.CumKernelIdeal.sig) → Buf (Elt Ideal) ℓ) (hm : Cert.Pre_CumKernelIdeal_cum_finite m)
    (c : Dev Cert.CumKernelIdeal.nD) (j : Fin 4096) (h : Fin 8) :
    ∃ r : ℝ, m ((c.tc : Thread Cert.CumKernelIdeal.nD Cert.CumKernelIdeal.τ).loc Cert.CumKernelIdeal.main_arg0) (ix3 0 j h) = (r : EReal) :=
  Cert.Finite.real_of_lt _ (congrFun (hm c) (ix3 0 j h))

set_option maxHeartbeats 4000000 in
theorem cum_algebraic : Cert.algebraic_CumKernelIdeal_CumReferenceIdeal_pre_cum_finite := by
  pair_intro
  · run_from Cert.CumKernelIdeal.Gen.run_main m g & Cert.CumKernelIdeal.Gen.frame m g
    · exact Cert.CumKernelIdeal.Gen.W_main_arg0 m (Cert.CumKernelIdeal.Gen.dats m) c
  · run_from Cert.CumReferenceIdeal.Value.run_sums m' g'
    exact (Cert.CumKernelIdeal.Value.final_tail m c (cum_real m hpre c)).symm

end Cert.Proof

end
-- ==== Proof.Online.lean ====
/- A causal row of attention taken one tile of keys at a time: the running maximum, sum of exponentials and weighted sum of values. -/
module

public import proofs.«01_k».proof.Proof.Attn
public import proofs.«01_k».proof.Proof.Causal

@[expose] public section

noncomputable section

open Idealize.ShloMosaic

namespace Cert.Online

open Cert.Attn Cert.Causal

theorem sum_tile (g : Fin 4096 → ℝ) (k : ℕ) (hk : k < 8) :
    ∑ j : Fin 4096, (if j.val / 512 = k then g j else 0) = ∑ c : Fin 512, g (pos k hk c) := by
  refine (Fin.sum_mul_add_congr (L := 4096) (S := 8) (n := 512)
    (F := fun s c => if s.val = k then g (pos s.val s.isLt c) else 0) fun s c hl => ?_).symm.trans ?_
  · have e : (s.val * 512 + c.val) / 512 = s.val := by omega
    have p : pos s.val s.isLt c = ⟨s.val * 512 + c.val, hl⟩ := Fin.ext (by simp only [pos]; omega)
    rw [p]
    simp only [e]
  · rw [Finset.sum_eq_single (⟨k, hk⟩ : Fin 8) (fun s _ hs => Finset.sum_eq_zero fun c _ => if_neg fun e => hs (Fin.ext e))
      (fun h => absurd (Finset.mem_univ _) h)]
    exact Finset.sum_congr rfl fun c _ => if_pos rfl

variable (x : Fin 4096 → ℝ) (i : Fin 4096)

/-- The sum over the first `k` tiles of the row's exponentials times `f`. -/
def part (f : Fin 4096 → ℝ) (k : ℕ) : ℝ := ∑ j : Fin 4096, if j.val < 512 * k then ex x i j * f j else 0

theorem part_succ (f : Fin 4096 → ℝ) (k : ℕ) (hk : k < 8) :
    part x i f (k + 1) = part x i f k + ∑ c : Fin 512, ex x i (pos k hk c) * f (pos k hk c) := by
  rw [← sum_tile (fun j => ex x i j * f j) k hk]
  unfold part
  rw [← Finset.sum_add_distrib]
  refine Finset.sum_congr rfl fun j _ => ?_
  rcases Nat.lt_trichotomy (j.val / 512) k with h | h | h
  · rw [if_pos (by omega), if_pos (by omega), if_neg (by omega), add_zero]
  · rw [if_pos (by omega), if_neg (by omega), if_pos h, zero_add]
  · rw [if_neg (by omega), if_neg (by omega), if_neg (by omega), add_zero]

theorem part_full (f : Fin 4096 → ℝ) (k : ℕ) (h : i.val < 512 * k) : part x i f k = ∑ j, ex x i j * f j := by
  unfold part
  refine Finset.sum_congr rfl fun j _ => ?_
  by_cases hj : j.val < 512 * k
  · rw [if_pos hj]
  · have e : ex x i j = 0 := by
      unfold ex
      rw [if_neg]
      intro hle
      have : j.val ≤ i.val := hle
      omega
    rw [if_neg hj, e, zero_mul]

variable (v : Fin 4096 → Fin 128 → ℝ)

/-- What the row holds after `k` tiles. -/
def Row (k : ℕ) (m l : EReal) (a : Fin 128 → EReal) : Prop :=
  (k = 0 ∧ m = ⊥ ∧ l = 0 ∧ ∀ y, a y = 0) ∨
  ∃ M : ℝ, m = (M : EReal) ∧ l = ((part x i (fun _ => 1) k * Real.exp (-M) : ℝ) : EReal) ∧
    ∀ y, a y = ((part x i (fun j => v j y) k * Real.exp (-M) : ℝ) : EReal)

theorem part_zero (f : Fin 4096 → ℝ) : part x i f 0 = 0 :=
  Finset.sum_eq_zero fun j _ => if_neg (by omega)

/-- The first column of a tile up to the row's own is not masked, so the tile's largest logit is a real number. -/
theorem tile_max (k : ℕ) (hk : k < 8) (hki : 512 * k ≤ i.val) (S : Fin 512 → EReal) (hS : ∀ c, S c = logit x i (pos k hk c)) (m : EReal) (hm : m < ⊤) :
    ∃ M : ℝ, max m (Finset.fold max (⊥ : EReal) S Finset.univ) = (M : EReal) := by
  have hlt : Finset.fold max (⊥ : EReal) S Finset.univ < ⊤ := by
    rw [Finset.fold_max_lt]
    refine ⟨bot_lt_top, fun c _ => ?_⟩
    rw [hS]
    unfold logit; split
    · exact EReal.coe_lt_top _
    · exact bot_lt_top
  have hgt : ⊥ < Finset.fold max (⊥ : EReal) S Finset.univ := by
    rw [Finset.lt_fold_max]
    refine Or.inr ⟨0, Finset.mem_univ _, ?_⟩
    have h0 : pos k hk 0 ≤ i := by
      show 512 * k + 0 ≤ i.val
      omega
    rw [hS, logit, if_pos h0]
    exact EReal.bot_lt_coe _
  exact ⟨_, (EReal.coe_toReal (max_lt hm hlt).ne (lt_of_lt_of_le hgt (le_max_right _ _)).ne').symm⟩

variable {x i v}

theorem Row.lt_top {k : ℕ} {m l : EReal} {a : Fin 128 → EReal} (h : Row x i v k m l a) : m < ⊤ := by
  rcases h with ⟨_, h, _⟩ | ⟨M, h, _⟩
  · rw [h]; exact bot_lt_top
  · rw [h]; exact EReal.coe_lt_top _

/-- Before the first tile. -/
theorem Row.zero {m l : EReal} {a : Fin 128 → EReal} (hm : m = ⊥) (hl : l = 0) (ha : ∀ y, a y = 0) : Row x i v 0 m l a := Or.inl ⟨rfl, hm, hl, ha⟩

/-- One tile more. -/
theorem Row.step {k : ℕ} {m l : EReal} {a : Fin 128 → EReal} (h : Row x i v k m l a) (hk : k < 8) (hki : 512 * k ≤ i.val)
    (S : Fin 512 → EReal) (hS : ∀ c, S c = logit x i (pos k hk c)) (V : Fin 512 → Fin 128 → EReal) (hV : ∀ c y, V c y = (v (pos k hk c) y : EReal))
    (m' : EReal) (hm' : m' = max m (Finset.fold max (⊥ : EReal) S Finset.univ)) :
    Row x i v (k + 1) m' (Ideal.exp (m - m') * l + ∑ c, Ideal.exp (S c - m')) (fun y => Ideal.exp (m - m') * a y + ∑ c, Ideal.exp (S c - m') * V c y) := by
  obtain ⟨M', e⟩ := tile_max x i k hk hki S hS m h.lt_top
  obtain rfl : m' = (M' : EReal) := hm'.trans e
  have hsum : ∀ (f : Fin 4096 → ℝ) (F : Fin 512 → EReal), (∀ c, F c = (f (pos k hk c) : EReal)) →
      ∑ c, Ideal.exp (S c - (M' : EReal)) * F c = (((∑ c, ex x i (pos k hk c) * f (pos k hk c)) * Real.exp (-M') : ℝ) : EReal) := fun f F hF => by
    rw [Finset.sum_mul, ← coe_sum]
    refine Finset.sum_congr rfl fun c _ => ?_
    rw [hS, exp_logit, hF, ← EReal.coe_mul]
    congr 1; ring
  have hone : ∑ c, Ideal.exp (S c - (M' : EReal)) = (((∑ c, ex x i (pos k hk c) * 1) * Real.exp (-M') : ℝ) : EReal) :=
    (Finset.sum_congr rfl fun c _ => (mul_one _).symm).trans (hsum (fun _ => 1) (fun _ => 1) fun c => by simp)
  refine Or.inr ⟨M', rfl, ?_, fun y => ?_⟩
  · rw [hone, part_succ x i _ k hk]
    rcases h with ⟨rfl, rfl, rfl, _⟩ | ⟨M, rfl, rfl, _⟩
    · rw [mul_zero, zero_add, part_zero, zero_add]
    · rw [← EReal.coe_sub, ideal_exp_coe, ← EReal.coe_mul, ← EReal.coe_add, add_mul]
      congr 2
      rw [mul_left_comm, ← Real.exp_add]
      congr 2; ring
  · dsimp only
    rw [hsum (fun j => v j y) (fun c => V c y) (fun c => hV c y), part_succ x i _ k hk]
    rcases h with ⟨rfl, rfl, rfl, h⟩ | ⟨M, rfl, rfl, h⟩
    · rw [h, mul_zero, zero_add, part_zero, zero_add]
    · rw [h, ← EReal.coe_sub, ideal_exp_coe, ← EReal.coe_mul, ← EReal.coe_add, add_mul]
      congr 2
      rw [mul_left_comm, ← Real.exp_add]
      congr 2; ring

/-- After the row's own tile the weighted sum over the sum of exponentials is the row of the output, -/
theorem Row.out {k : ℕ} {m l : EReal} {a : Fin 128 → EReal} (h : Row x i v k m l a) (hk : i.val < 512 * k) (y : Fin 128) :
    Ideal.div (a y) l = ((∑ j, soft x i j * v j y : ℝ) : EReal) := by
  rcases h with ⟨rfl, _⟩ | ⟨M, rfl, rfl, h⟩
  · omega
  · have e : part x i (fun _ => 1) k = tot x i := by
      rw [part_full x i _ k hk]
      exact Finset.sum_congr rfl fun j _ => mul_one _
    rw [h, e, part_full x i _ k hk, Ideal.div_coe (mul_pos (tot_pos x i) (Real.exp_pos _)).ne', ← EReal.coe_mul, mul_one_div,
      mul_div_mul_right _ _ (Real.exp_ne_zero _), Finset.sum_div]
    congr 1
    refine Finset.sum_congr rfl fun j _ => ?_
    unfold soft; ring

/-- and the maximum plus the logarithm of that sum is the row's log-sum. -/
theorem Row.lse {k : ℕ} {m l : EReal} {a : Fin 128 → EReal} (h : Row x i v k m l a) (hk : i.val < 512 * k) :
    m + Ideal.log l = ((Real.log (tot x i) : ℝ) : EReal) := by
  rcases h with ⟨rfl, _⟩ | ⟨M, rfl, rfl, h⟩
  · omega
  · have e : part x i (fun _ => 1) k = tot x i := by
      rw [part_full x i _ k hk]
      exact Finset.sum_congr rfl fun j _ => mul_one _
    rw [e, Ideal.log_coe, if_neg (not_le.2 (mul_pos (tot_pos x i) (Real.exp_pos _))), ← EReal.coe_add,
      Real.log_mul (tot_pos x i).ne' (Real.exp_ne_zero _), Real.log_exp]
    congr 1; ring

end Cert.Online

end
-- ==== Proof.Mlaf.Pay.lean ====
/- The latent attention's forward call, one tile of keys: the step of the running maximum, sum and weighted sum, read at one index. -/
module

public import proofs.«01_k».proof.Proof.Gen.MlafKernelIdeal.Skeleton
public import proofs.«01_k».proof.Proof.Lanes
public import proofs.«01_k».proof.Proof.Online

@[expose] public section

set_option maxRecDepth 16384

noncomputable section

open Idealize.ShloMosaic Idealize.ShloMosaic.TcCoe Idealize.SL.Sem

namespace Cert.MlafKernelIdeal.Value

open Cert.MlafKernelIdeal Cert.MlafKernelIdeal.Gen Cert.Lanes Cert.Online Cert.Attn Cert.Causal

/-- The causal mask inside a tile of the diagonal. -/
theorem tile_mask (r j : Fin 512) : IntOp.cmpi CmpIPredicate.sle (BitVec.ofNat 32 j.val) (BitVec.ofNat 32 r.val) = BitVec.ofBool (decide (j.val ≤ r.val)) :=
  WordCmp.cmpi_sle_ofNat (by omega) (by omega)

/-- The step of one head: the new maximum, sum and weighted sum from the tile's scores `S` and values `v`. -/
def mT (m : FVec Ideal S512x1 .f32) (S : FVec Ideal S512x512 .f32) : FVec Ideal S512x1 .f32 := k0_pay47 m S
def lT (m l : FVec Ideal S512x1 .f32) (S : FVec Ideal S512x512 .f32) : FVec Ideal S512x1 .f32 := k0_pay50 m l S
def aT (m : FVec Ideal S512x1 .f32) (a : FVec Ideal S512x128 .f32) (S : FVec Ideal S512x512 .f32) (v : Vec Ideal S512x128 .bf16) : FVec Ideal S512x128 .f32 :=
  addf (mulf (broadcastTo S512x128 (k0_pay48 m S) broadcasts_S512x1_S512x128) a)
    (matmul dot_S512x512_S512x128_S512x128_1_0_0_1_n_n none (truncf .bf16 (k0_pay49 m S) bitsLt_bf16_f32) (k0_pay46 v) (constant S512x128 .f32 0x00000000#32))

theorem mT_at (m : FVec Ideal S512x1 .f32) (S : FVec Ideal S512x512 .f32) (r : Fin 512) :
    (mT m S (ix2 r 0) : EReal) = max (m (ix2 r 0) : EReal) (Finset.fold max (⊥ : EReal) (fun c => (S (ix2 r c) : EReal)) Finset.univ) := by
  unfold mT
  rw [← Cert.Attn.neg_inf]
  pointwise [k0_pay47]

theorem lT_at (m l : FVec Ideal S512x1 .f32) (S : FVec Ideal S512x512 .f32) (r : Fin 512) :
    (lT m l S (ix2 r 0) : EReal) = Ideal.exp ((m (ix2 r 0) : EReal) - mT m S (ix2 r 0)) * l (ix2 r 0)
      + ∑ c, Ideal.exp ((S (ix2 r c) : EReal) - mT m S (ix2 r 0)) := by
  unfold lT mT
  generalize hM : k0_pay47 m S = M
  pointwise [k0_pay50, k0_pay48, k0_pay49, hM]

theorem aT_at (m : FVec Ideal S512x1 .f32) (a : FVec Ideal S512x128 .f32) (S : FVec Ideal S512x512 .f32) (v : Vec Ideal S512x128 .bf16) (r : Fin 512) (y : Fin 128) :
    (aT m a S v (ix2 r y) : EReal) = Ideal.exp ((m (ix2 r 0) : EReal) - mT m S (ix2 r 0)) * a (ix2 r y)
      + ∑ c, Ideal.exp ((S (ix2 r c) : EReal) - mT m S (ix2 r 0)) * v (ix2 c y) := by
  unfold aT mT
  generalize hM : k0_pay47 m S = M
  pointwise [k0_pay48, k0_pay49, k0_pay46, hM]

/-- The step of a row. -/
theorem row_step {x : Fin 4096 → ℝ} {i : Fin 4096} {u : Fin 4096 → Fin 128 → ℝ} {m l : FVec Ideal S512x1 .f32} {a : FVec Ideal S512x128 .f32} {k : ℕ} {r : Fin 512}
    (h : Row x i u k (m (ix2 r 0)) (l (ix2 r 0)) (fun y => a (ix2 r y))) (hk : k < 8) (hki : 512 * k ≤ i.val)
    (S : FVec Ideal S512x512 .f32) (hS : ∀ c, (S (ix2 r c) : EReal) = logit x i (pos k hk c))
    (v : Vec Ideal S512x128 .bf16) (hv : ∀ c y, (v (ix2 c y) : EReal) = (u (pos k hk c) y : EReal)) :
    Row x i u (k + 1) (mT m S (ix2 r 0)) (lT m l S (ix2 r 0)) (fun y => aT m a S v (ix2 r y)) := by
  simp only [lT_at, aT_at]
  exact h.step hk hki (fun c => S (ix2 r c)) hS (fun c y => v (ix2 c y)) hv _ (mT_at m S r)

/-- Lane `l` of head `h` in a row holding both heads of a pair, 128 lanes each. -/
def wl (h : Fin 2) (l : Fin 128) : Fin 256 := ⟨128 * h.val + l.val, by omega⟩
/-- The scale of the scores, one over the root of 96 rounded. -/
def cs : EReal := Ideal.ofBits .f32 0x3DD105EC#32

/-- The scores of a block of queries and a tile of keys, or all keys. -/
def dotT (q k : Vec Ideal S512x256 .bf16) (h : Fin 2) (r j : Fin 512) : EReal := (∑ l : Fin 128, q (ix2 r (wl h l)) * k (ix2 j (wl h l))) * cs
def dotK (q : Vec Ideal S512x256 .bf16) (k : Vec Ideal S4096x256 .bf16) (h : Fin 2) (r : Fin 512) (j : Fin 4096) : EReal :=
  (∑ l : Fin 128, q (ix2 r (wl h l)) * k (ix2 j (wl h l))) * cs

theorem dot_congr (q k : Vec Ideal S512x256 .bf16) (k' : Vec Ideal S4096x256 .bf16) (h : Fin 2) (r j : Fin 512) (j' : Fin 4096)
    (e : ∀ l, k (ix2 j l) = k' (ix2 j' l)) : dotT q k h r j = dotK q k' h r j' := by
  unfold dotT dotK
  simp only [e]

/-- The scores of one tile, and those of the diagonal with their mask. -/
theorem score0 (q k : Vec Ideal S512x256 .bf16) (r j : Fin 512) :
    (k0_pay4 (k0_pay34 q) k (ix2 r j) : EReal) = dotT q k 0 r j := by
  pointwise [k0_pay4, k0_pay34, k0_pay33, k0_pay3]
  simp [dotT, cs, wl]
theorem score1 (q k : Vec Ideal S512x256 .bf16) (r j : Fin 512) :
    (k0_pay5 (k0_pay35 q) k (ix2 r j) : EReal) = dotT q k 1 r j := by
  pointwise [k0_pay5, k0_pay35, k0_pay33, k0_pay3]
  simp [dotT, cs, wl]
theorem diag0 (q k : Vec Ideal S512x256 .bf16) (r j : Fin 512) :
    (k0_pay44 q k (ix2 r j) : EReal) = if j.val ≤ r.val then dotT q k 0 r j else ⊥ := by
  rw [← Cert.Attn.neg_inf]
  pointwise [k0_pay44, k0_pay34, k0_pay33, k0_pay43]
  simp [dotT, cs, wl, tile_mask, sel]
theorem diag1 (q k : Vec Ideal S512x256 .bf16) (r j : Fin 512) :
    (k0_pay45 q k (ix2 r j) : EReal) = if j.val ≤ r.val then dotT q k 1 r j else ⊥ := by
  rw [← Cert.Attn.neg_inf]
  pointwise [k0_pay45, k0_pay35, k0_pay33, k0_pay43]
  simp [dotT, cs, wl, tile_mask, sel]

/-- What the last step stores: each head's weighted sum over its sum of exponentials, in its lanes, and the log-sums. -/
theorem out_at (m₀ l₀ m₁ l₁ : FVec Ideal S512x1 .f32) (a₀ a₁ : FVec Ideal S512x128 .f32) (S₀ S₁ : FVec Ideal S512x512 .f32) (v : Vec Ideal S512x128 .bf16)
    (r : Fin 512) (y : Fin 128) :
    (k0_pay2 (k0_pay55 m₀ l₀ a₀ S₀ v) (k0_pay57 m₁ l₁ a₁ S₁ v) (ix2 r y) : EReal)
      = if y.val / 64 = 0 then Ideal.div (aT m₀ a₀ S₀ v (ix2 r y)) (lT m₀ l₀ S₀ (ix2 r 0)) else Ideal.div (aT m₁ a₁ S₁ v (ix2 r y)) (lT m₁ l₁ S₁ (ix2 r 0)) := by
  have e₀ : k0_pay55 m₀ l₀ a₀ S₀ v = divf (aT m₀ a₀ S₀ v) (broadcastTo S512x128 (lT m₀ l₀ S₀) broadcasts_S512x1_S512x128) := rfl
  have e₁ : k0_pay57 m₁ l₁ a₁ S₁ v = divf (aT m₁ a₁ S₁ v) (broadcastTo S512x128 (lT m₁ l₁ S₁) broadcasts_S512x1_S512x128) := rfl
  rw [e₀, e₁]
  generalize aT m₀ a₀ S₀ v = A₀
  generalize aT m₁ a₁ S₁ v = A₁
  generalize lT m₀ l₀ S₀ = L₀
  generalize lT m₁ l₁ S₁ = L₁
  pointwise [k0_pay2, lane0, sel]
theorem lse_at (m₀ l₀ : FVec Ideal S512x1 .f32) (S₀ : FVec Ideal S512x512 .f32) (r : Fin 512) :
    (k0_pay56 m₀ l₀ S₀ (ix3 0 r 0) : EReal) = mT m₀ S₀ (ix2 r 0) + Ideal.log (lT m₀ l₀ S₀ (ix2 r 0)) := by
  have e : k0_pay56 m₀ l₀ S₀ = shapeCast S1x512x1 (addf (mT m₀ S₀) (log (lT m₀ l₀ S₀))) shapeCasts_S512x1_S1x512x1 := rfl
  rw [e]
  generalize mT m₀ S₀ = M
  generalize lT m₀ l₀ S₀ = L
  pointwise
theorem lse_at' (m₀ l₀ : FVec Ideal S512x1 .f32) (S₀ : FVec Ideal S512x512 .f32) (r : Fin 512) :
    (k0_pay1 (k0_pay58 m₀ l₀ S₀) (ix3 0 r 0) : EReal) = mT m₀ S₀ (ix2 r 0) + Ideal.log (lT m₀ l₀ S₀ (ix2 r 0)) :=
  lse_at m₀ l₀ S₀ r

end Cert.MlafKernelIdeal.Value

end
-- ==== Proof.Mlaf.Point.lean ====
/- The latent attention's forward call: what one grid point leaves in its two blocks. -/
module

public import proofs.«01_k».proof.Proof.Gen.MlafKernelIdeal.Frame
public import proofs.«01_k».proof.Proof.Mlaf.Pay
public import proofs.«01_k».proof.Proof.Tile

@[expose] public section

set_option maxRecDepth 16384

noncomputable section

open Idealize.ShloMosaic Idealize.ShloMosaic.TcCoe Idealize.ShloMosaic.Tactic Idealize.SL.Sem

namespace Cert.MlafKernelIdeal.Value

open Cert.MlafKernelIdeal Cert.MlafKernelIdeal.Gen Cert.Lanes Cert.Online Cert.Attn Cert.Causal Cert.Tile

theorem trips₁ : ∀ t : Fin cfg0.N, (k0_t1_loop (grid0.coords t)).trips = t.val % 8 := (by decide +kernel : ∀ t : Fin grid0.N, _)
theorem trips₂ : ∀ t : Fin cfg0.N, (k0_t2_loop (grid0.coords t)).trips = 0 := (by decide +kernel : ∀ t : Fin grid0.N, _)
theorem off₁ : ∀ (t : Fin cfg0.N) (k : Fin (k0_t1_loop (grid0.coords t)).trips), k0_off1 (grid0.coords t) k = ![512 * k.val, 0] :=
  (by decide +kernel : ∀ (t : Fin grid0.N) (k : Fin (k0_t1_loop (grid0.coords t)).trips), _)
theorem off₂ : ∀ (t : Fin cfg0.N) (k : Fin (k0_t1_loop (grid0.coords t)).trips), k0_off2 (grid0.coords t) k = ![512 * k.val, 0] :=
  (by decide +kernel : ∀ (t : Fin grid0.N) (k : Fin (k0_t1_loop (grid0.coords t)).trips), _)
theorem off₅ : ∀ t : Fin cfg0.N, k0_off5 (grid0.coords t) = ![512 * (t.val % 8), 0] := (by decide +kernel : ∀ t : Fin grid0.N, _)
theorem off₆ : ∀ t : Fin cfg0.N, k0_off6 (grid0.coords t) = ![512 * (t.val % 8), 0] := (by decide +kernel : ∀ t : Fin grid0.N, _)

/-- What the loop over the tiles carries: for each head the running maximum, sum and weighted sum. -/
abbrev St : Type := FVec Ideal S512x1 .f32 × FVec Ideal S512x1 .f32 × FVec Ideal S512x128 .f32 × FVec Ideal S512x1 .f32 × FVec Ideal S512x1 .f32 × FVec Ideal S512x128 .f32

/-- One tile's step on what is carried. -/
def stepT (q k : Vec Ideal S512x256 .bf16) (v : Vec Ideal S512x128 .bf16) (s : St) : St :=
  (mT s.1 (k0_pay4 (k0_pay34 q) k), lT s.1 s.2.1 (k0_pay4 (k0_pay34 q) k), aT s.1 s.2.2.1 (k0_pay4 (k0_pay34 q) k) v,
   mT s.2.2.2.1 (k0_pay5 (k0_pay35 q) k), lT s.2.2.2.1 s.2.2.2.2.1 (k0_pay5 (k0_pay35 q) k), aT s.2.2.2.1 s.2.2.2.2.2 (k0_pay5 (k0_pay35 q) k) v)

theorem trip_eq (𝒱 : Variants) (c : Dev nD) (bd : Option 𝒱.V) (i : grid0.Coords) (arg2 : Memref sig .tc .vmem S512x256 .bf16) (harg2 : arg2.IsWhole)
    (arg3 : Memref sig .tc .vmem S4096x256 .bf16) (harg3 : arg3.IsWhole) (arg4 : Memref sig .tc .vmem S4096x128 .bf16) (harg4 : arg4.IsWhole)
    (arg5 : Memref sig .tc .vmem S512x128 .f32) (harg5 : arg5.IsWhole) (arg6 : Memref sig .tc .vmem S2x512x1 .f32) (harg6 : arg6.IsWhole)
    (q : Vec Ideal S512x256 .bf16) (x1 : Vec Ideal S4096x256 .bf16) (x2 : Vec Ideal S4096x128 .bf16) (k : Fin (k0_t1_loop i).trips) (s : St) :
    tripR_k0_t1 (F := Ideal) 𝒱 c bd i arg2 harg2 arg3 harg3 arg4 harg4 arg5 harg5 arg6 harg6 q (harg3.unread x1) (harg4.unread x2) k s
      = stepT q (View.ld x1 (Rect.unit (k0_off1 i k) ![512, 256] (k0_off1_inb i k))) (View.ld x2 (Rect.unit (k0_off2 i k) ![512, 128] (k0_off2_inb i k))) s := by
  unfold tripR_k0_t1 trip_k0_t1
  sl_unfold_words
  simp only [View.readAt_eq_ld, Memref.IsWhole.read_unread]
  rfl

variable (m : (ℓ : Loc nD τ sig) → Buf (Elt Ideal) ℓ) (c : Dev nD) (t : Fin cfg0.N)

/-- What is carried after `n` tiles of a point. -/
def stAt (n : ℕ) : St :=
  st_k0_t1 (F := Ideal) Variants.none c none (grid0.coords t) (ms0_0 t) (hs0_0 t) (ms0_1 t) (hs0_1 t) (ms0_2 t) (hs0_2 t) (ms0_3 t) (hs0_3 t) (ms0_4 t) (hs0_4 t)
    (iblk m c 0 t) ((hs0_1 t).unread (iblk m c 1 t)) ((hs0_2 t).unread (iblk m c 2 t)) (k0_pay36, k0_pay37, k0_pay38, k0_pay36, k0_pay37, k0_pay38) n

/-- The point's own tile of keys and values. -/
def kT : Vec Ideal S512x256 .bf16 := View.ld (iblk m c 1 t) (Rect.unit (k0_off5 (grid0.coords t)) ![512, 256] (k0_off5_inb (grid0.coords t)))
def vT : Vec Ideal S512x128 .bf16 := View.ld (iblk m c 2 t) (Rect.unit (k0_off6 (grid0.coords t)) ![512, 128] (k0_off6_inb (grid0.coords t)))

theorem st_rem (i : grid0.Coords) (arg2 : Memref sig .tc .vmem S512x256 .bf16) (harg2 : arg2.IsWhole)
    (arg3 : Memref sig .tc .vmem S4096x256 .bf16) (harg3 : arg3.IsWhole) (arg4 : Memref sig .tc .vmem S4096x128 .bf16) (harg4 : arg4.IsWhole)
    (arg5 : Memref sig .tc .vmem S512x128 .f32) (harg5 : arg5.IsWhole) (arg6 : Memref sig .tc .vmem S2x512x1 .f32) (harg6 : arg6.IsWhole)
    (q : Vec Ideal S512x256 .bf16) (w : BitVec 32) (X1 : BufTy.Contents (Elt Ideal) arg3.view.ty) (X2 : BufTy.Contents (Elt Ideal) arg4.view.ty) (s : St) (n : ℕ) (hn : n = 0) :
    st_k0_t2 (F := Ideal) Variants.none c none i arg2 harg2 arg3 harg3 arg4 harg4 arg5 harg5 arg6 harg6 q w X1 X2 s n = s := by
  subst hn; rfl

theorem out_eq (r : Fin 512) (y : Fin 128) : (outsAt0 m c t).1 (ix2 r y)
    = k0_pay2 (k0_pay55 (stAt m c t (t.val % 8)).1 (stAt m c t (t.val % 8)).2.1 (stAt m c t (t.val % 8)).2.2.1 (k0_pay44 (iblk m c 0 t) (kT m c t)) (vT m c t))
      (k0_pay57 (stAt m c t (t.val % 8)).2.2.2.1 (stAt m c t (t.val % 8)).2.2.2.2.1 (stAt m c t (t.val % 8)).2.2.2.2.2 (k0_pay45 (iblk m c 0 t) (kT m c t)) (vT m c t)) (ix2 r y) := by
  unfold outsAt0
  frame_out
  rw [← trips₁ t]
  rw [st_rem _ _ _ _ _ _ _ _ _ _ _ _ _ _ _ _ _ _ (trips₂ t)]
  rfl

theorem one_row (x : S1x512x1.Idx) (r : Fin 512) (h : r.val = (x 1).val) : x = ix3 0 r 0 := by
  refine funext fun a => Fin.ext ?_
  fin_cases a
  · have b : (x 0).val < 1 := (x 0).isLt
    show (x 0).val = 0
    omega
  · exact h.symm
  · have b : (x 2).val < 1 := (x 2).isLt
    show (x 2).val = 0
    omega

/-- Two blocks of log-sums, one per head. -/
theorem two_rows (inb₀ inb₁) (w₀ w₁ : S1x512x1.Idx → Elt Ideal .f32) (h : Fin 2) (r : Fin 512) :
    View.canon (Val := Elt Ideal) (s := S2x512x1) [⟨Rect.unit ![1, 0, 0] S1x512x1.size inb₁, w₁⟩, ⟨Rect.unit ![0, 0, 0] S1x512x1.size inb₀, w₀⟩] (ix3 h r 0)
      = if h.val = 0 then w₀ (ix3 0 r 0) else w₁ (ix3 0 r 0) := by
  canon_tiles x hx using View.cover_of_tiledL (s := S2x512x1) [⟨Rect.unit ![1, 0, 0] S1x512x1.size inb₁, w₁⟩, ⟨Rect.unit ![0, 0, 0] S1x512x1.size inb₀, w₀⟩] S1x512x1.size (by sl_kernel_rfl) _
  · have hh : ¬h.val = 0 := by
      have e : h.val = 1 + (x 0 : ℕ) := hx0
      omega
    have ex : x = ix3 0 r 0 := one_row x r hx1
    rw [if_neg hh, ex]
  · have hh : h.val = 0 := by
      have e : h.val = (x 0 : ℕ) := hx0
      omega
    have ex : x = ix3 0 r 0 := one_row x r hx1
    rw [if_pos hh, ex]

theorem lse_eq (h : Fin 2) (r : Fin 512) : (outsAt0 m c t).2 (ix3 h r 0)
    = if h.val = 0 then k0_pay56 (stAt m c t (t.val % 8)).1 (stAt m c t (t.val % 8)).2.1 (k0_pay44 (iblk m c 0 t) (kT m c t)) (ix3 0 r 0)
      else k0_pay1 (k0_pay58 (stAt m c t (t.val % 8)).2.2.2.1 (stAt m c t (t.val % 8)).2.2.2.2.1 (k0_pay45 (iblk m c 0 t) (kT m c t))) (ix3 0 r 0) := by
  unfold outsAt0
  dsimp only
  frame_out
  refine (two_rows _ _ _ _ h r).trans ?_
  rw [← trips₁ t]
  rw [st_rem _ _ _ _ _ _ _ _ _ _ _ _ _ _ _ _ _ _ (trips₂ t)]
  rfl

/-- A tile of 512 rows of keys, or values. -/
theorem load_tile {B : ℕ} (X : (⟨2, ![4096, B]⟩ : Shape).Idx → Elt Ideal .bf16) {off : Fin 2 → ℕ} {b : ℕ} (hb : b < 8)
    (inb : ∀ a, off a + (![512, B] : Fin 2 → ℕ) a ≤ (⟨2, ![4096, B]⟩ : Shape).size a) (hoff : off = ![512 * b, 0]) (r : Fin 512) (l : Fin B) :
    View.ld (Val := Elt Ideal) X (Rect.unit (s := ⟨2, ![4096, B]⟩) off ![512, B] inb) (ix2 r l) = X (ix2 (pos b hb r) l) := by
  have e : (⟨(pos b hb r).val % 512, Nat.mod_lt _ (by decide)⟩ : Fin 512) = r := Fin.ext (by simp only [pos]; omega)
  exact (congrArg (fun z => View.ld (Val := Elt Ideal) X (Rect.unit (s := ⟨2, ![4096, B]⟩) off ![512, B] inb) (ix2 z l)) e.symm).trans
    (load_rows X inb hoff (pos b hb r) (by simp only [pos]; omega) l)

/-- The position of row `r` of the point's queries. -/
def qp (t : Fin cfg0.N) (r : Fin 512) : Fin 4096 := pos (t.val % 8) (Nat.mod_lt _ (by decide)) r

/-- What is carried after `n` tiles is, row by row, what the row holds. -/
def Carries (t : Fin cfg0.N) (s : Fin 2 → Fin 512 → Fin 4096 → ℝ) (u : Fin 4096 → Fin 128 → ℝ) (n : ℕ) (S : St) : Prop :=
  ∀ r : Fin 512, Row (s 0 r) (qp t r) u n (S.1 (ix2 r 0)) (S.2.1 (ix2 r 0)) (fun y => S.2.2.1 (ix2 r y)) ∧
    Row (s 1 r) (qp t r) u n (S.2.2.2.1 (ix2 r 0)) (S.2.2.2.2.1 (ix2 r 0)) (fun y => S.2.2.2.2.2 (ix2 r y))

section Rows

variable (s : Fin 2 → Fin 512 → Fin 4096 → ℝ) (u : Fin 4096 → Fin 128 → ℝ)
  (hs : ∀ (h : Fin 2) (r : Fin 512) (j : Fin 4096),
    dotK (iblk m c 0 t) (iblk m c 1 t) h r j = (s h r j : EReal))
  (hu : ∀ (j : Fin 4096) (y : Fin 128), (iblk m c 2 t (ix2 j y) : EReal) = (u j y : EReal))

include hs hu

theorem carries (n : ℕ) (hn : n ≤ t.val % 8) : Carries t s u n (stAt m c t n) := by
  induction n with
  | zero =>
    intro r
    have hm : (k0_pay36 (F := Ideal) (ix2 r 0) : EReal) = ⊥ := by
      rw [← neg_inf]
      pointwise [k0_pay36]
    have hl : (k0_pay37 (F := Ideal) (ix2 r 0) : EReal) = 0 := by pointwise [k0_pay37]
    have ha : ∀ y, (k0_pay38 (F := Ideal) (ix2 r y) : EReal) = 0 := fun y => by pointwise [k0_pay38]
    exact ⟨Row.zero hm hl ha, Row.zero hm hl ha⟩
  | succ n ih =>
    have ih := ih (by omega)
    intro r
    replace ih := ih r
    have h8 : n < 8 := by omega
    have ht : n < (k0_t1_loop (grid0.coords t)).trips := by rw [trips₁]; omega
    have e : stAt m c t (n + 1) = stepT (iblk m c 0 t)
        (View.ld (iblk m c 1 t) (Rect.unit (k0_off1 (grid0.coords t) ⟨n, ht⟩) ![512, 256] (k0_off1_inb (grid0.coords t) ⟨n, ht⟩)))
        (View.ld (iblk m c 2 t) (Rect.unit (k0_off2 (grid0.coords t) ⟨n, ht⟩) ![512, 128] (k0_off2_inb (grid0.coords t) ⟨n, ht⟩))) (stAt m c t n) :=
      (st_k0_t1_succ (F := Ideal) _ _ _ _ _ _ _ _ _ _ _ _ _ _ _ _ _ _ ⟨n, ht⟩).trans (trip_eq _ _ _ _ _ _ _ _ _ _ _ _ _ _ _ _ _ _ _)
    have hk := fun (j : Fin 512) (l : Fin 256) => load_tile (iblk m c 1 t) h8 (k0_off1_inb (grid0.coords t) ⟨n, ht⟩) (off₁ t ⟨n, ht⟩) j l
    have hv := fun (j : Fin 512) (l : Fin 128) => load_tile (iblk m c 2 t) h8 (k0_off2_inb (grid0.coords t) ⟨n, ht⟩) (off₂ t ⟨n, ht⟩) j l
    rw [e]
    generalize View.ld (iblk m c 1 t) (Rect.unit (k0_off1 (grid0.coords t) ⟨n, ht⟩) ![512, 256] (k0_off1_inb (grid0.coords t) ⟨n, ht⟩)) = K at hk
    generalize View.ld (iblk m c 2 t) (Rect.unit (k0_off2 (grid0.coords t) ⟨n, ht⟩) ![512, 128] (k0_off2_inb (grid0.coords t) ⟨n, ht⟩)) = W at hv
    generalize stAt m c t n = T at ih
    have hle : ∀ j : Fin 512, pos n h8 j ≤ qp t r := fun j => by
      show 512 * n + j.val ≤ 512 * (t.val % 8) + r.val
      omega
    have hsc : ∀ (h : Fin 2) (j : Fin 512), dotT (iblk m c 0 t) K h r j = logit (s h r) (qp t r) (pos n h8 j) := fun h j => by
      rw [logit, if_pos (hle j), ← hs]
      exact dot_congr _ _ _ h r j _ fun l => hk j l
    have hi : 512 * n ≤ (qp t r).val := by
      show 512 * n ≤ 512 * (t.val % 8) + r.val
      omega
    have hw : ∀ j y, (W (ix2 j y) : EReal) = (u (pos n h8 j) y : EReal) := fun j y => (hv j y).trans (hu _ _)
    exact ⟨row_step ih.1 h8 hi _ (fun j => (score0 _ _ r j).trans (hsc 0 j)) _ hw,
      row_step ih.2 h8 hi _ (fun j => (score1 _ _ r j).trans (hsc 1 j)) _ hw⟩

/-- The last step, on the diagonal. -/
theorem last (r : Fin 512) (S : St) (hS : S = stAt m c t (t.val % 8)) :
    Row (s 0 r) (qp t r) u (t.val % 8 + 1) (mT S.1 (k0_pay44 (iblk m c 0 t) (kT m c t)) (ix2 r 0)) (lT S.1 S.2.1 (k0_pay44 (iblk m c 0 t) (kT m c t)) (ix2 r 0))
        (fun y => aT S.1 S.2.2.1 (k0_pay44 (iblk m c 0 t) (kT m c t)) (vT m c t) (ix2 r y)) ∧
      Row (s 1 r) (qp t r) u (t.val % 8 + 1) (mT S.2.2.2.1 (k0_pay45 (iblk m c 0 t) (kT m c t)) (ix2 r 0))
        (lT S.2.2.2.1 S.2.2.2.2.1 (k0_pay45 (iblk m c 0 t) (kT m c t)) (ix2 r 0))
        (fun y => aT S.2.2.2.1 S.2.2.2.2.2 (k0_pay45 (iblk m c 0 t) (kT m c t)) (vT m c t) (ix2 r y)) := by
  have h8 : t.val % 8 < 8 := Nat.mod_lt _ (by decide)
  have hk : ∀ (j : Fin 512) (l : Fin 256), kT m c t (ix2 j l) = iblk m c 1 t (ix2 (pos _ h8 j) l) := fun j l =>
    load_tile (iblk m c 1 t) h8 (k0_off5_inb (grid0.coords t)) (off₅ t) j l
  have hv : ∀ (j : Fin 512) (l : Fin 128), vT m c t (ix2 j l) = iblk m c 2 t (ix2 (pos _ h8 j) l) := fun j l =>
    load_tile (iblk m c 2 t) h8 (k0_off6_inb (grid0.coords t)) (off₆ t) j l
  have hsc : ∀ (h : Fin 2) (j : Fin 512),
      (if j.val ≤ r.val then dotT (iblk m c 0 t) (kT m c t) h r j else ⊥)
        = logit (s h r) (qp t r) (pos _ h8 j) := fun h j => by
    have hc : (pos _ h8 j ≤ qp t r) ↔ j.val ≤ r.val := by
      show 512 * (t.val % 8) + j.val ≤ 512 * (t.val % 8) + r.val ↔ _
      omega
    unfold logit
    refine if_congr hc.symm ?_ rfl
    rw [← hs]
    exact dot_congr _ _ _ h r j _ fun l => hk j l
  have hi : 512 * (t.val % 8) ≤ (qp t r).val := by
    show 512 * (t.val % 8) ≤ 512 * (t.val % 8) + r.val
    omega
  have hw : ∀ j y, (vT m c t (ix2 j y) : EReal) = (u (pos _ h8 j) y : EReal) := fun j y => (hv j y).trans (hu _ _)
  have hc := carries m c t s u hs hu _ le_rfl r
  rw [← hS] at hc
  generalize kT m c t = K at hsc hk
  generalize vT m c t = W at hv hw
  exact ⟨row_step hc.1 h8 hi _ (fun j => (diag0 _ _ r j).trans (hsc 0 j)) _ hw,
    row_step hc.2 h8 hi _ (fun j => (diag1 _ _ r j).trans (hsc 1 j)) _ hw⟩

omit hs hu in
theorem qp_lt (r : Fin 512) : (qp t r).val < 512 * (t.val % 8 + 1) := by
  show 512 * (t.val % 8) + r.val < _
  omega

/-- The point's block of the output, and of the log-sums. -/
theorem out_val (r : Fin 512) (y : Fin 128) :
    ((outsAt0 m c t).1 (ix2 r y) : EReal) = ((∑ j, soft (s (hd y) r) (qp t r) j * u j y : ℝ) : EReal) := by
  rw [out_eq]
  refine (out_at _ _ _ _ _ _ _ _ _ r y).trans ?_
  have h := last m c t s u hs hu r _ rfl
  rw [h.1.out (qp_lt t r) y, h.2.out (qp_lt t r) y]
  exact hd_ite (fun h => ((∑ j, soft (s h r) (qp t r) j * u j y : ℝ) : EReal)) y
theorem lse_val (h : Fin 2) (r : Fin 512) :
    ((outsAt0 m c t).2 (ix3 h r 0) : EReal) = ((Real.log (tot (s h r) (qp t r)) : ℝ) : EReal) := by
  rw [lse_eq]
  have hl := last m c t s u hs hu r _ rfl
  rcases (by omega : h = 0 ∨ h = 1) with rfl | rfl
  · refine (if_pos (rfl : (0 : Fin 2).val = 0)).trans ?_
    exact (lse_at _ _ _ r).trans (hl.1.lse (qp_lt t r))
  · refine (if_neg (by decide : ¬(1 : Fin 2).val = 0)).trans ?_
    exact (lse_at' _ _ _ r).trans (hl.2.lse (qp_lt t r))

end Rows

end Cert.MlafKernelIdeal.Value

end
-- ==== Proof.Mlaf.Entry.lean ====
/- The latent attention's forward call: what the call's operands hold when it begins, and the blocks of each point. -/
module

public import proofs.«01_k».proof.Proof.Mlaf.Point
public import proofs.«01_k».proof.Proof.Mla.Real

@[expose] public section

set_option maxRecDepth 16384

noncomputable section

open Idealize.ShloMosaic Idealize.ShloMosaic.TcCoe Idealize.SL.Sem

namespace Cert.MlafKernelIdeal.Value

open Cert.MlafKernelIdeal Cert.MlafKernelIdeal.Gen Cert.Attn Cert.Lanes Cert.Causal
open Cert.FoxKernelIdeal.Value (coe_dot)
open Cert.MlaKernelIdeal.Value (lane sum_lane hc lc hv xv sc sR lanesT lanesT_at cs_eq)

variable (m : (ℓ : Loc nD τ sig) → Buf (Elt Ideal) ℓ) (c : Dev nD)

/-- The queries, keys and values. -/
def fQ (h : Fin 8) (i : Fin 4096) (x : Fin 96) : EReal := m (c, Proc.devRef .tc main_arg0) (ix4 0 h i x)
def fK (h : Fin 8) (i : Fin 4096) (x : Fin 96) : EReal := m (c, Proc.devRef .tc main_arg1) (ix4 0 h i x)
def fV (h : Fin 8) (i : Fin 4096) (x : Fin 64) : EReal := m (c, Proc.devRef .tc main_arg2) (ix4 0 h i x)

theorem entry_v4 (i : Fin 4096) (l : Fin 1024) : (show EReal from V m c main_v4 (ix2 i l)) = lane (fQ m c (hc l) i) (lc l) := by
  have e : V m c main_v4 = lanesT (m (c, Proc.devRef .tc main_arg0)) := by
    unfold V lanesT
    simp only [List.flatten_cons, List.flatten_nil, List.append_nil, StableHlo.after_append]
    after_reads_simp
    rfl
  rw [e]
  exact lanesT_at _ i l
theorem entry_v9 (i : Fin 4096) (l : Fin 1024) : (show EReal from V m c main_v9 (ix2 i l)) = lane (fK m c (hc l) i) (lc l) := by
  have e : V m c main_v9 = lanesT (m (c, Proc.devRef .tc main_arg1)) := by
    unfold V lanesT
    simp only [List.flatten_cons, List.flatten_nil, List.append_nil, StableHlo.after_append]
    after_reads_simp
    rfl
  rw [e]
  exact lanesT_at _ i l
theorem entry_v13 (i : Fin 4096) (l : Fin 512) : (show EReal from V m c main_v13 (ix2 i l)) = fV m c (hv l) i (xv l) := by
  unfold V
  simp only [List.flatten_cons, List.flatten_nil, List.append_nil, StableHlo.after_append]
  unfold fV hv xv
  after_reads_at

theorem lt_N (t : Fin cfg0.N) : t.val < 32 := t.isLt

/-- The column of lane `l` of the point's pair of heads: of their values, and of their queries and keys. -/
def col (t : Fin cfg0.N) (l : Fin 128) : Fin 512 := ⟨128 * (t.val / 8) + l.val, by have := lt_N t; omega⟩
def colw (t : Fin cfg0.N) (l : Fin 256) : Fin 1024 := ⟨256 * (t.val / 8) + l.val, by have := lt_N t; omega⟩
/-- The pair's heads. -/
def hpos (t : Fin cfg0.N) (h : Fin 2) : Fin 8 := ⟨2 * (t.val / 8) + h.val, by have := lt_N t; omega⟩

theorem hc_colw (t : Fin cfg0.N) (h : Fin 2) (l : Fin 128) : hc (colw t (wl h l)) = hpos t h := Fin.ext (by simp only [hc, colw, hpos, wl]; omega)
theorem lc_colw (t : Fin cfg0.N) (h : Fin 2) (l : Fin 128) : lc (colw t (wl h l)) = l := Fin.ext (by simp only [lc, colw, wl]; omega)
theorem hv_col (t : Fin cfg0.N) (l : Fin 128) : hv (col t l) = hpos t (hd l) := Fin.ext (by simp only [hpos, hd, hv, col]; omega)

theorem blk0 (t : Fin cfg0.N) (r : Fin 512) (l : Fin 256) : (show EReal from iblk m c 0 t (ix2 r l)) = V m c main_v4 (ix2 (qp t r) (colw t l)) := by
  have idx : ∀ t : Fin cfg0.N, win0_0.index t = ![t.val % 8, t.val / 8] := by decide +kernel
  unfold iblk qp colw pos
  generalize V m c = V'
  blk_point [idx t]
theorem blk1 (t : Fin cfg0.N) (j : Fin 4096) (l : Fin 256) : (show EReal from iblk m c 1 t (ix2 j l)) = V m c main_v9 (ix2 j (colw t l)) := by
  have idx : ∀ t : Fin cfg0.N, win0_1.index t = ![0, t.val / 8] := by decide +kernel
  unfold iblk colw
  generalize V m c = V'
  blk_point [idx t]
theorem blk2 (t : Fin cfg0.N) (j : Fin 4096) (l : Fin 128) : (show EReal from iblk m c 2 t (ix2 j l)) = V m c main_v13 (ix2 j (col t l)) := by
  have idx : ∀ t : Fin cfg0.N, win0_2.index t = ![0, t.val / 8] := by decide +kernel
  unfold iblk col
  generalize V m c = V'
  blk_point [idx t]

theorem put3 (X : FVec Ideal S4096x512 .f32) (t : Fin cfg0.N) (r : Fin 512) (l : Fin 128) :
    (show EReal from ((cfg0.win 3).blk t).view.read (Elt Ideal) X (ix2 r l)) = X (ix2 (qp t r) (col t l)) := by
  have idx : ∀ t : Fin cfg0.N, win0_3.index t = ![t.val % 8, t.val / 8] := by decide +kernel
  unfold qp pos col
  blk_point [idx t]
theorem put4 (X : FVec Ideal S8x4096x1 .f32) (t : Fin cfg0.N) (h : Fin 2) (r : Fin 512) :
    (show EReal from ((cfg0.win 4).blk t).view.read (Elt Ideal) X (ix3 h r 0)) = X (ix3 (hpos t h) (qp t r) 0) := by
  have idx : ∀ t : Fin cfg0.N, win0_4.index t = ![t.val / 8, t.val % 8, 0] := by decide +kernel
  unfold qp pos hpos
  blk_point [idx t]

theorem dotK_of (q : Vec Ideal S512x256 .bf16) (k : Vec Ideal S4096x256 .bf16) (h : Fin 2) (r : Fin 512) (j : Fin 4096) (f g : Fin 96 → EReal)
    (hq : ∀ l, (q (ix2 r (wl h l)) : EReal) = lane f l) (hk : ∀ l, (k (ix2 j (wl h l)) : EReal) = lane g l) : dotK q k h r j = (∑ x, f x * g x) * cs := by
  unfold dotK
  refine congrArg (· * cs) ((Finset.sum_congr rfl fun l _ => ?_).trans (sum_lane f g))
  exact congrArg₂ (fun a b : EReal => a * b) (hq l) (hk l)

section
variable (Q K : Fin 8 → Fin 4096 → Fin 96 → ℝ) (U : Fin 8 → Fin 4096 → Fin 64 → ℝ)
  (hQ : ∀ h i x, fQ m c h i x = (Q h i x : EReal)) (hK : ∀ h i x, fK m c h i x = (K h i x : EReal))
  (hU : ∀ h i x, fV m c h i x = (U h i x : EReal))

include hQ hK in
theorem score_real (t : Fin cfg0.N) (h : Fin 2) (r : Fin 512) (j : Fin 4096) :
    dotK (iblk m c 0 t) (iblk m c 1 t) h r j = (sR Q K (hpos t h) (qp t r) j : EReal) := by
  refine (dotK_of _ _ h r j (fQ m c (hpos t h) (qp t r)) (fK m c (hpos t h) j) (fun l => ?_) (fun l => ?_)).trans ?_
  · exact (blk0 m c t r (wl h l)).trans ((entry_v4 m c _ _).trans (by rw [hc_colw, lc_colw]))
  · exact (blk1 m c t j (wl h l)).trans ((entry_v9 m c _ _).trans (by rw [hc_colw, lc_colw]))
  · unfold sR
    refine (congrArg₂ (· * ·) (coe_dot _ _ _ _ (fun x => hQ _ _ x) (fun x => hK _ j x)) cs_eq).trans ?_
    rw [← EReal.coe_mul]
include hU in
theorem value_real (t : Fin cfg0.N) (j : Fin 4096) (y : Fin 128) : (iblk m c 2 t (ix2 j y) : EReal) = (U (hv (col t y)) j (xv (col t y)) : EReal) :=
  (blk2 m c t j y).trans ((entry_v13 m c j (col t y)).trans (hU _ j _))

/-- The call's results. -/
def OUT : FVec Ideal S4096x512 .f32 := fun i => ((∑ j, soft (sR Q K (hv (i 1)) (i 0)) (i 0) j * U (hv (i 1)) j (xv (i 1)) : ℝ) : EReal)
def LSE : FVec Ideal S8x4096x1 .f32 := fun i => ((Real.log (tot (sR Q K (i 0) (i 1)) (i 1)) : ℝ) : EReal)

include hQ hK hU in
theorem final_o : (dats m 0 c).arrAt 3 (cfgs 0).N = OUT Q K U := by
  refine (dats m 0 c).arrAt_eq_of_covers 3 _ (by decide +kernel) fun t hf y => ?_
  obtain ⟨r, l, rfl⟩ : ∃ (r : Fin 512) (l : Fin 128), y = ix2 r l := ⟨y 0, y 1, eq_ix2 y⟩
  rw [after0_3]
  refine (out_val m c t (fun h r j => sR Q K (hpos t h) (qp t r) j) (fun j y => U (hv (col t y)) j (xv (col t y)))
    (score_real m c Q K hQ hK t) (value_real m c U hU t) r l).trans (Eq.trans ?_ (put3 (OUT Q K U) t r l).symm)
  rw [← hv_col]
  rfl
include hQ hK hU in
theorem final_l : (dats m 0 c).arrAt 4 (cfgs 0).N = LSE Q K := by
  refine (dats m 0 c).arrAt_eq_of_covers 4 _ (by decide +kernel) fun t hf y => ?_
  obtain ⟨h, r, q, rfl⟩ : ∃ (h : Fin 2) (r : Fin 512) (q : Fin 1), y = ix3 h r q := ⟨y 0, y 1, y 2, eq_ix3 y⟩
  obtain rfl : q = 0 := Fin.ext (by omega)
  rw [after0_4]
  refine (lse_val m c t (fun h r j => sR Q K (hpos t h) (qp t r) j) (fun j y => U (hv (col t y)) j (xv (col t y)))
    (score_real m c Q K hQ hK t) (value_real m c U hU t) h r).trans (Eq.trans ?_ (put4 (LSE Q K) t h r).symm)
  rfl
end

end Cert.MlafKernelIdeal.Value
-- ==== Proof.Mlaf.Ref.lean ====
/- The latent attention's forward reference, entry by entry, when the arguments are real numbers. -/
module

public import proofs.«01_k».proof.Proof.RefAttn
public import proofs.«01_k».proof.Proof.Mlaf.Entry
public import proofs.«01_k».proof.Proof.Gen.MlafReferenceIdeal.Run

@[expose] public section

set_option maxRecDepth 16384

noncomputable section

open Idealize.ShloMosaic Idealize.ShloMosaic.TcCoe Idealize.SL.Sem

namespace Cert.MlafReferenceIdeal.Value

open Cert.MlafReferenceIdeal Cert.MlafReferenceIdeal.Gen Cert.Attn
open Cert.RefAttn (logitT logitT_at maskT)
open Cert.FoxKernelIdeal.Value (coe_dot outT outT_at lseT lseT_of rowMax rowSum spread)
open Cert.MlaKernelIdeal.Value (hv xv cs cs_eq sR)
open Cert.MlafKernelIdeal.Value (OUT LSE)

def scaleT : FVec Ideal S1x8x4096x4096 .f32 := broadcastInDim S1x8x4096x4096 ![] bcast_S_S1x8x4096x4096 (constant S_ .f32 0x3DD105EC#32)

variable (a0 a1 : FVec Ideal S1x8x4096x96 .f32) (a2 : FVec Ideal S1x8x4096x64 .f32)

/-- The masked logits. -/
def LT : FVec Ideal S1x8x4096x4096 .f32 := logitT (mulf (Host.dotGeneral dot_S1x8x4096x96_S1x8x4096x96_S1x8x4096x4096_3_3_2_2_01_01 none a0 a1) scaleT)

theorem score_at (h : Fin 8) (i j : Fin 4096) : mulf (Host.dotGeneral dot_S1x8x4096x96_S1x8x4096x96_S1x8x4096x4096_3_3_2_2_01_01 none a0 a1) scaleT (ix4 0 h i j)
    = (∑ x, a0 (ix4 0 h i x) * a1 (ix4 0 h j x)) * cs := by
  unfold scaleT cs
  pointwise

variable (Q K : Fin 8 → Fin 4096 → Fin 96 → ℝ) (U : Fin 8 → Fin 4096 → Fin 64 → ℝ)
  (hQ : ∀ (h : Fin 8) (i : Fin 4096) (x : Fin 96), a0 (ix4 0 h i x) = (Q h i x : EReal)) (hK : ∀ (h : Fin 8) (i : Fin 4096) (x : Fin 96), a1 (ix4 0 h i x) = (K h i x : EReal))
  (hU : ∀ (h : Fin 8) (i : Fin 4096) (x : Fin 64), a2 (ix4 0 h i x) = (U h i x : EReal))

include hQ hK in
theorem LT_real (h : Fin 8) (i j : Fin 4096) : LT a0 a1 (ix4 0 h i j) = logit (sR Q K h i) i j := by
  unfold LT logit sR
  rw [logitT_at, score_at]
  refine if_congr Iff.rfl ?_ rfl
  rw [coe_dot _ _ _ _ (fun x => hQ h i x) (fun x => hK h j x), cs_eq, ← EReal.coe_mul]

include hQ hK hU in
theorem out_real : outT (LT a0 a1) a2 = OUT Q K U := by
  funext y
  obtain ⟨i, l, rfl⟩ : ∃ (i : Fin 4096) (l : Fin 512), y = ix2 i l := ⟨y 0, y 1, eq_ix2 y⟩
  rw [outT_at]
  exact coe_dot _ _ _ _ (fun x => row_soft _ i x _ (LT_real a0 a1 Q K hQ hK (hv l) i) _ rfl) (fun x => hU (hv l) x (xv l))
include hQ hK in
theorem lse_real : lseT (LT a0 a1) = LSE Q K := by
  funext y
  obtain ⟨h, i, q, rfl⟩ : ∃ (h : Fin 8) (i : Fin 4096) (q : Fin 1), y = ix3 h i q := ⟨y 0, y 1, y 2, eq_ix3 y⟩
  obtain rfl : q = 0 := Fin.ext (by omega)
  rw [lseT_of _ h i _ (LT_real a0 a1 Q K hQ hK h i)]
  exact row_lse _ i _ (fun _ => rfl) _ rfl

section
variable (m : (ℓ : Loc nD τ sig) → Buf (Elt Ideal) ℓ) (c : Dev nD)

theorem res_o : res_main_v24 m c = outT (LT (m ((c.tc : Thread nD τ).loc main_arg0)) (m ((c.tc : Thread nD τ).loc main_arg1))) (m ((c.tc : Thread nD τ).loc main_arg2)) := by
  unfold res_main_v24 outT LT scaleT logitT maskT rowMax rowSum
  rfl

/-- The reference's run, its results from the masked logits. -/
theorem run_real (ρ : Dev nD → PrngReg) :
    θ_run defs (onTc (τ := τ) (main (F := Ideal))) ⟨m, fun _ => 0, ρ⟩ fun r => ∀ c : Dev nD,
      r.2.mem ((c.tc : Thread nD τ).loc main_v24) = outT (LT (m ((c.tc : Thread nD τ).loc main_arg0)) (m ((c.tc : Thread nD τ).loc main_arg1))) (m ((c.tc : Thread nD τ).loc main_arg2))
      ∧ r.2.mem ((c.tc : Thread nD τ).loc main_v34) = lseT (LT (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (res_o m c), (h c).2.1.trans (by
    unfold lseT LT scaleT logitT maskT rowMax rowSum
    rfl), (h c).2.2⟩) (run m ρ)
end

end Cert.MlafReferenceIdeal.Value

end
-- ==== Proof.MlafClaim.lean ====
/- The claims about the latent attention's forward call. -/
module

public import proofs.«01_k».proof.Defs
public import proofs.«01_k».proof.Proof.Finite
public import proofs.«01_k».proof.Proof.Mlaf.Ref
public import proofs.«01_k».proof.Proof.Gen.MlafKernel.Frame
public import proofs.«01_k».proof.Proof.Gen.MlafKernel
public import proofs.«01_k».proof.Proof.Gen.MlafKernelIdeal
public import proofs.«01_k».proof.Proof.Gen.MlafReferenceIdeal
public import Idealize.ShloMosaic.Lib.Claim

@[expose] public section

set_option maxRecDepth 16384

noncomputable section

open Idealize.ShloMosaic Idealize.ShloMosaic.TcCoe Idealize.SL.Sem

namespace Cert.Pre_mlaf_finite

theorem facts : Cert.Pre_mlaf_finite.Facts where
  bcast_S_S1x8x4096x96 := by decide
  bcast_S_S1x8x4096x64 := by decide

end Cert.Pre_mlaf_finite

namespace Cert.MlafKernelIdeal.Value

open Cert.MlafKernelIdeal Cert.MlafKernelIdeal.Gen Cert.Attn

attribute [local instance] Cert.Pre_mlaf_finite.facts

variable (m : (ℓ : Loc nD τ sig) → Buf (Elt Ideal) ℓ) (hm : Cert.Pre_MlafKernelIdeal_mlaf_finite m) (c : Dev nD)

include hm
theorem real_q (h : Fin 8) (i : Fin 4096) (x : Fin 96) : ∃ r : ℝ, fQ m c h i x = r :=
  Cert.Finite.real_of_lt _ (congrFun (hm c).1 (ix4 0 h i x))
theorem real_k (h : Fin 8) (i : Fin 4096) (x : Fin 96) : ∃ r : ℝ, fK m c h i x = r :=
  Cert.Finite.real_of_lt _ (congrFun (hm c).2.1 (ix4 0 h i x))
theorem real_v (h : Fin 8) (i : Fin 4096) (x : Fin 64) : ∃ r : ℝ, fV m c h i x = r :=
  Cert.Finite.real_of_lt _ (congrFun (hm c).2.2 (ix4 0 h i x))

theorem reals : ∃ (Q K : Fin 8 → Fin 4096 → Fin 96 → ℝ) (U : Fin 8 → Fin 4096 → Fin 64 → ℝ),
    (∀ h i x, fQ m c h i x = (Q h i x : EReal)) ∧ (∀ h i x, fK m c h i x = (K h i x : EReal))
      ∧ (∀ h i x, fV m c h i x = (U h i x : EReal)) := by
  choose Q hQ using real_q m hm c
  choose K hK using real_k m hm c
  choose U hU using real_v m hm c
  exact ⟨Q, K, U, hQ, hK, hU⟩

theorem ref_o : Cert.FoxKernelIdeal.Value.outT (Cert.MlafReferenceIdeal.Value.LT (m ((c.tc : Thread nD τ).loc main_arg0)) (m ((c.tc : Thread nD τ).loc main_arg1)))
    (m ((c.tc : Thread nD τ).loc main_arg2)) = (dats m 0 c).arrAt 3 (cfgs 0).N := by
  obtain ⟨Q, K, U, hQ, hK, hU⟩ := reals m hm c
  exact (Cert.MlafReferenceIdeal.Value.out_real _ _ _ Q K U hQ hK hU).trans (final_o m c Q K U hQ hK hU).symm
theorem ref_l : Cert.FoxKernelIdeal.Value.lseT (Cert.MlafReferenceIdeal.Value.LT (m ((c.tc : Thread nD τ).loc main_arg0)) (m ((c.tc : Thread nD τ).loc main_arg1)))
    = (dats m 0 c).arrAt 4 (cfgs 0).N := by
  obtain ⟨Q, K, U, hQ, hK, hU⟩ := reals m hm c
  exact (Cert.MlafReferenceIdeal.Value.lse_real _ _ Q K hQ hK).trans (final_l m c Q K U hQ hK hU).symm

end Cert.MlafKernelIdeal.Value

namespace Cert.Proof

open Cert.MlafKernelIdeal.Value

attribute [local instance] Cert.Pre_mlaf_finite.facts

theorem mlaf_frame : Cert.quiescent_MlafKernel := fun m ρ _ => Cert.MlafKernel.Gen.frame m ρ

theorem mlaf_frame_ideal : Cert.quiescent_MlafKernelIdeal := fun m ρ _ => Cert.MlafKernelIdeal.Gen.frame m ρ
theorem mlaf_frame_finite : Cert.quiescent_MlafKernelIdeal_pre_mlaf_finite := fun m ρ _ => Cert.MlafKernelIdeal.Gen.frame m ρ

theorem mlaf_frame_reference : Cert.quiescent_MlafReferenceIdeal := fun m g _ =>
  (θ_run Cert.MlafReferenceIdeal.defs _ _).mono (fun r h => ⟨fun c => (h c).2.2, sem_eq_zero_of_no_sems (by decide) r.2⟩)
    (Cert.MlafReferenceIdeal.Value.run m g)
theorem mlaf_frame_reference_finite : Cert.quiescent_MlafReferenceIdeal_pre_mlaf_finite := fun m g _ => mlaf_frame_reference m g trivial

set_option maxHeartbeats 4000000 in
theorem mlaf_algebraic : Cert.algebraic_MlafKernelIdeal_MlafReferenceIdeal_pre_mlaf_finite := by
  pair_intro
  · run_from Cert.MlafKernelIdeal.Gen.run_main m g & Cert.MlafKernelIdeal.Gen.frame m g
    · exact Cert.MlafKernelIdeal.Gen.V_main_arg0 m c
    · exact Cert.MlafKernelIdeal.Gen.V_main_arg1 m c
    · exact Cert.MlafKernelIdeal.Gen.V_main_arg2 m c
  · run_from Cert.MlafReferenceIdeal.Value.run_real m' g'
    · exact ref_o m hpre c
    · exact ref_l m hpre c

end Cert.Proof

end
-- ==== Proof.Foxf.Pay.lean ====
/- The FoX attention's forward call, one tile of keys: its scores, less the keys' decay sums, read at one index. -/
module

public import proofs.«01_k».proof.Proof.Gen.FoxfKernelIdeal.Skeleton
public import proofs.«01_k».proof.Proof.Mlaf.Pay
public import proofs.«01_k».proof.Proof.Fox.Pay

@[expose] public section

set_option maxRecDepth 16384

noncomputable section

open Idealize.ShloMosaic Idealize.ShloMosaic.TcCoe Idealize.SL.Sem

namespace Cert.FoxfKernelIdeal.Value

open Cert.FoxfKernelIdeal Cert.FoxfKernelIdeal.Gen Cert.Lanes Cert.Online Cert.Attn Cert.Causal
open Cert.FoxKernelIdeal.Value (c8)
open Cert.MlafKernelIdeal.Value (tile_mask mT lT aT)

/-- The scores of a block of queries and a tile of keys, or all keys: the product over the lanes of head `h`, an eighth of it. -/
def dotT (q k : Vec Ideal S512x128 .bf16) (h : Fin 2) (r j : Fin 512) : EReal :=
  (∑ l : Fin 128, (if l.val / 64 = h.val then q (ix2 r l) else (0 : EReal)) * k (ix2 j l)) * c8
def dotK (q : Vec Ideal S512x128 .bf16) (k : Vec Ideal S4096x128 .bf16) (h : Fin 2) (r : Fin 512) (j : Fin 4096) : EReal :=
  (∑ l : Fin 128, (if l.val / 64 = h.val then q (ix2 r l) else (0 : EReal)) * k (ix2 j l)) * c8

theorem dot_congr (q k : Vec Ideal S512x128 .bf16) (k' : Vec Ideal S4096x128 .bf16) (h : Fin 2) (r j : Fin 512) (j' : Fin 4096)
    (e : ∀ l, k (ix2 j l) = k' (ix2 j' l)) : dotT q k h r j = dotK q k' h r j' := by
  unfold dotT dotK
  simp only [e]

/-- The scores of one tile less the decay sums `d` of its keys, by head; and those of the diagonal, masked. -/
def S0 (q k : Vec Ideal S512x128 .bf16) (d : Vec Ideal S1x1x1x512 .f32) : FVec Ideal S512x512 .f32 := k0_pay6 (k0_pay26 q) k d
def S1 (q k : Vec Ideal S512x128 .bf16) (d : Vec Ideal S1x1x1x512 .f32) : FVec Ideal S512x512 .f32 := k0_pay7 (k0_pay27 q) k d
def D0 (q k : Vec Ideal S512x128 .bf16) (d : Vec Ideal S1x1x1x512 .f32) : FVec Ideal S512x512 .f32 :=
  k0_pay43 (iota .tc S512x512 32 [0] iota_S512x512_d0_w32) (iota .tc S512x512 32 [1] iota_S512x512_d1_w32) (k0_pay42 q k) d
def D1 (q k : Vec Ideal S512x128 .bf16) (d : Vec Ideal S1x1x1x512 .f32) : FVec Ideal S512x512 .f32 :=
  k0_pay44 (k0_pay27 q) (iota .tc S512x512 32 [0] iota_S512x512_d0_w32) (iota .tc S512x512 32 [1] iota_S512x512_d1_w32) (k0_pay41 k) d

variable (q k : Vec Ideal S512x128 .bf16) (d : Vec Ideal S1x1x1x512 .f32) (r j : Fin 512)

theorem score0 : (S0 q k d (ix2 r j) : EReal) = dotT q k 0 r j - d (ix4 0 0 0 j) := by
  unfold S0
  pointwise [k0_pay6, k0_pay26, k0_pay25, k0_pay5, lane0, lane1, sel]
  simp [dotT, c8]
theorem score1 : (S1 q k d (ix2 r j) : EReal) = dotT q k 1 r j - d (ix4 0 0 0 j) := by
  unfold S1
  pointwise [k0_pay7, k0_pay27, k0_pay25, k0_pay5, lane0, lane1, sel]
  simp [dotT, c8]
theorem diag0 : (D0 q k d (ix2 r j) : EReal) = if j.val ≤ r.val then dotT q k 0 r j - d (ix4 0 0 0 j) else ⊥ := by
  unfold D0
  rw [← Cert.Attn.neg_inf]
  pointwise [k0_pay43, k0_pay42, k0_pay41, k0_pay26, k0_pay25, lane0, lane1, sel]
  simp [dotT, c8, tile_mask, sel]
theorem diag1 : (D1 q k d (ix2 r j) : EReal) = if j.val ≤ r.val then dotT q k 1 r j - d (ix4 0 0 0 j) else ⊥ := by
  unfold D1
  rw [← Cert.Attn.neg_inf]
  pointwise [k0_pay44, k0_pay41, k0_pay27, k0_pay25, lane0, lane1, sel]
  simp [dotT, c8, tile_mask, sel]

end Cert.FoxfKernelIdeal.Value

end
-- ==== Proof.Foxf.Point.lean ====
/- The FoX attention's forward call: what one grid point leaves in its two blocks. -/
module

public import proofs.«01_k».proof.Proof.Gen.FoxfKernelIdeal.Frame
public import proofs.«01_k».proof.Proof.Foxf.Pay
public import proofs.«01_k».proof.Proof.Mlaf.Point

@[expose] public section

set_option maxRecDepth 16384

noncomputable section

open Idealize.ShloMosaic Idealize.ShloMosaic.TcCoe Idealize.ShloMosaic.Tactic Idealize.SL.Sem

namespace Cert.FoxfKernelIdeal.Value

open Cert.FoxfKernelIdeal Cert.FoxfKernelIdeal.Gen Cert.Lanes Cert.Online Cert.Attn Cert.Causal Cert.Tile
open Cert.MlafKernelIdeal.Value (tile_mask mT lT aT row_step out_at lse_at lse_at' load_tile two_rows)

theorem trips₁ : ∀ t : Fin cfg0.N, (k0_t1_loop (grid0.coords t)).trips = t.val % 8 := (by decide +kernel : ∀ t : Fin grid0.N, _)
theorem trips₂ : ∀ t : Fin cfg0.N, (k0_t2_loop (grid0.coords t)).trips = 0 := (by decide +kernel : ∀ t : Fin grid0.N, _)
theorem off₁ : ∀ (t : Fin cfg0.N) (k : Fin (k0_t1_loop (grid0.coords t)).trips), k0_off1 (grid0.coords t) k = ![512 * k.val, 0] :=
  (by decide +kernel : ∀ (t : Fin grid0.N) (k : Fin (k0_t1_loop (grid0.coords t)).trips), _)
theorem off₂ : ∀ (t : Fin cfg0.N) (k : Fin (k0_t1_loop (grid0.coords t)).trips), k0_off2 (grid0.coords t) k = ![0, k.val, 0, 0] :=
  (by decide +kernel : ∀ (t : Fin grid0.N) (k : Fin (k0_t1_loop (grid0.coords t)).trips), _)
theorem off₃ : ∀ (t : Fin cfg0.N) (k : Fin (k0_t1_loop (grid0.coords t)).trips), k0_off3 (grid0.coords t) k = ![1, k.val, 0, 0] :=
  (by decide +kernel : ∀ (t : Fin grid0.N) (k : Fin (k0_t1_loop (grid0.coords t)).trips), _)
theorem off₇ : ∀ t : Fin cfg0.N, k0_off7 (grid0.coords t) = ![512 * (t.val % 8), 0] := (by decide +kernel : ∀ t : Fin grid0.N, _)
theorem off₈ : ∀ t : Fin cfg0.N, k0_off8 (grid0.coords t) = ![0, t.val % 8, 0, 0] := (by decide +kernel : ∀ t : Fin grid0.N, _)
theorem off₉ : ∀ t : Fin cfg0.N, k0_off9 (grid0.coords t) = ![1, t.val % 8, 0, 0] := (by decide +kernel : ∀ t : Fin grid0.N, _)

/-- What the loop over the tiles carries: for each head the running maximum, sum and weighted sum. -/
abbrev St : Type := FVec Ideal S512x1 .f32 × FVec Ideal S512x1 .f32 × FVec Ideal S512x128 .f32 × FVec Ideal S512x1 .f32 × FVec Ideal S512x1 .f32 × FVec Ideal S512x128 .f32

/-- One tile's step on what is carried. -/
def stepT (q k v : Vec Ideal S512x128 .bf16) (d₀ d₁ : Vec Ideal S1x1x1x512 .f32) (s : St) : St :=
  (mT s.1 (S0 q k d₀), lT s.1 s.2.1 (S0 q k d₀), aT s.1 s.2.2.1 (S0 q k d₀) v,
   mT s.2.2.2.1 (S1 q k d₁), lT s.2.2.2.1 s.2.2.2.2.1 (S1 q k d₁), aT s.2.2.2.1 s.2.2.2.2.2 (S1 q k d₁) v)

theorem trip_eq (𝒱 : Variants) (c : Dev nD) (bd : Option 𝒱.V) (i : grid0.Coords) (arg2 : Memref sig .tc .vmem S512x128 .bf16) (harg2 : arg2.IsWhole)
    (arg3 : Memref sig .tc .vmem S4096x128 .bf16) (harg3 : arg3.IsWhole) (arg4 : Memref sig .tc .vmem S4096x128 .bf16) (harg4 : arg4.IsWhole)
    (arg5 : Memref sig .tc .vmem S2x8x1x512 .f32) (harg5 : arg5.IsWhole)
    (arg6 : Memref sig .tc .vmem S512x128 .f32) (harg6 : arg6.IsWhole) (arg7 : Memref sig .tc .vmem S2x512x1 .f32) (harg7 : arg7.IsWhole)
    (q : Vec Ideal S512x128 .bf16) (x1 x2 : Vec Ideal S4096x128 .bf16) (x3 : Vec Ideal S2x8x1x512 .f32) (k : Fin (k0_t1_loop i).trips) (s : St) :
    tripR_k0_t1 (F := Ideal) 𝒱 c bd i arg2 harg2 arg3 harg3 arg4 harg4 arg5 harg5 arg6 harg6 arg7 harg7 q (harg3.unread x1) (harg4.unread x2) (harg5.unread x3) k s
      = stepT q (View.ld x1 (Rect.unit (k0_off1 i k) ![512, 128] (k0_off1_inb i k))) (View.ld x2 (Rect.unit (k0_off1 i k) ![512, 128] (k0_off1_inb i k)))
        (View.ld x3 (Rect.unit (k0_off2 i k) ![1, 1, 1, 512] (k0_off2_inb i k))) (View.ld x3 (Rect.unit (k0_off3 i k) ![1, 1, 1, 512] (k0_off3_inb i k))) s := by
  unfold tripR_k0_t1 trip_k0_t1
  sl_unfold_words
  simp only [View.readAt_eq_ld, Memref.IsWhole.read_unread]
  rfl

variable (m : (ℓ : Loc nD τ sig) → Buf (Elt Ideal) ℓ) (c : Dev nD) (t : Fin cfg0.N)

/-- What is carried after `n` tiles of a point. -/
def stAt (n : ℕ) : St :=
  st_k0_t1 (F := Ideal) Variants.none c none (grid0.coords t) (ms0_0 t) (hs0_0 t) (ms0_1 t) (hs0_1 t) (ms0_2 t) (hs0_2 t) (ms0_3 t) (hs0_3 t) (ms0_4 t) (hs0_4 t)
    (ms0_5 t) (hs0_5 t) (iblk m c 0 t) ((hs0_1 t).unread (iblk m c 1 t)) ((hs0_2 t).unread (iblk m c 2 t)) ((hs0_3 t).unread (iblk m c 3 t))
    (k0_pay28, k0_pay29, k0_pay30, k0_pay28, k0_pay29, k0_pay30) n

/-- The point's own tile of keys and values, and their decay sums by head. -/
def kT : Vec Ideal S512x128 .bf16 := View.ld (iblk m c 1 t) (Rect.unit (k0_off7 (grid0.coords t)) ![512, 128] (k0_off7_inb (grid0.coords t)))
def vT : Vec Ideal S512x128 .bf16 := View.ld (iblk m c 2 t) (Rect.unit (k0_off7 (grid0.coords t)) ![512, 128] (k0_off7_inb (grid0.coords t)))
def cT₀ : Vec Ideal S1x1x1x512 .f32 := View.ld (iblk m c 3 t) (Rect.unit (k0_off8 (grid0.coords t)) ![1, 1, 1, 512] (k0_off8_inb (grid0.coords t)))
def cT₁ : Vec Ideal S1x1x1x512 .f32 := View.ld (iblk m c 3 t) (Rect.unit (k0_off9 (grid0.coords t)) ![1, 1, 1, 512] (k0_off9_inb (grid0.coords t)))

theorem st_rem (i : grid0.Coords) (arg2 : Memref sig .tc .vmem S512x128 .bf16) (harg2 : arg2.IsWhole)
    (arg3 : Memref sig .tc .vmem S4096x128 .bf16) (harg3 : arg3.IsWhole) (arg4 : Memref sig .tc .vmem S4096x128 .bf16) (harg4 : arg4.IsWhole)
    (arg5 : Memref sig .tc .vmem S2x8x1x512 .f32) (harg5 : arg5.IsWhole)
    (arg6 : Memref sig .tc .vmem S512x128 .f32) (harg6 : arg6.IsWhole) (arg7 : Memref sig .tc .vmem S2x512x1 .f32) (harg7 : arg7.IsWhole)
    (q : Vec Ideal S512x128 .bf16) (w : BitVec 32) (X1 : BufTy.Contents (Elt Ideal) arg3.view.ty) (X2 : BufTy.Contents (Elt Ideal) arg4.view.ty)
    (X3 : BufTy.Contents (Elt Ideal) arg5.view.ty) (s : St) (n : ℕ) (hn : n = 0) :
    st_k0_t2 (F := Ideal) Variants.none c none i arg2 harg2 arg3 harg3 arg4 harg4 arg5 harg5 arg6 harg6 arg7 harg7 q w X1 X2 X3 s n = s := by
  subst hn; rfl

theorem out_eq (r : Fin 512) (y : Fin 128) : (outsAt0 m c t).1 (ix2 r y)
    = Cert.MlafKernelIdeal.Gen.k0_pay2
      (Cert.MlafKernelIdeal.Gen.k0_pay55 (stAt m c t (t.val % 8)).1 (stAt m c t (t.val % 8)).2.1 (stAt m c t (t.val % 8)).2.2.1 (D0 (iblk m c 0 t) (kT m c t) (cT₀ m c t)) (vT m c t))
      (Cert.MlafKernelIdeal.Gen.k0_pay57 (stAt m c t (t.val % 8)).2.2.2.1 (stAt m c t (t.val % 8)).2.2.2.2.1 (stAt m c t (t.val % 8)).2.2.2.2.2
        (D1 (iblk m c 0 t) (kT m c t) (cT₁ m c t)) (vT m c t)) (ix2 r y) := by
  unfold outsAt0
  frame_out
  rw [← trips₁ t]
  rw [st_rem _ _ _ _ _ _ _ _ _ _ _ _ _ _ _ _ _ _ _ _ _ (trips₂ t)]
  rfl

theorem lse_eq (h : Fin 2) (r : Fin 512) : (outsAt0 m c t).2 (ix3 h r 0)
    = if h.val = 0 then Cert.MlafKernelIdeal.Gen.k0_pay56 (stAt m c t (t.val % 8)).1 (stAt m c t (t.val % 8)).2.1 (D0 (iblk m c 0 t) (kT m c t) (cT₀ m c t)) (ix3 0 r 0)
      else Cert.MlafKernelIdeal.Gen.k0_pay1 (Cert.MlafKernelIdeal.Gen.k0_pay58 (stAt m c t (t.val % 8)).2.2.2.1 (stAt m c t (t.val % 8)).2.2.2.2.1
        (D1 (iblk m c 0 t) (kT m c t) (cT₁ m c t))) (ix3 0 r 0) := by
  unfold outsAt0
  dsimp only
  frame_out
  refine (two_rows _ _ _ _ h r).trans ?_
  rw [← trips₁ t]
  rw [st_rem _ _ _ _ _ _ _ _ _ _ _ _ _ _ _ _ _ _ _ _ _ (trips₂ t)]
  rfl

/-- The decay sums of a tile of keys. -/
theorem load_row (X : S2x8x1x512.Idx → Elt Ideal .f32) {off : Fin 4 → ℕ} (h : Fin 2) (b : Fin 8)
    (inb : ∀ a, off a + (![1, 1, 1, 512] : Fin 4 → ℕ) a ≤ S2x8x1x512.size a) (hoff : off = ![h.val, b.val, 0, 0]) (j : Fin 512) :
    View.ld (Val := Elt Ideal) X (Rect.unit (s := S2x8x1x512) off ![1, 1, 1, 512] inb) (ix4 0 0 0 j) = X (ix4 h b 0 j) := by
  subst hoff
  refine congrArg X (funext fun a => Fin.ext ?_)
  fin_cases a <;> simp [Rect.unit, Rect.emb]

/-- The position of row `r` of the point's queries. -/
def qp (t : Fin cfg0.N) (r : Fin 512) : Fin 4096 := pos (t.val % 8) (Nat.mod_lt _ (by decide)) r

/-- What is carried after `n` tiles is, row by row, what the row holds. -/
def Carries (t : Fin cfg0.N) (s : Fin 2 → Fin 512 → Fin 4096 → ℝ) (u : Fin 4096 → Fin 128 → ℝ) (n : ℕ) (S : St) : Prop :=
  ∀ r : Fin 512, Row (s 0 r) (qp t r) u n (S.1 (ix2 r 0)) (S.2.1 (ix2 r 0)) (fun y => S.2.2.1 (ix2 r y)) ∧
    Row (s 1 r) (qp t r) u n (S.2.2.2.1 (ix2 r 0)) (S.2.2.2.2.1 (ix2 r 0)) (fun y => S.2.2.2.2.2 (ix2 r y))

/-- The decay sum of head `h` at key `j`, from the block of decay sums. -/
def cK (d : Vec Ideal S2x8x1x512 .f32) (h : Fin 2) (b : Fin 8) (j : Fin 512) : EReal := d (ix4 h b 0 j)

section Rows

variable (s : Fin 2 → Fin 512 → Fin 4096 → ℝ) (u : Fin 4096 → Fin 128 → ℝ)
  (hs : ∀ (h : Fin 2) (r : Fin 512) (b : Fin 8) (j : Fin 512),
    dotK (iblk m c 0 t) (iblk m c 1 t) h r (pos b.val b.isLt j) - cK (iblk m c 3 t) h b j = (s h r (pos b.val b.isLt j) : EReal))
  (hu : ∀ (j : Fin 4096) (y : Fin 128), (iblk m c 2 t (ix2 j y) : EReal) = (u j y : EReal))

include hs hu

theorem carries (n : ℕ) (hn : n ≤ t.val % 8) : Carries t s u n (stAt m c t n) := by
  induction n with
  | zero =>
    intro r
    have hm : (k0_pay28 (F := Ideal) (ix2 r 0) : EReal) = ⊥ := by
      rw [← neg_inf]
      pointwise [k0_pay28]
    have hl : (k0_pay29 (F := Ideal) (ix2 r 0) : EReal) = 0 := by pointwise [k0_pay29]
    have ha : ∀ y, (k0_pay30 (F := Ideal) (ix2 r y) : EReal) = 0 := fun y => by pointwise [k0_pay30]
    exact ⟨Row.zero hm hl ha, Row.zero hm hl ha⟩
  | succ n ih =>
    have ih := ih (by omega)
    intro r
    replace ih := ih r
    have h8 : n < 8 := by omega
    have ht : n < (k0_t1_loop (grid0.coords t)).trips := by rw [trips₁]; omega
    have e : stAt m c t (n + 1) = stepT (iblk m c 0 t)
        (View.ld (iblk m c 1 t) (Rect.unit (k0_off1 (grid0.coords t) ⟨n, ht⟩) ![512, 128] (k0_off1_inb (grid0.coords t) ⟨n, ht⟩)))
        (View.ld (iblk m c 2 t) (Rect.unit (k0_off1 (grid0.coords t) ⟨n, ht⟩) ![512, 128] (k0_off1_inb (grid0.coords t) ⟨n, ht⟩)))
        (View.ld (iblk m c 3 t) (Rect.unit (k0_off2 (grid0.coords t) ⟨n, ht⟩) ![1, 1, 1, 512] (k0_off2_inb (grid0.coords t) ⟨n, ht⟩)))
        (View.ld (iblk m c 3 t) (Rect.unit (k0_off3 (grid0.coords t) ⟨n, ht⟩) ![1, 1, 1, 512] (k0_off3_inb (grid0.coords t) ⟨n, ht⟩))) (stAt m c t n) :=
      (st_k0_t1_succ (F := Ideal) _ _ _ _ _ _ _ _ _ _ _ _ _ _ _ _ _ _ _ _ _ ⟨n, ht⟩).trans (trip_eq _ _ _ _ _ _ _ _ _ _ _ _ _ _ _ _ _ _ _ _ _ _)
    have hk := fun (j : Fin 512) (l : Fin 128) => load_tile (iblk m c 1 t) h8 (k0_off1_inb (grid0.coords t) ⟨n, ht⟩) (off₁ t ⟨n, ht⟩) j l
    have hv := fun (j : Fin 512) (l : Fin 128) => load_tile (iblk m c 2 t) h8 (k0_off1_inb (grid0.coords t) ⟨n, ht⟩) (off₁ t ⟨n, ht⟩) j l
    have hc₀ := fun j : Fin 512 => load_row (iblk m c 3 t) 0 ⟨n, h8⟩ (k0_off2_inb (grid0.coords t) ⟨n, ht⟩) (off₂ t ⟨n, ht⟩) j
    have hc₁ := fun j : Fin 512 => load_row (iblk m c 3 t) 1 ⟨n, h8⟩ (k0_off3_inb (grid0.coords t) ⟨n, ht⟩) (off₃ t ⟨n, ht⟩) j
    rw [e]
    generalize View.ld (iblk m c 1 t) (Rect.unit (k0_off1 (grid0.coords t) ⟨n, ht⟩) ![512, 128] (k0_off1_inb (grid0.coords t) ⟨n, ht⟩)) = K at hk
    generalize View.ld (iblk m c 2 t) (Rect.unit (k0_off1 (grid0.coords t) ⟨n, ht⟩) ![512, 128] (k0_off1_inb (grid0.coords t) ⟨n, ht⟩)) = W at hv
    generalize View.ld (iblk m c 3 t) (Rect.unit (k0_off2 (grid0.coords t) ⟨n, ht⟩) ![1, 1, 1, 512] (k0_off2_inb (grid0.coords t) ⟨n, ht⟩)) = d₀ at hc₀
    generalize View.ld (iblk m c 3 t) (Rect.unit (k0_off3 (grid0.coords t) ⟨n, ht⟩) ![1, 1, 1, 512] (k0_off3_inb (grid0.coords t) ⟨n, ht⟩)) = d₁ at hc₁
    generalize stAt m c t n = T at ih
    have hle : ∀ j : Fin 512, pos n h8 j ≤ qp t r := fun j => by
      show 512 * n + j.val ≤ 512 * (t.val % 8) + r.val
      omega
    have hsc : ∀ (h : Fin 2) (d : Vec Ideal S1x1x1x512 .f32) (j : Fin 512), d (ix4 0 0 0 j) = iblk m c 3 t (ix4 h ⟨n, h8⟩ 0 j) →
        dotT (iblk m c 0 t) K h r j - d (ix4 0 0 0 j) = logit (s h r) (qp t r) (pos n h8 j) := fun h d j hd => by
      rw [logit, if_pos (hle j)]
      refine Eq.trans ?_ (hs h r ⟨n, h8⟩ j)
      exact congrArg₂ (fun a b : EReal => a - b) (dot_congr _ _ _ h r j _ fun l => hk j l) hd
    have hi : 512 * n ≤ (qp t r).val := by
      show 512 * n ≤ 512 * (t.val % 8) + r.val
      omega
    have hw : ∀ j y, (W (ix2 j y) : EReal) = (u (pos n h8 j) y : EReal) := fun j y => (hv j y).trans (hu _ _)
    exact ⟨row_step ih.1 h8 hi _ (fun j => (score0 _ _ _ r j).trans (hsc 0 d₀ j (hc₀ j))) _ hw,
      row_step ih.2 h8 hi _ (fun j => (score1 _ _ _ r j).trans (hsc 1 d₁ j (hc₁ j))) _ hw⟩

/-- The last step, on the diagonal. -/
theorem last (r : Fin 512) (S : St) (hS : S = stAt m c t (t.val % 8)) :
    Row (s 0 r) (qp t r) u (t.val % 8 + 1) (mT S.1 (D0 (iblk m c 0 t) (kT m c t) (cT₀ m c t)) (ix2 r 0)) (lT S.1 S.2.1 (D0 (iblk m c 0 t) (kT m c t) (cT₀ m c t)) (ix2 r 0))
        (fun y => aT S.1 S.2.2.1 (D0 (iblk m c 0 t) (kT m c t) (cT₀ m c t)) (vT m c t) (ix2 r y)) ∧
      Row (s 1 r) (qp t r) u (t.val % 8 + 1) (mT S.2.2.2.1 (D1 (iblk m c 0 t) (kT m c t) (cT₁ m c t)) (ix2 r 0))
        (lT S.2.2.2.1 S.2.2.2.2.1 (D1 (iblk m c 0 t) (kT m c t) (cT₁ m c t)) (ix2 r 0))
        (fun y => aT S.2.2.2.1 S.2.2.2.2.2 (D1 (iblk m c 0 t) (kT m c t) (cT₁ m c t)) (vT m c t) (ix2 r y)) := by
  have h8 : t.val % 8 < 8 := Nat.mod_lt _ (by decide)
  have hk : ∀ (j : Fin 512) (l : Fin 128), kT m c t (ix2 j l) = iblk m c 1 t (ix2 (pos _ h8 j) l) := fun j l =>
    load_tile (iblk m c 1 t) h8 (k0_off7_inb (grid0.coords t)) (off₇ t) j l
  have hv : ∀ (j : Fin 512) (l : Fin 128), vT m c t (ix2 j l) = iblk m c 2 t (ix2 (pos _ h8 j) l) := fun j l =>
    load_tile (iblk m c 2 t) h8 (k0_off7_inb (grid0.coords t)) (off₇ t) j l
  have hc₀ : ∀ j : Fin 512, cT₀ m c t (ix4 0 0 0 j) = iblk m c 3 t (ix4 0 ⟨t.val % 8, h8⟩ 0 j) := fun j =>
    load_row (iblk m c 3 t) 0 ⟨t.val % 8, h8⟩ (k0_off8_inb (grid0.coords t)) (off₈ t) j
  have hc₁ : ∀ j : Fin 512, cT₁ m c t (ix4 0 0 0 j) = iblk m c 3 t (ix4 1 ⟨t.val % 8, h8⟩ 0 j) := fun j =>
    load_row (iblk m c 3 t) 1 ⟨t.val % 8, h8⟩ (k0_off9_inb (grid0.coords t)) (off₉ t) j
  have hsc : ∀ (h : Fin 2) (d : Vec Ideal S1x1x1x512 .f32) (j : Fin 512), d (ix4 0 0 0 j) = iblk m c 3 t (ix4 h ⟨t.val % 8, h8⟩ 0 j) →
      (if j.val ≤ r.val then dotT (iblk m c 0 t) (kT m c t) h r j - d (ix4 0 0 0 j) else ⊥)
        = logit (s h r) (qp t r) (pos _ h8 j) := fun h d j hd => by
    have hc : (pos _ h8 j ≤ qp t r) ↔ j.val ≤ r.val := by
      show 512 * (t.val % 8) + j.val ≤ 512 * (t.val % 8) + r.val ↔ _
      omega
    unfold logit
    refine if_congr hc.symm ?_ rfl
    refine Eq.trans ?_ (hs h r ⟨t.val % 8, h8⟩ j)
    exact congrArg₂ (fun a b : EReal => a - b) (dot_congr _ _ _ h r j _ fun l => hk j l) hd
  have hi : 512 * (t.val % 8) ≤ (qp t r).val := by
    show 512 * (t.val % 8) ≤ 512 * (t.val % 8) + r.val
    omega
  have hw : ∀ j y, (vT m c t (ix2 j y) : EReal) = (u (pos _ h8 j) y : EReal) := fun j y => (hv j y).trans (hu _ _)
  have hc := carries m c t s u hs hu _ le_rfl r
  rw [← hS] at hc
  generalize kT m c t = K at hsc hk
  generalize vT m c t = W at hv hw
  generalize cT₀ m c t = d₀ at hc₀
  generalize cT₁ m c t = d₁ at hc₁
  exact ⟨row_step hc.1 h8 hi _ (fun j => (diag0 _ _ _ r j).trans (hsc 0 d₀ j (hc₀ j))) _ hw,
    row_step hc.2 h8 hi _ (fun j => (diag1 _ _ _ r j).trans (hsc 1 d₁ j (hc₁ j))) _ hw⟩

omit hs hu in
theorem qp_lt (r : Fin 512) : (qp t r).val < 512 * (t.val % 8 + 1) := by
  show 512 * (t.val % 8) + r.val < _
  omega

/-- The point's block of the output, and of the log-sums. -/
theorem out_val (r : Fin 512) (y : Fin 128) :
    ((outsAt0 m c t).1 (ix2 r y) : EReal) = ((∑ j, soft (s (hd y) r) (qp t r) j * u j y : ℝ) : EReal) := by
  rw [out_eq]
  refine (out_at _ _ _ _ _ _ _ _ _ r y).trans ?_
  have h := last m c t s u hs hu r _ rfl
  rw [h.1.out (qp_lt t r) y, h.2.out (qp_lt t r) y]
  exact hd_ite (fun h => ((∑ j, soft (s h r) (qp t r) j * u j y : ℝ) : EReal)) y
theorem lse_val (h : Fin 2) (r : Fin 512) :
    ((outsAt0 m c t).2 (ix3 h r 0) : EReal) = ((Real.log (tot (s h r) (qp t r)) : ℝ) : EReal) := by
  rw [lse_eq]
  have hl := last m c t s u hs hu r _ rfl
  rcases (by omega : h = 0 ∨ h = 1) with rfl | rfl
  · refine (if_pos (rfl : (0 : Fin 2).val = 0)).trans ?_
    exact (lse_at _ _ _ r).trans (hl.1.lse (qp_lt t r))
  · refine (if_neg (by decide : ¬(1 : Fin 2).val = 0)).trans ?_
    exact (lse_at' _ _ _ r).trans (hl.2.lse (qp_lt t r))

end Rows

end Cert.FoxfKernelIdeal.Value

end
-- ==== Proof.Foxf.Entry.lean ====
/- The FoX attention's forward call: what the call's operands hold when it begins, and the blocks of each point. -/
module

public import proofs.«01_k».proof.Proof.Foxf.Point
public import proofs.«01_k».proof.Proof.Fox.Real

@[expose] public section

set_option maxRecDepth 16384

noncomputable section

open Idealize.ShloMosaic Idealize.ShloMosaic.TcCoe Idealize.SL.Sem

namespace Cert.FoxfKernelIdeal.Value

open Cert.FoxfKernelIdeal Cert.FoxfKernelIdeal.Gen Cert.Attn Cert.Lanes Cert.Causal Cert.Fox
open Cert.FoxKernelIdeal.Value (coe_dot c8 c8_eq hcol)

variable (m : (ℓ : Loc nD τ sig) → Buf (Elt Ideal) ℓ) (c : Dev nD)

/-- The features and the running decay sums of the row at position `i`. -/
def fH (i : Fin 4096) (k : Fin 2984) : EReal := m (c, Proc.devRef .tc main_arg0) (ix3 0 i k)
def fC (i : Fin 4096) (h : Fin 8) : EReal := m (c, Proc.devRef .tc main_arg1) (ix3 0 i h)

theorem entry_v9 (i : Fin 4096) (j : Fin 1536) : (show EReal from V m c main_v9 (ix2 i ⟨1024 + j, by omega⟩)) = fH m c i (acol j) := by
  unfold V acol
  simp only [List.flatten_cons, List.flatten_nil, List.append_nil, StableHlo.after_append]
  unfold fH
  after_reads_at
  after_reads_at
theorem entry_v13 (h b : Fin 8) (j : Fin 512) : (show EReal from V m c main_v13 (ix4 h b 0 j)) = fC m c (pos b.val b.isLt j) h := by
  unfold V pos
  simp only [List.flatten_cons, List.flatten_nil, List.append_nil, StableHlo.after_append]
  unfold fC
  after_reads_at
  exact congrArg (fun k : Fin 4096 => m (c, Proc.devRef .tc main_arg1) (ix3 0 k h)) (Fin.ext (congrArg (· + j.val) (Nat.mul_comm b.val 512)))

theorem lt_N (t : Fin cfg0.N) : t.val < 32 := t.isLt

/-- The column of lane `l` of the point's pair of heads, and the pair's heads. -/
def col (t : Fin cfg0.N) (l : Fin 128) : Fin 512 := ⟨128 * (t.val / 8) + l.val, by have := lt_N t; omega⟩
def hpos (t : Fin cfg0.N) (h : Fin 2) : Fin 8 := ⟨2 * (t.val / 8) + h.val, by have := lt_N t; omega⟩

theorem hcol_col (t : Fin cfg0.N) (l : Fin 128) : hcol (col t l) = hpos t (hd l) := Fin.ext (by simp only [hpos, hd, hcol, col]; omega)
theorem col_head (t : Fin cfg0.N) (h : Fin 2) (x : Fin 64) (hx : 64 * h.val + x.val < 128) : col t ⟨64 * h.val + x.val, hx⟩ = hl (hpos t h) x :=
  Fin.ext (by simp only [hpos, hl, col]; omega)

theorem blk0 (t : Fin cfg0.N) (r : Fin 512) (l : Fin 128) : (show EReal from iblk m c 0 t (ix2 r l)) = fH m c (qp t r) (acol (qpart (col t l))) := by
  have idx : ∀ t : Fin cfg0.N, win0_0.index t = ![t.val % 8, 8 + t.val / 8] := by decide +kernel
  have h := entry_v9 m c (qp t r) (qpart (col t l))
  refine Eq.trans ?_ h
  unfold iblk qp pos qpart col
  generalize V m c = V'
  blk_point [idx t]
theorem blk1 (t : Fin cfg0.N) (j : Fin 4096) (l : Fin 128) : (show EReal from iblk m c 1 t (ix2 j l)) = fH m c j (acol (kpart (col t l))) := by
  have idx : ∀ t : Fin cfg0.N, win0_1.index t = ![0, 12 + t.val / 8] := by decide +kernel
  have h := entry_v9 m c j (kpart (col t l))
  refine Eq.trans ?_ h
  unfold iblk kpart col
  generalize V m c = V'
  blk_point [idx t]
theorem blk2 (t : Fin cfg0.N) (j : Fin 4096) (l : Fin 128) : (show EReal from iblk m c 2 t (ix2 j l)) = fH m c j (acol (vpart (col t l))) := by
  have idx : ∀ t : Fin cfg0.N, win0_2.index t = ![0, 16 + t.val / 8] := by decide +kernel
  have h := entry_v9 m c j (vpart (col t l))
  refine Eq.trans ?_ h
  unfold iblk vpart col
  generalize V m c = V'
  blk_point [idx t]
theorem blk3 (t : Fin cfg0.N) (h : Fin 2) (b : Fin 8) (j : Fin 512) : cK (iblk m c 3 t) h b j = fC m c (pos b.val b.isLt j) (hpos t h) := by
  have idx : ∀ t : Fin cfg0.N, win0_3.index t = ![t.val / 8, 0, 0, 0] := by decide +kernel
  refine Eq.trans ?_ (entry_v13 m c (hpos t h) b j)
  unfold cK iblk hpos
  generalize V m c = V'
  blk_point [idx t]

theorem put4 (X : FVec Ideal S4096x512 .f32) (t : Fin cfg0.N) (r : Fin 512) (l : Fin 128) :
    (show EReal from ((cfg0.win 4).blk t).view.read (Elt Ideal) X (ix2 r l)) = X (ix2 (qp t r) (col t l)) := by
  have idx : ∀ t : Fin cfg0.N, win0_4.index t = ![t.val % 8, t.val / 8] := by decide +kernel
  unfold qp pos col
  blk_point [idx t]
theorem put5 (X : FVec Ideal S8x4096x1 .f32) (t : Fin cfg0.N) (h : Fin 2) (r : Fin 512) :
    (show EReal from ((cfg0.win 5).blk t).view.read (Elt Ideal) X (ix3 h r 0)) = X (ix3 (hpos t h) (qp t r) 0) := by
  have idx : ∀ t : Fin cfg0.N, win0_5.index t = ![t.val / 8, t.val % 8, 0] := by decide +kernel
  unfold qp pos hpos
  blk_point [idx t]

theorem dotK_of (q : Vec Ideal S512x128 .bf16) (k : Vec Ideal S4096x128 .bf16) (h : Fin 2) (r : Fin 512) (j : Fin 4096) (f g : Fin 64 → EReal)
    (hq : ∀ x : Fin 64, (q (ix2 r ⟨64 * h.val + x.val, by omega⟩) : EReal) = f x) (hk : ∀ x : Fin 64, (k (ix2 j ⟨64 * h.val + x.val, by omega⟩) : EReal) = g x) :
    dotK q k h r j = (∑ x, f x * g x) * c8 := by
  unfold dotK
  rw [sum_head]
  exact congrArg (· * c8) (Finset.sum_congr rfl fun x _ => congrArg₂ (fun a b : EReal => a * b) (hq x) (hk x))

section
variable (A : Fin 4096 → Fin 1536 → ℝ) (C : Fin 4096 → Fin 8 → ℝ)
  (hA : ∀ i k, fH m c i (acol k) = (A i k : EReal)) (hC : ∀ i h, fC m c i h = (C i h : EReal))

/-- The scores less the keys' decay sums, over the reals. -/
def sK (h : Fin 8) (i j : Fin 4096) : ℝ := sR A h i j - C j h

include hA hC in
theorem score_real (t : Fin cfg0.N) (h : Fin 2) (r : Fin 512) (b : Fin 8) (j : Fin 512) :
    dotK (iblk m c 0 t) (iblk m c 1 t) h r (pos b.val b.isLt j) - cK (iblk m c 3 t) h b j = (sK A C (hpos t h) (qp t r) (pos b.val b.isLt j) : EReal) := by
  rw [blk3 m c t h b j, hC]
  generalize pos b.val b.isLt j = J
  unfold sK sR
  rw [EReal.coe_sub]
  refine congrArg (fun a : EReal => a - _) ?_
  refine (dotK_of _ _ h r J (fun x => (A (qp t r) (qpart (hl (hpos t h) x)) : EReal)) (fun x => (A J (kpart (hl (hpos t h) x)) : EReal)) (fun x => ?_) (fun x => ?_)).trans ?_
  · exact (blk0 m c t r _).trans (by rw [col_head, hA])
  · exact (blk1 m c t J _).trans (by rw [col_head, hA])
  · refine (congrArg₂ (· * ·) (coe_dot _ _ _ _ (fun x => rfl) (fun x => rfl)) c8_eq).trans ?_
    rw [← EReal.coe_mul]
include hA in
theorem value_real (t : Fin cfg0.N) (j : Fin 4096) (y : Fin 128) : (iblk m c 2 t (ix2 j y) : EReal) = (A j (vpart (col t y)) : EReal) :=
  (blk2 m c t j y).trans (hA j _)

/-- The call's results. -/
def OUT : FVec Ideal S4096x512 .f32 := fun i => ((∑ j, soft (sK A C (hcol (i 1)) (i 0)) (i 0) j * A j (vpart (i 1)) : ℝ) : EReal)
def LSE : FVec Ideal S8x4096x1 .f32 := fun i => ((Real.log (tot (sK A C (i 0) (i 1)) (i 1)) : ℝ) : EReal)

include hA hC in
theorem final_o : (dats m 0 c).arrAt 4 (cfgs 0).N = OUT A C := by
  refine (dats m 0 c).arrAt_eq_of_covers 4 _ (by decide +kernel) fun t hf y => ?_
  obtain ⟨r, l, rfl⟩ : ∃ (r : Fin 512) (l : Fin 128), y = ix2 r l := ⟨y 0, y 1, eq_ix2 y⟩
  rw [after0_4]
  refine (out_val m c t (fun h r j => sK A C (hpos t h) (qp t r) j) (fun j y => A j (vpart (col t y)))
    (score_real m c A C hA hC t) (value_real m c A hA t) r l).trans (Eq.trans ?_ (put4 (OUT A C) t r l).symm)
  rw [← hcol_col]
  rfl
include hA hC in
theorem final_l : (dats m 0 c).arrAt 5 (cfgs 0).N = LSE A C := by
  refine (dats m 0 c).arrAt_eq_of_covers 5 _ (by decide +kernel) fun t hf y => ?_
  obtain ⟨h, r, q, rfl⟩ : ∃ (h : Fin 2) (r : Fin 512) (q : Fin 1), y = ix3 h r q := ⟨y 0, y 1, y 2, eq_ix3 y⟩
  obtain rfl : q = 0 := Fin.ext (by omega)
  rw [after0_5]
  refine (lse_val m c t (fun h r j => sK A C (hpos t h) (qp t r) j) (fun j y => A j (vpart (col t y)))
    (score_real m c A C hA hC t) (value_real m c A hA t) h r).trans (Eq.trans ?_ (put5 (LSE A C) t h r).symm)
  rfl
end

end Cert.FoxfKernelIdeal.Value

end
-- ==== Proof.Foxf.Ref.lean ====
/- The FoX attention's forward reference, entry by entry, when the arguments are real numbers. -/
module

public import proofs.«01_k».proof.Proof.Fox.Ref
public import proofs.«01_k».proof.Proof.Foxf.Entry
public import proofs.«01_k».proof.Proof.Gen.FoxfReferenceIdeal.Run

@[expose] public section

set_option maxRecDepth 16384

noncomputable section

open Idealize.ShloMosaic Idealize.ShloMosaic.TcCoe Idealize.SL.Sem

namespace Cert.FoxfReferenceIdeal.Value

open Cert.FoxfReferenceIdeal Cert.FoxfReferenceIdeal.Gen Cert.Attn Cert.Fox
open Cert.RefAttn (logitT maskT over column over_column_at)
open Cert.FoxKernelIdeal.Value (coe_dot outT outT_at lseT lseT_of rowMax rowSum spread hcol)
open Cert.FoxReferenceIdeal.Value (LT LT_real vT v_real qT kT headsT dotT scoreT eighth decayT decayT_at col_mod)
open Cert.FoxfKernelIdeal.Value (OUT LSE sK)

variable (a0 : FVec Ideal S1x4096x2984 .f32) (a1 : FVec Ideal S1x4096x8 .f32)

/-- The logits less each query's own decay sum. -/
def LS : FVec Ideal S1x8x4096x4096 .f32 := subf (LT a0 a1) (over (column (decayT a1)))

theorem LS_at (h : Fin 8) (i j : Fin 4096) : (LS a0 a1 (ix4 0 h i j) : EReal) = LT a0 a1 (ix4 0 h i j) - a1 (ix3 0 i h) := by
  have e (L M : FVec Ideal S1x8x4096x4096 .f32) : (subf L M (ix4 0 h i j) : EReal) = L (ix4 0 h i j) - M (ix4 0 h i j) := by pointwise
  unfold LS
  rw [e, over_column_at, decayT_at]

variable (A : Fin 4096 → Fin 1536 → ℝ) (C : Fin 4096 → Fin 8 → ℝ)
  (hA : ∀ (i : Fin 4096) (k : Fin 1536), a0 (ix3 0 i (acol k)) = (A i k : EReal)) (hC : ∀ (i : Fin 4096) (h : Fin 8), a1 (ix3 0 i h) = (C i h : EReal))

theorem shift (h : Fin 8) (i : Fin 4096) : (fun j => xR A C h i j - C i h) = sK A C h i := funext fun j => by unfold xR sK; ring

include hA hC in
theorem LS_real (h : Fin 8) (i j : Fin 4096) : LS a0 a1 (ix4 0 h i j) = logit (sK A C h i) i j := by
  rw [LS_at, LT_real a0 a1 A C hA hC, hC, ← shift]
  unfold logit
  by_cases hj : j ≤ i
  · rw [if_pos hj, if_pos hj, ← EReal.coe_sub]
  · rw [if_neg hj, if_neg hj, EReal.bot_sub]

include hA hC in
theorem out_real : outT (LT a0 a1) (vT a0) = OUT A C := by
  funext y
  obtain ⟨i, l, rfl⟩ : ∃ (i : Fin 4096) (l : Fin 512), y = ix2 i l := ⟨y 0, y 1, eq_ix2 y⟩
  rw [outT_at]
  refine (coe_dot _ _ _ _ (fun x => row_soft _ i x _ (LT_real a0 a1 A C hA hC (hcol l) i) _ rfl) (fun x => v_real a0 A hA (hcol l) x ⟨l.val % 64, by omega⟩)).trans ?_
  have e : hl (hcol l) ⟨l.val % 64, by omega⟩ = l := Fin.ext (col_mod l)
  rw [e]
  simp only [← soft_shift (xR A C (hcol l) i) (C i (hcol l)), shift]
  rfl
include hA hC in
theorem lse_real : lseT (LS a0 a1) = LSE A C := by
  funext y
  obtain ⟨h, i, q, rfl⟩ : ∃ (h : Fin 8) (i : Fin 4096) (q : Fin 1), y = ix3 h i q := ⟨y 0, y 1, y 2, eq_ix3 y⟩
  obtain rfl : q = 0 := Fin.ext (by omega)
  rw [lseT_of _ h i _ (LS_real a0 a1 A C hA hC h i)]
  exact row_lse _ i _ (fun _ => rfl) _ rfl

section
variable (m : (ℓ : Loc nD τ sig) → Buf (Elt Ideal) ℓ) (c : Dev nD)

theorem res_o : res_main_v40 m c = outT (LT (m ((c.tc : Thread nD τ).loc main_arg0)) (m ((c.tc : Thread nD τ).loc main_arg1))) (vT (m ((c.tc : Thread nD τ).loc main_arg0))) := by
  unfold res_main_v40 outT FoxReferenceIdeal.Value.LT logitT maskT rowMax rowSum
  rfl
theorem res_l : res_main_v53 m c = lseT (LS (m ((c.tc : Thread nD τ).loc main_arg0)) (m ((c.tc : Thread nD τ).loc main_arg1))) := by
  unfold res_main_v53 lseT LS FoxReferenceIdeal.Value.LT logitT maskT rowMax rowSum
  rfl

/-- The reference's run, its results from the masked logits. -/
theorem run_real (ρ : Dev nD → PrngReg) :
    θ_run defs (onTc (τ := τ) (main (F := Ideal))) ⟨m, fun _ => 0, ρ⟩ fun r => ∀ c : Dev nD,
      r.2.mem ((c.tc : Thread nD τ).loc main_v40) = outT (FoxReferenceIdeal.Value.LT (m ((c.tc : Thread nD τ).loc main_arg0)) (m ((c.tc : Thread nD τ).loc main_arg1))) (vT (m ((c.tc : Thread nD τ).loc main_arg0)))
      ∧ r.2.mem ((c.tc : Thread nD τ).loc main_v53) = lseT (LS (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (res_o m c), (h c).2.1.trans (res_l m c), (h c).2.2⟩) (run m ρ)
end

end Cert.FoxfReferenceIdeal.Value

end
-- ==== Proof.FoxfClaim.lean ====
/- The claims about the FoX attention's forward call. -/
module

public import proofs.«01_k».proof.Defs
public import proofs.«01_k».proof.Proof.Finite
public import proofs.«01_k».proof.Proof.Foxf.Ref
public import proofs.«01_k».proof.Proof.Gen.FoxfKernel.Frame
public import proofs.«01_k».proof.Proof.Gen.FoxfKernel
public import proofs.«01_k».proof.Proof.Gen.FoxfKernelIdeal
public import proofs.«01_k».proof.Proof.Gen.FoxfReferenceIdeal
public import Idealize.ShloMosaic.Lib.Claim

@[expose] public section

set_option maxRecDepth 16384

noncomputable section

open Idealize.ShloMosaic Idealize.ShloMosaic.TcCoe Idealize.SL.Sem

namespace Cert.Pre_foxf_finite

theorem facts : Cert.Pre_foxf_finite.Facts where
  slices_S1x4096x2984_S1x4096x1536_0_0_416 := by decide
  bcast_S_S1x4096x1536 := by decide
  bcast_S_S1x4096x8 := by decide

end Cert.Pre_foxf_finite

namespace Cert.FoxfKernelIdeal.Value

open Cert.FoxfKernelIdeal Cert.FoxfKernelIdeal.Gen Cert.Attn Cert.Fox

attribute [local instance] Cert.Pre_foxf_finite.facts

variable (m : (ℓ : Loc nD τ sig) → Buf (Elt Ideal) ℓ) (hm : Cert.Pre_FoxfKernelIdeal_foxf_finite m) (c : Dev nD)

theorem slice_at (a : FVec Ideal S1x4096x2984 .f32) (i : Fin 4096) (k : Fin 1536) :
    extractStridedSlice Cert.Pre_foxf_finite.S1x4096x1536 ![0, 0, 416] a Cert.Pre_foxf_finite.Facts.slices_S1x4096x2984_S1x4096x1536_0_0_416 (ix3 0 i k) = a (ix3 0 i (acol k)) := by
  unfold acol
  pointwise

include hm
theorem real_h (i : Fin 4096) (k : Fin 1536) : ∃ r : ℝ, fH m c i (acol k) = r := by
  obtain ⟨r, hr⟩ := Cert.Finite.real_of_lt _ (congrFun (hm c).1 (ix3 0 i k))
  exact ⟨r, (slice_at _ i k).symm.trans hr⟩
theorem real_c (i : Fin 4096) (h : Fin 8) : ∃ r : ℝ, fC m c i h = r :=
  Cert.Finite.real_of_lt _ (congrFun (hm c).2 (ix3 0 i h))

theorem reals : ∃ (A : Fin 4096 → Fin 1536 → ℝ) (C : Fin 4096 → Fin 8 → ℝ),
    (∀ i (k : Fin 1536), fH m c i (acol k) = (A i k : EReal)) ∧ (∀ i h, fC m c i h = (C i h : EReal)) := by
  choose A hA using real_h m hm c
  choose C hC using real_c m hm c
  exact ⟨A, C, hA, hC⟩

theorem ref_o : Cert.FoxKernelIdeal.Value.outT (Cert.FoxReferenceIdeal.Value.LT (m ((c.tc : Thread nD τ).loc main_arg0)) (m ((c.tc : Thread nD τ).loc main_arg1)))
    (Cert.FoxReferenceIdeal.Value.vT (m ((c.tc : Thread nD τ).loc main_arg0))) = (dats m 0 c).arrAt 4 (cfgs 0).N := by
  obtain ⟨A, C, hA, hC⟩ := reals m hm c
  exact (Cert.FoxfReferenceIdeal.Value.out_real _ _ A C hA hC).trans (final_o m c A C hA hC).symm
theorem ref_l : Cert.FoxKernelIdeal.Value.lseT (Cert.FoxfReferenceIdeal.Value.LS (m ((c.tc : Thread nD τ).loc main_arg0)) (m ((c.tc : Thread nD τ).loc main_arg1)))
    = (dats m 0 c).arrAt 5 (cfgs 0).N := by
  obtain ⟨A, C, hA, hC⟩ := reals m hm c
  exact (Cert.FoxfReferenceIdeal.Value.lse_real _ _ A C hA hC).trans (final_l m c A C hA hC).symm

end Cert.FoxfKernelIdeal.Value

namespace Cert.Proof

open Cert.FoxfKernelIdeal.Value

attribute [local instance] Cert.Pre_foxf_finite.facts

theorem foxf_frame : Cert.quiescent_FoxfKernel := fun m ρ _ => Cert.FoxfKernel.Gen.frame m ρ

theorem foxf_frame_ideal : Cert.quiescent_FoxfKernelIdeal := fun m ρ _ => Cert.FoxfKernelIdeal.Gen.frame m ρ
theorem foxf_frame_finite : Cert.quiescent_FoxfKernelIdeal_pre_foxf_finite := fun m ρ _ => Cert.FoxfKernelIdeal.Gen.frame m ρ

theorem foxf_frame_reference : Cert.quiescent_FoxfReferenceIdeal := fun m g _ =>
  (θ_run Cert.FoxfReferenceIdeal.defs _ _).mono (fun r h => ⟨fun c => (h c).2.2, sem_eq_zero_of_no_sems (by decide) r.2⟩)
    (Cert.FoxfReferenceIdeal.Value.run m g)
theorem foxf_frame_reference_finite : Cert.quiescent_FoxfReferenceIdeal_pre_foxf_finite := fun m g _ => foxf_frame_reference m g trivial

set_option maxHeartbeats 4000000 in
theorem foxf_algebraic : Cert.algebraic_FoxfKernelIdeal_FoxfReferenceIdeal_pre_foxf_finite := by
  pair_intro
  · run_from Cert.FoxfKernelIdeal.Gen.run_main m g & Cert.FoxfKernelIdeal.Gen.frame m g
  · run_from Cert.FoxfReferenceIdeal.Value.run_real m' g'
    · exact ref_o m hpre c
    · exact ref_l m hpre c

end Cert.Proof

end
-- ==== Proof.OutClaim.lean ====
/- The frames of the output layer's gradient. -/
module

public import proofs.«01_k».proof.Defs
public import proofs.«01_k».proof.Proof.Gen.OutKernel.Frame
public import proofs.«01_k».proof.Proof.Gen.OutKernelIdeal.Frame
public import proofs.«01_k».proof.Proof.Gen.OutReferenceIdeal.Run
public import proofs.«01_k».proof.Proof.Gen.OutKernel
public import proofs.«01_k».proof.Proof.Gen.OutKernelIdeal
public import proofs.«01_k».proof.Proof.Gen.OutReferenceIdeal
public import Idealize.ShloMosaic.Lib.Claim

@[expose] public section

set_option maxRecDepth 16384

noncomputable section

open Idealize.ShloMosaic Idealize.ShloMosaic.TcCoe Idealize.SL.Sem

namespace Cert.Proof

theorem out_frame : Cert.quiescent_OutKernel := fun m ρ _ => Cert.OutKernel.Gen.frame m ρ

theorem out_frame_ideal : Cert.quiescent_OutKernelIdeal := fun m ρ _ => Cert.OutKernelIdeal.Gen.frame m ρ

theorem out_frame_reference : Cert.quiescent_OutReferenceIdeal := fun m g _ =>
  (θ_run Cert.OutReferenceIdeal.defs _ _).mono (fun r h => ⟨fun c => (h c).2.2.2.2.2.2, sem_eq_zero_of_no_sems (by decide) r.2⟩)
    (Cert.OutReferenceIdeal.Value.run m g)

end Cert.Proof

end
-- ==== Proof.MidClaim.lean ====
/- The frames of the even layers' middle gradient. -/
module

public import proofs.«01_k».proof.Defs
public import proofs.«01_k».proof.Proof.Gen.MidKernel.Frame
public import proofs.«01_k».proof.Proof.Gen.MidKernelIdeal.Frame
public import proofs.«01_k».proof.Proof.Gen.MidReferenceIdeal.Run
public import proofs.«01_k».proof.Proof.Gen.MidKernel
public import proofs.«01_k».proof.Proof.Gen.MidKernelIdeal
public import proofs.«01_k».proof.Proof.Gen.MidReferenceIdeal
public import Idealize.ShloMosaic.Lib.Claim

@[expose] public section

set_option maxRecDepth 16384

noncomputable section

open Idealize.ShloMosaic Idealize.ShloMosaic.TcCoe Idealize.SL.Sem

namespace Cert.Proof

theorem mid_frame : Cert.quiescent_MidKernel := fun m ρ _ => Cert.MidKernel.Gen.frame m ρ

theorem mid_frame_ideal : Cert.quiescent_MidKernelIdeal := fun m ρ _ => Cert.MidKernelIdeal.Gen.frame m ρ

theorem mid_frame_reference : Cert.quiescent_MidReferenceIdeal := fun m g _ =>
  (θ_run Cert.MidReferenceIdeal.defs _ _).mono (fun r h => ⟨fun c => (h c).2.2.2.2.2, sem_eq_zero_of_no_sems (by decide) r.2⟩)
    (Cert.MidReferenceIdeal.Value.run m g)

end Cert.Proof

end
-- ==== Proof.Cumf.Ref.lean ====
/- The cumulative sum's reference, entry by entry: the sum of a column up to a row. -/
module

public import proofs.«01_k».proof.Proof.Gen.CumfReferenceIdeal.Run
public import proofs.«01_k».proof.Proof.Cum.Ref
public import Idealize.ShloMosaic.Lib.Pointwise

@[expose] public section

set_option maxRecDepth 16384

noncomputable section

open Idealize.ShloMosaic Idealize.ShloMosaic.TcCoe Idealize.SL.Sem

namespace Cert.CumfReferenceIdeal.Value

open Cert.CumfReferenceIdeal Cert.CumfReferenceIdeal.Gen
open Cert.CumReferenceIdeal.Value (col axis foldl_add)

/-- The sum of a column before a row. -/
def headSum (f : Fin 4096 → EReal) (i : ℕ) : EReal := ∑ n ∈ Finset.range i, col f n

theorem headSum_eq (f : Fin 4096 → EReal) (i : ℕ) (hi : i < 4096) : ∑ k : Fin 4096, (if 4095 ≤ i + k.val then col f (i + k.val - 4095) else 0) = headSum f (i + 1) := by
  unfold headSum
  rw [Fin.sum_univ_eq_sum_range (fun k => if 4095 ≤ i + k then col f (i + k - 4095) else 0) 4096, ← Finset.sum_filter]
  have hs : (Finset.range 4096).filter (fun k => 4095 ≤ i + k) = Finset.Ico (4095 - i) 4096 := by
    ext x; simp only [Finset.mem_filter, Finset.mem_range, Finset.mem_Ico]; omega
  rw [hs, Finset.sum_Ico_eq_sum_range, show 4096 - (4095 - i) = i + 1 by omega]
  exact Finset.sum_congr rfl fun k _ => congrArg (col f) (by omega)

/-- What a position of the window adds, the window ending at the row when `lo` is 4095. -/
def part (lo : ℕ) (x : FVec Ideal S1x4096x8 .f32) (i : Fin 4096) (h : Fin 8) (hr : (3 : ℕ) = 3) (w : (⟨3, ![1, 4096, 1]⟩ : Shape).Idx) : EReal :=
  if hin : ∀ a : Fin 3, (![0, lo, 0] : Fin 3 → ℕ) a ≤ ((ix3 0 i h : S1x4096x8.Idx) (a.cast hr)).val * (![1, 1, 1] : Fin 3 → ℕ) a + (w a).val
      ∧ ((ix3 0 i h : S1x4096x8.Idx) (a.cast hr)).val * (![1, 1, 1] : Fin 3 → ℕ) a + (w a).val - (![0, lo, 0] : Fin 3 → ℕ) a < S1x4096x8.size a
    then x (fun a => ⟨_, (hin a).2⟩) else 0

theorem part_at (lo : ℕ) (x : FVec Ideal S1x4096x8 .f32) (i : Fin 4096) (h : Fin 8) (hr) (k : Fin 4096) :
    part lo x i h hr (axis k) = if lo ≤ i.val + k.val then col (fun j => x (ix3 0 j h)) (i.val + k.val - lo) else 0 := by
  unfold part col
  have e0 : ((ix3 0 i h : S1x4096x8.Idx) ((0 : Fin 3).cast hr)).val * 1 + (axis k 0).val - 0 = 0 := rfl
  have e1 : ((ix3 0 i h : S1x4096x8.Idx) ((1 : Fin 3).cast hr)).val * 1 + (axis k 1).val = i.val + k.val := by
    show i.val * 1 + k.val = _; omega
  have e2 : ((ix3 0 i h : S1x4096x8.Idx) ((2 : Fin 3).cast hr)).val * 1 + (axis k 2).val - 0 = h.val := by
    show h.val * 1 + 0 - 0 = _; omega
  have e3 : ((ix3 0 i h : S1x4096x8.Idx) ((1 : Fin 3).cast hr)).val * 1 + (axis k 1).val - lo = i.val + k.val - lo := congrArg (· - lo) e1
  by_cases hk : lo ≤ i.val + k.val
  · rw [if_pos hk]
    refine dite_congr (propext ⟨fun q => ?_, fun q a => ?_⟩) (fun q => congrArg x ?_) fun _ => rfl
    · exact lt_of_eq_of_lt e3.symm (q 1).2
    · match a with
      | ⟨0, _⟩ => exact ⟨Nat.zero_le _, lt_of_eq_of_lt e0 Nat.one_pos⟩
      | ⟨1, _⟩ => exact ⟨le_of_le_of_eq hk e1.symm, lt_of_eq_of_lt e3 q⟩
      | ⟨2, _⟩ => exact ⟨Nat.zero_le _, lt_of_eq_of_lt e2 h.isLt⟩
    · funext a; apply Fin.ext
      match a with
      | ⟨0, _⟩ => exact e0
      | ⟨1, _⟩ => exact e3
      | ⟨2, _⟩ => exact e2
  · rw [if_neg hk]
    exact dif_neg fun q => hk (le_of_le_of_eq (q 1).1 e1)

theorem window_at (x : FVec Ideal S1x4096x8 .f32) (i : Fin 4096) (h : Fin 8) (hw) (hu) (v : FVec Ideal S_ .f32) (hv : ∀ j, v j = 0) :
    Host.reduceWindowAdd (F := Ideal) ![1, 4096, 1] ![1, 1, 1] ![0, 4095, 0] ![0, 0, 0] x v (t := S1x4096x8) hw hu (ix3 0 i h)
      = headSum (fun j => x (ix3 0 j h)) (i.val + 1) := by
  rw [← headSum_eq _ _ i.isLt]
  unfold Host.reduceWindowAdd
  rw [Ideal.hostReduceWindowAdd_def]
  unfold Ideal.hostReduceWindowAdd Host.reduceWindow
  rw [hv]
  refine (foldl_add _ _ _).trans ?_
  rw [zero_add, ← Fin.sum_univ_def]
  refine (Finset.sum_congr rfl fun n _ => ?_).trans (Equiv.sum_comp ((⟨3, ![1, 4096, 1]⟩ : Shape).rowMajor.symm) (part 4095 x i h hw.1.symm) |>.trans ?_)
  · unfold part
    exact dite_congr rfl (fun _ => rfl) (fun _ => rfl)
  rw [← Equiv.sum_comp axis]
  exact Finset.sum_congr rfl fun k _ => part_at 4095 x i h hw.1.symm k

def SUMS (x : FVec Ideal S1x4096x8 .f32) : FVec Ideal S4096x8 .f32 := fun y => headSum (fun j => x (ix3 0 j (y 1))) ((y 0).val + 1)

theorem flat_at (x : FVec Ideal S1x4096x8 .f32) (i : Fin 4096) (h : Fin 8) : shapeCast S4096x8 x shapeCasts_S1x4096x8_S4096x8 (ix2 i h) = x (ix3 0 i h) := by
  pointwise

/-- The sums the reference returns. -/
theorem ref (x : FVec Ideal S1x4096x8 .f32) (h : S1x4096x8.ReduceWindows ![1, 4096, 1] ![1, 1, 1] ![0, 4095, 0] ![0, 0, 0] S1x4096x8) :
    shapeCast S4096x8 (Host.reduceWindowAdd (F := Ideal) ![1, 4096, 1] ![1, 1, 1] ![0, 4095, 0] ![0, 0, 0] x (broadcastInDim S_ ![] bcast_S_S_ (constant S_ .f32 0x00000000#32)) h h_S_)
      shapeCasts_S1x4096x8_S4096x8 = SUMS x := by
  funext y
  obtain ⟨i, k, rfl⟩ : ∃ (i : Fin 4096) (k : Fin 8), y = ix2 i k := ⟨y 0, y 1, eq_ix2 y⟩
  refine (flat_at _ i k).trans ?_
  refine (window_at _ i k _ _ _ fun j => ?_)
  pointwise

/-- The reference's run, its result the sums up to each row. -/
theorem run_sums (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = SUMS (m ((c.tc : Thread nD τ).loc main_arg0))
      ∧ r.2.mem ((c.tc : Thread nD τ).loc main_arg0) = m ((c.tc : Thread nD τ).loc main_arg0) :=
  (θ_run defs _ _).mono (fun _ h c => ⟨(h c).1.trans (ref _ _), (h c).2⟩) (run m ρ)

end Cert.CumfReferenceIdeal.Value
-- ==== Proof.Cumf.Final.lean ====
/- The cumulative sum: what the kernel's blocks hold, and the array it leaves. -/
module

public import proofs.«01_k».proof.Proof.Gen.CumfKernelIdeal.Frame
public import proofs.«01_k».proof.Proof.Cumf.Ref
public import Idealize.ShloMosaic.Lib.Pipeline.Value
public import Idealize.ShloMosaic.Lib.Pipeline.ValueKit
public import Idealize.ShloMosaic.Lib.StableHlo.ReadAt
public import Idealize.ShloMosaic.Lib.WordCmp
public import Idealize.ShloMosaic.Lib.Pipeline.ReadBack

@[expose] public section

set_option maxRecDepth 16384

noncomputable section

open Idealize.ShloMosaic Idealize.ShloMosaic.TcCoe Idealize.SL.Sem

namespace Cert.CumfKernelIdeal.Value

open Cert.CumfKernelIdeal Cert.CumfKernelIdeal.Gen Idealize.ShloMosaic.Pipeline
open Cert.CumfReferenceIdeal.Value (headSum SUMS)
open Cert.CumReferenceIdeal.Value (col)

theorem pay1_at (j) : k0_pay1 (F := Ideal) j = 0 := by pointwise [k0_pay1]

theorem pay2_at (x : FVec Ideal S512x128 .f32) (s : FVec Ideal S1x128 .f32) (r : Fin 512) (l : Fin 128) (f : Fin 512 → ℝ) (hf : ∀ c, x (ix2 c l) = (f c : EReal)) :
    k0_pay2 (F := Ideal) x s (ix2 r l) = (∑ c : Fin 512, if c.val ≤ r.val then x (ix2 c l) else 0) + s (ix2 0 l) := by
  pointwise [k0_pay2]
  have e0 : ∀ c, x (ix2 c l) - x (ix2 c l) = 0 := fun c => by rw [hf, ← EReal.coe_sub, sub_self, EReal.coe_zero]
  have z : ∀ b : BitVec 1, Scalar.select b (0 : EReal) 0 = 0 := fun b => by unfold Scalar.select; split <;> rfl
  simp only [e0, sub_zero, z, Finset.sum_const_zero, add_zero]
  refine congrArg (· + s (ix2 0 l)) (Finset.sum_congr rfl fun c _ => ?_)
  rw [WordCmp.cmpi_sle_ofNat (by omega) (by omega)]
  unfold Scalar.select
  by_cases h : c.val ≤ r.val
  · rw [if_pos h, if_pos (by simp [h])]
  · rw [if_neg h, if_neg (by simp [h])]
theorem pay3_at (x : FVec Ideal S512x128 .f32) (s : FVec Ideal S1x128 .f32) (r : Fin 1) (l : Fin 128) :
    k0_pay3 (F := Ideal) x s (ix2 r l) = k0_pay2 (F := Ideal) x s (ix2 511 l) := by
  unfold k0_pay3
  generalize k0_pay2 (F := Ideal) x s = v
  pointwise

variable (m : (ℓ : Loc nD τ sig) → Buf (Elt Ideal) ℓ)

/-- The argument in a column of lanes. -/
def lanes (a : FVec Ideal S1x4096x8 .f32) : FVec Ideal S4096x128 .f32 :=
  pad S4096x128 ![0, 96] ![0, 24] ![0, 0] (shapeCast S4096x8 a shapeCasts_S1x4096x8_S4096x8) (sitofp .f32 (constantI S_ 32 0#32)) pads_S4096x8_S4096x128_000_96240 h_S_

theorem V_lanes (c : Dev nD) : V m c main_v1 = lanes (m ((c.tc : Thread nD τ).loc main_arg0)) := by
  unfold V lanes
  after_reads_simp
  rfl

/-- The lane of a head. -/
def ln (h : Fin 8) : Fin 128 := ⟨96 + h.val, by omega⟩
theorem lanes_at (a : FVec Ideal S1x4096x8 .f32) (j : Fin 4096) (h : Fin 8) : lanes a (ix2 j (ln h)) = a (ix3 0 j h) := by
  unfold lanes ln
  pointwise

def row (n : ℕ) (r : Fin 512) : Fin 4096 := ⟨(512 * n + r.val) % 4096, by omega⟩
theorem blk (c : Dev nD) (t : Fin cfg0.N) (r : Fin 512) (l : Fin 128) : (show EReal from iblk m c 0 t (ix2 r l)) = V m c main_v1 (ix2 (row t.val r) l) := by
  have idx : ∀ t : Fin cfg0.N, win0_0.index t = ![t.val, 0] := (by decide +kernel : ∀ t : Fin grid0.N, _)
  unfold iblk row
  generalize V m c = V'
  blk_point [idx t]

/-- A block's triangle of ones and the rest of the column above it. -/
theorem head_step (F : Fin 4096 → EReal) (n : ℕ) (hn : n < 8) (r : Fin 512) :
    (∑ c : Fin 512, if c.val ≤ r.val then F (row n c) else 0) + headSum F (512 * n) = headSum F (512 * n + r.val + 1) := by
  have e : ∀ c : Fin 512, F (row n c) = col F (512 * n + c.val) := fun c => by
    unfold col
    rw [dif_pos (by omega)]
    exact congrArg F (Fin.ext (Nat.mod_eq_of_lt (by omega)))
  simp only [e]
  rw [Fin.sum_univ_eq_sum_range (fun c => if c ≤ r.val then col F (512 * n + c) else 0) 512, ← Finset.sum_filter]
  have hs : (Finset.range 512).filter (fun c => c ≤ r.val) = Finset.range (r.val + 1) := by
    ext x; simp only [Finset.mem_filter, Finset.mem_range]; omega
  unfold headSum
  rw [hs, add_assoc (512 * n), add_comm]
  exact (Finset.sum_range_add _ _ _).symm

theorem outs (c : Dev nD) (l : Fin 128) (G : Fin 4096 → ℝ) (hG : ∀ j, V m c main_v1 (ix2 j l) = (G j : EReal)) : ∀ (n : ℕ) (hn : n < cfg0.N),
    (∀ r : Fin 512, (show EReal from (outsAt0 m c n hn).1 (ix2 r l)) = headSum (fun j => V m c main_v1 (ix2 j l)) (512 * n + r.val + 1))
      ∧ (show EReal from (outsAt0 m c n hn).2 (ix2 0 l)) = headSum (fun j => V m c main_v1 (ix2 j l)) (512 * (n + 1)) := by
  intro n hn
  have hN : n < 8 := lt_of_lt_of_eq hn N_0
  have key : ∀ (s : FVec Ideal S1x128 .f32), (show EReal from s (ix2 0 l)) = headSum (fun j => V m c main_v1 (ix2 j l)) (512 * n) →
      ∀ r : Fin 512, k0_pay2 (F := Ideal) (iblk m c 0 ⟨n, hn⟩) s (ix2 r l) = headSum (fun j => V m c main_v1 (ix2 j l)) (512 * n + r.val + 1) := by
    intro s hs r
    refine (pay2_at _ s r l (fun q => G (row n q)) fun q => (blk m c ⟨n, hn⟩ q l).trans (hG _)).trans ?_
    refine Eq.trans (congrArg₂ (· + ·) (Finset.sum_congr rfl fun q _ => ?_) hs) (head_step _ n hN r)
    exact if_congr Iff.rfl (blk m c ⟨n, hn⟩ q l) rfl
  have last : 512 * n + (511 : Fin 512).val + 1 = 512 * (n + 1) := by show 512 * n + 511 + 1 = _; omega
  cases n with
  | zero =>
    have h0 := key (k0_pay1 (F := Ideal)) ((pay1_at _).trans (by unfold headSum; simp))
    have eA := outsAt0_A m c ⟨0, hn⟩ rfl
    refine ⟨fun r => ?_, ?_⟩
    · refine Eq.trans ?_ (h0 r)
      refine (congrFun (congrArg Prod.fst eA) (ix2 r l)).trans ?_
      frame_out
    · refine Eq.trans ?_ ((h0 511).trans (congrArg _ last))
      refine (congrFun (congrArg Prod.snd eA) (ix2 0 l)).trans ?_
      frame_out
      exact pay3_at _ _ 0 l
  | succ n =>
    have ih := outs c l G hG n (Nat.lt_of_succ_lt hn)
    have h0 := key (outsAt0 m c n (Nat.lt_of_succ_lt hn)).2 ih.2
    have eB := outsAt0_B m c ⟨n + 1, hn⟩ (by show ¬(n + 1) % 8 = 0; omega)
    refine ⟨fun r => ?_, ?_⟩
    · refine Eq.trans ?_ (h0 r)
      refine (congrFun (congrArg Prod.fst eB) (ix2 r l)).trans ?_
      frame_out
      rw [read_unread_whole]
      rfl
    · refine Eq.trans ?_ ((h0 511).trans (congrArg _ last))
      refine (congrFun (congrArg Prod.snd eB) (ix2 0 l)).trans ?_
      frame_out
      rw [read_unread_whole]
      exact pay3_at _ _ 0 l

/-- The sums of every lane. -/
def ALL (L : FVec Ideal S4096x128 .f32) : FVec Ideal S4096x128 .f32 := fun y => headSum (fun j => L (ix2 j (y 1))) ((y 0).val + 1)

theorem put1 (X : FVec Ideal S4096x128 .f32) (t : Fin cfg0.N) (r : Fin 512) (l : Fin 128) :
    (show EReal from ((cfg0.win 1).blk t).view.read (Elt Ideal) X (ix2 r l)) = X (ix2 (row t.val r) l) := by
  have idx : ∀ t : Fin cfg0.N, win0_1.index t = ![t.val, 0] := (by decide +kernel : ∀ t : Fin grid0.N, _)
  unfold row
  blk_point [idx t]

theorem final (c : Dev nD) (hr : ∀ j l, ∃ r : ℝ, V m c main_v1 (ix2 j l) = (r : EReal)) : (dats m 0 c).arrAt 1 (cfgs 0).N = ALL (V m c main_v1) := by
  choose G hG using hr
  refine (dats m 0 c).arrAt_eq_of_covers 1 _ (by decide +kernel) fun t hf y => ?_
  obtain ⟨r, l, rfl⟩ : ∃ (r : Fin 512) (l : Fin 128), y = ix2 r l := ⟨y 0, y 1, eq_ix2 y⟩
  rw [after0_1]
  refine ((outs m c l (fun j => G j l) (fun j => hG j l) t.val t.isLt).1 r).trans (Eq.trans ?_ (put1 (ALL (V m c main_v1)) t r l).symm)
  have ht : t.val < 8 := lt_of_lt_of_eq t.isLt N_0
  exact congrArg (fun k => headSum _ (k + 1)) (Nat.mod_eq_of_lt (by omega)).symm

theorem lanes_real (a : FVec Ideal S1x4096x8 .f32) (ha : ∀ j h, ∃ r : ℝ, a (ix3 0 j h) = (r : EReal)) (j : Fin 4096) (l : Fin 128) : ∃ r : ℝ, lanes a (ix2 j l) = (r : EReal) := by
  by_cases h : 96 ≤ l.val ∧ l.val < 104
  · obtain ⟨q, hq⟩ : ∃ q : Fin 8, l = ln q := ⟨⟨l.val - 96, by omega⟩, Fin.ext (by simp only [ln]; omega)⟩
    rw [hq, lanes_at]
    exact ha j q
  · refine ⟨0, ?_⟩
    unfold lanes
    pointwise
    rw [dif_neg (by omega)]
    show (((0#32 : BitVec 32).toInt : ℝ) : EReal) = _
    simp

def tailT (X : FVec Ideal S4096x128 .f32) : FVec Ideal S4096x8 .f32 := extractStridedSlice S4096x8 ![0, 96] X slices_S4096x128_S4096x8_0_96
theorem tail_eq (c : Dev nD) : Pipeline.afterTail₀ cfgs (dats m) 0 (V0 m) [hostOps1] c main_v3 = tailT ((dats m 0 c).arrAt 1 (cfgs 0).N) := by
  unfold Pipeline.afterTail₀
  rw [← Pipeline.withArrays_arr spec0 (by decide) c (V0 m c) (fun w => (dats m 0 c).arrAt w (cfgs 0).N) 1]
  generalize Pipeline.withArrays _ _ _ _ = V'
  unfold tailT
  after_reads_simp
theorem tailT_at (X : FVec Ideal S4096x128 .f32) (i : Fin 4096) (h : Fin 8) : tailT X (ix2 i h) = X (ix2 i (ln h)) := by
  unfold tailT ln
  pointwise

/-- The array the kernel returns. -/
theorem final_tail (c : Dev nD) (hr : ∀ j h, ∃ r : ℝ, m ((c.tc : Thread nD τ).loc main_arg0) (ix3 0 j h) = (r : EReal)) :
    Pipeline.afterTail₀ cfgs (dats m) 0 (V0 m) [hostOps1] c main_v3 = SUMS (m ((c.tc : Thread nD τ).loc main_arg0)) := by
  rw [tail_eq, final m c (fun j l => by rw [V_lanes]; exact lanes_real _ hr j l), V_lanes]
  funext y
  obtain ⟨i, h, rfl⟩ : ∃ (i : Fin 4096) (h : Fin 8), y = ix2 i h := ⟨y 0, y 1, eq_ix2 y⟩
  refine (tailT_at _ i h).trans ?_
  exact congrArg (fun f => headSum f (i.val + 1)) (funext fun j => lanes_at _ j h)

end Cert.CumfKernelIdeal.Value
-- ==== Proof.CumfClaim.lean ====
/- The claims about the cumulative sum. -/
module

public import proofs.«01_k».proof.Defs
public import proofs.«01_k».proof.Proof.Finite
public import proofs.«01_k».proof.Proof.Cumf.Final
public import proofs.«01_k».proof.Proof.Gen.CumfKernel.Frame
public import proofs.«01_k».proof.Proof.Gen.CumfKernel
public import proofs.«01_k».proof.Proof.Gen.CumfKernelIdeal
public import proofs.«01_k».proof.Proof.Gen.CumfReferenceIdeal
public import Idealize.ShloMosaic.Lib.Claim

@[expose] public section

set_option maxRecDepth 16384

noncomputable section

open Idealize.ShloMosaic Idealize.ShloMosaic.TcCoe Idealize.SL.Sem

namespace Cert.Pre_cumf_finite

theorem facts : Cert.Pre_cumf_finite.Facts where
  bcast_S_S1x4096x8 := by decide

end Cert.Pre_cumf_finite

namespace Cert.Proof

attribute [local instance] Cert.Pre_cumf_finite.facts

theorem cumf_frame : Cert.quiescent_CumfKernel := fun m ρ _ => Cert.CumfKernel.Gen.frame m ρ

theorem cumf_frame_ideal : Cert.quiescent_CumfKernelIdeal := fun m ρ _ => Cert.CumfKernelIdeal.Gen.frame m ρ
theorem cumf_frame_finite : Cert.quiescent_CumfKernelIdeal_pre_cumf_finite := fun m ρ _ => Cert.CumfKernelIdeal.Gen.frame m ρ

theorem cumf_frame_reference : Cert.quiescent_CumfReferenceIdeal := fun m g _ =>
  (θ_run Cert.CumfReferenceIdeal.defs _ _).mono (fun r h => ⟨fun c => (h c).2, sem_eq_zero_of_no_sems (by decide) r.2⟩)
    (Cert.CumfReferenceIdeal.Value.run m g)
theorem cumf_frame_reference_finite : Cert.quiescent_CumfReferenceIdeal_pre_cumf_finite := fun m g _ => cumf_frame_reference m g trivial

theorem cumf_real (m : (ℓ : Loc Cert.CumfKernelIdeal.nD Cert.CumfKernelIdeal.τ Cert.CumfKernelIdeal.sig) → Buf (Elt Ideal) ℓ) (hm : Cert.Pre_CumfKernelIdeal_cumf_finite m)
    (c : Dev Cert.CumfKernelIdeal.nD) (j : Fin 4096) (h : Fin 8) :
    ∃ r : ℝ, m ((c.tc : Thread Cert.CumfKernelIdeal.nD Cert.CumfKernelIdeal.τ).loc Cert.CumfKernelIdeal.main_arg0) (ix3 0 j h) = (r : EReal) :=
  Cert.Finite.real_of_lt _ (congrFun (hm c) (ix3 0 j h))

set_option maxHeartbeats 4000000 in
theorem cumf_algebraic : Cert.algebraic_CumfKernelIdeal_CumfReferenceIdeal_pre_cumf_finite := by
  pair_intro
  · run_from Cert.CumfKernelIdeal.Gen.run_main m g & Cert.CumfKernelIdeal.Gen.frame m g
    · exact Cert.CumfKernelIdeal.Gen.W_main_arg0 m (Cert.CumfKernelIdeal.Gen.dats m) c
  · run_from Cert.CumfReferenceIdeal.Value.run_sums m' g'
    exact (Cert.CumfKernelIdeal.Value.final_tail m c (cumf_real m hpre c)).symm

end Cert.Proof

end
-- ==== Proof.Outf.Ref.lean ====
/- The output layer of the reference, entry by entry. -/
module

public import proofs.«01_k».proof.Proof.Gen.OutfReferenceIdeal.Run
public import Idealize.ShloMosaic.Lib.Pointwise

@[expose] public section

set_option maxRecDepth 16384

noncomputable section

open Idealize.ShloMosaic Idealize.ShloMosaic.TcCoe Idealize.SL.Sem

namespace Cert.OutfReferenceIdeal.Value

open Cert.OutfReferenceIdeal Cert.OutfReferenceIdeal.Gen

/-! ## One row of the layer -/

/-- The gated mix of a row. -/
def MIX (o g : Fin 1024 → EReal) (k : Fin 1024) : EReal := o k * (g k * Ideal.div 1 (1 + Ideal.exp (-g k)))
/-- The residual plus the projected mix. -/
def SUM (x z : Fin 1024 → EReal) (W : Fin 1024 → Fin 1024 → EReal) (l : Fin 1024) : EReal :=
  Ideal.ofBits .f32 0x3FD744FD#32 * x l + ∑ k : Fin 1024, z k * W k l
/-- A row's mean. -/
def MEAN (r : Fin 1024 → EReal) : EReal := Ideal.div (∑ k : Fin 1024, r k) (Ideal.ofBits .f32 0x44800000#32)
/-- A row less its mean. -/
def CEN (r : Fin 1024 → EReal) (l : Fin 1024) : EReal := r l - MEAN r
/-- The inverse deviation of a centred row. -/
def DEV (d : Fin 1024 → EReal) : EReal := Ideal.rsqrt (MEAN (fun k => d k * d k) + Ideal.ofBits .f32 0x3727C5AC#32)

/-! ## The arrays -/

abbrev Arr := FVec Ideal S1x4096x1024 .f32
def rowOf (a : Arr) (i : Fin 4096) : Fin 1024 → EReal := fun k => a (ix3 0 i k)
def zRow (o g : Arr) (i : Fin 4096) : Fin 1024 → EReal := MIX (rowOf o i) (rowOf g i)
def cRow (o g x : Arr) (W : FVec Ideal S1024x1024 .f32) (i : Fin 4096) : Fin 1024 → EReal :=
  CEN (SUM (rowOf x i) (zRow o g i) fun k l => W (ix2 k l))

def RZ (o g : Arr) : FVec Ideal S4096x1024 .bf16 := fun y => zRow o g (y 0) (y 1)
def RD (o g x : Arr) (W : FVec Ideal S1024x1024 .f32) : FVec Ideal S4096x1 .f32 := fun y => DEV (cRow o g x W (y 0))
def RX (o g x : Arr) (W : FVec Ideal S1024x1024 .f32) : FVec Ideal S4096x1024 .f32 := fun y =>
  cRow o g x W (y 0) (y 1) * DEV (cRow o g x W (y 0))
def RN (o g x : Arr) (W : FVec Ideal S1024x1024 .f32) (p q : FVec Ideal S1024 .f32) : FVec Ideal S4096x1024 .f32 := fun y =>
  cRow o g x W (y 0) (y 1) * DEV (cRow o g x W (y 0)) * p (ix1 (y 1)) + q (ix1 (y 1))

/-! ## The reference's terms -/

def tMix (o g : Arr) : Arr :=
  mulf o (mulf g (Host.divf (broadcastInDim S1x4096x1024 ![] bcast_S_S1x4096x1024 (constant S_ .f32 0x3F800000#32))
    (addf (broadcastInDim S1x4096x1024 ![] bcast_S_S1x4096x1024 (constant S_ .f32 0x3F800000#32)) (Host.exp (Host.negf g)))))
def tSum (x z : Arr) (W : FVec Ideal S1024x1024 .f32) : Arr :=
  addf (mulf (broadcastInDim S1x4096x1024 ![] bcast_S_S1x4096x1024 (constant S_ .f32 0x3FD744FD#32)) x)
    (Host.dotGeneral dot_S1x4096x1024_S1024x1024_S1x4096x1024_2_0_01_1_n_n none z W)
def tMean (t : Arr) : FVec Ideal S1x4096x1 .f32 :=
  Host.divf (broadcastInDim S1x4096x1 ![0, 1] bcast_S1x4096_S1x4096x1_0_1 (Host.reduceAdd t (constant S_ .f32 0x00000000#32) reducesTo_S1x4096x1024_S1x4096_d2 h_S_))
    (broadcastInDim S1x4096x1 ![] bcast_S_S1x4096x1 (constant S_ .f32 0x44800000#32))
def tCen (t : Arr) : Arr := subf t (broadcastInDim S1x4096x1024 ![0, 1, 2] bcast_S1x4096x1_S1x4096x1024_0_1_2 (tMean t))
def tDev (d : Arr) : FVec Ideal S1x4096x1 .f32 :=
  Host.rsqrt (addf (tMean (mulf d d)) (broadcastInDim S1x4096x1 ![] bcast_S_S1x4096x1 (constant S_ .f32 0x3727C5AC#32)))
def tNrm (d : Arr) : Arr := mulf d (broadcastInDim S1x4096x1024 ![0, 1, 2] bcast_S1x4096x1_S1x4096x1024_0_1_2 (tDev d))
def tAll (p : FVec Ideal S1024 .f32) : Arr :=
  broadcastInDim S1x4096x1024 ![0, 1, 2] bcast_S1x1x1024_S1x4096x1024_0_1_2 (broadcastInDim S1x1x1024 ![2] bcast_S1024_S1x1x1024_2 p)
def tOut (d : Arr) (p q : FVec Ideal S1024 .f32) : Arr := addf (mulf (tNrm d) (tAll p)) (tAll q)
def flat (a : Arr) : FVec Ideal S4096x1024 .f32 := shapeCast S4096x1024 a shapeCasts_S1x4096x1024_S4096x1024

theorem tMix_row (o g : Arr) (i : Fin 4096) : rowOf (tMix o g) i = zRow o g i := by
  funext k
  unfold rowOf zRow MIX rowOf tMix
  pointwise
theorem tSum_row (x z : Arr) (W : FVec Ideal S1024x1024 .f32) (i : Fin 4096) : rowOf (tSum x z W) i = SUM (rowOf x i) (rowOf z i) fun k l => W (ix2 k l) := by
  funext k
  unfold rowOf SUM tSum
  pointwise
theorem tMean_at (t : Arr) (i : Fin 4096) : tMean t (ix3 0 i 0) = MEAN (rowOf t i) := by
  unfold MEAN rowOf tMean
  pointwise
theorem tCen_row (t : Arr) (i : Fin 4096) : rowOf (tCen t) i = CEN (rowOf t i) := by
  funext k
  unfold CEN
  rw [← tMean_at]
  unfold rowOf tCen
  generalize tMean t = M
  pointwise
theorem tDev_at (d : Arr) (i : Fin 4096) : tDev d (ix3 0 i 0) = DEV (rowOf d i) := by
  have h := tMean_at (mulf d d) i
  have e : rowOf (mulf d d) i = fun k => rowOf d i k * rowOf d i k := by funext k; unfold rowOf; pointwise
  rw [e] at h
  unfold DEV
  rw [← h]
  unfold tDev
  generalize tMean (mulf d d) = M
  pointwise
theorem tNrm_at (d : Arr) (i : Fin 4096) (l : Fin 1024) : tNrm d (ix3 0 i l) = rowOf d i l * DEV (rowOf d i) := by
  rw [← tDev_at]
  unfold rowOf tNrm
  generalize tDev d = M
  pointwise
theorem tOut_at (d : Arr) (p q : FVec Ideal S1024 .f32) (i : Fin 4096) (l : Fin 1024) :
    tOut d p q (ix3 0 i l) = rowOf d i l * DEV (rowOf d i) * p (ix1 l) + q (ix1 l) := by
  rw [← tNrm_at]
  unfold tOut tAll
  generalize tNrm d = M
  pointwise
theorem flat_at (a : Arr) (i : Fin 4096) (l : Fin 1024) : flat a (ix2 i l) = a (ix3 0 i l) := by
  unfold flat
  pointwise
theorem cRow_eq (o g x : Arr) (W : FVec Ideal S1024x1024 .f32) (i : Fin 4096) : rowOf (tCen (tSum x (tMix o g) W)) i = cRow o g x W i := by
  rw [tCen_row, tSum_row, tMix_row]
  rfl

theorem ref_n (o g x : Arr) (W : FVec Ideal S1024x1024 .f32) (p q : FVec Ideal S1024 .f32) : flat (tOut (tCen (tSum x (tMix o g) W)) p q) = RN o g x W p q := by
  funext y
  obtain ⟨i, l, rfl⟩ : ∃ (i : Fin 4096) (l : Fin 1024), y = ix2 i l := ⟨y 0, y 1, eq_ix2 y⟩
  rw [flat_at, tOut_at, cRow_eq]
  rfl
theorem ref_b (o g x : Arr) (W : FVec Ideal S1024x1024 .f32) (p q : FVec Ideal S1024 .f32) :
    truncf .bf16 (flat (tOut (tCen (tSum x (tMix o g) W)) p q)) bitsLt_bf16_f32 = (RN o g x W p q : FVec Ideal S4096x1024 .bf16) := by
  rw [ref_n]
  rfl
theorem ref_z (o g : Arr) : truncf .bf16 (flat (tMix o g)) bitsLt_bf16_f32 = RZ o g := by
  funext y
  obtain ⟨i, l, rfl⟩ : ∃ (i : Fin 4096) (l : Fin 1024), y = ix2 i l := ⟨y 0, y 1, eq_ix2 y⟩
  refine Eq.trans (b := flat (tMix o g) (ix2 i l)) (by rfl) ?_
  rw [flat_at]
  exact congrFun (tMix_row o g i) l
theorem ref_x (o g x : Arr) (W : FVec Ideal S1024x1024 .f32) : flat (tNrm (tCen (tSum x (tMix o g) W))) = RX o g x W := by
  funext y
  obtain ⟨i, l, rfl⟩ : ∃ (i : Fin 4096) (l : Fin 1024), y = ix2 i l := ⟨y 0, y 1, eq_ix2 y⟩
  rw [flat_at, tNrm_at, cRow_eq]
  rfl
def flat1 (a : FVec Ideal S1x4096x1 .f32) : FVec Ideal S4096x1 .f32 := shapeCast S4096x1 a shapeCasts_S1x4096x1_S4096x1
theorem ref_d (o g x : Arr) (W : FVec Ideal S1024x1024 .f32) : flat1 (tDev (tCen (tSum x (tMix o g) W))) = RD o g x W := by
  funext y
  obtain ⟨i, l, rfl⟩ : ∃ (i : Fin 4096) (l : Fin 1), y = ix2 i l := ⟨y 0, y 1, eq_ix2 y⟩
  obtain rfl : l = 0 := Subsingleton.elim _ _
  refine Eq.trans (b := tDev (tCen (tSum x (tMix o g) W)) (ix3 0 i 0)) ?_ ?_
  · unfold flat1
    pointwise
  · rw [tDev_at, cRow_eq]
    rfl

theorem res_n (m : (ℓ : Loc nD τ sig) → Buf (Elt Ideal) ℓ) (c : Dev nD) : res_main_v44 m c
    = flat (tOut (tCen (tSum (m ((c.tc : Thread nD τ).loc main_arg2)) (tMix (m ((c.tc : Thread nD τ).loc main_arg0)) (m ((c.tc : Thread nD τ).loc main_arg1))) (m ((c.tc : Thread nD τ).loc main_arg3))))
      (m ((c.tc : Thread nD τ).loc main_arg4)) (m ((c.tc : Thread nD τ).loc main_arg5))) := by
  unfold res_main_v44 flat tOut tAll tNrm tDev tCen tMean tSum tMix
  rfl
theorem res_b (m : (ℓ : Loc nD τ sig) → Buf (Elt Ideal) ℓ) (c : Dev nD) : res_main_v45 m c
    = truncf .bf16 (flat (tOut (tCen (tSum (m ((c.tc : Thread nD τ).loc main_arg2)) (tMix (m ((c.tc : Thread nD τ).loc main_arg0)) (m ((c.tc : Thread nD τ).loc main_arg1))) (m ((c.tc : Thread nD τ).loc main_arg3))))
      (m ((c.tc : Thread nD τ).loc main_arg4)) (m ((c.tc : Thread nD τ).loc main_arg5)))) bitsLt_bf16_f32 := by
  unfold res_main_v45 flat tOut tAll tNrm tDev tCen tMean tSum tMix
  rfl
theorem res_x (m : (ℓ : Loc nD τ sig) → Buf (Elt Ideal) ℓ) (c : Dev nD) : res_main_v52 m c
    = flat (tNrm (tCen (tSum (m ((c.tc : Thread nD τ).loc main_arg2)) (tMix (m ((c.tc : Thread nD τ).loc main_arg0)) (m ((c.tc : Thread nD τ).loc main_arg1))) (m ((c.tc : Thread nD τ).loc main_arg3))))) := by
  unfold res_main_v52 flat tNrm tDev tCen tMean tSum tMix
  rfl

end Cert.OutfReferenceIdeal.Value

end
-- ==== Proof.Outf.Pay.lean ====
/- The output layer: the values the kernel stores, entry by entry. -/
module

public import proofs.«01_k».proof.Proof.Gen.OutfKernelIdeal.Frame
public import proofs.«01_k».proof.Proof.Outf.Ref
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.OutfKernelIdeal.Value

open Cert.OutfKernelIdeal Cert.OutfKernelIdeal.Gen

open Cert.OutfReferenceIdeal.Value (MIX SUM MEAN CEN DEV)

/-- A row of the mixer's output, its two halves side by side. -/
def join (a b : FVec Ideal S512x512 .f32) (r : Fin 512) (l : Fin 1024) : EReal :=
  if h : l.val < 512 then a (ix2 r ⟨l.val, h⟩) else b (ix2 r ⟨l.val - 512, by omega⟩)
def rowB (x : FVec Ideal S512x1024 .f32) (r : Fin 512) : Fin 1024 → EReal := fun l => x (ix2 r l)
/-- A block's centred row. -/
def cenB (g : FVec Ideal S512x1024 .f32) (a b : FVec Ideal S512x512 .f32) (x : FVec Ideal S512x1024 .f32) (w : FVec Ideal S1024x1024 .bf16) (r : Fin 512) : Fin 1024 → EReal :=
  CEN (SUM (rowB x r) (MIX (join a b r) (rowB g r)) fun k l => w (ix2 k l))

theorem pay5_at (g : FVec Ideal S512x1024 .f32) (a b : FVec Ideal S512x512 .f32) (r : Fin 512) (l : Fin 1024) :
    k0_pay5 (F := Ideal) g a b (ix2 r l) = MIX (join a b r) (rowB g r) l := by
  unfold MIX join rowB
  pointwise [k0_pay5]
  rw [zero_sub]
theorem pay6_at (g : FVec Ideal S512x1024 .f32) (a b : FVec Ideal S512x512 .f32) (x : FVec Ideal S512x1024 .f32) (w : FVec Ideal S1024x1024 .bf16) (r : Fin 512) (l : Fin 1024) :
    k0_pay6 (F := Ideal) g a b x w (ix2 r l) = cenB g a b x w r l := by
  have h : MIX (join a b r) (rowB g r) = fun k => k0_pay5 (F := Ideal) g a b (ix2 r k) := funext fun k => (pay5_at g a b r k).symm
  unfold cenB CEN MEAN SUM rowB
  unfold rowB at h
  rw [h]
  unfold k0_pay6
  generalize k0_pay5 (F := Ideal) g a b = z
  pointwise
theorem pay7_at (g : FVec Ideal S512x1024 .f32) (a b : FVec Ideal S512x512 .f32) (x : FVec Ideal S512x1024 .f32) (w : FVec Ideal S1024x1024 .bf16) (r : Fin 512) :
    k0_pay7 (F := Ideal) g a b x w (ix2 r 0) = MEAN fun l => cenB g a b x w r l * cenB g a b x w r l := by
  have h : cenB g a b x w r = fun k => k0_pay6 (F := Ideal) g a b x w (ix2 r k) := funext fun k => (pay6_at g a b x w r k).symm
  rw [h]
  unfold MEAN k0_pay7
  generalize k0_pay6 (F := Ideal) g a b x w = z
  pointwise
theorem pay1_at (g : FVec Ideal S512x1024 .f32) (a b : FVec Ideal S512x512 .f32) (x : FVec Ideal S512x1024 .f32) (w : FVec Ideal S1024x1024 .bf16) (r : Fin 512) :
    k0_pay1 (F := Ideal) (k0_pay7 g a b x w) (ix2 r 0) = DEV (cenB g a b x w r) := by
  unfold DEV
  rw [← pay7_at]
  generalize k0_pay7 (F := Ideal) g a b x w = v
  pointwise [k0_pay1]
theorem pay2_at (g : FVec Ideal S512x1024 .f32) (a b : FVec Ideal S512x512 .f32) (x : FVec Ideal S512x1024 .f32) (w : FVec Ideal S1024x1024 .bf16) (r : Fin 512) (l : Fin 1024) :
    k0_pay2 (F := Ideal) (k0_pay6 g a b x w) (k0_pay7 g a b x w) (ix2 r l) = cenB g a b x w r l * DEV (cenB g a b x w r) := by
  rw [← pay1_at, ← pay6_at]
  unfold k0_pay2
  generalize k0_pay1 (F := Ideal) (k0_pay7 g a b x w) = s
  generalize k0_pay6 (F := Ideal) g a b x w = u
  pointwise
theorem pay3_at (g : FVec Ideal S512x1024 .f32) (a b : FVec Ideal S512x512 .f32) (x : FVec Ideal S512x1024 .f32) (w : FVec Ideal S1024x1024 .bf16) (p q : FVec Ideal S1x1024 .f32)
    (r : Fin 512) (l : Fin 1024) :
    k0_pay3 (F := Ideal) (k0_pay6 g a b x w) (k0_pay7 g a b x w) p q (ix2 r l) = cenB g a b x w r l * DEV (cenB g a b x w r) * p (ix2 0 l) + q (ix2 0 l) := by
  rw [← pay2_at]
  unfold k0_pay3
  generalize k0_pay2 (F := Ideal) (k0_pay6 g a b x w) (k0_pay7 g a b x w) = s
  pointwise

theorem out7_at (a b g x w p q) (r : Fin 512) (l : Fin 1024) :
    out0_7 (F := Ideal) a b g x w p q (ix2 r l) = cenB g a b x w r l * DEV (cenB g a b x w r) * p (ix2 0 l) + q (ix2 0 l) := by
  refine Eq.trans ?_ (pay3_at g a b x w p q r l)
  unfold_out out0_7
  frame_out
theorem out8_at (a b g x w p q) (r : Fin 512) (l : Fin 1024) :
    out0_8 (F := Ideal) a b g x w p q (ix2 r l) = cenB g a b x w r l * DEV (cenB g a b x w r) * p (ix2 0 l) + q (ix2 0 l) := by
  refine Eq.trans ?_ (pay3_at g a b x w p q r l)
  unfold_out out0_8
  frame_out
  rfl
theorem out9_at (a b g x w p q) (r : Fin 512) (l : Fin 1024) :
    out0_9 (F := Ideal) a b g x w p q (ix2 r l) = MIX (join a b r) (rowB g r) l := by
  refine Eq.trans ?_ (pay5_at g a b r l)
  unfold_out out0_9
  frame_out
theorem out10_at (a b g x w p q) (r : Fin 512) (l : Fin 1024) :
    out0_10 (F := Ideal) a b g x w p q (ix2 r l) = cenB g a b x w r l * DEV (cenB g a b x w r) := by
  refine Eq.trans ?_ (pay2_at g a b x w r l)
  unfold_out out0_10
  frame_out
theorem out11_at (a b g x w p q) (r : Fin 512) :
    out0_11 (F := Ideal) a b g x w p q (ix2 r 0) = DEV (cenB g a b x w r) := by
  refine Eq.trans ?_ (pay1_at g a b x w r)
  unfold_out out0_11
  frame_out

end Cert.OutfKernelIdeal.Value

end
-- ==== Proof.Outf.Final.lean ====
/- The output layer: the arrays the kernel leaves. -/
module

public import proofs.«01_k».proof.Proof.Outf.Pay
public import Idealize.ShloMosaic.Lib.StableHlo.ReadAt

@[expose] public section

set_option maxRecDepth 16384

noncomputable section

open Idealize.ShloMosaic Idealize.ShloMosaic.TcCoe Idealize.SL.Sem

namespace Cert.OutfKernelIdeal.Value

open Cert.OutfKernelIdeal Cert.OutfKernelIdeal.Gen
open Cert.OutfReferenceIdeal.Value (MIX SUM MEAN CEN DEV rowOf zRow cRow RZ RD RX RN)

variable (m : (ℓ : Loc nD τ sig) → Buf (Elt Ideal) ℓ)

abbrev arO (c : Dev nD) : FVec Ideal S1x4096x1024 .f32 := m ((c.tc : Thread nD τ).loc main_arg0)
abbrev arG (c : Dev nD) : FVec Ideal S1x4096x1024 .f32 := m ((c.tc : Thread nD τ).loc main_arg1)
abbrev arX (c : Dev nD) : FVec Ideal S1x4096x1024 .f32 := m ((c.tc : Thread nD τ).loc main_arg2)
abbrev arW (c : Dev nD) : FVec Ideal S1024x1024 .f32 := m ((c.tc : Thread nD τ).loc main_arg3)
abbrev arP (c : Dev nD) : FVec Ideal S1024 .f32 := m ((c.tc : Thread nD τ).loc main_arg4)
abbrev arQ (c : Dev nD) : FVec Ideal S1024 .f32 := m ((c.tc : Thread nD τ).loc main_arg5)

def leftO (o : FVec Ideal S1x4096x1024 .f32) : FVec Ideal S4096x512 .f32 :=
  shapeCast S4096x512 (extractStridedSlice S1x4096x512 ![0, 0, 0] o slices_S1x4096x1024_S1x4096x512_0_0_0) shapeCasts_S1x4096x512_S4096x512
def rightO (o : FVec Ideal S1x4096x1024 .f32) : FVec Ideal S4096x512 .f32 :=
  shapeCast S4096x512 (extractStridedSlice S1x4096x512 ![0, 0, 512] o slices_S1x4096x1024_S1x4096x512_0_0_512) shapeCasts_S1x4096x512_S4096x512
def flatA (o : FVec Ideal S1x4096x1024 .f32) : FVec Ideal S4096x1024 .f32 := shapeCast S4096x1024 o shapeCasts_S1x4096x1024_S4096x1024
def rowA (p : FVec Ideal S1024 .f32) : FVec Ideal S1x1024 .f32 := broadcastInDim S1x1024 ![1] bcast_S1024_S1x1024_1 p
theorem leftO_at (o : FVec Ideal S1x4096x1024 .f32) (i : Fin 4096) (k : Fin 512) : leftO o (ix2 i k) = o (ix3 0 i ⟨k.val, by omega⟩) := by
  unfold leftO
  pointwise
theorem rightO_at (o : FVec Ideal S1x4096x1024 .f32) (i : Fin 4096) (k : Fin 512) : rightO o (ix2 i k) = o (ix3 0 i ⟨512 + k.val, by omega⟩) := by
  unfold rightO
  pointwise
theorem flatA_at (o : FVec Ideal S1x4096x1024 .f32) (i : Fin 4096) (k : Fin 1024) : flatA o (ix2 i k) = o (ix3 0 i k) := by
  unfold flatA
  pointwise
theorem rowA_at (p : FVec Ideal S1024 .f32) (k : Fin 1024) : rowA p (ix2 0 k) = p (ix1 k) := by
  unfold rowA
  pointwise

theorem V_l (c : Dev nD) : V m c main_v1 = leftO (arO m c) := by
  unfold V leftO hostOps0
  after_reads_simp
  rfl
theorem V_r (c : Dev nD) : V m c main_v3 = rightO (arO m c) := by
  unfold V rightO hostOps0
  after_reads_simp
  rfl
theorem V_g (c : Dev nD) : V m c main_v4 = flatA (arG m c) := by
  unfold V flatA hostOps0
  after_reads_simp
  rfl
theorem V_x (c : Dev nD) : V m c main_v5 = flatA (arX m c) := by
  unfold V flatA hostOps0
  after_reads_simp
  rfl
theorem V_w (c : Dev nD) : V m c main_v6 = (arW m c : FVec Ideal S1024x1024 .bf16) := by
  unfold V hostOps0
  after_reads_simp
  rfl
theorem V_p (c : Dev nD) : V m c main_v7 = rowA (arP m c) := by
  unfold V rowA hostOps0
  after_reads_simp
theorem V_q (c : Dev nD) : V m c main_v8 = rowA (arQ m c) := by
  unfold V rowA hostOps0
  after_reads_simp

def row (t : Fin cfg0.N) (r : Fin 512) : Fin 4096 := ⟨512 * t.val + r.val, by have := t.isLt; have e : cfg0.N = 8 := N_0; omega⟩

theorem idxs : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] := (by decide +kernel : ∀ t : Fin grid0.N, _)
theorem idxo : ∀ t : Fin cfg0.N, win0_7.index t = ![t.val, 0] ∧ win0_8.index t = ![t.val, 0] ∧ win0_9.index t = ![t.val, 0] ∧ win0_10.index t = ![t.val, 0]
    ∧ win0_11.index t = ![t.val, 0] := (by decide +kernel : ∀ t : Fin grid0.N, _)

theorem blk_l (c : Dev nD) (t : Fin cfg0.N) (r : Fin 512) (k : Fin 512) : iblk m c 0 t (ix2 r k) = arO m c (ix3 0 (row t r) ⟨k.val, by omega⟩) := by
  refine Eq.trans ?_ (leftO_at _ (row t r) k)
  refine Eq.trans ?_ (congrFun (V_l m c) _)
  unfold iblk row
  generalize V m c = V'
  blk_point [idxs t]
theorem blk_r (c : Dev nD) (t : Fin cfg0.N) (r : Fin 512) (k : Fin 512) : iblk m c 1 t (ix2 r k) = arO m c (ix3 0 (row t r) ⟨512 + k.val, by omega⟩) := by
  refine Eq.trans ?_ (rightO_at _ (row t r) k)
  refine Eq.trans ?_ (congrFun (V_r m c) _)
  unfold iblk row
  generalize V m c = V'
  blk_point [idxs t]
theorem blk_g (c : Dev nD) (t : Fin cfg0.N) (r : Fin 512) (k : Fin 1024) : iblk m c 2 t (ix2 r k) = arG m c (ix3 0 (row t r) k) := by
  refine Eq.trans ?_ (flatA_at _ (row t r) k)
  refine Eq.trans ?_ (congrFun (V_g m c) _)
  unfold iblk row
  generalize V m c = V'
  blk_point [idxs t]
theorem blk_x (c : Dev nD) (t : Fin cfg0.N) (r : Fin 512) (k : Fin 1024) : iblk m c 3 t (ix2 r k) = arX m c (ix3 0 (row t r) k) := by
  refine Eq.trans ?_ (flatA_at _ (row t r) k)
  refine Eq.trans ?_ (congrFun (V_x m c) _)
  unfold iblk row
  generalize V m c = V'
  blk_point [idxs t]
theorem blk_w (c : Dev nD) (t : Fin cfg0.N) (r : Fin 1024) (k : Fin 1024) : iblk m c 4 t (ix2 r k) = arW m c (ix2 r k) := by
  refine Eq.trans ?_ (congrFun (V_w m c) _)
  unfold iblk
  generalize V m c = V'
  blk_point [idxs t]
theorem blk_p (c : Dev nD) (t : Fin cfg0.N) (k : Fin 1024) : iblk m c 5 t (ix2 0 k) = arP m c (ix1 k) := by
  refine Eq.trans ?_ (rowA_at _ k)
  refine Eq.trans ?_ (congrFun (V_p m c) _)
  unfold iblk
  generalize V m c = V'
  blk_point [idxs t]
theorem blk_q (c : Dev nD) (t : Fin cfg0.N) (k : Fin 1024) : iblk m c 6 t (ix2 0 k) = arQ m c (ix1 k) := by
  refine Eq.trans ?_ (rowA_at _ k)
  refine Eq.trans ?_ (congrFun (V_q m c) _)
  unfold iblk
  generalize V m c = V'
  blk_point [idxs t]

/-- A block's mix and centred row are the array's. -/
theorem mix_eq (c : Dev nD) (t : Fin cfg0.N) (r : Fin 512) :
    MIX (join (iblk m c 0 t) (iblk m c 1 t) r) (rowB (iblk m c 2 t) r) = zRow (arO m c) (arG m c) (row t r) := by
  have e1 : join (iblk m c 0 t) (iblk m c 1 t) r = rowOf (arO m c) (row t r) := by
    funext k
    unfold join rowOf
    split
    · exact blk_l m c t r _
    · refine (blk_r m c t r _).trans ?_
      exact congrArg (fun z => arO m c (ix3 0 (row t r) z)) (Fin.ext (by show 512 + (k.val - 512) = k.val; omega))
  have e2 : rowB (iblk m c 2 t) r = rowOf (arG m c) (row t r) := funext fun k => blk_g m c t r k
  rw [e1, e2]
  rfl
theorem cen_eq (c : Dev nD) (t : Fin cfg0.N) (r : Fin 512) :
    cenB (iblk m c 2 t) (iblk m c 0 t) (iblk m c 1 t) (iblk m c 3 t) (iblk m c 4 t) r = cRow (arO m c) (arG m c) (arX m c) (arW m c) (row t r) := by
  have e2 : rowB (iblk m c 3 t) r = rowOf (arX m c) (row t r) := funext fun k => blk_x m c t r k
  have e3 : (fun k l : Fin 1024 => (iblk m c 4 t (ix2 k l) : EReal)) = fun k l => arW m c (ix2 k l) := funext fun k => funext fun l => blk_w m c t k l
  unfold cenB cRow
  rw [mix_eq, e2]
  exact congrArg (fun w => CEN (SUM (rowOf (arX m c) (row t r)) (zRow (arO m c) (arG m c) (row t r)) w)) e3

theorem put7 (X : FVec Ideal S4096x1024 .f32) (t : Fin cfg0.N) (r : Fin 512) (k : Fin 1024) :
    (show EReal from ((cfg0.win 7).blk t).view.read (Elt Ideal) X (ix2 r k)) = X (ix2 (row t r) k) := by
  unfold row
  blk_point [idxo t]
theorem put8 (X : FVec Ideal S4096x1024 .bf16) (t : Fin cfg0.N) (r : Fin 512) (k : Fin 1024) :
    (show EReal from ((cfg0.win 8).blk t).view.read (Elt Ideal) X (ix2 r k)) = X (ix2 (row t r) k) := by
  unfold row
  blk_point [idxo t]
theorem put9 (X : FVec Ideal S4096x1024 .bf16) (t : Fin cfg0.N) (r : Fin 512) (k : Fin 1024) :
    (show EReal from ((cfg0.win 9).blk t).view.read (Elt Ideal) X (ix2 r k)) = X (ix2 (row t r) k) := by
  unfold row
  blk_point [idxo t]
theorem put10 (X : FVec Ideal S4096x1024 .f32) (t : Fin cfg0.N) (r : Fin 512) (k : Fin 1024) :
    (show EReal from ((cfg0.win 10).blk t).view.read (Elt Ideal) X (ix2 r k)) = X (ix2 (row t r) k) := by
  unfold row
  blk_point [idxo t]
theorem put11 (X : FVec Ideal S4096x1 .f32) (t : Fin cfg0.N) (r : Fin 512) (k : Fin 1) :
    (show EReal from ((cfg0.win 11).blk t).view.read (Elt Ideal) X (ix2 r k)) = X (ix2 (row t r) k) := by
  unfold row
  blk_point [idxo t]

theorem out_n (c : Dev nD) (t : Fin cfg0.N) (r : Fin 512) (k : Fin 1024) :
    out0_7 (F := Ideal) (iblk m c 0 t) (iblk m c 1 t) (iblk m c 2 t) (iblk m c 3 t) (iblk m c 4 t) (iblk m c 5 t) (iblk m c 6 t) (ix2 r k)
      = (RN (arO m c) (arG m c) (arX m c) (arW m c) (arP m c) (arQ m c)) (ix2 (row t r) k) := by
  refine (out7_at (iblk m c 0 t) (iblk m c 1 t) (iblk m c 2 t) (iblk m c 3 t) (iblk m c 4 t) (iblk m c 5 t) (iblk m c 6 t) r k).trans ?_
  rw [cen_eq, blk_p, blk_q]
  rfl
/-- The layer's output. -/
theorem final_n (c : Dev nD) : (dats m 0 c).arrAt 7 (cfgs 0).N
    = (RN (arO m c) (arG m c) (arX m c) (arW m c) (arP m c) (arQ m c)) := by
  have h := out_n m c
  generalize RN (arO m c) (arG m c) (arX m c) (arW m c) (arP m c) (arQ m c) = X at h ⊢
  refine (dats m 0 c).arrAt_eq_of_covers 7 X (by decide +kernel) fun t hf y => ?_
  obtain ⟨r, k, rfl⟩ : ∃ (r : Fin 512) (k : Fin 1024), y = ix2 r k := ⟨y 0, y 1, eq_ix2 y⟩
  rw [after0_7]
  have h := h t r k
  generalize out0_7 (F := Ideal) (iblk m c 0 t) (iblk m c 1 t) (iblk m c 2 t) (iblk m c 3 t) (iblk m c 4 t) (iblk m c 5 t) (iblk m c 6 t) = Z at h ⊢
  exact h.trans (put7 X t r k).symm
theorem out_b (c : Dev nD) (t : Fin cfg0.N) (r : Fin 512) (k : Fin 1024) :
    out0_8 (F := Ideal) (iblk m c 0 t) (iblk m c 1 t) (iblk m c 2 t) (iblk m c 3 t) (iblk m c 4 t) (iblk m c 5 t) (iblk m c 6 t) (ix2 r k)
      = (RN (arO m c) (arG m c) (arX m c) (arW m c) (arP m c) (arQ m c) : FVec Ideal S4096x1024 .bf16) (ix2 (row t r) k) := by
  refine (out8_at (iblk m c 0 t) (iblk m c 1 t) (iblk m c 2 t) (iblk m c 3 t) (iblk m c 4 t) (iblk m c 5 t) (iblk m c 6 t) r k).trans ?_
  rw [cen_eq, blk_p, blk_q]
  rfl
/-- The same, rounded. -/
theorem final_b (c : Dev nD) : (dats m 0 c).arrAt 8 (cfgs 0).N
    = (RN (arO m c) (arG m c) (arX m c) (arW m c) (arP m c) (arQ m c) : FVec Ideal S4096x1024 .bf16) := by
  have h := out_b m c
  generalize RN (arO m c) (arG m c) (arX m c) (arW m c) (arP m c) (arQ m c) = X at h ⊢
  refine (dats m 0 c).arrAt_eq_of_covers 8 X (by decide +kernel) fun t hf y => ?_
  obtain ⟨r, k, rfl⟩ : ∃ (r : Fin 512) (k : Fin 1024), y = ix2 r k := ⟨y 0, y 1, eq_ix2 y⟩
  rw [after0_8]
  have h := h t r k
  generalize out0_8 (F := Ideal) (iblk m c 0 t) (iblk m c 1 t) (iblk m c 2 t) (iblk m c 3 t) (iblk m c 4 t) (iblk m c 5 t) (iblk m c 6 t) = Z at h ⊢
  exact h.trans (put8 X t r k).symm
theorem out_z (c : Dev nD) (t : Fin cfg0.N) (r : Fin 512) (k : Fin 1024) :
    out0_9 (F := Ideal) (iblk m c 0 t) (iblk m c 1 t) (iblk m c 2 t) (iblk m c 3 t) (iblk m c 4 t) (iblk m c 5 t) (iblk m c 6 t) (ix2 r k)
      = (RZ (arO m c) (arG m c)) (ix2 (row t r) k) := by
  refine (out9_at (iblk m c 0 t) (iblk m c 1 t) (iblk m c 2 t) (iblk m c 3 t) (iblk m c 4 t) (iblk m c 5 t) (iblk m c 6 t) r k).trans ?_
  rw [mix_eq]
  rfl
/-- The gated mix. -/
theorem final_z (c : Dev nD) : (dats m 0 c).arrAt 9 (cfgs 0).N
    = (RZ (arO m c) (arG m c)) := by
  have h := out_z m c
  generalize RZ (arO m c) (arG m c) = X at h ⊢
  refine (dats m 0 c).arrAt_eq_of_covers 9 X (by decide +kernel) fun t hf y => ?_
  obtain ⟨r, k, rfl⟩ : ∃ (r : Fin 512) (k : Fin 1024), y = ix2 r k := ⟨y 0, y 1, eq_ix2 y⟩
  rw [after0_9]
  have h := h t r k
  generalize out0_9 (F := Ideal) (iblk m c 0 t) (iblk m c 1 t) (iblk m c 2 t) (iblk m c 3 t) (iblk m c 4 t) (iblk m c 5 t) (iblk m c 6 t) = Z at h ⊢
  exact h.trans (put9 X t r k).symm
theorem out_x (c : Dev nD) (t : Fin cfg0.N) (r : Fin 512) (k : Fin 1024) :
    out0_10 (F := Ideal) (iblk m c 0 t) (iblk m c 1 t) (iblk m c 2 t) (iblk m c 3 t) (iblk m c 4 t) (iblk m c 5 t) (iblk m c 6 t) (ix2 r k)
      = (RX (arO m c) (arG m c) (arX m c) (arW m c)) (ix2 (row t r) k) := by
  refine (out10_at (iblk m c 0 t) (iblk m c 1 t) (iblk m c 2 t) (iblk m c 3 t) (iblk m c 4 t) (iblk m c 5 t) (iblk m c 6 t) r k).trans ?_
  rw [cen_eq]
  rfl
/-- The normalised rows. -/
theorem final_x (c : Dev nD) : (dats m 0 c).arrAt 10 (cfgs 0).N
    = (RX (arO m c) (arG m c) (arX m c) (arW m c)) := by
  have h := out_x m c
  generalize RX (arO m c) (arG m c) (arX m c) (arW m c) = X at h ⊢
  refine (dats m 0 c).arrAt_eq_of_covers 10 X (by decide +kernel) fun t hf y => ?_
  obtain ⟨r, k, rfl⟩ : ∃ (r : Fin 512) (k : Fin 1024), y = ix2 r k := ⟨y 0, y 1, eq_ix2 y⟩
  rw [after0_10]
  have h := h t r k
  generalize out0_10 (F := Ideal) (iblk m c 0 t) (iblk m c 1 t) (iblk m c 2 t) (iblk m c 3 t) (iblk m c 4 t) (iblk m c 5 t) (iblk m c 6 t) = Z at h ⊢
  exact h.trans (put10 X t r k).symm
theorem out_d (c : Dev nD) (t : Fin cfg0.N) (r : Fin 512) (k : Fin 1) :
    out0_11 (F := Ideal) (iblk m c 0 t) (iblk m c 1 t) (iblk m c 2 t) (iblk m c 3 t) (iblk m c 4 t) (iblk m c 5 t) (iblk m c 6 t) (ix2 r k)
      = (RD (arO m c) (arG m c) (arX m c) (arW m c)) (ix2 (row t r) k) := by
  obtain rfl : k = 0 := Subsingleton.elim _ _
  refine (out11_at (iblk m c 0 t) (iblk m c 1 t) (iblk m c 2 t) (iblk m c 3 t) (iblk m c 4 t) (iblk m c 5 t) (iblk m c 6 t) r).trans ?_
  rw [cen_eq]
  rfl
/-- Their scale. -/
theorem final_d (c : Dev nD) : (dats m 0 c).arrAt 11 (cfgs 0).N
    = (RD (arO m c) (arG m c) (arX m c) (arW m c)) := by
  have h := out_d m c
  generalize RD (arO m c) (arG m c) (arX m c) (arW m c) = X at h ⊢
  refine (dats m 0 c).arrAt_eq_of_covers 11 X (by decide +kernel) fun t hf y => ?_
  obtain ⟨r, k, rfl⟩ : ∃ (r : Fin 512) (k : Fin 1), y = ix2 r k := ⟨y 0, y 1, eq_ix2 y⟩
  rw [after0_11]
  have h := h t r k
  generalize out0_11 (F := Ideal) (iblk m c 0 t) (iblk m c 1 t) (iblk m c 2 t) (iblk m c 3 t) (iblk m c 4 t) (iblk m c 5 t) (iblk m c 6 t) = Z at h ⊢
  exact h.trans (put11 X t r k).symm

end Cert.OutfKernelIdeal.Value

end
-- ==== Proof.OutfClaim.lean ====
/- The claims about the output layer. -/
module

public import proofs.«01_k».proof.Defs
public import proofs.«01_k».proof.Proof.Outf.Final
public import proofs.«01_k».proof.Proof.Gen.OutfKernel.Frame
public import proofs.«01_k».proof.Proof.Gen.OutfKernel
public import proofs.«01_k».proof.Proof.Gen.OutfKernelIdeal
public import proofs.«01_k».proof.Proof.Gen.OutfReferenceIdeal
public import Idealize.ShloMosaic.Lib.Claim

@[expose] public section

set_option maxRecDepth 16384

noncomputable section

open Idealize.ShloMosaic Idealize.ShloMosaic.TcCoe Idealize.SL.Sem

namespace Cert.Proof

theorem outf_frame : Cert.quiescent_OutfKernel := fun m ρ _ => Cert.OutfKernel.Gen.frame m ρ

theorem outf_frame_ideal : Cert.quiescent_OutfKernelIdeal := fun m ρ _ => Cert.OutfKernelIdeal.Gen.frame m ρ

theorem outf_frame_reference : Cert.quiescent_OutfReferenceIdeal := fun m g _ =>
  (θ_run Cert.OutfReferenceIdeal.defs _ _).mono (fun r h => ⟨fun c => (h c).2.2.2.2.2, sem_eq_zero_of_no_sems (by decide) r.2⟩)
    (Cert.OutfReferenceIdeal.Value.run m g)

set_option maxHeartbeats 4000000 in
theorem outf_algebraic : Cert.algebraic_OutfKernelIdeal_OutfReferenceIdeal := by
  pair_intro
  · run_from Cert.OutfKernelIdeal.Gen.run_main m g & Cert.OutfKernelIdeal.Gen.frame m g
  · run_from Cert.OutfReferenceIdeal.Value.run m' g'
    · rw [Cert.OutfReferenceIdeal.Value.res_n, (hagree c).1, (hagree c).2.1, (hagree c).2.2.1, (hagree c).2.2.2.1, (hagree c).2.2.2.2.1, (hagree c).2.2.2.2.2]
      exact (Cert.OutfReferenceIdeal.Value.ref_n _ _ _ _ _ _).trans (Cert.OutfKernelIdeal.Value.final_n m c).symm
    · rw [Cert.OutfReferenceIdeal.Value.res_b, (hagree c).1, (hagree c).2.1, (hagree c).2.2.1, (hagree c).2.2.2.1, (hagree c).2.2.2.2.1, (hagree c).2.2.2.2.2]
      exact (Cert.OutfReferenceIdeal.Value.ref_b _ _ _ _ _ _).trans (Cert.OutfKernelIdeal.Value.final_b m c).symm
    · exact (Cert.OutfReferenceIdeal.Value.ref_z _ _).trans (Cert.OutfKernelIdeal.Value.final_z m c).symm
    · rw [Cert.OutfReferenceIdeal.Value.res_x, (hagree c).1, (hagree c).2.1, (hagree c).2.2.1, (hagree c).2.2.2.1]
      exact (Cert.OutfReferenceIdeal.Value.ref_x _ _ _ _).trans (Cert.OutfKernelIdeal.Value.final_x m c).symm
    · exact (Cert.OutfReferenceIdeal.Value.ref_d _ _ _ _).trans (Cert.OutfKernelIdeal.Value.final_d m c).symm

end Cert.Proof

end
-- ==== Proof.Ropef.Pay.lean ====
/- The rotary embedding: the values the kernel stores, entry by entry. -/
module

public import proofs.«01_k».proof.Proof.Gen.RopefKernelIdeal.Value
public import proofs.«01_k».proof.Proof.Rope.Pay
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.RopefKernelIdeal.Value

open Cert.RopefKernelIdeal Cert.RopefKernelIdeal.Gen
open Cert.RopeKernelIdeal.Value (turn turn_of sub lan)

theorem pay3_at (x : FVec Ideal S512x128 .f32) (i) : k0_pay3 (F := Ideal) x i = x i := by pointwise [k0_pay3]
theorem pay4_at (x : FVec Ideal S512x128 .f32) (i) : k0_pay4 (F := Ideal) x i = x i := by pointwise [k0_pay4]
theorem pay2_at (x : FVec Ideal S512x128 .f32) (i) : k0_pay2 (F := Ideal) x i = x i := by pointwise [k0_pay2]
theorem pay1_at (v1 v3 x : FVec Ideal S512x128 .f32) (r : Fin 512) (l : Fin 128) :
    k0_pay1 (F := Ideal) (k0_pay3 v1) (k0_pay4 v3) (k0_pay24 x) (iota .tc S512x128 32 [1] iota_S512x128_d1_w32) 64#32 0#32 (ix2 r l)
      = turn (fun l => x (ix2 r l)) (v1 (ix2 r l)) (v3 (ix2 r l)) l := by
  pointwise [k0_pay1, k0_pay3, k0_pay4, k0_pay24]
  exact turn_of (fun l => x (ix2 r l)) _ _ l
theorem pay5_at (v1 v3 x : FVec Ideal S512x128 .f32) (r : Fin 512) (l : Fin 128) :
    k0_pay5 (F := Ideal) v1 v3 x (ix2 r l) = turn (fun l => x (ix2 r l)) (v1 (ix2 r l)) (v3 (ix2 r l)) l := by
  pointwise [k0_pay5, k0_pay3, k0_pay4]
  exact turn_of (fun l => x (ix2 r l)) _ _ l
theorem pay7_at (v1 v3 x : FVec Ideal S512x128 .f32) (r : Fin 512) (l : Fin 128) :
    k0_pay7 (F := Ideal) (k0_pay3 v1) (k0_pay4 v3) (k0_pay6 x) (iota .tc S512x128 32 [1] iota_S512x128_d1_w32) 64#32 (Scalar.cmpi .eq 64#32 0#32) (ix2 r l)
      = turn (fun l => x (ix2 r l)) (v1 (ix2 r l)) (v3 (ix2 r l)) l := by
  pointwise [k0_pay7, k0_pay3, k0_pay4, k0_pay6]
  exact turn_of (fun l => x (ix2 r l)) _ _ l
theorem pay12_at (v1 v3 x : FVec Ideal S512x128 .f32) (r : Fin 512) (l : Fin 128) :
    k0_pay12 (F := Ideal) (k0_pay3 v1) (k0_pay4 v3) (k0_pay8 x) k0_pay9 k0_pay10 k0_pay11 (ix2 r l) = turn (fun l => x (ix2 r l)) (v1 (ix2 r l)) (v3 (ix2 r l)) l := by
  pointwise [k0_pay12, k0_pay9, k0_pay10, k0_pay11, k0_pay3, k0_pay4, k0_pay8]
  exact turn_of (fun l => x (ix2 r l)) _ _ l
theorem pay13_at (v1 v3 x : FVec Ideal S512x128 .f32) (r : Fin 512) (l : Fin 128) :
    k0_pay13 (F := Ideal) (k0_pay3 v1) (k0_pay4 v3) x (ix2 r l) = turn (fun l => x (ix2 r l)) (v1 (ix2 r l)) (v3 (ix2 r l)) l := by
  pointwise [k0_pay13, k0_pay3, k0_pay4]
  exact turn_of (fun l => x (ix2 r l)) _ _ l
theorem pay14_at (v1 v3 x : FVec Ideal S512x128 .f32) (r : Fin 512) (l : Fin 128) :
    k0_pay14 (F := Ideal) (k0_pay3 v1) (k0_pay4 v3) x (ix2 r l) = turn (fun l => x (ix2 r l)) (v1 (ix2 r l)) (v3 (ix2 r l)) l := by
  pointwise [k0_pay14, k0_pay3, k0_pay4]
  exact turn_of (fun l => x (ix2 r l)) _ _ l
theorem pay18_at (v1 v3 x : FVec Ideal S512x128 .f32) (r : Fin 512) (l : Fin 128) :
    k0_pay18 (F := Ideal) (k0_pay3 v1) (k0_pay4 v3) (k0_pay15 x) (Scalar.select (Scalar.cmpi .eq 64#32 0#32) 1#32 64#32) k0_pay16 k0_pay17 0#32 (ix2 r l)
      = turn (fun l => x (ix2 r l)) (v1 (ix2 r l)) (v3 (ix2 r l)) l := by
  pointwise [k0_pay18, k0_pay15, k0_pay16, k0_pay17, k0_pay3, k0_pay4]
  exact turn_of (fun l => x (ix2 r l)) _ _ l
theorem pay22_at (v1 v3 x : FVec Ideal S512x128 .f32) (r : Fin 512) (l : Fin 128) :
    k0_pay22 (F := Ideal) (k0_pay3 v1) (k0_pay4 v3) (k0_pay19 x) k0_pay20 (k0_pay21 x) 32#32 (ix2 r l) = turn (fun l => x (ix2 r l)) (v1 (ix2 r l)) (v3 (ix2 r l)) l := by
  pointwise [k0_pay22, k0_pay19, k0_pay20, k0_pay21, k0_pay3, k0_pay4]
  exact turn_of (fun l => x (ix2 r l)) _ _ l
theorem pay23_at (v1 v3 x : FVec Ideal S512x128 .f32) (r : Fin 512) (l : Fin 128) :
    k0_pay23 (F := Ideal) (k0_pay3 v1) (k0_pay4 v3) x (ix2 r l) = turn (fun l => x (ix2 r l)) (v1 (ix2 r l)) (v3 (ix2 r l)) l := by
  pointwise [k0_pay23, k0_pay3, k0_pay4]
  exact turn_of (fun l => x (ix2 r l)) _ _ l

/-- A tile of 128 lanes of the wide block. -/
def cut (p : Fin 8) (x : FVec Ideal S512x1024 .f32) (r : Fin 512) (l : Fin 128) : EReal := x (ix2 r ⟨128 * p.val + l.val, by omega⟩)

/-- Eight tiles side by side, at a row and a column. -/
theorem eight_tiles {w0 w1 w2 w3 w4 w5 w6 w7 : S512x128.Idx → Elt Ideal .bf16} (b0 b1 b2 b3 b4 b5 b6 b7)
    (r : Fin 512) (k : Fin 1024) (T : EReal) (p0 : sub k = 0 → w0 (ix2 r (lan k)) = T) (p1 : sub k = 1 → w1 (ix2 r (lan k)) = T) (p2 : sub k = 2 → w2 (ix2 r (lan k)) = T) (p3 : sub k = 3 → w3 (ix2 r (lan k)) = T) (p4 : sub k = 4 → w4 (ix2 r (lan k)) = T) (p5 : sub k = 5 → w5 (ix2 r (lan k)) = T) (p6 : sub k = 6 → w6 (ix2 r (lan k)) = T) (p7 : sub k = 7 → w7 (ix2 r (lan k)) = T) :
    View.canon (Val := Elt Ideal) (s := S512x1024) [⟨Rect.unit ![0, 896] S512x128.size b7, w7⟩, ⟨Rect.unit ![0, 768] S512x128.size b6, w6⟩, ⟨Rect.unit ![0, 640] S512x128.size b5, w5⟩, ⟨Rect.unit ![0, 512] S512x128.size b4, w4⟩, ⟨Rect.unit ![0, 384] S512x128.size b3, w3⟩, ⟨Rect.unit ![0, 256] S512x128.size b2, w2⟩, ⟨Rect.unit ![0, 128] S512x128.size b1, w1⟩, ⟨Rect.unit ![0, 0] S512x128.size b0, w0⟩] (ix2 r k) = T := by
  have fix : ∀ (n : Fin 8) (x : S512x128.Idx), (r : ℕ) = (x 0 : ℕ) → (k : ℕ) = 128 * n.val + (x 1 : ℕ) → x = ix2 r (lan k) ∧ sub k = n := by
    intro n x h0 h1
    have b : (x 1 : ℕ) < 128 := (x 1).isLt
    refine ⟨(eq_ix2 x).trans ?_, Fin.ext ?_⟩
    · rw [show x 0 = r from Fin.ext h0.symm, show x 1 = lan k from Fin.ext (by simp only [lan]; omega)]
    · simp only [sub]; omega
  canon_tiles x h using View.cover_of_tiledL (s := S512x1024) [⟨Rect.unit ![0, 896] S512x128.size b7, w7⟩, ⟨Rect.unit ![0, 768] S512x128.size b6, w6⟩, ⟨Rect.unit ![0, 640] S512x128.size b5, w5⟩, ⟨Rect.unit ![0, 512] S512x128.size b4, w4⟩, ⟨Rect.unit ![0, 384] S512x128.size b3, w3⟩, ⟨Rect.unit ![0, 256] S512x128.size b2, w2⟩, ⟨Rect.unit ![0, 128] S512x128.size b1, w1⟩, ⟨Rect.unit ![0, 0] S512x128.size b0, w0⟩] S512x128.size (by sl_kernel_rfl) _
  · obtain ⟨rfl, e⟩ := fix 7 x h0 h1
    exact p7 e
  · obtain ⟨rfl, e⟩ := fix 6 x h0 h1
    exact p6 e
  · obtain ⟨rfl, e⟩ := fix 5 x h0 h1
    exact p5 e
  · obtain ⟨rfl, e⟩ := fix 4 x h0 h1
    exact p4 e
  · obtain ⟨rfl, e⟩ := fix 3 x h0 h1
    exact p3 e
  · obtain ⟨rfl, e⟩ := fix 2 x h0 h1
    exact p2 e
  · obtain ⟨rfl, e⟩ := fix 1 x h0 h1
    exact p1 e
  · obtain ⟨rfl, e⟩ := fix 0 x h0 (h1.trans (by show (x 1 : ℕ) = 128 * 0 + (x 1 : ℕ); omega))
    exact p0 e

/-- A read of 128 columns. -/
theorem load_cols {B o : ℕ} (X : (⟨2, ![512, B]⟩ : Shape).Idx → Elt Ideal .f32) (inb) (r : Fin 512) (l : Fin 128) (h : o + l.val < B) :
    View.ld (Val := Elt Ideal) X (Rect.unit (s := ⟨2, ![512, B]⟩) ![0, o] ![512, 128] inb) (ix2 r l) = X (ix2 r ⟨o + l.val, h⟩) := by
  refine congrArg X (funext fun a => Fin.ext ?_)
  fin_cases a
  · show 0 + 1 * r.val = r.val
    omega
  · show o + 1 * l.val = o + l.val
    omega

variable (m : (ℓ : Loc nD τ sig) → Buf (Elt Ideal) ℓ)

set_option maxHeartbeats 2000000 in
/-- The turned queries a point stores. -/
theorem out_q_at (c : Dev nD) (t : Fin cfg0.N) (r : Fin 512) (k : Fin 1024) :
    (outsAt0 m c t).1 (ix2 r k) = turn (cut (sub k) (X0_0 m c t) r) (iblk m c 2 t (ix2 r (lan k))) (iblk m c 3 t (ix2 r (lan k))) (lan k) := by
  unfold outsAt0
  dsimp only
  frame_out
  refine eight_tiles _ _ _ _ _ _ _ _ r k _ ?_ ?_ ?_ ?_ ?_ ?_ ?_ ?_ <;> intro e <;> rw [e]
  · exact (pay5_at _ _ _ r (lan k)).trans (congrArg (fun f => turn f _ _ _) (funext fun l => load_cols (X0_0 m c t) _ r l (by omega)))
  · exact (pay7_at _ _ _ r (lan k)).trans (congrArg (fun f => turn f _ _ _) (funext fun l => load_cols (X0_0 m c t) _ r l (by omega)))
  · exact (pay12_at _ _ _ r (lan k)).trans (congrArg (fun f => turn f _ _ _) (funext fun l => load_cols (X0_0 m c t) _ r l (by omega)))
  · exact (pay13_at _ _ _ r (lan k)).trans (congrArg (fun f => turn f _ _ _) (funext fun l => load_cols (X0_0 m c t) _ r l (by omega)))
  · exact (pay14_at _ _ _ r (lan k)).trans (congrArg (fun f => turn f _ _ _) (funext fun l => load_cols (X0_0 m c t) _ r l (by omega)))
  · exact (pay18_at _ _ _ r (lan k)).trans (congrArg (fun f => turn f _ _ _) (funext fun l => load_cols (X0_0 m c t) _ r l (by omega)))
  · exact (pay22_at _ _ _ r (lan k)).trans (congrArg (fun f => turn f _ _ _) (funext fun l => load_cols (X0_0 m c t) _ r l (by omega)))
  · exact (pay23_at _ _ _ r (lan k)).trans (congrArg (fun f => turn f _ _ _) (funext fun l => load_cols (X0_0 m c t) _ r l (by omega)))

/-- And the turned keys. -/
theorem out_k_at (c : Dev nD) (t : Fin cfg0.N) (r : Fin 512) (l : Fin 128) :
    (outsAt0 m c t).2.1 (ix2 r l) = turn (fun l : Fin 128 => iblk m c 1 t (ix2 r ⟨0 + l.val, by omega⟩)) (iblk m c 2 t (ix2 r l)) (iblk m c 3 t (ix2 r l)) l := by
  unfold outsAt0
  dsimp only
  frame_out
  exact (pay1_at _ _ _ r l).trans (congrArg (fun f => turn f _ _ _) (funext fun l => load_cols (iblk m c 1 t) _ r l (by omega)))
/-- And the values. -/
theorem out_v_at (c : Dev nD) (t : Fin cfg0.N) (r : Fin 512) (l : Fin 128) :
    (outsAt0 m c t).2.2 (ix2 r l) = iblk m c 1 t (ix2 r ⟨128 + l.val, by omega⟩) := by
  unfold outsAt0
  dsimp only
  frame_out
  exact (pay2_at _ _).trans (load_cols (iblk m c 1 t) _ r l (by omega))

end Cert.RopefKernelIdeal.Value
-- ==== Proof.Ropef.Ref.lean ====
/- The rotary embedding of the reference, entry by entry. -/
module

public import proofs.«01_k».proof.Proof.Gen.RopefReferenceIdeal.Run
public import proofs.«01_k».proof.Proof.Rope.Final
public import Idealize.ShloMosaic.Lib.Pointwise

@[expose] public section

set_option maxRecDepth 16384

noncomputable section

open Idealize.ShloMosaic Idealize.ShloMosaic.TcCoe Idealize.SL.Sem

namespace Cert.RopefReferenceIdeal.Value

open Cert.RopefReferenceIdeal Cert.RopefReferenceIdeal.Gen
open Cert.RopeReferenceIdeal.Value (low flip headQ colQ headK colK)

/-- The angle of a position in a column. -/
def angT : FVec Ideal S4096x32 .f32 :=
  mulf (broadcastInDim S4096x32 ![0, 1] bcast_S4096x1_S4096x32_0_1 (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.divf (Host.negf (addf (broadcastInDim S32 ![] bcast_S_S32 (constant S_ .f32 0x00000000#32))
          (mulf (broadcastInDim S32 ![] bcast_S_S32 (constant S_ .f32 0x40000000#32)) (sitofp .f32 (iotaInDim S32 32 0)))))
          (broadcastInDim S32 ![] bcast_S_S32 (constant S_ .f32 0x42800000#32))))))
@[irreducible] def cosT : FVec Ideal S4096x32 .f32 := Host.cos angT
@[irreducible] def sinT : FVec Ideal S4096x32 .f32 := Host.sin angT

/-- One head's row turned. -/
def ROT (f : Fin 64 → EReal) (i : Fin 4096) (x : Fin 64) : EReal :=
  f x * cosT (ix2 i (low x)) + (if x.val < 32 then -f (flip x) else f (flip x)) * sinT (ix2 i (low x))

/-- The features of a query's, a key's and a value's column. -/
def inQ (a : FVec Ideal S1x4096x2304 .f32) (h : Fin 16) (i : Fin 4096) (x : Fin 64) : EReal := a (ix3 0 i ⟨64 * h.val + x.val, by omega⟩)
def inK (a : FVec Ideal S1x4096x2304 .f32) (h : Fin 2) (i : Fin 4096) (x : Fin 64) : EReal := a (ix3 0 i ⟨1024 + (64 * h.val + x.val), by omega⟩)

def RQ (a : FVec Ideal S1x4096x2304 .f32) : FVec Ideal S4096x1024 .bf16 := fun y => ROT (inQ a (headQ (y 1)) (y 0)) (y 0) (colQ (y 1))
def RK (a : FVec Ideal S1x4096x2304 .f32) : FVec Ideal S4096x128 .bf16 := fun y => ROT (inK a (headK (y 1)) (y 0)) (y 0) (colK (y 1))
def RV (a : FVec Ideal S1x4096x2304 .f32) : FVec Ideal S4096x128 .bf16 := fun y => a (ix3 0 (y 0) ⟨1152 + (y 1).val, by have h : (y 1).val < 128 := (y 1).isLt; omega⟩)

def catQ (a : FVec Ideal S1x4096x2304 .f32) : FVec Ideal S1x16x4096x64 .f32 :=
  transpose S1x16x4096x64 [0, 2, 1, 3] (shapeCast S1x4096x16x64 (extractStridedSlice S1x4096x1024 ![0, 0, 0] a slices_S1x4096x2304_S1x4096x1024_0_0_0)
    shapeCasts_S1x4096x1024_S1x4096x16x64) transposes_S1x4096x16x64_S1x16x4096x64_0_2_1_3
def catK (a : FVec Ideal S1x4096x2304 .f32) : FVec Ideal S1x2x4096x64 .f32 :=
  transpose S1x2x4096x64 [0, 2, 1, 3] (shapeCast S1x4096x2x64 (extractStridedSlice S1x4096x128 ![0, 0, 1024] a slices_S1x4096x2304_S1x4096x128_0_0_1024)
    shapeCasts_S1x4096x128_S1x4096x2x64) transposes_S1x4096x2x64_S1x2x4096x64_0_2_1_3
theorem catQ_at (a : FVec Ideal S1x4096x2304 .f32) (h : Fin 16) (i : Fin 4096) (x : Fin 64) : catQ a (ix4 0 h i x) = inQ a h i x := by
  unfold catQ inQ
  pointwise
  exact congrArg (fun l => a (ix3 0 i l)) (Fin.ext (by show h.val * 64 + x.val = 64 * h.val + x.val; omega))
theorem catK_at (a : FVec Ideal S1x4096x2304 .f32) (h : Fin 2) (i : Fin 4096) (x : Fin 64) : catK a (ix4 0 h i x) = inK a h i x := by
  unfold catK inK
  pointwise
  exact congrArg (fun l => a (ix3 0 i l)) (Fin.ext (by show 1024 + (h.val * 64 + x.val) = 1024 + (64 * h.val + x.val); omega))

/-- A table for every head. -/
def allQ (T : FVec Ideal S4096x32 .f32) : FVec Ideal S1x16x4096x32 .f32 :=
  broadcastInDim S1x16x4096x32 ![0, 1, 2, 3] bcast_S1x1x4096x32_S1x16x4096x32_0_1_2_3 (broadcastInDim S1x1x4096x32 ![2, 3] bcast_S4096x32_S1x1x4096x32_2_3 T)
def allK (T : FVec Ideal S4096x32 .f32) : FVec Ideal S1x2x4096x32 .f32 :=
  broadcastInDim S1x2x4096x32 ![0, 1, 2, 3] bcast_S1x1x4096x32_S1x2x4096x32_0_1_2_3 (broadcastInDim S1x1x4096x32 ![2, 3] bcast_S4096x32_S1x1x4096x32_2_3 T)
/-- The halves of each head. -/
def lowQ (a : FVec Ideal S1x16x4096x64 .f32) : FVec Ideal S1x16x4096x32 .f32 := extractStridedSlice S1x16x4096x32 ![0, 0, 0, 0] a slices_S1x16x4096x64_S1x16x4096x32_0_0_0_0
def highQ (a : FVec Ideal S1x16x4096x64 .f32) : FVec Ideal S1x16x4096x32 .f32 := extractStridedSlice S1x16x4096x32 ![0, 0, 0, 32] a slices_S1x16x4096x64_S1x16x4096x32_0_0_0_32
def lowK (a : FVec Ideal S1x2x4096x64 .f32) : FVec Ideal S1x2x4096x32 .f32 := extractStridedSlice S1x2x4096x32 ![0, 0, 0, 0] a slices_S1x2x4096x64_S1x2x4096x32_0_0_0_0
def highK (a : FVec Ideal S1x2x4096x64 .f32) : FVec Ideal S1x2x4096x32 .f32 := extractStridedSlice S1x2x4096x32 ![0, 0, 0, 32] a slices_S1x2x4096x64_S1x2x4096x32_0_0_0_32

/-- The turned queries, from tables of cosines and sines. -/
def termQ (a : FVec Ideal S1x16x4096x64 .f32) (C S : FVec Ideal S4096x32 .f32) : FVec Ideal S1x16x4096x64 .f32 :=
  concatenate S1x16x4096x64 3 [⟨S1x16x4096x32, subf (mulf (lowQ a) (allQ C)) (mulf (highQ a) (allQ S))⟩, ⟨S1x16x4096x32, addf (mulf (highQ a) (allQ C)) (mulf (lowQ a) (allQ S))⟩]
    concatenates_S1x16x4096x32_S1x16x4096x32_S1x16x4096x64_d3
/-- The same of the keys. -/
def termK (a : FVec Ideal S1x2x4096x64 .f32) (C S : FVec Ideal S4096x32 .f32) : FVec Ideal S1x2x4096x64 .f32 :=
  concatenate S1x2x4096x64 3 [⟨S1x2x4096x32, subf (mulf (lowK a) (allK C)) (mulf (highK a) (allK S))⟩, ⟨S1x2x4096x32, addf (mulf (highK a) (allK C)) (mulf (lowK a) (allK S))⟩]
    concatenates_S1x2x4096x32_S1x2x4096x32_S1x2x4096x64_d3
def packQ (X : FVec Ideal S1x16x4096x64 .f32) : FVec Ideal S4096x1024 .bf16 :=
  truncf .bf16 (shapeCast S4096x1024 (transpose S4096x8x2x64 [2, 1, 0, 3] (shapeCast S2x8x4096x64 X shapeCasts_S1x16x4096x64_S2x8x4096x64) transposes_S2x8x4096x64_S4096x8x2x64_2_1_0_3)
    shapeCasts_S4096x8x2x64_S4096x1024) bitsLt_bf16_f32
def packK (X : FVec Ideal S1x2x4096x64 .f32) : FVec Ideal S4096x128 .bf16 :=
  truncf .bf16 (shapeCast S4096x128 (transpose S4096x2x64 [1, 0, 2] (shapeCast S2x4096x64 X shapeCasts_S1x2x4096x64_S2x4096x64) transposes_S2x4096x64_S4096x2x64_1_0_2)
    shapeCasts_S4096x2x64_S4096x128) bitsLt_bf16_f32
def packV (a : FVec Ideal S1x4096x2304 .f32) : FVec Ideal S4096x128 .bf16 :=
  truncf .bf16 (shapeCast S4096x128 (extractStridedSlice S1x4096x128 ![0, 0, 1152] a slices_S1x4096x2304_S1x4096x128_0_0_1152) shapeCasts_S1x4096x128_S4096x128) bitsLt_bf16_f32

theorem termQ_at (a : FVec Ideal S1x16x4096x64 .f32) (C S : FVec Ideal S4096x32 .f32) (h : Fin 16) (i : Fin 4096) (x : Fin 64) :
    termQ a C S (ix4 0 h i x) = a (ix4 0 h i x) * C (ix2 i (low x)) + (if x.val < 32 then -a (ix4 0 h i (flip x)) else a (ix4 0 h i (flip x))) * S (ix2 i (low x)) := by
  unfold termQ lowQ highQ allQ low Cert.RopeReferenceIdeal.Value.flip
  pointwise
  by_cases c : x.val < 32
  · have e1 : (⟨x.val % 32, by omega⟩ : Fin 32) = ⟨x.val, c⟩ := Fin.ext (by simp only []; omega)
    have e2 : (⟨(x.val + 32) % 64, by omega⟩ : Fin 64) = ⟨32 + x.val, by omega⟩ := Fin.ext (by simp only []; omega)
    rw [dif_pos c, if_pos c, e1, e2, neg_mul, ← sub_eq_add_neg]
  · have e1 : (⟨x.val % 32, by omega⟩ : Fin 32) = ⟨x.val - 32, by omega⟩ := Fin.ext (by simp only []; omega)
    have e2 : (⟨(x.val + 32) % 64, by omega⟩ : Fin 64) = ⟨x.val - 32, by omega⟩ := Fin.ext (by simp only []; omega)
    have e3 : x = ⟨32 + (x.val - 32), by omega⟩ := Fin.ext (by simp only []; omega)
    rw [dif_neg c, if_neg c, e1, e2, ← e3]
theorem termK_at (a : FVec Ideal S1x2x4096x64 .f32) (C S : FVec Ideal S4096x32 .f32) (h : Fin 2) (i : Fin 4096) (x : Fin 64) :
    termK a C S (ix4 0 h i x) = a (ix4 0 h i x) * C (ix2 i (low x)) + (if x.val < 32 then -a (ix4 0 h i (flip x)) else a (ix4 0 h i (flip x))) * S (ix2 i (low x)) := by
  unfold termK lowK highK allK low Cert.RopeReferenceIdeal.Value.flip
  pointwise
  by_cases c : x.val < 32
  · have e1 : (⟨x.val % 32, by omega⟩ : Fin 32) = ⟨x.val, c⟩ := Fin.ext (by simp only []; omega)
    have e2 : (⟨(x.val + 32) % 64, by omega⟩ : Fin 64) = ⟨32 + x.val, by omega⟩ := Fin.ext (by simp only []; omega)
    rw [dif_pos c, if_pos c, e1, e2, neg_mul, ← sub_eq_add_neg]
  · have e1 : (⟨x.val % 32, by omega⟩ : Fin 32) = ⟨x.val - 32, by omega⟩ := Fin.ext (by simp only []; omega)
    have e2 : (⟨(x.val + 32) % 64, by omega⟩ : Fin 64) = ⟨x.val - 32, by omega⟩ := Fin.ext (by simp only []; omega)
    have e3 : x = ⟨32 + (x.val - 32), by omega⟩ := Fin.ext (by simp only []; omega)
    rw [dif_neg c, if_neg c, e1, e2, ← e3]
theorem packQ_at (X : FVec Ideal S1x16x4096x64 .f32) (i : Fin 4096) (k : Fin 1024) : packQ X (ix2 i k) = X (ix4 0 (headQ k) i (colQ k)) := by
  unfold packQ headQ colQ
  pointwise
theorem packK_at (X : FVec Ideal S1x2x4096x64 .f32) (i : Fin 4096) (k : Fin 128) : packK X (ix2 i k) = X (ix4 0 (headK k) i (colK k)) := by
  unfold packK headK colK
  pointwise
theorem packV_at (a : FVec Ideal S1x4096x2304 .f32) (i : Fin 4096) (k : Fin 128) : packV a (ix2 i k) = a (ix3 0 i ⟨1152 + k.val, by omega⟩) := by
  unfold packV
  pointwise

theorem res_q (m : (ℓ : Loc nD τ sig) → Buf (Elt Ideal) ℓ) (c : Dev nD) : res_main_v80 m c = packQ (termQ (catQ (m ((c.tc : Thread nD τ).loc main_arg0))) cosT sinT) := by
  unfold res_main_v80 packQ termQ lowQ highQ allQ catQ cosT sinT angT
  rfl
theorem res_k (m : (ℓ : Loc nD τ sig) → Buf (Elt Ideal) ℓ) (c : Dev nD) : res_main_v84 m c = packK (termK (catK (m ((c.tc : Thread nD τ).loc main_arg0))) cosT sinT) := by
  unfold res_main_v84 packK termK lowK highK allK catK cosT sinT angT
  rfl
/-- The queries the reference returns. -/
theorem ref_q (m : (ℓ : Loc nD τ sig) → Buf (Elt Ideal) ℓ) (c : Dev nD) : res_main_v80 m c = RQ (m ((c.tc : Thread nD τ).loc main_arg0)) := by
  rw [res_q]
  funext y
  obtain ⟨i, k, rfl⟩ : ∃ (i : Fin 4096) (k : Fin 1024), y = ix2 i k := ⟨y 0, y 1, eq_ix2 y⟩
  refine (packQ_at _ i k).trans ((termQ_at _ _ _ _ _ _).trans ?_)
  simp only [catQ_at]
  rfl
/-- And the keys. -/
theorem ref_k (m : (ℓ : Loc nD τ sig) → Buf (Elt Ideal) ℓ) (c : Dev nD) : res_main_v84 m c = RK (m ((c.tc : Thread nD τ).loc main_arg0)) := by
  rw [res_k]
  funext y
  obtain ⟨i, k, rfl⟩ : ∃ (i : Fin 4096) (k : Fin 128), y = ix2 i k := ⟨y 0, y 1, eq_ix2 y⟩
  refine (packK_at _ i k).trans ((termK_at _ _ _ _ _ _).trans ?_)
  simp only [catK_at]
  rfl
/-- And the values. -/
theorem ref_v (a : FVec Ideal S1x4096x2304 .f32) : packV a = RV a := by
  funext y
  obtain ⟨i, k, rfl⟩ : ∃ (i : Fin 4096) (k : Fin 128), y = ix2 i k := ⟨y 0, y 1, eq_ix2 y⟩
  exact packV_at _ i k

end Cert.RopefReferenceIdeal.Value
-- ==== Proof.Ropef.Final.lean ====
/- The rotary embedding: the arrays the kernel leaves. -/
module

public import proofs.«01_k».proof.Proof.Ropef.Pay
public import proofs.«01_k».proof.Proof.Ropef.Ref
public import Idealize.ShloMosaic.Lib.StableHlo.ReadAt

@[expose] public section

set_option maxRecDepth 16384

noncomputable section

open Idealize.ShloMosaic Idealize.ShloMosaic.TcCoe Idealize.SL.Sem

namespace Cert.RopefKernelIdeal.Value

open Cert.RopefKernelIdeal Cert.RopefKernelIdeal.Gen
open Cert.RopefReferenceIdeal.Value (cosT sinT angT ROT RQ RK RV inQ inK)
open Cert.RopeReferenceIdeal.Value (low flip headQ colQ headK colK)
open Cert.RopeKernelIdeal.Value (turn partner partner_val sub lan lowL lowL_of)

/-- The tables of two heads side by side. -/
def cosW (C : FVec Ideal S4096x32 .f32) : FVec Ideal S4096x128 .f32 :=
  concatenate S4096x128 1 [⟨S4096x32, C⟩, ⟨S4096x32, C⟩, ⟨S4096x32, C⟩, ⟨S4096x32, C⟩] concatenates_S4096x32_S4096x32_S4096x32_S4096x32_S4096x128_d1
def sinW (S : FVec Ideal S4096x32 .f32) : FVec Ideal S4096x128 .f32 :=
  concatenate S4096x128 1 [⟨S4096x32, Host.negf S⟩, ⟨S4096x32, S⟩, ⟨S4096x32, Host.negf S⟩, ⟨S4096x32, S⟩] concatenates_S4096x32_S4096x32_S4096x32_S4096x32_S4096x128_d1
/-- A group of 1024 columns, its heads taken alternately. -/
def alt (a : FVec Ideal S4096x1024 .f32) : FVec Ideal S4096x1024 .f32 :=
  shapeCast S4096x1024 (transpose S4096x8x2x64 [0, 2, 1, 3] (shapeCast S4096x2x8x64 a shapeCasts_S4096x1024_S4096x2x8x64) transposes_S4096x2x8x64_S4096x8x2x64_0_2_1_3)
    shapeCasts_S4096x8x2x64_S4096x1024
def gateC (a : FVec Ideal S1x4096x2304 .f32) : FVec Ideal S4096x1024 .f32 :=
  alt (extractStridedSlice S4096x1024 ![0, 1280] (shapeCast S4096x2304 a shapeCasts_S1x4096x2304_S4096x2304) slices_S4096x2304_S4096x1024_0_1280)
def queryC (a : FVec Ideal S1x4096x2304 .f32) : FVec Ideal S4096x1024 .f32 :=
  alt (extractStridedSlice S4096x1024 ![0, 0] (shapeCast S4096x2304 a shapeCasts_S1x4096x2304_S4096x2304) slices_S4096x2304_S4096x1024_0_0)
def restC (a : FVec Ideal S1x4096x2304 .f32) : FVec Ideal S4096x256 .f32 :=
  extractStridedSlice S4096x256 ![0, 1024] (shapeCast S4096x2304 a shapeCasts_S1x4096x2304_S4096x2304) slices_S4096x2304_S4096x256_0_1024
/-- The features in the kernel's order of columns. -/
def packed (a : FVec Ideal S1x4096x2304 .f32) : FVec Ideal S4096x2304 .f32 :=
  concatenate S4096x2304 1 [⟨S4096x1024, gateC a⟩, ⟨S4096x1024, queryC a⟩, ⟨S4096x256, restC a⟩] concatenates_S4096x1024_S4096x1024_S4096x256_S4096x2304_d1

theorem queryC_at (a : FVec Ideal S1x4096x2304 .f32) (i : Fin 4096) (k : Fin 1024) : queryC a (ix2 i k) = inQ a (headQ k) i (colQ k) := by
  unfold queryC alt inQ headQ colQ
  pointwise
  exact congrArg (fun l => a (ix3 0 i l)) (Fin.ext (by show k.val / 64 % 2 * 512 + k.val / 128 * 64 + k.val % 64 = 64 * (k.val / 64 % 2 * 8 + k.val / 128) + k.val % 64; omega))
theorem restC_at (a : FVec Ideal S1x4096x2304 .f32) (i : Fin 4096) (k : Fin 256) : restC a (ix2 i k) = a (ix3 0 i ⟨1024 + k.val, by omega⟩) := by
  unfold restC
  pointwise
theorem packed_q (a : FVec Ideal S1x4096x2304 .f32) (i : Fin 4096) (k : Fin 1024) :
    packed a (ix2 i ⟨1024 + k.val, by omega⟩) = inQ a (headQ k) i (colQ k) := by
  refine Eq.trans ?_ (queryC_at a i k)
  unfold packed
  generalize gateC a = G
  generalize queryC a = Q
  generalize restC a = R
  pointwise
theorem packed_r (a : FVec Ideal S1x4096x2304 .f32) (i : Fin 4096) (k : Fin 256) :
    packed a (ix2 i ⟨2048 + k.val, by omega⟩) = a (ix3 0 i ⟨1024 + k.val, by omega⟩) := by
  refine Eq.trans ?_ (restC_at a i k)
  unfold packed
  generalize gateC a = G
  generalize queryC a = Q
  generalize restC a = R
  pointwise
  rw [dif_neg (by omega), dif_neg (by omega)]
  exact congrArg (fun l => R (ix2 i l)) (Fin.ext (by simp only []; omega))

theorem cosW_at (C : FVec Ideal S4096x32 .f32) (i : Fin 4096) (l : Fin 128) : cosW C (ix2 i l) = C (ix2 i (lowL l)) := by
  unfold cosW
  pointwise
  split
  · rw [lowL_of l _ _ (by omega)]
  split
  · rw [lowL_of l _ _ (by omega)]
  split
  · rw [lowL_of l _ _ (by omega)]
  · rw [lowL_of l _ _ (by omega)]
theorem sinW_at (S : FVec Ideal S4096x32 .f32) (i : Fin 4096) (l : Fin 128) : sinW S (ix2 i l) = if l.val % 64 < 32 then -S (ix2 i (lowL l)) else S (ix2 i (lowL l)) := by
  unfold sinW
  pointwise
  split
  · rw [lowL_of l _ _ (by omega), if_pos (by omega)]
  split
  · rw [lowL_of l _ _ (by omega), if_neg (by omega)]
  split
  · rw [lowL_of l _ _ (by omega), if_pos (by omega)]
  · rw [lowL_of l _ _ (by omega), if_neg (by omega)]

variable (m : (ℓ : Loc nD τ sig) → Buf (Elt Ideal) ℓ)

theorem V_h (c : Dev nD) : V m c main_v10 = packed (m ((c.tc : Thread nD τ).loc main_arg0)) := by
  unfold V packed gateC queryC restC alt hostOps0
  after_reads_simp
  rfl
theorem V_cos (c : Dev nD) : V m c main_v53 = cosW cosT := by
  unfold V hostOps0
  after_reads_simp
  unfold cosW cosT angT
  rfl
theorem V_sin (c : Dev nD) : V m c main_v56 = sinW sinT := by
  unfold V hostOps0
  after_reads_simp
  unfold sinW sinT angT
  rfl

def row (t : Fin cfg0.N) (r : Fin 512) : Fin 4096 := ⟨512 * t.val + r.val, by have := t.isLt; have e : cfg0.N = 8 := N_0; omega⟩

theorem blk_q (c : Dev nD) (t : Fin cfg0.N) (r : Fin 512) (k : Fin 1024) :
    X0_0 m c t (ix2 r k) = inQ (m ((c.tc : Thread nD τ).loc main_arg0)) (headQ k) (row t r) (colQ k) := by
  have idx : ∀ t : Fin cfg0.N, win0_0.index t = ![t.val, 1] := (by decide +kernel : ∀ t : Fin grid0.N, _)
  refine Eq.trans ?_ (packed_q _ (row t r) k)
  refine Eq.trans ?_ (congrFun (V_h m c) _)
  unfold X0_0 Pipeline.Window.fill
  rw [dif_pos (moved0_0 t _)]
  unfold iblk row
  generalize V m c = V'
  blk_point [idx t]
theorem blk_r (c : Dev nD) (t : Fin cfg0.N) (r : Fin 512) (k : Fin 256) :
    iblk m c 1 t (ix2 r k) = m ((c.tc : Thread nD τ).loc main_arg0) (ix3 0 (row t r) ⟨1024 + k.val, by omega⟩) := by
  have idx : ∀ t : Fin cfg0.N, win0_1.index t = ![t.val, 8] := (by decide +kernel : ∀ t : Fin grid0.N, _)
  refine Eq.trans ?_ (packed_r _ (row t r) k)
  refine Eq.trans ?_ (congrFun (V_h m c) _)
  unfold iblk row
  generalize V m c = V'
  blk_point [idx t]
theorem blk_cos (c : Dev nD) (t : Fin cfg0.N) (r : Fin 512) (k : Fin 128) : iblk m c 2 t (ix2 r k) = cosT (ix2 (row t r) (lowL k)) := by
  have idx : ∀ t : Fin cfg0.N, win0_2.index t = ![t.val, 0] := (by decide +kernel : ∀ t : Fin grid0.N, _)
  refine Eq.trans ?_ (cosW_at _ (row t r) k)
  refine Eq.trans ?_ (congrFun (V_cos m c) _)
  unfold iblk row
  generalize V m c = V'
  blk_point [idx t]
theorem blk_sin (c : Dev nD) (t : Fin cfg0.N) (r : Fin 512) (k : Fin 128) :
    iblk m c 3 t (ix2 r k) = if k.val % 64 < 32 then -sinT (ix2 (row t r) (lowL k)) else sinT (ix2 (row t r) (lowL k)) := by
  have idx : ∀ t : Fin cfg0.N, win0_3.index t = ![t.val, 0] := (by decide +kernel : ∀ t : Fin grid0.N, _)
  refine Eq.trans ?_ (sinW_at _ (row t r) k)
  refine Eq.trans ?_ (congrFun (V_sin m c) _)
  unfold iblk row
  generalize V m c = V'
  blk_point [idx t]

/-- A tile's turned row is the head's, turned. -/
theorem turn_eq (f : Fin 128 → EReal) (g : Fin 64 → EReal) (i : Fin 4096) (l : Fin 128) (x : Fin 64) (hx : x.val = l.val % 64)
    (h0 : f l = g x) (h1 : f (partner l) = g (flip x)) :
    turn f (cosT (ix2 i (lowL l))) (if l.val % 64 < 32 then -sinT (ix2 i (lowL l)) else sinT (ix2 i (lowL l))) l = ROT g i x := by
  have e : lowL l = low x := Fin.ext (by simp only [lowL, low]; omega)
  unfold turn ROT
  rw [h0, h1, e, ← hx]
  split
  · rw [mul_neg, neg_mul]
  · rfl

theorem put4 (X : FVec Ideal S4096x1024 .bf16) (t : Fin cfg0.N) (r : Fin 512) (k : Fin 1024) :
    (show EReal from ((cfg0.win 4).blk t).view.read (Elt Ideal) X (ix2 r k)) = X (ix2 (row t r) k) := by
  have idx : ∀ t : Fin cfg0.N, win0_4.index t = ![t.val, 0] := (by decide +kernel : ∀ t : Fin grid0.N, _)
  unfold row
  blk_point [idx t]
theorem put5 (X : FVec Ideal S4096x128 .bf16) (t : Fin cfg0.N) (r : Fin 512) (k : Fin 128) :
    (show EReal from ((cfg0.win 5).blk t).view.read (Elt Ideal) X (ix2 r k)) = X (ix2 (row t r) k) := by
  have idx : ∀ t : Fin cfg0.N, win0_5.index t = ![t.val, 0] := (by decide +kernel : ∀ t : Fin grid0.N, _)
  unfold row
  blk_point [idx t]
theorem put6 (X : FVec Ideal S4096x128 .bf16) (t : Fin cfg0.N) (r : Fin 512) (k : Fin 128) :
    (show EReal from ((cfg0.win 6).blk t).view.read (Elt Ideal) X (ix2 r k)) = X (ix2 (row t r) k) := by
  have idx : ∀ t : Fin cfg0.N, win0_6.index t = ![t.val, 0] := (by decide +kernel : ∀ t : Fin grid0.N, _)
  unfold row
  blk_point [idx t]

theorem out_q (c : Dev nD) (t : Fin cfg0.N) (r : Fin 512) (k : Fin 1024) :
    (outsAt0 m c t).1 (ix2 r k) = RQ (m ((c.tc : Thread nD τ).loc main_arg0)) (ix2 (row t r) k) := by
  refine (out_q_at m c t r k).trans ?_
  rw [blk_cos, blk_sin]
  have hc : ∀ l : Fin 128, l.val / 64 = k.val % 128 / 64 → cut (sub k) (X0_0 m c t) r l
      = inQ (m ((c.tc : Thread nD τ).loc main_arg0)) (headQ k) (row t r) ⟨l.val % 64, by omega⟩ := by
    intro l e
    unfold cut
    refine (blk_q m c t r _).trans ?_
    have e1 : headQ ⟨128 * (sub k).val + l.val, by omega⟩ = headQ k := Fin.ext (by simp only [headQ, sub]; omega)
    have e2 : colQ ⟨128 * (sub k).val + l.val, by omega⟩ = ⟨l.val % 64, by omega⟩ := Fin.ext (by simp only [colQ, sub]; omega)
    rw [e1, e2]
  refine turn_eq _ (inQ (m ((c.tc : Thread nD τ).loc main_arg0)) (headQ k) (row t r)) (row t r) (lan k) (colQ k) (by simp only [colQ, lan]; omega) ?_ ?_
  · rw [hc _ (by simp only [lan])]
    exact congrArg _ (Fin.ext (by simp only [colQ, lan]; omega))
  · rw [hc _ (by rw [partner_val]; simp only [lan]; omega)]
    exact congrArg _ (Fin.ext (by simp only [partner_val, colQ, Cert.RopeReferenceIdeal.Value.flip, lan]; omega))

theorem out_k (c : Dev nD) (t : Fin cfg0.N) (r : Fin 512) (k : Fin 128) :
    (outsAt0 m c t).2.1 (ix2 r k) = RK (m ((c.tc : Thread nD τ).loc main_arg0)) (ix2 (row t r) k) := by
  refine (out_k_at m c t r k).trans ?_
  rw [blk_cos, blk_sin]
  have hc : ∀ l : Fin 128, l.val / 64 = k.val / 64 → iblk m c 1 t (ix2 r ⟨0 + l.val, by omega⟩)
      = inK (m ((c.tc : Thread nD τ).loc main_arg0)) (headK k) (row t r) ⟨l.val % 64, by omega⟩ := by
    intro l e
    refine (blk_r m c t r _).trans ?_
    unfold inK
    exact congrArg (fun z => m ((c.tc : Thread nD τ).loc main_arg0) (ix3 0 (row t r) z)) (Fin.ext (by simp only [headK]; omega))
  refine turn_eq _ (inK (m ((c.tc : Thread nD τ).loc main_arg0)) (headK k) (row t r)) (row t r) k (colK k) rfl ?_ ?_
  · exact hc k rfl
  · refine (hc (partner k) (by rw [partner_val]; omega)).trans ?_
    exact congrArg _ (Fin.ext (by simp only [partner_val, colK, Cert.RopeReferenceIdeal.Value.flip]; omega))

theorem out_v (c : Dev nD) (t : Fin cfg0.N) (r : Fin 512) (k : Fin 128) :
    (outsAt0 m c t).2.2 (ix2 r k) = RV (m ((c.tc : Thread nD τ).loc main_arg0)) (ix2 (row t r) k) := by
  refine (out_v_at m c t r k).trans ((blk_r m c t r _).trans ?_)
  exact congrArg (fun z => m ((c.tc : Thread nD τ).loc main_arg0) (ix3 0 (row t r) z)) (Fin.ext (by show 1024 + (128 + k.val) = 1152 + k.val; omega))

/-- The turned queries. -/
theorem final_q (c : Dev nD) : (dats m 0 c).arrAt 4 (cfgs 0).N = RQ (m ((c.tc : Thread nD τ).loc main_arg0)) := by
  refine (dats m 0 c).arrAt_eq_of_covers 4 _ (by decide +kernel) fun t hf y => ?_
  obtain ⟨r, k, rfl⟩ : ∃ (r : Fin 512) (k : Fin 1024), y = ix2 r k := ⟨y 0, y 1, eq_ix2 y⟩
  rw [after0_4]
  exact (out_q m c t r k).trans (put4 _ t r k).symm
/-- The turned keys. -/
theorem final_k (c : Dev nD) : (dats m 0 c).arrAt 5 (cfgs 0).N = RK (m ((c.tc : Thread nD τ).loc main_arg0)) := by
  refine (dats m 0 c).arrAt_eq_of_covers 5 _ (by decide +kernel) fun t hf y => ?_
  obtain ⟨r, k, rfl⟩ : ∃ (r : Fin 512) (k : Fin 128), y = ix2 r k := ⟨y 0, y 1, eq_ix2 y⟩
  rw [after0_5]
  exact (out_k m c t r k).trans (put5 _ t r k).symm
/-- The values. -/
theorem final_v (c : Dev nD) : (dats m 0 c).arrAt 6 (cfgs 0).N = RV (m ((c.tc : Thread nD τ).loc main_arg0)) := by
  refine (dats m 0 c).arrAt_eq_of_covers 6 _ (by decide +kernel) fun t hf y => ?_
  obtain ⟨r, k, rfl⟩ : ∃ (r : Fin 512) (k : Fin 128), y = ix2 r k := ⟨y 0, y 1, eq_ix2 y⟩
  rw [after0_6]
  exact (out_v m c t r k).trans (put6 _ t r k).symm

end Cert.RopefKernelIdeal.Value
-- ==== Proof.RopefClaim.lean ====
/- The claims about the rotary embedding. -/
module

public import proofs.«01_k».proof.Defs
public import proofs.«01_k».proof.Proof.Ropef.Final
public import proofs.«01_k».proof.Proof.Gen.RopefKernel.Frame
public import proofs.«01_k».proof.Proof.Gen.RopefKernel
public import proofs.«01_k».proof.Proof.Gen.RopefKernelIdeal
public import proofs.«01_k».proof.Proof.Gen.RopefReferenceIdeal
public import Idealize.ShloMosaic.Lib.Claim

@[expose] public section

set_option maxRecDepth 16384

noncomputable section

open Idealize.ShloMosaic Idealize.ShloMosaic.TcCoe Idealize.SL.Sem

namespace Cert.Proof

theorem ropef_frame : Cert.quiescent_RopefKernel := fun m ρ _ => Cert.RopefKernel.Gen.frame m ρ

theorem ropef_frame_ideal : Cert.quiescent_RopefKernelIdeal := fun m ρ _ => Cert.RopefKernelIdeal.Gen.frame m ρ

theorem ropef_frame_reference : Cert.quiescent_RopefReferenceIdeal := fun m g _ =>
  (θ_run Cert.RopefReferenceIdeal.defs _ _).mono (fun r h => ⟨fun c => (h c).2.2.2, sem_eq_zero_of_no_sems (by decide) r.2⟩)
    (Cert.RopefReferenceIdeal.Value.run m g)

set_option maxHeartbeats 4000000 in
theorem ropef_algebraic : Cert.algebraic_RopefKernelIdeal_RopefReferenceIdeal := by
  pair_intro
  · run_from Cert.RopefKernelIdeal.Gen.run_main m g & Cert.RopefKernelIdeal.Gen.frame m g
  · run_from Cert.RopefReferenceIdeal.Value.run m' g'
    · exact (Cert.RopefReferenceIdeal.Value.ref_q m' c).trans ((congrArg _ (hagree c)).trans (Cert.RopefKernelIdeal.Value.final_q m c).symm)
    · exact (Cert.RopefReferenceIdeal.Value.ref_k m' c).trans ((congrArg _ (hagree c)).trans (Cert.RopefKernelIdeal.Value.final_k m c).symm)
    · exact (Cert.RopefReferenceIdeal.Value.ref_v _).trans (Cert.RopefKernelIdeal.Value.final_v m c).symm

end Cert.Proof

end
-- ==== Proof.lean ====
module

public import proofs.«01_k».proof.Defs
public import proofs.«01_k».proof.Proof.LossClaim
public import proofs.«01_k».proof.Proof.FoxClaim
public import proofs.«01_k».proof.Proof.MlaClaim
public import proofs.«01_k».proof.Proof.RopeClaim
public import proofs.«01_k».proof.Proof.CumClaim
public import proofs.«01_k».proof.Proof.MlafClaim
public import proofs.«01_k».proof.Proof.FoxfClaim
public import proofs.«01_k».proof.Proof.OutClaim
public import proofs.«01_k».proof.Proof.MidClaim
public import proofs.«01_k».proof.Proof.CumfClaim
public import proofs.«01_k».proof.Proof.OutfClaim
public import proofs.«01_k».proof.Proof.RopefClaim

@[expose] public section

noncomputable section

namespace Cert.Proof

open Idealize.ShloMosaic Idealize.SL.Sem

theorem claim : Cert.Claim := ⟨Cert.LossKernel.Gen.facts, Cert.LossKernelIdeal.Gen.facts, Cert.LossReferenceIdeal.Gen.facts,
  Cert.FoxKernel.Gen.facts, Cert.FoxKernelIdeal.Gen.facts, Cert.FoxReferenceIdeal.Gen.facts,
  Cert.MlaKernel.Gen.facts, Cert.MlaKernelIdeal.Gen.facts, Cert.MlaReferenceIdeal.Gen.facts,
  Cert.RopeKernel.Gen.facts, Cert.RopeKernelIdeal.Gen.facts, Cert.RopeReferenceIdeal.Gen.facts,
  Cert.CumKernel.Gen.facts, Cert.CumKernelIdeal.Gen.facts, Cert.CumReferenceIdeal.Gen.facts,
  Cert.MlafKernel.Gen.facts, Cert.MlafKernelIdeal.Gen.facts, Cert.MlafReferenceIdeal.Gen.facts,
  Cert.FoxfKernel.Gen.facts, Cert.FoxfKernelIdeal.Gen.facts, Cert.FoxfReferenceIdeal.Gen.facts,
  Cert.OutKernel.Gen.facts, Cert.OutKernelIdeal.Gen.facts, Cert.OutReferenceIdeal.Gen.facts,
  Cert.MidKernel.Gen.facts, Cert.MidKernelIdeal.Gen.facts, Cert.MidReferenceIdeal.Gen.facts,
  Cert.CumfKernel.Gen.facts, Cert.CumfKernelIdeal.Gen.facts, Cert.CumfReferenceIdeal.Gen.facts,
  Cert.RopefKernel.Gen.facts, Cert.RopefKernelIdeal.Gen.facts, Cert.RopefReferenceIdeal.Gen.facts,
  Cert.OutfKernel.Gen.facts, Cert.OutfKernelIdeal.Gen.facts, Cert.OutfReferenceIdeal.Gen.facts,
  Cert.Pre_fox_finite.facts, Cert.Pre_mla_finite.facts, Cert.Pre_cum_finite.facts, Cert.Pre_mlaf_finite.facts, Cert.Pre_foxf_finite.facts, Cert.Pre_cumf_finite.facts,
  loss_frame, loss_frame_ideal, loss_frame_reference,
  fox_frame, fox_frame_ideal, fox_frame_finite, fox_frame_reference, fox_frame_reference_finite,
  mla_frame, mla_frame_ideal, mla_frame_finite, mla_frame_reference, mla_frame_reference_finite,
  rope_frame, rope_frame_ideal, rope_frame_reference,
  cum_frame, cum_frame_ideal, cum_frame_finite, cum_frame_reference, cum_frame_reference_finite,
  mlaf_frame, mlaf_frame_ideal, mlaf_frame_finite, mlaf_frame_reference, mlaf_frame_reference_finite,
  foxf_frame, foxf_frame_ideal, foxf_frame_finite, foxf_frame_reference, foxf_frame_reference_finite,
  out_frame, out_frame_ideal, out_frame_reference,
  mid_frame, mid_frame_ideal, mid_frame_reference,
  cumf_frame, cumf_frame_ideal, cumf_frame_finite, cumf_frame_reference, cumf_frame_reference_finite,
  ropef_frame, ropef_frame_ideal, ropef_frame_reference,
  outf_frame, outf_frame_ideal, outf_frame_reference,
  trivial, loss_algebraic, trivial, fox_algebraic, trivial, mla_algebraic, trivial, rope_algebraic, trivial, cum_algebraic, trivial, mlaf_algebraic, trivial, foxf_algebraic, trivial, trivial, trivial, cumf_algebraic, trivial, ropef_algebraic, trivial, outf_algebraic⟩

end Cert.Proof

end
